-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.2 = (fun _ => 1#1)

def Pre_ActReferenceIdeal (m : (ℓ : Loc Cert.ActReferenceIdeal.nD Cert.ActReferenceIdeal.τ Cert.ActReferenceIdeal.sig) → Buf (Elt Ideal) ℓ) : Prop :=
  True

def Pre_ActReferenceIdeal_act_finite [hPre_act_finite : Cert.Pre_act_finite.Facts] (m : (ℓ : Loc Cert.ActReferenceIdeal.nD Cert.ActReferenceIdeal.τ Cert.ActReferenceIdeal.sig) → Buf (Elt Ideal) ℓ) : Prop :=
  ∀ c : Dev Cert.ActReferenceIdeal.nD,
    (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).1 = (fun _ => 1#1)
    ∧ (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).2.1 = (fun _ => 1#1)
    ∧ (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).2.2.1 = (fun _ => 1#1)
    ∧ (Cert.Pre_act_finite.fn (F := Ideal) (m ((c.tc : Thread Cert.ActReferenceIdeal.nD Cert.ActReferenceIdeal.τ).loc Cert.ActReferenceIdeal.main_arg0)) (m ((c.tc : Thread Cert.ActReferenceIdeal.nD Cert.ActReferenceIdeal.τ).loc Cert.ActReferenceIdeal.main_arg1)) (m ((c.tc : Thread Cert.ActReferenceIdeal.nD Cert.ActReferenceIdeal.τ).loc Cert.ActReferenceIdeal.main_arg2)) (m ((c.tc : Thread Cert.ActReferenceIdeal.nD Cert.ActReferenceIdeal.τ).loc Cert.ActReferenceIdeal.main_arg3))).2.2.2 = (fun _ => 1#1)

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutReferenceIdeal (m : (ℓ : Loc Cert.WoutReferenceIdeal.nD Cert.WoutReferenceIdeal.τ Cert.WoutReferenceIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinReferenceIdeal (m : (ℓ : Loc Cert.WinReferenceIdeal.nD Cert.WinReferenceIdeal.τ Cert.WinReferenceIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhReferenceIdeal (m : (ℓ : Loc Cert.DhReferenceIdeal.nD Cert.DhReferenceIdeal.τ Cert.DhReferenceIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWReferenceIdeal (m : (ℓ : Loc Cert.OutWReferenceIdeal.nD Cert.OutWReferenceIdeal.τ Cert.OutWReferenceIdeal.sig) → Buf (Elt Ideal) ℓ) : Prop :=
  True

def Pre_OutD (m : (ℓ : Loc Cert.OutD.nD Cert.OutD.τ Cert.OutD.sig) → Buf (Elt Bits) ℓ) : Prop :=
  True

def Pre_OutDIdeal (m : (ℓ : Loc Cert.OutDIdeal.nD Cert.OutDIdeal.τ Cert.OutDIdeal.sig) → Buf (Elt Ideal) ℓ) : Prop :=
  True

def Pre_OutDReferenceIdeal (m : (ℓ : Loc Cert.OutDReferenceIdeal.nD Cert.OutDReferenceIdeal.τ Cert.OutDReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_ProjW (m : (ℓ : Loc Cert.ProjW.nD Cert.ProjW.τ Cert.ProjW.sig) → Buf (Elt Bits) ℓ) : Prop :=
  True

def Pre_ProjWIdeal (m : (ℓ : Loc Cert.ProjWIdeal.nD Cert.ProjWIdeal.τ Cert.ProjWIdeal.sig) → Buf (Elt Ideal) ℓ) : Prop :=
  True

def Pre_ProjWReferenceIdeal (m : (ℓ : Loc Cert.ProjWReferenceIdeal.nD Cert.ProjWReferenceIdeal.τ Cert.ProjWReferenceIdeal.sig) → Buf (Elt Ideal) ℓ) : Prop :=
  True

def Pre_ProjD (m : (ℓ : Loc Cert.ProjD.nD Cert.ProjD.τ Cert.ProjD.sig) → Buf (Elt Bits) ℓ) : Prop :=
  True

def Pre_ProjDIdeal (m : (ℓ : Loc Cert.ProjDIdeal.nD Cert.ProjDIdeal.τ Cert.ProjDIdeal.sig) → Buf (Elt Ideal) ℓ) : Prop :=
  True

def Pre_ProjDReferenceIdeal (m : (ℓ : Loc Cert.ProjDReferenceIdeal.nD Cert.ProjDReferenceIdeal.τ Cert.ProjDReferenceIdeal.sig) → Buf (Elt Ideal) ℓ) : Prop :=
  True

def Pre_ConvW (m : (ℓ : Loc Cert.ConvW.nD Cert.ConvW.τ Cert.ConvW.sig) → Buf (Elt Bits) ℓ) : Prop :=
  True

def Pre_ConvWIdeal (m : (ℓ : Loc Cert.ConvWIdeal.nD Cert.ConvWIdeal.τ Cert.ConvWIdeal.sig) → Buf (Elt Ideal) ℓ) : Prop :=
  True

def Pre_ConvWReferenceIdeal (m : (ℓ : Loc Cert.ConvWReferenceIdeal.nD Cert.ConvWReferenceIdeal.τ Cert.ConvWReferenceIdeal.sig) → Buf (Elt Ideal) ℓ) : Prop :=
  True

def Pre_ConvD (m : (ℓ : Loc Cert.ConvD.nD Cert.ConvD.τ Cert.ConvD.sig) → Buf (Elt Bits) ℓ) : Prop :=
  True

def Pre_ConvDIdeal (m : (ℓ : Loc Cert.ConvDIdeal.nD Cert.ConvDIdeal.τ Cert.ConvDIdeal.sig) → Buf (Elt Ideal) ℓ) : Prop :=
  True

def Pre_ConvDReferenceIdeal (m : (ℓ : Loc Cert.ConvDReferenceIdeal.nD Cert.ConvDReferenceIdeal.τ Cert.ConvDReferenceIdeal.sig) → Buf (Elt Ideal) ℓ) : Prop :=
  True

def Pre_Pw1 (m : (ℓ : Loc Cert.Pw1.nD Cert.Pw1.τ Cert.Pw1.sig) → Buf (Elt Bits) ℓ) : Prop :=
  True

def Pre_Pw1Ideal (m : (ℓ : Loc Cert.Pw1Ideal.nD Cert.Pw1Ideal.τ Cert.Pw1Ideal.sig) → Buf (Elt Ideal) ℓ) : Prop :=
  True

def Pre_Pw1ReferenceIdeal (m : (ℓ : Loc Cert.Pw1ReferenceIdeal.nD Cert.Pw1ReferenceIdeal.τ Cert.Pw1ReferenceIdeal.sig) → Buf (Elt Ideal) ℓ) : Prop :=
  True

def Pre_FfnPost (m : (ℓ : Loc Cert.FfnPost.nD Cert.FfnPost.τ Cert.FfnPost.sig) → Buf (Elt Bits) ℓ) : Prop :=
  True

def Pre_FfnPostIdeal (m : (ℓ : Loc Cert.FfnPostIdeal.nD Cert.FfnPostIdeal.τ Cert.FfnPostIdeal.sig) → Buf (Elt Ideal) ℓ) : Prop :=
  True

def Pre_FfnPostReferenceIdeal (m : (ℓ : Loc Cert.FfnPostReferenceIdeal.nD Cert.FfnPostReferenceIdeal.τ Cert.FfnPostReferenceIdeal.sig) → Buf (Elt Ideal) ℓ) : Prop :=
  True

def Pre_LastPost (m : (ℓ : Loc Cert.LastPost.nD Cert.LastPost.τ Cert.LastPost.sig) → Buf (Elt Bits) ℓ) : Prop :=
  True

def Pre_LastPostIdeal (m : (ℓ : Loc Cert.LastPostIdeal.nD Cert.LastPostIdeal.τ Cert.LastPostIdeal.sig) → Buf (Elt Ideal) ℓ) : Prop :=
  True

def Pre_LastPostReferenceIdeal (m : (ℓ : Loc Cert.LastPostReferenceIdeal.nD Cert.LastPostReferenceIdeal.τ Cert.LastPostReferenceIdeal.sig) → Buf (Elt Ideal) ℓ) : Prop :=
  True

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostReferenceIdeal (m : (ℓ : Loc Cert.GlaPostReferenceIdeal.nD Cert.GlaPostReferenceIdeal.τ Cert.GlaPostReferenceIdeal.sig) → Buf (Elt Ideal) ℓ) : Prop :=
  True

def Pre_ConvPost (m : (ℓ : Loc Cert.ConvPost.nD Cert.ConvPost.τ Cert.ConvPost.sig) → Buf (Elt Bits) ℓ) : Prop :=
  True

def Pre_ConvPostIdeal (m : (ℓ : Loc Cert.ConvPostIdeal.nD Cert.ConvPostIdeal.τ Cert.ConvPostIdeal.sig) → Buf (Elt Ideal) ℓ) : Prop :=
  True

def Pre_ConvPostReferenceIdeal (m : (ℓ : Loc Cert.ConvPostReferenceIdeal.nD Cert.ConvPostReferenceIdeal.τ Cert.ConvPostReferenceIdeal.sig) → Buf (Elt Ideal) ℓ) : Prop :=
  True

def Pre_GradX (m : (ℓ : Loc Cert.GradX.nD Cert.GradX.τ Cert.GradX.sig) → Buf (Elt Bits) ℓ) : Prop :=
  True

def Pre_GradXIdeal (m : (ℓ : Loc Cert.GradXIdeal.nD Cert.GradXIdeal.τ Cert.GradXIdeal.sig) → Buf (Elt Ideal) ℓ) : Prop :=
  True

def Pre_GradXReferenceIdeal (m : (ℓ : Loc Cert.GradXReferenceIdeal.nD Cert.GradXReferenceIdeal.τ Cert.GradXReferenceIdeal.sig) → Buf (Elt Ideal) ℓ) : Prop :=
  True

def Pre_PreNorm (m : (ℓ : Loc Cert.PreNorm.nD Cert.PreNorm.τ Cert.PreNorm.sig) → Buf (Elt Bits) ℓ) : Prop :=
  True

def Pre_PreNormIdeal (m : (ℓ : Loc Cert.PreNormIdeal.nD Cert.PreNormIdeal.τ Cert.PreNormIdeal.sig) → Buf (Elt Ideal) ℓ) : Prop :=
  True

def Pre_PreNormReferenceIdeal (m : (ℓ : Loc Cert.PreNormReferenceIdeal.nD Cert.PreNormReferenceIdeal.τ Cert.PreNormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActReferenceIdeal [hActReferenceIdeal : Cert.ActReferenceIdeal.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_ActReferenceIdeal_pre_act_finite [hActReferenceIdeal : Cert.ActReferenceIdeal.Facts] [hPre_act_finite : Cert.Pre_act_finite.Facts] : Prop :=
  ∀ (m : (ℓ : Loc Cert.ActReferenceIdeal.nD Cert.ActReferenceIdeal.τ Cert.ActReferenceIdeal.sig) → Buf (Elt Ideal) ℓ) (g : Dev Cert.ActReferenceIdeal.nD → PrngReg), Pre_ActReferenceIdeal_act_finite m →
    θ_run (Cert.ActReferenceIdeal.defs (F := Ideal)) (onTc (τ := Cert.ActReferenceIdeal.τ) (Cert.ActReferenceIdeal.main (F := Ideal))) ⟨m, fun _ => 0, g⟩ (fun r => (∀ c : Dev Cert.ActReferenceIdeal.nD,
      r.2.mem ((c.tc : Thread Cert.ActReferenceIdeal.nD Cert.ActReferenceIdeal.τ).loc Cert.ActReferenceIdeal.main_arg0) = m ((c.tc : Thread Cert.ActReferenceIdeal.nD Cert.ActReferenceIdeal.τ).loc Cert.ActReferenceIdeal.main_arg0)
      ∧ r.2.mem ((c.tc : Thread Cert.ActReferenceIdeal.nD Cert.ActReferenceIdeal.τ).loc Cert.ActReferenceIdeal.main_arg1) = m ((c.tc : Thread Cert.ActReferenceIdeal.nD Cert.ActReferenceIdeal.τ).loc Cert.ActReferenceIdeal.main_arg1)
      ∧ r.2.mem ((c.tc : Thread Cert.ActReferenceIdeal.nD Cert.ActReferenceIdeal.τ).loc Cert.ActReferenceIdeal.main_arg2) = m ((c.tc : Thread Cert.ActReferenceIdeal.nD Cert.ActReferenceIdeal.τ).loc Cert.ActReferenceIdeal.main_arg2)
      ∧ r.2.mem ((c.tc : Thread Cert.ActReferenceIdeal.nD Cert.ActReferenceIdeal.τ).loc Cert.ActReferenceIdeal.main_arg3) = m ((c.tc : Thread Cert.ActReferenceIdeal.nD Cert.ActReferenceIdeal.τ).loc Cert.ActReferenceIdeal.main_arg3))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutReferenceIdeal [hWoutReferenceIdeal : Cert.WoutReferenceIdeal.Facts] : Prop :=
  ∀ (m : (ℓ : Loc Cert.WoutReferenceIdeal.nD Cert.WoutReferenceIdeal.τ Cert.WoutReferenceIdeal.sig) → Buf (Elt Ideal) ℓ) (g : Dev Cert.WoutReferenceIdeal.nD → PrngReg), Pre_WoutReferenceIdeal m →
    θ_run (Cert.WoutReferenceIdeal.defs (F := Ideal)) (onTc (τ := Cert.WoutReferenceIdeal.τ) (Cert.WoutReferenceIdeal.main (F := Ideal))) ⟨m, fun _ => 0, g⟩ (fun r => (∀ c : Dev Cert.WoutReferenceIdeal.nD,
      r.2.mem ((c.tc : Thread Cert.WoutReferenceIdeal.nD Cert.WoutReferenceIdeal.τ).loc Cert.WoutReferenceIdeal.main_arg0) = m ((c.tc : Thread Cert.WoutReferenceIdeal.nD Cert.WoutReferenceIdeal.τ).loc Cert.WoutReferenceIdeal.main_arg0)
      ∧ r.2.mem ((c.tc : Thread Cert.WoutReferenceIdeal.nD Cert.WoutReferenceIdeal.τ).loc Cert.WoutReferenceIdeal.main_arg1) = m ((c.tc : Thread Cert.WoutReferenceIdeal.nD Cert.WoutReferenceIdeal.τ).loc Cert.WoutReferenceIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinReferenceIdeal [hWinReferenceIdeal : Cert.WinReferenceIdeal.Facts] : Prop :=
  ∀ (m : (ℓ : Loc Cert.WinReferenceIdeal.nD Cert.WinReferenceIdeal.τ Cert.WinReferenceIdeal.sig) → Buf (Elt Ideal) ℓ) (g : Dev Cert.WinReferenceIdeal.nD → PrngReg), Pre_WinReferenceIdeal m →
    θ_run (Cert.WinReferenceIdeal.defs (F := Ideal)) (onTc (τ := Cert.WinReferenceIdeal.τ) (Cert.WinReferenceIdeal.main (F := Ideal))) ⟨m, fun _ => 0, g⟩ (fun r => (∀ c : Dev Cert.WinReferenceIdeal.nD,
      r.2.mem ((c.tc : Thread Cert.WinReferenceIdeal.nD Cert.WinReferenceIdeal.τ).loc Cert.WinReferenceIdeal.main_arg0) = m ((c.tc : Thread Cert.WinReferenceIdeal.nD Cert.WinReferenceIdeal.τ).loc Cert.WinReferenceIdeal.main_arg0)
      ∧ r.2.mem ((c.tc : Thread Cert.WinReferenceIdeal.nD Cert.WinReferenceIdeal.τ).loc Cert.WinReferenceIdeal.main_arg1) = m ((c.tc : Thread Cert.WinReferenceIdeal.nD Cert.WinReferenceIdeal.τ).loc Cert.WinReferenceIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhReferenceIdeal [hDhReferenceIdeal : Cert.DhReferenceIdeal.Facts] : Prop :=
  ∀ (m : (ℓ : Loc Cert.DhReferenceIdeal.nD Cert.DhReferenceIdeal.τ Cert.DhReferenceIdeal.sig) → Buf (Elt Ideal) ℓ) (g : Dev Cert.DhReferenceIdeal.nD → PrngReg), Pre_DhReferenceIdeal m →
    θ_run (Cert.DhReferenceIdeal.defs (F := Ideal)) (onTc (τ := Cert.DhReferenceIdeal.τ) (Cert.DhReferenceIdeal.main (F := Ideal))) ⟨m, fun _ => 0, g⟩ (fun r => (∀ c : Dev Cert.DhReferenceIdeal.nD,
      r.2.mem ((c.tc : Thread Cert.DhReferenceIdeal.nD Cert.DhReferenceIdeal.τ).loc Cert.DhReferenceIdeal.main_arg0) = m ((c.tc : Thread Cert.DhReferenceIdeal.nD Cert.DhReferenceIdeal.τ).loc Cert.DhReferenceIdeal.main_arg0)
      ∧ r.2.mem ((c.tc : Thread Cert.DhReferenceIdeal.nD Cert.DhReferenceIdeal.τ).loc Cert.DhReferenceIdeal.main_arg1) = m ((c.tc : Thread Cert.DhReferenceIdeal.nD Cert.DhReferenceIdeal.τ).loc Cert.DhReferenceIdeal.main_arg1))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ r.2.sem = fun _ => 0)

def quiescent_OutWReferenceIdeal [hOutWReferenceIdeal : Cert.OutWReferenceIdeal.Facts] : Prop :=
  ∀ (m : (ℓ : Loc Cert.OutWReferenceIdeal.nD Cert.OutWReferenceIdeal.τ Cert.OutWReferenceIdeal.sig) → Buf (Elt Ideal) ℓ) (g : Dev Cert.OutWReferenceIdeal.nD → PrngReg), Pre_OutWReferenceIdeal m →
    θ_run (Cert.OutWReferenceIdeal.defs (F := Ideal)) (onTc (τ := Cert.OutWReferenceIdeal.τ) (Cert.OutWReferenceIdeal.main (F := Ideal))) ⟨m, fun _ => 0, g⟩ (fun r => (∀ c : Dev Cert.OutWReferenceIdeal.nD,
      r.2.mem ((c.tc : Thread Cert.OutWReferenceIdeal.nD Cert.OutWReferenceIdeal.τ).loc Cert.OutWReferenceIdeal.main_arg0) = m ((c.tc : Thread Cert.OutWReferenceIdeal.nD Cert.OutWReferenceIdeal.τ).loc Cert.OutWReferenceIdeal.main_arg0)
      ∧ r.2.mem ((c.tc : Thread Cert.OutWReferenceIdeal.nD Cert.OutWReferenceIdeal.τ).loc Cert.OutWReferenceIdeal.main_arg1) = m ((c.tc : Thread Cert.OutWReferenceIdeal.nD Cert.OutWReferenceIdeal.τ).loc Cert.OutWReferenceIdeal.main_arg1))
      ∧ r.2.sem = fun _ => 0)

def quiescent_OutD [hOutD : Cert.OutD.Facts] : Prop :=
  ∀ (m : (ℓ : Loc Cert.OutD.nD Cert.OutD.τ Cert.OutD.sig) → Buf (Elt Bits) ℓ) (g : Dev Cert.OutD.nD → PrngReg), Pre_OutD m →
    θ_run (Cert.OutD.defs (F := Bits)) (onTc (τ := Cert.OutD.τ) (Cert.OutD.main (F := Bits))) ⟨m, fun _ => 0, g⟩ (fun r => (∀ c : Dev Cert.OutD.nD,
      r.2.mem ((c.tc : Thread Cert.OutD.nD Cert.OutD.τ).loc Cert.OutD.main_arg0) = m ((c.tc : Thread Cert.OutD.nD Cert.OutD.τ).loc Cert.OutD.main_arg0)
      ∧ r.2.mem ((c.tc : Thread Cert.OutD.nD Cert.OutD.τ).loc Cert.OutD.main_arg1) = m ((c.tc : Thread Cert.OutD.nD Cert.OutD.τ).loc Cert.OutD.main_arg1))
      ∧ r.2.sem = fun _ => 0)

def quiescent_OutDIdeal [hOutDIdeal : Cert.OutDIdeal.Facts] : Prop :=
  ∀ (m : (ℓ : Loc Cert.OutDIdeal.nD Cert.OutDIdeal.τ Cert.OutDIdeal.sig) → Buf (Elt Ideal) ℓ) (g : Dev Cert.OutDIdeal.nD → PrngReg), Pre_OutDIdeal m →
    θ_run (Cert.OutDIdeal.defs (F := Ideal)) (onTc (τ := Cert.OutDIdeal.τ) (Cert.OutDIdeal.main (F := Ideal))) ⟨m, fun _ => 0, g⟩ (fun r => (∀ c : Dev Cert.OutDIdeal.nD,
      r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
      ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ r.2.sem = fun _ => 0)

def quiescent_OutDReferenceIdeal [hOutDReferenceIdeal : Cert.OutDReferenceIdeal.Facts] : Prop :=
  ∀ (m : (ℓ : Loc Cert.OutDReferenceIdeal.nD Cert.OutDReferenceIdeal.τ Cert.OutDReferenceIdeal.sig) → Buf (Elt Ideal) ℓ) (g : Dev Cert.OutDReferenceIdeal.nD → PrngReg), Pre_OutDReferenceIdeal m →
    θ_run (Cert.OutDReferenceIdeal.defs (F := Ideal)) (onTc (τ := Cert.OutDReferenceIdeal.τ) (Cert.OutDReferenceIdeal.main (F := Ideal))) ⟨m, fun _ => 0, g⟩ (fun r => (∀ c : Dev Cert.OutDReferenceIdeal.nD,
      r.2.mem ((c.tc : Thread Cert.OutDReferenceIdeal.nD Cert.OutDReferenceIdeal.τ).loc Cert.OutDReferenceIdeal.main_arg0) = m ((c.tc : Thread Cert.OutDReferenceIdeal.nD Cert.OutDReferenceIdeal.τ).loc Cert.OutDReferenceIdeal.main_arg0)
      ∧ r.2.mem ((c.tc : Thread Cert.OutDReferenceIdeal.nD Cert.OutDReferenceIdeal.τ).loc Cert.OutDReferenceIdeal.main_arg1) = m ((c.tc : Thread Cert.OutDReferenceIdeal.nD Cert.OutDReferenceIdeal.τ).loc Cert.OutDReferenceIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_ProjW [hProjW : Cert.ProjW.Facts] : Prop :=
  ∀ (m : (ℓ : Loc Cert.ProjW.nD Cert.ProjW.τ Cert.ProjW.sig) → Buf (Elt Bits) ℓ) (g : Dev Cert.ProjW.nD → PrngReg), Pre_ProjW m →
    θ_run (Cert.ProjW.defs (F := Bits)) (onTc (τ := Cert.ProjW.τ) (Cert.ProjW.main (F := Bits))) ⟨m, fun _ => 0, g⟩ (fun r => (∀ c : Dev Cert.ProjW.nD,
      r.2.mem ((c.tc : Thread Cert.ProjW.nD Cert.ProjW.τ).loc Cert.ProjW.main_arg0) = m ((c.tc : Thread Cert.ProjW.nD Cert.ProjW.τ).loc Cert.ProjW.main_arg0)
      ∧ r.2.mem ((c.tc : Thread Cert.ProjW.nD Cert.ProjW.τ).loc Cert.ProjW.main_arg1) = m ((c.tc : Thread Cert.ProjW.nD Cert.ProjW.τ).loc Cert.ProjW.main_arg1))
      ∧ r.2.sem = fun _ => 0)

def quiescent_ProjWIdeal [hProjWIdeal : Cert.ProjWIdeal.Facts] : Prop :=
  ∀ (m : (ℓ : Loc Cert.ProjWIdeal.nD Cert.ProjWIdeal.τ Cert.ProjWIdeal.sig) → Buf (Elt Ideal) ℓ) (g : Dev Cert.ProjWIdeal.nD → PrngReg), Pre_ProjWIdeal m →
    θ_run (Cert.ProjWIdeal.defs (F := Ideal)) (onTc (τ := Cert.ProjWIdeal.τ) (Cert.ProjWIdeal.main (F := Ideal))) ⟨m, fun _ => 0, g⟩ (fun r => (∀ c : Dev Cert.ProjWIdeal.nD,
      r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
      ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ r.2.sem = fun _ => 0)

def quiescent_ProjWReferenceIdeal [hProjWReferenceIdeal : Cert.ProjWReferenceIdeal.Facts] : Prop :=
  ∀ (m : (ℓ : Loc Cert.ProjWReferenceIdeal.nD Cert.ProjWReferenceIdeal.τ Cert.ProjWReferenceIdeal.sig) → Buf (Elt Ideal) ℓ) (g : Dev Cert.ProjWReferenceIdeal.nD → PrngReg), Pre_ProjWReferenceIdeal m →
    θ_run (Cert.ProjWReferenceIdeal.defs (F := Ideal)) (onTc (τ := Cert.ProjWReferenceIdeal.τ) (Cert.ProjWReferenceIdeal.main (F := Ideal))) ⟨m, fun _ => 0, g⟩ (fun r => (∀ c : Dev Cert.ProjWReferenceIdeal.nD,
      r.2.mem ((c.tc : Thread Cert.ProjWReferenceIdeal.nD Cert.ProjWReferenceIdeal.τ).loc Cert.ProjWReferenceIdeal.main_arg0) = m ((c.tc : Thread Cert.ProjWReferenceIdeal.nD Cert.ProjWReferenceIdeal.τ).loc Cert.ProjWReferenceIdeal.main_arg0)
      ∧ r.2.mem ((c.tc : Thread Cert.ProjWReferenceIdeal.nD Cert.ProjWReferenceIdeal.τ).loc Cert.ProjWReferenceIdeal.main_arg1) = m ((c.tc : Thread Cert.ProjWReferenceIdeal.nD Cert.ProjWReferenceIdeal.τ).loc Cert.ProjWReferenceIdeal.main_arg1))
      ∧ r.2.sem = fun _ => 0)

def quiescent_ProjD [hProjD : Cert.ProjD.Facts] : Prop :=
  ∀ (m : (ℓ : Loc Cert.ProjD.nD Cert.ProjD.τ Cert.ProjD.sig) → Buf (Elt Bits) ℓ) (g : Dev Cert.ProjD.nD → PrngReg), Pre_ProjD m →
    θ_run (Cert.ProjD.defs (F := Bits)) (onTc (τ := Cert.ProjD.τ) (Cert.ProjD.main (F := Bits))) ⟨m, fun _ => 0, g⟩ (fun r => (∀ c : Dev Cert.ProjD.nD,
      r.2.mem ((c.tc : Thread Cert.ProjD.nD Cert.ProjD.τ).loc Cert.ProjD.main_arg0) = m ((c.tc : Thread Cert.ProjD.nD Cert.ProjD.τ).loc Cert.ProjD.main_arg0)
      ∧ r.2.mem ((c.tc : Thread Cert.ProjD.nD Cert.ProjD.τ).loc Cert.ProjD.main_arg1) = m ((c.tc : Thread Cert.ProjD.nD Cert.ProjD.τ).loc Cert.ProjD.main_arg1))
      ∧ r.2.sem = fun _ => 0)

def quiescent_ProjDIdeal [hProjDIdeal : Cert.ProjDIdeal.Facts] : Prop :=
  ∀ (m : (ℓ : Loc Cert.ProjDIdeal.nD Cert.ProjDIdeal.τ Cert.ProjDIdeal.sig) → Buf (Elt Ideal) ℓ) (g : Dev Cert.ProjDIdeal.nD → PrngReg), Pre_ProjDIdeal m →
    θ_run (Cert.ProjDIdeal.defs (F := Ideal)) (onTc (τ := Cert.ProjDIdeal.τ) (Cert.ProjDIdeal.main (F := Ideal))) ⟨m, fun _ => 0, g⟩ (fun r => (∀ c : Dev Cert.ProjDIdeal.nD,
      r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
      ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ r.2.sem = fun _ => 0)

def quiescent_ProjDReferenceIdeal [hProjDReferenceIdeal : Cert.ProjDReferenceIdeal.Facts] : Prop :=
  ∀ (m : (ℓ : Loc Cert.ProjDReferenceIdeal.nD Cert.ProjDReferenceIdeal.τ Cert.ProjDReferenceIdeal.sig) → Buf (Elt Ideal) ℓ) (g : Dev Cert.ProjDReferenceIdeal.nD → PrngReg), Pre_ProjDReferenceIdeal m →
    θ_run (Cert.ProjDReferenceIdeal.defs (F := Ideal)) (onTc (τ := Cert.ProjDReferenceIdeal.τ) (Cert.ProjDReferenceIdeal.main (F := Ideal))) ⟨m, fun _ => 0, g⟩ (fun r => (∀ c : Dev Cert.ProjDReferenceIdeal.nD,
      r.2.mem ((c.tc : Thread Cert.ProjDReferenceIdeal.nD Cert.ProjDReferenceIdeal.τ).loc Cert.ProjDReferenceIdeal.main_arg0) = m ((c.tc : Thread Cert.ProjDReferenceIdeal.nD Cert.ProjDReferenceIdeal.τ).loc Cert.ProjDReferenceIdeal.main_arg0)
      ∧ r.2.mem ((c.tc : Thread Cert.ProjDReferenceIdeal.nD Cert.ProjDReferenceIdeal.τ).loc Cert.ProjDReferenceIdeal.main_arg1) = m ((c.tc : Thread Cert.ProjDReferenceIdeal.nD Cert.ProjDReferenceIdeal.τ).loc Cert.ProjDReferenceIdeal.main_arg1))
      ∧ r.2.sem = fun _ => 0)

def quiescent_ConvW [hConvW : Cert.ConvW.Facts] : Prop :=
  ∀ (m : (ℓ : Loc Cert.ConvW.nD Cert.ConvW.τ Cert.ConvW.sig) → Buf (Elt Bits) ℓ) (g : Dev Cert.ConvW.nD → PrngReg), Pre_ConvW m →
    θ_run (Cert.ConvW.defs (F := Bits)) (onTc (τ := Cert.ConvW.τ) (Cert.ConvW.main (F := Bits))) ⟨m, fun _ => 0, g⟩ (fun r => (∀ c : Dev Cert.ConvW.nD,
      r.2.mem ((c.tc : Thread Cert.ConvW.nD Cert.ConvW.τ).loc Cert.ConvW.main_arg0) = m ((c.tc : Thread Cert.ConvW.nD Cert.ConvW.τ).loc Cert.ConvW.main_arg0)
      ∧ r.2.mem ((c.tc : Thread Cert.ConvW.nD Cert.ConvW.τ).loc Cert.ConvW.main_arg1) = m ((c.tc : Thread Cert.ConvW.nD Cert.ConvW.τ).loc Cert.ConvW.main_arg1))
      ∧ r.2.sem = fun _ => 0)

def quiescent_ConvWIdeal [hConvWIdeal : Cert.ConvWIdeal.Facts] : Prop :=
  ∀ (m : (ℓ : Loc Cert.ConvWIdeal.nD Cert.ConvWIdeal.τ Cert.ConvWIdeal.sig) → Buf (Elt Ideal) ℓ) (g : Dev Cert.ConvWIdeal.nD → PrngReg), Pre_ConvWIdeal m →
    θ_run (Cert.ConvWIdeal.defs (F := Ideal)) (onTc (τ := Cert.ConvWIdeal.τ) (Cert.ConvWIdeal.main (F := Ideal))) ⟨m, fun _ => 0, g⟩ (fun r => (∀ c : Dev Cert.ConvWIdeal.nD,
      r.2.mem ((c.tc : Thread Cert.ConvWIdeal.nD Cert.ConvWIdeal.τ).loc Cert.ConvWIdeal.main_arg0) = m ((c.tc : Thread Cert.ConvWIdeal.nD Cert.ConvWIdeal.τ).loc Cert.ConvWIdeal.main_arg0)
      ∧ r.2.mem ((c.tc : Thread Cert.ConvWIdeal.nD Cert.ConvWIdeal.τ).loc Cert.ConvWIdeal.main_arg1) = m ((c.tc : Thread Cert.ConvWIdeal.nD Cert.ConvWIdeal.τ).loc Cert.ConvWIdeal.main_arg1))
      ∧ r.2.sem = fun _ => 0)

def quiescent_ConvWReferenceIdeal [hConvWReferenceIdeal : Cert.ConvWReferenceIdeal.Facts] : Prop :=
  ∀ (m : (ℓ : Loc Cert.ConvWReferenceIdeal.nD Cert.ConvWReferenceIdeal.τ Cert.ConvWReferenceIdeal.sig) → Buf (Elt Ideal) ℓ) (g : Dev Cert.ConvWReferenceIdeal.nD → PrngReg), Pre_ConvWReferenceIdeal m →
    θ_run (Cert.ConvWReferenceIdeal.defs (F := Ideal)) (onTc (τ := Cert.ConvWReferenceIdeal.τ) (Cert.ConvWReferenceIdeal.main (F := Ideal))) ⟨m, fun _ => 0, g⟩ (fun r => (∀ c : Dev Cert.ConvWReferenceIdeal.nD,
      r.2.mem ((c.tc : Thread Cert.ConvWReferenceIdeal.nD Cert.ConvWReferenceIdeal.τ).loc Cert.ConvWReferenceIdeal.main_arg0) = m ((c.tc : Thread Cert.ConvWReferenceIdeal.nD Cert.ConvWReferenceIdeal.τ).loc Cert.ConvWReferenceIdeal.main_arg0)
      ∧ r.2.mem ((c.tc : Thread Cert.ConvWReferenceIdeal.nD Cert.ConvWReferenceIdeal.τ).loc Cert.ConvWReferenceIdeal.main_arg1) = m ((c.tc : Thread Cert.ConvWReferenceIdeal.nD Cert.ConvWReferenceIdeal.τ).loc Cert.ConvWReferenceIdeal.main_arg1))
      ∧ r.2.sem = fun _ => 0)

def quiescent_ConvD [hConvD : Cert.ConvD.Facts] : Prop :=
  ∀ (m : (ℓ : Loc Cert.ConvD.nD Cert.ConvD.τ Cert.ConvD.sig) → Buf (Elt Bits) ℓ) (g : Dev Cert.ConvD.nD → PrngReg), Pre_ConvD m →
    θ_run (Cert.ConvD.defs (F := Bits)) (onTc (τ := Cert.ConvD.τ) (Cert.ConvD.main (F := Bits))) ⟨m, fun _ => 0, g⟩ (fun r => (∀ c : Dev Cert.ConvD.nD,
      r.2.mem ((c.tc : Thread Cert.ConvD.nD Cert.ConvD.τ).loc Cert.ConvD.main_arg0) = m ((c.tc : Thread Cert.ConvD.nD Cert.ConvD.τ).loc Cert.ConvD.main_arg0)
      ∧ r.2.mem ((c.tc : Thread Cert.ConvD.nD Cert.ConvD.τ).loc Cert.ConvD.main_arg1) = m ((c.tc : Thread Cert.ConvD.nD Cert.ConvD.τ).loc Cert.ConvD.main_arg1))
      ∧ r.2.sem = fun _ => 0)

def quiescent_ConvDIdeal [hConvDIdeal : Cert.ConvDIdeal.Facts] : Prop :=
  ∀ (m : (ℓ : Loc Cert.ConvDIdeal.nD Cert.ConvDIdeal.τ Cert.ConvDIdeal.sig) → Buf (Elt Ideal) ℓ) (g : Dev Cert.ConvDIdeal.nD → PrngReg), Pre_ConvDIdeal m →
    θ_run (Cert.ConvDIdeal.defs (F := Ideal)) (onTc (τ := Cert.ConvDIdeal.τ) (Cert.ConvDIdeal.main (F := Ideal))) ⟨m, fun _ => 0, g⟩ (fun r => (∀ c : Dev Cert.ConvDIdeal.nD,
      r.2.mem ((c.tc : Thread Cert.ConvDIdeal.nD Cert.ConvDIdeal.τ).loc Cert.ConvDIdeal.main_arg0) = m ((c.tc : Thread Cert.ConvDIdeal.nD Cert.ConvDIdeal.τ).loc Cert.ConvDIdeal.main_arg0)
      ∧ r.2.mem ((c.tc : Thread Cert.ConvDIdeal.nD Cert.ConvDIdeal.τ).loc Cert.ConvDIdeal.main_arg1) = m ((c.tc : Thread Cert.ConvDIdeal.nD Cert.ConvDIdeal.τ).loc Cert.ConvDIdeal.main_arg1))
      ∧ r.2.sem = fun _ => 0)

def quiescent_ConvDReferenceIdeal [hConvDReferenceIdeal : Cert.ConvDReferenceIdeal.Facts] : Prop :=
  ∀ (m : (ℓ : Loc Cert.ConvDReferenceIdeal.nD Cert.ConvDReferenceIdeal.τ Cert.ConvDReferenceIdeal.sig) → Buf (Elt Ideal) ℓ) (g : Dev Cert.ConvDReferenceIdeal.nD → PrngReg), Pre_ConvDReferenceIdeal m →
    θ_run (Cert.ConvDReferenceIdeal.defs (F := Ideal)) (onTc (τ := Cert.ConvDReferenceIdeal.τ) (Cert.ConvDReferenceIdeal.main (F := Ideal))) ⟨m, fun _ => 0, g⟩ (fun r => (∀ c : Dev Cert.ConvDReferenceIdeal.nD,
      r.2.mem ((c.tc : Thread Cert.ConvDReferenceIdeal.nD Cert.ConvDReferenceIdeal.τ).loc Cert.ConvDReferenceIdeal.main_arg0) = m ((c.tc : Thread Cert.ConvDReferenceIdeal.nD Cert.ConvDReferenceIdeal.τ).loc Cert.ConvDReferenceIdeal.main_arg0)
      ∧ r.2.mem ((c.tc : Thread Cert.ConvDReferenceIdeal.nD Cert.ConvDReferenceIdeal.τ).loc Cert.ConvDReferenceIdeal.main_arg1) = m ((c.tc : Thread Cert.ConvDReferenceIdeal.nD Cert.ConvDReferenceIdeal.τ).loc Cert.ConvDReferenceIdeal.main_arg1))
      ∧ r.2.sem = fun _ => 0)

def quiescent_Pw1 [hPw1 : Cert.Pw1.Facts] : Prop :=
  ∀ (m : (ℓ : Loc Cert.Pw1.nD Cert.Pw1.τ Cert.Pw1.sig) → Buf (Elt Bits) ℓ) (g : Dev Cert.Pw1.nD → PrngReg), Pre_Pw1 m →
    θ_run (Cert.Pw1.defs (F := Bits)) (onTc (τ := Cert.Pw1.τ) (Cert.Pw1.main (F := Bits))) ⟨m, fun _ => 0, g⟩ (fun r => (∀ c : Dev Cert.Pw1.nD,
      r.2.mem ((c.tc : Thread Cert.Pw1.nD Cert.Pw1.τ).loc Cert.Pw1.main_arg0) = m ((c.tc : Thread Cert.Pw1.nD Cert.Pw1.τ).loc Cert.Pw1.main_arg0)
      ∧ r.2.mem ((c.tc : Thread Cert.Pw1.nD Cert.Pw1.τ).loc Cert.Pw1.main_arg1) = m ((c.tc : Thread Cert.Pw1.nD Cert.Pw1.τ).loc Cert.Pw1.main_arg1)
      ∧ r.2.mem ((c.tc : Thread Cert.Pw1.nD Cert.Pw1.τ).loc Cert.Pw1.main_arg2) = m ((c.tc : Thread Cert.Pw1.nD Cert.Pw1.τ).loc Cert.Pw1.main_arg2))
      ∧ r.2.sem = fun _ => 0)

def quiescent_Pw1Ideal [hPw1Ideal : Cert.Pw1Ideal.Facts] : Prop :=
  ∀ (m : (ℓ : Loc Cert.Pw1Ideal.nD Cert.Pw1Ideal.τ Cert.Pw1Ideal.sig) → Buf (Elt Ideal) ℓ) (g : Dev Cert.Pw1Ideal.nD → PrngReg), Pre_Pw1Ideal m →
    θ_run (Cert.Pw1Ideal.defs (F := Ideal)) (onTc (τ := Cert.Pw1Ideal.τ) (Cert.Pw1Ideal.main (F := Ideal))) ⟨m, fun _ => 0, g⟩ (fun r => (∀ c : Dev Cert.Pw1Ideal.nD,
      r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
      ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
      ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ r.2.sem = fun _ => 0)

def quiescent_Pw1ReferenceIdeal [hPw1ReferenceIdeal : Cert.Pw1ReferenceIdeal.Facts] : Prop :=
  ∀ (m : (ℓ : Loc Cert.Pw1ReferenceIdeal.nD Cert.Pw1ReferenceIdeal.τ Cert.Pw1ReferenceIdeal.sig) → Buf (Elt Ideal) ℓ) (g : Dev Cert.Pw1ReferenceIdeal.nD → PrngReg), Pre_Pw1ReferenceIdeal m →
    θ_run (Cert.Pw1ReferenceIdeal.defs (F := Ideal)) (onTc (τ := Cert.Pw1ReferenceIdeal.τ) (Cert.Pw1ReferenceIdeal.main (F := Ideal))) ⟨m, fun _ => 0, g⟩ (fun r => (∀ c : Dev Cert.Pw1ReferenceIdeal.nD,
      r.2.mem ((c.tc : Thread Cert.Pw1ReferenceIdeal.nD Cert.Pw1ReferenceIdeal.τ).loc Cert.Pw1ReferenceIdeal.main_arg0) = m ((c.tc : Thread Cert.Pw1ReferenceIdeal.nD Cert.Pw1ReferenceIdeal.τ).loc Cert.Pw1ReferenceIdeal.main_arg0)
      ∧ r.2.mem ((c.tc : Thread Cert.Pw1ReferenceIdeal.nD Cert.Pw1ReferenceIdeal.τ).loc Cert.Pw1ReferenceIdeal.main_arg1) = m ((c.tc : Thread Cert.Pw1ReferenceIdeal.nD Cert.Pw1ReferenceIdeal.τ).loc Cert.Pw1ReferenceIdeal.main_arg1)
      ∧ r.2.mem ((c.tc : Thread Cert.Pw1ReferenceIdeal.nD Cert.Pw1ReferenceIdeal.τ).loc Cert.Pw1ReferenceIdeal.main_arg2) = m ((c.tc : Thread Cert.Pw1ReferenceIdeal.nD Cert.Pw1ReferenceIdeal.τ).loc Cert.Pw1ReferenceIdeal.main_arg2))
      ∧ r.2.sem = fun _ => 0)

def quiescent_FfnPost [hFfnPost : Cert.FfnPost.Facts] : Prop :=
  ∀ (m : (ℓ : Loc Cert.FfnPost.nD Cert.FfnPost.τ Cert.FfnPost.sig) → Buf (Elt Bits) ℓ) (g : Dev Cert.FfnPost.nD → PrngReg), Pre_FfnPost m →
    θ_run (Cert.FfnPost.defs (F := Bits)) (onTc (τ := Cert.FfnPost.τ) (Cert.FfnPost.main (F := Bits))) ⟨m, fun _ => 0, g⟩ (fun r => (∀ c : Dev Cert.FfnPost.nD,
      r.2.mem ((c.tc : Thread Cert.FfnPost.nD Cert.FfnPost.τ).loc Cert.FfnPost.main_arg0) = m ((c.tc : Thread Cert.FfnPost.nD Cert.FfnPost.τ).loc Cert.FfnPost.main_arg0)
      ∧ r.2.mem ((c.tc : Thread Cert.FfnPost.nD Cert.FfnPost.τ).loc Cert.FfnPost.main_arg1) = m ((c.tc : Thread Cert.FfnPost.nD Cert.FfnPost.τ).loc Cert.FfnPost.main_arg1)
      ∧ r.2.mem ((c.tc : Thread Cert.FfnPost.nD Cert.FfnPost.τ).loc Cert.FfnPost.main_arg2) = m ((c.tc : Thread Cert.FfnPost.nD Cert.FfnPost.τ).loc Cert.FfnPost.main_arg2)
      ∧ r.2.mem ((c.tc : Thread Cert.FfnPost.nD Cert.FfnPost.τ).loc Cert.FfnPost.main_arg3) = m ((c.tc : Thread Cert.FfnPost.nD Cert.FfnPost.τ).loc Cert.FfnPost.main_arg3)
      ∧ r.2.mem ((c.tc : Thread Cert.FfnPost.nD Cert.FfnPost.τ).loc Cert.FfnPost.main_arg4) = m ((c.tc : Thread Cert.FfnPost.nD Cert.FfnPost.τ).loc Cert.FfnPost.main_arg4)
      ∧ r.2.mem ((c.tc : Thread Cert.FfnPost.nD Cert.FfnPost.τ).loc Cert.FfnPost.main_arg5) = m ((c.tc : Thread Cert.FfnPost.nD Cert.FfnPost.τ).loc Cert.FfnPost.main_arg5)
      ∧ r.2.mem ((c.tc : Thread Cert.FfnPost.nD Cert.FfnPost.τ).loc Cert.FfnPost.main_arg6) = m ((c.tc : Thread Cert.FfnPost.nD Cert.FfnPost.τ).loc Cert.FfnPost.main_arg6)
      ∧ r.2.mem ((c.tc : Thread Cert.FfnPost.nD Cert.FfnPost.τ).loc Cert.FfnPost.main_arg7) = m ((c.tc : Thread Cert.FfnPost.nD Cert.FfnPost.τ).loc Cert.FfnPost.main_arg7))
      ∧ r.2.sem = fun _ => 0)

def quiescent_FfnPostIdeal [hFfnPostIdeal : Cert.FfnPostIdeal.Facts] : Prop :=
  ∀ (m : (ℓ : Loc Cert.FfnPostIdeal.nD Cert.FfnPostIdeal.τ Cert.FfnPostIdeal.sig) → Buf (Elt Ideal) ℓ) (g : Dev Cert.FfnPostIdeal.nD → PrngReg), Pre_FfnPostIdeal m →
    θ_run (Cert.FfnPostIdeal.defs (F := Ideal)) (onTc (τ := Cert.FfnPostIdeal.τ) (Cert.FfnPostIdeal.main (F := Ideal))) ⟨m, fun _ => 0, g⟩ (fun r => (∀ c : Dev Cert.FfnPostIdeal.nD,
      r.2.mem ((c.tc : Thread Cert.FfnPostIdeal.nD Cert.FfnPostIdeal.τ).loc Cert.FfnPostIdeal.main_arg0) = m ((c.tc : Thread Cert.FfnPostIdeal.nD Cert.FfnPostIdeal.τ).loc Cert.FfnPostIdeal.main_arg0)
      ∧ r.2.mem ((c.tc : Thread Cert.FfnPostIdeal.nD Cert.FfnPostIdeal.τ).loc Cert.FfnPostIdeal.main_arg1) = m ((c.tc : Thread Cert.FfnPostIdeal.nD Cert.FfnPostIdeal.τ).loc Cert.FfnPostIdeal.main_arg1)
      ∧ r.2.mem ((c.tc : Thread Cert.FfnPostIdeal.nD Cert.FfnPostIdeal.τ).loc Cert.FfnPostIdeal.main_arg2) = m ((c.tc : Thread Cert.FfnPostIdeal.nD Cert.FfnPostIdeal.τ).loc Cert.FfnPostIdeal.main_arg2)
      ∧ r.2.mem ((c.tc : Thread Cert.FfnPostIdeal.nD Cert.FfnPostIdeal.τ).loc Cert.FfnPostIdeal.main_arg3) = m ((c.tc : Thread Cert.FfnPostIdeal.nD Cert.FfnPostIdeal.τ).loc Cert.FfnPostIdeal.main_arg3)
      ∧ r.2.mem ((c.tc : Thread Cert.FfnPostIdeal.nD Cert.FfnPostIdeal.τ).loc Cert.FfnPostIdeal.main_arg4) = m ((c.tc : Thread Cert.FfnPostIdeal.nD Cert.FfnPostIdeal.τ).loc Cert.FfnPostIdeal.main_arg4)
      ∧ r.2.mem ((c.tc : Thread Cert.FfnPostIdeal.nD Cert.FfnPostIdeal.τ).loc Cert.FfnPostIdeal.main_arg5) = m ((c.tc : Thread Cert.FfnPostIdeal.nD Cert.FfnPostIdeal.τ).loc Cert.FfnPostIdeal.main_arg5)
      ∧ r.2.mem ((c.tc : Thread Cert.FfnPostIdeal.nD Cert.FfnPostIdeal.τ).loc Cert.FfnPostIdeal.main_arg6) = m ((c.tc : Thread Cert.FfnPostIdeal.nD Cert.FfnPostIdeal.τ).loc Cert.FfnPostIdeal.main_arg6)
      ∧ r.2.mem ((c.tc : Thread Cert.FfnPostIdeal.nD Cert.FfnPostIdeal.τ).loc Cert.FfnPostIdeal.main_arg7) = m ((c.tc : Thread Cert.FfnPostIdeal.nD Cert.FfnPostIdeal.τ).loc Cert.FfnPostIdeal.main_arg7))
      ∧ r.2.sem = fun _ => 0)

def quiescent_FfnPostReferenceIdeal [hFfnPostReferenceIdeal : Cert.FfnPostReferenceIdeal.Facts] : Prop :=
  ∀ (m : (ℓ : Loc Cert.FfnPostReferenceIdeal.nD Cert.FfnPostReferenceIdeal.τ Cert.FfnPostReferenceIdeal.sig) → Buf (Elt Ideal) ℓ) (g : Dev Cert.FfnPostReferenceIdeal.nD → PrngReg), Pre_FfnPostReferenceIdeal m →
    θ_run (Cert.FfnPostReferenceIdeal.defs (F := Ideal)) (onTc (τ := Cert.FfnPostReferenceIdeal.τ) (Cert.FfnPostReferenceIdeal.main (F := Ideal))) ⟨m, fun _ => 0, g⟩ (fun r => (∀ c : Dev Cert.FfnPostReferenceIdeal.nD,
      r.2.mem ((c.tc : Thread Cert.FfnPostReferenceIdeal.nD Cert.FfnPostReferenceIdeal.τ).loc Cert.FfnPostReferenceIdeal.main_arg0) = m ((c.tc : Thread Cert.FfnPostReferenceIdeal.nD Cert.FfnPostReferenceIdeal.τ).loc Cert.FfnPostReferenceIdeal.main_arg0)
      ∧ r.2.mem ((c.tc : Thread Cert.FfnPostReferenceIdeal.nD Cert.FfnPostReferenceIdeal.τ).loc Cert.FfnPostReferenceIdeal.main_arg1) = m ((c.tc : Thread Cert.FfnPostReferenceIdeal.nD Cert.FfnPostReferenceIdeal.τ).loc Cert.FfnPostReferenceIdeal.main_arg1)
      ∧ r.2.mem ((c.tc : Thread Cert.FfnPostReferenceIdeal.nD Cert.FfnPostReferenceIdeal.τ).loc Cert.FfnPostReferenceIdeal.main_arg2) = m ((c.tc : Thread Cert.FfnPostReferenceIdeal.nD Cert.FfnPostReferenceIdeal.τ).loc Cert.FfnPostReferenceIdeal.main_arg2)
      ∧ r.2.mem ((c.tc : Thread Cert.FfnPostReferenceIdeal.nD Cert.FfnPostReferenceIdeal.τ).loc Cert.FfnPostReferenceIdeal.main_arg3) = m ((c.tc : Thread Cert.FfnPostReferenceIdeal.nD Cert.FfnPostReferenceIdeal.τ).loc Cert.FfnPostReferenceIdeal.main_arg3)
      ∧ r.2.mem ((c.tc : Thread Cert.FfnPostReferenceIdeal.nD Cert.FfnPostReferenceIdeal.τ).loc Cert.FfnPostReferenceIdeal.main_arg4) = m ((c.tc : Thread Cert.FfnPostReferenceIdeal.nD Cert.FfnPostReferenceIdeal.τ).loc Cert.FfnPostReferenceIdeal.main_arg4)
      ∧ r.2.mem ((c.tc : Thread Cert.FfnPostReferenceIdeal.nD Cert.FfnPostReferenceIdeal.τ).loc Cert.FfnPostReferenceIdeal.main_arg5) = m ((c.tc : Thread Cert.FfnPostReferenceIdeal.nD Cert.FfnPostReferenceIdeal.τ).loc Cert.FfnPostReferenceIdeal.main_arg5)
      ∧ r.2.mem ((c.tc : Thread Cert.FfnPostReferenceIdeal.nD Cert.FfnPostReferenceIdeal.τ).loc Cert.FfnPostReferenceIdeal.main_arg6) = m ((c.tc : Thread Cert.FfnPostReferenceIdeal.nD Cert.FfnPostReferenceIdeal.τ).loc Cert.FfnPostReferenceIdeal.main_arg6)
      ∧ r.2.mem ((c.tc : Thread Cert.FfnPostReferenceIdeal.nD Cert.FfnPostReferenceIdeal.τ).loc Cert.FfnPostReferenceIdeal.main_arg7) = m ((c.tc : Thread Cert.FfnPostReferenceIdeal.nD Cert.FfnPostReferenceIdeal.τ).loc Cert.FfnPostReferenceIdeal.main_arg7))
      ∧ r.2.sem = fun _ => 0)

def quiescent_LastPost [hLastPost : Cert.LastPost.Facts] : Prop :=
  ∀ (m : (ℓ : Loc Cert.LastPost.nD Cert.LastPost.τ Cert.LastPost.sig) → Buf (Elt Bits) ℓ) (g : Dev Cert.LastPost.nD → PrngReg), Pre_LastPost m →
    θ_run (Cert.LastPost.defs (F := Bits)) (onTc (τ := Cert.LastPost.τ) (Cert.LastPost.main (F := Bits))) ⟨m, fun _ => 0, g⟩ (fun r => (∀ c : Dev Cert.LastPost.nD,
      r.2.mem ((c.tc : Thread Cert.LastPost.nD Cert.LastPost.τ).loc Cert.LastPost.main_arg0) = m ((c.tc : Thread Cert.LastPost.nD Cert.LastPost.τ).loc Cert.LastPost.main_arg0)
      ∧ r.2.mem ((c.tc : Thread Cert.LastPost.nD Cert.LastPost.τ).loc Cert.LastPost.main_arg1) = m ((c.tc : Thread Cert.LastPost.nD Cert.LastPost.τ).loc Cert.LastPost.main_arg1)
      ∧ r.2.mem ((c.tc : Thread Cert.LastPost.nD Cert.LastPost.τ).loc Cert.LastPost.main_arg2) = m ((c.tc : Thread Cert.LastPost.nD Cert.LastPost.τ).loc Cert.LastPost.main_arg2)
      ∧ r.2.mem ((c.tc : Thread Cert.LastPost.nD Cert.LastPost.τ).loc Cert.LastPost.main_arg3) = m ((c.tc : Thread Cert.LastPost.nD Cert.LastPost.τ).loc Cert.LastPost.main_arg3)
      ∧ r.2.mem ((c.tc : Thread Cert.LastPost.nD Cert.LastPost.τ).loc Cert.LastPost.main_arg4) = m ((c.tc : Thread Cert.LastPost.nD Cert.LastPost.τ).loc Cert.LastPost.main_arg4))
      ∧ r.2.sem = fun _ => 0)

def quiescent_LastPostIdeal [hLastPostIdeal : Cert.LastPostIdeal.Facts] : Prop :=
  ∀ (m : (ℓ : Loc Cert.LastPostIdeal.nD Cert.LastPostIdeal.τ Cert.LastPostIdeal.sig) → Buf (Elt Ideal) ℓ) (g : Dev Cert.LastPostIdeal.nD → PrngReg), Pre_LastPostIdeal m →
    θ_run (Cert.LastPostIdeal.defs (F := Ideal)) (onTc (τ := Cert.LastPostIdeal.τ) (Cert.LastPostIdeal.main (F := Ideal))) ⟨m, fun _ => 0, g⟩ (fun r => (∀ c : Dev Cert.LastPostIdeal.nD,
      r.2.mem ((c.tc : Thread Cert.LastPostIdeal.nD Cert.LastPostIdeal.τ).loc Cert.LastPostIdeal.main_arg0) = m ((c.tc : Thread Cert.LastPostIdeal.nD Cert.LastPostIdeal.τ).loc Cert.LastPostIdeal.main_arg0)
      ∧ r.2.mem ((c.tc : Thread Cert.LastPostIdeal.nD Cert.LastPostIdeal.τ).loc Cert.LastPostIdeal.main_arg1) = m ((c.tc : Thread Cert.LastPostIdeal.nD Cert.LastPostIdeal.τ).loc Cert.LastPostIdeal.main_arg1)
      ∧ r.2.mem ((c.tc : Thread Cert.LastPostIdeal.nD Cert.LastPostIdeal.τ).loc Cert.LastPostIdeal.main_arg2) = m ((c.tc : Thread Cert.LastPostIdeal.nD Cert.LastPostIdeal.τ).loc Cert.LastPostIdeal.main_arg2)
      ∧ r.2.mem ((c.tc : Thread Cert.LastPostIdeal.nD Cert.LastPostIdeal.τ).loc Cert.LastPostIdeal.main_arg3) = m ((c.tc : Thread Cert.LastPostIdeal.nD Cert.LastPostIdeal.τ).loc Cert.LastPostIdeal.main_arg3)
      ∧ r.2.mem ((c.tc : Thread Cert.LastPostIdeal.nD Cert.LastPostIdeal.τ).loc Cert.LastPostIdeal.main_arg4) = m ((c.tc : Thread Cert.LastPostIdeal.nD Cert.LastPostIdeal.τ).loc Cert.LastPostIdeal.main_arg4))
      ∧ r.2.sem = fun _ => 0)

def quiescent_LastPostReferenceIdeal [hLastPostReferenceIdeal : Cert.LastPostReferenceIdeal.Facts] : Prop :=
  ∀ (m : (ℓ : Loc Cert.LastPostReferenceIdeal.nD Cert.LastPostReferenceIdeal.τ Cert.LastPostReferenceIdeal.sig) → Buf (Elt Ideal) ℓ) (g : Dev Cert.LastPostReferenceIdeal.nD → PrngReg), Pre_LastPostReferenceIdeal m →
    θ_run (Cert.LastPostReferenceIdeal.defs (F := Ideal)) (onTc (τ := Cert.LastPostReferenceIdeal.τ) (Cert.LastPostReferenceIdeal.main (F := Ideal))) ⟨m, fun _ => 0, g⟩ (fun r => (∀ c : Dev Cert.LastPostReferenceIdeal.nD,
      r.2.mem ((c.tc : Thread Cert.LastPostReferenceIdeal.nD Cert.LastPostReferenceIdeal.τ).loc Cert.LastPostReferenceIdeal.main_arg0) = m ((c.tc : Thread Cert.LastPostReferenceIdeal.nD Cert.LastPostReferenceIdeal.τ).loc Cert.LastPostReferenceIdeal.main_arg0)
      ∧ r.2.mem ((c.tc : Thread Cert.LastPostReferenceIdeal.nD Cert.LastPostReferenceIdeal.τ).loc Cert.LastPostReferenceIdeal.main_arg1) = m ((c.tc : Thread Cert.LastPostReferenceIdeal.nD Cert.LastPostReferenceIdeal.τ).loc Cert.LastPostReferenceIdeal.main_arg1)
      ∧ r.2.mem ((c.tc : Thread Cert.LastPostReferenceIdeal.nD Cert.LastPostReferenceIdeal.τ).loc Cert.LastPostReferenceIdeal.main_arg2) = m ((c.tc : Thread Cert.LastPostReferenceIdeal.nD Cert.LastPostReferenceIdeal.τ).loc Cert.LastPostReferenceIdeal.main_arg2)
      ∧ r.2.mem ((c.tc : Thread Cert.LastPostReferenceIdeal.nD Cert.LastPostReferenceIdeal.τ).loc Cert.LastPostReferenceIdeal.main_arg3) = m ((c.tc : Thread Cert.LastPostReferenceIdeal.nD Cert.LastPostReferenceIdeal.τ).loc Cert.LastPostReferenceIdeal.main_arg3)
      ∧ r.2.mem ((c.tc : Thread Cert.LastPostReferenceIdeal.nD Cert.LastPostReferenceIdeal.τ).loc Cert.LastPostReferenceIdeal.main_arg4) = m ((c.tc : Thread Cert.LastPostReferenceIdeal.nD Cert.LastPostReferenceIdeal.τ).loc Cert.LastPostReferenceIdeal.main_arg4))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2)
      ∧ r.2.mem ((c.tc : Thread Cert.GlaPost.nD Cert.GlaPost.τ).loc Cert.GlaPost.main_arg3) = m ((c.tc : Thread Cert.GlaPost.nD Cert.GlaPost.τ).loc Cert.GlaPost.main_arg3)
      ∧ r.2.mem ((c.tc : Thread Cert.GlaPost.nD Cert.GlaPost.τ).loc Cert.GlaPost.main_arg4) = m ((c.tc : Thread Cert.GlaPost.nD Cert.GlaPost.τ).loc Cert.GlaPost.main_arg4)
      ∧ r.2.mem ((c.tc : Thread Cert.GlaPost.nD Cert.GlaPost.τ).loc Cert.GlaPost.main_arg5) = m ((c.tc : Thread Cert.GlaPost.nD Cert.GlaPost.τ).loc Cert.GlaPost.main_arg5)
      ∧ r.2.mem ((c.tc : Thread Cert.GlaPost.nD Cert.GlaPost.τ).loc Cert.GlaPost.main_arg6) = m ((c.tc : Thread Cert.GlaPost.nD Cert.GlaPost.τ).loc Cert.GlaPost.main_arg6)
      ∧ r.2.mem ((c.tc : Thread Cert.GlaPost.nD Cert.GlaPost.τ).loc Cert.GlaPost.main_arg7) = m ((c.tc : Thread Cert.GlaPost.nD Cert.GlaPost.τ).loc Cert.GlaPost.main_arg7))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
      ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3)
      ∧ r.2.mem ((c.tc : Thread Cert.GlaPostIdeal.nD Cert.GlaPostIdeal.τ).loc Cert.GlaPostIdeal.main_arg4) = m ((c.tc : Thread Cert.GlaPostIdeal.nD Cert.GlaPostIdeal.τ).loc Cert.GlaPostIdeal.main_arg4)
      ∧ r.2.mem ((c.tc : Thread Cert.GlaPostIdeal.nD Cert.GlaPostIdeal.τ).loc Cert.GlaPostIdeal.main_arg5) = m ((c.tc : Thread Cert.GlaPostIdeal.nD Cert.GlaPostIdeal.τ).loc Cert.GlaPostIdeal.main_arg5)
      ∧ r.2.mem ((c.tc : Thread Cert.GlaPostIdeal.nD Cert.GlaPostIdeal.τ).loc Cert.GlaPostIdeal.main_arg6) = m ((c.tc : Thread Cert.GlaPostIdeal.nD Cert.GlaPostIdeal.τ).loc Cert.GlaPostIdeal.main_arg6)
      ∧ r.2.mem ((c.tc : Thread Cert.GlaPostIdeal.nD Cert.GlaPostIdeal.τ).loc Cert.GlaPostIdeal.main_arg7) = m ((c.tc : Thread Cert.GlaPostIdeal.nD Cert.GlaPostIdeal.τ).loc Cert.GlaPostIdeal.main_arg7))
      ∧ r.2.sem = fun _ => 0)

def quiescent_GlaPostReferenceIdeal [hGlaPostReferenceIdeal : Cert.GlaPostReferenceIdeal.Facts] : Prop :=
  ∀ (m : (ℓ : Loc Cert.GlaPostReferenceIdeal.nD Cert.GlaPostReferenceIdeal.τ Cert.GlaPostReferenceIdeal.sig) → Buf (Elt Ideal) ℓ) (g : Dev Cert.GlaPostReferenceIdeal.nD → PrngReg), Pre_GlaPostReferenceIdeal m →
    θ_run (Cert.GlaPostReferenceIdeal.defs (F := Ideal)) (onTc (τ := Cert.GlaPostReferenceIdeal.τ) (Cert.GlaPostReferenceIdeal.main (F := Ideal))) ⟨m, fun _ => 0, g⟩ (fun r => (∀ c : Dev Cert.GlaPostReferenceIdeal.nD,
      r.2.mem ((c.tc : Thread Cert.GlaPostReferenceIdeal.nD Cert.GlaPostReferenceIdeal.τ).loc Cert.GlaPostReferenceIdeal.main_arg0) = m ((c.tc : Thread Cert.GlaPostReferenceIdeal.nD Cert.GlaPostReferenceIdeal.τ).loc Cert.GlaPostReferenceIdeal.main_arg0)
      ∧ r.2.mem ((c.tc : Thread Cert.GlaPostReferenceIdeal.nD Cert.GlaPostReferenceIdeal.τ).loc Cert.GlaPostReferenceIdeal.main_arg1) = m ((c.tc : Thread Cert.GlaPostReferenceIdeal.nD Cert.GlaPostReferenceIdeal.τ).loc Cert.GlaPostReferenceIdeal.main_arg1)
      ∧ r.2.mem ((c.tc : Thread Cert.GlaPostReferenceIdeal.nD Cert.GlaPostReferenceIdeal.τ).loc Cert.GlaPostReferenceIdeal.main_arg2) = m ((c.tc : Thread Cert.GlaPostReferenceIdeal.nD Cert.GlaPostReferenceIdeal.τ).loc Cert.GlaPostReferenceIdeal.main_arg2)
      ∧ r.2.mem ((c.tc : Thread Cert.GlaPostReferenceIdeal.nD Cert.GlaPostReferenceIdeal.τ).loc Cert.GlaPostReferenceIdeal.main_arg3) = m ((c.tc : Thread Cert.GlaPostReferenceIdeal.nD Cert.GlaPostReferenceIdeal.τ).loc Cert.GlaPostReferenceIdeal.main_arg3)
      ∧ r.2.mem ((c.tc : Thread Cert.GlaPostReferenceIdeal.nD Cert.GlaPostReferenceIdeal.τ).loc Cert.GlaPostReferenceIdeal.main_arg4) = m ((c.tc : Thread Cert.GlaPostReferenceIdeal.nD Cert.GlaPostReferenceIdeal.τ).loc Cert.GlaPostReferenceIdeal.main_arg4)
      ∧ r.2.mem ((c.tc : Thread Cert.GlaPostReferenceIdeal.nD Cert.GlaPostReferenceIdeal.τ).loc Cert.GlaPostReferenceIdeal.main_arg5) = m ((c.tc : Thread Cert.GlaPostReferenceIdeal.nD Cert.GlaPostReferenceIdeal.τ).loc Cert.GlaPostReferenceIdeal.main_arg5)
      ∧ r.2.mem ((c.tc : Thread Cert.GlaPostReferenceIdeal.nD Cert.GlaPostReferenceIdeal.τ).loc Cert.GlaPostReferenceIdeal.main_arg6) = m ((c.tc : Thread Cert.GlaPostReferenceIdeal.nD Cert.GlaPostReferenceIdeal.τ).loc Cert.GlaPostReferenceIdeal.main_arg6)
      ∧ r.2.mem ((c.tc : Thread Cert.GlaPostReferenceIdeal.nD Cert.GlaPostReferenceIdeal.τ).loc Cert.GlaPostReferenceIdeal.main_arg7) = m ((c.tc : Thread Cert.GlaPostReferenceIdeal.nD Cert.GlaPostReferenceIdeal.τ).loc Cert.GlaPostReferenceIdeal.main_arg7))
      ∧ r.2.sem = fun _ => 0)

def quiescent_ConvPost [hConvPost : Cert.ConvPost.Facts] : Prop :=
  ∀ (m : (ℓ : Loc Cert.ConvPost.nD Cert.ConvPost.τ Cert.ConvPost.sig) → Buf (Elt Bits) ℓ) (g : Dev Cert.ConvPost.nD → PrngReg), Pre_ConvPost m →
    θ_run (Cert.ConvPost.defs (F := Bits)) (onTc (τ := Cert.ConvPost.τ) (Cert.ConvPost.main (F := Bits))) ⟨m, fun _ => 0, g⟩ (fun r => (∀ c : Dev Cert.ConvPost.nD,
      r.2.mem ((c.tc : Thread Cert.ConvPost.nD Cert.ConvPost.τ).loc Cert.ConvPost.main_arg0) = m ((c.tc : Thread Cert.ConvPost.nD Cert.ConvPost.τ).loc Cert.ConvPost.main_arg0)
      ∧ r.2.mem ((c.tc : Thread Cert.ConvPost.nD Cert.ConvPost.τ).loc Cert.ConvPost.main_arg1) = m ((c.tc : Thread Cert.ConvPost.nD Cert.ConvPost.τ).loc Cert.ConvPost.main_arg1)
      ∧ r.2.mem ((c.tc : Thread Cert.ConvPost.nD Cert.ConvPost.τ).loc Cert.ConvPost.main_arg2) = m ((c.tc : Thread Cert.ConvPost.nD Cert.ConvPost.τ).loc Cert.ConvPost.main_arg2)
      ∧ r.2.mem ((c.tc : Thread Cert.ConvPost.nD Cert.ConvPost.τ).loc Cert.ConvPost.main_arg3) = m ((c.tc : Thread Cert.ConvPost.nD Cert.ConvPost.τ).loc Cert.ConvPost.main_arg3)
      ∧ r.2.mem ((c.tc : Thread Cert.ConvPost.nD Cert.ConvPost.τ).loc Cert.ConvPost.main_arg4) = m ((c.tc : Thread Cert.ConvPost.nD Cert.ConvPost.τ).loc Cert.ConvPost.main_arg4)
      ∧ r.2.mem ((c.tc : Thread Cert.ConvPost.nD Cert.ConvPost.τ).loc Cert.ConvPost.main_arg5) = m ((c.tc : Thread Cert.ConvPost.nD Cert.ConvPost.τ).loc Cert.ConvPost.main_arg5)
      ∧ r.2.mem ((c.tc : Thread Cert.ConvPost.nD Cert.ConvPost.τ).loc Cert.ConvPost.main_arg6) = m ((c.tc : Thread Cert.ConvPost.nD Cert.ConvPost.τ).loc Cert.ConvPost.main_arg6)
      ∧ r.2.mem ((c.tc : Thread Cert.ConvPost.nD Cert.ConvPost.τ).loc Cert.ConvPost.main_arg7) = m ((c.tc : Thread Cert.ConvPost.nD Cert.ConvPost.τ).loc Cert.ConvPost.main_arg7)
      ∧ r.2.mem ((c.tc : Thread Cert.ConvPost.nD Cert.ConvPost.τ).loc Cert.ConvPost.main_arg8) = m ((c.tc : Thread Cert.ConvPost.nD Cert.ConvPost.τ).loc Cert.ConvPost.main_arg8))
      ∧ r.2.sem = fun _ => 0)

def quiescent_ConvPostIdeal [hConvPostIdeal : Cert.ConvPostIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg), Pre_ConvPostIdeal m →
    θ_run (Cert.ConvPostIdeal.defs (F := Ideal)) (onTc (τ := Cert.ConvPostIdeal.τ) (Cert.ConvPostIdeal.main (F := Ideal))) ⟨m, fun _ => 0, g⟩ (fun r => (∀ c : Dev Cert.ConvPostIdeal.nD,
      r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
      ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
      ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
      ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3)
      ∧ r.2.mem ((c.tc : Thread Cert.ConvPostIdeal.nD Cert.ConvPostIdeal.τ).loc Cert.ConvPostIdeal.main_arg4) = m ((c.tc : Thread Cert.ConvPostIdeal.nD Cert.ConvPostIdeal.τ).loc Cert.ConvPostIdeal.main_arg4)
      ∧ r.2.mem ((c.tc : Thread Cert.ConvPostIdeal.nD Cert.ConvPostIdeal.τ).loc Cert.ConvPostIdeal.main_arg5) = m ((c.tc : Thread Cert.ConvPostIdeal.nD Cert.ConvPostIdeal.τ).loc Cert.ConvPostIdeal.main_arg5)
      ∧ r.2.mem ((c.tc : Thread Cert.ConvPostIdeal.nD Cert.ConvPostIdeal.τ).loc Cert.ConvPostIdeal.main_arg6) = m ((c.tc : Thread Cert.ConvPostIdeal.nD Cert.ConvPostIdeal.τ).loc Cert.ConvPostIdeal.main_arg6)
      ∧ r.2.mem ((c.tc : Thread Cert.ConvPostIdeal.nD Cert.ConvPostIdeal.τ).loc Cert.ConvPostIdeal.main_arg7) = m ((c.tc : Thread Cert.ConvPostIdeal.nD Cert.ConvPostIdeal.τ).loc Cert.ConvPostIdeal.main_arg7)
      ∧ r.2.mem ((c.tc : Thread Cert.ConvPostIdeal.nD Cert.ConvPostIdeal.τ).loc Cert.ConvPostIdeal.main_arg8) = m ((c.tc : Thread Cert.ConvPostIdeal.nD Cert.ConvPostIdeal.τ).loc Cert.ConvPostIdeal.main_arg8))
      ∧ r.2.sem = fun _ => 0)

def quiescent_ConvPostReferenceIdeal [hConvPostReferenceIdeal : Cert.ConvPostReferenceIdeal.Facts] : Prop :=
  ∀ (m : (ℓ : Loc Cert.ConvPostReferenceIdeal.nD Cert.ConvPostReferenceIdeal.τ Cert.ConvPostReferenceIdeal.sig) → Buf (Elt Ideal) ℓ) (g : Dev Cert.ConvPostReferenceIdeal.nD → PrngReg), Pre_ConvPostReferenceIdeal m →
    θ_run (Cert.ConvPostReferenceIdeal.defs (F := Ideal)) (onTc (τ := Cert.ConvPostReferenceIdeal.τ) (Cert.ConvPostReferenceIdeal.main (F := Ideal))) ⟨m, fun _ => 0, g⟩ (fun r => (∀ c : Dev Cert.ConvPostReferenceIdeal.nD,
      r.2.mem ((c.tc : Thread Cert.ConvPostReferenceIdeal.nD Cert.ConvPostReferenceIdeal.τ).loc Cert.ConvPostReferenceIdeal.main_arg0) = m ((c.tc : Thread Cert.ConvPostReferenceIdeal.nD Cert.ConvPostReferenceIdeal.τ).loc Cert.ConvPostReferenceIdeal.main_arg0)
      ∧ r.2.mem ((c.tc : Thread Cert.ConvPostReferenceIdeal.nD Cert.ConvPostReferenceIdeal.τ).loc Cert.ConvPostReferenceIdeal.main_arg1) = m ((c.tc : Thread Cert.ConvPostReferenceIdeal.nD Cert.ConvPostReferenceIdeal.τ).loc Cert.ConvPostReferenceIdeal.main_arg1)
      ∧ r.2.mem ((c.tc : Thread Cert.ConvPostReferenceIdeal.nD Cert.ConvPostReferenceIdeal.τ).loc Cert.ConvPostReferenceIdeal.main_arg2) = m ((c.tc : Thread Cert.ConvPostReferenceIdeal.nD Cert.ConvPostReferenceIdeal.τ).loc Cert.ConvPostReferenceIdeal.main_arg2)
      ∧ r.2.mem ((c.tc : Thread Cert.ConvPostReferenceIdeal.nD Cert.ConvPostReferenceIdeal.τ).loc Cert.ConvPostReferenceIdeal.main_arg3) = m ((c.tc : Thread Cert.ConvPostReferenceIdeal.nD Cert.ConvPostReferenceIdeal.τ).loc Cert.ConvPostReferenceIdeal.main_arg3)
      ∧ r.2.mem ((c.tc : Thread Cert.ConvPostReferenceIdeal.nD Cert.ConvPostReferenceIdeal.τ).loc Cert.ConvPostReferenceIdeal.main_arg4) = m ((c.tc : Thread Cert.ConvPostReferenceIdeal.nD Cert.ConvPostReferenceIdeal.τ).loc Cert.ConvPostReferenceIdeal.main_arg4)
      ∧ r.2.mem ((c.tc : Thread Cert.ConvPostReferenceIdeal.nD Cert.ConvPostReferenceIdeal.τ).loc Cert.ConvPostReferenceIdeal.main_arg5) = m ((c.tc : Thread Cert.ConvPostReferenceIdeal.nD Cert.ConvPostReferenceIdeal.τ).loc Cert.ConvPostReferenceIdeal.main_arg5)
      ∧ r.2.mem ((c.tc : Thread Cert.ConvPostReferenceIdeal.nD Cert.ConvPostReferenceIdeal.τ).loc Cert.ConvPostReferenceIdeal.main_arg6) = m ((c.tc : Thread Cert.ConvPostReferenceIdeal.nD Cert.ConvPostReferenceIdeal.τ).loc Cert.ConvPostReferenceIdeal.main_arg6)
      ∧ r.2.mem ((c.tc : Thread Cert.ConvPostReferenceIdeal.nD Cert.ConvPostReferenceIdeal.τ).loc Cert.ConvPostReferenceIdeal.main_arg7) = m ((c.tc : Thread Cert.ConvPostReferenceIdeal.nD Cert.ConvPostReferenceIdeal.τ).loc Cert.ConvPostReferenceIdeal.main_arg7)
      ∧ r.2.mem ((c.tc : Thread Cert.ConvPostReferenceIdeal.nD Cert.ConvPostReferenceIdeal.τ).loc Cert.ConvPostReferenceIdeal.main_arg8) = m ((c.tc : Thread Cert.ConvPostReferenceIdeal.nD Cert.ConvPostReferenceIdeal.τ).loc Cert.ConvPostReferenceIdeal.main_arg8))
      ∧ r.2.sem = fun _ => 0)

def quiescent_GradX [hGradX : Cert.GradX.Facts] : Prop :=
  ∀ (m : (ℓ : Loc Cert.GradX.nD Cert.GradX.τ Cert.GradX.sig) → Buf (Elt Bits) ℓ) (g : Dev Cert.GradX.nD → PrngReg), Pre_GradX m →
    θ_run (Cert.GradX.defs (F := Bits)) (onTc (τ := Cert.GradX.τ) (Cert.GradX.main (F := Bits))) ⟨m, fun _ => 0, g⟩ (fun r => (∀ c : Dev Cert.GradX.nD,
      r.2.mem ((c.tc : Thread Cert.GradX.nD Cert.GradX.τ).loc Cert.GradX.main_arg0) = m ((c.tc : Thread Cert.GradX.nD Cert.GradX.τ).loc Cert.GradX.main_arg0)
      ∧ r.2.mem ((c.tc : Thread Cert.GradX.nD Cert.GradX.τ).loc Cert.GradX.main_arg1) = m ((c.tc : Thread Cert.GradX.nD Cert.GradX.τ).loc Cert.GradX.main_arg1)
      ∧ r.2.mem ((c.tc : Thread Cert.GradX.nD Cert.GradX.τ).loc Cert.GradX.main_arg2) = m ((c.tc : Thread Cert.GradX.nD Cert.GradX.τ).loc Cert.GradX.main_arg2)
      ∧ r.2.mem ((c.tc : Thread Cert.GradX.nD Cert.GradX.τ).loc Cert.GradX.main_arg3) = m ((c.tc : Thread Cert.GradX.nD Cert.GradX.τ).loc Cert.GradX.main_arg3)
      ∧ r.2.mem ((c.tc : Thread Cert.GradX.nD Cert.GradX.τ).loc Cert.GradX.main_arg4) = m ((c.tc : Thread Cert.GradX.nD Cert.GradX.τ).loc Cert.GradX.main_arg4))
      ∧ r.2.sem = fun _ => 0)

def quiescent_GradXIdeal [hGradXIdeal : Cert.GradXIdeal.Facts] : Prop :=
  ∀ (m : (ℓ : Loc Cert.GradXIdeal.nD Cert.GradXIdeal.τ Cert.GradXIdeal.sig) → Buf (Elt Ideal) ℓ) (g : Dev Cert.GradXIdeal.nD → PrngReg), Pre_GradXIdeal m →
    θ_run (Cert.GradXIdeal.defs (F := Ideal)) (onTc (τ := Cert.GradXIdeal.τ) (Cert.GradXIdeal.main (F := Ideal))) ⟨m, fun _ => 0, g⟩ (fun r => (∀ c : Dev Cert.GradXIdeal.nD,
      r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
      ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
      ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
      ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
      ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ r.2.sem = fun _ => 0)

def quiescent_GradXReferenceIdeal [hGradXReferenceIdeal : Cert.GradXReferenceIdeal.Facts] : Prop :=
  ∀ (m : (ℓ : Loc Cert.GradXReferenceIdeal.nD Cert.GradXReferenceIdeal.τ Cert.GradXReferenceIdeal.sig) → Buf (Elt Ideal) ℓ) (g : Dev Cert.GradXReferenceIdeal.nD → PrngReg), Pre_GradXReferenceIdeal m →
    θ_run (Cert.GradXReferenceIdeal.defs (F := Ideal)) (onTc (τ := Cert.GradXReferenceIdeal.τ) (Cert.GradXReferenceIdeal.main (F := Ideal))) ⟨m, fun _ => 0, g⟩ (fun r => (∀ c : Dev Cert.GradXReferenceIdeal.nD,
      r.2.mem ((c.tc : Thread Cert.GradXReferenceIdeal.nD Cert.GradXReferenceIdeal.τ).loc Cert.GradXReferenceIdeal.main_arg0) = m ((c.tc : Thread Cert.GradXReferenceIdeal.nD Cert.GradXReferenceIdeal.τ).loc Cert.GradXReferenceIdeal.main_arg0)
      ∧ r.2.mem ((c.tc : Thread Cert.GradXReferenceIdeal.nD Cert.GradXReferenceIdeal.τ).loc Cert.GradXReferenceIdeal.main_arg1) = m ((c.tc : Thread Cert.GradXReferenceIdeal.nD Cert.GradXReferenceIdeal.τ).loc Cert.GradXReferenceIdeal.main_arg1)
      ∧ r.2.mem ((c.tc : Thread Cert.GradXReferenceIdeal.nD Cert.GradXReferenceIdeal.τ).loc Cert.GradXReferenceIdeal.main_arg2) = m ((c.tc : Thread Cert.GradXReferenceIdeal.nD Cert.GradXReferenceIdeal.τ).loc Cert.GradXReferenceIdeal.main_arg2)
      ∧ r.2.mem ((c.tc : Thread Cert.GradXReferenceIdeal.nD Cert.GradXReferenceIdeal.τ).loc Cert.GradXReferenceIdeal.main_arg3) = m ((c.tc : Thread Cert.GradXReferenceIdeal.nD Cert.GradXReferenceIdeal.τ).loc Cert.GradXReferenceIdeal.main_arg3)
      ∧ r.2.mem ((c.tc : Thread Cert.GradXReferenceIdeal.nD Cert.GradXReferenceIdeal.τ).loc Cert.GradXReferenceIdeal.main_arg4) = m ((c.tc : Thread Cert.GradXReferenceIdeal.nD Cert.GradXReferenceIdeal.τ).loc Cert.GradXReferenceIdeal.main_arg4))
      ∧ r.2.sem = fun _ => 0)

def quiescent_PreNorm [hPreNorm : Cert.PreNorm.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3))
      ∧ r.2.sem = fun _ => 0)

def quiescent_PreNormIdeal [hPreNormIdeal : Cert.PreNormIdeal.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ r.2.sem = fun _ => 0)

def quiescent_PreNormReferenceIdeal [hPreNormReferenceIdeal : Cert.PreNormReferenceIdeal.Facts] : Prop :=
  ∀ (m : (ℓ : Loc Cert.PreNormReferenceIdeal.nD Cert.PreNormReferenceIdeal.τ Cert.PreNormReferenceIdeal.sig) → Buf (Elt Ideal) ℓ) (g : Dev Cert.PreNormReferenceIdeal.nD → PrngReg), Pre_PreNormReferenceIdeal m →
    θ_run (Cert.PreNormReferenceIdeal.defs (F := Ideal)) (onTc (τ := Cert.PreNormReferenceIdeal.τ) (Cert.PreNormReferenceIdeal.main (F := Ideal))) ⟨m, fun _ => 0, g⟩ (fun r => (∀ c : Dev Cert.PreNormReferenceIdeal.nD,
      r.2.mem ((c.tc : Thread Cert.PreNormReferenceIdeal.nD Cert.PreNormReferenceIdeal.τ).loc Cert.PreNormReferenceIdeal.main_arg0) = m ((c.tc : Thread Cert.PreNormReferenceIdeal.nD Cert.PreNormReferenceIdeal.τ).loc Cert.PreNormReferenceIdeal.main_arg0)
      ∧ r.2.mem ((c.tc : Thread Cert.PreNormReferenceIdeal.nD Cert.PreNormReferenceIdeal.τ).loc Cert.PreNormReferenceIdeal.main_arg1) = m ((c.tc : Thread Cert.PreNormReferenceIdeal.nD Cert.PreNormReferenceIdeal.τ).loc Cert.PreNormReferenceIdeal.main_arg1)
      ∧ r.2.mem ((c.tc : Thread Cert.PreNormReferenceIdeal.nD Cert.PreNormReferenceIdeal.τ).loc Cert.PreNormReferenceIdeal.main_arg2) = m ((c.tc : Thread Cert.PreNormReferenceIdeal.nD Cert.PreNormReferenceIdeal.τ).loc Cert.PreNormReferenceIdeal.main_arg2)
      ∧ r.2.mem ((c.tc : Thread Cert.PreNormReferenceIdeal.nD Cert.PreNormReferenceIdeal.τ).loc Cert.PreNormReferenceIdeal.main_arg3) = m ((c.tc : Thread Cert.PreNormReferenceIdeal.nD Cert.PreNormReferenceIdeal.τ).loc Cert.PreNormReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Act_ActIdeal : Prop :=
  True

def algebraic_ActIdeal_ActReferenceIdeal_pre_act_finite [hActIdeal : Cert.ActIdeal.Facts] [hActReferenceIdeal : Cert.ActReferenceIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActReferenceIdeal.nD Cert.ActReferenceIdeal.τ Cert.ActReferenceIdeal.sig) → Buf (Elt Ideal) ℓ) (g' : Dev Cert.ActReferenceIdeal.nD → PrngReg), Pre_ActIdeal_act_finite m →
    (∀ c : Dev Cert.ActIdeal.nD,
      m' ((c.tc : Thread Cert.ActReferenceIdeal.nD Cert.ActReferenceIdeal.τ).loc Cert.ActReferenceIdeal.main_arg0) = m ((c.tc : Thread Cert.ActIdeal.nD Cert.ActIdeal.τ).loc Cert.ActIdeal.main_arg0)
      ∧ m' ((c.tc : Thread Cert.ActReferenceIdeal.nD Cert.ActReferenceIdeal.τ).loc Cert.ActReferenceIdeal.main_arg1) = m ((c.tc : Thread Cert.ActIdeal.nD Cert.ActIdeal.τ).loc Cert.ActIdeal.main_arg1)
      ∧ m' ((c.tc : Thread Cert.ActReferenceIdeal.nD Cert.ActReferenceIdeal.τ).loc Cert.ActReferenceIdeal.main_arg2) = m ((c.tc : Thread Cert.ActIdeal.nD Cert.ActIdeal.τ).loc Cert.ActIdeal.main_arg2)
      ∧ m' ((c.tc : Thread Cert.ActReferenceIdeal.nD Cert.ActReferenceIdeal.τ).loc Cert.ActReferenceIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v5_0)) (v1 : (c : Dev Cert.ActIdeal.nD) → Buf (Elt Ideal) ((c.tc : Thread Cert.ActIdeal.nD Cert.ActIdeal.τ).loc Cert.ActIdeal.main_v5_1)) (v2 : (c : Dev Cert.ActIdeal.nD) → Buf (Elt Ideal) ((c.tc : Thread Cert.ActIdeal.nD Cert.ActIdeal.τ).loc Cert.ActIdeal.main_v6)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v5_0) = v0 c
          ∧ r.2.mem ((c.tc : Thread Cert.ActIdeal.nD Cert.ActIdeal.τ).loc Cert.ActIdeal.main_v5_1) = v1 c
          ∧ r.2.mem ((c.tc : Thread Cert.ActIdeal.nD Cert.ActIdeal.τ).loc Cert.ActIdeal.main_v6) = v2 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActReferenceIdeal.defs (F := Ideal)) (onTc (τ := Cert.ActReferenceIdeal.τ) (Cert.ActReferenceIdeal.main (F := Ideal))) ⟨m', fun _ => 0, g'⟩ (fun r => ∀ c : Dev Cert.ActReferenceIdeal.nD,
          r.2.mem ((c.tc : Thread Cert.ActReferenceIdeal.nD Cert.ActReferenceIdeal.τ).loc Cert.ActReferenceIdeal.main_v20) = v0 c
          ∧ r.2.mem ((c.tc : Thread Cert.ActReferenceIdeal.nD Cert.ActReferenceIdeal.τ).loc Cert.ActReferenceIdeal.main_v21) = v1 c
          ∧ r.2.mem ((c.tc : Thread Cert.ActReferenceIdeal.nD Cert.ActReferenceIdeal.τ).loc Cert.ActReferenceIdeal.main_v25) = v2 c
          ∧ r.2.mem ((c.tc : Thread Cert.ActReferenceIdeal.nD Cert.ActReferenceIdeal.τ).loc Cert.ActReferenceIdeal.main_arg0) = m' ((c.tc : Thread Cert.ActReferenceIdeal.nD Cert.ActReferenceIdeal.τ).loc Cert.ActReferenceIdeal.main_arg0)
          ∧ r.2.mem ((c.tc : Thread Cert.ActReferenceIdeal.nD Cert.ActReferenceIdeal.τ).loc Cert.ActReferenceIdeal.main_arg1) = m' ((c.tc : Thread Cert.ActReferenceIdeal.nD Cert.ActReferenceIdeal.τ).loc Cert.ActReferenceIdeal.main_arg1)
          ∧ r.2.mem ((c.tc : Thread Cert.ActReferenceIdeal.nD Cert.ActReferenceIdeal.τ).loc Cert.ActReferenceIdeal.main_arg2) = m' ((c.tc : Thread Cert.ActReferenceIdeal.nD Cert.ActReferenceIdeal.τ).loc Cert.ActReferenceIdeal.main_arg2)
          ∧ r.2.mem ((c.tc : Thread Cert.ActReferenceIdeal.nD Cert.ActReferenceIdeal.τ).loc Cert.ActReferenceIdeal.main_arg3) = m' ((c.tc : Thread Cert.ActReferenceIdeal.nD Cert.ActReferenceIdeal.τ).loc Cert.ActReferenceIdeal.main_arg3))

def preserves_Wout_WoutIdeal : Prop :=
  True

def algebraic_WoutIdeal_WoutReferenceIdeal [hWoutIdeal : Cert.WoutIdeal.Facts] [hWoutReferenceIdeal : Cert.WoutReferenceIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutReferenceIdeal.nD Cert.WoutReferenceIdeal.τ Cert.WoutReferenceIdeal.sig) → Buf (Elt Ideal) ℓ) (g' : Dev Cert.WoutReferenceIdeal.nD → PrngReg), Pre_WoutIdeal m →
    (∀ c : Dev Cert.WoutIdeal.nD,
      m' ((c.tc : Thread Cert.WoutReferenceIdeal.nD Cert.WoutReferenceIdeal.τ).loc Cert.WoutReferenceIdeal.main_arg0) = m ((c.tc : Thread Cert.WoutIdeal.nD Cert.WoutIdeal.τ).loc Cert.WoutIdeal.main_arg0)
      ∧ m' ((c.tc : Thread Cert.WoutReferenceIdeal.nD Cert.WoutReferenceIdeal.τ).loc Cert.WoutReferenceIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutReferenceIdeal.defs (F := Ideal)) (onTc (τ := Cert.WoutReferenceIdeal.τ) (Cert.WoutReferenceIdeal.main (F := Ideal))) ⟨m', fun _ => 0, g'⟩ (fun r => ∀ c : Dev Cert.WoutReferenceIdeal.nD,
          r.2.mem ((c.tc : Thread Cert.WoutReferenceIdeal.nD Cert.WoutReferenceIdeal.τ).loc Cert.WoutReferenceIdeal.main_v7) = v0 c
          ∧ r.2.mem ((c.tc : Thread Cert.WoutReferenceIdeal.nD Cert.WoutReferenceIdeal.τ).loc Cert.WoutReferenceIdeal.main_arg0) = m' ((c.tc : Thread Cert.WoutReferenceIdeal.nD Cert.WoutReferenceIdeal.τ).loc Cert.WoutReferenceIdeal.main_arg0)
          ∧ r.2.mem ((c.tc : Thread Cert.WoutReferenceIdeal.nD Cert.WoutReferenceIdeal.τ).loc Cert.WoutReferenceIdeal.main_arg1) = m' ((c.tc : Thread Cert.WoutReferenceIdeal.nD Cert.WoutReferenceIdeal.τ).loc Cert.WoutReferenceIdeal.main_arg1))

def preserves_Win_WinIdeal : Prop :=
  True

def algebraic_WinIdeal_WinReferenceIdeal [hWinIdeal : Cert.WinIdeal.Facts] [hWinReferenceIdeal : Cert.WinReferenceIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinReferenceIdeal.nD Cert.WinReferenceIdeal.τ Cert.WinReferenceIdeal.sig) → Buf (Elt Ideal) ℓ) (g' : Dev Cert.WinReferenceIdeal.nD → PrngReg), Pre_WinIdeal m →
    (∀ c : Dev Cert.WinIdeal.nD,
      m' ((c.tc : Thread Cert.WinReferenceIdeal.nD Cert.WinReferenceIdeal.τ).loc Cert.WinReferenceIdeal.main_arg0) = m ((c.tc : Thread Cert.WinIdeal.nD Cert.WinIdeal.τ).loc Cert.WinIdeal.main_arg0)
      ∧ m' ((c.tc : Thread Cert.WinReferenceIdeal.nD Cert.WinReferenceIdeal.τ).loc Cert.WinReferenceIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v3)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v3) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinReferenceIdeal.defs (F := Ideal)) (onTc (τ := Cert.WinReferenceIdeal.τ) (Cert.WinReferenceIdeal.main (F := Ideal))) ⟨m', fun _ => 0, g'⟩ (fun r => ∀ c : Dev Cert.WinReferenceIdeal.nD,
          r.2.mem ((c.tc : Thread Cert.WinReferenceIdeal.nD Cert.WinReferenceIdeal.τ).loc Cert.WinReferenceIdeal.main_v8) = v0 c
          ∧ r.2.mem ((c.tc : Thread Cert.WinReferenceIdeal.nD Cert.WinReferenceIdeal.τ).loc Cert.WinReferenceIdeal.main_arg0) = m' ((c.tc : Thread Cert.WinReferenceIdeal.nD Cert.WinReferenceIdeal.τ).loc Cert.WinReferenceIdeal.main_arg0)
          ∧ r.2.mem ((c.tc : Thread Cert.WinReferenceIdeal.nD Cert.WinReferenceIdeal.τ).loc Cert.WinReferenceIdeal.main_arg1) = m' ((c.tc : Thread Cert.WinReferenceIdeal.nD Cert.WinReferenceIdeal.τ).loc Cert.WinReferenceIdeal.main_arg1))

def preserves_Dh_DhIdeal : Prop :=
  True

def algebraic_DhIdeal_DhReferenceIdeal [hDhIdeal : Cert.DhIdeal.Facts] [hDhReferenceIdeal : Cert.DhReferenceIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhReferenceIdeal.nD Cert.DhReferenceIdeal.τ Cert.DhReferenceIdeal.sig) → Buf (Elt Ideal) ℓ) (g' : Dev Cert.DhReferenceIdeal.nD → PrngReg), Pre_DhIdeal m →
    (∀ c : Dev Cert.DhIdeal.nD,
      m' ((c.tc : Thread Cert.DhReferenceIdeal.nD Cert.DhReferenceIdeal.τ).loc Cert.DhReferenceIdeal.main_arg0) = m ((c.tc : Thread Cert.DhIdeal.nD Cert.DhIdeal.τ).loc Cert.DhIdeal.main_arg0)
      ∧ m' ((c.tc : Thread Cert.DhReferenceIdeal.nD Cert.DhReferenceIdeal.τ).loc Cert.DhReferenceIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v6)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v6) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhReferenceIdeal.defs (F := Ideal)) (onTc (τ := Cert.DhReferenceIdeal.τ) (Cert.DhReferenceIdeal.main (F := Ideal))) ⟨m', fun _ => 0, g'⟩ (fun r => ∀ c : Dev Cert.DhReferenceIdeal.nD,
          r.2.mem ((c.tc : Thread Cert.DhReferenceIdeal.nD Cert.DhReferenceIdeal.τ).loc Cert.DhReferenceIdeal.main_v4) = v0 c
          ∧ r.2.mem ((c.tc : Thread Cert.DhReferenceIdeal.nD Cert.DhReferenceIdeal.τ).loc Cert.DhReferenceIdeal.main_arg0) = m' ((c.tc : Thread Cert.DhReferenceIdeal.nD Cert.DhReferenceIdeal.τ).loc Cert.DhReferenceIdeal.main_arg0)
          ∧ r.2.mem ((c.tc : Thread Cert.DhReferenceIdeal.nD Cert.DhReferenceIdeal.τ).loc Cert.DhReferenceIdeal.main_arg1) = m' ((c.tc : Thread Cert.DhReferenceIdeal.nD Cert.DhReferenceIdeal.τ).loc Cert.DhReferenceIdeal.main_arg1))

def preserves_OutW_OutWIdeal : Prop :=
  True

def algebraic_OutWIdeal_OutWReferenceIdeal [hOutWIdeal : Cert.OutWIdeal.Facts] [hOutWReferenceIdeal : Cert.OutWReferenceIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWReferenceIdeal.nD Cert.OutWReferenceIdeal.τ Cert.OutWReferenceIdeal.sig) → Buf (Elt Ideal) ℓ) (g' : Dev Cert.OutWReferenceIdeal.nD → PrngReg), Pre_OutWIdeal m →
    (∀ c : Dev Cert.OutWIdeal.nD,
      m' ((c.tc : Thread Cert.OutWReferenceIdeal.nD Cert.OutWReferenceIdeal.τ).loc Cert.OutWReferenceIdeal.main_arg0) = m ((c.tc : Thread Cert.OutWIdeal.nD Cert.OutWIdeal.τ).loc Cert.OutWIdeal.main_arg0)
      ∧ m' ((c.tc : Thread Cert.OutWReferenceIdeal.nD Cert.OutWReferenceIdeal.τ).loc Cert.OutWReferenceIdeal.main_arg1) = m ((c.tc : Thread Cert.OutWIdeal.nD Cert.OutWIdeal.τ).loc Cert.OutWIdeal.main_arg1)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1))
      ∧ θ_run (Cert.OutWReferenceIdeal.defs (F := Ideal)) (onTc (τ := Cert.OutWReferenceIdeal.τ) (Cert.OutWReferenceIdeal.main (F := Ideal))) ⟨m', fun _ => 0, g'⟩ (fun r => ∀ c : Dev Cert.OutWReferenceIdeal.nD,
          r.2.mem ((c.tc : Thread Cert.OutWReferenceIdeal.nD Cert.OutWReferenceIdeal.τ).loc Cert.OutWReferenceIdeal.main_v7) = v0 c
          ∧ r.2.mem ((c.tc : Thread Cert.OutWReferenceIdeal.nD Cert.OutWReferenceIdeal.τ).loc Cert.OutWReferenceIdeal.main_arg0) = m' ((c.tc : Thread Cert.OutWReferenceIdeal.nD Cert.OutWReferenceIdeal.τ).loc Cert.OutWReferenceIdeal.main_arg0)
          ∧ r.2.mem ((c.tc : Thread Cert.OutWReferenceIdeal.nD Cert.OutWReferenceIdeal.τ).loc Cert.OutWReferenceIdeal.main_arg1) = m' ((c.tc : Thread Cert.OutWReferenceIdeal.nD Cert.OutWReferenceIdeal.τ).loc Cert.OutWReferenceIdeal.main_arg1))

def preserves_OutD_OutDIdeal : Prop :=
  True

def algebraic_OutDIdeal_OutDReferenceIdeal [hOutDIdeal : Cert.OutDIdeal.Facts] [hOutDReferenceIdeal : Cert.OutDReferenceIdeal.Facts] : Prop :=
  ∀ (m : (ℓ : Loc Cert.OutDIdeal.nD Cert.OutDIdeal.τ Cert.OutDIdeal.sig) → Buf (Elt Ideal) ℓ) (g : Dev Cert.OutDIdeal.nD → PrngReg)
    (m' : (ℓ : Loc Cert.OutDReferenceIdeal.nD Cert.OutDReferenceIdeal.τ Cert.OutDReferenceIdeal.sig) → Buf (Elt Ideal) ℓ) (g' : Dev Cert.OutDReferenceIdeal.nD → PrngReg), Pre_OutDIdeal m →
    (∀ c : Dev Cert.OutDIdeal.nD,
      m' ((c.tc : Thread Cert.OutDReferenceIdeal.nD Cert.OutDReferenceIdeal.τ).loc Cert.OutDReferenceIdeal.main_arg0) = m ((c.tc : Thread Cert.OutDIdeal.nD Cert.OutDIdeal.τ).loc Cert.OutDIdeal.main_arg0)
      ∧ m' ((c.tc : Thread Cert.OutDReferenceIdeal.nD Cert.OutDReferenceIdeal.τ).loc Cert.OutDReferenceIdeal.main_arg1) = m ((c.tc : Thread Cert.OutDIdeal.nD Cert.OutDIdeal.τ).loc Cert.OutDIdeal.main_arg1)) →
    ∃ (v0 : (c : Dev Cert.OutDIdeal.nD) → Buf (Elt Ideal) ((c.tc : Thread Cert.OutDIdeal.nD Cert.OutDIdeal.τ).loc Cert.OutDIdeal.main_v2)),
      θ_run (Cert.OutDIdeal.defs (F := Ideal)) (onTc (τ := Cert.OutDIdeal.τ) (Cert.OutDIdeal.main (F := Ideal))) ⟨m, fun _ => 0, g⟩ (fun r => ∀ c : Dev Cert.OutDIdeal.nD,
          r.2.mem ((c.tc : Thread Cert.OutDIdeal.nD Cert.OutDIdeal.τ).loc Cert.OutDIdeal.main_v2) = v0 c
          ∧ r.2.mem ((c.tc : Thread Cert.OutDIdeal.nD Cert.OutDIdeal.τ).loc Cert.OutDIdeal.main_arg0) = m ((c.tc : Thread Cert.OutDIdeal.nD Cert.OutDIdeal.τ).loc Cert.OutDIdeal.main_arg0)
          ∧ r.2.mem ((c.tc : Thread Cert.OutDIdeal.nD Cert.OutDIdeal.τ).loc Cert.OutDIdeal.main_arg1) = m ((c.tc : Thread Cert.OutDIdeal.nD Cert.OutDIdeal.τ).loc Cert.OutDIdeal.main_arg1))
      ∧ θ_run (Cert.OutDReferenceIdeal.defs (F := Ideal)) (onTc (τ := Cert.OutDReferenceIdeal.τ) (Cert.OutDReferenceIdeal.main (F := Ideal))) ⟨m', fun _ => 0, g'⟩ (fun r => ∀ c : Dev Cert.OutDReferenceIdeal.nD,
          r.2.mem ((c.tc : Thread Cert.OutDReferenceIdeal.nD Cert.OutDReferenceIdeal.τ).loc Cert.OutDReferenceIdeal.main_v3) = v0 c
          ∧ r.2.mem ((c.tc : Thread Cert.OutDReferenceIdeal.nD Cert.OutDReferenceIdeal.τ).loc Cert.OutDReferenceIdeal.main_arg0) = m' ((c.tc : Thread Cert.OutDReferenceIdeal.nD Cert.OutDReferenceIdeal.τ).loc Cert.OutDReferenceIdeal.main_arg0)
          ∧ r.2.mem ((c.tc : Thread Cert.OutDReferenceIdeal.nD Cert.OutDReferenceIdeal.τ).loc Cert.OutDReferenceIdeal.main_arg1) = m' ((c.tc : Thread Cert.OutDReferenceIdeal.nD Cert.OutDReferenceIdeal.τ).loc Cert.OutDReferenceIdeal.main_arg1))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v2) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_ProjW_ProjWIdeal : Prop :=
  True

def algebraic_ProjWIdeal_ProjWReferenceIdeal [hProjWIdeal : Cert.ProjWIdeal.Facts] [hProjWReferenceIdeal : Cert.ProjWReferenceIdeal.Facts] : Prop :=
  ∀ (m : (ℓ : Loc Cert.ProjWIdeal.nD Cert.ProjWIdeal.τ Cert.ProjWIdeal.sig) → Buf (Elt Ideal) ℓ) (g : Dev Cert.ProjWIdeal.nD → PrngReg)
    (m' : (ℓ : Loc Cert.ProjWReferenceIdeal.nD Cert.ProjWReferenceIdeal.τ Cert.ProjWReferenceIdeal.sig) → Buf (Elt Ideal) ℓ) (g' : Dev Cert.ProjWReferenceIdeal.nD → PrngReg), Pre_ProjWIdeal m →
    (∀ c : Dev Cert.ProjWIdeal.nD,
      m' ((c.tc : Thread Cert.ProjWReferenceIdeal.nD Cert.ProjWReferenceIdeal.τ).loc Cert.ProjWReferenceIdeal.main_arg0) = m ((c.tc : Thread Cert.ProjWIdeal.nD Cert.ProjWIdeal.τ).loc Cert.ProjWIdeal.main_arg0)
      ∧ m' ((c.tc : Thread Cert.ProjWReferenceIdeal.nD Cert.ProjWReferenceIdeal.τ).loc Cert.ProjWReferenceIdeal.main_arg1) = m ((c.tc : Thread Cert.ProjWIdeal.nD Cert.ProjWIdeal.τ).loc Cert.ProjWIdeal.main_arg1)) →
    ∃ (v0 : (c : Dev Cert.ProjWIdeal.nD) → Buf (Elt Ideal) ((c.tc : Thread Cert.ProjWIdeal.nD Cert.ProjWIdeal.τ).loc Cert.ProjWIdeal.main_v3)),
      θ_run (Cert.ProjWIdeal.defs (F := Ideal)) (onTc (τ := Cert.ProjWIdeal.τ) (Cert.ProjWIdeal.main (F := Ideal))) ⟨m, fun _ => 0, g⟩ (fun r => ∀ c : Dev Cert.ProjWIdeal.nD,
          r.2.mem ((c.tc : Thread Cert.ProjWIdeal.nD Cert.ProjWIdeal.τ).loc Cert.ProjWIdeal.main_v3) = v0 c
          ∧ r.2.mem ((c.tc : Thread Cert.ProjWIdeal.nD Cert.ProjWIdeal.τ).loc Cert.ProjWIdeal.main_arg0) = m ((c.tc : Thread Cert.ProjWIdeal.nD Cert.ProjWIdeal.τ).loc Cert.ProjWIdeal.main_arg0)
          ∧ r.2.mem ((c.tc : Thread Cert.ProjWIdeal.nD Cert.ProjWIdeal.τ).loc Cert.ProjWIdeal.main_arg1) = m ((c.tc : Thread Cert.ProjWIdeal.nD Cert.ProjWIdeal.τ).loc Cert.ProjWIdeal.main_arg1))
      ∧ θ_run (Cert.ProjWReferenceIdeal.defs (F := Ideal)) (onTc (τ := Cert.ProjWReferenceIdeal.τ) (Cert.ProjWReferenceIdeal.main (F := Ideal))) ⟨m', fun _ => 0, g'⟩ (fun r => ∀ c : Dev Cert.ProjWReferenceIdeal.nD,
          r.2.mem ((c.tc : Thread Cert.ProjWReferenceIdeal.nD Cert.ProjWReferenceIdeal.τ).loc Cert.ProjWReferenceIdeal.main_v9) = v0 c
          ∧ r.2.mem ((c.tc : Thread Cert.ProjWReferenceIdeal.nD Cert.ProjWReferenceIdeal.τ).loc Cert.ProjWReferenceIdeal.main_arg0) = m' ((c.tc : Thread Cert.ProjWReferenceIdeal.nD Cert.ProjWReferenceIdeal.τ).loc Cert.ProjWReferenceIdeal.main_arg0)
          ∧ r.2.mem ((c.tc : Thread Cert.ProjWReferenceIdeal.nD Cert.ProjWReferenceIdeal.τ).loc Cert.ProjWReferenceIdeal.main_arg1) = m' ((c.tc : Thread Cert.ProjWReferenceIdeal.nD Cert.ProjWReferenceIdeal.τ).loc Cert.ProjWReferenceIdeal.main_arg1))

def preserves_ProjD_ProjDIdeal : Prop :=
  True

def algebraic_ProjDIdeal_ProjDReferenceIdeal [hProjDIdeal : Cert.ProjDIdeal.Facts] [hProjDReferenceIdeal : Cert.ProjDReferenceIdeal.Facts] : Prop :=
  ∀ (m : (ℓ : Loc Cert.ProjDIdeal.nD Cert.ProjDIdeal.τ Cert.ProjDIdeal.sig) → Buf (Elt Ideal) ℓ) (g : Dev Cert.ProjDIdeal.nD → PrngReg)
    (m' : (ℓ : Loc Cert.ProjDReferenceIdeal.nD Cert.ProjDReferenceIdeal.τ Cert.ProjDReferenceIdeal.sig) → Buf (Elt Ideal) ℓ) (g' : Dev Cert.ProjDReferenceIdeal.nD → PrngReg), Pre_ProjDIdeal m →
    (∀ c : Dev Cert.ProjDIdeal.nD,
      m' ((c.tc : Thread Cert.ProjDReferenceIdeal.nD Cert.ProjDReferenceIdeal.τ).loc Cert.ProjDReferenceIdeal.main_arg0) = m ((c.tc : Thread Cert.ProjDIdeal.nD Cert.ProjDIdeal.τ).loc Cert.ProjDIdeal.main_arg0)
      ∧ m' ((c.tc : Thread Cert.ProjDReferenceIdeal.nD Cert.ProjDReferenceIdeal.τ).loc Cert.ProjDReferenceIdeal.main_arg1) = m ((c.tc : Thread Cert.ProjDIdeal.nD Cert.ProjDIdeal.τ).loc Cert.ProjDIdeal.main_arg1)) →
    ∃ (v0 : (c : Dev Cert.ProjDIdeal.nD) → Buf (Elt Ideal) ((c.tc : Thread Cert.ProjDIdeal.nD Cert.ProjDIdeal.τ).loc Cert.ProjDIdeal.main_v2)),
      θ_run (Cert.ProjDIdeal.defs (F := Ideal)) (onTc (τ := Cert.ProjDIdeal.τ) (Cert.ProjDIdeal.main (F := Ideal))) ⟨m, fun _ => 0, g⟩ (fun r => ∀ c : Dev Cert.ProjDIdeal.nD,
          r.2.mem ((c.tc : Thread Cert.ProjDIdeal.nD Cert.ProjDIdeal.τ).loc Cert.ProjDIdeal.main_v2) = v0 c
          ∧ r.2.mem ((c.tc : Thread Cert.ProjDIdeal.nD Cert.ProjDIdeal.τ).loc Cert.ProjDIdeal.main_arg0) = m ((c.tc : Thread Cert.ProjDIdeal.nD Cert.ProjDIdeal.τ).loc Cert.ProjDIdeal.main_arg0)
          ∧ r.2.mem ((c.tc : Thread Cert.ProjDIdeal.nD Cert.ProjDIdeal.τ).loc Cert.ProjDIdeal.main_arg1) = m ((c.tc : Thread Cert.ProjDIdeal.nD Cert.ProjDIdeal.τ).loc Cert.ProjDIdeal.main_arg1))
      ∧ θ_run (Cert.ProjDReferenceIdeal.defs (F := Ideal)) (onTc (τ := Cert.ProjDReferenceIdeal.τ) (Cert.ProjDReferenceIdeal.main (F := Ideal))) ⟨m', fun _ => 0, g'⟩ (fun r => ∀ c : Dev Cert.ProjDReferenceIdeal.nD,
          r.2.mem ((c.tc : Thread Cert.ProjDReferenceIdeal.nD Cert.ProjDReferenceIdeal.τ).loc Cert.ProjDReferenceIdeal.main_v5) = v0 c
          ∧ r.2.mem ((c.tc : Thread Cert.ProjDReferenceIdeal.nD Cert.ProjDReferenceIdeal.τ).loc Cert.ProjDReferenceIdeal.main_arg0) = m' ((c.tc : Thread Cert.ProjDReferenceIdeal.nD Cert.ProjDReferenceIdeal.τ).loc Cert.ProjDReferenceIdeal.main_arg0)
          ∧ r.2.mem ((c.tc : Thread Cert.ProjDReferenceIdeal.nD Cert.ProjDReferenceIdeal.τ).loc Cert.ProjDReferenceIdeal.main_arg1) = m' ((c.tc : Thread Cert.ProjDReferenceIdeal.nD Cert.ProjDReferenceIdeal.τ).loc Cert.ProjDReferenceIdeal.main_arg1))

def preserves_ConvW_ConvWIdeal : Prop :=
  True

def algebraic_ConvWIdeal_ConvWReferenceIdeal [hConvWIdeal : Cert.ConvWIdeal.Facts] [hConvWReferenceIdeal : Cert.ConvWReferenceIdeal.Facts] : Prop :=
  ∀ (m : (ℓ : Loc Cert.ConvWIdeal.nD Cert.ConvWIdeal.τ Cert.ConvWIdeal.sig) → Buf (Elt Ideal) ℓ) (g : Dev Cert.ConvWIdeal.nD → PrngReg)
    (m' : (ℓ : Loc Cert.ConvWReferenceIdeal.nD Cert.ConvWReferenceIdeal.τ Cert.ConvWReferenceIdeal.sig) → Buf (Elt Ideal) ℓ) (g' : Dev Cert.ConvWReferenceIdeal.nD → PrngReg), Pre_ConvWIdeal m →
    (∀ c : Dev Cert.ConvWIdeal.nD,
      m' ((c.tc : Thread Cert.ConvWReferenceIdeal.nD Cert.ConvWReferenceIdeal.τ).loc Cert.ConvWReferenceIdeal.main_arg0) = m ((c.tc : Thread Cert.ConvWIdeal.nD Cert.ConvWIdeal.τ).loc Cert.ConvWIdeal.main_arg0)
      ∧ m' ((c.tc : Thread Cert.ConvWReferenceIdeal.nD Cert.ConvWReferenceIdeal.τ).loc Cert.ConvWReferenceIdeal.main_arg1) = m ((c.tc : Thread Cert.ConvWIdeal.nD Cert.ConvWIdeal.τ).loc Cert.ConvWIdeal.main_arg1)) →
    ∃ (v0 : (c : Dev Cert.ConvWIdeal.nD) → Buf (Elt Ideal) ((c.tc : Thread Cert.ConvWIdeal.nD Cert.ConvWIdeal.τ).loc Cert.ConvWIdeal.main_v3)),
      θ_run (Cert.ConvWIdeal.defs (F := Ideal)) (onTc (τ := Cert.ConvWIdeal.τ) (Cert.ConvWIdeal.main (F := Ideal))) ⟨m, fun _ => 0, g⟩ (fun r => ∀ c : Dev Cert.ConvWIdeal.nD,
          r.2.mem ((c.tc : Thread Cert.ConvWIdeal.nD Cert.ConvWIdeal.τ).loc Cert.ConvWIdeal.main_v3) = v0 c
          ∧ r.2.mem ((c.tc : Thread Cert.ConvWIdeal.nD Cert.ConvWIdeal.τ).loc Cert.ConvWIdeal.main_arg0) = m ((c.tc : Thread Cert.ConvWIdeal.nD Cert.ConvWIdeal.τ).loc Cert.ConvWIdeal.main_arg0)
          ∧ r.2.mem ((c.tc : Thread Cert.ConvWIdeal.nD Cert.ConvWIdeal.τ).loc Cert.ConvWIdeal.main_arg1) = m ((c.tc : Thread Cert.ConvWIdeal.nD Cert.ConvWIdeal.τ).loc Cert.ConvWIdeal.main_arg1))
      ∧ θ_run (Cert.ConvWReferenceIdeal.defs (F := Ideal)) (onTc (τ := Cert.ConvWReferenceIdeal.τ) (Cert.ConvWReferenceIdeal.main (F := Ideal))) ⟨m', fun _ => 0, g'⟩ (fun r => ∀ c : Dev Cert.ConvWReferenceIdeal.nD,
          r.2.mem ((c.tc : Thread Cert.ConvWReferenceIdeal.nD Cert.ConvWReferenceIdeal.τ).loc Cert.ConvWReferenceIdeal.main_v8) = v0 c
          ∧ r.2.mem ((c.tc : Thread Cert.ConvWReferenceIdeal.nD Cert.ConvWReferenceIdeal.τ).loc Cert.ConvWReferenceIdeal.main_arg0) = m' ((c.tc : Thread Cert.ConvWReferenceIdeal.nD Cert.ConvWReferenceIdeal.τ).loc Cert.ConvWReferenceIdeal.main_arg0)
          ∧ r.2.mem ((c.tc : Thread Cert.ConvWReferenceIdeal.nD Cert.ConvWReferenceIdeal.τ).loc Cert.ConvWReferenceIdeal.main_arg1) = m' ((c.tc : Thread Cert.ConvWReferenceIdeal.nD Cert.ConvWReferenceIdeal.τ).loc Cert.ConvWReferenceIdeal.main_arg1))

def preserves_ConvD_ConvDIdeal : Prop :=
  True

def algebraic_ConvDIdeal_ConvDReferenceIdeal [hConvDIdeal : Cert.ConvDIdeal.Facts] [hConvDReferenceIdeal : Cert.ConvDReferenceIdeal.Facts] : Prop :=
  ∀ (m : (ℓ : Loc Cert.ConvDIdeal.nD Cert.ConvDIdeal.τ Cert.ConvDIdeal.sig) → Buf (Elt Ideal) ℓ) (g : Dev Cert.ConvDIdeal.nD → PrngReg)
    (m' : (ℓ : Loc Cert.ConvDReferenceIdeal.nD Cert.ConvDReferenceIdeal.τ Cert.ConvDReferenceIdeal.sig) → Buf (Elt Ideal) ℓ) (g' : Dev Cert.ConvDReferenceIdeal.nD → PrngReg), Pre_ConvDIdeal m →
    (∀ c : Dev Cert.ConvDIdeal.nD,
      m' ((c.tc : Thread Cert.ConvDReferenceIdeal.nD Cert.ConvDReferenceIdeal.τ).loc Cert.ConvDReferenceIdeal.main_arg0) = m ((c.tc : Thread Cert.ConvDIdeal.nD Cert.ConvDIdeal.τ).loc Cert.ConvDIdeal.main_arg0)
      ∧ m' ((c.tc : Thread Cert.ConvDReferenceIdeal.nD Cert.ConvDReferenceIdeal.τ).loc Cert.ConvDReferenceIdeal.main_arg1) = m ((c.tc : Thread Cert.ConvDIdeal.nD Cert.ConvDIdeal.τ).loc Cert.ConvDIdeal.main_arg1)) →
    ∃ (v0 : (c : Dev Cert.ConvDIdeal.nD) → Buf (Elt Ideal) ((c.tc : Thread Cert.ConvDIdeal.nD Cert.ConvDIdeal.τ).loc Cert.ConvDIdeal.main_v6)),
      θ_run (Cert.ConvDIdeal.defs (F := Ideal)) (onTc (τ := Cert.ConvDIdeal.τ) (Cert.ConvDIdeal.main (F := Ideal))) ⟨m, fun _ => 0, g⟩ (fun r => ∀ c : Dev Cert.ConvDIdeal.nD,
          r.2.mem ((c.tc : Thread Cert.ConvDIdeal.nD Cert.ConvDIdeal.τ).loc Cert.ConvDIdeal.main_v6) = v0 c
          ∧ r.2.mem ((c.tc : Thread Cert.ConvDIdeal.nD Cert.ConvDIdeal.τ).loc Cert.ConvDIdeal.main_arg0) = m ((c.tc : Thread Cert.ConvDIdeal.nD Cert.ConvDIdeal.τ).loc Cert.ConvDIdeal.main_arg0)
          ∧ r.2.mem ((c.tc : Thread Cert.ConvDIdeal.nD Cert.ConvDIdeal.τ).loc Cert.ConvDIdeal.main_arg1) = m ((c.tc : Thread Cert.ConvDIdeal.nD Cert.ConvDIdeal.τ).loc Cert.ConvDIdeal.main_arg1))
      ∧ θ_run (Cert.ConvDReferenceIdeal.defs (F := Ideal)) (onTc (τ := Cert.ConvDReferenceIdeal.τ) (Cert.ConvDReferenceIdeal.main (F := Ideal))) ⟨m', fun _ => 0, g'⟩ (fun r => ∀ c : Dev Cert.ConvDReferenceIdeal.nD,
          r.2.mem ((c.tc : Thread Cert.ConvDReferenceIdeal.nD Cert.ConvDReferenceIdeal.τ).loc Cert.ConvDReferenceIdeal.main_v4) = v0 c
          ∧ r.2.mem ((c.tc : Thread Cert.ConvDReferenceIdeal.nD Cert.ConvDReferenceIdeal.τ).loc Cert.ConvDReferenceIdeal.main_arg0) = m' ((c.tc : Thread Cert.ConvDReferenceIdeal.nD Cert.ConvDReferenceIdeal.τ).loc Cert.ConvDReferenceIdeal.main_arg0)
          ∧ r.2.mem ((c.tc : Thread Cert.ConvDReferenceIdeal.nD Cert.ConvDReferenceIdeal.τ).loc Cert.ConvDReferenceIdeal.main_arg1) = m' ((c.tc : Thread Cert.ConvDReferenceIdeal.nD Cert.ConvDReferenceIdeal.τ).loc Cert.ConvDReferenceIdeal.main_arg1))

def preserves_Pw1_Pw1Ideal : Prop :=
  True

def algebraic_Pw1Ideal_Pw1ReferenceIdeal [hPw1Ideal : Cert.Pw1Ideal.Facts] [hPw1ReferenceIdeal : Cert.Pw1ReferenceIdeal.Facts] : Prop :=
  ∀ (m : (ℓ : Loc Cert.Pw1Ideal.nD Cert.Pw1Ideal.τ Cert.Pw1Ideal.sig) → Buf (Elt Ideal) ℓ) (g : Dev Cert.Pw1Ideal.nD → PrngReg)
    (m' : (ℓ : Loc Cert.Pw1ReferenceIdeal.nD Cert.Pw1ReferenceIdeal.τ Cert.Pw1ReferenceIdeal.sig) → Buf (Elt Ideal) ℓ) (g' : Dev Cert.Pw1ReferenceIdeal.nD → PrngReg), Pre_Pw1Ideal m →
    (∀ c : Dev Cert.Pw1Ideal.nD,
      m' ((c.tc : Thread Cert.Pw1ReferenceIdeal.nD Cert.Pw1ReferenceIdeal.τ).loc Cert.Pw1ReferenceIdeal.main_arg0) = m ((c.tc : Thread Cert.Pw1Ideal.nD Cert.Pw1Ideal.τ).loc Cert.Pw1Ideal.main_arg0)
      ∧ m' ((c.tc : Thread Cert.Pw1ReferenceIdeal.nD Cert.Pw1ReferenceIdeal.τ).loc Cert.Pw1ReferenceIdeal.main_arg1) = m ((c.tc : Thread Cert.Pw1Ideal.nD Cert.Pw1Ideal.τ).loc Cert.Pw1Ideal.main_arg1)
      ∧ m' ((c.tc : Thread Cert.Pw1ReferenceIdeal.nD Cert.Pw1ReferenceIdeal.τ).loc Cert.Pw1ReferenceIdeal.main_arg2) = m ((c.tc : Thread Cert.Pw1Ideal.nD Cert.Pw1Ideal.τ).loc Cert.Pw1Ideal.main_arg2)) →
    ∃ (v0 : (c : Dev Cert.Pw1Ideal.nD) → Buf (Elt Ideal) ((c.tc : Thread Cert.Pw1Ideal.nD Cert.Pw1Ideal.τ).loc Cert.Pw1Ideal.main_v7_0)) (v1 : (c : Dev Cert.Pw1Ideal.nD) → Buf (Elt Ideal) ((c.tc : Thread Cert.Pw1Ideal.nD Cert.Pw1Ideal.τ).loc Cert.Pw1Ideal.main_v7_1)),
      θ_run (Cert.Pw1Ideal.defs (F := Ideal)) (onTc (τ := Cert.Pw1Ideal.τ) (Cert.Pw1Ideal.main (F := Ideal))) ⟨m, fun _ => 0, g⟩ (fun r => ∀ c : Dev Cert.Pw1Ideal.nD,
          r.2.mem ((c.tc : Thread Cert.Pw1Ideal.nD Cert.Pw1Ideal.τ).loc Cert.Pw1Ideal.main_v7_0) = v0 c
          ∧ r.2.mem ((c.tc : Thread Cert.Pw1Ideal.nD Cert.Pw1Ideal.τ).loc Cert.Pw1Ideal.main_v7_1) = v1 c
          ∧ r.2.mem ((c.tc : Thread Cert.Pw1Ideal.nD Cert.Pw1Ideal.τ).loc Cert.Pw1Ideal.main_arg0) = m ((c.tc : Thread Cert.Pw1Ideal.nD Cert.Pw1Ideal.τ).loc Cert.Pw1Ideal.main_arg0)
          ∧ r.2.mem ((c.tc : Thread Cert.Pw1Ideal.nD Cert.Pw1Ideal.τ).loc Cert.Pw1Ideal.main_arg1) = m ((c.tc : Thread Cert.Pw1Ideal.nD Cert.Pw1Ideal.τ).loc Cert.Pw1Ideal.main_arg1)
          ∧ r.2.mem ((c.tc : Thread Cert.Pw1Ideal.nD Cert.Pw1Ideal.τ).loc Cert.Pw1Ideal.main_arg2) = m ((c.tc : Thread Cert.Pw1Ideal.nD Cert.Pw1Ideal.τ).loc Cert.Pw1Ideal.main_arg2))
      ∧ θ_run (Cert.Pw1ReferenceIdeal.defs (F := Ideal)) (onTc (τ := Cert.Pw1ReferenceIdeal.τ) (Cert.Pw1ReferenceIdeal.main (F := Ideal))) ⟨m', fun _ => 0, g'⟩ (fun r => ∀ c : Dev Cert.Pw1ReferenceIdeal.nD,
          r.2.mem ((c.tc : Thread Cert.Pw1ReferenceIdeal.nD Cert.Pw1ReferenceIdeal.τ).loc Cert.Pw1ReferenceIdeal.main_v10) = v0 c
          ∧ r.2.mem ((c.tc : Thread Cert.Pw1ReferenceIdeal.nD Cert.Pw1ReferenceIdeal.τ).loc Cert.Pw1ReferenceIdeal.main_v17) = v1 c
          ∧ r.2.mem ((c.tc : Thread Cert.Pw1ReferenceIdeal.nD Cert.Pw1ReferenceIdeal.τ).loc Cert.Pw1ReferenceIdeal.main_arg0) = m' ((c.tc : Thread Cert.Pw1ReferenceIdeal.nD Cert.Pw1ReferenceIdeal.τ).loc Cert.Pw1ReferenceIdeal.main_arg0)
          ∧ r.2.mem ((c.tc : Thread Cert.Pw1ReferenceIdeal.nD Cert.Pw1ReferenceIdeal.τ).loc Cert.Pw1ReferenceIdeal.main_arg1) = m' ((c.tc : Thread Cert.Pw1ReferenceIdeal.nD Cert.Pw1ReferenceIdeal.τ).loc Cert.Pw1ReferenceIdeal.main_arg1)
          ∧ r.2.mem ((c.tc : Thread Cert.Pw1ReferenceIdeal.nD Cert.Pw1ReferenceIdeal.τ).loc Cert.Pw1ReferenceIdeal.main_arg2) = m' ((c.tc : Thread Cert.Pw1ReferenceIdeal.nD Cert.Pw1ReferenceIdeal.τ).loc Cert.Pw1ReferenceIdeal.main_arg2))

def preserves_FfnPost_FfnPostIdeal : Prop :=
  True

def algebraic_FfnPostIdeal_FfnPostReferenceIdeal [hFfnPostIdeal : Cert.FfnPostIdeal.Facts] [hFfnPostReferenceIdeal : Cert.FfnPostReferenceIdeal.Facts] : Prop :=
  ∀ (m : (ℓ : Loc Cert.FfnPostIdeal.nD Cert.FfnPostIdeal.τ Cert.FfnPostIdeal.sig) → Buf (Elt Ideal) ℓ) (g : Dev Cert.FfnPostIdeal.nD → PrngReg)
    (m' : (ℓ : Loc Cert.FfnPostReferenceIdeal.nD Cert.FfnPostReferenceIdeal.τ Cert.FfnPostReferenceIdeal.sig) → Buf (Elt Ideal) ℓ) (g' : Dev Cert.FfnPostReferenceIdeal.nD → PrngReg), Pre_FfnPostIdeal m →
    (∀ c : Dev Cert.FfnPostIdeal.nD,
      m' ((c.tc : Thread Cert.FfnPostReferenceIdeal.nD Cert.FfnPostReferenceIdeal.τ).loc Cert.FfnPostReferenceIdeal.main_arg0) = m ((c.tc : Thread Cert.FfnPostIdeal.nD Cert.FfnPostIdeal.τ).loc Cert.FfnPostIdeal.main_arg0)
      ∧ m' ((c.tc : Thread Cert.FfnPostReferenceIdeal.nD Cert.FfnPostReferenceIdeal.τ).loc Cert.FfnPostReferenceIdeal.main_arg1) = m ((c.tc : Thread Cert.FfnPostIdeal.nD Cert.FfnPostIdeal.τ).loc Cert.FfnPostIdeal.main_arg1)
      ∧ m' ((c.tc : Thread Cert.FfnPostReferenceIdeal.nD Cert.FfnPostReferenceIdeal.τ).loc Cert.FfnPostReferenceIdeal.main_arg2) = m ((c.tc : Thread Cert.FfnPostIdeal.nD Cert.FfnPostIdeal.τ).loc Cert.FfnPostIdeal.main_arg2)
      ∧ m' ((c.tc : Thread Cert.FfnPostReferenceIdeal.nD Cert.FfnPostReferenceIdeal.τ).loc Cert.FfnPostReferenceIdeal.main_arg3) = m ((c.tc : Thread Cert.FfnPostIdeal.nD Cert.FfnPostIdeal.τ).loc Cert.FfnPostIdeal.main_arg3)
      ∧ m' ((c.tc : Thread Cert.FfnPostReferenceIdeal.nD Cert.FfnPostReferenceIdeal.τ).loc Cert.FfnPostReferenceIdeal.main_arg4) = m ((c.tc : Thread Cert.FfnPostIdeal.nD Cert.FfnPostIdeal.τ).loc Cert.FfnPostIdeal.main_arg4)
      ∧ m' ((c.tc : Thread Cert.FfnPostReferenceIdeal.nD Cert.FfnPostReferenceIdeal.τ).loc Cert.FfnPostReferenceIdeal.main_arg5) = m ((c.tc : Thread Cert.FfnPostIdeal.nD Cert.FfnPostIdeal.τ).loc Cert.FfnPostIdeal.main_arg5)
      ∧ m' ((c.tc : Thread Cert.FfnPostReferenceIdeal.nD Cert.FfnPostReferenceIdeal.τ).loc Cert.FfnPostReferenceIdeal.main_arg6) = m ((c.tc : Thread Cert.FfnPostIdeal.nD Cert.FfnPostIdeal.τ).loc Cert.FfnPostIdeal.main_arg6)
      ∧ m' ((c.tc : Thread Cert.FfnPostReferenceIdeal.nD Cert.FfnPostReferenceIdeal.τ).loc Cert.FfnPostReferenceIdeal.main_arg7) = m ((c.tc : Thread Cert.FfnPostIdeal.nD Cert.FfnPostIdeal.τ).loc Cert.FfnPostIdeal.main_arg7)) →
    ∃ (v0 : (c : Dev Cert.FfnPostIdeal.nD) → Buf (Elt Ideal) ((c.tc : Thread Cert.FfnPostIdeal.nD Cert.FfnPostIdeal.τ).loc Cert.FfnPostIdeal.main_v8_0)) (v1 : (c : Dev Cert.FfnPostIdeal.nD) → Buf (Elt Ideal) ((c.tc : Thread Cert.FfnPostIdeal.nD Cert.FfnPostIdeal.τ).loc Cert.FfnPostIdeal.main_v8_1)) (v2 : (c : Dev Cert.FfnPostIdeal.nD) → Buf (Elt Ideal) ((c.tc : Thread Cert.FfnPostIdeal.nD Cert.FfnPostIdeal.τ).loc Cert.FfnPostIdeal.main_v8_2)),
      θ_run (Cert.FfnPostIdeal.defs (F := Ideal)) (onTc (τ := Cert.FfnPostIdeal.τ) (Cert.FfnPostIdeal.main (F := Ideal))) ⟨m, fun _ => 0, g⟩ (fun r => ∀ c : Dev Cert.FfnPostIdeal.nD,
          r.2.mem ((c.tc : Thread Cert.FfnPostIdeal.nD Cert.FfnPostIdeal.τ).loc Cert.FfnPostIdeal.main_v8_0) = v0 c
          ∧ r.2.mem ((c.tc : Thread Cert.FfnPostIdeal.nD Cert.FfnPostIdeal.τ).loc Cert.FfnPostIdeal.main_v8_1) = v1 c
          ∧ r.2.mem ((c.tc : Thread Cert.FfnPostIdeal.nD Cert.FfnPostIdeal.τ).loc Cert.FfnPostIdeal.main_v8_2) = v2 c
          ∧ r.2.mem ((c.tc : Thread Cert.FfnPostIdeal.nD Cert.FfnPostIdeal.τ).loc Cert.FfnPostIdeal.main_arg0) = m ((c.tc : Thread Cert.FfnPostIdeal.nD Cert.FfnPostIdeal.τ).loc Cert.FfnPostIdeal.main_arg0)
          ∧ r.2.mem ((c.tc : Thread Cert.FfnPostIdeal.nD Cert.FfnPostIdeal.τ).loc Cert.FfnPostIdeal.main_arg1) = m ((c.tc : Thread Cert.FfnPostIdeal.nD Cert.FfnPostIdeal.τ).loc Cert.FfnPostIdeal.main_arg1)
          ∧ r.2.mem ((c.tc : Thread Cert.FfnPostIdeal.nD Cert.FfnPostIdeal.τ).loc Cert.FfnPostIdeal.main_arg2) = m ((c.tc : Thread Cert.FfnPostIdeal.nD Cert.FfnPostIdeal.τ).loc Cert.FfnPostIdeal.main_arg2)
          ∧ r.2.mem ((c.tc : Thread Cert.FfnPostIdeal.nD Cert.FfnPostIdeal.τ).loc Cert.FfnPostIdeal.main_arg3) = m ((c.tc : Thread Cert.FfnPostIdeal.nD Cert.FfnPostIdeal.τ).loc Cert.FfnPostIdeal.main_arg3)
          ∧ r.2.mem ((c.tc : Thread Cert.FfnPostIdeal.nD Cert.FfnPostIdeal.τ).loc Cert.FfnPostIdeal.main_arg4) = m ((c.tc : Thread Cert.FfnPostIdeal.nD Cert.FfnPostIdeal.τ).loc Cert.FfnPostIdeal.main_arg4)
          ∧ r.2.mem ((c.tc : Thread Cert.FfnPostIdeal.nD Cert.FfnPostIdeal.τ).loc Cert.FfnPostIdeal.main_arg5) = m ((c.tc : Thread Cert.FfnPostIdeal.nD Cert.FfnPostIdeal.τ).loc Cert.FfnPostIdeal.main_arg5)
          ∧ r.2.mem ((c.tc : Thread Cert.FfnPostIdeal.nD Cert.FfnPostIdeal.τ).loc Cert.FfnPostIdeal.main_arg6) = m ((c.tc : Thread Cert.FfnPostIdeal.nD Cert.FfnPostIdeal.τ).loc Cert.FfnPostIdeal.main_arg6)
          ∧ r.2.mem ((c.tc : Thread Cert.FfnPostIdeal.nD Cert.FfnPostIdeal.τ).loc Cert.FfnPostIdeal.main_arg7) = m ((c.tc : Thread Cert.FfnPostIdeal.nD Cert.FfnPostIdeal.τ).loc Cert.FfnPostIdeal.main_arg7))
      ∧ θ_run (Cert.FfnPostReferenceIdeal.defs (F := Ideal)) (onTc (τ := Cert.FfnPostReferenceIdeal.τ) (Cert.FfnPostReferenceIdeal.main (F := Ideal))) ⟨m', fun _ => 0, g'⟩ (fun r => ∀ c : Dev Cert.FfnPostReferenceIdeal.nD,
          r.2.mem ((c.tc : Thread Cert.FfnPostReferenceIdeal.nD Cert.FfnPostReferenceIdeal.τ).loc Cert.FfnPostReferenceIdeal.main_v18) = v0 c
          ∧ r.2.mem ((c.tc : Thread Cert.FfnPostReferenceIdeal.nD Cert.FfnPostReferenceIdeal.τ).loc Cert.FfnPostReferenceIdeal.main_v17) = v1 c
          ∧ r.2.mem ((c.tc : Thread Cert.FfnPostReferenceIdeal.nD Cert.FfnPostReferenceIdeal.τ).loc Cert.FfnPostReferenceIdeal.main_v38) = v2 c
          ∧ r.2.mem ((c.tc : Thread Cert.FfnPostReferenceIdeal.nD Cert.FfnPostReferenceIdeal.τ).loc Cert.FfnPostReferenceIdeal.main_arg0) = m' ((c.tc : Thread Cert.FfnPostReferenceIdeal.nD Cert.FfnPostReferenceIdeal.τ).loc Cert.FfnPostReferenceIdeal.main_arg0)
          ∧ r.2.mem ((c.tc : Thread Cert.FfnPostReferenceIdeal.nD Cert.FfnPostReferenceIdeal.τ).loc Cert.FfnPostReferenceIdeal.main_arg1) = m' ((c.tc : Thread Cert.FfnPostReferenceIdeal.nD Cert.FfnPostReferenceIdeal.τ).loc Cert.FfnPostReferenceIdeal.main_arg1)
          ∧ r.2.mem ((c.tc : Thread Cert.FfnPostReferenceIdeal.nD Cert.FfnPostReferenceIdeal.τ).loc Cert.FfnPostReferenceIdeal.main_arg2) = m' ((c.tc : Thread Cert.FfnPostReferenceIdeal.nD Cert.FfnPostReferenceIdeal.τ).loc Cert.FfnPostReferenceIdeal.main_arg2)
          ∧ r.2.mem ((c.tc : Thread Cert.FfnPostReferenceIdeal.nD Cert.FfnPostReferenceIdeal.τ).loc Cert.FfnPostReferenceIdeal.main_arg3) = m' ((c.tc : Thread Cert.FfnPostReferenceIdeal.nD Cert.FfnPostReferenceIdeal.τ).loc Cert.FfnPostReferenceIdeal.main_arg3)
          ∧ r.2.mem ((c.tc : Thread Cert.FfnPostReferenceIdeal.nD Cert.FfnPostReferenceIdeal.τ).loc Cert.FfnPostReferenceIdeal.main_arg4) = m' ((c.tc : Thread Cert.FfnPostReferenceIdeal.nD Cert.FfnPostReferenceIdeal.τ).loc Cert.FfnPostReferenceIdeal.main_arg4)
          ∧ r.2.mem ((c.tc : Thread Cert.FfnPostReferenceIdeal.nD Cert.FfnPostReferenceIdeal.τ).loc Cert.FfnPostReferenceIdeal.main_arg5) = m' ((c.tc : Thread Cert.FfnPostReferenceIdeal.nD Cert.FfnPostReferenceIdeal.τ).loc Cert.FfnPostReferenceIdeal.main_arg5)
          ∧ r.2.mem ((c.tc : Thread Cert.FfnPostReferenceIdeal.nD Cert.FfnPostReferenceIdeal.τ).loc Cert.FfnPostReferenceIdeal.main_arg6) = m' ((c.tc : Thread Cert.FfnPostReferenceIdeal.nD Cert.FfnPostReferenceIdeal.τ).loc Cert.FfnPostReferenceIdeal.main_arg6)
          ∧ r.2.mem ((c.tc : Thread Cert.FfnPostReferenceIdeal.nD Cert.FfnPostReferenceIdeal.τ).loc Cert.FfnPostReferenceIdeal.main_arg7) = m' ((c.tc : Thread Cert.FfnPostReferenceIdeal.nD Cert.FfnPostReferenceIdeal.τ).loc Cert.FfnPostReferenceIdeal.main_arg7))

def preserves_LastPost_LastPostIdeal : Prop :=
  True

def algebraic_LastPostIdeal_LastPostReferenceIdeal [hLastPostIdeal : Cert.LastPostIdeal.Facts] [hLastPostReferenceIdeal : Cert.LastPostReferenceIdeal.Facts] : Prop :=
  ∀ (m : (ℓ : Loc Cert.LastPostIdeal.nD Cert.LastPostIdeal.τ Cert.LastPostIdeal.sig) → Buf (Elt Ideal) ℓ) (g : Dev Cert.LastPostIdeal.nD → PrngReg)
    (m' : (ℓ : Loc Cert.LastPostReferenceIdeal.nD Cert.LastPostReferenceIdeal.τ Cert.LastPostReferenceIdeal.sig) → Buf (Elt Ideal) ℓ) (g' : Dev Cert.LastPostReferenceIdeal.nD → PrngReg), Pre_LastPostIdeal m →
    (∀ c : Dev Cert.LastPostIdeal.nD,
      m' ((c.tc : Thread Cert.LastPostReferenceIdeal.nD Cert.LastPostReferenceIdeal.τ).loc Cert.LastPostReferenceIdeal.main_arg0) = m ((c.tc : Thread Cert.LastPostIdeal.nD Cert.LastPostIdeal.τ).loc Cert.LastPostIdeal.main_arg0)
      ∧ m' ((c.tc : Thread Cert.LastPostReferenceIdeal.nD Cert.LastPostReferenceIdeal.τ).loc Cert.LastPostReferenceIdeal.main_arg1) = m ((c.tc : Thread Cert.LastPostIdeal.nD Cert.LastPostIdeal.τ).loc Cert.LastPostIdeal.main_arg1)
      ∧ m' ((c.tc : Thread Cert.LastPostReferenceIdeal.nD Cert.LastPostReferenceIdeal.τ).loc Cert.LastPostReferenceIdeal.main_arg2) = m ((c.tc : Thread Cert.LastPostIdeal.nD Cert.LastPostIdeal.τ).loc Cert.LastPostIdeal.main_arg2)
      ∧ m' ((c.tc : Thread Cert.LastPostReferenceIdeal.nD Cert.LastPostReferenceIdeal.τ).loc Cert.LastPostReferenceIdeal.main_arg3) = m ((c.tc : Thread Cert.LastPostIdeal.nD Cert.LastPostIdeal.τ).loc Cert.LastPostIdeal.main_arg3)
      ∧ m' ((c.tc : Thread Cert.LastPostReferenceIdeal.nD Cert.LastPostReferenceIdeal.τ).loc Cert.LastPostReferenceIdeal.main_arg4) = m ((c.tc : Thread Cert.LastPostIdeal.nD Cert.LastPostIdeal.τ).loc Cert.LastPostIdeal.main_arg4)) →
    ∃ (v0 : (c : Dev Cert.LastPostIdeal.nD) → Buf (Elt Ideal) ((c.tc : Thread Cert.LastPostIdeal.nD Cert.LastPostIdeal.τ).loc Cert.LastPostIdeal.main_v4_0)) (v1 : (c : Dev Cert.LastPostIdeal.nD) → Buf (Elt Ideal) ((c.tc : Thread Cert.LastPostIdeal.nD Cert.LastPostIdeal.τ).loc Cert.LastPostIdeal.main_v4_1)),
      θ_run (Cert.LastPostIdeal.defs (F := Ideal)) (onTc (τ := Cert.LastPostIdeal.τ) (Cert.LastPostIdeal.main (F := Ideal))) ⟨m, fun _ => 0, g⟩ (fun r => ∀ c : Dev Cert.LastPostIdeal.nD,
          r.2.mem ((c.tc : Thread Cert.LastPostIdeal.nD Cert.LastPostIdeal.τ).loc Cert.LastPostIdeal.main_v4_0) = v0 c
          ∧ r.2.mem ((c.tc : Thread Cert.LastPostIdeal.nD Cert.LastPostIdeal.τ).loc Cert.LastPostIdeal.main_v4_1) = v1 c
          ∧ r.2.mem ((c.tc : Thread Cert.LastPostIdeal.nD Cert.LastPostIdeal.τ).loc Cert.LastPostIdeal.main_arg0) = m ((c.tc : Thread Cert.LastPostIdeal.nD Cert.LastPostIdeal.τ).loc Cert.LastPostIdeal.main_arg0)
          ∧ r.2.mem ((c.tc : Thread Cert.LastPostIdeal.nD Cert.LastPostIdeal.τ).loc Cert.LastPostIdeal.main_arg1) = m ((c.tc : Thread Cert.LastPostIdeal.nD Cert.LastPostIdeal.τ).loc Cert.LastPostIdeal.main_arg1)
          ∧ r.2.mem ((c.tc : Thread Cert.LastPostIdeal.nD Cert.LastPostIdeal.τ).loc Cert.LastPostIdeal.main_arg2) = m ((c.tc : Thread Cert.LastPostIdeal.nD Cert.LastPostIdeal.τ).loc Cert.LastPostIdeal.main_arg2)
          ∧ r.2.mem ((c.tc : Thread Cert.LastPostIdeal.nD Cert.LastPostIdeal.τ).loc Cert.LastPostIdeal.main_arg3) = m ((c.tc : Thread Cert.LastPostIdeal.nD Cert.LastPostIdeal.τ).loc Cert.LastPostIdeal.main_arg3)
          ∧ r.2.mem ((c.tc : Thread Cert.LastPostIdeal.nD Cert.LastPostIdeal.τ).loc Cert.LastPostIdeal.main_arg4) = m ((c.tc : Thread Cert.LastPostIdeal.nD Cert.LastPostIdeal.τ).loc Cert.LastPostIdeal.main_arg4))
      ∧ θ_run (Cert.LastPostReferenceIdeal.defs (F := Ideal)) (onTc (τ := Cert.LastPostReferenceIdeal.τ) (Cert.LastPostReferenceIdeal.main (F := Ideal))) ⟨m', fun _ => 0, g'⟩ (fun r => ∀ c : Dev Cert.LastPostReferenceIdeal.nD,
          r.2.mem ((c.tc : Thread Cert.LastPostReferenceIdeal.nD Cert.LastPostReferenceIdeal.τ).loc Cert.LastPostReferenceIdeal.main_v2) = v0 c
          ∧ r.2.mem ((c.tc : Thread Cert.LastPostReferenceIdeal.nD Cert.LastPostReferenceIdeal.τ).loc Cert.LastPostReferenceIdeal.main_v18) = v1 c
          ∧ r.2.mem ((c.tc : Thread Cert.LastPostReferenceIdeal.nD Cert.LastPostReferenceIdeal.τ).loc Cert.LastPostReferenceIdeal.main_arg0) = m' ((c.tc : Thread Cert.LastPostReferenceIdeal.nD Cert.LastPostReferenceIdeal.τ).loc Cert.LastPostReferenceIdeal.main_arg0)
          ∧ r.2.mem ((c.tc : Thread Cert.LastPostReferenceIdeal.nD Cert.LastPostReferenceIdeal.τ).loc Cert.LastPostReferenceIdeal.main_arg1) = m' ((c.tc : Thread Cert.LastPostReferenceIdeal.nD Cert.LastPostReferenceIdeal.τ).loc Cert.LastPostReferenceIdeal.main_arg1)
          ∧ r.2.mem ((c.tc : Thread Cert.LastPostReferenceIdeal.nD Cert.LastPostReferenceIdeal.τ).loc Cert.LastPostReferenceIdeal.main_arg2) = m' ((c.tc : Thread Cert.LastPostReferenceIdeal.nD Cert.LastPostReferenceIdeal.τ).loc Cert.LastPostReferenceIdeal.main_arg2)
          ∧ r.2.mem ((c.tc : Thread Cert.LastPostReferenceIdeal.nD Cert.LastPostReferenceIdeal.τ).loc Cert.LastPostReferenceIdeal.main_arg3) = m' ((c.tc : Thread Cert.LastPostReferenceIdeal.nD Cert.LastPostReferenceIdeal.τ).loc Cert.LastPostReferenceIdeal.main_arg3)
          ∧ r.2.mem ((c.tc : Thread Cert.LastPostReferenceIdeal.nD Cert.LastPostReferenceIdeal.τ).loc Cert.LastPostReferenceIdeal.main_arg4) = m' ((c.tc : Thread Cert.LastPostReferenceIdeal.nD Cert.LastPostReferenceIdeal.τ).loc Cert.LastPostReferenceIdeal.main_arg4))

def preserves_GlaPost_GlaPostIdeal : Prop :=
  True

def algebraic_GlaPostIdeal_GlaPostReferenceIdeal [hGlaPostIdeal : Cert.GlaPostIdeal.Facts] [hGlaPostReferenceIdeal : Cert.GlaPostReferenceIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostReferenceIdeal.nD Cert.GlaPostReferenceIdeal.τ Cert.GlaPostReferenceIdeal.sig) → Buf (Elt Ideal) ℓ) (g' : Dev Cert.GlaPostReferenceIdeal.nD → PrngReg), Pre_GlaPostIdeal m →
    (∀ c : Dev Cert.GlaPostIdeal.nD,
      m' ((c.tc : Thread Cert.GlaPostReferenceIdeal.nD Cert.GlaPostReferenceIdeal.τ).loc Cert.GlaPostReferenceIdeal.main_arg0) = m ((c.tc : Thread Cert.GlaPostIdeal.nD Cert.GlaPostIdeal.τ).loc Cert.GlaPostIdeal.main_arg0)
      ∧ m' ((c.tc : Thread Cert.GlaPostReferenceIdeal.nD Cert.GlaPostReferenceIdeal.τ).loc Cert.GlaPostReferenceIdeal.main_arg1) = m ((c.tc : Thread Cert.GlaPostIdeal.nD Cert.GlaPostIdeal.τ).loc Cert.GlaPostIdeal.main_arg1)
      ∧ m' ((c.tc : Thread Cert.GlaPostReferenceIdeal.nD Cert.GlaPostReferenceIdeal.τ).loc Cert.GlaPostReferenceIdeal.main_arg2) = m ((c.tc : Thread Cert.GlaPostIdeal.nD Cert.GlaPostIdeal.τ).loc Cert.GlaPostIdeal.main_arg2)
      ∧ m' ((c.tc : Thread Cert.GlaPostReferenceIdeal.nD Cert.GlaPostReferenceIdeal.τ).loc Cert.GlaPostReferenceIdeal.main_arg3) = m ((c.tc : Thread Cert.GlaPostIdeal.nD Cert.GlaPostIdeal.τ).loc Cert.GlaPostIdeal.main_arg3)
      ∧ m' ((c.tc : Thread Cert.GlaPostReferenceIdeal.nD Cert.GlaPostReferenceIdeal.τ).loc Cert.GlaPostReferenceIdeal.main_arg4) = m ((c.tc : Thread Cert.GlaPostIdeal.nD Cert.GlaPostIdeal.τ).loc Cert.GlaPostIdeal.main_arg4)
      ∧ m' ((c.tc : Thread Cert.GlaPostReferenceIdeal.nD Cert.GlaPostReferenceIdeal.τ).loc Cert.GlaPostReferenceIdeal.main_arg5) = m ((c.tc : Thread Cert.GlaPostIdeal.nD Cert.GlaPostIdeal.τ).loc Cert.GlaPostIdeal.main_arg5)
      ∧ m' ((c.tc : Thread Cert.GlaPostReferenceIdeal.nD Cert.GlaPostReferenceIdeal.τ).loc Cert.GlaPostReferenceIdeal.main_arg6) = m ((c.tc : Thread Cert.GlaPostIdeal.nD Cert.GlaPostIdeal.τ).loc Cert.GlaPostIdeal.main_arg6)
      ∧ m' ((c.tc : Thread Cert.GlaPostReferenceIdeal.nD Cert.GlaPostReferenceIdeal.τ).loc Cert.GlaPostReferenceIdeal.main_arg7) = m ((c.tc : Thread Cert.GlaPostIdeal.nD Cert.GlaPostIdeal.τ).loc Cert.GlaPostIdeal.main_arg7)) →
    ∃ (v0 : (c : Dev Cert.GlaPostIdeal.nD) → Buf (Elt Ideal) ((c.tc : Thread Cert.GlaPostIdeal.nD Cert.GlaPostIdeal.τ).loc Cert.GlaPostIdeal.main_v8_0)) (v1 : (c : Dev Cert.GlaPostIdeal.nD) → Buf (Elt Ideal) ((c.tc : Thread Cert.GlaPostIdeal.nD Cert.GlaPostIdeal.τ).loc Cert.GlaPostIdeal.main_v8_1)) (v2 : (c : Dev Cert.GlaPostIdeal.nD) → Buf (Elt Ideal) ((c.tc : Thread Cert.GlaPostIdeal.nD Cert.GlaPostIdeal.τ).loc Cert.GlaPostIdeal.main_v8_2)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v8_0) = v0 c
          ∧ r.2.mem ((c.tc : Thread Cert.GlaPostIdeal.nD Cert.GlaPostIdeal.τ).loc Cert.GlaPostIdeal.main_v8_1) = v1 c
          ∧ r.2.mem ((c.tc : Thread Cert.GlaPostIdeal.nD Cert.GlaPostIdeal.τ).loc Cert.GlaPostIdeal.main_v8_2) = v2 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
          ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3)
          ∧ r.2.mem ((c.tc : Thread Cert.GlaPostIdeal.nD Cert.GlaPostIdeal.τ).loc Cert.GlaPostIdeal.main_arg4) = m ((c.tc : Thread Cert.GlaPostIdeal.nD Cert.GlaPostIdeal.τ).loc Cert.GlaPostIdeal.main_arg4)
          ∧ r.2.mem ((c.tc : Thread Cert.GlaPostIdeal.nD Cert.GlaPostIdeal.τ).loc Cert.GlaPostIdeal.main_arg5) = m ((c.tc : Thread Cert.GlaPostIdeal.nD Cert.GlaPostIdeal.τ).loc Cert.GlaPostIdeal.main_arg5)
          ∧ r.2.mem ((c.tc : Thread Cert.GlaPostIdeal.nD Cert.GlaPostIdeal.τ).loc Cert.GlaPostIdeal.main_arg6) = m ((c.tc : Thread Cert.GlaPostIdeal.nD Cert.GlaPostIdeal.τ).loc Cert.GlaPostIdeal.main_arg6)
          ∧ r.2.mem ((c.tc : Thread Cert.GlaPostIdeal.nD Cert.GlaPostIdeal.τ).loc Cert.GlaPostIdeal.main_arg7) = m ((c.tc : Thread Cert.GlaPostIdeal.nD Cert.GlaPostIdeal.τ).loc Cert.GlaPostIdeal.main_arg7))
      ∧ θ_run (Cert.GlaPostReferenceIdeal.defs (F := Ideal)) (onTc (τ := Cert.GlaPostReferenceIdeal.τ) (Cert.GlaPostReferenceIdeal.main (F := Ideal))) ⟨m', fun _ => 0, g'⟩ (fun r => ∀ c : Dev Cert.GlaPostReferenceIdeal.nD,
          r.2.mem ((c.tc : Thread Cert.GlaPostReferenceIdeal.nD Cert.GlaPostReferenceIdeal.τ).loc Cert.GlaPostReferenceIdeal.main_v18) = v0 c
          ∧ r.2.mem ((c.tc : Thread Cert.GlaPostReferenceIdeal.nD Cert.GlaPostReferenceIdeal.τ).loc Cert.GlaPostReferenceIdeal.main_v17) = v1 c
          ∧ r.2.mem ((c.tc : Thread Cert.GlaPostReferenceIdeal.nD Cert.GlaPostReferenceIdeal.τ).loc Cert.GlaPostReferenceIdeal.main_v38) = v2 c
          ∧ r.2.mem ((c.tc : Thread Cert.GlaPostReferenceIdeal.nD Cert.GlaPostReferenceIdeal.τ).loc Cert.GlaPostReferenceIdeal.main_arg0) = m' ((c.tc : Thread Cert.GlaPostReferenceIdeal.nD Cert.GlaPostReferenceIdeal.τ).loc Cert.GlaPostReferenceIdeal.main_arg0)
          ∧ r.2.mem ((c.tc : Thread Cert.GlaPostReferenceIdeal.nD Cert.GlaPostReferenceIdeal.τ).loc Cert.GlaPostReferenceIdeal.main_arg1) = m' ((c.tc : Thread Cert.GlaPostReferenceIdeal.nD Cert.GlaPostReferenceIdeal.τ).loc Cert.GlaPostReferenceIdeal.main_arg1)
          ∧ r.2.mem ((c.tc : Thread Cert.GlaPostReferenceIdeal.nD Cert.GlaPostReferenceIdeal.τ).loc Cert.GlaPostReferenceIdeal.main_arg2) = m' ((c.tc : Thread Cert.GlaPostReferenceIdeal.nD Cert.GlaPostReferenceIdeal.τ).loc Cert.GlaPostReferenceIdeal.main_arg2)
          ∧ r.2.mem ((c.tc : Thread Cert.GlaPostReferenceIdeal.nD Cert.GlaPostReferenceIdeal.τ).loc Cert.GlaPostReferenceIdeal.main_arg3) = m' ((c.tc : Thread Cert.GlaPostReferenceIdeal.nD Cert.GlaPostReferenceIdeal.τ).loc Cert.GlaPostReferenceIdeal.main_arg3)
          ∧ r.2.mem ((c.tc : Thread Cert.GlaPostReferenceIdeal.nD Cert.GlaPostReferenceIdeal.τ).loc Cert.GlaPostReferenceIdeal.main_arg4) = m' ((c.tc : Thread Cert.GlaPostReferenceIdeal.nD Cert.GlaPostReferenceIdeal.τ).loc Cert.GlaPostReferenceIdeal.main_arg4)
          ∧ r.2.mem ((c.tc : Thread Cert.GlaPostReferenceIdeal.nD Cert.GlaPostReferenceIdeal.τ).loc Cert.GlaPostReferenceIdeal.main_arg5) = m' ((c.tc : Thread Cert.GlaPostReferenceIdeal.nD Cert.GlaPostReferenceIdeal.τ).loc Cert.GlaPostReferenceIdeal.main_arg5)
          ∧ r.2.mem ((c.tc : Thread Cert.GlaPostReferenceIdeal.nD Cert.GlaPostReferenceIdeal.τ).loc Cert.GlaPostReferenceIdeal.main_arg6) = m' ((c.tc : Thread Cert.GlaPostReferenceIdeal.nD Cert.GlaPostReferenceIdeal.τ).loc Cert.GlaPostReferenceIdeal.main_arg6)
          ∧ r.2.mem ((c.tc : Thread Cert.GlaPostReferenceIdeal.nD Cert.GlaPostReferenceIdeal.τ).loc Cert.GlaPostReferenceIdeal.main_arg7) = m' ((c.tc : Thread Cert.GlaPostReferenceIdeal.nD Cert.GlaPostReferenceIdeal.τ).loc Cert.GlaPostReferenceIdeal.main_arg7))

def preserves_ConvPost_ConvPostIdeal : Prop :=
  True

def algebraic_ConvPostIdeal_ConvPostReferenceIdeal [hConvPostIdeal : Cert.ConvPostIdeal.Facts] [hConvPostReferenceIdeal : Cert.ConvPostReferenceIdeal.Facts] : Prop :=
  ∀ (m : (ℓ : Loc Cert.ConvPostIdeal.nD Cert.ConvPostIdeal.τ Cert.ConvPostIdeal.sig) → Buf (Elt Ideal) ℓ) (g : Dev Cert.ConvPostIdeal.nD → PrngReg)
    (m' : (ℓ : Loc Cert.ConvPostReferenceIdeal.nD Cert.ConvPostReferenceIdeal.τ Cert.ConvPostReferenceIdeal.sig) → Buf (Elt Ideal) ℓ) (g' : Dev Cert.ConvPostReferenceIdeal.nD → PrngReg), Pre_ConvPostIdeal m →
    (∀ c : Dev Cert.ConvPostIdeal.nD,
      m' ((c.tc : Thread Cert.ConvPostReferenceIdeal.nD Cert.ConvPostReferenceIdeal.τ).loc Cert.ConvPostReferenceIdeal.main_arg0) = m ((c.tc : Thread Cert.ConvPostIdeal.nD Cert.ConvPostIdeal.τ).loc Cert.ConvPostIdeal.main_arg0)
      ∧ m' ((c.tc : Thread Cert.ConvPostReferenceIdeal.nD Cert.ConvPostReferenceIdeal.τ).loc Cert.ConvPostReferenceIdeal.main_arg1) = m ((c.tc : Thread Cert.ConvPostIdeal.nD Cert.ConvPostIdeal.τ).loc Cert.ConvPostIdeal.main_arg1)
      ∧ m' ((c.tc : Thread Cert.ConvPostReferenceIdeal.nD Cert.ConvPostReferenceIdeal.τ).loc Cert.ConvPostReferenceIdeal.main_arg2) = m ((c.tc : Thread Cert.ConvPostIdeal.nD Cert.ConvPostIdeal.τ).loc Cert.ConvPostIdeal.main_arg2)
      ∧ m' ((c.tc : Thread Cert.ConvPostReferenceIdeal.nD Cert.ConvPostReferenceIdeal.τ).loc Cert.ConvPostReferenceIdeal.main_arg3) = m ((c.tc : Thread Cert.ConvPostIdeal.nD Cert.ConvPostIdeal.τ).loc Cert.ConvPostIdeal.main_arg3)
      ∧ m' ((c.tc : Thread Cert.ConvPostReferenceIdeal.nD Cert.ConvPostReferenceIdeal.τ).loc Cert.ConvPostReferenceIdeal.main_arg4) = m ((c.tc : Thread Cert.ConvPostIdeal.nD Cert.ConvPostIdeal.τ).loc Cert.ConvPostIdeal.main_arg4)
      ∧ m' ((c.tc : Thread Cert.ConvPostReferenceIdeal.nD Cert.ConvPostReferenceIdeal.τ).loc Cert.ConvPostReferenceIdeal.main_arg5) = m ((c.tc : Thread Cert.ConvPostIdeal.nD Cert.ConvPostIdeal.τ).loc Cert.ConvPostIdeal.main_arg5)
      ∧ m' ((c.tc : Thread Cert.ConvPostReferenceIdeal.nD Cert.ConvPostReferenceIdeal.τ).loc Cert.ConvPostReferenceIdeal.main_arg6) = m ((c.tc : Thread Cert.ConvPostIdeal.nD Cert.ConvPostIdeal.τ).loc Cert.ConvPostIdeal.main_arg6)
      ∧ m' ((c.tc : Thread Cert.ConvPostReferenceIdeal.nD Cert.ConvPostReferenceIdeal.τ).loc Cert.ConvPostReferenceIdeal.main_arg7) = m ((c.tc : Thread Cert.ConvPostIdeal.nD Cert.ConvPostIdeal.τ).loc Cert.ConvPostIdeal.main_arg7)
      ∧ m' ((c.tc : Thread Cert.ConvPostReferenceIdeal.nD Cert.ConvPostReferenceIdeal.τ).loc Cert.ConvPostReferenceIdeal.main_arg8) = m ((c.tc : Thread Cert.ConvPostIdeal.nD Cert.ConvPostIdeal.τ).loc Cert.ConvPostIdeal.main_arg8)) →
    ∃ (v0 : (c : Dev Cert.ConvPostIdeal.nD) → Buf (Elt Ideal) ((c.tc : Thread Cert.ConvPostIdeal.nD Cert.ConvPostIdeal.τ).loc Cert.ConvPostIdeal.main_v9_0)) (v1 : (c : Dev Cert.ConvPostIdeal.nD) → Buf (Elt Ideal) ((c.tc : Thread Cert.ConvPostIdeal.nD Cert.ConvPostIdeal.τ).loc Cert.ConvPostIdeal.main_v9_1)) (v2 : (c : Dev Cert.ConvPostIdeal.nD) → Buf (Elt Ideal) ((c.tc : Thread Cert.ConvPostIdeal.nD Cert.ConvPostIdeal.τ).loc Cert.ConvPostIdeal.main_v9_2)),
      θ_run (Cert.ConvPostIdeal.defs (F := Ideal)) (onTc (τ := Cert.ConvPostIdeal.τ) (Cert.ConvPostIdeal.main (F := Ideal))) ⟨m, fun _ => 0, g⟩ (fun r => ∀ c : Dev Cert.ConvPostIdeal.nD,
          r.2.mem ((c.tc : Thread Cert.ConvPostIdeal.nD Cert.ConvPostIdeal.τ).loc Cert.ConvPostIdeal.main_v9_0) = v0 c
          ∧ r.2.mem ((c.tc : Thread Cert.ConvPostIdeal.nD Cert.ConvPostIdeal.τ).loc Cert.ConvPostIdeal.main_v9_1) = v1 c
          ∧ r.2.mem ((c.tc : Thread Cert.ConvPostIdeal.nD Cert.ConvPostIdeal.τ).loc Cert.ConvPostIdeal.main_v9_2) = v2 c
          ∧ r.2.mem ((c.tc : Thread Cert.ConvPostIdeal.nD Cert.ConvPostIdeal.τ).loc Cert.ConvPostIdeal.main_arg0) = m ((c.tc : Thread Cert.ConvPostIdeal.nD Cert.ConvPostIdeal.τ).loc Cert.ConvPostIdeal.main_arg0)
          ∧ r.2.mem ((c.tc : Thread Cert.ConvPostIdeal.nD Cert.ConvPostIdeal.τ).loc Cert.ConvPostIdeal.main_arg1) = m ((c.tc : Thread Cert.ConvPostIdeal.nD Cert.ConvPostIdeal.τ).loc Cert.ConvPostIdeal.main_arg1)
          ∧ r.2.mem ((c.tc : Thread Cert.ConvPostIdeal.nD Cert.ConvPostIdeal.τ).loc Cert.ConvPostIdeal.main_arg2) = m ((c.tc : Thread Cert.ConvPostIdeal.nD Cert.ConvPostIdeal.τ).loc Cert.ConvPostIdeal.main_arg2)
          ∧ r.2.mem ((c.tc : Thread Cert.ConvPostIdeal.nD Cert.ConvPostIdeal.τ).loc Cert.ConvPostIdeal.main_arg3) = m ((c.tc : Thread Cert.ConvPostIdeal.nD Cert.ConvPostIdeal.τ).loc Cert.ConvPostIdeal.main_arg3)
          ∧ r.2.mem ((c.tc : Thread Cert.ConvPostIdeal.nD Cert.ConvPostIdeal.τ).loc Cert.ConvPostIdeal.main_arg4) = m ((c.tc : Thread Cert.ConvPostIdeal.nD Cert.ConvPostIdeal.τ).loc Cert.ConvPostIdeal.main_arg4)
          ∧ r.2.mem ((c.tc : Thread Cert.ConvPostIdeal.nD Cert.ConvPostIdeal.τ).loc Cert.ConvPostIdeal.main_arg5) = m ((c.tc : Thread Cert.ConvPostIdeal.nD Cert.ConvPostIdeal.τ).loc Cert.ConvPostIdeal.main_arg5)
          ∧ r.2.mem ((c.tc : Thread Cert.ConvPostIdeal.nD Cert.ConvPostIdeal.τ).loc Cert.ConvPostIdeal.main_arg6) = m ((c.tc : Thread Cert.ConvPostIdeal.nD Cert.ConvPostIdeal.τ).loc Cert.ConvPostIdeal.main_arg6)
          ∧ r.2.mem ((c.tc : Thread Cert.ConvPostIdeal.nD Cert.ConvPostIdeal.τ).loc Cert.ConvPostIdeal.main_arg7) = m ((c.tc : Thread Cert.ConvPostIdeal.nD Cert.ConvPostIdeal.τ).loc Cert.ConvPostIdeal.main_arg7)
          ∧ r.2.mem ((c.tc : Thread Cert.ConvPostIdeal.nD Cert.ConvPostIdeal.τ).loc Cert.ConvPostIdeal.main_arg8) = m ((c.tc : Thread Cert.ConvPostIdeal.nD Cert.ConvPostIdeal.τ).loc Cert.ConvPostIdeal.main_arg8))
      ∧ θ_run (Cert.ConvPostReferenceIdeal.defs (F := Ideal)) (onTc (τ := Cert.ConvPostReferenceIdeal.τ) (Cert.ConvPostReferenceIdeal.main (F := Ideal))) ⟨m', fun _ => 0, g'⟩ (fun r => ∀ c : Dev Cert.ConvPostReferenceIdeal.nD,
          r.2.mem ((c.tc : Thread Cert.ConvPostReferenceIdeal.nD Cert.ConvPostReferenceIdeal.τ).loc Cert.ConvPostReferenceIdeal.main_v21) = v0 c
          ∧ r.2.mem ((c.tc : Thread Cert.ConvPostReferenceIdeal.nD Cert.ConvPostReferenceIdeal.τ).loc Cert.ConvPostReferenceIdeal.main_v20) = v1 c
          ∧ r.2.mem ((c.tc : Thread Cert.ConvPostReferenceIdeal.nD Cert.ConvPostReferenceIdeal.τ).loc Cert.ConvPostReferenceIdeal.main_v41) = v2 c
          ∧ r.2.mem ((c.tc : Thread Cert.ConvPostReferenceIdeal.nD Cert.ConvPostReferenceIdeal.τ).loc Cert.ConvPostReferenceIdeal.main_arg0) = m' ((c.tc : Thread Cert.ConvPostReferenceIdeal.nD Cert.ConvPostReferenceIdeal.τ).loc Cert.ConvPostReferenceIdeal.main_arg0)
          ∧ r.2.mem ((c.tc : Thread Cert.ConvPostReferenceIdeal.nD Cert.ConvPostReferenceIdeal.τ).loc Cert.ConvPostReferenceIdeal.main_arg1) = m' ((c.tc : Thread Cert.ConvPostReferenceIdeal.nD Cert.ConvPostReferenceIdeal.τ).loc Cert.ConvPostReferenceIdeal.main_arg1)
          ∧ r.2.mem ((c.tc : Thread Cert.ConvPostReferenceIdeal.nD Cert.ConvPostReferenceIdeal.τ).loc Cert.ConvPostReferenceIdeal.main_arg2) = m' ((c.tc : Thread Cert.ConvPostReferenceIdeal.nD Cert.ConvPostReferenceIdeal.τ).loc Cert.ConvPostReferenceIdeal.main_arg2)
          ∧ r.2.mem ((c.tc : Thread Cert.ConvPostReferenceIdeal.nD Cert.ConvPostReferenceIdeal.τ).loc Cert.ConvPostReferenceIdeal.main_arg3) = m' ((c.tc : Thread Cert.ConvPostReferenceIdeal.nD Cert.ConvPostReferenceIdeal.τ).loc Cert.ConvPostReferenceIdeal.main_arg3)
          ∧ r.2.mem ((c.tc : Thread Cert.ConvPostReferenceIdeal.nD Cert.ConvPostReferenceIdeal.τ).loc Cert.ConvPostReferenceIdeal.main_arg4) = m' ((c.tc : Thread Cert.ConvPostReferenceIdeal.nD Cert.ConvPostReferenceIdeal.τ).loc Cert.ConvPostReferenceIdeal.main_arg4)
          ∧ r.2.mem ((c.tc : Thread Cert.ConvPostReferenceIdeal.nD Cert.ConvPostReferenceIdeal.τ).loc Cert.ConvPostReferenceIdeal.main_arg5) = m' ((c.tc : Thread Cert.ConvPostReferenceIdeal.nD Cert.ConvPostReferenceIdeal.τ).loc Cert.ConvPostReferenceIdeal.main_arg5)
          ∧ r.2.mem ((c.tc : Thread Cert.ConvPostReferenceIdeal.nD Cert.ConvPostReferenceIdeal.τ).loc Cert.ConvPostReferenceIdeal.main_arg6) = m' ((c.tc : Thread Cert.ConvPostReferenceIdeal.nD Cert.ConvPostReferenceIdeal.τ).loc Cert.ConvPostReferenceIdeal.main_arg6)
          ∧ r.2.mem ((c.tc : Thread Cert.ConvPostReferenceIdeal.nD Cert.ConvPostReferenceIdeal.τ).loc Cert.ConvPostReferenceIdeal.main_arg7) = m' ((c.tc : Thread Cert.ConvPostReferenceIdeal.nD Cert.ConvPostReferenceIdeal.τ).loc Cert.ConvPostReferenceIdeal.main_arg7)
          ∧ r.2.mem ((c.tc : Thread Cert.ConvPostReferenceIdeal.nD Cert.ConvPostReferenceIdeal.τ).loc Cert.ConvPostReferenceIdeal.main_arg8) = m' ((c.tc : Thread Cert.ConvPostReferenceIdeal.nD Cert.ConvPostReferenceIdeal.τ).loc Cert.ConvPostReferenceIdeal.main_arg8))

def preserves_GradX_GradXIdeal : Prop :=
  True

def algebraic_GradXIdeal_GradXReferenceIdeal [hGradXIdeal : Cert.GradXIdeal.Facts] [hGradXReferenceIdeal : Cert.GradXReferenceIdeal.Facts] : Prop :=
  ∀ (m : (ℓ : Loc Cert.GradXIdeal.nD Cert.GradXIdeal.τ Cert.GradXIdeal.sig) → Buf (Elt Ideal) ℓ) (g : Dev Cert.GradXIdeal.nD → PrngReg)
    (m' : (ℓ : Loc Cert.GradXReferenceIdeal.nD Cert.GradXReferenceIdeal.τ Cert.GradXReferenceIdeal.sig) → Buf (Elt Ideal) ℓ) (g' : Dev Cert.GradXReferenceIdeal.nD → PrngReg), Pre_GradXIdeal m →
    (∀ c : Dev Cert.GradXIdeal.nD,
      m' ((c.tc : Thread Cert.GradXReferenceIdeal.nD Cert.GradXReferenceIdeal.τ).loc Cert.GradXReferenceIdeal.main_arg0) = m ((c.tc : Thread Cert.GradXIdeal.nD Cert.GradXIdeal.τ).loc Cert.GradXIdeal.main_arg0)
      ∧ m' ((c.tc : Thread Cert.GradXReferenceIdeal.nD Cert.GradXReferenceIdeal.τ).loc Cert.GradXReferenceIdeal.main_arg1) = m ((c.tc : Thread Cert.GradXIdeal.nD Cert.GradXIdeal.τ).loc Cert.GradXIdeal.main_arg1)
      ∧ m' ((c.tc : Thread Cert.GradXReferenceIdeal.nD Cert.GradXReferenceIdeal.τ).loc Cert.GradXReferenceIdeal.main_arg2) = m ((c.tc : Thread Cert.GradXIdeal.nD Cert.GradXIdeal.τ).loc Cert.GradXIdeal.main_arg2)
      ∧ m' ((c.tc : Thread Cert.GradXReferenceIdeal.nD Cert.GradXReferenceIdeal.τ).loc Cert.GradXReferenceIdeal.main_arg3) = m ((c.tc : Thread Cert.GradXIdeal.nD Cert.GradXIdeal.τ).loc Cert.GradXIdeal.main_arg3)
      ∧ m' ((c.tc : Thread Cert.GradXReferenceIdeal.nD Cert.GradXReferenceIdeal.τ).loc Cert.GradXReferenceIdeal.main_arg4) = m ((c.tc : Thread Cert.GradXIdeal.nD Cert.GradXIdeal.τ).loc Cert.GradXIdeal.main_arg4)) →
    ∃ (v0 : (c : Dev Cert.GradXIdeal.nD) → Buf (Elt Ideal) ((c.tc : Thread Cert.GradXIdeal.nD Cert.GradXIdeal.τ).loc Cert.GradXIdeal.main_v1_0)),
      θ_run (Cert.GradXIdeal.defs (F := Ideal)) (onTc (τ := Cert.GradXIdeal.τ) (Cert.GradXIdeal.main (F := Ideal))) ⟨m, fun _ => 0, g⟩ (fun r => ∀ c : Dev Cert.GradXIdeal.nD,
          r.2.mem ((c.tc : Thread Cert.GradXIdeal.nD Cert.GradXIdeal.τ).loc Cert.GradXIdeal.main_v1_0) = v0 c
          ∧ r.2.mem ((c.tc : Thread Cert.GradXIdeal.nD Cert.GradXIdeal.τ).loc Cert.GradXIdeal.main_arg0) = m ((c.tc : Thread Cert.GradXIdeal.nD Cert.GradXIdeal.τ).loc Cert.GradXIdeal.main_arg0)
          ∧ r.2.mem ((c.tc : Thread Cert.GradXIdeal.nD Cert.GradXIdeal.τ).loc Cert.GradXIdeal.main_arg1) = m ((c.tc : Thread Cert.GradXIdeal.nD Cert.GradXIdeal.τ).loc Cert.GradXIdeal.main_arg1)
          ∧ r.2.mem ((c.tc : Thread Cert.GradXIdeal.nD Cert.GradXIdeal.τ).loc Cert.GradXIdeal.main_arg2) = m ((c.tc : Thread Cert.GradXIdeal.nD Cert.GradXIdeal.τ).loc Cert.GradXIdeal.main_arg2)
          ∧ r.2.mem ((c.tc : Thread Cert.GradXIdeal.nD Cert.GradXIdeal.τ).loc Cert.GradXIdeal.main_arg3) = m ((c.tc : Thread Cert.GradXIdeal.nD Cert.GradXIdeal.τ).loc Cert.GradXIdeal.main_arg3)
          ∧ r.2.mem ((c.tc : Thread Cert.GradXIdeal.nD Cert.GradXIdeal.τ).loc Cert.GradXIdeal.main_arg4) = m ((c.tc : Thread Cert.GradXIdeal.nD Cert.GradXIdeal.τ).loc Cert.GradXIdeal.main_arg4))
      ∧ θ_run (Cert.GradXReferenceIdeal.defs (F := Ideal)) (onTc (τ := Cert.GradXReferenceIdeal.τ) (Cert.GradXReferenceIdeal.main (F := Ideal))) ⟨m', fun _ => 0, g'⟩ (fun r => ∀ c : Dev Cert.GradXReferenceIdeal.nD,
          r.2.mem ((c.tc : Thread Cert.GradXReferenceIdeal.nD Cert.GradXReferenceIdeal.τ).loc Cert.GradXReferenceIdeal.main_v39) = v0 c
          ∧ r.2.mem ((c.tc : Thread Cert.GradXReferenceIdeal.nD Cert.GradXReferenceIdeal.τ).loc Cert.GradXReferenceIdeal.main_arg0) = m' ((c.tc : Thread Cert.GradXReferenceIdeal.nD Cert.GradXReferenceIdeal.τ).loc Cert.GradXReferenceIdeal.main_arg0)
          ∧ r.2.mem ((c.tc : Thread Cert.GradXReferenceIdeal.nD Cert.GradXReferenceIdeal.τ).loc Cert.GradXReferenceIdeal.main_arg1) = m' ((c.tc : Thread Cert.GradXReferenceIdeal.nD Cert.GradXReferenceIdeal.τ).loc Cert.GradXReferenceIdeal.main_arg1)
          ∧ r.2.mem ((c.tc : Thread Cert.GradXReferenceIdeal.nD Cert.GradXReferenceIdeal.τ).loc Cert.GradXReferenceIdeal.main_arg2) = m' ((c.tc : Thread Cert.GradXReferenceIdeal.nD Cert.GradXReferenceIdeal.τ).loc Cert.GradXReferenceIdeal.main_arg2)
          ∧ r.2.mem ((c.tc : Thread Cert.GradXReferenceIdeal.nD Cert.GradXReferenceIdeal.τ).loc Cert.GradXReferenceIdeal.main_arg3) = m' ((c.tc : Thread Cert.GradXReferenceIdeal.nD Cert.GradXReferenceIdeal.τ).loc Cert.GradXReferenceIdeal.main_arg3)
          ∧ r.2.mem ((c.tc : Thread Cert.GradXReferenceIdeal.nD Cert.GradXReferenceIdeal.τ).loc Cert.GradXReferenceIdeal.main_arg4) = m' ((c.tc : Thread Cert.GradXReferenceIdeal.nD Cert.GradXReferenceIdeal.τ).loc Cert.GradXReferenceIdeal.main_arg4))

def preserves_PreNorm_PreNormIdeal : Prop :=
  True

def algebraic_PreNormIdeal_PreNormReferenceIdeal [hPreNormIdeal : Cert.PreNormIdeal.Facts] [hPreNormReferenceIdeal : Cert.PreNormReferenceIdeal.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.PreNormReferenceIdeal.nD Cert.PreNormReferenceIdeal.τ Cert.PreNormReferenceIdeal.sig) → Buf (Elt Ideal) ℓ) (g' : Dev Cert.PreNormReferenceIdeal.nD → PrngReg), Pre_PreNormIdeal m →
    (∀ c : Dev Cert.PreNormIdeal.nD,
      m' ((c.tc : Thread Cert.PreNormReferenceIdeal.nD Cert.PreNormReferenceIdeal.τ).loc Cert.PreNormReferenceIdeal.main_arg0) = m ((c.tc : Thread Cert.PreNormIdeal.nD Cert.PreNormIdeal.τ).loc Cert.PreNormIdeal.main_arg0)
      ∧ m' ((c.tc : Thread Cert.PreNormReferenceIdeal.nD Cert.PreNormReferenceIdeal.τ).loc Cert.PreNormReferenceIdeal.main_arg1) = m ((c.tc : Thread Cert.PreNormIdeal.nD Cert.PreNormIdeal.τ).loc Cert.PreNormIdeal.main_arg1)
      ∧ m' ((c.tc : Thread Cert.PreNormReferenceIdeal.nD Cert.PreNormReferenceIdeal.τ).loc Cert.PreNormReferenceIdeal.main_arg2) = m ((c.tc : Thread Cert.PreNormIdeal.nD Cert.PreNormIdeal.τ).loc Cert.PreNormIdeal.main_arg2)
      ∧ m' ((c.tc : Thread Cert.PreNormReferenceIdeal.nD Cert.PreNormReferenceIdeal.τ).loc Cert.PreNormReferenceIdeal.main_arg3) = m ((c.tc : Thread Cert.PreNormIdeal.nD Cert.PreNormIdeal.τ).loc Cert.PreNormIdeal.main_arg3)) →
    ∃ (v0 : (c : Dev Cert.PreNormIdeal.nD) → Buf (Elt Ideal) ((c.tc : Thread Cert.PreNormIdeal.nD Cert.PreNormIdeal.τ).loc Cert.PreNormIdeal.main_v4)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v4) = v0 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3))
      ∧ θ_run (Cert.PreNormReferenceIdeal.defs (F := Ideal)) (onTc (τ := Cert.PreNormReferenceIdeal.τ) (Cert.PreNormReferenceIdeal.main (F := Ideal))) ⟨m', fun _ => 0, g'⟩ (fun r => ∀ c : Dev Cert.PreNormReferenceIdeal.nD,
          r.2.mem ((c.tc : Thread Cert.PreNormReferenceIdeal.nD Cert.PreNormReferenceIdeal.τ).loc Cert.PreNormReferenceIdeal.main_v19) = v0 c
          ∧ r.2.mem ((c.tc : Thread Cert.PreNormReferenceIdeal.nD Cert.PreNormReferenceIdeal.τ).loc Cert.PreNormReferenceIdeal.main_arg0) = m' ((c.tc : Thread Cert.PreNormReferenceIdeal.nD Cert.PreNormReferenceIdeal.τ).loc Cert.PreNormReferenceIdeal.main_arg0)
          ∧ r.2.mem ((c.tc : Thread Cert.PreNormReferenceIdeal.nD Cert.PreNormReferenceIdeal.τ).loc Cert.PreNormReferenceIdeal.main_arg1) = m' ((c.tc : Thread Cert.PreNormReferenceIdeal.nD Cert.PreNormReferenceIdeal.τ).loc Cert.PreNormReferenceIdeal.main_arg1)
          ∧ r.2.mem ((c.tc : Thread Cert.PreNormReferenceIdeal.nD Cert.PreNormReferenceIdeal.τ).loc Cert.PreNormReferenceIdeal.main_arg2) = m' ((c.tc : Thread Cert.PreNormReferenceIdeal.nD Cert.PreNormReferenceIdeal.τ).loc Cert.PreNormReferenceIdeal.main_arg2)
          ∧ r.2.mem ((c.tc : Thread Cert.PreNormReferenceIdeal.nD Cert.PreNormReferenceIdeal.τ).loc Cert.PreNormReferenceIdeal.main_arg3) = m' ((c.tc : Thread Cert.PreNormReferenceIdeal.nD Cert.PreNormReferenceIdeal.τ).loc Cert.PreNormReferenceIdeal.main_arg3))

def Claim : Prop :=
  ∃ (hKernel : Cert.Kernel.Facts) (hKernelIdeal : Cert.KernelIdeal.Facts) (hReferenceIdeal : Cert.ReferenceIdeal.Facts) (hAct : Cert.Act.Facts) (hActIdeal : Cert.ActIdeal.Facts) (hActReferenceIdeal : Cert.ActReferenceIdeal.Facts) (hWout : Cert.Wout.Facts) (hWoutIdeal : Cert.WoutIdeal.Facts) (hWoutReferenceIdeal : Cert.WoutReferenceIdeal.Facts) (hWin : Cert.Win.Facts) (hWinIdeal : Cert.WinIdeal.Facts) (hWinReferenceIdeal : Cert.WinReferenceIdeal.Facts) (hDh : Cert.Dh.Facts) (hDhIdeal : Cert.DhIdeal.Facts) (hDhReferenceIdeal : Cert.DhReferenceIdeal.Facts) (hOutW : Cert.OutW.Facts) (hOutWIdeal : Cert.OutWIdeal.Facts) (hOutWReferenceIdeal : Cert.OutWReferenceIdeal.Facts) (hOutD : Cert.OutD.Facts) (hOutDIdeal : Cert.OutDIdeal.Facts) (hOutDReferenceIdeal : Cert.OutDReferenceIdeal.Facts) (hProj : Cert.Proj.Facts) (hProjIdeal : Cert.ProjIdeal.Facts) (hProjReferenceIdeal : Cert.ProjReferenceIdeal.Facts) (hProjW : Cert.ProjW.Facts) (hProjWIdeal : Cert.ProjWIdeal.Facts) (hProjWReferenceIdeal : Cert.ProjWReferenceIdeal.Facts) (hProjD : Cert.ProjD.Facts) (hProjDIdeal : Cert.ProjDIdeal.Facts) (hProjDReferenceIdeal : Cert.ProjDReferenceIdeal.Facts) (hConvW : Cert.ConvW.Facts) (hConvWIdeal : Cert.ConvWIdeal.Facts) (hConvWReferenceIdeal : Cert.ConvWReferenceIdeal.Facts) (hConvD : Cert.ConvD.Facts) (hConvDIdeal : Cert.ConvDIdeal.Facts) (hConvDReferenceIdeal : Cert.ConvDReferenceIdeal.Facts) (hPw1 : Cert.Pw1.Facts) (hPw1Ideal : Cert.Pw1Ideal.Facts) (hPw1ReferenceIdeal : Cert.Pw1ReferenceIdeal.Facts) (hFfnPost : Cert.FfnPost.Facts) (hFfnPostIdeal : Cert.FfnPostIdeal.Facts) (hFfnPostReferenceIdeal : Cert.FfnPostReferenceIdeal.Facts) (hLastPost : Cert.LastPost.Facts) (hLastPostIdeal : Cert.LastPostIdeal.Facts) (hLastPostReferenceIdeal : Cert.LastPostReferenceIdeal.Facts) (hGlaPost : Cert.GlaPost.Facts) (hGlaPostIdeal : Cert.GlaPostIdeal.Facts) (hGlaPostReferenceIdeal : Cert.GlaPostReferenceIdeal.Facts) (hConvPost : Cert.ConvPost.Facts) (hConvPostIdeal : Cert.ConvPostIdeal.Facts) (hConvPostReferenceIdeal : Cert.ConvPostReferenceIdeal.Facts) (hGradX : Cert.GradX.Facts) (hGradXIdeal : Cert.GradXIdeal.Facts) (hGradXReferenceIdeal : Cert.GradXReferenceIdeal.Facts) (hPreNorm : Cert.PreNorm.Facts) (hPreNormIdeal : Cert.PreNormIdeal.Facts) (hPreNormReferenceIdeal : Cert.PreNormReferenceIdeal.Facts) (hPre_finite : Cert.Pre_finite.Facts) (hPre_act_finite : Cert.Pre_act_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Act (hAct := hAct)
    ∧ quiescent_ActIdeal (hActIdeal := hActIdeal)
    ∧ quiescent_ActIdeal_pre_act_finite (hActIdeal := hActIdeal) (hPre_act_finite := hPre_act_finite)
    ∧ quiescent_ActReferenceIdeal (hActReferenceIdeal := hActReferenceIdeal)
    ∧ quiescent_ActReferenceIdeal_pre_act_finite (hActReferenceIdeal := hActReferenceIdeal) (hPre_act_finite := hPre_act_finite)
    ∧ quiescent_Wout (hWout := hWout)
    ∧ quiescent_WoutIdeal (hWoutIdeal := hWoutIdeal)
    ∧ quiescent_WoutReferenceIdeal (hWoutReferenceIdeal := hWoutReferenceIdeal)
    ∧ quiescent_Win (hWin := hWin)
    ∧ quiescent_WinIdeal (hWinIdeal := hWinIdeal)
    ∧ quiescent_WinReferenceIdeal (hWinReferenceIdeal := hWinReferenceIdeal)
    ∧ quiescent_Dh (hDh := hDh)
    ∧ quiescent_DhIdeal (hDhIdeal := hDhIdeal)
    ∧ quiescent_DhReferenceIdeal (hDhReferenceIdeal := hDhReferenceIdeal)
    ∧ quiescent_OutW (hOutW := hOutW)
    ∧ quiescent_OutWIdeal (hOutWIdeal := hOutWIdeal)
    ∧ quiescent_OutWReferenceIdeal (hOutWReferenceIdeal := hOutWReferenceIdeal)
    ∧ quiescent_OutD (hOutD := hOutD)
    ∧ quiescent_OutDIdeal (hOutDIdeal := hOutDIdeal)
    ∧ quiescent_OutDReferenceIdeal (hOutDReferenceIdeal := hOutDReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_ProjW (hProjW := hProjW)
    ∧ quiescent_ProjWIdeal (hProjWIdeal := hProjWIdeal)
    ∧ quiescent_ProjWReferenceIdeal (hProjWReferenceIdeal := hProjWReferenceIdeal)
    ∧ quiescent_ProjD (hProjD := hProjD)
    ∧ quiescent_ProjDIdeal (hProjDIdeal := hProjDIdeal)
    ∧ quiescent_ProjDReferenceIdeal (hProjDReferenceIdeal := hProjDReferenceIdeal)
    ∧ quiescent_ConvW (hConvW := hConvW)
    ∧ quiescent_ConvWIdeal (hConvWIdeal := hConvWIdeal)
    ∧ quiescent_ConvWReferenceIdeal (hConvWReferenceIdeal := hConvWReferenceIdeal)
    ∧ quiescent_ConvD (hConvD := hConvD)
    ∧ quiescent_ConvDIdeal (hConvDIdeal := hConvDIdeal)
    ∧ quiescent_ConvDReferenceIdeal (hConvDReferenceIdeal := hConvDReferenceIdeal)
    ∧ quiescent_Pw1 (hPw1 := hPw1)
    ∧ quiescent_Pw1Ideal (hPw1Ideal := hPw1Ideal)
    ∧ quiescent_Pw1ReferenceIdeal (hPw1ReferenceIdeal := hPw1ReferenceIdeal)
    ∧ quiescent_FfnPost (hFfnPost := hFfnPost)
    ∧ quiescent_FfnPostIdeal (hFfnPostIdeal := hFfnPostIdeal)
    ∧ quiescent_FfnPostReferenceIdeal (hFfnPostReferenceIdeal := hFfnPostReferenceIdeal)
    ∧ quiescent_LastPost (hLastPost := hLastPost)
    ∧ quiescent_LastPostIdeal (hLastPostIdeal := hLastPostIdeal)
    ∧ quiescent_LastPostReferenceIdeal (hLastPostReferenceIdeal := hLastPostReferenceIdeal)
    ∧ quiescent_GlaPost (hGlaPost := hGlaPost)
    ∧ quiescent_GlaPostIdeal (hGlaPostIdeal := hGlaPostIdeal)
    ∧ quiescent_GlaPostReferenceIdeal (hGlaPostReferenceIdeal := hGlaPostReferenceIdeal)
    ∧ quiescent_ConvPost (hConvPost := hConvPost)
    ∧ quiescent_ConvPostIdeal (hConvPostIdeal := hConvPostIdeal)
    ∧ quiescent_ConvPostReferenceIdeal (hConvPostReferenceIdeal := hConvPostReferenceIdeal)
    ∧ quiescent_GradX (hGradX := hGradX)
    ∧ quiescent_GradXIdeal (hGradXIdeal := hGradXIdeal)
    ∧ quiescent_GradXReferenceIdeal (hGradXReferenceIdeal := hGradXReferenceIdeal)
    ∧ quiescent_PreNorm (hPreNorm := hPreNorm)
    ∧ quiescent_PreNormIdeal (hPreNormIdeal := hPreNormIdeal)
    ∧ quiescent_PreNormReferenceIdeal (hPreNormReferenceIdeal := hPreNormReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Act_ActIdeal
    ∧ algebraic_ActIdeal_ActReferenceIdeal_pre_act_finite (hActIdeal := hActIdeal) (hActReferenceIdeal := hActReferenceIdeal) (hPre_act_finite := hPre_act_finite)
    ∧ preserves_Wout_WoutIdeal
    ∧ algebraic_WoutIdeal_WoutReferenceIdeal (hWoutIdeal := hWoutIdeal) (hWoutReferenceIdeal := hWoutReferenceIdeal)
    ∧ preserves_Win_WinIdeal
    ∧ algebraic_WinIdeal_WinReferenceIdeal (hWinIdeal := hWinIdeal) (hWinReferenceIdeal := hWinReferenceIdeal)
    ∧ preserves_Dh_DhIdeal
    ∧ algebraic_DhIdeal_DhReferenceIdeal (hDhIdeal := hDhIdeal) (hDhReferenceIdeal := hDhReferenceIdeal)
    ∧ preserves_OutW_OutWIdeal
    ∧ algebraic_OutWIdeal_OutWReferenceIdeal (hOutWIdeal := hOutWIdeal) (hOutWReferenceIdeal := hOutWReferenceIdeal)
    ∧ preserves_OutD_OutDIdeal
    ∧ algebraic_OutDIdeal_OutDReferenceIdeal (hOutDIdeal := hOutDIdeal) (hOutDReferenceIdeal := hOutDReferenceIdeal)
    ∧ preserves_Proj_ProjIdeal
    ∧ algebraic_ProjIdeal_ProjReferenceIdeal (hProjIdeal := hProjIdeal) (hProjReferenceIdeal := hProjReferenceIdeal)
    ∧ preserves_ProjW_ProjWIdeal
    ∧ algebraic_ProjWIdeal_ProjWReferenceIdeal (hProjWIdeal := hProjWIdeal) (hProjWReferenceIdeal := hProjWReferenceIdeal)
    ∧ preserves_ProjD_ProjDIdeal
    ∧ algebraic_ProjDIdeal_ProjDReferenceIdeal (hProjDIdeal := hProjDIdeal) (hProjDReferenceIdeal := hProjDReferenceIdeal)
    ∧ preserves_ConvW_ConvWIdeal
    ∧ algebraic_ConvWIdeal_ConvWReferenceIdeal (hConvWIdeal := hConvWIdeal) (hConvWReferenceIdeal := hConvWReferenceIdeal)
    ∧ preserves_ConvD_ConvDIdeal
    ∧ algebraic_ConvDIdeal_ConvDReferenceIdeal (hConvDIdeal := hConvDIdeal) (hConvDReferenceIdeal := hConvDReferenceIdeal)
    ∧ preserves_Pw1_Pw1Ideal
    ∧ algebraic_Pw1Ideal_Pw1ReferenceIdeal (hPw1Ideal := hPw1Ideal) (hPw1ReferenceIdeal := hPw1ReferenceIdeal)
    ∧ preserves_FfnPost_FfnPostIdeal
    ∧ algebraic_FfnPostIdeal_FfnPostReferenceIdeal (hFfnPostIdeal := hFfnPostIdeal) (hFfnPostReferenceIdeal := hFfnPostReferenceIdeal)
    ∧ preserves_LastPost_LastPostIdeal
    ∧ algebraic_LastPostIdeal_LastPostReferenceIdeal (hLastPostIdeal := hLastPostIdeal) (hLastPostReferenceIdeal := hLastPostReferenceIdeal)
    ∧ preserves_GlaPost_GlaPostIdeal
    ∧ algebraic_GlaPostIdeal_GlaPostReferenceIdeal (hGlaPostIdeal := hGlaPostIdeal) (hGlaPostReferenceIdeal := hGlaPostReferenceIdeal)
    ∧ preserves_ConvPost_ConvPostIdeal
    ∧ algebraic_ConvPostIdeal_ConvPostReferenceIdeal (hConvPostIdeal := hConvPostIdeal) (hConvPostReferenceIdeal := hConvPostReferenceIdeal)
    ∧ preserves_GradX_GradXIdeal
    ∧ algebraic_GradXIdeal_GradXReferenceIdeal (hGradXIdeal := hGradXIdeal) (hGradXReferenceIdeal := hGradXReferenceIdeal)
    ∧ preserves_PreNorm_PreNormIdeal
    ∧ algebraic_PreNormIdeal_PreNormReferenceIdeal (hPreNormIdeal := hPreNormIdeal) (hPreNormReferenceIdeal := hPreNormReferenceIdeal)
-- ==== Pre_act_finite.lean ====
abbrev S8192x2048 : Shape := ⟨2, ![8192, 2048]⟩
abbrev S2048x11264 : Shape := ⟨2, ![2048, 11264]⟩
abbrev S5632x2048 : Shape := ⟨2, ![5632, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  bcast_S_S2048x11264 : S_.BroadcastsInDim S2048x11264 (![] : Fin 0 → Fin S2048x11264.rank)
  bcast_S_S5632x2048 : S_.BroadcastsInDim S5632x2048 (![] : Fin 0 → Fin S5632x2048.rank)

variable [Facts]

def fn {F : FTy → Type} [FloatOps F] (main_arg0 : FVec F S8192x2048 .bf16) (main_arg1 : FVec F S2048x11264 .f32) (main_arg2 : FVec F S5632x2048 .f32) (main_arg3 : FVec F S8192x2048 .bf16) : IVec S8192x2048 1 × IVec S2048x11264 1 × IVec S5632x2048 1 × IVec S8192x2048 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_v4 : FVec F S2048x11264 .f32 := Host.absf main_arg1
  let main_cst_0 : FVec F S_ .f32 := constant S_ .f32 0x7F800000#32
  let main_v5 : FVec F S2048x11264 .f32 := broadcastInDim S2048x11264 ![] bcast_S_S2048x11264 main_cst_0
  let main_v6 : IVec S2048x11264 1 := cmpf .olt main_v4 main_v5
  let main_v7 : FVec F S5632x2048 .f32 := Host.absf main_arg2
  let main_cst_1 : FVec F S_ .f32 := constant S_ .f32 0x7F800000#32
  let main_v8 : FVec F S5632x2048 .f32 := broadcastInDim S5632x2048 ![] bcast_S_S5632x2048 main_cst_1
  let main_v9 : IVec S5632x2048 1 := cmpf .olt main_v7 main_v8
  let main_v10 : FVec F S8192x2048 .f32 := (extf .f32 · bitsLt_bf16_f32) main_arg3
  let main_v11 : FVec F S8192x2048 .f32 := Host.absf main_v10
  let main_cst_2 : FVec F S_ .f32 := constant S_ .f32 0x7F800000#32
  let main_v12 : FVec F S8192x2048 .f32 := broadcastInDim S8192x2048 ![] bcast_S_S8192x2048 main_cst_2
  let main_v13 : IVec S8192x2048 1 := cmpf .olt main_v11 main_v12
  (main_v3, main_v6, main_v9, main_v13)
-- ==== Pre_finite.lean ====
abbrev S8192x6272 : Shape := ⟨2, ![8192, 6272]⟩
abbrev S16x1024 : Shape := ⟨2, ![16, 1024]⟩
abbrev S1024 : Shape := ⟨1, ![1024]⟩
abbrev S8192x2048 : Shape := ⟨2, ![8192, 2048]⟩
abbrev S8192x4096 : Shape := ⟨2, ![8192, 4096]⟩
abbrev S_ : Shape := ⟨0, ![]⟩
abbrev S8192x16 : Shape := ⟨2, ![8192, 16]⟩

class Facts : Prop where
  slices_S8192x6272_S8192x4096_0_0 : S8192x6272.Slices ![0, 0] S8192x4096
  bcast_S_S8192x4096 : S_.BroadcastsInDim S8192x4096 (![] : Fin 0 → Fin S8192x4096.rank)
  slices_S8192x6272_S8192x16_0_6144 : S8192x6272.Slices ![0, 6144] S8192x16
  bcast_S_S8192x16 : S_.BroadcastsInDim S8192x16 (![] : Fin 0 → Fin S8192x16.rank)
  bcast_S_S16x1024 : S_.BroadcastsInDim S16x1024 (![] : Fin 0 → Fin S16x1024.rank)
  bcast_S_S1024 : S_.BroadcastsInDim S1024 (![] : Fin 0 → Fin S1024.rank)
  bcast_S_S8192x2048 : S_.BroadcastsInDim S8192x2048 (![] : Fin 0 → Fin S8192x2048.rank)

variable [Facts]

def fn {F : FTy → Type} [FloatOps F] (main_arg0 : FVec F S8192x6272 .f32) (main_arg1 : FVec F S16x1024 .f32) (main_arg2 : FVec F S1024 .f32) (main_arg3 : FVec F S8192x2048 .f32) (main_arg4 : FVec F S8192x2048 .bf16) : IVec S8192x4096 1 × IVec S8192x16 1 × IVec S16x1024 1 × IVec S1024 1 × IVec S8192x2048 1 :=
  let main_v0 : FVec F S8192x4096 .f32 := (extractStridedSlice S8192x4096 ![0, 0] · slices_S8192x6272_S8192x4096_0_0) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S8192x16 .f32 := (extractStridedSlice S8192x16 ![0, 6144] · slices_S8192x6272_S8192x16_0_6144) main_arg0
  let main_v5 : FVec F S8192x16 .f32 := Host.absf main_v4
  let main_cst_0 : FVec F S_ .f32 := constant S_ .f32 0x7F800000#32
  let main_v6 : FVec F S8192x16 .f32 := broadcastInDim S8192x16 ![] bcast_S_S8192x16 main_cst_0
  let main_v7 : IVec S8192x16 1 := cmpf .olt main_v5 main_v6
  let main_v8 : FVec F S16x1024 .f32 := Host.absf main_arg1
  let main_cst_1 : FVec F S_ .f32 := constant S_ .f32 0x7F800000#32
  let main_v9 : FVec F S16x1024 .f32 := broadcastInDim S16x1024 ![] bcast_S_S16x1024 main_cst_1
  let main_v10 : IVec S16x1024 1 := cmpf .olt main_v8 main_v9
  let main_v11 : FVec F S1024 .f32 := Host.absf main_arg2
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  let main_v14 : FVec F S8192x2048 .f32 := Host.absf main_arg3
  let main_cst_3 : FVec F S_ .f32 := constant S_ .f32 0x7F800000#32
  let main_v15 : FVec F S8192x2048 .f32 := broadcastInDim S8192x2048 ![] bcast_S_S8192x2048 main_cst_3
  let main_v16 : IVec S8192x2048 1 := cmpf .olt main_v14 main_v15
  (main_v3, main_v7, main_v10, main_v13, main_v16)
-- ==== Kernel.lean ====
abbrev S8192x6272 : Shape := ⟨2, ![8192, 6272]⟩
abbrev S16x1024 : Shape := ⟨2, ![16, 1024]⟩
abbrev S1024 : Shape := ⟨1, ![1024]⟩
abbrev S8192x2048 : Shape := ⟨2, ![8192, 2048]⟩
abbrev S_ : Shape := ⟨0, ![]⟩
abbrev S128x1024 : Shape := ⟨2, ![128, 1024]⟩
abbrev S1x1024 : Shape := ⟨2, ![1, 1024]⟩
abbrev S4x64x512x256 : Shape := ⟨4, ![4, 64, 512, 256]⟩
abbrev S128x2048 : Shape := ⟨2, ![128, 2048]⟩
abbrev S128x128 : Shape := ⟨2, ![128, 128]⟩
abbrev S4x1x512x256 : Shape := ⟨4, ![4, 1, 512, 256]⟩
abbrev S4x512x256 : Shape := ⟨3, ![4, 512, 256]⟩
abbrev S1x512x256 : Shape := ⟨3, ![1, 512, 256]⟩
abbrev S512x256 : Shape := ⟨2, ![512, 256]⟩
abbrev S1x1x512x256 : Shape := ⟨4, ![1, 1, 512, 256]⟩
abbrev S128x512 : Shape := ⟨2, ![128, 512]⟩
abbrev S128x256 : Shape := ⟨2, ![128, 256]⟩
abbrev S1x256 : Shape := ⟨2, ![1, 256]⟩
abbrev S8192x1024 : Shape := ⟨2, ![8192, 1024]⟩
abbrev S8x1024 : Shape := ⟨2, ![8, 1024]⟩
abbrev S128x6272 : Shape := ⟨2, ![128, 6272]⟩
abbrev S256 : Shape := ⟨1, ![256]⟩
abbrev S16x8x1024 : Shape := ⟨3, ![16, 8, 1024]⟩

abbrev nBuf : Space → Nat
  | .hbm => 16
  | .vmem => 38
  | .smem => 0
  | _ => 0

abbrev bufTy : (tb : Table) → Fin (tcTables nBuf tb) → BufTy
  | .hbm, ⟨0, _⟩ => ⟨S8192x6272, .f32⟩
  | .hbm, ⟨1, _⟩ => ⟨S16x1024, .f32⟩
  | .hbm, ⟨2, _⟩ => ⟨S1024, .f32⟩
  | .hbm, ⟨3, _⟩ => ⟨S8192x2048, .f32⟩
  | .hbm, ⟨4, _⟩ => ⟨S8192x2048, .bf16⟩
  | .hbm, ⟨5, _⟩ => ⟨S_, .i32⟩
  | .hbm, ⟨6, _⟩ => ⟨S_, .f32⟩
  | .hbm, ⟨7, _⟩ => ⟨S128x1024, .f32⟩
  | .hbm, ⟨8, _⟩ => ⟨S1x1024, .f32⟩
  | .hbm, ⟨9, _⟩ => ⟨S8192x2048, .f32⟩
  | .hbm, ⟨10, _⟩ => ⟨S4x64x512x256, .bf16⟩
  | .hbm, ⟨11, _⟩ => ⟨S8192x6272, .bf16⟩
  | .hbm, ⟨12, _⟩ => ⟨S8192x1024, .bf16⟩
  | .hbm, ⟨13, _⟩ => ⟨S8x1024, .f32⟩
  | .hbm, ⟨14, _⟩ => ⟨S_, .f32⟩
  | .hbm, ⟨15, _⟩ => ⟨S1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x2048, .f32⟩
  | .local _ .vmem, ⟨5, _⟩ => ⟨S128x2048, .f32⟩
  | .local _ .vmem, ⟨6, _⟩ => ⟨S128x128, .f32⟩
  | .local _ .vmem, ⟨7, _⟩ => ⟨S128x128, .f32⟩
  | .local _ .vmem, ⟨8, _⟩ => ⟨S128x1024, .f32⟩
  | .local _ .vmem, ⟨9, _⟩ => ⟨S1x1024, .f32⟩
  | .local _ .vmem, ⟨10, _⟩ => ⟨S128x2048, .f32⟩
  | .local _ .vmem, ⟨11, _⟩ => ⟨S128x2048, .f32⟩
  | .local _ .vmem, ⟨12, _⟩ => ⟨S4x1x512x256, .bf16⟩
  | .local _ .vmem, ⟨13, _⟩ => ⟨S4x1x512x256, .bf16⟩
  | .local _ .vmem, ⟨14, _⟩ => ⟨S4x512x256, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x2048, .f32⟩
  | .local _ .vmem, ⟨20, _⟩ => ⟨S128x2048, .f32⟩
  | .local _ .vmem, ⟨21, _⟩ => ⟨S128x128, .f32⟩
  | .local _ .vmem, ⟨22, _⟩ => ⟨S128x128, .f32⟩
  | .local _ .vmem, ⟨23, _⟩ => ⟨S128x1024, .f32⟩
  | .local _ .vmem, ⟨24, _⟩ => ⟨S1x1024, .f32⟩
  | .local _ .vmem, ⟨25, _⟩ => ⟨S4x1x512x256, .bf16⟩
  | .local _ .vmem, ⟨26, _⟩ => ⟨S4x1x512x256, .bf16⟩
  | .local _ .vmem, ⟨27, _⟩ => ⟨S128x2048, .f32⟩
  | .local _ .vmem, ⟨28, _⟩ => ⟨S128x2048, .f32⟩
  | .local _ .vmem, ⟨29, _⟩ => ⟨S128x2048, .bf16⟩
  | .local _ .vmem, ⟨30, _⟩ => ⟨S128x2048, .bf16⟩
  | .local _ .vmem, ⟨31, _⟩ => ⟨S128x6272, .bf16⟩
  | .local _ .vmem, ⟨32, _⟩ => ⟨S128x6272, .bf16⟩
  | .local _ .vmem, ⟨33, _⟩ => ⟨S128x1024, .bf16⟩
  | .local _ .vmem, ⟨34, _⟩ => ⟨S128x1024, .bf16⟩
  | .local _ .vmem, ⟨35, _⟩ => ⟨S8x1024, .f32⟩
  | .local _ .vmem, ⟨36, _⟩ => ⟨S4x512x256, .f32⟩
  | .local _ .vmem, ⟨37, _⟩ => ⟨S128x1024, .f32⟩
  | _, _ => ⟨S8192x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_cst : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc1_stg9_0 : Ref sig .tc := ⟨.vmem, 31, rfl⟩
abbrev cc1_stg9_1 : Ref sig .tc := ⟨.vmem, 32, rfl⟩
abbrev cc1_stg10_0 : Ref sig .tc := ⟨.vmem, 33, rfl⟩
abbrev cc1_stg10_1 : Ref sig .tc := ⟨.vmem, 34, rfl⟩
abbrev cc1_stg11_0 : Ref sig .tc := ⟨.vmem, 35, rfl⟩
abbrev cc1_scratch0 : Ref sig .tc := ⟨.vmem, 36, rfl⟩
abbrev cc1_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc1_transform_2 (i : grid1.Coords) : Fin 2 → Nat :=
  let arg0 : BitVec 32 := BitVec.ofNat 32 (i 0).val
  let c63_i32 : BitVec 32 := 63#32
  let v0 : BitVec 32 := Scalar.subi c63_i32 arg0
  let c1_i32 : BitVec 32 := 1#32
  let c0_i32 : BitVec 32 := 0#32
  ![v0.toNat, c1_i32.toNat]

def cc1_transform_3 (i : grid1.Coords) : Fin 2 → Nat :=
  let arg0 : BitVec 32 := BitVec.ofNat 32 (i 0).val
  let c63_i32 : BitVec 32 := 63#32
  let v0 : BitVec 32 := Scalar.subi c63_i32 arg0
  let c48_i32 : BitVec 32 := 48#32
  let c0_i32 : BitVec 32 := 0#32
  ![v0.toNat, c48_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 4 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_7 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_8 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_9 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_10 (i : grid1.Coords) : Fin 2 → Nat :=
  let arg0 : BitVec 32 := BitVec.ofNat 32 (i 0).val
  let c63_i32 : BitVec 32 := 63#32
  let v0 : BitVec 32 := Scalar.subi c63_i32 arg0
  let c0_i32 : BitVec 32 := 0#32
  let c0_i32_0 : BitVec 32 := 0#32
  ![v0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4x1x512x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S128x6272 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S128x1024 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== ReferenceIdeal.lean ====
abbrev S8192x6272 : Shape := ⟨2, ![8192, 6272]⟩
abbrev S16x1024 : Shape := ⟨2, ![16, 1024]⟩
abbrev S1024 : Shape := ⟨1, ![1024]⟩
abbrev S8192x2048 : Shape := ⟨2, ![8192, 2048]⟩
abbrev S8192x1024 : Shape := ⟨2, ![8192, 1024]⟩
abbrev S8192x16 : Shape := ⟨2, ![8192, 16]⟩
abbrev S1x1024 : Shape := ⟨2, ![1, 1024]⟩
abbrev S_ : Shape := ⟨0, ![]⟩
abbrev S8192x4x256 : Shape := ⟨3, ![8192, 4, 256]⟩
abbrev S4x8192x256 : Shape := ⟨3, ![4, 8192, 256]⟩
abbrev S8192x4x512 : Shape := ⟨3, ![8192, 4, 512]⟩
abbrev S4x8192x512 : Shape := ⟨3, ![4, 8192, 512]⟩
abbrev S8192x8192 : Shape := ⟨2, ![8192, 8192]⟩
abbrev S8192x8192x1 : Shape := ⟨3, ![8192, 8192, 1]⟩
abbrev S4x8192x1x256 : Shape := ⟨4, ![4, 8192, 1, 256]⟩
abbrev S4x1x8192x256 : Shape := ⟨4, ![4, 1, 8192, 256]⟩
abbrev S4x8192x8192x256 : Shape := ⟨4, ![4, 8192, 8192, 256]⟩
abbrev S4x8192x8192 : Shape := ⟨3, ![4, 8192, 8192]⟩
abbrev S4x512x8192 : Shape := ⟨3, ![4, 512, 8192]⟩
abbrev S1024x16 : Shape := ⟨2, ![1024, 16]⟩
abbrev S8192x112 : Shape := ⟨2, ![8192, 112]⟩

abbrev nBuf : Space → Nat
  | .hbm => 186
  | .vmem => 0
  | .smem => 0
  | _ => 0

abbrev hbmTy0_0 (i : Nat) : BufTy := match i % 128 with
  | 0 => ⟨S8192x6272, .f32⟩
  | 1 => ⟨S16x1024, .f32⟩
  | 2 => ⟨S1024, .f32⟩
  | 3 => ⟨S8192x2048, .f32⟩
  | 4 => ⟨S8192x2048, .bf16⟩
  | 5 => ⟨S8192x1024, .f32⟩
  | 6 => ⟨S8192x1024, .f32⟩
  | 7 => ⟨S8192x2048, .f32⟩
  | 8 => ⟨S8192x16, .f32⟩
  | 9 => ⟨S8192x1024, .f32⟩
  | 10 => ⟨S1x1024, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S8192x1024, .f32⟩
  | 19 => ⟨S8192x1024, .i1⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .i1⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .i1⟩
  | 37 => ⟨S_, .f32⟩
  | 38 => ⟨S8192x1024, .f32⟩
  | 39 => ⟨S8192x1024, .f32⟩
  | 40 => ⟨S8192x1024, .f32⟩
  | 41 => ⟨S8192x1024, .f32⟩
  | 42 => ⟨S_, .f32⟩
  | 43 => ⟨S_, .f32⟩
  | 44 => ⟨S_, .i1⟩
  | 45 => ⟨S_, .f32⟩
  | 46 => ⟨S_, .f32⟩
  | 47 => ⟨S_, .f32⟩
  | 48 => ⟨S_, .f32⟩
  | 49 => ⟨S8192x1024, .f32⟩
  | 50 => ⟨S8192x1024, .i1⟩
  | 51 => ⟨S_, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S8192x1024, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x4x256, .f32⟩
  | 68 => ⟨S4x8192x256, .f32⟩
  | 69 => ⟨S8192x4x256, .f32⟩
  | 70 => ⟨S4x8192x256, .f32⟩
  | 71 => ⟨S8192x4x512, .f32⟩
  | 72 => ⟨S4x8192x512, .f32⟩
  | 73 => ⟨S8192x4x256, .f32⟩
  | 74 => ⟨S4x8192x256, .f32⟩
  | 75 => ⟨S_, .i1⟩
  | 76 => ⟨S8192x8192, .i1⟩
  | 77 => ⟨S8192x8192, .i32⟩
  | 78 => ⟨S_, .i32⟩
  | 79 => ⟨S8192x8192, .i32⟩
  | 80 => ⟨S8192x8192, .i32⟩
  | 81 => ⟨S8192x8192, .i32⟩
  | 82 => ⟨S8192x8192, .i1⟩
  | 83 => ⟨S_, .i1⟩
  | 84 => ⟨S8192x8192, .i1⟩
  | 85 => ⟨S8192x8192, .i1⟩
  | 86 => ⟨S8192x8192x1, .i1⟩
  | 87 => ⟨S_, .f32⟩
  | 88 => ⟨S_, .f32⟩
  | 89 => ⟨S4x8192x256, .f32⟩
  | 90 => ⟨S4x8192x1x256, .f32⟩
  | 91 => ⟨S4x1x8192x256, .f32⟩
  | 92 => ⟨S4x8192x8192x256, .f32⟩
  | 93 => ⟨S4x8192x8192x256, .f32⟩
  | 94 => ⟨S4x8192x8192x256, .f32⟩
  | 95 => ⟨S_, .f32⟩
  | 96 => ⟨S_, .f32⟩
  | 97 => ⟨S4x8192x8192x256, .i1⟩
  | 98 => ⟨S4x8192x8192x256, .f32⟩
  | 99 => ⟨S4x8192x8192x256, .f32⟩
  | 100 => ⟨S_, .f32⟩
  | 101 => ⟨S4x8192x8192x256, .f32⟩
  | 102 => ⟨S4x8192x1x256, .f32⟩
  | 103 => ⟨S4x1x8192x256, .f32⟩
  | 104 => ⟨S4x8192x8192x256, .f32⟩
  | 105 => ⟨S4x8192x8192x256, .f32⟩
  | 106 => ⟨S4x8192x8192x256, .f32⟩
  | 107 => ⟨S4x8192x8192x256, .f32⟩
  | 108 => ⟨S4x8192x8192x256, .f32⟩
  | 109 => ⟨S_, .f32⟩
  | 110 => ⟨S4x8192x8192, .f32⟩
  | 111 => ⟨S4x8192x512, .f32⟩
  | 112 => ⟨S8192x4x512, .f32⟩
  | 113 => ⟨S8192x2048, .f32⟩
  | 114 => ⟨S8192x4x512, .f32⟩
  | 115 => ⟨S4x8192x512, .f32⟩
  | 116 => ⟨S4x512x8192, .f32⟩
  | 117 => ⟨S4x8192x512, .f32⟩
  | 118 => ⟨S4x8192x8192, .f32⟩
  | 119 => ⟨S4x8192x8192x256, .f32⟩
  | 120 => ⟨S4x8192x8192x256, .f32⟩
  | 121 => ⟨S4x8192x8192x256, .f32⟩
  | 122 => ⟨S4x8192x8192x256, .f32⟩
  | 123 => ⟨S4x8192x8192x256, .f32⟩
  | 124 => ⟨S4x8192x8192x256, .f32⟩
  | 125 => ⟨S_, .f32⟩
  | 126 => ⟨S4x8192x256, .f32⟩
  | 127 => ⟨S4x1x8192x256, .f32⟩
  | _ => ⟨S8192x6272, .f32⟩

abbrev hbmTy0_1 (i : Nat) : BufTy := match i % 128 with
  | 0 => ⟨S4x8192x8192x256, .f32⟩
  | 1 => ⟨S4x8192x8192x256, .f32⟩
  | 2 => ⟨S_, .f32⟩
  | 3 => ⟨S4x8192x256, .f32⟩
  | 4 => ⟨S4x8192x1x256, .f32⟩
  | 5 => ⟨S_, .f32⟩
  | 6 => ⟨S4x8192x256, .f32⟩
  | 7 => ⟨S_, .f32⟩
  | 8 => ⟨S4x8192x256, .f32⟩
  | 9 => ⟨S_, .f32⟩
  | 10 => ⟨S4x8192x8192x256, .f32⟩
  | 11 => ⟨S4x8192x8192x256, .f32⟩
  | 12 => ⟨S_, .f32⟩
  | 13 => ⟨S4x8192x256, .f32⟩
  | 14 => ⟨S4x8192x1x256, .f32⟩
  | 15 => ⟨S4x8192x8192x256, .f32⟩
  | 16 => ⟨S_, .f32⟩
  | 17 => ⟨S4x8192x256, .f32⟩
  | 18 => ⟨S4x1x8192x256, .f32⟩
  | 19 => ⟨S_, .f32⟩
  | 20 => ⟨S4x8192x256, .f32⟩
  | 21 => ⟨S_, .f32⟩
  | 22 => ⟨S4x8192x256, .f32⟩
  | 23 => ⟨S4x8192x256, .f32⟩
  | 24 => ⟨S_, .f32⟩
  | 25 => ⟨S_, .f32⟩
  | 26 => ⟨S4x8192x256, .f32⟩
  | 27 => ⟨S8192x4x256, .f32⟩
  | 28 => ⟨S8192x1024, .f32⟩
  | 29 => ⟨S8192x4x512, .f32⟩
  | 30 => ⟨S8192x2048, .f32⟩
  | 31 => ⟨S8192x4x256, .f32⟩
  | 32 => ⟨S8192x1024, .f32⟩
  | 33 => ⟨S8192x4x256, .f32⟩
  | 34 => ⟨S8192x1024, .f32⟩
  | 35 => ⟨S_, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S1024, .f32⟩
  | 46 => ⟨S1x1024, .f32⟩
  | 47 => ⟨S_, .f32⟩
  | 48 => ⟨S1024, .f32⟩
  | 49 => ⟨S1024x16, .f32⟩
  | 50 => ⟨S16x1024, .f32⟩
  | 51 => ⟨S8192x16, .f32⟩
  | 52 => ⟨S8192x2048, .f32⟩
  | 53 => ⟨S_, .f32⟩
  | 54 => ⟨S8192x112, .f32⟩
  | 55 => ⟨S8192x6272, .f32⟩
  | 56 => ⟨S8192x6272, .bf16⟩
  | 57 => ⟨S8192x1024, .bf16⟩
  | _ => ⟨S8192x6272, .f32⟩

abbrev hbmTy (i : Nat) : BufTy := match i / 128 with
  | 0 => hbmTy0_0 i
  | 1 => hbmTy0_1 i
  | _ => ⟨S8192x6272, .f32⟩

abbrev bufTy : (tb : Table) → Fin (tcTables nBuf tb) → BufTy
  | .hbm, ⟨i, _⟩ => hbmTy i
  | _, _ => ⟨S8192x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_call0_cst : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_v10 : Ref sig .tc := ⟨.hbm, 25, rfl⟩
abbrev main_call0_call0_v11 : Ref sig .tc := ⟨.hbm, 26, rfl⟩
abbrev main_call0_v1_0 : Ref sig .tc := ⟨.hbm, 27, rfl⟩
abbrev main_call0_call0_cst_0 : Ref sig .tc := ⟨.hbm, 28, rfl⟩
abbrev main_call0_call0_v13 : Ref sig .tc := ⟨.hbm, 29, rfl⟩
abbrev main_call0_call0_v14 : Ref sig .tc := ⟨.hbm, 30, rfl⟩
abbrev main_call0_call0_cst_1 : Ref sig .tc := ⟨.hbm, 31, rfl⟩
abbrev main_call0_call0_v15 : Ref sig .tc := ⟨.hbm, 32, rfl⟩
abbrev main_call0_call0_v16 : Ref sig .tc := ⟨.hbm, 33, rfl⟩
abbrev main_call0_call0_cst_2 : Ref sig .tc := ⟨.hbm, 34, rfl⟩
abbrev main_call0_call0_v17 : Ref sig .tc := ⟨.hbm, 35, rfl⟩
abbrev main_call0_call0_v18 : Ref sig .tc := ⟨.hbm, 36, rfl⟩
abbrev main_call0_call0_cst_3 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_v8_1 : Ref sig .tc := ⟨.hbm, 41, rfl⟩
abbrev main_call0_call0_cst_4 : Ref sig .tc := ⟨.hbm, 42, rfl⟩
abbrev main_call0_call0_cst_5 : Ref sig .tc := ⟨.hbm, 43, rfl⟩
abbrev main_call0_call0_v23 : Ref sig .tc := ⟨.hbm, 44, rfl⟩
abbrev main_call0_call0_cst_6 : Ref sig .tc := ⟨.hbm, 45, rfl⟩
abbrev main_call0_call0_cst_7 : Ref sig .tc := ⟨.hbm, 46, rfl⟩
abbrev main_call0_call0_v24 : Ref sig .tc := ⟨.hbm, 47, rfl⟩
abbrev main_call0_call0_cst_8 : Ref sig .tc := ⟨.hbm, 48, rfl⟩
abbrev main_call0_call0_v25 : Ref sig .tc := ⟨.hbm, 49, rfl⟩
abbrev main_call0_call0_v26 : Ref sig .tc := ⟨.hbm, 50, rfl⟩
abbrev main_call0_call0_cst_9 : Ref sig .tc := ⟨.hbm, 51, rfl⟩
abbrev main_call0_call0_v27 : Ref sig .tc := ⟨.hbm, 52, rfl⟩
abbrev main_call0_call0_v28 : Ref sig .tc := ⟨.hbm, 53, rfl⟩
abbrev main_call0_call0_v29 : Ref sig .tc := ⟨.hbm, 54, rfl⟩
abbrev main_call0_call0_v30 : Ref sig .tc := ⟨.hbm, 55, rfl⟩
abbrev main_call0_call0_v31 : Ref sig .tc := ⟨.hbm, 56, rfl⟩
abbrev main_call0_call0_cst_10 : Ref sig .tc := ⟨.hbm, 57, rfl⟩
abbrev main_call0_call0_v32 : Ref sig .tc := ⟨.hbm, 58, rfl⟩
abbrev main_v8_2 : Ref sig .tc := ⟨.hbm, 59, rfl⟩
abbrev main_v8_0 : Ref sig .tc := ⟨.hbm, 60, rfl⟩
abbrev main_cst : Ref sig .tc := ⟨.hbm, 61, rfl⟩
abbrev main_v9 : Ref sig .tc := ⟨.hbm, 62, rfl⟩
abbrev main_v10 : Ref sig .tc := ⟨.hbm, 63, rfl⟩
abbrev main_cst_0 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_c : Ref sig .tc := ⟨.hbm, 75, rfl⟩
abbrev main_v21 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_c_0 : Ref sig .tc := ⟨.hbm, 83, rfl⟩
abbrev main_call1_v5 : Ref sig .tc := ⟨.hbm, 84, rfl⟩
abbrev main_v22 : Ref sig .tc := ⟨.hbm, 85, rfl⟩
abbrev main_v23 : Ref sig .tc := ⟨.hbm, 86, rfl⟩
abbrev main_call2_call0_cst : Ref sig .tc := ⟨.hbm, 87, rfl⟩
abbrev main_call2_call0_v0 : Ref sig .tc := ⟨.hbm, 88, rfl⟩
abbrev main_v24 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_cst_1 : Ref sig .tc := ⟨.hbm, 95, rfl⟩
abbrev main_call3_v0 : Ref sig .tc := ⟨.hbm, 96, rfl⟩
abbrev main_v30_1 : Ref sig .tc := ⟨.hbm, 97, rfl⟩
abbrev main_call3_v2 : Ref sig .tc := ⟨.hbm, 98, rfl⟩
abbrev main_v30_0 : Ref sig .tc := ⟨.hbm, 99, rfl⟩
abbrev main_call3_cst : Ref sig .tc := ⟨.hbm, 100, rfl⟩
abbrev main_v30_2 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_cst_2 : Ref sig .tc := ⟨.hbm, 109, rfl⟩
abbrev main_v38 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_cst_3 : Ref sig .tc := ⟨.hbm, 125, rfl⟩
abbrev main_v53 : Ref sig .tc := ⟨.hbm, 126, rfl⟩
abbrev main_v54 : Ref sig .tc := ⟨.hbm, 127, rfl⟩
abbrev main_v55 : Ref sig .tc := ⟨.hbm, 128, rfl⟩
abbrev main_v56 : Ref sig .tc := ⟨.hbm, 129, rfl⟩
abbrev main_cst_4 : Ref sig .tc := ⟨.hbm, 130, rfl⟩
abbrev main_v57 : Ref sig .tc := ⟨.hbm, 131, rfl⟩
abbrev main_v58 : Ref sig .tc := ⟨.hbm, 132, rfl⟩
abbrev main_cst_5 : Ref sig .tc := ⟨.hbm, 133, rfl⟩
abbrev main_v59 : Ref sig .tc := ⟨.hbm, 134, rfl⟩
abbrev main_cst_6 : Ref sig .tc := ⟨.hbm, 135, rfl⟩
abbrev main_v60 : Ref sig .tc := ⟨.hbm, 136, rfl⟩
abbrev main_call4_cst : Ref sig .tc := ⟨.hbm, 137, rfl⟩
abbrev main_call4_v0 : Ref sig .tc := ⟨.hbm, 138, rfl⟩
abbrev main_v61 : Ref sig .tc := ⟨.hbm, 139, rfl⟩
abbrev main_cst_7 : Ref sig .tc := ⟨.hbm, 140, rfl⟩
abbrev main_v62 : Ref sig .tc := ⟨.hbm, 141, rfl⟩
abbrev main_v63 : Ref sig .tc := ⟨.hbm, 142, rfl⟩
abbrev main_v64 : Ref sig .tc := ⟨.hbm, 143, rfl⟩
abbrev main_cst_8 : Ref sig .tc := ⟨.hbm, 144, rfl⟩
abbrev main_v65 : Ref sig .tc := ⟨.hbm, 145, rfl⟩
abbrev main_v66 : Ref sig .tc := ⟨.hbm, 146, rfl⟩
abbrev main_cst_9 : Ref sig .tc := ⟨.hbm, 147, rfl⟩
abbrev main_v67 : Ref sig .tc := ⟨.hbm, 148, rfl⟩
abbrev main_cst_10 : Ref sig .tc := ⟨.hbm, 149, rfl⟩
abbrev main_v68 : Ref sig .tc := ⟨.hbm, 150, rfl⟩
abbrev main_v69 : Ref sig .tc := ⟨.hbm, 151, rfl⟩
abbrev main_call5_call0_cst : Ref sig .tc := ⟨.hbm, 152, rfl⟩
abbrev main_call5_call0_v0 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_v76 : Ref sig .tc := ⟨.hbm, 160, rfl⟩
abbrev main_v77 : Ref sig .tc := ⟨.hbm, 161, rfl⟩
abbrev main_v78 : Ref sig .tc := ⟨.hbm, 162, rfl⟩
abbrev main_cst_11 : Ref sig .tc := ⟨.hbm, 163, rfl⟩
abbrev main_v79 : Ref sig .tc := ⟨.hbm, 164, rfl⟩
abbrev main_v80 : Ref sig .tc := ⟨.hbm, 165, rfl⟩
abbrev main_cst_12 : Ref sig .tc := ⟨.hbm, 166, rfl⟩
abbrev main_v81 : Ref sig .tc := ⟨.hbm, 167, rfl⟩
abbrev main_v82 : Ref sig .tc := ⟨.hbm, 168, rfl⟩
abbrev main_call6_v0 : Ref sig .tc := ⟨.hbm, 169, rfl⟩
abbrev main_call6_v1 : Ref sig .tc := ⟨.hbm, 170, rfl⟩
abbrev main_v83 : Ref sig .tc := ⟨.hbm, 171, rfl⟩
abbrev main_cst_13 : Ref sig .tc := ⟨.hbm, 172, rfl⟩
abbrev main_v84 : Ref sig .tc := ⟨.hbm, 173, rfl⟩
abbrev main_v85 : Ref sig .tc := ⟨.hbm, 174, rfl⟩
abbrev main_cst_14 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_cst_15 : Ref sig .tc := ⟨.hbm, 181, rfl⟩
abbrev main_v91 : Ref sig .tc := ⟨.hbm, 182, rfl⟩
abbrev main_v92 : Ref sig .tc := ⟨.hbm, 183, rfl⟩
abbrev main_v93 : Ref sig .tc := ⟨.hbm, 184, rfl⟩
abbrev main_v94 : Ref sig .tc := ⟨.hbm, 185, rfl⟩

abbrev nD : Nat := 1
abbrev τ : Topo := Topo.v7x

variable {F : FTy → Type} [FloatOps F]
-- ==== Act.lean ====
abbrev S8192x2048 : Shape := ⟨2, ![8192, 2048]⟩
abbrev S2048x11264 : Shape := ⟨2, ![2048, 11264]⟩
abbrev S5632x2048 : Shape := ⟨2, ![5632, 2048]⟩
abbrev S2048x4x2816 : Shape := ⟨3, ![2048, 4, 2816]⟩
abbrev S4x2048x2816 : Shape := ⟨3, ![4, 2048, 2816]⟩
abbrev S4x1408x2048 : Shape := ⟨3, ![4, 1408, 2048]⟩
abbrev S8192x11264 : Shape := ⟨2, ![8192, 11264]⟩
abbrev S8192x5632 : Shape := ⟨2, ![8192, 5632]⟩
abbrev S512x2048 : Shape := ⟨2, ![512, 2048]⟩
abbrev S1x2048x1408 : Shape := ⟨3, ![1, 2048, 1408]⟩
abbrev S512x2816 : Shape := ⟨2, ![512, 2816]⟩
abbrev S512x1408 : Shape := ⟨2, ![512, 1408]⟩
abbrev S2048x1408 : Shape := ⟨2, ![2048, 1408]⟩
abbrev S1x1408x2048 : Shape := ⟨3, ![1, 1408, 2048]⟩
abbrev S1408x2048 : Shape := ⟨2, ![1408, 2048]⟩

abbrev nBuf : Space → Nat
  | .hbm => 12
  | .vmem => 18
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S2048x11264, .bf16⟩
  | .hbm, ⟨5, _⟩ => ⟨S2048x4x2816, .bf16⟩
  | .hbm, ⟨6, _⟩ => ⟨S4x2048x2816, .bf16⟩
  | .hbm, ⟨7, _⟩ => ⟨S5632x2048, .bf16⟩
  | .hbm, ⟨8, _⟩ => ⟨S4x1408x2048, .bf16⟩
  | .hbm, ⟨9, _⟩ => ⟨S8192x11264, .bf16⟩
  | .hbm, ⟨10, _⟩ => ⟨S8192x5632, .bf16⟩
  | .hbm, ⟨11, _⟩ => ⟨S8192x11264, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x2816, .bf16⟩
  | .local _ .vmem, ⟨7, _⟩ => ⟨S512x2816, .bf16⟩
  | .local _ .vmem, ⟨8, _⟩ => ⟨S512x1408, .bf16⟩
  | .local _ .vmem, ⟨9, _⟩ => ⟨S512x1408, .bf16⟩
  | .local _ .vmem, ⟨10, _⟩ => ⟨S512x2048, .bf16⟩
  | .local _ .vmem, ⟨11, _⟩ => ⟨S512x2048, .bf16⟩
  | .local _ .vmem, ⟨12, _⟩ => ⟨S1x1408x2048, .bf16⟩
  | .local _ .vmem, ⟨13, _⟩ => ⟨S1x1408x2048, .bf16⟩
  | .local _ .vmem, ⟨14, _⟩ => ⟨S512x2816, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c2_i32_0 : BitVec 32 := 2#32
  let c0_i32 : BitVec 32 := 0#32
  let v1 : BitVec 1 := Scalar.cmpi .eq c2_i32_0 c0_i32
  let c1_i32 : BitVec 32 := 1#32
  let v2 : BitVec 32 := Scalar.select v1 c1_i32 c2_i32_0
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c2_i32_4 : BitVec 32 := 2#32
  let v11 : BitVec 32 := Scalar.muli c2_i32_4 v10
  let c2_i32_5 : BitVec 32 := 2#32
  let v12 : BitVec 32 := Scalar.divsi v0 c2_i32_5
  let c0_i32_6 : BitVec 32 := 0#32
  let v13 : BitVec 1 := Scalar.cmpi .sgt v0 c0_i32_6
  let v14 : BitVec 32 := Scalar.extui v13
  let c0_i32_7 : BitVec 32 := 0#32
  let v15 : BitVec 1 := Scalar.cmpi .slt v0 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v0 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c2_i32_12 : BitVec 32 := 2#32
  let v29 : BitVec 32 := Scalar.divsi v28 c2_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c2_i32_12 c0_i32_15
  let v36 : BitVec 32 := Scalar.extui v35
  let c0_i32_16 : BitVec 32 := 0#32
  let v37 : BitVec 1 := Scalar.cmpi .slt c2_i32_12 c0_i32_16
  let v38 : BitVec 32 := Scalar.extui v37
  let v39 : BitVec 32 := Scalar.subi v36 v38
  let v40 : BitVec 1 := Scalar.cmpi .ne v34 v39
  let v41 : BitVec 32 := Scalar.remsi v28 c2_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let v46 : BitVec 32 := Scalar.addi v11 v45
  let c2_i32_19 : BitVec 32 := 2#32
  let v47 : BitVec 32 := Scalar.divsi v0 c2_i32_19
  let c0_i32_20 : BitVec 32 := 0#32
  let v48 : BitVec 1 := Scalar.cmpi .sgt v0 c0_i32_20
  let v49 : BitVec 32 := Scalar.extui v48
  let c0_i32_21 : BitVec 32 := 0#32
  let v50 : BitVec 1 := Scalar.cmpi .slt v0 c0_i32_21
  let v51 : BitVec 32 := Scalar.extui v50
  let v52 : BitVec 32 := Scalar.subi v49 v51
  let c0_i32_22 : BitVec 32 := 0#32
  let v53 : BitVec 1 := Scalar.cmpi .sgt c2_i32_19 c0_i32_22
  let v54 : BitVec 32 := Scalar.extui v53
  let c0_i32_23 : BitVec 32 := 0#32
  let v55 : BitVec 1 := Scalar.cmpi .slt c2_i32_19 c0_i32_23
  let v56 : BitVec 32 := Scalar.extui v55
  let v57 : BitVec 32 := Scalar.subi v54 v56
  let v58 : BitVec 1 := Scalar.cmpi .ne v52 v57
  let v59 : BitVec 32 := Scalar.remsi v0 c2_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c2_i32_26 : BitVec 32 := 2#32
  let c0_i32_27 : BitVec 32 := 0#32
  let v64 : BitVec 1 := Scalar.cmpi .eq c2_i32_26 c0_i32_27
  let c1_i32_28 : BitVec 32 := 1#32
  let v65 : BitVec 32 := Scalar.select v64 c1_i32_28 c2_i32_26
  let v66 : BitVec 32 := Scalar.remsi v63 v65
  let c0_i32_29 : BitVec 32 := 0#32
  let v67 : BitVec 1 := Scalar.cmpi .ne v66 c0_i32_29
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let v71 : BitVec 1 := Scalar.andi v70 v67
  let v72 : BitVec 32 := Scalar.addi v66 v65
  let v73 : BitVec 32 := Scalar.select v71 v72 v66
  let c0_i32_32 : BitVec 32 := 0#32
  let c0_i32_33 : BitVec 32 := 0#32
  ![v46.toNat, c0_i32_32.toNat, v73.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c2_i32_20 : BitVec 32 := 2#32
  let v48 : BitVec 32 := Scalar.divsi v1 c2_i32_20
  let c0_i32_21 : BitVec 32 := 0#32
  let v49 : BitVec 1 := Scalar.cmpi .sgt v1 c0_i32_21
  let v50 : BitVec 32 := Scalar.extui v49
  let c0_i32_22 : BitVec 32 := 0#32
  let v51 : BitVec 1 := Scalar.cmpi .slt v1 c0_i32_22
  let v52 : BitVec 32 := Scalar.extui v51
  let v53 : BitVec 32 := Scalar.subi v50 v52
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi v1 c2_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c2_i32_27 : BitVec 32 := 2#32
  let c0_i32_28 : BitVec 32 := 0#32
  let v65 : BitVec 1 := Scalar.cmpi .eq c2_i32_27 c0_i32_28
  let c1_i32_29 : BitVec 32 := 1#32
  let v66 : BitVec 32 := Scalar.select v65 c1_i32_29 c2_i32_27
  let v67 : BitVec 32 := Scalar.remsi v64 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c0_i32_33 : BitVec 32 := 0#32
  let c0_i32_34 : BitVec 32 := 0#32
  ![v47.toNat, c0_i32_33.toNat, v74.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1408x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x2816 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ActReferenceIdeal.lean ====
abbrev S8192x2048 : Shape := ⟨2, ![8192, 2048]⟩
abbrev S2048x11264 : Shape := ⟨2, ![2048, 11264]⟩
abbrev S5632x2048 : Shape := ⟨2, ![5632, 2048]⟩
abbrev S8192x11264 : Shape := ⟨2, ![8192, 11264]⟩
abbrev S8192x5632 : Shape := ⟨2, ![8192, 5632]⟩
abbrev S_ : Shape := ⟨0, ![]⟩
abbrev S8192x2x4x1408 : Shape := ⟨4, ![8192, 2, 4, 1408]⟩
abbrev S8192x4x2x1408 : Shape := ⟨4, ![8192, 4, 2, 1408]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .f32⟩
  | .hbm, ⟨2, _⟩ => ⟨S5632x2048, .f32⟩
  | .hbm, ⟨3, _⟩ => ⟨S8192x2048, .bf16⟩
  | .hbm, ⟨4, _⟩ => ⟨S8192x2048, .f32⟩
  | .hbm, ⟨5, _⟩ => ⟨S8192x11264, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S_, .f32⟩
  | .hbm, ⟨23, _⟩ => ⟨S8192x5632, .f32⟩
  | .hbm, ⟨24, _⟩ => ⟨S8192x5632, .f32⟩
  | .hbm, ⟨25, _⟩ => ⟨S_, .f32⟩
  | .hbm, ⟨26, _⟩ => ⟨S8192x5632, .f32⟩
  | .hbm, ⟨27, _⟩ => ⟨S8192x5632, .f32⟩
  | .hbm, ⟨28, _⟩ => ⟨S_, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x2048, .f32⟩
  | .hbm, ⟨35, _⟩ => ⟨S8192x2048, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x5632, .f32⟩
  | .hbm, ⟨42, _⟩ => ⟨S8192x5632, .f32⟩
  | .hbm, ⟨43, _⟩ => ⟨S8192x11264, .f32⟩
  | .hbm, ⟨44, _⟩ => ⟨S8192x2x4x1408, .f32⟩
  | .hbm, ⟨45, _⟩ => ⟨S8192x4x2x1408, .f32⟩
  | .hbm, ⟨46, _⟩ => ⟨S8192x11264, .f32⟩
  | .hbm, ⟨47, _⟩ => ⟨S8192x11264, .bf16⟩
  | .hbm, ⟨48, _⟩ => ⟨S8192x5632, .bf16⟩
  | .hbm, ⟨49, _⟩ => ⟨S8192x2x4x1408, .f32⟩
  | .hbm, ⟨50, _⟩ => ⟨S8192x4x2x1408, .f32⟩
  | .hbm, ⟨51, _⟩ => ⟨S8192x11264, .f32⟩
  | .hbm, ⟨52, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_v8_2 : Ref sig .tc := ⟨.hbm, 27, rfl⟩
abbrev main_call1_cst_1 : Ref sig .tc := ⟨.hbm, 28, rfl⟩
abbrev main_call1_v6 : Ref sig .tc := ⟨.hbm, 29, rfl⟩
abbrev main_call1_v7 : Ref sig .tc := ⟨.hbm, 30, rfl⟩
abbrev main_v8_1 : Ref sig .tc := ⟨.hbm, 31, rfl⟩
abbrev main_v8_0 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_call2_v0 : Ref sig .tc := ⟨.hbm, 39, rfl⟩
abbrev main_call2_v1 : Ref sig .tc := ⟨.hbm, 40, rfl⟩
abbrev main_call2_v2 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩

abbrev nD : Nat := 1
abbrev τ : Topo := Topo.v7x

variable {F : FTy → Type} [FloatOps F]
-- ==== Wout.lean ====
abbrev S8192x5632 : Shape := ⟨2, ![8192, 5632]⟩
abbrev S8192x2048 : Shape := ⟨2, ![8192, 2048]⟩
abbrev S4x1408x2048 : Shape := ⟨3, ![4, 1408, 2048]⟩
abbrev S2048x1408 : Shape := ⟨2, ![2048, 1408]⟩
abbrev S2048x1024 : Shape := ⟨2, ![2048, 1024]⟩
abbrev S1x1408x1024 : Shape := ⟨3, ![1, 1408, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S4x1408x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1x1408x1024, .bf16⟩
  | .local _ .vmem, ⟨5, _⟩ => ⟨S1x1408x1024, .bf16⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Win.lean ====
abbrev S8192x2048 : Shape := ⟨2, ![8192, 2048]⟩
abbrev S8192x11264 : Shape := ⟨2, ![8192, 11264]⟩
abbrev S8192x2x4x1408 : Shape := ⟨4, ![8192, 2, 4, 1408]⟩
abbrev S8192x4x2x1408 : Shape := ⟨4, ![8192, 4, 2, 1408]⟩
abbrev S4x2048x2816 : Shape := ⟨3, ![4, 2048, 2816]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2x4x1408, .bf16⟩
  | .hbm, ⟨3, _⟩ => ⟨S8192x4x2x1408, .bf16⟩
  | .hbm, ⟨4, _⟩ => ⟨S8192x11264, .bf16⟩
  | .hbm, ⟨5, _⟩ => ⟨S4x2048x2816, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli c2_i32_3 v9
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c2_i32_11 : BitVec 32 := 2#32
  let v28 : BitVec 32 := Scalar.divsi v27 c2_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c2_i32_11 c0_i32_14
  let v35 : BitVec 32 := Scalar.extui v34
  let c0_i32_15 : BitVec 32 := 0#32
  let v36 : BitVec 1 := Scalar.cmpi .slt c2_i32_11 c0_i32_15
  let v37 : BitVec 32 := Scalar.extui v36
  let v38 : BitVec 32 := Scalar.subi v35 v37
  let v39 : BitVec 1 := Scalar.cmpi .ne v33 v38
  let v40 : BitVec 32 := Scalar.remsi v27 c2_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v10 v44
  let c0_i32_18 : BitVec 32 := 0#32
  let v46 : BitVec 32 := Scalar.addi c0_i32_18 arg0
  let c2_i32_19 : BitVec 32 := 2#32
  let v47 : BitVec 32 := Scalar.divsi arg1 c2_i32_19
  let c0_i32_20 : BitVec 32 := 0#32
  let v48 : BitVec 1 := Scalar.cmpi .sgt arg1 c0_i32_20
  let v49 : BitVec 32 := Scalar.extui v48
  let c0_i32_21 : BitVec 32 := 0#32
  let v50 : BitVec 1 := Scalar.cmpi .slt arg1 c0_i32_21
  let v51 : BitVec 32 := Scalar.extui v50
  let v52 : BitVec 32 := Scalar.subi v49 v51
  let c0_i32_22 : BitVec 32 := 0#32
  let v53 : BitVec 1 := Scalar.cmpi .sgt c2_i32_19 c0_i32_22
  let v54 : BitVec 32 := Scalar.extui v53
  let c0_i32_23 : BitVec 32 := 0#32
  let v55 : BitVec 1 := Scalar.cmpi .slt c2_i32_19 c0_i32_23
  let v56 : BitVec 32 := Scalar.extui v55
  let v57 : BitVec 32 := Scalar.subi v54 v56
  let v58 : BitVec 1 := Scalar.cmpi .ne v52 v57
  let v59 : BitVec 32 := Scalar.remsi arg1 c2_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c2_i32_26 : BitVec 32 := 2#32
  let c0_i32_27 : BitVec 32 := 0#32
  let v64 : BitVec 1 := Scalar.cmpi .eq c2_i32_26 c0_i32_27
  let c1_i32_28 : BitVec 32 := 1#32
  let v65 : BitVec 32 := Scalar.select v64 c1_i32_28 c2_i32_26
  let v66 : BitVec 32 := Scalar.remsi v63 v65
  let c0_i32_29 : BitVec 32 := 0#32
  let v67 : BitVec 1 := Scalar.cmpi .ne v66 c0_i32_29
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let v71 : BitVec 1 := Scalar.andi v70 v67
  let v72 : BitVec 32 := Scalar.addi v66 v65
  let v73 : BitVec 32 := Scalar.select v71 v72 v66
  let c0_i32_32 : BitVec 32 := 0#32
  ![v45.toNat, v46.toNat, v73.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinReferenceIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩
abbrev S2048x4x2816 : Shape := ⟨3, ![2048, 4, 2816]⟩
abbrev S4x2048x2816 : Shape := ⟨3, ![4, 2048, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x4x2816, .f32⟩
  | .hbm, ⟨10, _⟩ => ⟨S4x2048x2816, .f32⟩
  | .hbm, ⟨11, _⟩ => ⟨S4x2048x2816, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Dh.lean ====
abbrev S8192x11264 : Shape := ⟨2, ![8192, 11264]⟩
abbrev S2048x11264 : Shape := ⟨2, ![2048, 11264]⟩
abbrev S2048x4x2816 : Shape := ⟨3, ![2048, 4, 2816]⟩
abbrev S4x2048x2816 : Shape := ⟨3, ![4, 2048, 2816]⟩
abbrev S8192x2x4x1408 : Shape := ⟨4, ![8192, 2, 4, 1408]⟩
abbrev S8192x4x2x1408 : Shape := ⟨4, ![8192, 4, 2, 1408]⟩
abbrev S8192x2048 : Shape := ⟨2, ![8192, 2048]⟩
abbrev S1024x2816 : Shape := ⟨2, ![1024, 2816]⟩
abbrev S1x1024x1408 : Shape := ⟨3, ![1, 1024, 1408]⟩
abbrev S1024x1024 : Shape := ⟨2, ![1024, 1024]⟩
abbrev S1024x1408 : Shape := ⟨2, ![1024, 1408]⟩

abbrev nBuf : Space → Nat
  | .hbm => 9
  | .vmem => 9
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .f32⟩
  | .hbm, ⟨2, _⟩ => ⟨S2048x11264, .bf16⟩
  | .hbm, ⟨3, _⟩ => ⟨S2048x4x2816, .bf16⟩
  | .hbm, ⟨4, _⟩ => ⟨S4x2048x2816, .bf16⟩
  | .hbm, ⟨5, _⟩ => ⟨S8192x2x4x1408, .bf16⟩
  | .hbm, ⟨6, _⟩ => ⟨S8192x4x2x1408, .bf16⟩
  | .hbm, ⟨7, _⟩ => ⟨S8192x11264, .bf16⟩
  | .hbm, ⟨8, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c2_i32_0 : BitVec 32 := 2#32
  let c0_i32_1 : BitVec 32 := 0#32
  let v2 : BitVec 1 := Scalar.cmpi .eq c2_i32_0 c0_i32_1
  let c1_i32 : BitVec 32 := 1#32
  let v3 : BitVec 32 := Scalar.select v2 c1_i32 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c0_i32_20 : BitVec 32 := 0#32
  let v48 : BitVec 32 := Scalar.addi c0_i32_20 arg1
  let c2_i32_21 : BitVec 32 := 2#32
  let v49 : BitVec 32 := Scalar.divsi v1 c2_i32_21
  let c0_i32_22 : BitVec 32 := 0#32
  let v50 : BitVec 1 := Scalar.cmpi .sgt v1 c0_i32_22
  let v51 : BitVec 32 := Scalar.extui v50
  let c0_i32_23 : BitVec 32 := 0#32
  let v52 : BitVec 1 := Scalar.cmpi .slt v1 c0_i32_23
  let v53 : BitVec 32 := Scalar.extui v52
  let v54 : BitVec 32 := Scalar.subi v51 v53
  let c0_i32_24 : BitVec 32 := 0#32
  let v55 : BitVec 1 := Scalar.cmpi .sgt c2_i32_21 c0_i32_24
  let v56 : BitVec 32 := Scalar.extui v55
  let c0_i32_25 : BitVec 32 := 0#32
  let v57 : BitVec 1 := Scalar.cmpi .slt c2_i32_21 c0_i32_25
  let v58 : BitVec 32 := Scalar.extui v57
  let v59 : BitVec 32 := Scalar.subi v56 v58
  let v60 : BitVec 1 := Scalar.cmpi .ne v54 v59
  let v61 : BitVec 32 := Scalar.remsi v1 c2_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c2_i32_28 : BitVec 32 := 2#32
  let c0_i32_29 : BitVec 32 := 0#32
  let v66 : BitVec 1 := Scalar.cmpi .eq c2_i32_28 c0_i32_29
  let c1_i32_30 : BitVec 32 := 1#32
  let v67 : BitVec 32 := Scalar.select v66 c1_i32_30 c2_i32_28
  let v68 : BitVec 32 := Scalar.remsi v65 v67
  let c0_i32_31 : BitVec 32 := 0#32
  let v69 : BitVec 1 := Scalar.cmpi .ne v68 c0_i32_31
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let v73 : BitVec 1 := Scalar.andi v72 v69
  let v74 : BitVec 32 := Scalar.addi v68 v67
  let v75 : BitVec 32 := Scalar.select v73 v74 v68
  let c0_i32_34 : BitVec 32 := 0#32
  ![v47.toNat, v48.toNat, v75.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c2_i32_13 : BitVec 32 := 2#32
  let v30 : BitVec 32 := Scalar.divsi v29 c2_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c2_i32_13 c0_i32_16
  let v37 : BitVec 32 := Scalar.extui v36
  let c0_i32_17 : BitVec 32 := 0#32
  let v38 : BitVec 1 := Scalar.cmpi .slt c2_i32_13 c0_i32_17
  let v39 : BitVec 32 := Scalar.extui v38
  let v40 : BitVec 32 := Scalar.subi v37 v39
  let v41 : BitVec 1 := Scalar.cmpi .ne v35 v40
  let v42 : BitVec 32 := Scalar.remsi v29 c2_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c0_i32_20 : BitVec 32 := 0#32
  let v48 : BitVec 32 := Scalar.addi c0_i32_20 arg1
  let c2_i32_21 : BitVec 32 := 2#32
  let v49 : BitVec 32 := Scalar.divsi v1 c2_i32_21
  let c0_i32_22 : BitVec 32 := 0#32
  let v50 : BitVec 1 := Scalar.cmpi .sgt v1 c0_i32_22
  let v51 : BitVec 32 := Scalar.extui v50
  let c0_i32_23 : BitVec 32 := 0#32
  let v52 : BitVec 1 := Scalar.cmpi .slt v1 c0_i32_23
  let v53 : BitVec 32 := Scalar.extui v52
  let v54 : BitVec 32 := Scalar.subi v51 v53
  let c0_i32_24 : BitVec 32 := 0#32
  let v55 : BitVec 1 := Scalar.cmpi .sgt c2_i32_21 c0_i32_24
  let v56 : BitVec 32 := Scalar.extui v55
  let c0_i32_25 : BitVec 32 := 0#32
  let v57 : BitVec 1 := Scalar.cmpi .slt c2_i32_21 c0_i32_25
  let v58 : BitVec 32 := Scalar.extui v57
  let v59 : BitVec 32 := Scalar.subi v56 v58
  let v60 : BitVec 1 := Scalar.cmpi .ne v54 v59
  let v61 : BitVec 32 := Scalar.remsi v1 c2_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c2_i32_28 : BitVec 32 := 2#32
  let c0_i32_29 : BitVec 32 := 0#32
  let v66 : BitVec 1 := Scalar.cmpi .eq c2_i32_28 c0_i32_29
  let c1_i32_30 : BitVec 32 := 1#32
  let v67 : BitVec 32 := Scalar.select v66 c1_i32_30 c2_i32_28
  let v68 : BitVec 32 := Scalar.remsi v65 v67
  let c0_i32_31 : BitVec 32 := 0#32
  let v69 : BitVec 1 := Scalar.cmpi .ne v68 c0_i32_31
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let v73 : BitVec 1 := Scalar.andi v72 v69
  let v74 : BitVec 32 := Scalar.addi v68 v67
  let v75 : BitVec 32 := Scalar.select v73 v74 v68
  let c0_i32_34 : BitVec 32 := 0#32
  ![v47.toNat, v48.toNat, v75.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DhReferenceIdeal.lean ====
abbrev S8192x11264 : Shape := ⟨2, ![8192, 11264]⟩
abbrev S2048x11264 : Shape := ⟨2, ![2048, 11264]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S2048x11264, .f32⟩
  | .hbm, ⟨2, _⟩ => ⟨S_, .f32⟩
  | .hbm, ⟨3, _⟩ => ⟨S8192x2048, .f32⟩
  | .hbm, ⟨4, _⟩ => ⟨S8192x11264, .f32⟩
  | .hbm, ⟨5, _⟩ => ⟨S8192x11264, .f32⟩
  | .hbm, ⟨6, _⟩ => ⟨S8192x2048, .f32⟩
  | .hbm, ⟨7, _⟩ => ⟨S8192x2048, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutW.lean ====
abbrev S8192x2048 : Shape := ⟨2, ![8192, 2048]⟩
abbrev S4x512x2048 : Shape := ⟨3, ![4, 512, 2048]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4x512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutWReferenceIdeal.lean ====
abbrev S8192x2048 : Shape := ⟨2, ![8192, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | .hbm, ⟨10, _⟩ => ⟨S4x512x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== OutD.lean ====
abbrev S8192x2048 : Shape := ⟨2, ![8192, 2048]⟩
abbrev S2048x2048 : Shape := ⟨2, ![2048, 2048]⟩
abbrev S4x512x2048 : Shape := ⟨3, ![4, 512, 2048]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S4x512x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c1_i32_0 : BitVec 32 := 1#32
  let v2 : BitVec 32 := Scalar.divsi arg1 c1_i32_0
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .slt arg1 c0_i32_2
  let v6 : BitVec 32 := Scalar.extui v5
  let v7 : BitVec 32 := Scalar.subi v4 v6
  let c0_i32_3 : BitVec 32 := 0#32
  let v8 : BitVec 1 := Scalar.cmpi .sgt c1_i32_0 c0_i32_3
  let v9 : BitVec 32 := Scalar.extui v8
  let c0_i32_4 : BitVec 32 := 0#32
  let v10 : BitVec 1 := Scalar.cmpi .slt c1_i32_0 c0_i32_4
  let v11 : BitVec 32 := Scalar.extui v10
  let v12 : BitVec 32 := Scalar.subi v9 v11
  let v13 : BitVec 1 := Scalar.cmpi .ne v7 v12
  let v14 : BitVec 32 := Scalar.remsi arg1 c1_i32_0
  let c0_i32_5 : BitVec 32 := 0#32
  let v15 : BitVec 1 := Scalar.cmpi .ne v14 c0_i32_5
  let v16 : BitVec 1 := Scalar.andi v13 v15
  let c1_i32_6 : BitVec 32 := 1#32
  let v17 : BitVec 32 := Scalar.subi v2 c1_i32_6
  let v18 : BitVec 32 := Scalar.select v16 v17 v2
  let c1_i32_7 : BitVec 32 := 1#32
  let c0_i32_8 : BitVec 32 := 0#32
  let v19 : BitVec 1 := Scalar.cmpi .eq c1_i32_7 c0_i32_8
  let c1_i32_9 : BitVec 32 := 1#32
  let v20 : BitVec 32 := Scalar.select v19 c1_i32_9 c1_i32_7
  let v21 : BitVec 32 := Scalar.remsi arg1 v20
  let c0_i32_10 : BitVec 32 := 0#32
  let v22 : BitVec 1 := Scalar.cmpi .ne v21 c0_i32_10
  let c0_i32_11 : BitVec 32 := 0#32
  let v23 : BitVec 1 := Scalar.cmpi .slt v21 c0_i32_11
  let c0_i32_12 : BitVec 32 := 0#32
  let v24 : BitVec 1 := Scalar.cmpi .slt v20 c0_i32_12
  let v25 : BitVec 1 := Scalar.xori v23 v24
  let v26 : BitVec 1 := Scalar.andi v25 v22
  let v27 : BitVec 32 := Scalar.addi v21 v20
  let v28 : BitVec 32 := Scalar.select v26 v27 v21
  let c0_i32_13 : BitVec 32 := 0#32
  let v29 : BitVec 32 := Scalar.addi c0_i32_13 v28
  let c0_i32_14 : BitVec 32 := 0#32
  ![v18.toNat, v29.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proj.lean ====
abbrev S8192x2048 : Shape := ⟨2, ![8192, 2048]⟩
abbrev S2048x6160 : Shape := ⟨2, ![2048, 6160]⟩
abbrev S_ : Shape := ⟨0, ![]⟩
abbrev S2048x6272 : Shape := ⟨2, ![2048, 6272]⟩
abbrev S8192x6272 : Shape := ⟨2, ![8192, 6272]⟩
abbrev S1024x2048 : Shape := ⟨2, ![1024, 2048]⟩
abbrev S2048x896 : Shape := ⟨2, ![2048, 896]⟩
abbrev S1024x896 : Shape := ⟨2, ![1024, 896]⟩

abbrev nBuf : Space → Nat
  | .hbm => 7
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S2048x6160, .bf16⟩
  | .hbm, ⟨3, _⟩ => ⟨S_, .i32⟩
  | .hbm, ⟨4, _⟩ => ⟨S_, .bf16⟩
  | .hbm, ⟨5, _⟩ => ⟨S2048x6272, .bf16⟩
  | .hbm, ⟨6, _⟩ => ⟨S8192x6272, .f32⟩
  | .local _ .vmem, ⟨0, _⟩ => ⟨S1024x2048, .bf16⟩
  | .local _ .vmem, ⟨1, _⟩ => ⟨S1024x2048, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .f32⟩
  | .local _ .vmem, ⟨5, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![v0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S8192x2048 : Shape := ⟨2, ![8192, 2048]⟩
abbrev S2048x6160 : Shape := ⟨2, ![2048, 6160]⟩
abbrev S8192x6160 : Shape := ⟨2, ![8192, 6160]⟩
abbrev S_ : Shape := ⟨0, ![]⟩
abbrev S8192x6272 : Shape := ⟨2, ![8192, 6272]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .f32⟩
  | .hbm, ⟨2, _⟩ => ⟨S8192x2048, .f32⟩
  | .hbm, ⟨3, _⟩ => ⟨S8192x6160, .f32⟩
  | .hbm, ⟨4, _⟩ => ⟨S_, .i32⟩
  | .hbm, ⟨5, _⟩ => ⟨S_, .f32⟩
  | .hbm, ⟨6, _⟩ => ⟨S8192x6272, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== ProjW.lean ====
abbrev S8192x2048 : Shape := ⟨2, ![8192, 2048]⟩
abbrev S8192x6272 : Shape := ⟨2, ![8192, 6272]⟩
abbrev S2048x6272 : Shape := ⟨2, ![2048, 6272]⟩
abbrev S2048x1024 : Shape := ⟨2, ![2048, 1024]⟩
abbrev S2048x896 : Shape := ⟨2, ![2048, 896]⟩
abbrev S1024x896 : Shape := ⟨2, ![1024, 896]⟩
abbrev S2048x6160 : Shape := ⟨2, ![2048, 6160]⟩
abbrev S2048x4x1540 : Shape := ⟨3, ![2048, 4, 1540]⟩
abbrev S4x2048x1540 : Shape := ⟨3, ![4, 2048, 1540]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6272, .bf16⟩
  | .hbm, ⟨2, _⟩ => ⟨S2048x6272, .bf16⟩
  | .hbm, ⟨3, _⟩ => ⟨S2048x6160, .bf16⟩
  | .hbm, ⟨4, _⟩ => ⟨S2048x4x1540, .bf16⟩
  | .hbm, ⟨5, _⟩ => ⟨S4x2048x1540, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S1024x896, .bf16⟩
  | .local _ .vmem, ⟨5, _⟩ => ⟨S1024x896, .bf16⟩
  | .local _ .vmem, ⟨6, _⟩ => ⟨S1024x896, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWReferenceIdeal.lean ====
abbrev S8192x2048 : Shape := ⟨2, ![8192, 2048]⟩
abbrev S8192x6272 : Shape := ⟨2, ![8192, 6272]⟩
abbrev S_ : Shape := ⟨0, ![]⟩
abbrev S2048x6160 : Shape := ⟨2, ![2048, 6160]⟩
abbrev S8192x6160 : Shape := ⟨2, ![8192, 6160]⟩
abbrev S6160x2048 : Shape := ⟨2, ![6160, 2048]⟩
abbrev S2048x4x1540 : Shape := ⟨3, ![2048, 4, 1540]⟩
abbrev S4x2048x1540 : Shape := ⟨3, ![4, 2048, 1540]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6272, .bf16⟩
  | .hbm, ⟨2, _⟩ => ⟨S_, .f32⟩
  | .hbm, ⟨3, _⟩ => ⟨S2048x6160, .f32⟩
  | .hbm, ⟨4, _⟩ => ⟨S8192x2048, .f32⟩
  | .hbm, ⟨5, _⟩ => ⟨S8192x6160, .f32⟩
  | .hbm, ⟨6, _⟩ => ⟨S8192x6160, .bf16⟩
  | .hbm, ⟨7, _⟩ => ⟨S8192x6160, .f32⟩
  | .hbm, ⟨8, _⟩ => ⟨S6160x2048, .f32⟩
  | .hbm, ⟨9, _⟩ => ⟨S2048x6160, .f32⟩
  | .hbm, ⟨10, _⟩ => ⟨S2048x4x1540, .f32⟩
  | .hbm, ⟨11, _⟩ => ⟨S4x2048x1540, .f32⟩
  | .hbm, ⟨12, _⟩ => ⟨S4x2048x1540, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== ProjD.lean ====
abbrev S8192x6272 : Shape := ⟨2, ![8192, 6272]⟩
abbrev S2048x6160 : Shape := ⟨2, ![2048, 6160]⟩
abbrev S_ : Shape := ⟨0, ![]⟩
abbrev S2048x6272 : Shape := ⟨2, ![2048, 6272]⟩
abbrev S8192x2048 : Shape := ⟨2, ![8192, 2048]⟩
abbrev S1024x896 : Shape := ⟨2, ![1024, 896]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8192x6272, .bf16⟩
  | .hbm, ⟨1, _⟩ => ⟨S2048x6160, .f32⟩
  | .hbm, ⟨2, _⟩ => ⟨S2048x6160, .bf16⟩
  | .hbm, ⟨3, _⟩ => ⟨S_, .i32⟩
  | .hbm, ⟨4, _⟩ => ⟨S_, .bf16⟩
  | .hbm, ⟨5, _⟩ => ⟨S2048x6272, .bf16⟩
  | .hbm, ⟨6, _⟩ => ⟨S8192x2048, .bf16⟩
  | .local _ .vmem, ⟨0, _⟩ => ⟨S1024x896, .bf16⟩
  | .local _ .vmem, ⟨1, _⟩ => ⟨S1024x896, .bf16⟩
  | .local _ .vmem, ⟨2, _⟩ => ⟨S1024x896, .bf16⟩
  | .local _ .vmem, ⟨3, _⟩ => ⟨S1024x896, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x6272, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 7], ![false, false, false]⟩

def k0_cond3 (i : grid0.Coords) : BitVec 1 :=
  let arg2 : BitVec 32 := BitVec.ofNat 32 (i 2).val
  let c6_i32 : BitVec 32 := 6#32
  let v10 : BitVec 1 := Scalar.cmpi .eq arg2 c6_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli c1_i32 arg2
  let c0_i32 : BitVec 32 := 0#32
  let v1 : BitVec 32 := Scalar.addi v0 c0_i32
  let c0_i32_0 : BitVec 32 := 0#32
  let v2 : BitVec 32 := Scalar.addi c0_i32_0 arg1
  let c0_i32_1 : BitVec 32 := 0#32
  ![v2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDReferenceIdeal.lean ====
abbrev S8192x6272 : Shape := ⟨2, ![8192, 6272]⟩
abbrev S2048x6160 : Shape := ⟨2, ![2048, 6160]⟩
abbrev S_ : Shape := ⟨0, ![]⟩
abbrev S8192x2048 : Shape := ⟨2, ![8192, 2048]⟩
abbrev S8192x6160 : Shape := ⟨2, ![8192, 6160]⟩

abbrev nBuf : Space → Nat
  | .hbm => 9
  | .vmem => 0
  | .smem => 0
  | _ => 0

abbrev bufTy : (tb : Table) → Fin (tcTables nBuf tb) → BufTy
  | .hbm, ⟨0, _⟩ => ⟨S8192x6272, .bf16⟩
  | .hbm, ⟨1, _⟩ => ⟨S2048x6160, .f32⟩
  | .hbm, ⟨2, _⟩ => ⟨S_, .f32⟩
  | .hbm, ⟨3, _⟩ => ⟨S8192x2048, .f32⟩
  | .hbm, ⟨4, _⟩ => ⟨S8192x6160, .f32⟩
  | .hbm, ⟨5, _⟩ => ⟨S8192x6160, .bf16⟩
  | .hbm, ⟨6, _⟩ => ⟨S8192x6160, .f32⟩
  | .hbm, ⟨7, _⟩ => ⟨S8192x2048, .f32⟩
  | .hbm, ⟨8, _⟩ => ⟨S8192x2048, .bf16⟩
  | _, _ => ⟨S8192x6272, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvW.lean ====
abbrev S8192x2048 : Shape := ⟨2, ![8192, 2048]⟩
abbrev S8192x4096 : Shape := ⟨2, ![8192, 4096]⟩
abbrev S8192x2x2x1024 : Shape := ⟨4, ![8192, 2, 2, 1024]⟩
abbrev S4x2048x1024 : Shape := ⟨3, ![4, 2048, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S8192x2x2x1024, .bf16⟩
  | .hbm, ⟨3, _⟩ => ⟨S8192x2x2x1024, .bf16⟩
  | .hbm, ⟨4, _⟩ => ⟨S8192x4096, .bf16⟩
  | .hbm, ⟨5, _⟩ => ⟨S4x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli c2_i32_3 v9
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let c1_i32_11 : BitVec 32 := 1#32
  let v28 : BitVec 32 := Scalar.divsi v27 c1_i32_11
  let c0_i32_12 : BitVec 32 := 0#32
  let v29 : BitVec 1 := Scalar.cmpi .sgt v27 c0_i32_12
  let v30 : BitVec 32 := Scalar.extui v29
  let c0_i32_13 : BitVec 32 := 0#32
  let v31 : BitVec 1 := Scalar.cmpi .slt v27 c0_i32_13
  let v32 : BitVec 32 := Scalar.extui v31
  let v33 : BitVec 32 := Scalar.subi v30 v32
  let c0_i32_14 : BitVec 32 := 0#32
  let v34 : BitVec 1 := Scalar.cmpi .sgt c1_i32_11 c0_i32_14
  let v35 : BitVec 32 := Scalar.extui v34
  let c0_i32_15 : BitVec 32 := 0#32
  let v36 : BitVec 1 := Scalar.cmpi .slt c1_i32_11 c0_i32_15
  let v37 : BitVec 32 := Scalar.extui v36
  let v38 : BitVec 32 := Scalar.subi v35 v37
  let v39 : BitVec 1 := Scalar.cmpi .ne v33 v38
  let v40 : BitVec 32 := Scalar.remsi v27 c1_i32_11
  let c0_i32_16 : BitVec 32 := 0#32
  let v41 : BitVec 1 := Scalar.cmpi .ne v40 c0_i32_16
  let v42 : BitVec 1 := Scalar.andi v39 v41
  let c1_i32_17 : BitVec 32 := 1#32
  let v43 : BitVec 32 := Scalar.subi v28 c1_i32_17
  let v44 : BitVec 32 := Scalar.select v42 v43 v28
  let v45 : BitVec 32 := Scalar.addi v10 v44
  let c0_i32_18 : BitVec 32 := 0#32
  let v46 : BitVec 32 := Scalar.addi c0_i32_18 arg0
  let c2_i32_19 : BitVec 32 := 2#32
  let v47 : BitVec 32 := Scalar.divsi arg1 c2_i32_19
  let c0_i32_20 : BitVec 32 := 0#32
  let v48 : BitVec 1 := Scalar.cmpi .sgt arg1 c0_i32_20
  let v49 : BitVec 32 := Scalar.extui v48
  let c0_i32_21 : BitVec 32 := 0#32
  let v50 : BitVec 1 := Scalar.cmpi .slt arg1 c0_i32_21
  let v51 : BitVec 32 := Scalar.extui v50
  let v52 : BitVec 32 := Scalar.subi v49 v51
  let c0_i32_22 : BitVec 32 := 0#32
  let v53 : BitVec 1 := Scalar.cmpi .sgt c2_i32_19 c0_i32_22
  let v54 : BitVec 32 := Scalar.extui v53
  let c0_i32_23 : BitVec 32 := 0#32
  let v55 : BitVec 1 := Scalar.cmpi .slt c2_i32_19 c0_i32_23
  let v56 : BitVec 32 := Scalar.extui v55
  let v57 : BitVec 32 := Scalar.subi v54 v56
  let v58 : BitVec 1 := Scalar.cmpi .ne v52 v57
  let v59 : BitVec 32 := Scalar.remsi arg1 c2_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c1_i32_26 : BitVec 32 := 1#32
  let c0_i32_27 : BitVec 32 := 0#32
  let v64 : BitVec 1 := Scalar.cmpi .eq c1_i32_26 c0_i32_27
  let c1_i32_28 : BitVec 32 := 1#32
  let v65 : BitVec 32 := Scalar.select v64 c1_i32_28 c1_i32_26
  let v66 : BitVec 32 := Scalar.remsi v63 v65
  let c0_i32_29 : BitVec 32 := 0#32
  let v67 : BitVec 1 := Scalar.cmpi .ne v66 c0_i32_29
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let v71 : BitVec 1 := Scalar.andi v70 v67
  let v72 : BitVec 32 := Scalar.addi v66 v65
  let v73 : BitVec 32 := Scalar.select v71 v72 v66
  let c0_i32_32 : BitVec 32 := 0#32
  ![v45.toNat, v46.toNat, v73.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ConvWReferenceIdeal.lean ====
abbrev S8192x2048 : Shape := ⟨2, ![8192, 2048]⟩
abbrev S8192x4096 : Shape := ⟨2, ![8192, 4096]⟩
abbrev S_ : Shape := ⟨0, ![]⟩
abbrev S2048x4096 : Shape := ⟨2, ![2048, 4096]⟩
abbrev S4096x2048 : Shape := ⟨2, ![4096, 2048]⟩
abbrev S2048x4x1024 : Shape := ⟨3, ![2048, 4, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S_, .f32⟩
  | .hbm, ⟨3, _⟩ => ⟨S2048x4096, .f32⟩
  | .hbm, ⟨4, _⟩ => ⟨S8192x2048, .f32⟩
  | .hbm, ⟨5, _⟩ => ⟨S8192x4096, .f32⟩
  | .hbm, ⟨6, _⟩ => ⟨S8192x4096, .f32⟩
  | .hbm, ⟨7, _⟩ => ⟨S4096x2048, .f32⟩
  | .hbm, ⟨8, _⟩ => ⟨S2048x4096, .f32⟩
  | .hbm, ⟨9, _⟩ => ⟨S2048x4x1024, .f32⟩
  | .hbm, ⟨10, _⟩ => ⟨S4x2048x1024, .f32⟩
  | .hbm, ⟨11, _⟩ => ⟨S4x2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ConvD.lean ====
abbrev S8192x4096 : Shape := ⟨2, ![8192, 4096]⟩
abbrev S2048x4096 : Shape := ⟨2, ![2048, 4096]⟩
abbrev S2048x4x1024 : Shape := ⟨3, ![2048, 4, 1024]⟩
abbrev S4x2048x1024 : Shape := ⟨3, ![4, 2048, 1024]⟩
abbrev S8192x2x2x1024 : Shape := ⟨4, ![8192, 2, 2, 1024]⟩
abbrev S8192x2048 : Shape := ⟨2, ![8192, 2048]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .f32⟩
  | .hbm, ⟨2, _⟩ => ⟨S2048x4096, .bf16⟩
  | .hbm, ⟨3, _⟩ => ⟨S2048x4x1024, .bf16⟩
  | .hbm, ⟨4, _⟩ => ⟨S4x2048x1024, .bf16⟩
  | .hbm, ⟨5, _⟩ => ⟨S8192x2x2x1024, .bf16⟩
  | .hbm, ⟨6, _⟩ => ⟨S8192x2x2x1024, .bf16⟩
  | .hbm, ⟨7, _⟩ => ⟨S8192x4096, .bf16⟩
  | .hbm, ⟨8, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c0_i32 : BitVec 32 := 0#32
  let v1 : BitVec 32 := Scalar.addi v0 c0_i32
  let c2_i32_0 : BitVec 32 := 2#32
  let c0_i32_1 : BitVec 32 := 0#32
  let v2 : BitVec 1 := Scalar.cmpi .eq c2_i32_0 c0_i32_1
  let c1_i32 : BitVec 32 := 1#32
  let v3 : BitVec 32 := Scalar.select v2 c1_i32 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c1_i32_13 : BitVec 32 := 1#32
  let v30 : BitVec 32 := Scalar.divsi v29 c1_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c1_i32_13 c0_i32_16
  let v37 : BitVec 32 := Scalar.extui v36
  let c0_i32_17 : BitVec 32 := 0#32
  let v38 : BitVec 1 := Scalar.cmpi .slt c1_i32_13 c0_i32_17
  let v39 : BitVec 32 := Scalar.extui v38
  let v40 : BitVec 32 := Scalar.subi v37 v39
  let v41 : BitVec 1 := Scalar.cmpi .ne v35 v40
  let v42 : BitVec 32 := Scalar.remsi v29 c1_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c0_i32_20 : BitVec 32 := 0#32
  let v48 : BitVec 32 := Scalar.addi c0_i32_20 arg1
  let c2_i32_21 : BitVec 32 := 2#32
  let v49 : BitVec 32 := Scalar.divsi v1 c2_i32_21
  let c0_i32_22 : BitVec 32 := 0#32
  let v50 : BitVec 1 := Scalar.cmpi .sgt v1 c0_i32_22
  let v51 : BitVec 32 := Scalar.extui v50
  let c0_i32_23 : BitVec 32 := 0#32
  let v52 : BitVec 1 := Scalar.cmpi .slt v1 c0_i32_23
  let v53 : BitVec 32 := Scalar.extui v52
  let v54 : BitVec 32 := Scalar.subi v51 v53
  let c0_i32_24 : BitVec 32 := 0#32
  let v55 : BitVec 1 := Scalar.cmpi .sgt c2_i32_21 c0_i32_24
  let v56 : BitVec 32 := Scalar.extui v55
  let c0_i32_25 : BitVec 32 := 0#32
  let v57 : BitVec 1 := Scalar.cmpi .slt c2_i32_21 c0_i32_25
  let v58 : BitVec 32 := Scalar.extui v57
  let v59 : BitVec 32 := Scalar.subi v56 v58
  let v60 : BitVec 1 := Scalar.cmpi .ne v54 v59
  let v61 : BitVec 32 := Scalar.remsi v1 c2_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c1_i32_28 : BitVec 32 := 1#32
  let c0_i32_29 : BitVec 32 := 0#32
  let v66 : BitVec 1 := Scalar.cmpi .eq c1_i32_28 c0_i32_29
  let c1_i32_30 : BitVec 32 := 1#32
  let v67 : BitVec 32 := Scalar.select v66 c1_i32_30 c1_i32_28
  let v68 : BitVec 32 := Scalar.remsi v65 v67
  let c0_i32_31 : BitVec 32 := 0#32
  let v69 : BitVec 1 := Scalar.cmpi .ne v68 c0_i32_31
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let v73 : BitVec 1 := Scalar.andi v72 v69
  let v74 : BitVec 32 := Scalar.addi v68 v67
  let v75 : BitVec 32 := Scalar.select v73 v74 v68
  let c0_i32_34 : BitVec 32 := 0#32
  ![v47.toNat, v48.toNat, v75.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c1_i32_13 : BitVec 32 := 1#32
  let v30 : BitVec 32 := Scalar.divsi v29 c1_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c1_i32_13 c0_i32_16
  let v37 : BitVec 32 := Scalar.extui v36
  let c0_i32_17 : BitVec 32 := 0#32
  let v38 : BitVec 1 := Scalar.cmpi .slt c1_i32_13 c0_i32_17
  let v39 : BitVec 32 := Scalar.extui v38
  let v40 : BitVec 32 := Scalar.subi v37 v39
  let v41 : BitVec 1 := Scalar.cmpi .ne v35 v40
  let v42 : BitVec 32 := Scalar.remsi v29 c1_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c0_i32_20 : BitVec 32 := 0#32
  let v48 : BitVec 32 := Scalar.addi c0_i32_20 arg1
  let c2_i32_21 : BitVec 32 := 2#32
  let v49 : BitVec 32 := Scalar.divsi v1 c2_i32_21
  let c0_i32_22 : BitVec 32 := 0#32
  let v50 : BitVec 1 := Scalar.cmpi .sgt v1 c0_i32_22
  let v51 : BitVec 32 := Scalar.extui v50
  let c0_i32_23 : BitVec 32 := 0#32
  let v52 : BitVec 1 := Scalar.cmpi .slt v1 c0_i32_23
  let v53 : BitVec 32 := Scalar.extui v52
  let v54 : BitVec 32 := Scalar.subi v51 v53
  let c0_i32_24 : BitVec 32 := 0#32
  let v55 : BitVec 1 := Scalar.cmpi .sgt c2_i32_21 c0_i32_24
  let v56 : BitVec 32 := Scalar.extui v55
  let c0_i32_25 : BitVec 32 := 0#32
  let v57 : BitVec 1 := Scalar.cmpi .slt c2_i32_21 c0_i32_25
  let v58 : BitVec 32 := Scalar.extui v57
  let v59 : BitVec 32 := Scalar.subi v56 v58
  let v60 : BitVec 1 := Scalar.cmpi .ne v54 v59
  let v61 : BitVec 32 := Scalar.remsi v1 c2_i32_21
  let c0_i32_26 : BitVec 32 := 0#32
  let v62 : BitVec 1 := Scalar.cmpi .ne v61 c0_i32_26
  let v63 : BitVec 1 := Scalar.andi v60 v62
  let c1_i32_27 : BitVec 32 := 1#32
  let v64 : BitVec 32 := Scalar.subi v49 c1_i32_27
  let v65 : BitVec 32 := Scalar.select v63 v64 v49
  let c1_i32_28 : BitVec 32 := 1#32
  let c0_i32_29 : BitVec 32 := 0#32
  let v66 : BitVec 1 := Scalar.cmpi .eq c1_i32_28 c0_i32_29
  let c1_i32_30 : BitVec 32 := 1#32
  let v67 : BitVec 32 := Scalar.select v66 c1_i32_30 c1_i32_28
  let v68 : BitVec 32 := Scalar.remsi v65 v67
  let c0_i32_31 : BitVec 32 := 0#32
  let v69 : BitVec 1 := Scalar.cmpi .ne v68 c0_i32_31
  let c0_i32_32 : BitVec 32 := 0#32
  let v70 : BitVec 1 := Scalar.cmpi .slt v68 c0_i32_32
  let c0_i32_33 : BitVec 32 := 0#32
  let v71 : BitVec 1 := Scalar.cmpi .slt v67 c0_i32_33
  let v72 : BitVec 1 := Scalar.xori v70 v71
  let v73 : BitVec 1 := Scalar.andi v72 v69
  let v74 : BitVec 32 := Scalar.addi v68 v67
  let v75 : BitVec 32 := Scalar.select v73 v74 v68
  let c0_i32_34 : BitVec 32 := 0#32
  ![v47.toNat, v48.toNat, v75.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ConvDReferenceIdeal.lean ====
abbrev S8192x4096 : Shape := ⟨2, ![8192, 4096]⟩
abbrev S2048x4096 : Shape := ⟨2, ![2048, 4096]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2048x4096, .f32⟩
  | .hbm, ⟨2, _⟩ => ⟨S_, .f32⟩
  | .hbm, ⟨3, _⟩ => ⟨S8192x2048, .f32⟩
  | .hbm, ⟨4, _⟩ => ⟨S8192x4096, .f32⟩
  | .hbm, ⟨5, _⟩ => ⟨S8192x4096, .f32⟩
  | .hbm, ⟨6, _⟩ => ⟨S8192x2048, .f32⟩
  | .hbm, ⟨7, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Pw1.lean ====
abbrev S8192x2048 : Shape := ⟨2, ![8192, 2048]⟩
abbrev S2048x4096 : Shape := ⟨2, ![2048, 4096]⟩
abbrev S4096 : Shape := ⟨1, ![4096]⟩
abbrev S2048x4x1024 : Shape := ⟨3, ![2048, 4, 1024]⟩
abbrev S4x2048x1024 : Shape := ⟨3, ![4, 2048, 1024]⟩
abbrev S1x4096 : Shape := ⟨2, ![1, 4096]⟩
abbrev S2x2x1024 : Shape := ⟨3, ![2, 2, 1024]⟩
abbrev S8192x4096 : Shape := ⟨2, ![8192, 4096]⟩
abbrev S512x2048 : Shape := ⟨2, ![512, 2048]⟩
abbrev S1x2048x1024 : Shape := ⟨3, ![1, 2048, 1024]⟩
abbrev S1x2048 : Shape := ⟨2, ![1, 2048]⟩
abbrev S512x1024 : Shape := ⟨2, ![512, 1024]⟩
abbrev S2048x1024 : Shape := ⟨2, ![2048, 1024]⟩
abbrev S1x1024 : Shape := ⟨2, ![1, 1024]⟩

abbrev nBuf : Space → Nat
  | .hbm => 12
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S4096, .f32⟩
  | .hbm, ⟨3, _⟩ => ⟨S2048x4096, .bf16⟩
  | .hbm, ⟨4, _⟩ => ⟨S2048x4x1024, .bf16⟩
  | .hbm, ⟨5, _⟩ => ⟨S4x2048x1024, .bf16⟩
  | .hbm, ⟨6, _⟩ => ⟨S1x4096, .f32⟩
  | .hbm, ⟨7, _⟩ => ⟨S2x2x1024, .f32⟩
  | .hbm, ⟨8, _⟩ => ⟨S2x2x1024, .f32⟩
  | .hbm, ⟨9, _⟩ => ⟨S1x4096, .f32⟩
  | .hbm, ⟨10, _⟩ => ⟨S8192x4096, .bf16⟩
  | .hbm, ⟨11, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S512x1024, .f32⟩
  | .local _ .vmem, ⟨11, _⟩ => ⟨S512x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c2_i32_0 : BitVec 32 := 2#32
  let c0_i32 : BitVec 32 := 0#32
  let v1 : BitVec 1 := Scalar.cmpi .eq c2_i32_0 c0_i32
  let c1_i32 : BitVec 32 := 1#32
  let v2 : BitVec 32 := Scalar.select v1 c1_i32 c2_i32_0
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c2_i32_4 : BitVec 32 := 2#32
  let v11 : BitVec 32 := Scalar.muli c2_i32_4 v10
  let c2_i32_5 : BitVec 32 := 2#32
  let v12 : BitVec 32 := Scalar.divsi v0 c2_i32_5
  let c0_i32_6 : BitVec 32 := 0#32
  let v13 : BitVec 1 := Scalar.cmpi .sgt v0 c0_i32_6
  let v14 : BitVec 32 := Scalar.extui v13
  let c0_i32_7 : BitVec 32 := 0#32
  let v15 : BitVec 1 := Scalar.cmpi .slt v0 c0_i32_7
  let v16 : BitVec 32 := Scalar.extui v15
  let v17 : BitVec 32 := Scalar.subi v14 v16
  let c0_i32_8 : BitVec 32 := 0#32
  let v18 : BitVec 1 := Scalar.cmpi .sgt c2_i32_5 c0_i32_8
  let v19 : BitVec 32 := Scalar.extui v18
  let c0_i32_9 : BitVec 32 := 0#32
  let v20 : BitVec 1 := Scalar.cmpi .slt c2_i32_5 c0_i32_9
  let v21 : BitVec 32 := Scalar.extui v20
  let v22 : BitVec 32 := Scalar.subi v19 v21
  let v23 : BitVec 1 := Scalar.cmpi .ne v17 v22
  let v24 : BitVec 32 := Scalar.remsi v0 c2_i32_5
  let c0_i32_10 : BitVec 32 := 0#32
  let v25 : BitVec 1 := Scalar.cmpi .ne v24 c0_i32_10
  let v26 : BitVec 1 := Scalar.andi v23 v25
  let c1_i32_11 : BitVec 32 := 1#32
  let v27 : BitVec 32 := Scalar.subi v12 c1_i32_11
  let v28 : BitVec 32 := Scalar.select v26 v27 v12
  let c1_i32_12 : BitVec 32 := 1#32
  let v29 : BitVec 32 := Scalar.divsi v28 c1_i32_12
  let c0_i32_13 : BitVec 32 := 0#32
  let v30 : BitVec 1 := Scalar.cmpi .sgt v28 c0_i32_13
  let v31 : BitVec 32 := Scalar.extui v30
  let c0_i32_14 : BitVec 32 := 0#32
  let v32 : BitVec 1 := Scalar.cmpi .slt v28 c0_i32_14
  let v33 : BitVec 32 := Scalar.extui v32
  let v34 : BitVec 32 := Scalar.subi v31 v33
  let c0_i32_15 : BitVec 32 := 0#32
  let v35 : BitVec 1 := Scalar.cmpi .sgt c1_i32_12 c0_i32_15
  let v36 : BitVec 32 := Scalar.extui v35
  let c0_i32_16 : BitVec 32 := 0#32
  let v37 : BitVec 1 := Scalar.cmpi .slt c1_i32_12 c0_i32_16
  let v38 : BitVec 32 := Scalar.extui v37
  let v39 : BitVec 32 := Scalar.subi v36 v38
  let v40 : BitVec 1 := Scalar.cmpi .ne v34 v39
  let v41 : BitVec 32 := Scalar.remsi v28 c1_i32_12
  let c0_i32_17 : BitVec 32 := 0#32
  let v42 : BitVec 1 := Scalar.cmpi .ne v41 c0_i32_17
  let v43 : BitVec 1 := Scalar.andi v40 v42
  let c1_i32_18 : BitVec 32 := 1#32
  let v44 : BitVec 32 := Scalar.subi v29 c1_i32_18
  let v45 : BitVec 32 := Scalar.select v43 v44 v29
  let v46 : BitVec 32 := Scalar.addi v11 v45
  let c2_i32_19 : BitVec 32 := 2#32
  let v47 : BitVec 32 := Scalar.divsi v0 c2_i32_19
  let c0_i32_20 : BitVec 32 := 0#32
  let v48 : BitVec 1 := Scalar.cmpi .sgt v0 c0_i32_20
  let v49 : BitVec 32 := Scalar.extui v48
  let c0_i32_21 : BitVec 32 := 0#32
  let v50 : BitVec 1 := Scalar.cmpi .slt v0 c0_i32_21
  let v51 : BitVec 32 := Scalar.extui v50
  let v52 : BitVec 32 := Scalar.subi v49 v51
  let c0_i32_22 : BitVec 32 := 0#32
  let v53 : BitVec 1 := Scalar.cmpi .sgt c2_i32_19 c0_i32_22
  let v54 : BitVec 32 := Scalar.extui v53
  let c0_i32_23 : BitVec 32 := 0#32
  let v55 : BitVec 1 := Scalar.cmpi .slt c2_i32_19 c0_i32_23
  let v56 : BitVec 32 := Scalar.extui v55
  let v57 : BitVec 32 := Scalar.subi v54 v56
  let v58 : BitVec 1 := Scalar.cmpi .ne v52 v57
  let v59 : BitVec 32 := Scalar.remsi v0 c2_i32_19
  let c0_i32_24 : BitVec 32 := 0#32
  let v60 : BitVec 1 := Scalar.cmpi .ne v59 c0_i32_24
  let v61 : BitVec 1 := Scalar.andi v58 v60
  let c1_i32_25 : BitVec 32 := 1#32
  let v62 : BitVec 32 := Scalar.subi v47 c1_i32_25
  let v63 : BitVec 32 := Scalar.select v61 v62 v47
  let c1_i32_26 : BitVec 32 := 1#32
  let c0_i32_27 : BitVec 32 := 0#32
  let v64 : BitVec 1 := Scalar.cmpi .eq c1_i32_26 c0_i32_27
  let c1_i32_28 : BitVec 32 := 1#32
  let v65 : BitVec 32 := Scalar.select v64 c1_i32_28 c1_i32_26
  let v66 : BitVec 32 := Scalar.remsi v63 v65
  let c0_i32_29 : BitVec 32 := 0#32
  let v67 : BitVec 1 := Scalar.cmpi .ne v66 c0_i32_29
  let c0_i32_30 : BitVec 32 := 0#32
  let v68 : BitVec 1 := Scalar.cmpi .slt v66 c0_i32_30
  let c0_i32_31 : BitVec 32 := 0#32
  let v69 : BitVec 1 := Scalar.cmpi .slt v65 c0_i32_31
  let v70 : BitVec 1 := Scalar.xori v68 v69
  let v71 : BitVec 1 := Scalar.andi v70 v67
  let v72 : BitVec 32 := Scalar.addi v66 v65
  let v73 : BitVec 32 := Scalar.select v71 v72 v66
  let c0_i32_32 : BitVec 32 := 0#32
  let c0_i32_33 : BitVec 32 := 0#32
  ![v46.toNat, c0_i32_32.toNat, v73.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c2_i32_0 : BitVec 32 := 2#32
  let c0_i32 : BitVec 32 := 0#32
  let v2 : BitVec 1 := Scalar.cmpi .eq c2_i32_0 c0_i32
  let c1_i32_1 : BitVec 32 := 1#32
  let v3 : BitVec 32 := Scalar.select v2 c1_i32_1 c2_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c2_i32_5 : BitVec 32 := 2#32
  let v12 : BitVec 32 := Scalar.muli c2_i32_5 v11
  let c2_i32_6 : BitVec 32 := 2#32
  let v13 : BitVec 32 := Scalar.divsi v1 c2_i32_6
  let c0_i32_7 : BitVec 32 := 0#32
  let v14 : BitVec 1 := Scalar.cmpi .sgt v1 c0_i32_7
  let v15 : BitVec 32 := Scalar.extui v14
  let c0_i32_8 : BitVec 32 := 0#32
  let v16 : BitVec 1 := Scalar.cmpi .slt v1 c0_i32_8
  let v17 : BitVec 32 := Scalar.extui v16
  let v18 : BitVec 32 := Scalar.subi v15 v17
  let c0_i32_9 : BitVec 32 := 0#32
  let v19 : BitVec 1 := Scalar.cmpi .sgt c2_i32_6 c0_i32_9
  let v20 : BitVec 32 := Scalar.extui v19
  let c0_i32_10 : BitVec 32 := 0#32
  let v21 : BitVec 1 := Scalar.cmpi .slt c2_i32_6 c0_i32_10
  let v22 : BitVec 32 := Scalar.extui v21
  let v23 : BitVec 32 := Scalar.subi v20 v22
  let v24 : BitVec 1 := Scalar.cmpi .ne v18 v23
  let v25 : BitVec 32 := Scalar.remsi v1 c2_i32_6
  let c0_i32_11 : BitVec 32 := 0#32
  let v26 : BitVec 1 := Scalar.cmpi .ne v25 c0_i32_11
  let v27 : BitVec 1 := Scalar.andi v24 v26
  let c1_i32_12 : BitVec 32 := 1#32
  let v28 : BitVec 32 := Scalar.subi v13 c1_i32_12
  let v29 : BitVec 32 := Scalar.select v27 v28 v13
  let c1_i32_13 : BitVec 32 := 1#32
  let v30 : BitVec 32 := Scalar.divsi v29 c1_i32_13
  let c0_i32_14 : BitVec 32 := 0#32
  let v31 : BitVec 1 := Scalar.cmpi .sgt v29 c0_i32_14
  let v32 : BitVec 32 := Scalar.extui v31
  let c0_i32_15 : BitVec 32 := 0#32
  let v33 : BitVec 1 := Scalar.cmpi .slt v29 c0_i32_15
  let v34 : BitVec 32 := Scalar.extui v33
  let v35 : BitVec 32 := Scalar.subi v32 v34
  let c0_i32_16 : BitVec 32 := 0#32
  let v36 : BitVec 1 := Scalar.cmpi .sgt c1_i32_13 c0_i32_16
  let v37 : BitVec 32 := Scalar.extui v36
  let c0_i32_17 : BitVec 32 := 0#32
  let v38 : BitVec 1 := Scalar.cmpi .slt c1_i32_13 c0_i32_17
  let v39 : BitVec 32 := Scalar.extui v38
  let v40 : BitVec 32 := Scalar.subi v37 v39
  let v41 : BitVec 1 := Scalar.cmpi .ne v35 v40
  let v42 : BitVec 32 := Scalar.remsi v29 c1_i32_13
  let c0_i32_18 : BitVec 32 := 0#32
  let v43 : BitVec 1 := Scalar.cmpi .ne v42 c0_i32_18
  let v44 : BitVec 1 := Scalar.andi v41 v43
  let c1_i32_19 : BitVec 32 := 1#32
  let v45 : BitVec 32 := Scalar.subi v30 c1_i32_19
  let v46 : BitVec 32 := Scalar.select v44 v45 v30
  let v47 : BitVec 32 := Scalar.addi v12 v46
  let c2_i32_20 : BitVec 32 := 2#32
  let v48 : BitVec 32 := Scalar.divsi v1 c2_i32_20
  let c0_i32_21 : BitVec 32 := 0#32
  let v49 : BitVec 1 := Scalar.cmpi .sgt v1 c0_i32_21
  let v50 : BitVec 32 := Scalar.extui v49
  let c0_i32_22 : BitVec 32 := 0#32
  let v51 : BitVec 1 := Scalar.cmpi .slt v1 c0_i32_22
  let v52 : BitVec 32 := Scalar.extui v51
  let v53 : BitVec 32 := Scalar.subi v50 v52
  let c0_i32_23 : BitVec 32 := 0#32
  let v54 : BitVec 1 := Scalar.cmpi .sgt c2_i32_20 c0_i32_23
  let v55 : BitVec 32 := Scalar.extui v54
  let c0_i32_24 : BitVec 32 := 0#32
  let v56 : BitVec 1 := Scalar.cmpi .slt c2_i32_20 c0_i32_24
  let v57 : BitVec 32 := Scalar.extui v56
  let v58 : BitVec 32 := Scalar.subi v55 v57
  let v59 : BitVec 1 := Scalar.cmpi .ne v53 v58
  let v60 : BitVec 32 := Scalar.remsi v1 c2_i32_20
  let c0_i32_25 : BitVec 32 := 0#32
  let v61 : BitVec 1 := Scalar.cmpi .ne v60 c0_i32_25
  let v62 : BitVec 1 := Scalar.andi v59 v61
  let c1_i32_26 : BitVec 32 := 1#32
  let v63 : BitVec 32 := Scalar.subi v48 c1_i32_26
  let v64 : BitVec 32 := Scalar.select v62 v63 v48
  let c1_i32_27 : BitVec 32 := 1#32
  let c0_i32_28 : BitVec 32 := 0#32
  let v65 : BitVec 1 := Scalar.cmpi .eq c1_i32_27 c0_i32_28
  let c1_i32_29 : BitVec 32 := 1#32
  let v66 : BitVec 32 := Scalar.select v65 c1_i32_29 c1_i32_27
  let v67 : BitVec 32 := Scalar.remsi v64 v66
  let c0_i32_30 : BitVec 32 := 0#32
  let v68 : BitVec 1 := Scalar.cmpi .ne v67 c0_i32_30
  let c0_i32_31 : BitVec 32 := 0#32
  let v69 : BitVec 1 := Scalar.cmpi .slt v67 c0_i32_31
  let c0_i32_32 : BitVec 32 := 0#32
  let v70 : BitVec 1 := Scalar.cmpi .slt v66 c0_i32_32
  let v71 : BitVec 1 := Scalar.xori v69 v70
  let v72 : BitVec 1 := Scalar.andi v71 v68
  let v73 : BitVec 32 := Scalar.addi v67 v66
  let v74 : BitVec 32 := Scalar.select v72 v73 v67
  let c0_i32_33 : BitVec 32 := 0#32
  let c0_i32_34 : BitVec 32 := 0#32
  ![v47.toNat, c0_i32_33.toNat, v74.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Pw1ReferenceIdeal.lean ====
abbrev S8192x2048 : Shape := ⟨2, ![8192, 2048]⟩
abbrev S2048x4096 : Shape := ⟨2, ![2048, 4096]⟩
abbrev S4096 : Shape := ⟨1, ![4096]⟩
abbrev S8192x4096 : Shape := ⟨2, ![8192, 4096]⟩
abbrev S1x4096 : Shape := ⟨2, ![1, 4096]⟩
abbrev S8192x2x2x1024 : Shape := ⟨4, ![8192, 2, 2, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .f32⟩
  | .hbm, ⟨2, _⟩ => ⟨S4096, .f32⟩
  | .hbm, ⟨3, _⟩ => ⟨S8192x2048, .f32⟩
  | .hbm, ⟨4, _⟩ => ⟨S8192x4096, .f32⟩
  | .hbm, ⟨5, _⟩ => ⟨S1x4096, .f32⟩
  | .hbm, ⟨6, _⟩ => ⟨S8192x4096, .f32⟩
  | .hbm, ⟨7, _⟩ => ⟨S8192x4096, .f32⟩
  | .hbm, ⟨8, _⟩ => ⟨S8192x2048, .f32⟩
  | .hbm, ⟨9, _⟩ => ⟨S8192x2048, .f32⟩
  | .hbm, ⟨10, _⟩ => ⟨S8192x2x2x1024, .f32⟩
  | .hbm, ⟨11, _⟩ => ⟨S8192x2x2x1024, .f32⟩
  | .hbm, ⟨12, _⟩ => ⟨S8192x4096, .f32⟩
  | .hbm, ⟨13, _⟩ => ⟨S8192x4096, .bf16⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== FfnPost.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S2048 : Shape := ⟨1, ![2048]⟩
abbrev S4x1408x2048 : Shape := ⟨3, ![4, 1408, 2048]⟩
abbrev S_ : Shape := ⟨0, ![]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S64x2048 : Shape := ⟨2, ![64, 2048]⟩
abbrev S64 : Shape := ⟨1, ![64]⟩
abbrev S64x1 : Shape := ⟨2, ![64, 1]⟩

abbrev nBuf : Space → Nat
  | .hbm => 20
  | .vmem => 16
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S5632x2048, .bf16⟩
  | .hbm, ⟨9, _⟩ => ⟨S4x1408x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S8192x2048, .bf16⟩
  | .hbm, ⟨18, _⟩ => ⟨S8192x2048, .f32⟩
  | .hbm, ⟨19, _⟩ => ⟨S8192x2048, .bf16⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnPostReferenceIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x5632, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== LastPost.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S2048 : Shape := ⟨1, ![2048]⟩
abbrev S4x1408x2048 : Shape := ⟨3, ![4, 1408, 2048]⟩
abbrev S512x1408 : Shape := ⟨2, ![512, 1408]⟩
abbrev S1x1408x2048 : Shape := ⟨3, ![1, 1408, 2048]⟩
abbrev S512x2048 : Shape := ⟨2, ![512, 2048]⟩
abbrev S1408x2048 : Shape := ⟨2, ![1408, 2048]⟩
abbrev S64x2048 : Shape := ⟨2, ![64, 2048]⟩
abbrev S64 : Shape := ⟨1, ![64]⟩
abbrev S64x1 : Shape := ⟨2, ![64, 1]⟩

abbrev nBuf : Space → Nat
  | .hbm => 11
  | .vmem => 12
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S5632x2048, .bf16⟩
  | .hbm, ⟨6, _⟩ => ⟨S4x1408x2048, .bf16⟩
  | .hbm, ⟨7, _⟩ => ⟨S1x2048, .f32⟩
  | .hbm, ⟨8, _⟩ => ⟨S1x2048, .f32⟩
  | .hbm, ⟨9, _⟩ => ⟨S8192x2048, .bf16⟩
  | .hbm, ⟨10, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== LastPostReferenceIdeal.lean ====
abbrev S8192x5632 : Shape := ⟨2, ![8192, 5632]⟩
abbrev S5632x2048 : Shape := ⟨2, ![5632, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S8192x5632, .f32⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== GlaPost.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S4x512x2048 : Shape := ⟨3, ![4, 512, 2048]⟩
abbrev S_ : Shape := ⟨0, ![]⟩
abbrev S512x512 : Shape := ⟨2, ![512, 512]⟩
abbrev S1x512x2048 : Shape := ⟨3, ![1, 512, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 20
  | .vmem => 16
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S2048x2048, .bf16⟩
  | .hbm, ⟨9, _⟩ => ⟨S4x512x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S_, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S8192x2048, .bf16⟩
  | .hbm, ⟨18, _⟩ => ⟨S8192x2048, .f32⟩
  | .hbm, ⟨19, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .bf16⟩
  | .local _ .vmem, ⟨10, _⟩ => ⟨S512x2048, .bf16⟩
  | .local _ .vmem, ⟨11, _⟩ => ⟨S512x2048, .f32⟩
  | .local _ .vmem, ⟨12, _⟩ => ⟨S512x2048, .f32⟩
  | .local _ .vmem, ⟨13, _⟩ => ⟨S512x2048, .bf16⟩
  | .local _ .vmem, ⟨14, _⟩ => ⟨S512x2048, .bf16⟩
  | .local _ .vmem, ⟨15, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== GlaPostReferenceIdeal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048, .f32⟩
  | .hbm, ⟨5, _⟩ => ⟨S2048, .f32⟩
  | .hbm, ⟨6, _⟩ => ⟨S1x2048, .f32⟩
  | .hbm, ⟨7, _⟩ => ⟨S1x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .bf16⟩
  | .hbm, ⟨30, _⟩ => ⟨S8192x2048, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== ConvPost.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S4x512x2048 : Shape := ⟨3, ![4, 512, 2048]⟩
abbrev S_ : Shape := ⟨0, ![]⟩
abbrev S512x512 : Shape := ⟨2, ![512, 512]⟩
abbrev S1x512x2048 : Shape := ⟨3, ![1, 512, 2048]⟩
abbrev S512x2048 : Shape := ⟨2, ![512, 2048]⟩
abbrev S64x2048 : Shape := ⟨2, ![64, 2048]⟩
abbrev S64 : Shape := ⟨1, ![64]⟩
abbrev S64x1 : Shape := ⟨2, ![64, 1]⟩

abbrev nBuf : Space → Nat
  | .hbm => 22
  | .vmem => 17
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048x2048, .bf16⟩
  | .hbm, ⟨10, _⟩ => ⟨S4x512x2048, .bf16⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8192x2048, .bf16⟩
  | .hbm, ⟨20, _⟩ => ⟨S8192x2048, .f32⟩
  | .hbm, ⟨21, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x512x2048, .bf16⟩
  | .local _ .vmem, ⟨3, _⟩ => ⟨S1x512x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v9_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v10 : BitVec 1 := Scalar.cmpi .eq arg1 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  let c0_i32_13 : BitVec 32 := 0#32
  ![v16.toNat, v27.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== ConvPostReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x2048, .f32⟩
  | .hbm, ⟨26, _⟩ => ⟨S8192x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x2048, .f32⟩
  | .hbm, ⟨46, _⟩ => ⟨S8192x2048, .f32⟩
  | .hbm, ⟨47, _⟩ => ⟨S1x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S1x2048, .f32⟩
  | .hbm, ⟨52, _⟩ => ⟨S1x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== GradX.lean ====
abbrev S8192x2048 : Shape := ⟨2, ![8192, 2048]⟩
abbrev S2048 : Shape := ⟨1, ![2048]⟩
abbrev S1x2048 : Shape := ⟨2, ![1, 2048]⟩
abbrev S8x2048 : Shape := ⟨2, ![8, 2048]⟩
abbrev S256x2048 : Shape := ⟨2, ![256, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 9
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S8192x2048, .f32⟩
  | .hbm, ⟨7, _⟩ => ⟨S8x2048, .f32⟩
  | .hbm, ⟨8, _⟩ => ⟨S8x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S8x2048, .f32⟩
  | .local _ .vmem, ⟨11, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GradXReferenceIdeal.lean ====
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== PreNorm.lean ====
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S_, .f32⟩
  | .hbm, ⟨6, _⟩ => ⟨S1x2048, .f32⟩
  | .hbm, ⟨7, _⟩ => ⟨S1x2048, .f32⟩
  | .hbm, ⟨8, _⟩ => ⟨S1x2048, .f32⟩
  | .hbm, ⟨9, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PreNormReferenceIdeal.lean ====
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.FwdRuns.lean ====
/- The forward scan of the gated linear attention, as a call of the two-call program: the blocks its windows hold, its branch
   condition over the grid, its staging and scratch memrefs. The contents of the buffers at the call are a parameter `m`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (m c (Pipeline.arrRef spec0 w))

/-- Input window 0 is of the clipped KIND (its block does not tile its array `S8192x6272`), but no block the grid
    reaches is cut, so no part of its staging buffer is left unfilled by a fetch. A default for such a part, which
    nothing reads. -/
def dflt0_0 : (cfg0.win 0).block.Idx → Elt F (cfg0.win 0).elt := fun _ => Classical.choice inferInstance
/-- What input window 0's current staging buffer holds when the body runs at `t`: its block read off the array,
    filled over `dflt0_0` (block-typed, where `iblk` is typed at the cut). -/
def X0_0 (c : Dev nD) (t : Fin cfg0.N) : (cfg0.win 0).block.Idx → Elt F (cfg0.win 0).elt :=
  (cfg0.win 0).fill (cfg0.grid.coords t) dflt0_0 (iblk m c 0 t)
/-- At every point the cut's extent is the block's, decided over the grid: no transfer of input window 0 is cut. -/
theorem xsize0_0 : ∀ t : Fin cfg0.N, ∀ a, (cfg0.win 0).xsize (cfg0.grid.coords t) a = (cfg0.win 0).size a := by decide +kernel
/-- Every index of input window 0's block is moved at every point. -/
theorem moved0_0 (t : Fin cfg0.N) (j : (cfg0.win 0).block.Idx) : (cfg0.win 0).moved (cfg0.grid.coords t) j = true :=
  ((cfg0.win 0).moved_iff _ j).mpr fun a => by rw [xsize0_0 t a]; exact (j a).isLt
/-- A fill of input window 0's block covers the whole buffer, whatever it held. -/
theorem fill0_0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg0 c) (hA : dat.A 0 = m c (Pipeline.arrRef spec0 0))
    (hafter : ∀ t, dat.after 0 t = X0_0 m c t) (t : Fin cfg0.N) (d) : dat.before 0 t d = X0_0 m c t :=
  (dat.before_in_eq_fetched 0 rfl (fun _ => rfl)
      (fun t t' h => funext fun a => congrArg (fun n => Pipeline.Clip.of n ((cfg0.win 0).size a) (S8192x6272.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1 is of the clipped KIND (its block does not tile its array `S8192x6272`), but no block the grid
    reaches is cut, so no part of its staging buffer is left unfilled by a fetch. A default for such a part, which
    nothing reads. -/
def dflt0_1 : (cfg0.win 1).block.Idx → Elt F (cfg0.win 1).elt := fun _ => Classical.choice inferInstance
/-- What input window 1's current staging buffer holds when the body runs at `t`: its block read off the array,
    filled over `dflt0_1` (block-typed, where `iblk` is typed at the cut). -/
def X0_1 (c : Dev nD) (t : Fin cfg0.N) : (cfg0.win 1).block.Idx → Elt F (cfg0.win 1).elt :=
  (cfg0.win 1).fill (cfg0.grid.coords t) dflt0_1 (iblk m c 1 t)
/-- At every point the cut's extent is the block's, decided over the grid: no transfer of input window 1 is cut. -/
theorem xsize0_1 : ∀ t : Fin cfg0.N, ∀ a, (cfg0.win 1).xsize (cfg0.grid.coords t) a = (cfg0.win 1).size a := by decide +kernel
/-- Every index of input window 1's block is moved at every point. -/
theorem moved0_1 (t : Fin cfg0.N) (j : (cfg0.win 1).block.Idx) : (cfg0.win 1).moved (cfg0.grid.coords t) j = true :=
  ((cfg0.win 1).moved_iff _ j).mpr fun a => by rw [xsize0_1 t a]; exact (j a).isLt
/-- A fill of input window 1's block covers the whole buffer, whatever it held. -/
theorem fill0_1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg0 c) (hA : dat.A 1 = m c (Pipeline.arrRef spec0 1))
    (hafter : ∀ t, dat.after 1 t = X0_1 m c t) (t : Fin cfg0.N) (d) : dat.before 1 t d = X0_1 m c t :=
  (dat.before_in_eq_fetched 1 rfl (fun _ => rfl)
      (fun t t' h => funext fun a => congrArg (fun n => Pipeline.Clip.of n ((cfg0.win 1).size a) (S8192x6272.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2 is of the clipped KIND (its block does not tile its array `S8192x6272`), but no block the grid
    reaches is cut, so no part of its staging buffer is left unfilled by a fetch. A default for such a part, which
    nothing reads. -/
def dflt0_2 : (cfg0.win 2).block.Idx → Elt F (cfg0.win 2).elt := fun _ => Classical.choice inferInstance
/-- What input window 2's current staging buffer holds when the body runs at `t`: its block read off the array,
    filled over `dflt0_2` (block-typed, where `iblk` is typed at the cut). -/
def X0_2 (c : Dev nD) (t : Fin cfg0.N) : (cfg0.win 2).block.Idx → Elt F (cfg0.win 2).elt :=
  (cfg0.win 2).fill (cfg0.grid.coords t) dflt0_2 (iblk m c 2 t)
/-- At every point the cut's extent is the block's, decided over the grid: no transfer of input window 2 is cut. -/
theorem xsize0_2 : ∀ t : Fin cfg0.N, ∀ a, (cfg0.win 2).xsize (cfg0.grid.coords t) a = (cfg0.win 2).size a := by decide +kernel
/-- Every index of input window 2's block is moved at every point. -/
theorem moved0_2 (t : Fin cfg0.N) (j : (cfg0.win 2).block.Idx) : (cfg0.win 2).moved (cfg0.grid.coords t) j = true :=
  ((cfg0.win 2).moved_iff _ j).mpr fun a => by rw [xsize0_2 t a]; exact (j a).isLt
/-- A fill of input window 2's block covers the whole buffer, whatever it held. -/
theorem fill0_2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg0 c) (hA : dat.A 2 = m c (Pipeline.arrRef spec0 2))
    (hafter : ∀ t, dat.after 2 t = X0_2 m c t) (t : Fin cfg0.N) (d) : dat.before 2 t d = X0_2 m c t :=
  (dat.before_in_eq_fetched 2 rfl (fun _ => rfl)
      (fun t t' h => funext fun a => congrArg (fun n => Pipeline.Clip.of n ((cfg0.win 2).size a) (S8192x6272.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's staging buffer holds its block at every point. -/
theorem before0_3_of {c : Dev nD} (dat : Dat τ (Elt F) Unit ℕ (UR sig nD τ) ℕ cfg0 c) (hA : dat.A 3 = m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg0 c) (hA : dat.A 4 = m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg0 c) (hA : dat.A 5 = m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 64 = 0 :=
  (fun t => by
    have ht : t.val < 64 := Nat.lt_of_lt_of_eq t.isLt N_0
    have e0 : (grid0.coords t 0).val = t.val / 1 % 64 := Pipeline.Grid.coords_val t 0 (by decide) rfl
    simp only [cond0_0, e0]
    word_cmp
   : ∀ t : Fin grid0.N, cond0_0 (grid0.coords t) ↔ t.val % 64 = 0)

/-! ## The kernel body on any staging memrefs: a subtype the run finds -/

/-- One staging buffer of output window 6, through which its contents are stated (`View.read_writes_of_cover`: the
    choice does not matter). -/
abbrev VO0_6 : View sig .tc .vmem S128x2048 .f32 := (Memref.whole cc0_stg6_0 : Memref sig .tc .vmem S128x2048 .f32).view
/-- One staging buffer of output window 7, through which its contents are stated (`View.read_writes_of_cover`: the
    choice does not matter). -/
abbrev VO0_7 : View sig .tc .vmem S4x1x512x256 .bf16 := (Memref.whole cc0_stg7_0 : Memref sig .tc .vmem S4x1x512x256 .bf16).view
/-- Each window's current staging memref at point `t`, spelled as the pipeline passes it (`bodyAt0`), and its wholeness. -/
abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x1x512x256 .bf16 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S4x512x256 .f32 := Memref.whole cc0_scratch0
/-- The scratch `arg9` the kernel carries between points, as a view: what it holds is stated through it. -/
abbrev VS0_0 : View sig .tc .vmem S4x512x256 .f32 := scM0_0.view

/-- What the invariant carries untouched: the scoped buffers of the program that are neither a staging buffer nor a scratch
    buffer of this call, and the generator register at some state. -/
def other (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The class's invariant with this call's scratch as memrefs owned at some contents, the rest unopened (`other`). -/
theorem PhiA0_eq (c : Dev nD) :
    (Pipeline.ΦA spec0 c : sProp 𝕄) = iprop(iprop((∃ d, owns (c : Thread nD τ) scM0_0 fullShare d)) ∗ other c) := by
  unfold Pipeline.ΦA other
  rw [Pipeline.scopedRest_split_of_list spec0 c [cc0_scratch0] (by decide) (by decide), show ∀ P Q : sProp 𝕄, BI.sep P Q = iprop(P ∗ Q) from fun _ _ => rfl,
    show ∀ P Q R : sProp 𝕄, iprop((P ∗ Q) ∗ R) = iprop(P ∗ Q ∗ R) from fun _ _ _ => BI.Entails.antisymm BI.sep_assoc BI.sep_assoc']
  simp only [BI.bigSepL_cons_cons, BI.bigSepL_singleton, owns_whole]
  rfl

end Cert.KernelIdeal.Fwd

end
-- ==== Proof.FwdA.lean ====
/- The forward scan of the gated linear attention, as a call of the two-call program: the run of its body at the first grid point. -/
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S128x2048 .f32) (harg7 : arg7.IsWhole) (arg8 : Memref sig .tc .vmem S4x1x512x256 .bf16) (harg8 : arg8.IsWhole) (arg9 : Memref sig .tc .vmem S4x512x256 .f32) (harg9 : arg9.IsWhole) (hc0 : cond0_0 i)
    (x0 : Vec F S128x1024 .f32) (x1 : Vec F S128x1024 .f32) (x2 : Vec F S128x2048 .f32) (x3 : Vec F S128x128 .f32) (x4 : Vec F S128x1024 .f32) (x5 : Vec F S1x1024 .f32) :
    Σ' (L6 : List (View.Piece (Elt F) S128x2048 .f32)), Σ' (L7 : List (View.Piece (Elt F) S4x1x512x256 .bf16)), { LS0 : List (View.Piece (Elt F) S4x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_1_eq_skeleton]; unfold cc0_gla_1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.FwdB.lean ====
/- The forward scan of the gated linear attention, as a call of the two-call program: the run of its body at the other grid points. -/
module

public import proofs.«01_k».proof.Proof.FwdA

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1000000 in
/-- What the body's stores leave in each output's staging memref, as pieces (last first) IN CASE B (`scf.if` 0 not taken: points 1, 2, … 63: 63 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S128x2048 .f32) (harg7 : arg7.IsWhole) (arg8 : Memref sig .tc .vmem S4x1x512x256 .bf16) (harg8 : arg8.IsWhole) (arg9 : Memref sig .tc .vmem S4x512x256 .f32) (harg9 : arg9.IsWhole) (hc0 : ¬cond0_0 i)
    (x0 : Vec F S128x1024 .f32) (x1 : Vec F S128x1024 .f32) (x2 : Vec F S128x2048 .f32) (x3 : Vec F S128x128 .f32) (x4 : Vec F S128x1024 .f32) (x5 : Vec F S1x1024 .f32) (xs0 : Vec F S4x512x256 .f32) :
    Σ' (L6 : List (View.Piece (Elt F) S128x2048 .f32)), Σ' (L7 : List (View.Piece (Elt F) S4x1x512x256 .bf16)), { LS0 : List (View.Piece (Elt F) S4x512x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0)) -∗ K ⟨⟩))
          ⊢ wp frame (wpE (defs₀ (F := F)) Variants.none c none) E (cc0_gla_1 i arg1 harg1 arg2 harg2 arg3 harg3 arg4 harg4 arg5 harg5 arg6 harg6 arg7 harg7 arg8 harg8 arg9 harg9) K } := by
  refine ⟨?_, ?_, ?_, fun E K => ?run⟩
  case run =>
    simp only [cc0_gla_1_eq_skeleton]; unfold cc0_gla_1_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    iexists _; iexact HS0

end Cert.KernelIdeal.Fwd

end
-- ==== Proof.Fwd.lean ====
/- The forward scan of the gated linear attention, as a call of the two-call program: what its outputs and its scratch hold
   after each grid point, and the body obligation. -/
module

public import proofs.«01_k».proof.Proof.FwdB
public import Idealize.ShloMosaic.Lib.Claim

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S128x2048 .f32) (harg7 : arg7.IsWhole) (arg8 : Memref sig .tc .vmem S4x1x512x256 .bf16) (harg8 : arg8.IsWhole) (arg9 : Memref sig .tc .vmem S4x512x256 .f32) (harg9 : arg9.IsWhole) (hc0 : cond0_0 i)
    (x0 : Vec F S128x1024 .f32) (x1 : Vec F S128x1024 .f32) (x2 : Vec F S128x2048 .f32) (x3 : Vec F S128x128 .f32) (x4 : Vec F S128x1024 .f32) (x5 : Vec F S1x1024 .f32)

/-- Case A's pieces for output 6 cover its block. -/
theorem cover0_A_6 (y : S128x2048.Idx) :
    ∃ pc ∈ (kernelRun0_A c i arg1 harg1 arg2 harg2 arg3 harg3 arg4 harg4 arg5 harg5 arg6 harg6 arg7 harg7 arg8 harg8 arg9 harg9 hc0 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).1 S128x512.size (by sl_kernel_rfl) y

/-- What case A leaves in output 6's staging buffer: its pieces read back over junk. -/
def out0_A_6 : Vec F S128x2048 .f32 :=
  VO0_6.read (Elt F) (VO0_6.writes (Elt F) VO0_6.junk (kernelRun0_A c i arg1 harg1 arg2 harg2 arg3 harg3 arg4 harg4 arg5 harg5 arg6 harg6 arg7 harg7 arg8 harg8 arg9 harg9 hc0 x0 x1 x2 x3 x4 x5).1)

/-- Case A's pieces for output 7 cover its block. -/
theorem cover0_A_7 (y : S4x1x512x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 hc0 x0 x1 x2 x3 x4 x5).2.1 S1x1x512x256.size (by sl_kernel_rfl) y

/-- What case A leaves in output 7's staging buffer: its pieces read back over junk. -/
def out0_A_7 : Vec F S4x1x512x256 .bf16 :=
  VO0_7.read (Elt F) (VO0_7.writes (Elt F) VO0_7.junk (kernelRun0_A c i arg1 harg1 arg2 harg2 arg3 harg3 arg4 harg4 arg5 harg5 arg6 harg6 arg7 harg7 arg8 harg8 arg9 harg9 hc0 x0 x1 x2 x3 x4 x5).2.1)

/-- Case A's pieces for scratch `arg9` cover it. -/
theorem scover0_A_0 (y : S4x512x256.Idx) :
    ∃ pc ∈ (kernelRun0_A c i arg1 harg1 arg2 harg2 arg3 harg3 arg4 harg4 arg5 harg5 arg6 harg6 arg7 harg7 arg8 harg8 arg9 harg9 hc0 x0 x1 x2 x3 x4 x5).2.2.1, y ∈ pc.1.set :=
  View.cover_of_wholeMem _ (by sl_whole_mem) y

/-- What case A leaves in scratch `arg9`: its pieces read back over junk. -/
def sout0_A_0 : Vec F S4x512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 hc0 x0 x1 x2 x3 x4 x5).2.2.1)

end

section
variable (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S128x2048 .f32) (harg7 : arg7.IsWhole) (arg8 : Memref sig .tc .vmem S4x1x512x256 .bf16) (harg8 : arg8.IsWhole) (arg9 : Memref sig .tc .vmem S4x512x256 .f32) (harg9 : arg9.IsWhole) (hc0 : ¬cond0_0 i)
    (x0 : Vec F S128x1024 .f32) (x1 : Vec F S128x1024 .f32) (x2 : Vec F S128x2048 .f32) (x3 : Vec F S128x128 .f32) (x4 : Vec F S128x1024 .f32) (x5 : Vec F S1x1024 .f32) (xs0 : Vec F S4x512x256 .f32)

/-- Case B's pieces for output 6 cover its block. -/
theorem cover0_B_6 (y : S128x2048.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).1 S128x512.size (by sl_kernel_rfl) y

/-- What case B leaves in output 6's staging buffer: its pieces read back over junk. -/
def out0_B_6 : Vec F S128x2048 .f32 :=
  VO0_6.read (Elt F) (VO0_6.writes (Elt F) VO0_6.junk (kernelRun0_B c i arg1 harg1 arg2 harg2 arg3 harg3 arg4 harg4 arg5 harg5 arg6 harg6 arg7 harg7 arg8 harg8 arg9 harg9 hc0 x0 x1 x2 x3 x4 x5 xs0).1)

/-- Case B's pieces for output 7 cover its block. -/
theorem cover0_B_7 (y : S4x1x512x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.1 S1x1x512x256.size (by sl_kernel_rfl) y

/-- What case B leaves in output 7's staging buffer: its pieces read back over junk. -/
def out0_B_7 : Vec F S4x1x512x256 .bf16 :=
  VO0_7.read (Elt F) (VO0_7.writes (Elt F) VO0_7.junk (kernelRun0_B c i arg1 harg1 arg2 harg2 arg3 harg3 arg4 harg4 arg5 harg5 arg6 harg6 arg7 harg7 arg8 harg8 arg9 harg9 hc0 x0 x1 x2 x3 x4 x5 xs0).2.1)

/-- Case B's pieces for scratch `arg9` cover it. -/
theorem scover0_B_0 (y : S4x512x256.Idx) :
    ∃ pc ∈ (kernelRun0_B c i arg1 harg1 arg2 harg2 arg3 harg3 arg4 harg4 arg5 harg5 arg6 harg6 arg7 harg7 arg8 harg8 arg9 harg9 hc0 x0 x1 x2 x3 x4 x5 xs0).2.2.1, y ∈ pc.1.set :=
  View.cover_of_tiledL (kernelRun0_B c i arg1 harg1 arg2 harg2 arg3 harg3 arg4 harg4 arg5 harg5 arg6 harg6 arg7 harg7 arg8 harg8 arg9 harg9 hc0 x0 x1 x2 x3 x4 x5 xs0).2.2.1 S1x512x256.size (by sl_kernel_rfl) y

/-- What case B leaves in scratch `arg9`: its pieces read back over junk. -/
def sout0_B_0 : Vec F S4x512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 hc0 x0 x1 x2 x3 x4 x5 xs0).2.2.1)

end

/-! ## What the outputs hold after each point -/

/-- What the outputs' staging buffers and the scratch carried between points hold after the body at position `n`: the
    point's case at its blocks and at what the point before left. -/
def outsAt0 (c : Dev nD) : (n : ℕ) → n < cfg0.N → Vec F S128x2048 .f32 × Vec F S4x1x512x256 .bf16 × Vec F S4x512x256 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩))
  | n + 1, hn =>
    if h0 : (n + 1) % 64 = 0 then
      (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩))
    else
      (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (outsAt0 c n (Nat.lt_of_succ_lt hn)).2.2)

/-- `outsAt0` at a point of case A: that case's contents. -/
theorem outsAt0_A (c : Dev nD) (t : Fin cfg0.N) (h0 : t.val % 64 = 0) :
    outsAt0 m c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 m c t) (X0_1 m c t) (X0_2 m c t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 m c t) (X0_1 m c t) (X0_2 m c t) (iblk m c 3 t) (iblk m c 4 t) (iblk m c 5 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (X0_0 m c t) (X0_1 m c t) (X0_2 m c t) (iblk m c 3 t) (iblk m c 4 t) (iblk m c 5 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 64 = 0) :
    outsAt0 m c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (X0_0 m c t) (X0_1 m c t) (X0_2 m c t) (iblk m c 3 t) (iblk m c 4 t) (iblk m c 5 t) (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ other c)

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2)) ∗ other c) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ other c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q w := Pipeline.shareOf spec0 w
  owed _ := 0

/-- The proof data's arrays are those that the region finds. -/
theorem A_eq (c : Dev nD) (w : Fin cfg0.W) : (dats m 0 c).A w = m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).1 := by dsimp only [dats]
theorem after0_7 (c : Dev nD) (t : Fin cfg0.N) : (dats m 0 c).after 7 t = (outsAt0 m c t.val t.isLt).2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: its case's run applies, from what the point before left to what this one leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases hz : t.val = 0
    · rw [PhiS_castSucc m c t, PhiS_zero m c _ _ hz, PhiA0_eq]
      rw [outsAt0_A m c t h0]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_A c (grid0.coords t) _ _ _ _ _ _ _ _ _ _ _ _ _ _ _ _ _ _ ((hcond0_0 t).mpr h0) (X0_0 m c t) (X0_1 m c t) (X0_2 m c t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c _ _ _ _ _ _ _ _ _ _ _ _ _ _ _ _ _ _ _ _ _ _ _ _ _ _)
      unfold owns; iexists _; isplitr
      swap; · iexact H7
      ipureintro; exact View.read_writes_of_cover _ _ _ _ _ (cover0_A_7 c _ _ _ _ _ _ _ _ _ _ _ _ _ _ _ _ _ _ _ _ _ _ _ _ _ _)
    · exfalso; have hN : t.val < 64 := lt_of_lt_of_eq t.isLt (show cfg0.N = 64 from N_0); omega
  · by_cases hz : t.val = 0
    · exfalso; have hN : t.val < 64 := lt_of_lt_of_eq t.isLt (show cfg0.N = 64 from N_0); omega
    · rw [PhiS_castSucc m c t, PhiS_pos m c _ _ hz]
      rw [outsAt0_B m c t h0]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ (fun h => h0 ((hcond0_0 t).mp h)) (X0_0 m c t) (X0_1 m c t) (X0_2 m c t) (iblk m c 3 t) (iblk m c 4 t) (iblk m c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c _ _ _ _ _ _ _ _ _ _ _ _ _ _ _ _ _ _ _ _ _ _ _ _ _ _ _)
      unfold owns; iexists _; isplitr
      swap; · iexact H7
      ipureintro; exact View.read_writes_of_cover _ _ _ _ _ (cover0_B_7 c _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

end Cert.KernelIdeal.Fwd

end
-- ==== Proof.BwdRuns.lean ====
/- The backward scan of the gated linear attention, as a call of the two-call program: the blocks its windows hold, its branch
   condition over the grid, its staging and scratch memrefs. The contents of the buffers at the call are a parameter `m`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (m c (Pipeline.arrRef spec1 w))

/-- Input window 0 is of the clipped KIND (its block does not tile its array `S8192x6272`), but no block the grid
    reaches is cut, so no part of its staging buffer is left unfilled by a fetch. A default for such a part, which
    nothing reads. -/
def dflt0_0 : (cfg1.win 0).block.Idx → Elt F (cfg1.win 0).elt := fun _ => Classical.choice inferInstance
/-- What input window 0's current staging buffer holds when the body runs at `t`: its block read off the array,
    filled over `dflt0_0` (block-typed, where `iblk` is typed at the cut). -/
def X0_0 (c : Dev nD) (t : Fin cfg1.N) : (cfg1.win 0).block.Idx → Elt F (cfg1.win 0).elt :=
  (cfg1.win 0).fill (cfg1.grid.coords t) dflt0_0 (iblk m c 0 t)
/-- At every point the cut's extent is the block's, decided over the grid: no transfer of input window 0 is cut. -/
theorem xsize0_0 : ∀ t : Fin cfg1.N, ∀ a, (cfg1.win 0).xsize (cfg1.grid.coords t) a = (cfg1.win 0).size a := by decide +kernel
/-- Every index of input window 0's block is moved at every point. -/
theorem moved0_0 (t : Fin cfg1.N) (j : (cfg1.win 0).block.Idx) : (cfg1.win 0).moved (cfg1.grid.coords t) j = true :=
  ((cfg1.win 0).moved_iff _ j).mpr fun a => by rw [xsize0_0 t a]; exact (j a).isLt
/-- A fill of input window 0's block covers the whole buffer, whatever it held. -/
theorem fill0_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved0_0 t j), dif_pos (moved0_0 t j)]
/-- Input window 0's current staging buffer holds `X0_0` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_0`). -/
theorem before0_0_of {c : Dev nD} (dat : Dat τ (Elt F) Unit ℕ (UR sig nD τ) ℕ cfg1 c) (hA : dat.A 0 = m c (Pipeline.arrRef spec1 0))
    (hafter : ∀ t, dat.after 0 t = X0_0 m c t) (t : Fin cfg1.N) (d) : dat.before 0 t d = X0_0 m c t :=
  (dat.before_in_eq_fetched 0 rfl (fun _ => rfl)
      (fun t t' h => funext fun a => congrArg (fun n => Pipeline.Clip.of n ((cfg1.win 0).size a) (S8192x6272.size a)) (congrFun h a))
      (fun t => by rw [hafter]; unfold X0_0; rw [Pipeline.Window.cut_fill]; unfold Dat.blockOf iblk; rw [hA]; try rfl) t d).trans
    (by unfold Dat.fetched X0_0; rw [fill0_0 t d dflt0_0]; unfold Dat.blockOf iblk; rw [hA]; try rfl)
/-- Input window 1 is of the clipped KIND (its block does not tile its array `S8192x6272`), but no block the grid
    reaches is cut, so no part of its staging buffer is left unfilled by a fetch. A default for such a part, which
    nothing reads. -/
def dflt0_1 : (cfg1.win 1).block.Idx → Elt F (cfg1.win 1).elt := fun _ => Classical.choice inferInstance
/-- What input window 1's current staging buffer holds when the body runs at `t`: its block read off the array,
    filled over `dflt0_1` (block-typed, where `iblk` is typed at the cut). -/
def X0_1 (c : Dev nD) (t : Fin cfg1.N) : (cfg1.win 1).block.Idx → Elt F (cfg1.win 1).elt :=
  (cfg1.win 1).fill (cfg1.grid.coords t) dflt0_1 (iblk m c 1 t)
/-- At every point the cut's extent is the block's, decided over the grid: no transfer of input window 1 is cut. -/
theorem xsize0_1 : ∀ t : Fin cfg1.N, ∀ a, (cfg1.win 1).xsize (cfg1.grid.coords t) a = (cfg1.win 1).size a := by decide +kernel
/-- Every index of input window 1's block is moved at every point. -/
theorem moved0_1 (t : Fin cfg1.N) (j : (cfg1.win 1).block.Idx) : (cfg1.win 1).moved (cfg1.grid.coords t) j = true :=
  ((cfg1.win 1).moved_iff _ j).mpr fun a => by rw [xsize0_1 t a]; exact (j a).isLt
/-- A fill of input window 1's block covers the whole buffer, whatever it held. -/
theorem fill0_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved0_1 t j), dif_pos (moved0_1 t j)]
/-- Input window 1's current staging buffer holds `X0_1` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_1`). -/
theorem before0_1_of {c : Dev nD} (dat : Dat τ (Elt F) Unit ℕ (UR sig nD τ) ℕ cfg1 c) (hA : dat.A 1 = m c (Pipeline.arrRef spec1 1))
    (hafter : ∀ t, dat.after 1 t = X0_1 m c t) (t : Fin cfg1.N) (d) : dat.before 1 t d = X0_1 m c t :=
  (dat.before_in_eq_fetched 1 rfl (fun _ => rfl)
      (fun t t' h => funext fun a => congrArg (fun n => Pipeline.Clip.of n ((cfg1.win 1).size a) (S8192x6272.size a)) (congrFun h a))
      (fun t => by rw [hafter]; unfold X0_1; rw [Pipeline.Window.cut_fill]; unfold Dat.blockOf iblk; rw [hA]; try rfl) t d).trans
    (by unfold Dat.fetched X0_1; rw [fill0_1 t d dflt0_1]; unfold Dat.blockOf iblk; rw [hA]; try rfl)
/-- Input window 2 is of the clipped KIND (its block does not tile its array `S8192x6272`), but no block the grid
    reaches is cut, so no part of its staging buffer is left unfilled by a fetch. A default for such a part, which
    nothing reads. -/
def dflt0_2 : (cfg1.win 2).block.Idx → Elt F (cfg1.win 2).elt := fun _ => Classical.choice inferInstance
/-- What input window 2's current staging buffer holds when the body runs at `t`: its block read off the array,
    filled over `dflt0_2` (block-typed, where `iblk` is typed at the cut). -/
def X0_2 (c : Dev nD) (t : Fin cfg1.N) : (cfg1.win 2).block.Idx → Elt F (cfg1.win 2).elt :=
  (cfg1.win 2).fill (cfg1.grid.coords t) dflt0_2 (iblk m c 2 t)
/-- At every point the cut's extent is the block's, decided over the grid: no transfer of input window 2 is cut. -/
theorem xsize0_2 : ∀ t : Fin cfg1.N, ∀ a, (cfg1.win 2).xsize (cfg1.grid.coords t) a = (cfg1.win 2).size a := by decide +kernel
/-- Every index of input window 2's block is moved at every point. -/
theorem moved0_2 (t : Fin cfg1.N) (j : (cfg1.win 2).block.Idx) : (cfg1.win 2).moved (cfg1.grid.coords t) j = true :=
  ((cfg1.win 2).moved_iff _ j).mpr fun a => by rw [xsize0_2 t a]; exact (j a).isLt
/-- A fill of input window 2's block covers the whole buffer, whatever it held. -/
theorem fill0_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved0_2 t j), dif_pos (moved0_2 t j)]
/-- Input window 2's current staging buffer holds `X0_2` at every point, fetched there or not, for ANY proof data whose
    array is `V`'s (`hA`) and whose body leaves it in place (`hafter`): Lib/Pipeline/FrameBody.lean
    `Dat.before_in_eq_fetched`, its cut a function of its block index (`hclip` by rewriting the index), the fetch
    filling the whole block (`fill0_2`). -/
theorem before0_2_of {c : Dev nD} (dat : Dat τ (Elt F) Unit ℕ (UR sig nD τ) ℕ cfg1 c) (hA : dat.A 2 = m c (Pipeline.arrRef spec1 2))
    (hafter : ∀ t, dat.after 2 t = X0_2 m c t) (t : Fin cfg1.N) (d) : dat.before 2 t d = X0_2 m c t :=
  (dat.before_in_eq_fetched 2 rfl (fun _ => rfl)
      (fun t t' h => funext fun a => congrArg (fun n => Pipeline.Clip.of n ((cfg1.win 2).size a) (S8192x6272.size a)) (congrFun h a))
      (fun t => by rw [hafter]; unfold X0_2; rw [Pipeline.Window.cut_fill]; unfold Dat.blockOf iblk; rw [hA]; try rfl) t d).trans
    (by unfold Dat.fetched X0_2; rw [fill0_2 t d dflt0_2]; unfold Dat.blockOf iblk; rw [hA]; try rfl)
/-- Input window 3's staging buffer holds its block at every point. -/
theorem before0_3_of {c : Dev nD} (dat : Dat τ (Elt F) Unit ℕ (UR sig nD τ) ℕ cfg1 c) (hA : dat.A 3 = m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point. -/
theorem before0_4_of {c : Dev nD} (dat : Dat τ (Elt F) Unit ℕ (UR sig nD τ) ℕ cfg1 c) (hA : dat.A 4 = m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point. -/
theorem before0_5_of {c : Dev nD} (dat : Dat τ (Elt F) Unit ℕ (UR sig nD τ) ℕ cfg1 c) (hA : dat.A 5 = m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point. -/
theorem before0_6_of {c : Dev nD} (dat : Dat τ (Elt F) Unit ℕ (UR sig nD τ) ℕ cfg1 c) (hA : dat.A 6 = m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point. -/
theorem before0_7_of {c : Dev nD} (dat : Dat τ (Elt F) Unit ℕ (UR sig nD τ) ℕ cfg1 c) (hA : dat.A 7 = m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point. -/
theorem before0_8_of {c : Dev nD} (dat : Dat τ (Elt F) Unit ℕ (UR sig nD τ) ℕ cfg1 c) (hA : dat.A 8 = m c (Pipeline.arrRef spec1 8))
    (hafter : ∀ t, dat.after 8 t = iblk m c 8 t) (t : Fin cfg1.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg1.N, cond0_0 (grid1.coords t) ↔ t.val % 64 = 0 :=
  (fun t => by
    have ht : t.val < 64 := Nat.lt_of_lt_of_eq t.isLt N_1
    have e0 : (grid1.coords t 0).val = t.val / 1 % 64 := Pipeline.Grid.coords_val t 0 (by decide) rfl
    simp only [cond0_0, e0]
    word_cmp
   : ∀ t : Fin grid1.N, cond0_0 (grid1.coords t) ↔ t.val % 64 = 0)

/-! ## The kernel body on any staging memrefs: a subtype the run finds -/

/-- One staging buffer of output window 9, through which its contents are stated (`View.read_writes_of_cover`: the
    choice does not matter). -/
abbrev VO0_9 : View sig .tc .vmem S128x6272 .bf16 := (Memref.whole cc1_stg9_0 : Memref sig .tc .vmem S128x6272 .bf16).view
/-- One staging buffer of output window 10, through which its contents are stated (`View.read_writes_of_cover`: the
    choice does not matter). -/
abbrev VO0_10 : View sig .tc .vmem S128x1024 .bf16 := (Memref.whole cc1_stg10_0 : Memref sig .tc .vmem S128x1024 .bf16).view
/-- One staging buffer of output window 11, through which its contents are stated (`View.read_writes_of_cover`: the
    choice does not matter). -/
abbrev VO0_11 : View sig .tc .vmem S8x1024 .f32 := (Memref.whole cc1_stg11_0 : Memref sig .tc .vmem S8x1024 .f32).view
/-- Each window's current staging memref at point `t`, spelled as the pipeline passes it (`bodyAt1`), and its wholeness. -/
abbrev ms0_0 (t : Fin cfg1.N) : Memref sig .tc .vmem S128x1024 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S128x1024 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S128x2048 .f32 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S128x128 .f32 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S128x1024 .f32 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S1x1024 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S4x1x512x256 .bf16 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S128x2048 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S128x2048 .bf16 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S128x6272 .bf16 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S128x1024 .bf16 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S8x1024 .f32 := win1_11.stage (cfg1.slots t 11)
abbrev hs0_11 (t : Fin cfg1.N) : (ms0_11 t).IsWhole := hstage1_11 ((cfg1.slots t 11).cast nbuf1_11)
/-- The scratch operands: whole scoped buffers of the kernel's own, passed beside the windows. -/
abbrev scM0_0 : Memref sig .tc .vmem S4x512x256 .f32 := Memref.whole cc1_scratch0
abbrev scM0_1 : Memref sig .tc .vmem S128x1024 .f32 := Memref.whole cc1_scratch1
/-- The scratch `arg13` the kernel carries between points, as a view: what it holds is stated through it. -/
abbrev VS0_0 : View sig .tc .vmem S4x512x256 .f32 := scM0_0.view

/-- What the invariant carries untouched: the scoped buffers of the program that are neither a staging buffer nor a scratch
    buffer of this call, and the generator register at some state. -/
def other (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The class's invariant with this call's scratch as memrefs owned at some contents, the rest unopened (`other`). -/
theorem PhiA0_eq (c : Dev nD) :
    (Pipeline.ΦA spec1 c : sProp 𝕄) = iprop(iprop((∃ d, owns (c : Thread nD τ) scM0_0 fullShare d) ∗ (∃ d, owns (c : Thread nD τ) scM0_1 fullShare d)) ∗ other c) := by
  unfold Pipeline.ΦA other
  rw [Pipeline.scopedRest_split_of_list spec1 c [cc1_scratch0, cc1_scratch1] (by decide) (by decide), show ∀ P Q : sProp 𝕄, BI.sep P Q = iprop(P ∗ Q) from fun _ _ => rfl,
    show ∀ P Q R : sProp 𝕄, iprop((P ∗ Q) ∗ R) = iprop(P ∗ Q ∗ R) from fun _ _ _ => BI.Entails.antisymm BI.sep_assoc BI.sep_assoc']
  simp only [BI.bigSepL_cons_cons, BI.bigSepL_singleton, owns_whole]
  rfl

end Cert.KernelIdeal.Bwd

end
-- ==== Proof.BwdA.lean ====
/- The backward scan of the gated linear attention, as a call of the two-call program: the run of its body at the first grid point. -/
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S4x1x512x256 .bf16) (harg7 : arg7.IsWhole) (arg8 : Memref sig .tc .vmem S128x2048 .f32) (harg8 : arg8.IsWhole) (arg9 : Memref sig .tc .vmem S128x2048 .bf16) (harg9 : arg9.IsWhole) (arg10 : Memref sig .tc .vmem S128x6272 .bf16) (harg10 : arg10.IsWhole) (arg11 : Memref sig .tc .vmem S128x1024 .bf16) (harg11 : arg11.IsWhole) (arg12 : Memref sig .tc .vmem S8x1024 .f32) (harg12 : arg12.IsWhole) (arg13 : Memref sig .tc .vmem S4x512x256 .f32) (harg13 : arg13.IsWhole) (arg14 : Memref sig .tc .vmem S128x1024 .f32) (harg14 : arg14.IsWhole) (hc0 : cond0_0 i)
    (x0 : Vec F S128x1024 .f32) (x1 : Vec F S128x1024 .f32) (x2 : Vec F S128x2048 .f32) (x3 : Vec F S128x128 .f32) (x4 : Vec F S128x1024 .f32) (x5 : Vec F S1x1024 .f32) (x6 : Vec F S4x1x512x256 .bf16) (x7 : Vec F S128x2048 .f32) (x8 : Vec F S128x2048 .bf16) :
    Σ' (L9 : List (View.Piece (Elt F) S128x6272 .bf16)), Σ' (L10 : List (View.Piece (Elt F) S128x1024 .bf16)), Σ' (L11 : List (View.Piece (Elt F) S8x1024 .f32)), Σ' (LS0 : List (View.Piece (Elt F) S4x512x256 .f32)), { LT1 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1)) -∗ K ⟨⟩))
          ⊢ wp frame (wpE (defs₀ (F := F)) Variants.none c none) E (cc1_gla_bwd_1 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_gla_bwd_1_eq_skeleton]; unfold cc1_gla_bwd_1_skel
    simp only [k1_part11_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Bwd

end
-- ==== Proof.BwdB.lean ====
/- The backward scan of the gated linear attention, as a call of the two-call program: the run of its body at the other grid points. -/
module

public import proofs.«01_k».proof.Proof.BwdA

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1000000 in
/-- What the body's stores leave in each output's staging memref, as pieces (last first) IN CASE B (`scf.if` 0 not taken: points 1, 2, … 63: 63 of 64), WITH the
    proof that on whole staging memrefs — the inputs' at their contents, the outputs it reads before covering (11) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S4x1x512x256 .bf16) (harg7 : arg7.IsWhole) (arg8 : Memref sig .tc .vmem S128x2048 .f32) (harg8 : arg8.IsWhole) (arg9 : Memref sig .tc .vmem S128x2048 .bf16) (harg9 : arg9.IsWhole) (arg10 : Memref sig .tc .vmem S128x6272 .bf16) (harg10 : arg10.IsWhole) (arg11 : Memref sig .tc .vmem S128x1024 .bf16) (harg11 : arg11.IsWhole) (arg12 : Memref sig .tc .vmem S8x1024 .f32) (harg12 : arg12.IsWhole) (arg13 : Memref sig .tc .vmem S4x512x256 .f32) (harg13 : arg13.IsWhole) (arg14 : Memref sig .tc .vmem S128x1024 .f32) (harg14 : arg14.IsWhole) (hc0 : ¬cond0_0 i)
    (x0 : Vec F S128x1024 .f32) (x1 : Vec F S128x1024 .f32) (x2 : Vec F S128x2048 .f32) (x3 : Vec F S128x128 .f32) (x4 : Vec F S128x1024 .f32) (x5 : Vec F S1x1024 .f32) (x6 : Vec F S4x1x512x256 .bf16) (x7 : Vec F S128x2048 .f32) (x8 : Vec F S128x2048 .bf16) (xo11 : Vec F S8x1024 .f32) (xs0 : Vec F S4x512x256 .f32) :
    Σ' (L9 : List (View.Piece (Elt F) S128x6272 .bf16)), Σ' (L10 : List (View.Piece (Elt F) S128x1024 .bf16)), Σ' (L11 : List (View.Piece (Elt F) S8x1024 .f32)), Σ' (LS0 : List (View.Piece (Elt F) S4x512x256 .f32)), { LT1 : List (View.Piece (Elt F) S128x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ owns (c : Thread nD τ) arg12 fullShare xo11 ∗ owns (c : Thread nD τ) arg13 fullShare xs0 ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f LS0) ∗ (∃ f, arg14.view.loc (c : Thread nD τ) ↦[arg14.view.set]{fullShare} arg14.view.writes (Elt F) f LT1)) -∗ K ⟨⟩))
          ⊢ wp frame (wpE (defs₀ (F := F)) Variants.none c none) E (cc1_gla_bwd_1 i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc1_gla_bwd_1_eq_skeleton]; unfold cc1_gla_bwd_1_skel
    simp only [k1_part11_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hf11; obtain rfl := harg13.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [HS0]; · iexists _; iexact HS0
    iexists _; iexact HS1

end Cert.KernelIdeal.Bwd

end
-- ==== Proof.Bwd.lean ====
/- The backward scan of the gated linear attention, as a call of the two-call program: what its outputs and its scratch hold
   after each grid point, and the body obligation. -/
module

public import proofs.«01_k».proof.Proof.BwdB
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))
section
variable (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S4x1x512x256 .bf16) (harg7 : arg7.IsWhole) (arg8 : Memref sig .tc .vmem S128x2048 .f32) (harg8 : arg8.IsWhole) (arg9 : Memref sig .tc .vmem S128x2048 .bf16) (harg9 : arg9.IsWhole) (arg10 : Memref sig .tc .vmem S128x6272 .bf16) (harg10 : arg10.IsWhole) (arg11 : Memref sig .tc .vmem S128x1024 .bf16) (harg11 : arg11.IsWhole) (arg12 : Memref sig .tc .vmem S8x1024 .f32) (harg12 : arg12.IsWhole) (arg13 : Memref sig .tc .vmem S4x512x256 .f32) (harg13 : arg13.IsWhole) (arg14 : Memref sig .tc .vmem S128x1024 .f32) (harg14 : arg14.IsWhole) (hc0 : cond0_0 i)
    (x0 : Vec F S128x1024 .f32) (x1 : Vec F S128x1024 .f32) (x2 : Vec F S128x2048 .f32) (x3 : Vec F S128x128 .f32) (x4 : Vec F S128x1024 .f32) (x5 : Vec F S1x1024 .f32) (x6 : Vec F S4x1x512x256 .bf16) (x7 : Vec F S128x2048 .f32) (x8 : Vec F S128x2048 .bf16)

/-- Case A's pieces for output 9 cover its block. -/
theorem cover0_A_9 (y : S128x6272.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1, y ∈ pc.1.set :=
  View.cover_of_tiledBy _ ![128, 128] (by sl_kernel_rfl) y

/-- What case A leaves in output 9's staging buffer: its pieces read back over junk. -/
def out0_A_9 : Vec F S128x6272 .bf16 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).1)

/-- Case A's pieces for output 10 cover its block. -/
theorem cover0_A_10 (y : S128x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1, y ∈ pc.1.set :=
  View.cover_of_tiledL _ S128x1024.size (by sl_kernel_rfl) y

/-- What case A leaves in output 10's staging buffer: its pieces read back over junk. -/
def out0_A_10 : Vec F S128x1024 .bf16 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.1)

/-- Case A's pieces for output 11 cover its block. -/
theorem cover0_A_11 (y : S8x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1, y ∈ pc.1.set :=
  View.cover_of_tiledL _ S8x1024.size (by sl_kernel_rfl) y

/-- What case A leaves in output 11's staging buffer: its pieces read back over junk. -/
def out0_A_11 : Vec F S8x1024 .f32 :=
  VO0_11.read (Elt F) (VO0_11.writes (Elt F) VO0_11.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1)

/-- Case A's pieces for scratch `arg13` cover it. -/
theorem scover0_A_0 (y : S4x512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1, y ∈ pc.1.set :=
  View.cover_of_wholeMem _ (by sl_whole_mem) y

/-- What case A leaves in scratch `arg13`: its pieces read back over junk. -/
def sout0_A_0 : Vec F S4x512x256 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1)

end

section
variable (c : Dev nD) (i : grid1.Coords) (arg1 : Memref sig .tc .vmem S128x1024 .f32) (harg1 : arg1.IsWhole) (arg2 : Memref sig .tc .vmem S128x1024 .f32) (harg2 : arg2.IsWhole) (arg3 : Memref sig .tc .vmem S128x2048 .f32) (harg3 : arg3.IsWhole) (arg4 : Memref sig .tc .vmem S128x128 .f32) (harg4 : arg4.IsWhole) (arg5 : Memref sig .tc .vmem S128x1024 .f32) (harg5 : arg5.IsWhole) (arg6 : Memref sig .tc .vmem S1x1024 .f32) (harg6 : arg6.IsWhole) (arg7 : Memref sig .tc .vmem S4x1x512x256 .bf16) (harg7 : arg7.IsWhole) (arg8 : Memref sig .tc .vmem S128x2048 .f32) (harg8 : arg8.IsWhole) (arg9 : Memref sig .tc .vmem S128x2048 .bf16) (harg9 : arg9.IsWhole) (arg10 : Memref sig .tc .vmem S128x6272 .bf16) (harg10 : arg10.IsWhole) (arg11 : Memref sig .tc .vmem S128x1024 .bf16) (harg11 : arg11.IsWhole) (arg12 : Memref sig .tc .vmem S8x1024 .f32) (harg12 : arg12.IsWhole) (arg13 : Memref sig .tc .vmem S4x512x256 .f32) (harg13 : arg13.IsWhole) (arg14 : Memref sig .tc .vmem S128x1024 .f32) (harg14 : arg14.IsWhole) (hc0 : ¬cond0_0 i)
    (x0 : Vec F S128x1024 .f32) (x1 : Vec F S128x1024 .f32) (x2 : Vec F S128x2048 .f32) (x3 : Vec F S128x128 .f32) (x4 : Vec F S128x1024 .f32) (x5 : Vec F S1x1024 .f32) (x6 : Vec F S4x1x512x256 .bf16) (x7 : Vec F S128x2048 .f32) (x8 : Vec F S128x2048 .bf16) (xo11 : Vec F S8x1024 .f32) (xs0 : Vec F S4x512x256 .f32)

/-- Case B's pieces for output 9 cover its block. -/
theorem cover0_B_9 (y : S128x6272.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).1, y ∈ pc.1.set :=
  View.cover_of_tiledBy _ ![128, 128] (by sl_kernel_rfl) y

/-- What case B leaves in output 9's staging buffer: its pieces read back over junk. -/
def out0_B_9 : Vec F S128x6272 .bf16 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).1)

/-- Case B's pieces for output 10 cover its block. -/
theorem cover0_B_10 (y : S128x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.1, y ∈ pc.1.set :=
  View.cover_of_tiledL _ S128x1024.size (by sl_kernel_rfl) y

/-- What case B leaves in output 10's staging buffer: its pieces read back over junk. -/
def out0_B_10 : Vec F S128x1024 .bf16 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.1)

/-- Case B's pieces for output 11 cover its block. -/
theorem cover0_B_11 (y : S8x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.1, y ∈ pc.1.set :=
  View.cover_of_tiledL _ S8x1024.size (by sl_kernel_rfl) y

/-- What case B leaves in output 11's staging buffer: its pieces read back over junk. -/
def out0_B_11 : Vec F S8x1024 .f32 :=
  VO0_11.read (Elt F) (VO0_11.writes (Elt F) VO0_11.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.1)

/-- Case B's pieces for scratch `arg13` cover it. -/
theorem scover0_B_0 (y : S4x512x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.2.1 S1x512x256.size (by sl_kernel_rfl) y

/-- What case B leaves in scratch `arg13`: its pieces read back over junk. -/
def sout0_B_0 : Vec F S4x512x256 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xo11 xs0).2.2.2.1)

end

/-! ## What the outputs hold after each point -/

/-- What the outputs' staging buffers and the scratch carried between points hold after the body at position `n`: the
    point's case at its blocks and at what the point before left. -/
def outsAt0 (c : Dev nD) : (n : ℕ) → n < cfg1.N → Vec F S128x6272 .bf16 × Vec F S128x1024 .bf16 × Vec F S8x1024 .f32 × Vec F S4x512x256 .f32
  | 0, hn => (out0_A_9 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_10 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), out0_A_11 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) scM0_0 (Memref.isWhole_whole _) scM0_1 (Memref.isWhole_whole _) ((hcond0_0 ⟨0, hn⟩).mpr (Nat.zero_mod _)) (X0_0 m c ⟨0, hn⟩) (X0_1 m c ⟨0, hn⟩) (X0_2 m c ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩))
  | n + 1, hn =>
    if h0 : (n + 1) % 64 = 0 then
      (out0_A_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), out0_A_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) ((hcond0_0 ⟨n + 1, hn⟩).mpr h0) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩))
    else
      (out0_B_9 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_B_10 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, out0_B_11 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) scM0_0 (Memref.isWhole_whole _) scM0_1 (Memref.isWhole_whole _) (fun h => h0 ((hcond0_0 ⟨n + 1, hn⟩).mp h)) (X0_0 m c ⟨n + 1, hn⟩) (X0_1 m c ⟨n + 1, hn⟩) (X0_2 m c ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (outsAt0 c n (Nat.lt_of_succ_lt hn)).2.2.1 (outsAt0 c n (Nat.lt_of_succ_lt hn)).2.2.2)

/-- `outsAt0` at a point of case A: that case's contents. -/
theorem outsAt0_A (c : Dev nD) (t : Fin cfg1.N) (h0 : t.val % 64 = 0) :
    outsAt0 m c t.val t.isLt = (out0_A_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t), out0_A_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t), out0_A_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t), sout0_A_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) ((hcond0_0 t).mpr h0) (X0_0 m c t) (X0_1 m c t) (X0_2 m c t) (iblk m c 3 t) (iblk m c 4 t) (iblk m c 5 t) (iblk m c 6 t) (iblk m c 7 t) (iblk m c 8 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 64 = 0) :
    outsAt0 m c t.val t.isLt = (out0_B_9 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_10 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, out0_B_11 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM0_0 (Memref.isWhole_whole _) scM0_1 (Memref.isWhole_whole _) (fun h => h0 ((hcond0_0 t).mp h)) (X0_0 m c t) (X0_1 m c t) (X0_2 m c t) (iblk m c 3 t) (iblk m c 4 t) (iblk m c 5 t) (iblk m c 6 t) (iblk m c 7 t) (iblk m c 8 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 m c n hn).2.2.2) ∗ (∃ d, owns (c : Thread nD τ) scM0_1 fullShare d)) ∗ other c)

theorem PhiS_zero (c : Dev nD) (n : ℕ) (h : n ≤ cfg1.N) (hz : n = 0) : PhiS m c n h = Pipeline.ΦA spec1 c := by
  subst hz; rfl

/-- After point `n` (before point `n + 1`): the carried scratch at that point's contents. -/
theorem PhiS_succ (c : Dev nD) (n : ℕ) (hn : n < cfg1.N) :
    PhiS m c (n + 1) hn = iprop(iprop(owns (c : Thread nD τ) scM0_0 fullShare ((outsAt0 m c n hn).2.2.2) ∗ (∃ d, owns (c : Thread nD τ) scM0_1 fullShare d)) ∗ other c) := rfl

/-- Before a point that is not the first: the carried scratch at what the point before left. -/
theorem PhiS_pos (c : Dev nD) (n : ℕ) (h : n ≤ cfg1.N) (hz : n ≠ 0) :
    PhiS m c n h = iprop(iprop(owns (c : Thread nD τ) scM0_0 fullShare ((outsAt0 m c (n - 1) (by omega)).2.2.2) ∗ (∃ d, owns (c : Thread nD τ) scM0_1 fullShare d)) ∗ other c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg1 c where
  A w := m c (Pipeline.arrRef spec1 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (outsAt0 m c t.val t.isLt).1
    | ⟨10, _⟩ => (outsAt0 m c t.val t.isLt).2.1
    | ⟨11, _⟩ => (outsAt0 m c t.val t.isLt).2.2.1
  Φ t := PhiS m c t.val (Nat.le_of_lt_succ t.isLt)
  q w := Pipeline.shareOf spec1 w
  owed _ := 0

/-- The proof data's arrays are those that the region finds. -/
theorem A_eq (c : Dev nD) (w : Fin cfg1.W) : (dats m 0 c).A w = m c (Pipeline.arrRef spec1 w) := by
  dsimp only [dats]

/-- The invariant at a point's start (the proof data at `t.castSucc`), restated at `t.val`. -/
theorem PhiS_castSucc (c : Dev nD) (t : Fin cfg1.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg1.N) : (dats m 0 c).after 0 t = X0_0 m c t := by dsimp only [dats]
theorem after0_1 (c : Dev nD) (t : Fin cfg1.N) : (dats m 0 c).after 1 t = X0_1 m c t := by dsimp only [dats]
theorem after0_2 (c : Dev nD) (t : Fin cfg1.N) : (dats m 0 c).after 2 t = X0_2 m c t := by dsimp only [dats]
theorem after0_3 (c : Dev nD) (t : Fin cfg1.N) : (dats m 0 c).after 3 t = iblk m c 3 t := by dsimp only [dats]
theorem after0_4 (c : Dev nD) (t : Fin cfg1.N) : (dats m 0 c).after 4 t = iblk m c 4 t := by dsimp only [dats]
theorem after0_5 (c : Dev nD) (t : Fin cfg1.N) : (dats m 0 c).after 5 t = iblk m c 5 t := by dsimp only [dats]
theorem after0_6 (c : Dev nD) (t : Fin cfg1.N) : (dats m 0 c).after 6 t = iblk m c 6 t := by dsimp only [dats]
theorem after0_7 (c : Dev nD) (t : Fin cfg1.N) : (dats m 0 c).after 7 t = iblk m c 7 t := by dsimp only [dats]
theorem after0_8 (c : Dev nD) (t : Fin cfg1.N) : (dats m 0 c).after 8 t = iblk m c 8 t := by dsimp only [dats]
theorem after0_9 (c : Dev nD) (t : Fin cfg1.N) : (dats m 0 c).after 9 t = (outsAt0 m c t.val t.isLt).1 := by dsimp only [dats]
theorem after0_10 (c : Dev nD) (t : Fin cfg1.N) : (dats m 0 c).after 10 t = (outsAt0 m c t.val t.isLt).2.1 := by dsimp only [dats]
theorem after0_11 (c : Dev nD) (t : Fin cfg1.N) : (dats m 0 c).after 11 t = (outsAt0 m c t.val t.isLt).2.2.1 := by dsimp only [dats]

/-- Each input's current staging buffer holds its block at every point, fetched there or not (`beforeK_W_of`). -/
theorem before0_0 (c : Dev nD) (t : Fin cfg1.N) (d) : (dats m 0 c).before 0 t d = X0_0 m c t :=
  before0_0_of m (dats m 0 c) (A_eq m c 0) (after0_0 m c) t d
theorem before0_1 (c : Dev nD) (t : Fin cfg1.N) (d) : (dats m 0 c).before 1 t d = X0_1 m c t :=
  before0_1_of m (dats m 0 c) (A_eq m c 1) (after0_1 m c) t d
theorem before0_2 (c : Dev nD) (t : Fin cfg1.N) (d) : (dats m 0 c).before 2 t d = X0_2 m c t :=
  before0_2_of m (dats m 0 c) (A_eq m c 2) (after0_2 m c) t d
theorem before0_3 (c : Dev nD) (t : Fin cfg1.N) (d) : (dats m 0 c).before 3 t d = iblk m c 3 t :=
  before0_3_of m (dats m 0 c) (A_eq m c 3) (after0_3 m c) t d
theorem before0_4 (c : Dev nD) (t : Fin cfg1.N) (d) : (dats m 0 c).before 4 t d = iblk m c 4 t :=
  before0_4_of m (dats m 0 c) (A_eq m c 4) (after0_4 m c) t d
theorem before0_5 (c : Dev nD) (t : Fin cfg1.N) (d) : (dats m 0 c).before 5 t d = iblk m c 5 t :=
  before0_5_of m (dats m 0 c) (A_eq m c 5) (after0_5 m c) t d
theorem before0_6 (c : Dev nD) (t : Fin cfg1.N) (d) : (dats m 0 c).before 6 t d = iblk m c 6 t :=
  before0_6_of m (dats m 0 c) (A_eq m c 6) (after0_6 m c) t d
theorem before0_7 (c : Dev nD) (t : Fin cfg1.N) (d) : (dats m 0 c).before 7 t d = iblk m c 7 t :=
  before0_7_of m (dats m 0 c) (A_eq m c 7) (after0_7 m c) t d
theorem before0_8 (c : Dev nD) (t : Fin cfg1.N) (d) : (dats m 0 c).before 8 t d = iblk m c 8 t :=
  before0_8_of m (dats m 0 c) (A_eq m c 8) (after0_8 m c) t d
/-- At a point of case B output 11's current staging buffer holds what the body left at the point before: the point is
    not the first, the buffer was not written back between (`flush1_11`), the window is live and uncut (Lib/Pipeline/Frame.lean
    `Dat.before_out_kept`). -/
theorem before0_11_B (c : Dev nD) (t : Fin cfg1.N) (h0 : ¬t.val % 64 = 0) (d) :
    (dats m 0 c).before 11 t d = (outsAt0 m c (t.val - 1) (Nat.lt_of_le_of_lt (Nat.sub_le _ _) t.isLt)).2.2.1 := by
  have hN : t.val < 64 := lt_of_lt_of_eq t.isLt (show cfg1.N = 64 from N_1)
  rw [Dat.before_out_kept _ 11 rfl t (by omega) (Bool.eq_false_iff.mpr fun h => by have := (flush1_11 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg1.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg1.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t))

set_option maxHeartbeats 9600000 in
/-- The body at any point: its case's run applies, from what the point before left to what this one leaves. -/
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9, after0_10, after0_11]
  rw [show (dats m 0 c).Φ t.succ = PhiS m c (t.val + 1) t.isLt from rfl, PhiS_succ]
  have hN : t.val < 64 := lt_of_lt_of_eq t.isLt (show cfg1.N = 64 from N_1)
  by_cases h0 : t.val % 64 = 0
  · by_cases hz : t.val = 0
    · rw [PhiS_castSucc m c t, PhiS_zero m c _ _ hz, PhiA0_eq]
      rw [outsAt0_A m c t h0]
      unfold out0_A_9 out0_A_10 out0_A_11 sout0_A_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_A c (grid1.coords t) _ _ _ _ _ _ _ _ _ _ _ _ _ _ _ _ _ _ _ _ _ _ _ _ _ _ _ _ ((hcond0_0 t).mpr h0) (X0_0 m c t) (X0_1 m c t) (X0_2 m c t) (iblk m c 3 t) (iblk m c 4 t) (iblk m c 5 t) (iblk m c 6 t) (iblk m c 7 t) (iblk m c 8 t)).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_A_10 c _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ _ _ _ _ _ _)
    · exfalso; have hN : t.val < 64 := lt_of_lt_of_eq t.isLt (show cfg1.N = 64 from N_1); omega
  · by_cases hz : t.val = 0
    · exfalso; have hN : t.val < 64 := lt_of_lt_of_eq t.isLt (show cfg1.N = 64 from N_1); omega
    · rw [PhiS_castSucc m c t, PhiS_pos m c _ _ hz]
      rw [outsAt0_B m c t h0]
      simp only [before0_11_B m c t h0]
      unfold out0_B_9 out0_B_10 out0_B_11 sout0_B_0; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c (grid1.coords t) _ _ _ _ _ _ _ _ _ _ _ _ _ _ _ _ _ _ _ _ _ _ _ _ _ _ _ _ (fun h => h0 ((hcond0_0 t).mp h)) (X0_0 m c t) (X0_1 m c t) (X0_2 m c t) (iblk m c 3 t) (iblk m c 4 t) (iblk m c 5 t) (iblk m c 6 t) (iblk m c 7 t) (iblk m c 8 t) _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexact H11
      isplitl [HS0]; · iexact HS0
      isplitl [HS1]; · iexact HS1
      iintro ⟨H0, H1, H2, H3, H4, H5, H6, H7, H8, ⟨%e9, H9⟩, ⟨%e10, H10⟩, ⟨%e11, H11⟩, ⟨%es0, HS0⟩, ⟨%fT1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _ _ _ _ _)
          iexists _; unfold owns; iexists _; isplitr
          swap; · iexact HS1
          ipureintro; rfl
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _ _ _ _ _ _ _)
      isplitl [H10]
      · unfold owns; iexists _; isplitr
        swap; · iexact H10
        ipureintro; exact View.read_writes_of_cover _ _ _ _ _ (cover0_B_10 c _ _ _ _ _ _ _ _ _ _ _ _ _ _ _ _ _ _ _ _ _ _ _ _ _ _ _ _ _ _ _ _ _ _ _ _ _ _ _ _ _)
      unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W1, bigSep_W1, defs₀_row]
  exact triple_restated (sound_body m c t) rfl .rfl fun _ => .rfl

/-- What the launch hands the region (`ΦA`) is the invariant before the first point. -/
theorem hin (c : Dev nD) : Pipeline.ΦA spec1 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dats m 0 c).Φ t ⊢ Pipeline.ΦA spec1 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg1.N) ⊢ Pipeline.ΦA spec1 c :=
  Phi_out m c _ (by rw [Fin.val_last]; have : cfg1.N = 64 := N_1; omega)

end Cert.KernelIdeal.Bwd

end
-- ==== Proof.Run.lean ====
/- The run of the two-call program: the forward scan's call, then the backward scan's, between the host operations. Each call
   becomes a record over the unscoped buffers' contents before and after it; the run ends with every unscoped buffer at a named
   contents and every semaphore counter at zero. -/
module

public import proofs.«01_k».proof.Proof.Gen.KernelIdeal.Regions
public import proofs.«01_k».proof.Proof.Fwd
public import proofs.«01_k».proof.Proof.Bwd
public import Idealize.ShloMosaic.Lib.Pipeline.RegionArrays
public import Idealize.ShloMosaic.Lib.Pipeline.RegionsLoop

@[expose] public section

set_option maxRecDepth 16384

noncomputable section

namespace Cert.KernelIdeal.Two

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RegionSeg Seg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents around the two calls -/

/-- The buffers as the forward call finds them. -/
abbrev W0 (c : Dev nD) (b : Ref sig .tc) : Buf (Elt F) ((c : Thread nD τ).loc b) := V3 m c b

/-- The forward call's proof data. -/
abbrev D0 (c : Dev nD) : Dat τ (Elt F) Unit ℕ (UR sig nD τ) ℕ cfg0 c := Fwd.dats (W0 m) 0 c

/-- The buffers after the forward call: its two outputs' arrays replaced. -/
def left0 (c : Dev nD) : Valuation τ sig (Elt F) :=
  Function.update (Function.update (V3 m c) main_v2_0 ((D0 m c).arrAt 6 cfg0.N)) main_v2_1 ((D0 m c).arrAt 7 cfg0.N)

/-- The buffers as the backward call finds them. -/
abbrev W1 (c : Dev nD) (b : Ref sig .tc) : Buf (Elt F) ((c : Thread nD τ).loc b) := left0 m c b

/-- The backward call's proof data. -/
abbrev D1 (c : Dev nD) : Dat τ (Elt F) Unit ℕ (UR sig nD τ) ℕ cfg1 c := Bwd.dats (W1 m) 0 c

/-- The buffers after the backward call: its three outputs' arrays replaced. -/
def left1 (c : Dev nD) : Valuation τ sig (Elt F) :=
  Function.update (Function.update (Function.update (left0 m c) main_v3_0 ((D1 m c).arrAt 9 cfg1.N))
    main_v3_1 ((D1 m c).arrAt 10 cfg1.N)) main_v3_2 ((D1 m c).arrAt 11 cfg1.N)

/-- What each call leaves in the buffers it may change. -/
def outs : Outs (F := F) := fun j r c => if j = 4 then left0 m c r else left1 m c r

theorem left0_v2_0 (c : Dev nD) : left0 m c main_v2_0 = (D0 m c).arrAt 6 cfg0.N := by
  unfold left0
  rw [Function.update_of_ne (StableHlo.devRef_ne_of_ne (by decide)), Function.update_self]
theorem left0_v2_1 (c : Dev nD) : left0 m c main_v2_1 = (D0 m c).arrAt 7 cfg0.N := by
  unfold left0
  rw [Function.update_self]
theorem left0_of (c : Dev nD) (b : DevRef τ sig) (h0 : b ≠ Proc.devRef .tc main_v2_0) (h1 : b ≠ Proc.devRef .tc main_v2_1) :
    left0 m c b = V3 m c b := by
  unfold left0
  rw [Function.update_of_ne h1, Function.update_of_ne h0]
theorem left1_v3_0 (c : Dev nD) : left1 m c main_v3_0 = (D1 m c).arrAt 9 cfg1.N := by
  unfold left1
  rw [Function.update_of_ne (StableHlo.devRef_ne_of_ne (by decide)), Function.update_of_ne (StableHlo.devRef_ne_of_ne (by decide)), Function.update_self]
theorem left1_v3_1 (c : Dev nD) : left1 m c main_v3_1 = (D1 m c).arrAt 10 cfg1.N := by
  unfold left1
  rw [Function.update_of_ne (StableHlo.devRef_ne_of_ne (by decide)), Function.update_self]
theorem left1_v3_2 (c : Dev nD) : left1 m c main_v3_2 = (D1 m c).arrAt 11 cfg1.N := by
  unfold left1
  rw [Function.update_self]
theorem left1_of (c : Dev nD) (b : DevRef τ sig) (h0 : b ≠ Proc.devRef .tc main_v3_0) (h1 : b ≠ Proc.devRef .tc main_v3_1)
    (h2 : b ≠ Proc.devRef .tc main_v3_2) : left1 m c b = left0 m c b := by
  unfold left1
  rw [Function.update_of_ne h2, Function.update_of_ne h1, Function.update_of_ne h0]

theorem V4_eq (c : Dev nD) : V4 m (outs m) c = left0 m c := by
  unfold V4 outs
  rw [if_pos rfl, if_pos rfl, left0_v2_0, left0_v2_1]
  rfl

theorem V5_eq (c : Dev nD) : V5 m (outs m) c = left1 m c := by
  unfold V5
  rw [V4_eq]
  unfold outs
  rw [if_neg (by decide), if_neg (by decide), if_neg (by decide), left1_v3_0, left1_v3_1, left1_v3_2]
  rfl

/-! ## The two calls as records -/

/-- The two calls' proof data. -/
def pdats : (p : Fin 2) → (c : Dev nD) → Dat τ (Elt F) Unit ℕ (UR sig nD τ) ℕ (cfgs p) c
  | ⟨0, _⟩ => D0 m
  | ⟨1, _⟩ => D1 m

/-- The one wait index is assigned on every TensorCore cell. -/
def L (g : GSem nD τ sig) : Finset Unit := if g.1.2 = .tc then {()} else ∅
/-- Every level is zero. -/
def lv (_ : GSem nD τ sig) (_ : Unit) : ℕ := 0

theorem hL (g : GSem nD τ sig) (h : g.1.2 ≠ .tc) : L g = ∅ := if_neg h

theorem cut (p : Fin 2) : Pipeline.LevelCut (pcfgs (F := F)) adm () L lv p (fun _ => 0) (fun _ => 0) where
  hι c w s := by unfold L; rw [if_pos rfl]; exact Finset.mem_singleton_self _
  hιb c w s := le_refl _
  hD c g i h := absurd h (lt_irrefl _)

/-- What a core carries beside its buffers: that it owes nothing, and the generator register. -/
def E (_ : Fin 3) (c : Dev nD) : sProp 𝕄 :=
  iprop((∃ W, owes (c : Thread nD τ) (0 : CellTallies nD τ sig Unit) W) ∗ ∃ r, prngReg c r)

/-- The generator register at some state. -/
def X (c : Dev nD) : sProp 𝕄 := iprop(∃ r, prngReg c r)

/-- The forward call's record. -/
def R0 : RegionSeg (pcfgs (F := F)) adm (pdats m) () defs₀ Variants.none L lv 0 :=
  RegionSeg.ofArrays (pcfgs (F := F)) adm (pdats m) () defs₀ Variants.none L lv 0 (fun _ => 0) X X launch₀0.toP rfl
    (fun c => (Fwd.body_obligation (W0 m) c).loose) (fun _ _ => rfl) (fun _ => rfl)
    (fun c => Fwd.hin (W0 m) c) (fun c => Fwd.hout (W0 m) c) (fun _ => 0) (cut 0)
    (fun c => Pipeline.unscopedRest spec0 c (W0 m c))

/-- The backward call's record. -/
def R1 : RegionSeg (pcfgs (F := F)) adm (pdats m) () defs₀ Variants.none L lv 1 :=
  RegionSeg.ofArrays (pcfgs (F := F)) adm (pdats m) () defs₀ Variants.none L lv 1 (fun _ => 0) X X launch₀1.toP rfl
    (fun c => (Bwd.body_obligation (W1 m) c).loose) (fun _ _ => rfl) (fun _ => rfl)
    (fun c => Bwd.hin (W1 m) c) (fun c => Bwd.hout (W1 m) c) (fun _ => 0) (cut 1)
    (fun c => Pipeline.unscopedRest spec1 c (W1 m c))

/-! ## Entering and leaving the calls -/

/-- An input window's array after the forward call is what the call found. -/
theorem F0_in (c : Dev nD) (w : Fin cfg0.W) (h : (cfg0.win w).isOut = false)
    (h0 : Pipeline.arrRef spec0 w ≠ main_v2_0) (h1 : Pipeline.arrRef spec0 w ≠ main_v2_1) :
    (D0 m c).arrAt w cfg0.N = left0 m c (Pipeline.arrRef spec0 w) :=
  ((D0 m c).arrAt_in w h _).trans ((Fwd.A_eq (W0 m) c w).trans
    (left0_of m c _ (StableHlo.devRef_ne_of_ne h0) (StableHlo.devRef_ne_of_ne h1)).symm)

/-- The forward call's windows' arrays after it, read off `left0`. -/
theorem F0 (c : Dev nD) (w : Fin cfg0.W) : (D0 m c).arrAt w cfg0.N = left0 m c (Pipeline.arrRef spec0 w) := by
  match w with
  | ⟨0, _⟩ => exact F0_in m c 0 rfl (by decide) (by decide)
  | ⟨1, _⟩ => exact F0_in m c 1 rfl (by decide) (by decide)
  | ⟨2, _⟩ => exact F0_in m c 2 rfl (by decide) (by decide)
  | ⟨3, _⟩ => exact F0_in m c 3 rfl (by decide) (by decide)
  | ⟨4, _⟩ => exact F0_in m c 4 rfl (by decide) (by decide)
  | ⟨5, _⟩ => exact F0_in m c 5 rfl (by decide) (by decide)
  | ⟨6, _⟩ => exact (left0_v2_0 m c).symm
  | ⟨7, _⟩ => exact (left0_v2_1 m c).symm

/-- An input window's array after the backward call is what the call found. -/
theorem F1_in (c : Dev nD) (w : Fin cfg1.W) (h : (cfg1.win w).isOut = false)
    (h0 : Pipeline.arrRef spec1 w ≠ main_v3_0) (h1 : Pipeline.arrRef spec1 w ≠ main_v3_1) (h2 : Pipeline.arrRef spec1 w ≠ main_v3_2) :
    (D1 m c).arrAt w cfg1.N = left1 m c (Pipeline.arrRef spec1 w) :=
  ((D1 m c).arrAt_in w h _).trans ((Bwd.A_eq (W1 m) c w).trans
    (left1_of m c _ (StableHlo.devRef_ne_of_ne h0) (StableHlo.devRef_ne_of_ne h1) (StableHlo.devRef_ne_of_ne h2)).symm)

/-- The backward call's windows' arrays after it, read off `left1`. -/
theorem F1 (c : Dev nD) (w : Fin cfg1.W) : (D1 m c).arrAt w cfg1.N = left1 m c (Pipeline.arrRef spec1 w) := by
  match w with
  | ⟨0, _⟩ => exact F1_in m c 0 rfl (by decide) (by decide) (by decide)
  | ⟨1, _⟩ => exact F1_in m c 1 rfl (by decide) (by decide) (by decide)
  | ⟨2, _⟩ => exact F1_in m c 2 rfl (by decide) (by decide) (by decide)
  | ⟨3, _⟩ => exact F1_in m c 3 rfl (by decide) (by decide) (by decide)
  | ⟨4, _⟩ => exact F1_in m c 4 rfl (by decide) (by decide) (by decide)
  | ⟨5, _⟩ => exact F1_in m c 5 rfl (by decide) (by decide) (by decide)
  | ⟨6, _⟩ => exact F1_in m c 6 rfl (by decide) (by decide) (by decide)
  | ⟨7, _⟩ => exact F1_in m c 7 rfl (by decide) (by decide) (by decide)
  | ⟨8, _⟩ => exact F1_in m c 8 rfl (by decide) (by decide) (by decide)
  | ⟨9, _⟩ => exact (left1_v3_0 m c).symm
  | ⟨10, _⟩ => exact (left1_v3_1 m c).symm
  | ⟨11, _⟩ => exact (left1_v3_2 m c).symm

/-- The buffers the call finds give its record's entry state. -/
theorem hpre0 (c : Dev nD) : iprop(StableHlo.held (c : Thread nD τ) (Pipeline.ucRefs τ sig) (V3 m c) ∗ E (F := F) 0 c) ⊢ (R0 m).pre c := by
  show _ ⊢ iprop((pdats m 0 c).arrays ((pdats m 0 c).arrAt · 0) ∗ X c ∗ Pipeline.unscopedRest spec0 c (W0 m c) ∗ ∃ W, owes (c : Thread nD τ) (0 : CellTallies nD τ sig Unit) W)
  rw [← Pipeline.unscopedBufs_held (Ix := Unit) (Name := ℕ) (U := UR sig nD τ) (Lvl := ℕ) c (V3 m c)]
  unfold E X
  iintro ⟨Hu, HO, Hp⟩
  ihave Hs := (Pipeline.arrays_of_unscopedBufs_shared (pcfgs (F := F)) adm (pdats m) (p := (0 : Fin 2)) winFacts₀0 sharedIn0 arr_whole0 c (fun _ _ => rfl) (W0 m c) (fun w => Fwd.A_eq (W0 m) c w)) $$ Hu
  icases Hs with ⟨Ha, Hr⟩
  isplitl [Ha]; · iexact Ha
  isplitl [Hp]; · iexact Hp
  isplitl [Hr]; · iexact Hr
  iexact HO

/-- The record's exit state gives the buffers the call leaves. -/
theorem hpost0 (c : Dev nD) : (R0 m).post c ⊢ iprop(StableHlo.held (c : Thread nD τ) (Pipeline.ucRefs τ sig) (left0 m c) ∗ E (F := F) 1 c) := by
  show iprop((pdats m 0 c).arrays ((pdats m 0 c).arrAt · cfg0.N) ∗ X c ∗ Pipeline.unscopedRest spec0 c (W0 m c) ∗ ∃ W, owes (c : Thread nD τ) (0 : CellTallies nD τ sig Unit) W) ⊢ _
  rw [← Pipeline.unscopedBufs_held (Ix := Unit) (Name := ℕ) (U := UR sig nD τ) (Lvl := ℕ) c (left0 m c)]
  unfold E X
  iintro ⟨Ha, Hp, Hr, HO⟩
  isplitl [Ha Hr]
  · iapply (Pipeline.unscopedBufs_of_arrays_shared (pcfgs (F := F)) adm (p := (0 : Fin 2)) winFacts₀0 sharedIn0 arr_whole0 c (pdats m) (fun _ _ => rfl) (W0 m c) (fun b => left0 m c b) ((pdats m 0 c).arrAt · cfg0.N) (F0 m c)
      (fun b hb => left0_of m c _ (StableHlo.devRef_ne_of_ne fun e => hb (e ▸ Finset.mem_image_of_mem (Pipeline.arrRef spec0) (Finset.mem_univ (6 : Fin 8)))) (StableHlo.devRef_ne_of_ne fun e => hb (e ▸ Finset.mem_image_of_mem (Pipeline.arrRef spec0) (Finset.mem_univ (7 : Fin 8))))))
    isplitl [Ha]; · iexact Ha
    iexact Hr
  isplitl [HO]; · iexact HO
  iexact Hp

/-- The buffers the call finds give its record's entry state. -/
theorem hpre1 (c : Dev nD) : iprop(StableHlo.held (c : Thread nD τ) (Pipeline.ucRefs τ sig) (left0 m c) ∗ E (F := F) 1 c) ⊢ (R1 m).pre c := by
  show _ ⊢ iprop((pdats m 1 c).arrays ((pdats m 1 c).arrAt · 0) ∗ X c ∗ Pipeline.unscopedRest spec1 c (W1 m c) ∗ ∃ W, owes (c : Thread nD τ) (0 : CellTallies nD τ sig Unit) W)
  rw [← Pipeline.unscopedBufs_held (Ix := Unit) (Name := ℕ) (U := UR sig nD τ) (Lvl := ℕ) c (left0 m c)]
  unfold E X
  iintro ⟨Hu, HO, Hp⟩
  ihave Hs := (Pipeline.arrays_of_unscopedBufs_shared (pcfgs (F := F)) adm (pdats m) (p := (1 : Fin 2)) winFacts₀1 sharedIn1 arr_whole1 c (fun _ _ => rfl) (W1 m c) (fun w => Bwd.A_eq (W1 m) c w)) $$ Hu
  icases Hs with ⟨Ha, Hr⟩
  isplitl [Ha]; · iexact Ha
  isplitl [Hp]; · iexact Hp
  isplitl [Hr]; · iexact Hr
  iexact HO

/-- The record's exit state gives the buffers the call leaves. -/
theorem hpost1 (c : Dev nD) : (R1 m).post c ⊢ iprop(StableHlo.held (c : Thread nD τ) (Pipeline.ucRefs τ sig) (left1 m c) ∗ E (F := F) 2 c) := by
  show iprop((pdats m 1 c).arrays ((pdats m 1 c).arrAt · cfg1.N) ∗ X c ∗ Pipeline.unscopedRest spec1 c (W1 m c) ∗ ∃ W, owes (c : Thread nD τ) (0 : CellTallies nD τ sig Unit) W) ⊢ _
  rw [← Pipeline.unscopedBufs_held (Ix := Unit) (Name := ℕ) (U := UR sig nD τ) (Lvl := ℕ) c (left1 m c)]
  unfold E X
  iintro ⟨Ha, Hp, Hr, HO⟩
  isplitl [Ha Hr]
  · iapply (Pipeline.unscopedBufs_of_arrays_shared (pcfgs (F := F)) adm (p := (1 : Fin 2)) winFacts₀1 sharedIn1 arr_whole1 c (pdats m) (fun _ _ => rfl) (W1 m c) (fun b => left1 m c b) ((pdats m 1 c).arrAt · cfg1.N) (F1 m c)
      (fun b hb => left1_of m c _ (StableHlo.devRef_ne_of_ne fun e => hb (e ▸ Finset.mem_image_of_mem (Pipeline.arrRef spec1) (Finset.mem_univ (9 : Fin 12)))) (StableHlo.devRef_ne_of_ne fun e => hb (e ▸ Finset.mem_image_of_mem (Pipeline.arrRef spec1) (Finset.mem_univ (10 : Fin 12)))) (StableHlo.devRef_ne_of_ne fun e => hb (e ▸ Finset.mem_image_of_mem (Pipeline.arrRef spec1) (Finset.mem_univ (11 : Fin 12))))))
    isplitl [Ha]; · iexact Ha
    iexact Hr
  isplitl [HO]; · iexact HO
  iexact Hp

/-! ## The run -/

/-- The TensorCore's contents of an unscoped buffer at the end of the run. -/
abbrev Vend (c : Dev nD) : Valuation τ sig (Elt F) := V6 m (outs m) c

/-- What a core holds at launch gives the first region's start: the buffers, the obligations and the generator. -/
theorem start (c : Dev nD) : (iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ BI.emp) : sProp 𝕄)
    ⊢ iprop(StableHlo.held (c : Thread nD τ) (Pipeline.ucRefs τ sig) (V0 m c) ∗ E 0 c) := by
  have hu : (unscopedBufs c (fun b => m ((c.tc : Thread nD τ).loc b)) : sProp 𝕄) ⊢ StableHlo.held (c : Thread nD τ) (Pipeline.ucRefs τ sig) (V0 m c) := by
    rw [← Pipeline.unscopedBufs_held (Ix := Unit) (Name := ℕ) (U := UR sig nD τ) (Lvl := ℕ) c (V0 m c)]
  unfold E
  iintro ⟨Hu, -, HO, -, Hp, -⟩
  isplitl [Hu]
  · iapply hu; iexact Hu
  isplitl [HO]
  · iexists _; iexact HO
  iexists _; iexact Hp

set_option backward.isDefEq.respectTransparency.types false in
/-- The whole program: every weakly fair execution terminates, and at every final state each unscoped buffer of each core is at
    `Vend` and every semaphore counter is zero. -/
theorem run : θ_run defs (onTc (τ := τ) (main (F := F))) ⟨m, fun _ => 0, ρ⟩ (fun r => (∀ c : Dev nD, ∀ b ∈ Pipeline.ucRefs τ sig,
      r.2.mem ((c : Thread nD τ).1, b) = Vend m c b) ∧ r.2.sem = fun _ => 0) := by
  refine Pipeline.θ_run_regions_kit_dev_sems (pcfgs (F := F)) adm (pdats m) () cellOf_inj emb₁ defs₀ Variants.none L lv m ρ main
    (segs m (outs m) Variants.none L lv E () (pdats m) (R0 m) (R1 m))
    (fun c Q => by
      rewrite [main_chain c, Seg.run_eq_chain,
        show (segs m (outs m) Variants.none L lv E () (pdats m) (R0 m) (R1 m) c).map Seg.prog = [
          StableHlo.seq hostOps0,
          StableHlo.seq hostOps0_1,
          StableHlo.seq hostOps0_2,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0) hL
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V6 m (outs m) c))
    (hch := fun c => ⟨.rfl, .rfl, .rfl, hpre0 m c, (hpost0 m c).trans (hpre1 m c),
      (hpost1 m c).trans (by rw [← V5_eq]; exact .rfl), sep_mono .rfl (by unfold E; iintro ⟨HO, -⟩; iexact HO)⟩)
    (hinit := ?_) (QY := fun c s => ∀ b ∈ Pipeline.ucRefs τ sig, s.mem ((c : Thread nD τ).1, b) = Vend m c b)
    (hfin := fun c s' => ?_) (hQ := fun _ h hz => ⟨h, funext fun g => hz g (.inr (regions_no_unscoped g.2))⟩)
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ (emp : sProp 𝕄)))
        ⊢ (bigSep Finset.univ fun c : Dev nD => iprop(StableHlo.held (c : Thread nD τ) (Pipeline.ucRefs τ sig) (V0 m c) ∗ E 0 c) : sProp 𝕄) :=
      bigSep_mono fun c _ => start m ρ c
    iintro ⟨H, -⟩
    imodintro
    iapply hsplit
    iexact H
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      exact h
    · iexact HSI

/-- An unscoped TensorCore buffer is among those the run names. -/
theorem mem_uc (b : Ref sig .tc) (h : b.isScoped = false) : Proc.devRef (τ := τ) .tc b ∈ Pipeline.ucRefs τ sig :=
  Finset.mem_filter.mpr ⟨StableHlo.devRef_mem_tcRefs b, fun h' => Bool.false_ne_true (h.symm.trans h')⟩

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_arg0 rfl)).trans (V6_main_arg0 m (outs m) c), (h.1 c _ (mem_uc main_arg1 rfl)).trans (V6_main_arg1 m (outs m) c),
     (h.1 c _ (mem_uc main_arg2 rfl)).trans (V6_main_arg2 m (outs m) c), (h.1 c _ (mem_uc main_arg3 rfl)).trans (V6_main_arg3 m (outs m) c),
     (h.1 c _ (mem_uc main_arg4 rfl)).trans (V6_main_arg4 m (outs m) c)⟩, h.2⟩) (run m ρ)

end Cert.KernelIdeal.Two

end
-- ==== Proof.Rep.lean ====
module
public import proofs.«01_k».proof.Proof.Gen.KernelIdeal.Skeleton
public import Idealize.ShloMosaic.Lib.Pipeline.ValueKit
public import Idealize.ShloMosaic.Lib.Pipeline.Value
public import Idealize.ShloMosaic.Lib.ValueIdx
public import Idealize.ShloMosaic.Lib.WordCmp
public import Idealize.ShloMosaic.Lib.Pointwise.Contract
public import Idealize.ShloMosaic.PureOps.Ideal.Laws
/-!
# Arrays of ideal floats that hold real matrices

`Rep x f` says that the rank-two array `x` holds, at every index, the real number `f i j`; `Rep3` and `Rep4` say so of
arrays with leading axes.  One lemma per operation of the two kernel bodies.
-/
@[expose] public section
set_option maxRecDepth 16384
noncomputable section
namespace Cert.Rep
open Cert.KernelIdeal
open Idealize.ShloMosaic Idealize.ShloMosaic.WordCmp
open Idealize.ShloMosaic.ValueIdx hiding ix1 ix2 ix3 ix4

variable {n0 n1 n2 K : ℕ} {φ ψ : FTy}

/-- The array holds the real matrix `f`. -/
class Rep (x : (⟨2, ![n0, n1]⟩ : Shape).Idx → EReal) (f : outParam (ℕ → ℕ → ℝ)) : Prop where
  /-- entry by entry -/
  out : ∀ (a : Fin n0) (b : Fin n1), x (ix2 a b) = ((f a b : ℝ) : EReal)

/-- The rank-one array holds the real vector `f`. -/
class Rep1 (x : (⟨1, ![n0]⟩ : Shape).Idx → EReal) (f : outParam (ℕ → ℝ)) : Prop where
  /-- entry by entry -/
  out : ∀ (a : Fin n0), x (ix1 a) = ((f a : ℝ) : EReal)

/-- The rank-three array holds the real family `f`. -/
class Rep3 (x : (⟨3, ![n0, n1, n2]⟩ : Shape).Idx → EReal) (f : outParam (ℕ → ℕ → ℕ → ℝ)) : Prop where
  /-- entry by entry -/
  out : ∀ (a : Fin n0) (b : Fin n1) (c : Fin n2), x (ix3 a b c) = ((f a b c : ℝ) : EReal)

/-- The mask holds where `P` does. -/
def RepM (x : (⟨2, ![n0, n1]⟩ : Shape).Idx → BitVec 1) (P : ℕ → ℕ → Prop) [∀ i j, Decidable (P i j)] : Prop :=
  ∀ (a : Fin n0) (b : Fin n1), x (ix2 a b) = if P a b then 1#1 else 0#1

/-- The columns in `P` of an array hold `f`. -/
class RepOn (P : outParam (ℕ → Prop)) (x : (⟨2, ![n0, n1]⟩ : Shape).Idx → EReal) (f : outParam (ℕ → ℕ → ℝ)) : Prop where
  /-- entry by entry -/
  out : ∀ (a : Fin n0) (b : Fin n1), P b → x (ix2 a b) = ((f a b : ℝ) : EReal)

/-- The leading indices in `P` of an array hold `f`. -/
class RepOn3 (P : outParam (ℕ → Prop)) (x : (⟨3, ![n0, n1, n2]⟩ : Shape).Idx → EReal) (f : outParam (ℕ → ℕ → ℕ → ℝ)) : Prop where
  /-- entry by entry -/
  out : ∀ (a : Fin n0) (b : Fin n1) (c : Fin n2), P a → x (ix3 a b c) = ((f a b c : ℝ) : EReal)

/-- The rank-four array with a unit axis holds the real family `f`. -/
class Rep4 (x : (⟨4, ![n0, 1, n1, n2]⟩ : Shape).Idx → EReal) (f : outParam (ℕ → ℕ → ℕ → ℝ)) : Prop where
  /-- entry by entry -/
  out : ∀ (a : Fin n0) (b : Fin n1) (c : Fin n2), x (ix4 a 0 b c) = ((f a b c : ℝ) : EReal)

/-- The leading indices in `P` of a rank-four array hold `f`. -/
class RepOn4 (P : outParam (ℕ → Prop)) (x : (⟨4, ![n0, 1, n1, n2]⟩ : Shape).Idx → EReal) (f : outParam (ℕ → ℕ → ℕ → ℝ)) : Prop where
  /-- entry by entry -/
  out : ∀ (a : Fin n0) (b : Fin n1) (c : Fin n2), P a → x (ix4 a 0 b c) = ((f a b c : ℝ) : EReal)

/-- The matrix may be rewritten entry by entry. -/
theorem Rep.congr {x : (⟨2, ![n0, n1]⟩ : Shape).Idx → EReal} {f g : ℕ → ℕ → ℝ} (h : Rep x f)
    (e : ∀ i j, i < n0 → j < n1 → f i j = g i j) : Rep x g :=
  ⟨fun a b => by rw [h.out a b, e a b a.isLt b.isLt]⟩

/-- The family may be rewritten entry by entry. -/
theorem Rep3.congr {x : (⟨3, ![n0, n1, n2]⟩ : Shape).Idx → EReal} {f g : ℕ → ℕ → ℕ → ℝ} (h : Rep3 x f)
    (e : ∀ i j k, i < n0 → j < n1 → k < n2 → f i j k = g i j k) : Rep3 x g :=
  ⟨fun a b c => by rw [h.out a b c, e a b c a.isLt b.isLt c.isLt]⟩

/-- The family may be rewritten entry by entry. -/
theorem Rep4.congr {x : (⟨4, ![n0, 1, n1, n2]⟩ : Shape).Idx → EReal} {f g : ℕ → ℕ → ℕ → ℝ} (h : Rep4 x f)
    (e : ∀ i j k, i < n0 → j < n1 → k < n2 → f i j k = g i j k) : Rep4 x g :=
  ⟨fun a b c => by rw [h.out a b c, e a b c a.isLt b.isLt c.isLt]⟩

/-- Columns known may be rewritten entry by entry. -/
theorem RepOn.mono {P Q : ℕ → Prop} {x : (⟨2, ![n0, n1]⟩ : Shape).Idx → EReal} {f g : ℕ → ℕ → ℝ} (h : RepOn P x f)
    (hP : ∀ j, j < n1 → Q j → P j) (e : ∀ i j, i < n0 → j < n1 → Q j → f i j = g i j) : RepOn Q x g where
  out a b hb := by rw [← e a b a.isLt b.isLt hb]; exact h.out a b (hP b b.isLt hb)

/-- The matrix read at an index. -/
theorem Rep.at {x : (⟨2, ![n0, n1]⟩ : Shape).Idx → EReal} {f : ℕ → ℕ → ℝ} (h : Rep x f) (y : (⟨2, ![n0, n1]⟩ : Shape).Idx) :
    x y = ((f (y 0) (y 1) : ℝ) : EReal) := by
  have e : y = ix2 (y 0) (y 1) := by funext d; match d with | ⟨0, _⟩ => rfl | ⟨1, _⟩ => rfl
  rw [e]; exact h.out _ _

/-- Columns known, read at an index. -/
theorem RepOn.at {P : ℕ → Prop} {x : (⟨2, ![n0, n1]⟩ : Shape).Idx → EReal} {f : ℕ → ℕ → ℝ} (h : RepOn P x f) (y : (⟨2, ![n0, n1]⟩ : Shape).Idx)
    (hy : P (y 1)) : x y = ((f (y 0) (y 1) : ℝ) : EReal) := by
  have e : y = ix2 (y 0) (y 1) := by funext d; match d with | ⟨0, _⟩ => rfl | ⟨1, _⟩ => rfl
  rw [e]; exact h.out _ _ hy

/-- The family read at an index. -/
theorem Rep4.at {x : (⟨4, ![n0, 1, n1, n2]⟩ : Shape).Idx → EReal} {f : ℕ → ℕ → ℕ → ℝ} (h : Rep4 x f)
    (y : (⟨4, ![n0, 1, n1, n2]⟩ : Shape).Idx) : x y = ((f (y 0) (y 2) (y 3) : ℝ) : EReal) := by
  have e : y = ix4 (y 0) 0 (y 2) (y 3) := by
    funext d; match d with | ⟨0, _⟩ => rfl | ⟨1, _⟩ => exact Subsingleton.elim (α := Fin 1) _ _ | ⟨2, _⟩ => rfl | ⟨3, _⟩ => rfl
  rw [e]; exact h.out _ _ _

/-- The ideal values add up as the reals do. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The constant nought. -/
theorem lit_zero : FloatOps.ofBits (F := Ideal) .f32 0x00000000#32 = ((0 : ℝ) : EReal) := Ideal.ofBits_zero_f32

/-- The constant one. -/
theorem lit_one : FloatOps.ofBits (F := Ideal) .f32 0x3F800000#32 = ((1 : ℝ) : EReal) := by
  show Ideal.ofBits .f32 _ = _
  simp [Ideal.ofBits, Ideal.ieee, -EReal.coe_mul]; norm_num

/-- The constant one sixteenth. -/
theorem lit_16th : FloatOps.ofBits (F := Ideal) .f32 0x3D800000#32 = ((1 / 16 : ℝ) : EReal) := by
  show Ideal.ofBits .f32 _ = _
  simp [Ideal.ofBits, Ideal.ieee, -EReal.coe_mul]; norm_num

section Pointwise
variable {x y : FVec Ideal (⟨2, ![n0, n1]⟩ : Shape) φ} {f g : ℕ → ℕ → ℝ}

/-- Sums. -/
instance addf [hx : Rep x f] [hy : Rep y g] : Rep (Idealize.ShloMosaic.addf x y) (fun i j => f i j + g i j)  where
  out a b := by
    rw [addf_apply, hx.out a b, hy.out a b, EReal.coe_add]

/-- Differences. -/
instance subf [hx : Rep x f] [hy : Rep y g] : Rep (Idealize.ShloMosaic.subf x y) (fun i j => f i j - g i j)  where
  out a b := by
    rw [subf_apply, hx.out a b, hy.out a b, EReal.coe_sub]

/-- Products. -/
instance mulf [hx : Rep x f] [hy : Rep y g] : Rep (Idealize.ShloMosaic.mulf x y) (fun i j => f i j * g i j)  where
  out a b := by
    rw [mulf_apply, hx.out a b, hy.out a b, EReal.coe_mul]

/-- Quotients by what is never zero. -/
theorem divf_of (hx : Rep x f) (hy : Rep y g) (h0 : ∀ i j, g i j ≠ 0) :
    Rep (Idealize.ShloMosaic.divf x y) (fun i j => f i j / g i j)  where
  out a b := by
    rw [divf_apply, hx.out a b, hy.out a b, Ideal.div_coe (h0 _ _), ← EReal.coe_mul, mul_one_div]

/-- The smaller of two. -/
instance minimumf [hx : Rep x f] [hy : Rep y g] : Rep (Idealize.ShloMosaic.minimumf x y) (fun i j => min (f i j) (g i j))  where
  out a b := by rw [minimumf_apply, hx.out a b, hy.out a b]; exact (EReal.coe_strictMono.monotone.map_min).symm

/-- Absolute values. -/
instance absf [hx : Rep x f] : Rep (Idealize.ShloMosaic.absf x) (fun i j => |f i j|)  where
  out a b := by
    show FloatOps.absf (x (ix2 a b)) = _
    rw [hx.out a b]; exact (EReal.coe_strictMono.monotone.map_max (a := f a b) (b := -f a b)).symm

/-- Exponentials. -/
instance exp [hx : Rep x f] : Rep (Idealize.ShloMosaic.exp x) (fun i j => Real.exp (f i j))  where
  out a b := by
    show FloatOps.exp (x (ix2 a b)) = _
    rw [hx.out a b]; rfl

/-- Logarithms of positive numbers. -/
theorem log_of (hx : Rep x f) (h0 : ∀ i j, 0 < f i j) : Rep (Idealize.ShloMosaic.log x) (fun i j => Real.log (f i j))  where
  out a b := by
    show Ideal.log (x (ix2 a b)) = _
    rw [hx.out a b, Ideal.log_coe, if_neg (not_le.2 (h0 _ _))]

/-- A change of format changes nothing. -/
instance truncf {h : _} [hx : Rep x f] : Rep (Idealize.ShloMosaic.truncf ψ x h) f := hx

/-- Nor does the other direction. -/
instance extf {h : _} [hx : Rep x f] : Rep (Idealize.ShloMosaic.extf ψ x h) f := hx

/-- A scalar spread out. -/
theorem broadcast {r : ℝ} {c : Ideal φ} (h : c = (r : EReal)) :
    Rep (Idealize.ShloMosaic.broadcast (⟨2, ![n0, n1]⟩ : Shape) c) (fun _ _ => r) := ⟨fun _ _ => h⟩

/-- A choice between two arrays by a mask. -/
theorem select_of {c : (⟨2, ![n0, n1]⟩ : Shape).Idx → BitVec 1} {P : ℕ → ℕ → Prop} [∀ i j, Decidable (P i j)] (hc : RepM c P)
    [hx : Rep x f] [hy : Rep y g] : Rep (Idealize.ShloMosaic.select c x y) (fun i j => if P i j then f i j else g i j)  where
  out a b := by
    rw [select_apply, hc a b]
    by_cases h : P a b
    · simp only [if_pos h, ValueIdx.select_one, hx.out a b]
    · simp only [if_neg h, ValueIdx.select_zero, hy.out a b]

/-- A mask read as the numbers one and zero. -/
theorem sitofp_of {c : (⟨2, ![n0, n1]⟩ : Shape).Idx → BitVec 1} {P : ℕ → ℕ → Prop} [∀ i j, Decidable (P i j)] (hc : RepM c P)
    (h : 1 < 32) :
    Rep (Idealize.ShloMosaic.sitofp (F := Ideal) φ (extui 32 c h)) (fun i j => if P i j then 1 else 0) where
  out a b := by
    rw [sitofp_apply, extui_apply, hc a b]
    by_cases h : P a b
    · simp only [if_pos h]; show (((1 : ℤ) : ℝ) : EReal) = _; simp
    · simp only [if_neg h]; show (((0 : ℤ) : ℝ) : EReal) = _; simp

/-- A cast to the same shape. -/
instance shapeCast_self {x : (⟨2, ![n0, n1]⟩ : Shape).Idx → EReal} {h : _} [hx : Rep x f] :
    Rep (Idealize.ShloMosaic.shapeCast (⟨2, ![n0, n1]⟩ : Shape) x h) f := by
  rw [Idealize.ShloMosaic.shapeCast_self]; exact hx

/-- Columns `o …` of an array. -/
instance slice {x : (⟨2, ![n0, n1]⟩ : Shape).Idx → EReal} {o : ℕ} {m1 : ℕ} {h : _} [hx : Rep x f] :
    Rep (extractStridedSlice (⟨2, ![n0, m1]⟩ : Shape) ![0, o] x h) (fun i j => f i (o + j))  where
  out a b := by
    have hb : o + b.val < n1 := by have := h.2 1; have := b.isLt; simp at *; omega
    rw [extractStridedSlice_apply ![0, o] x h (ix2 a b) (ix2 a ⟨o + b.val, hb⟩)
      (fun d => by match d with | ⟨0, _⟩ => simp [ix2] | ⟨1, _⟩ => simp [ix2])]
    exact hx.out a ⟨o + b.val, hb⟩

end Pointwise

section Move
variable {x : (⟨2, ![n0, n1]⟩ : Shape).Idx → EReal} {f : ℕ → ℕ → ℝ}

/-- One row spread over many. -/
theorem broadcastRow_of {x : (⟨2, ![1, n1]⟩ : Shape).Idx → EReal} {h : _} (hn : n1 ≠ 1) [hx : Rep x f] :
    Rep (broadcastTo (⟨2, ![n0, n1]⟩ : Shape) x h) (fun _ j => f 0 j)  where
  out a b := by
    rw [broadcastTo_apply x h (ix2 a b) (ix2 0 b)
      (fun d => by match d with | ⟨0, _⟩ => simp [ix2] | ⟨1, _⟩ => simp [ix2, hn])]
    exact hx.out 0 b

/-- One row of 256 spread over many. -/
instance broadcastRow256 {x : (⟨2, ![1, 256]⟩ : Shape).Idx → EReal} {h : _} [hx : Rep x f] :
    Rep (broadcastTo (⟨2, ![n0, 256]⟩ : Shape) x h) (fun _ j => f 0 j) := broadcastRow_of (by decide)

/-- One row of 1024 spread over many. -/
instance broadcastRow1024 {x : (⟨2, ![1, 1024]⟩ : Shape).Idx → EReal} {h : _} [hx : Rep x f] :
    Rep (broadcastTo (⟨2, ![n0, 1024]⟩ : Shape) x h) (fun _ j => f 0 j) := broadcastRow_of (by decide)

/-- A vector as one row. -/
instance rowCast {x : (⟨1, ![n1]⟩ : Shape).Idx → EReal} {g : ℕ → ℝ} {h : _} [hx : Rep1 x g] :
    Rep (shapeCast (⟨2, ![1, n1]⟩ : Shape) x h) (fun _ j => g j)  where
  out a b := by
    rw [shapeCast_apply x h (ix2 a b) (ix1 b)
      (by rw [Shape.rowMajor_val_one, Shape.rowMajor_val_two]; have : a = 0 := Subsingleton.elim _ _; subst this; simp)]
    exact hx.out b

/-- A leading unit axis dropped. -/
instance dropUnit {x : (⟨3, ![1, n0, n1]⟩ : Shape).Idx → EReal} {g : ℕ → ℕ → ℕ → ℝ} {h : _} [hx : Rep3 x g] :
    Rep (shapeCast (⟨2, ![n0, n1]⟩ : Shape) x h) (g 0)  where
  out a b := by
    rw [shapeCast_apply x h (ix2 a b) (ix3 0 a b)
      (by rw [Shape.rowMajor_val_three, Shape.rowMajor_val_two]; simp)]
    exact hx.out 0 a b

/-- A leading unit axis added. -/
instance addUnit {h : _} [hx : Rep x f] :
    Rep3 (shapeCast (⟨3, ![1, n0, n1]⟩ : Shape) x h) (fun _ i j => f i j)  where
  out c a b := by
    rw [shapeCast_apply x h (ix3 c a b) (ix2 a b)
      (by rw [Shape.rowMajor_val_three, Shape.rowMajor_val_two]; have : c = 0 := Subsingleton.elim _ _; subst this; simp)]
    exact hx.out a b

/-- Column sums. -/
theorem colSum_of {x : FVec Ideal (⟨2, ![n0, n1]⟩ : Shape) φ} {acc : BitVec φ.bits} {h : (⟨2, ![n0, n1]⟩ : Shape).Reduces [0] (⟨1, ![n1]⟩ : Shape)} {hφ : FKind.Formats φ}
    {hacc : acc = FKind.add.neutral φ hφ} (hx : Rep x f) :
    Rep1 (multiReduction .add [0] (⟨1, ![n1]⟩ : Shape) x acc h hφ hacc) (fun j => ∑ i ∈ Finset.range n0, f i j)  where
  out b := by
    rw [Ideal.multiReduction_add_single]
    show _ = ((∑ i ∈ Finset.range n0, f i b : ℝ) : EReal)
    rw [Finset.sum_range, coe_sum]
    refine Finset.sum_congr rfl fun k _ => ?_
    rw [← hx.out k b]; congr 1; funext d; match d with | ⟨0, _⟩ => rfl | ⟨1, _⟩ => rfl

/-- Column sums. -/
instance colSumS128x1024 {x : FVec Ideal S128x1024 .f32} {h : _} {hφ : _} {hacc : 0x00000000#32 = 0x00000000#32} [hx : Rep x f] :
    Rep1 (multiReduction .add [0] S1024 x 0x00000000#32 h hφ hacc) (fun j => ∑ i ∈ Finset.range 128, f i j) := colSum_of hx

/-- Column sums. -/
instance colSumS128x256 {x : FVec Ideal S128x256 .f32} {h : _} {hφ : _} {hacc : 0x00000000#32 = 0x00000000#32} [hx : Rep x f] :
    Rep1 (multiReduction .add [0] S256 x 0x00000000#32 h hφ hacc) (fun j => ∑ i ∈ Finset.range 128, f i j) := colSum_of hx

/-- Column sums. -/
instance colSumS512x256 {x : FVec Ideal S512x256 .f32} {h : _} {hφ : _} {hacc : 0x00000000#32 = 0x00000000#32} [hx : Rep x f] :
    Rep1 (multiReduction .add [0] S256 x 0x00000000#32 h hφ hacc) (fun j => ∑ i ∈ Finset.range 512, f i j) := colSum_of hx

end Move

section Dots
variable {sl sr : Shape} {m n : ℕ}

/-- A product into a zero array over one contracted axis, its operands' elements named. -/
theorem matmul_of {p : Option ContractPrecision} (D : DotDims sl sr (⟨2, ![m, n]⟩ : Shape)) {ax : Fin sl.rank} (hc : D.lhsContracting = [ax])
    (hK : sl.size ax = K) (x : FVec Ideal sl φ) (y : FVec Ideal sr φ) (acc : FVec Ideal (⟨2, ![m, n]⟩ : Shape) .f32)
    (hacc : ∀ j, acc j = 0) (l r : ℕ → ℕ → ℕ → ℝ)
    (hl : ∀ a b k, x (Shape.Idx.norm (D.lhsIdx (ix2 a b) (D.contrIdx₁ hc hK k))) = ((l a b k : ℝ) : EReal))
    (hr : ∀ a b k, y (Shape.Idx.norm (D.rhsIdx (ix2 a b) (D.contrIdx₁ hc hK k))) = ((r a b k : ℝ) : EReal)) :
    Rep (matmul D p x y acc) (fun i j => ∑ k ∈ Finset.range K, l i j k * r i j k) := ⟨fun a b => by
  show Ideal.matmul D x y acc (ix2 a b) = _
  rw [Ideal.matmul_apply₁ D hc hK, hacc, zero_add]
  show _ = ((∑ k ∈ Finset.range K, l a b k * r a b k : ℝ) : EReal)
  rw [Finset.sum_range, coe_sum]
  refine Finset.sum_congr rfl fun k _ => ?_
  rw [hl, hr, EReal.coe_mul]⟩

/-- Broadcast constants, one lemma each for the search. -/
instance bc_zero : Rep (Idealize.ShloMosaic.broadcast (⟨2, ![n0, n1]⟩ : Shape) (FloatOps.ofBits (F := Ideal) .f32 0x00000000#32)) (fun _ _ => 0) :=
  broadcast (φ := .f32) lit_zero

@[inherit_doc bc_zero]
instance bc_one : Rep (Idealize.ShloMosaic.broadcast (⟨2, ![n0, n1]⟩ : Shape) (FloatOps.ofBits (F := Ideal) .f32 0x3F800000#32)) (fun _ _ => 1) :=
  broadcast (φ := .f32) lit_one

@[inherit_doc bc_zero]
instance bc_16th : Rep (Idealize.ShloMosaic.broadcast (⟨2, ![n0, n1]⟩ : Shape) (FloatOps.ofBits (F := Ideal) .f32 0x3D800000#32)) (fun _ _ => 1 / 16) :=
  broadcast (φ := .f32) lit_16th

/-- The accumulator of every product is nought. -/
theorem acc_zero {S : Shape} (j : S.Idx) : constant (F := Ideal) S .f32 0x00000000#32 j = 0 := Ideal.ofBits_zero_f32

variable {f g : ℕ → ℕ → ℝ} {p : Option ContractPrecision}

/-- This product over 1024 terms. -/
instance dot_S128x1024_S128x1024_S128x128_1_1_0_0 {x : FVec Ideal S128x1024 φ} {y : FVec Ideal S128x1024 φ} [hx : Rep x f] [hy : Rep y g] :
    Rep (matmul dot_S128x1024_S128x1024_S128x128_1_1_0_0_n_n p x y (constant S128x128 .f32 0x00000000#32)) (fun i j => ∑ k ∈ Finset.range 1024, f i k * g j k) :=
  matmul_of dot_S128x1024_S128x1024_S128x128_1_1_0_0_n_n (ax := 1) rfl rfl x y _ acc_zero (fun i _ k => f i k) (fun _ j k => g j k)
    (fun a b k => by simp only [pointwise]; exact hx.out a k) (fun a b k => by simp only [pointwise]; exact hy.out b k)

/-- This product over 128 terms. -/
instance dot_S128x128_S128x1024_S128x1024_1_0_0_1 {x : FVec Ideal S128x128 φ} {y : FVec Ideal S128x1024 φ} [hx : Rep x f] [hy : Rep y g] :
    Rep (matmul dot_S128x128_S128x1024_S128x1024_1_0_0_1_n_n p x y (constant S128x1024 .f32 0x00000000#32)) (fun i j => ∑ k ∈ Finset.range 128, f i k * g k j) :=
  matmul_of dot_S128x128_S128x1024_S128x1024_1_0_0_1_n_n (ax := 1) rfl rfl x y _ acc_zero (fun i _ k => f i k) (fun _ j k => g k j)
    (fun a b k => by simp only [pointwise]; exact hx.out a k) (fun a b k => by simp only [pointwise]; exact hy.out k b)

/-- This product over 128 terms. -/
instance dot_S128x128_S128x256_S128x256_0_0_1_1 {x : FVec Ideal S128x128 φ} {y : FVec Ideal S128x256 φ} [hx : Rep x f] [hy : Rep y g] :
    Rep (matmul dot_S128x128_S128x256_S128x256_0_0_1_1_n_n p x y (constant S128x256 .f32 0x00000000#32)) (fun i j => ∑ k ∈ Finset.range 128, f k i * g k j) :=
  matmul_of dot_S128x128_S128x256_S128x256_0_0_1_1_n_n (ax := 0) rfl rfl x y _ acc_zero (fun i _ k => f k i) (fun _ j k => g k j)
    (fun a b k => by simp only [pointwise]; exact hx.out k a) (fun a b k => by simp only [pointwise]; exact hy.out k b)

/-- This product over 128 terms. -/
instance dot_S128x128_S128x256_S128x256_1_0_0_1 {x : FVec Ideal S128x128 φ} {y : FVec Ideal S128x256 φ} [hx : Rep x f] [hy : Rep y g] :
    Rep (matmul dot_S128x128_S128x256_S128x256_1_0_0_1_n_n p x y (constant S128x256 .f32 0x00000000#32)) (fun i j => ∑ k ∈ Finset.range 128, f i k * g k j) :=
  matmul_of dot_S128x128_S128x256_S128x256_1_0_0_1_n_n (ax := 1) rfl rfl x y _ acc_zero (fun i _ k => f i k) (fun _ j k => g k j)
    (fun a b k => by simp only [pointwise]; exact hx.out a k) (fun a b k => by simp only [pointwise]; exact hy.out k b)

/-- This product over 128 terms. -/
instance dot_S128x128_S128x512_S128x512_0_0_1_1 {x : FVec Ideal S128x128 φ} {y : FVec Ideal S128x512 φ} [hx : Rep x f] [hy : Rep y g] :
    Rep (matmul dot_S128x128_S128x512_S128x512_0_0_1_1_n_n p x y (constant S128x512 .f32 0x00000000#32)) (fun i j => ∑ k ∈ Finset.range 128, f k i * g k j) :=
  matmul_of dot_S128x128_S128x512_S128x512_0_0_1_1_n_n (ax := 0) rfl rfl x y _ acc_zero (fun i _ k => f k i) (fun _ j k => g k j)
    (fun a b k => by simp only [pointwise]; exact hx.out k a) (fun a b k => by simp only [pointwise]; exact hy.out k b)

/-- This product over 128 terms. -/
instance dot_S128x128_S128x512_S128x512_1_0_0_1 {x : FVec Ideal S128x128 φ} {y : FVec Ideal S128x512 φ} [hx : Rep x f] [hy : Rep y g] :
    Rep (matmul dot_S128x128_S128x512_S128x512_1_0_0_1_n_n p x y (constant S128x512 .f32 0x00000000#32)) (fun i j => ∑ k ∈ Finset.range 128, f i k * g k j) :=
  matmul_of dot_S128x128_S128x512_S128x512_1_0_0_1_n_n (ax := 1) rfl rfl x y _ acc_zero (fun i _ k => f i k) (fun _ j k => g k j)
    (fun a b k => by simp only [pointwise]; exact hx.out a k) (fun a b k => by simp only [pointwise]; exact hy.out k b)

/-- This product over 256 terms. -/
instance dot_S128x256_S128x256_S128x128_1_1_0_0 {x : FVec Ideal S128x256 φ} {y : FVec Ideal S128x256 φ} [hx : Rep x f] [hy : Rep y g] :
    Rep (matmul dot_S128x256_S128x256_S128x128_1_1_0_0_n_n p x y (constant S128x128 .f32 0x00000000#32)) (fun i j => ∑ k ∈ Finset.range 256, f i k * g j k) :=
  matmul_of dot_S128x256_S128x256_S128x128_1_1_0_0_n_n (ax := 1) rfl rfl x y _ acc_zero (fun i _ k => f i k) (fun _ j k => g j k)
    (fun a b k => by simp only [pointwise]; exact hx.out a k) (fun a b k => by simp only [pointwise]; exact hy.out b k)

/-- This product over 256 terms. -/
instance dot_S128x256_S512x256_S128x512_1_1_0_0 {x : FVec Ideal S128x256 φ} {y : FVec Ideal S512x256 φ} [hx : Rep x f] [hy : Rep y g] :
    Rep (matmul dot_S128x256_S512x256_S128x512_1_1_0_0_n_n p x y (constant S128x512 .f32 0x00000000#32)) (fun i j => ∑ k ∈ Finset.range 256, f i k * g j k) :=
  matmul_of dot_S128x256_S512x256_S128x512_1_1_0_0_n_n (ax := 1) rfl rfl x y _ acc_zero (fun i _ k => f i k) (fun _ j k => g j k)
    (fun a b k => by simp only [pointwise]; exact hx.out a k) (fun a b k => by simp only [pointwise]; exact hy.out b k)

/-- This product over 128 terms. -/
instance dot_S128x512_S128x256_S512x256_0_0_1_1 {x : FVec Ideal S128x512 φ} {y : FVec Ideal S128x256 φ} [hx : Rep x f] [hy : Rep y g] :
    Rep (matmul dot_S128x512_S128x256_S512x256_0_0_1_1_n_n p x y (constant S512x256 .f32 0x00000000#32)) (fun i j => ∑ k ∈ Finset.range 128, f k i * g k j) :=
  matmul_of dot_S128x512_S128x256_S512x256_0_0_1_1_n_n (ax := 0) rfl rfl x y _ acc_zero (fun i _ k => f k i) (fun _ j k => g k j)
    (fun a b k => by simp only [pointwise]; exact hx.out k a) (fun a b k => by simp only [pointwise]; exact hy.out k b)

/-- This product over 512 terms. -/
instance dot_S128x512_S128x512_S128x128_1_1_0_0 {x : FVec Ideal S128x512 φ} {y : FVec Ideal S128x512 φ} [hx : Rep x f] [hy : Rep y g] :
    Rep (matmul dot_S128x512_S128x512_S128x128_1_1_0_0_n_n p x y (constant S128x128 .f32 0x00000000#32)) (fun i j => ∑ k ∈ Finset.range 512, f i k * g j k) :=
  matmul_of dot_S128x512_S128x512_S128x128_1_1_0_0_n_n (ax := 1) rfl rfl x y _ acc_zero (fun i _ k => f i k) (fun _ j k => g j k)
    (fun a b k => by simp only [pointwise]; exact hx.out a k) (fun a b k => by simp only [pointwise]; exact hy.out b k)

/-- This product over 512 terms. -/
instance dot_S128x512_S512x256_S128x256_1_0_0_1 {x : FVec Ideal S128x512 φ} {y : FVec Ideal S512x256 φ} [hx : Rep x f] [hy : Rep y g] :
    Rep (matmul dot_S128x512_S512x256_S128x256_1_0_0_1_n_n p x y (constant S128x256 .f32 0x00000000#32)) (fun i j => ∑ k ∈ Finset.range 512, f i k * g k j) :=
  matmul_of dot_S128x512_S512x256_S128x256_1_0_0_1_n_n (ax := 1) rfl rfl x y _ acc_zero (fun i _ k => f i k) (fun _ j k => g k j)
    (fun a b k => by simp only [pointwise]; exact hx.out a k) (fun a b k => by simp only [pointwise]; exact hy.out k b)

/-- The gate's input: its first sixteen columns hold `a`, which is nought elsewhere. -/
class Gate (x : S128x128.Idx → EReal) (a : outParam (ℕ → ℕ → ℝ)) : Prop where
  /-- entry by entry -/
  out : ∀ (i k : Fin 128), k.val < 16 → x (ix2 i k) = ((a i k : ℝ) : EReal)
  /-- nought elsewhere -/
  zero : ∀ i k, 16 ≤ k → a i k = 0

/-- The gate's weight: it holds `w`, whose rows from the sixteenth on are nought. -/
class Wide (x : S128x1024.Idx → EReal) (w : outParam (ℕ → ℕ → ℝ)) : Prop where
  /-- entry by entry -/
  out : ∀ (k : Fin 128) (j : Fin 1024), x (ix2 k j) = ((w k j : ℝ) : EReal)
  /-- nought below -/
  zero : ∀ k j, 16 ≤ k → w k j = 0

/-- The weight is a matrix of reals. -/
theorem Wide.rep {x : S128x1024.Idx → EReal} {w : ℕ → ℕ → ℝ} (h : Wide x w) : Rep x w := ⟨h.out⟩

/-- The gate's product: what meets a nought row does not count. -/
instance gateDot {x : FVec Ideal S128x128 .f32} {y : FVec Ideal S128x1024 .f32} {h1 h2 h3} [hx : Gate x f] [hy : Wide y g] :
    Rep (matmul dot_S128x128_S128x1024_S128x1024_1_0_0_1_n_n p (Idealize.ShloMosaic.truncf .bf16 x h1)
      (Idealize.ShloMosaic.truncf .bf16 (shapeCast S128x1024 y h3) h2) (constant S128x1024 .f32 0x00000000#32)) (fun i j => ∑ k ∈ Finset.range 128, f i k * g k j) := ⟨fun a b => by
  rw [Idealize.ShloMosaic.shapeCast_self]
  show Ideal.matmul dot_S128x128_S128x1024_S128x1024_1_0_0_1_n_n x y _ (ix2 a b) = _
  rw [Ideal.matmul_apply₁ dot_S128x128_S128x1024_S128x1024_1_0_0_1_n_n (a := 1) (K := 128) rfl rfl, acc_zero, zero_add]
  show _ = ((∑ k ∈ Finset.range 128, f a k * g k b : ℝ) : EReal)
  rw [Finset.sum_range, coe_sum]
  refine Finset.sum_congr rfl fun k _ => ?_
  simp only [pointwise]
  rw [hy.out k b]
  by_cases hk : k.val < 16
  · rw [hx.out a k hk, EReal.coe_mul]
  · rw [hy.zero k b (by omega)]; simp⟩

end Dots

section Masks

/-- Where the row is at least the column. -/
theorem mask_ge {h0 : S128x128.Iotas .tc 32 [0]} {h1 : S128x128.Iotas .tc 32 [1]} :
    RepM (cmpi .sge (iota .tc S128x128 32 [0] h0) (iota .tc S128x128 32 [1] h1)) (fun i j => j ≤ i) := fun a b => by
  show IntOp.cmpi .sge _ _ = _
  rw [iota_single_apply, iota_single_apply, cmpi_sge_eq, toInt_ofNat_of_lt (by have := a.isLt; simp; omega),
    toInt_ofNat_of_lt (by have := b.isLt; simp; omega)]
  simp only [ix2_0, ix2_1, Nat.cast_le]
  by_cases h : b.val ≤ a.val <;> simp [h]

/-- Where the row is at most the column. -/
theorem mask_le {h0 : S128x128.Iotas .tc 32 [0]} {h1 : S128x128.Iotas .tc 32 [1]} :
    RepM (cmpi .sle (iota .tc S128x128 32 [0] h0) (iota .tc S128x128 32 [1] h1)) (fun i j => i ≤ j) := fun a b => by
  show IntOp.cmpi .sle _ _ = _
  rw [iota_single_apply, iota_single_apply, cmpi_sle_eq, toInt_ofNat_of_lt (by have := a.isLt; simp; omega),
    toInt_ofNat_of_lt (by have := b.isLt; simp; omega)]
  simp only [ix2_0, ix2_1, Nat.cast_le]
  by_cases h : a.val ≤ b.val <;> simp [h]

/-- The last row of a chunk. -/
theorem mask_last {h0 : (⟨2, ![128, n1]⟩ : Shape).Iotas .tc 32 [0]} :
    RepM (cmpi .eq (iota .tc (⟨2, ![128, n1]⟩ : Shape) 32 [0] h0) (Idealize.ShloMosaic.broadcast (⟨2, ![128, n1]⟩ : Shape) 127#32))
      (fun i _ => i = 127) := fun a b => by
  show IntOp.cmpi .eq _ (127#32) = _
  rw [iota_single_apply, cmpi_eq_eq_toNat]
  have : (BitVec.ofNat 32 ((ix2 a b : (⟨2, ![128, n1]⟩ : Shape).Idx) 0).val).toNat = a.val := by
    rw [BitVec.toNat_ofNat]; exact Nat.mod_eq_of_lt (by have := a.isLt; simp; omega)
  rw [this]
  by_cases h : a.val = 127 <;> simp [h]

variable {x y : FVec Ideal (⟨2, ![n0, n1]⟩ : Shape) φ} {f g : ℕ → ℕ → ℝ}

/-- A choice by the lower triangle. -/
instance select_ge {x y : S128x128.Idx → EReal} {h0 : S128x128.Iotas .tc 32 [0]} {h1 : S128x128.Iotas .tc 32 [1]} [hx : Rep x f] [hy : Rep y g] :
    Rep (Idealize.ShloMosaic.select (cmpi .sge (iota .tc S128x128 32 [0] h0) (iota .tc S128x128 32 [1] h1)) x y)
      (fun i j => if j ≤ i then f i j else g i j) := select_of (φ := .f32) mask_ge

/-- A choice of the last row. -/
instance select_lastS128x1024 {x y : S128x1024.Idx → EReal} {h0 : S128x1024.Iotas .tc 32 [0]} [hx : Rep x f] [hy : Rep y g] :
    Rep (Idealize.ShloMosaic.select (cmpi .eq (iota .tc S128x1024 32 [0] h0) (Idealize.ShloMosaic.broadcast S128x1024 127#32)) x y)
      (fun i j => if i = 127 then f i j else g i j) := select_of (φ := .f32) (P := fun i _ => i = 127) mask_last

/-- A choice of the last row. -/
instance select_lastS128x256 {x y : S128x256.Idx → EReal} {h0 : S128x256.Iotas .tc 32 [0]} [hx : Rep x f] [hy : Rep y g] :
    Rep (Idealize.ShloMosaic.select (cmpi .eq (iota .tc S128x256 32 [0] h0) (Idealize.ShloMosaic.broadcast S128x256 127#32)) x y)
      (fun i j => if i = 127 then f i j else g i j) := select_of (φ := .f32) (P := fun i _ => i = 127) mask_last

/-- The lower triangle as numbers. -/
instance num_ge {h0 : S128x128.Iotas .tc 32 [0]} {h1 : S128x128.Iotas .tc 32 [1]} {h : 1 < 32} :
    Rep (Idealize.ShloMosaic.sitofp (F := Ideal) φ (extui 32 (cmpi .sge (iota .tc S128x128 32 [0] h0) (iota .tc S128x128 32 [1] h1)) h))
      (fun i j => if j ≤ i then 1 else 0) := sitofp_of mask_ge h

/-- The upper triangle as numbers. -/
instance num_le {h0 : S128x128.Iotas .tc 32 [0]} {h1 : S128x128.Iotas .tc 32 [1]} {h : 1 < 32} :
    Rep (Idealize.ShloMosaic.sitofp (F := Ideal) φ (extui 32 (cmpi .sle (iota .tc S128x128 32 [0] h0) (iota .tc S128x128 32 [1] h1)) h))
      (fun i j => if i ≤ j then 1 else 0) := sitofp_of mask_le h

/-- The logarithm of one plus an exponential. -/
instance log1exp [hx : Rep x f] : Rep (Idealize.ShloMosaic.log (Idealize.ShloMosaic.addf
      (Idealize.ShloMosaic.broadcast (⟨2, ![n0, n1]⟩ : Shape) (FloatOps.ofBits (F := Ideal) .f32 0x3F800000#32))
      (Idealize.ShloMosaic.exp (φ := .f32) x))) (fun i j => Real.log (1 + Real.exp (f i j))) :=
  log_of (f := fun i j => 1 + Real.exp (f i j)) inferInstance fun i j => by have := Real.exp_pos (f i j); linarith

/-- One over one plus an exponential. -/
instance inv1exp [hx : Rep x f] : Rep (Idealize.ShloMosaic.divf
      (Idealize.ShloMosaic.broadcast (⟨2, ![n0, n1]⟩ : Shape) (FloatOps.ofBits (F := Ideal) .f32 0x3F800000#32)) (Idealize.ShloMosaic.addf
      (Idealize.ShloMosaic.broadcast (⟨2, ![n0, n1]⟩ : Shape) (FloatOps.ofBits (F := Ideal) .f32 0x3F800000#32))
      (Idealize.ShloMosaic.exp (φ := .f32) x))) (fun i j => 1 / (1 + Real.exp (f i j))) :=
  divf_of (f := fun _ _ => 1) (g := fun i j => 1 + Real.exp (f i j)) inferInstance inferInstance
    fun i j => by have := Real.exp_pos (f i j); positivity

end Masks

/-- Sixteen groups of eight rows added up. -/
theorem fold8_of {x : FVec Ideal S128x1024 .f32} {f : ℕ → ℕ → ℝ} {hc : _} {h : S16x8x1024.Reduces [0] S8x1024}
    {hφ : _} {hacc : 0x00000000#32 = FKind.add.neutral .f32 hφ} (hx : Rep x f) :
    Rep (multiReduction .add [0] S8x1024 (shapeCast S16x8x1024 x hc) 0x00000000#32 h hφ hacc)
      (fun i j => ∑ s ∈ Finset.range 16, f (8 * s + i) j)  where
  out a b := by
    rw [Ideal.multiReduction_add_single]
    show _ = ((∑ s ∈ Finset.range 16, f (8 * s + a) b : ℝ) : EReal)
    rw [Finset.sum_range, coe_sum]
    refine Finset.sum_congr rfl fun (k : Fin 16) _ => ?_
    have hk : 8 * k.val + a.val < 128 := by omega
    rw [shapeCast_apply x hc _ (ix2 ⟨8 * k.val + a.val, hk⟩ b)]
    · exact hx.out ⟨8 * k.val + a.val, hk⟩ b
    · rw [show h.lift (ix2 a b) k = ix3 k a b from by
        funext d; match d with | ⟨0, _⟩ => rfl | ⟨1, _⟩ => rfl | ⟨2, _⟩ => rfl]
      rw [Shape.rowMajor_val_three, Shape.rowMajor_val_two]
      show (8 * k.val + a.val) * 1024 + b.val = (k.val * 8 + a.val) * 1024 + b.val
      ring

/-- Sixteen groups of eight rows added up. -/
instance fold8 {x : FVec Ideal S128x1024 .f32} {f : ℕ → ℕ → ℝ} {hc : _} {h : S16x8x1024.Reduces [0] S8x1024}
    {hφ : _} {hacc : 0x00000000#32 = 0x00000000#32} [hx : Rep x f] :
    Rep (multiReduction .add [0] S8x1024 (shapeCast S16x8x1024 x hc) 0x00000000#32 h hφ hacc)
      (fun i j => ∑ s ∈ Finset.range 16, f (8 * s + i) j) := fold8_of hx

/-- A cast to the same shape. -/
instance shapeCast_self3 {x : (⟨3, ![n0, n1, n2]⟩ : Shape).Idx → EReal} {f : ℕ → ℕ → ℕ → ℝ} {h : _} [hx : Rep3 x f] :
    Rep3 (Idealize.ShloMosaic.shapeCast (⟨3, ![n0, n1, n2]⟩ : Shape) x h) f := by
  rw [Idealize.ShloMosaic.shapeCast_self]; exact hx

/-- Nought spread over three axes. -/
instance bc_zero3 : Rep3 (Idealize.ShloMosaic.broadcast (⟨3, ![n0, n1, n2]⟩ : Shape) (FloatOps.ofBits (F := Ideal) .f32 0x00000000#32)) (fun _ _ _ => 0) :=
  ⟨fun _ _ _ => lit_zero⟩

section Stores
open Idealize.ShloMosaic.View

/-- A whole array from all of its columns. -/
theorem RepOn.whole {P : ℕ → Prop} {x : (⟨2, ![n0, n1]⟩ : Shape).Idx → EReal} {f g : ℕ → ℕ → ℝ} (h : RepOn P x f)
    (hP : ∀ j, j < n1 → P j) (e : ∀ i j, i < n0 → j < n1 → f i j = g i j) : Rep x g :=
  ⟨fun a b => by rw [h.out a b (hP b b.isLt), e a b a.isLt b.isLt]⟩

/-- A whole array from all of its leading indices. -/
theorem RepOn3.whole {P : ℕ → Prop} {x : (⟨3, ![n0, n1, n2]⟩ : Shape).Idx → EReal} {f g : ℕ → ℕ → ℕ → ℝ} (h : RepOn3 P x f)
    (hP : ∀ i, i < n0 → P i) (e : ∀ i j k, i < n0 → j < n1 → k < n2 → f i j k = g i j k) : Rep3 x g :=
  ⟨fun a b c => by rw [h.out a b c (hP a a.isLt), e a b c a.isLt b.isLt c.isLt]⟩

/-- A whole array from all of its leading indices. -/
theorem RepOn4.whole {P : ℕ → Prop} {x : (⟨4, ![n0, 1, n1, n2]⟩ : Shape).Idx → EReal} {f g : ℕ → ℕ → ℕ → ℝ} (h : RepOn4 P x f)
    (hP : ∀ i, i < n0 → P i) (e : ∀ i j k, i < n0 → j < n1 → k < n2 → f i j k = g i j k) : Rep4 x g :=
  ⟨fun a b c => by rw [h.out a b c (hP a a.isLt), e a b c a.isLt b.isLt c.isLt]⟩

/-- A store of columns `o … o + w`, read back. -/
theorem canon_col {e : EltTy} {o w : ℕ} {inb} {y : (⟨2, ![n0, w]⟩ : Shape).Idx → Elt Ideal e}
    {L : List (Piece (Elt Ideal) (⟨2, ![n0, n1]⟩ : Shape) e)} (a : Fin n0) (b : Fin n1) :
    View.canon (⟨Rect.unit ![0, o] ![n0, w] inb, y⟩ :: L) (ix2 a b)
      = if hb : o ≤ b.val ∧ b.val < o + w then y (ix2 a ⟨b.val - o, by omega⟩) else View.canon L (ix2 a b) := by
  by_cases hb : o ≤ b.val ∧ b.val < o + w
  · have he : ix2 a b = (Rect.unit (s := (⟨2, ![n0, n1]⟩ : Shape)) ![0, o] ![n0, w] inb).emb (ix2 a ⟨b.val - o, by omega⟩) := by
      funext d; apply Fin.ext
      match d with
      | ⟨0, _⟩ => simp
      | ⟨1, _⟩ => simp; omega
    rw [dif_pos hb, he, View.canon_cons_emb]
  · rw [dif_neg hb, View.canon_cons_of_not_mem _ _ (by rw [Rect.mem_set_unit]; intro h; exact hb (h 1))]

/-- A store of one leading index, read back. -/
theorem canon_head {e : EltTy} {p : ℕ} {inb} {y : (⟨3, ![1, n1, n2]⟩ : Shape).Idx → Elt Ideal e}
    {L : List (Piece (Elt Ideal) (⟨3, ![n0, n1, n2]⟩ : Shape) e)} (a : Fin n0) (b : Fin n1) (c : Fin n2) :
    View.canon (⟨Rect.unit ![p, 0, 0] ![1, n1, n2] inb, y⟩ :: L) (ix3 a b c)
      = if a.val = p then y (ix3 0 b c) else View.canon L (ix3 a b c) := by
  by_cases hb : a.val = p
  · have he : ix3 a b c = (Rect.unit (s := (⟨3, ![n0, n1, n2]⟩ : Shape)) ![p, 0, 0] ![1, n1, n2] inb).emb (ix3 0 b c) := by
      funext d; apply Fin.ext
      match d with
      | ⟨0, _⟩ => simp; omega
      | ⟨1, _⟩ => simp
      | ⟨2, _⟩ => simp
    rw [if_pos hb, he, View.canon_cons_emb]
  · rw [if_neg hb, View.canon_cons_of_not_mem _ _ (by
      rw [Rect.mem_set_unit]; intro h; have := h 0; simp at this; omega)]

/-- A store of one leading index of a rank-four array, read back. -/
theorem canon_head4 {e : EltTy} {p : ℕ} {inb} {y : (⟨4, ![1, 1, n1, n2]⟩ : Shape).Idx → Elt Ideal e}
    {L : List (Piece (Elt Ideal) (⟨4, ![n0, 1, n1, n2]⟩ : Shape) e)} (a : Fin n0) (b : Fin n1) (c : Fin n2) :
    View.canon (⟨Rect.unit ![p, 0, 0, 0] ![1, 1, n1, n2] inb, y⟩ :: L) (ix4 a 0 b c)
      = if a.val = p then y (ix4 0 0 b c) else View.canon L (ix4 a 0 b c) := by
  by_cases hb : a.val = p
  · have he : ix4 a 0 b c = (Rect.unit (s := (⟨4, ![n0, 1, n1, n2]⟩ : Shape)) ![p, 0, 0, 0] ![1, 1, n1, n2] inb).emb (ix4 0 0 b c) := by
      funext d; apply Fin.ext
      match d with
      | ⟨0, _⟩ => simp; omega
      | ⟨1, _⟩ => simp
      | ⟨2, _⟩ => simp
      | ⟨3, _⟩ => simp
    rw [if_pos hb, he, View.canon_cons_emb]
  · rw [if_neg hb, View.canon_cons_of_not_mem _ _ (by
      rw [Rect.mem_set_unit]; intro h; have := h 0; simp at this; omega)]

section Cols
variable {o w : ℕ} {P : ℕ → Prop} {f g : ℕ → ℕ → ℝ}

/-- Before any store nothing is known. -/
instance canon_nil_f32 : RepOn (fun _ => False) (View.canon (Val := Elt Ideal) (s := (⟨2, ![n0, n1]⟩ : Shape)) (e := .f32) []) (fun _ _ => 0) :=
  ⟨fun _ _ h => h.elim⟩

/-- A store of columns `o … o + w`. -/
instance canon_cons_f32 {inb} {y : (⟨2, ![n0, w]⟩ : Shape).Idx → Elt Ideal .f32}
    {L : List (Piece (Elt Ideal) (⟨2, ![n0, n1]⟩ : Shape) .f32)} [hy : Rep y g] [hL : RepOn P (View.canon L) f] :
    RepOn (fun j => (o ≤ j ∧ j < o + w) ∨ P j) (View.canon (⟨Rect.unit ![0, o] ![n0, w] inb, y⟩ :: L))
      (fun i j => if o ≤ j ∧ j < o + w then g i (j - o) else f i j) where
  out a b h := by
    rw [canon_col]
    by_cases hb : o ≤ b.val ∧ b.val < o + w
    · simp only [if_pos hb, dif_pos hb]
      exact hy.out a ⟨b.val - o, by omega⟩
    · simp only [if_neg hb, dif_neg hb]
      exact hL.out a b (h.resolve_left hb)

/-- Columns `o …` loaded. -/
instance ld_col_f32 {inb} {x : (⟨2, ![n0, n1]⟩ : Shape).Idx → Elt Ideal .f32} [hx : Rep x f] :
    Rep (View.ld (Val := Elt Ideal) (e' := .f32) x (Rect.unit ![0, o] ![n0, w] inb) : (⟨2, ![n0, w]⟩ : Shape).Idx → EReal) (fun i j => f i (o + j)) where
  out a b := by
    have hb : o + b.val < n1 := by have h : o + w ≤ n1 := inb 1; omega
    rw [View.ld_unit_apply_of x _ _ inb (ix2 a b) (ix2 a ⟨o + b.val, hb⟩)
      (fun d => by match d with | ⟨0, _⟩ => simp | ⟨1, _⟩ => simp)]
    exact hx.out a ⟨o + b.val, hb⟩

/-- Before any store nothing is known. -/
instance canon_nil_bf16 : RepOn (fun _ => False) (View.canon (Val := Elt Ideal) (s := (⟨2, ![n0, n1]⟩ : Shape)) (e := .bf16) []) (fun _ _ => 0) :=
  ⟨fun _ _ h => h.elim⟩

/-- A store of columns `o … o + w`. -/
instance canon_cons_bf16 {inb} {y : (⟨2, ![n0, w]⟩ : Shape).Idx → Elt Ideal .bf16}
    {L : List (Piece (Elt Ideal) (⟨2, ![n0, n1]⟩ : Shape) .bf16)} [hy : Rep y g] [hL : RepOn P (View.canon L) f] :
    RepOn (fun j => (o ≤ j ∧ j < o + w) ∨ P j) (View.canon (⟨Rect.unit ![0, o] ![n0, w] inb, y⟩ :: L))
      (fun i j => if o ≤ j ∧ j < o + w then g i (j - o) else f i j) where
  out a b h := by
    rw [canon_col]
    by_cases hb : o ≤ b.val ∧ b.val < o + w
    · simp only [if_pos hb, dif_pos hb]
      exact hy.out a ⟨b.val - o, by omega⟩
    · simp only [if_neg hb, dif_neg hb]
      exact hL.out a b (h.resolve_left hb)

/-- Columns `o …` loaded. -/
instance ld_col_bf16 {inb} {x : (⟨2, ![n0, n1]⟩ : Shape).Idx → Elt Ideal .bf16} [hx : Rep x f] :
    Rep (View.ld (Val := Elt Ideal) (e' := .bf16) x (Rect.unit ![0, o] ![n0, w] inb) : (⟨2, ![n0, w]⟩ : Shape).Idx → EReal) (fun i j => f i (o + j)) where
  out a b := by
    have hb : o + b.val < n1 := by have h : o + w ≤ n1 := inb 1; omega
    rw [View.ld_unit_apply_of x _ _ inb (ix2 a b) (ix2 a ⟨o + b.val, hb⟩)
      (fun d => by match d with | ⟨0, _⟩ => simp | ⟨1, _⟩ => simp)]
    exact hx.out a ⟨o + b.val, hb⟩

end Cols

section Heads
variable {p : ℕ} {P : ℕ → Prop} {f g : ℕ → ℕ → ℕ → ℝ}

/-- Before any store nothing is known. -/
instance canon3_nil : RepOn3 (fun _ => False) (View.canon (Val := Elt Ideal) (s := (⟨3, ![n0, n1, n2]⟩ : Shape)) (e := .f32) []) (fun _ _ _ => 0) :=
  ⟨fun _ _ _ h => h.elim⟩

/-- A store of the whole array. -/
instance canon3_fill {inb} {y : S4x512x256.Idx → Elt Ideal .f32}
    {L : List (Piece (Elt Ideal) S4x512x256 .f32)} [hy : Rep3 y g] :
    Rep3 (View.canon (⟨Rect.unit ![0, 0, 0] ![4, 512, 256] inb, y⟩ :: L)) g where
  out a b c := by
    have he : ix3 a b c = (Rect.unit (s := S4x512x256) ![0, 0, 0] ![4, 512, 256] inb).emb (ix3 a b c) := by
      funext d; apply Fin.ext
      match d with
      | ⟨0, _⟩ => simp
      | ⟨1, _⟩ => simp
      | ⟨2, _⟩ => simp
    rw [he, View.canon_cons_emb]
    exact hy.out a b c

/-- A store of one leading index over a known array. -/
instance canon3_over {inb} {y : (⟨3, ![1, n1, n2]⟩ : Shape).Idx → Elt Ideal .f32}
    {L : List (Piece (Elt Ideal) (⟨3, ![n0, n1, n2]⟩ : Shape) .f32)} [hy : Rep3 y g] [hL : Rep3 (View.canon L) f] :
    Rep3 (View.canon (⟨Rect.unit ![p, 0, 0] ![1, n1, n2] inb, y⟩ :: L))
      (fun i j k => if i = p then g 0 j k else f i j k) where
  out a b c := by
    rw [canon_head]
    by_cases hb : a.val = p
    · simp only [if_pos hb]; exact hy.out 0 b c
    · simp only [if_neg hb]; exact hL.out a b c

/-- A store of one leading index. -/
instance canon3_cons {inb} {y : (⟨3, ![1, n1, n2]⟩ : Shape).Idx → Elt Ideal .f32}
    {L : List (Piece (Elt Ideal) (⟨3, ![n0, n1, n2]⟩ : Shape) .f32)} [hy : Rep3 y g] [hL : RepOn3 P (View.canon L) f] :
    RepOn3 (fun i => i = p ∨ P i) (View.canon (⟨Rect.unit ![p, 0, 0] ![1, n1, n2] inb, y⟩ :: L))
      (fun i j k => if i = p then g 0 j k else f i j k) where
  out a b c h := by
    rw [canon_head]
    by_cases hb : a.val = p
    · simp only [if_pos hb]; exact hy.out 0 b c
    · simp only [if_neg hb]; exact hL.out a b c (h.resolve_left hb)

/-- One leading index loaded. -/
instance ld_head {inb} {x : (⟨3, ![n0, n1, n2]⟩ : Shape).Idx → Elt Ideal .f32} [hx : Rep3 x f] :
    Rep3 (View.ld (Val := Elt Ideal) (e' := .f32) x (Rect.unit ![p, 0, 0] ![1, n1, n2] inb) : (⟨3, ![1, n1, n2]⟩ : Shape).Idx → EReal)
      (fun _ j k => f p j k) where
  out a b c := by
    have hp : p < n0 := by have h : p + 1 ≤ n0 := inb 0; omega
    rw [View.ld_unit_apply_of x _ _ inb (ix3 a b c) (ix3 ⟨p, hp⟩ b c)
      (fun d => by match d with | ⟨0, _⟩ => simp | ⟨1, _⟩ => simp | ⟨2, _⟩ => simp)]
    exact hx.out ⟨p, hp⟩ b c

/-- One leading index of a bf16 rank-four array loaded. -/
instance ld_head4 {inb} {x : (⟨4, ![n0, 1, n1, n2]⟩ : Shape).Idx → Elt Ideal .bf16} [hx : Rep4 x f] :
    Rep4 (View.ld (Val := Elt Ideal) (e' := .bf16) x (Rect.unit ![p, 0, 0, 0] ![1, 1, n1, n2] inb) : (⟨4, ![1, 1, n1, n2]⟩ : Shape).Idx → EReal)
      (fun _ j k => f p j k) where
  out a b c := by
    have hp : p < n0 := by have h : p + 1 ≤ n0 := inb 0; omega
    rw [View.ld_unit_apply_of x _ _ inb (ix4 a 0 b c) (ix4 ⟨p, hp⟩ 0 b c)
      (fun d => by match d with | ⟨0, _⟩ => simp | ⟨1, _⟩ => simp | ⟨2, _⟩ => simp | ⟨3, _⟩ => simp)]
    exact hx.out ⟨p, hp⟩ b c

/-- One leading index loaded from what was stored. -/
instance readCov_head {sig : RefSig} {κ : Kind} {sp : Space} {v : View sig κ sp (⟨3, ![n0, n1, n2]⟩ : Shape) .f32} {inb}
    {L : List (Piece (Elt Ideal) (⟨3, ![n0, n1, n2]⟩ : Shape) .f32)} [hL : Rep3 (View.canon L) f] :
    Rep3 (v.readCov L (Rect.unit (s := (⟨3, ![n0, n1, n2]⟩ : Shape)) ![p, 0, 0] ![1, n1, n2] inb).toLoadRect : (⟨3, ![1, n1, n2]⟩ : Shape).Idx → EReal)
      (fun _ j k => f p j k) where
  out a b c := by
    have hp : p < n0 := by have h : p + 1 ≤ n0 := inb 0; omega
    rw [View.readCov_eq_canon', ← hL.out ⟨p, hp⟩ b c]
    refine congrArg (View.canon L) ?_
    funext d; apply Fin.ext
    match d with
    | ⟨0, _⟩ => simp
    | ⟨1, _⟩ => simp
    | ⟨2, _⟩ => simp

/-- Before any store nothing is known. -/
instance canon4_nil : RepOn4 (fun _ => False) (View.canon (Val := Elt Ideal) (s := (⟨4, ![n0, 1, n1, n2]⟩ : Shape)) (e := .bf16) []) (fun _ _ _ => 0) :=
  ⟨fun _ _ _ h => h.elim⟩

/-- A store of one leading index of a rank-four array. -/
instance canon4_cons {inb} {y : (⟨4, ![1, 1, n1, n2]⟩ : Shape).Idx → Elt Ideal .bf16}
    {L : List (Piece (Elt Ideal) (⟨4, ![n0, 1, n1, n2]⟩ : Shape) .bf16)} [hy : Rep4 y g] [hL : RepOn4 P (View.canon L) f] :
    RepOn4 (fun i => i = p ∨ P i) (View.canon (⟨Rect.unit ![p, 0, 0, 0] ![1, 1, n1, n2] inb, y⟩ :: L))
      (fun i j k => if i = p then g 0 j k else f i j k) where
  out a b c h := by
    rw [canon_head4]
    by_cases hb : a.val = p
    · simp only [if_pos hb]; exact hy.out 0 b c
    · simp only [if_neg hb]; exact hL.out a b c (h.resolve_left hb)

/-- Two leading unit axes added. -/
instance addUnit2 {x : (⟨2, ![n0, n1]⟩ : Shape).Idx → EReal} {f : ℕ → ℕ → ℝ} {h : _} [hx : Rep x f] :
    Rep4 (shapeCast (⟨4, ![1, 1, n0, n1]⟩ : Shape) x h) (fun _ i j => f i j) where
  out c a b := by
    rw [shapeCast_apply x h (ix4 c 0 a b) (ix2 a b)
      (by rw [Shape.rowMajor_val_four, Shape.rowMajor_val_two]; have : c = 0 := Subsingleton.elim _ _; subst this; simp)]
    exact hx.out a b

/-- Two leading unit axes dropped. -/
instance dropUnit2 {x : (⟨4, ![1, 1, n0, n1]⟩ : Shape).Idx → EReal} {h : _} [hx : Rep4 x f] :
    Rep (shapeCast (⟨2, ![n0, n1]⟩ : Shape) x h) (f 0) where
  out a b := by
    rw [shapeCast_apply x h (ix2 a b) (ix4 0 0 a b)
      (by rw [Shape.rowMajor_val_four, Shape.rowMajor_val_two]; simp)]
    exact hx.out 0 a b

end Heads

end Stores

end Cert.Rep
end
-- ==== Proof.Real.lean ====
module
public import Mathlib.Analysis.SpecialFunctions.Log.Basic
public import Mathlib.Analysis.SpecialFunctions.Exp
public import Mathlib.Algebra.BigOperators.Intervals
/-!
# The two kernels as formulas over the reals
-/
@[expose] public section
noncomputable section
namespace Cert.Real

/-- The logarithm of the logistic function, as the kernels compute it. -/
def lsig (z : ℝ) : ℝ := min z 0 - Real.log (1 + Real.exp (0 - |z|))

/-- The gate's argument in a chunk: a product with a matrix and a row added. -/
def zc (a w b : ℕ → ℕ → ℝ) (i j : ℕ) : ℝ := ∑ k ∈ Finset.range 128, a i k * w k j + b 0 j

/-- The running sum of the gate's logarithm in a chunk, a product with the lower triangle. -/
def bc (z : ℕ → ℕ → ℝ) (i j : ℕ) : ℝ :=
  ∑ k ∈ Finset.range 128, (if k ≤ i then 1 else 0) * (lsig (z k j) * (1 / 16))

/-- The state of one head after a chunk. -/
def newS (s b k v : ℕ → ℕ → ℝ) (o o' : ℕ) (e d : ℕ) : ℝ :=
  s e d * Real.exp (b 127 (o + d)) + ∑ r ∈ Finset.range 128, v r (o' + e) * (k r (o + d) * Real.exp (b 127 (o + d) - b r (o + d)))

/-- The real matrices the calls are given: queries, keys, values, the gate's input, weight and offset, and the
    gradient of the output. -/
structure Data where
  /-- queries -/
  q : ℕ → ℕ → ℝ
  /-- keys -/
  k : ℕ → ℕ → ℝ
  /-- values -/
  v : ℕ → ℕ → ℝ
  /-- the gate's input -/
  a : ℕ → ℕ → ℝ
  /-- the gate's weight -/
  w : ℕ → ℕ → ℝ
  /-- the gate's offset -/
  b : ℕ → ℝ
  /-- the gradient of the output -/
  o : ℕ → ℕ → ℝ
  /-- the gate's input has sixteen columns -/
  a0 : ∀ i k, 16 ≤ k → a i k = 0
  /-- and its weight sixteen rows -/
  w0 : ∀ k j, 16 ≤ k → w k j = 0

/-- Chunk `n` of a matrix of rows. -/
def rows (n : ℕ) (f : ℕ → ℕ → ℝ) (i j : ℕ) : ℝ := f (128 * n + i) j

/-- What a step of the backward call is given: queries, keys, values, the gradient of the output, the running sums, the
    gate's argument and weight, the states before the chunk, and the gradient of the states after it. -/
structure Chunk where
  /-- queries -/
  q : ℕ → ℕ → ℝ
  /-- keys -/
  k : ℕ → ℕ → ℝ
  /-- values -/
  v : ℕ → ℕ → ℝ
  /-- the gradient of the output -/
  o : ℕ → ℕ → ℝ
  /-- running sums -/
  b : ℕ → ℕ → ℝ
  /-- the gate's argument -/
  z : ℕ → ℕ → ℝ
  /-- the gate's weight -/
  w : ℕ → ℕ → ℝ
  /-- states -/
  s : ℕ → ℕ → ℕ → ℝ
  /-- their gradient -/
  d : ℕ → ℕ → ℕ → ℝ

namespace Chunk
variable (C : Chunk)

/-- Queries, scaled and decayed. -/
def qe (i j : ℕ) : ℝ := C.q i j * (1 / 16) * Real.exp (C.b i j)

/-- Keys, grown. -/
def ke (i j : ℕ) : ℝ := C.k i j * Real.exp (0 - C.b i j)

/-- Keys, decayed to the end of the chunk. -/
def kd (i j : ℕ) : ℝ := C.k i j * Real.exp (C.b 127 j - C.b i j)

/-- Scores within the chunk. -/
def att (h i j : ℕ) : ℝ := if j ≤ i then ∑ x ∈ Finset.range 256, C.qe i (256 * h + x) * C.ke j (256 * h + x) else 0

/-- Their gradient. -/
def datt (h i j : ℕ) : ℝ := if j ≤ i then ∑ e ∈ Finset.range 512, C.o i (512 * h + e) * C.v j (512 * h + e) else 0

/-- The gradient of the decayed queries. -/
def dqe (h i x : ℕ) : ℝ :=
  ∑ e ∈ Finset.range 512, C.o i (512 * h + e) * C.s h e x + ∑ j ∈ Finset.range 128, C.datt h i j * C.ke j (256 * h + x)

/-- The gradient of the grown keys. -/
def dke (h j x : ℕ) : ℝ := ∑ i ∈ Finset.range 128, C.datt h i j * C.qe i (256 * h + x)

/-- The gradient of the values. -/
def dv (h j e : ℕ) : ℝ :=
  ∑ i ∈ Finset.range 128, C.att h i j * C.o i (512 * h + e) + ∑ x ∈ Finset.range 256, C.kd j (256 * h + x) * C.d h e x

/-- The gradient of the decayed keys. -/
def dkd (h j x : ℕ) : ℝ := ∑ e ∈ Finset.range 512, C.v j (512 * h + e) * C.d h e x

/-- The gradient of the states before the chunk. -/
def nd (h e x : ℕ) : ℝ :=
  C.d h e x * Real.exp (C.b 127 (256 * h + x)) + ∑ i ∈ Finset.range 128, C.o i (512 * h + e) * C.qe i (256 * h + x)

/-- The gradient of the queries. -/
def dq (h i x : ℕ) : ℝ := C.dqe h i x * (1 / 16) * Real.exp (C.b i (256 * h + x))

/-- The gradient of the keys. -/
def dk (h j x : ℕ) : ℝ :=
  C.dke h j x * Real.exp (0 - C.b j (256 * h + x)) + C.dkd h j x * Real.exp (C.b 127 (256 * h + x) - C.b j (256 * h + x))

/-- What the last running sum gets besides. -/
def dbl (h x : ℕ) : ℝ :=
  ∑ r ∈ Finset.range 128, C.dkd h r x * C.kd r (256 * h + x)
    + (∑ e ∈ Finset.range 512, C.s h e x * C.d h e x) * Real.exp (C.b 127 (256 * h + x))

/-- The gradient of the running sums. -/
def db (h i x : ℕ) : ℝ :=
  C.dqe h i x * C.qe i (256 * h + x) - C.dke h i x * C.ke i (256 * h + x) - C.dkd h i x * C.kd i (256 * h + x)
    + (if i = 127 then C.dbl h x else 0)

/-- The gradient of the gate's argument. -/
def dz (i j : ℕ) : ℝ :=
  (∑ k ∈ Finset.range 128, (if i ≤ k then 1 else 0) * C.db (j / 256) k (j % 256)) * (1 / 16) * (1 / (1 + Real.exp (0 - (0 - C.z i j))))

/-- The gradient of the running sums, head by head. -/
theorem db_cols (k j : ℕ) (hj : j < 1024) : (if j < 256 then C.db 0 k j else if j < 512 then C.db 1 k (j - 256)
      else if j < 768 then C.db 2 k (j - 512) else C.db 3 k (j - 768)) = C.db (j / 256) k (j % 256) := by
  have h : j / 256 = 0 ∧ j % 256 = j ∧ j < 256 ∨ j / 256 = 1 ∧ j % 256 = j - 256 ∧ 256 ≤ j ∧ j < 512
      ∨ j / 256 = 2 ∧ j % 256 = j - 512 ∧ 512 ≤ j ∧ j < 768 ∨ j / 256 = 3 ∧ j % 256 = j - 768 ∧ 768 ≤ j := by omega
  rcases h with ⟨h1, h2, h3⟩ | ⟨h1, h2, h3, h4⟩ | ⟨h1, h2, h3, h4⟩ | ⟨h1, h2, h3⟩ <;> rw [h1, h2]
  · rw [if_pos h3]
  · rw [if_neg (by omega), if_pos h4]
  · rw [if_neg (by omega), if_neg (by omega), if_pos h4]
  · rw [if_neg (by omega), if_neg (by omega), if_neg (by omega)]

/-- The gradient of the gate's argument, head by head. -/
theorem dz_cols (i j : ℕ) (hj : j < 1024) :
    (∑ k ∈ Finset.range 128, (if i ≤ k then 1 else 0) * (if j < 256 then C.db 0 k j else if j < 512 then C.db 1 k (j - 256)
      else if j < 768 then C.db 2 k (j - 512) else C.db 3 k (j - 768))) * (1 / 16) * (1 / (1 + Real.exp (0 - (0 - C.z i j))))
      = C.dz i j := by
  simp only [db_cols C _ j hj]; rfl

/-- The gradient of the gate's input. -/
def da (i k : ℕ) : ℝ := ∑ j ∈ Finset.range 1024, C.dz i j * C.w k j

/-- The gradient of the gate's input, head by head. -/
theorem da_cols (i k : ℕ) :
    (∑ j ∈ Finset.range 1024, (∑ k ∈ Finset.range 128, (if i ≤ k then 1 else 0) * (if j < 256 then C.db 0 k j else if j < 512 then C.db 1 k (j - 256)
      else if j < 768 then C.db 2 k (j - 512) else C.db 3 k (j - 768))) * (1 / 16) * (1 / (1 + Real.exp (0 - (0 - C.z i j)))) * C.w k j)
      = C.da i k :=
  Finset.sum_congr rfl fun j hj => congrArg (· * C.w k j) (C.dz_cols i j (Finset.mem_range.mp hj))

/-- The results beside each other. -/
def dp (i j : ℕ) : ℝ :=
  if j < 1024 then C.dq (j / 256) i (j % 256) else if j < 2048 then C.dk ((j - 1024) / 256) i ((j - 1024) % 256)
  else if j < 4096 then C.dv ((j - 2048) / 512) i ((j - 2048) % 512) else C.da i (j - 6144)

/-- Columns of the queries' gradient. -/
theorem dp_q (i h x : ℕ) (hx : 256 * h + x < 256 * h + 256) (hh : h < 4 := by omega) : C.dp i (256 * h + x) = C.dq h i x := by
  rw [dp, if_pos (by omega), show (256 * h + x) / 256 = h by omega, show (256 * h + x) % 256 = x by omega]

/-- Columns of the keys' gradient. -/
theorem dp_k (i h x : ℕ) (hx : 1024 + 256 * h + x < 1024 + 256 * h + 256) (hh : h < 4 := by omega) :
    C.dp i (1024 + 256 * h + x) = C.dk h i x := by
  rw [dp, if_neg (by omega), if_pos (by omega), show (1024 + 256 * h + x - 1024) / 256 = h by omega,
    show (1024 + 256 * h + x - 1024) % 256 = x by omega]

/-- Columns of the values' gradient. -/
theorem dp_v (i h x : ℕ) (hx : 2048 + 512 * h + x < 2048 + 512 * h + 512) (hh : h < 4 := by omega) :
    C.dp i (2048 + 512 * h + x) = C.dv h i x := by
  rw [dp, if_neg (by omega), if_neg (by omega), if_pos (by omega), show (2048 + 512 * h + x - 2048) / 512 = h by omega,
    show (2048 + 512 * h + x - 2048) % 512 = x by omega]

/-- Columns of the gate's gradient. -/
theorem dp_a (i k : ℕ) : C.dp i (6144 + k) = C.da i k := by
  rw [dp, if_neg (by omega), if_neg (by omega), if_neg (by omega), Nat.add_sub_cancel_left]

/-- A choice whose branches agree. -/
theorem ite_step {p : Prop} [Decidable p] {x y z : ℝ} (hx : p → x = z) (hy : ¬ p → y = z) : (if p then x else y) = z := by
  split_ifs with h
  · exact hx h
  · exact hy h

/-- Choices whose branches agree. -/
theorem ite_same {p : Prop} [Decidable p] {x x' y y' : ℝ} (hx : x = x') (hy : y = y') : (if p then x else y) = if p then x' else y' := by
  rw [hx, hy]

/-- The results beside each other, store by store. -/
theorem dp_cols (i j : ℕ) (hj : j < 4096 ∨ 6144 ≤ j) (hj' : j < 6272) :
    (if 6144 ≤ j ∧ j < 6144 + 128 then C.da i (j - 6144)
      else if 1792 ≤ j ∧ j < 1792 + 256 then C.dk 3 i (j - 1792)
      else if 768 ≤ j ∧ j < 768 + 256 then C.dq 3 i (j - 768)
      else if 3584 ≤ j ∧ j < 3584 + 512 then C.dv 3 i (j - 3584)
      else if 1536 ≤ j ∧ j < 1536 + 256 then C.dk 2 i (j - 1536)
      else if 512 ≤ j ∧ j < 512 + 256 then C.dq 2 i (j - 512)
      else if 3072 ≤ j ∧ j < 3072 + 512 then C.dv 2 i (j - 3072)
      else if 1280 ≤ j ∧ j < 1280 + 256 then C.dk 1 i (j - 1280)
      else if 256 ≤ j ∧ j < 256 + 256 then C.dq 1 i (j - 256)
      else if 2560 ≤ j ∧ j < 2560 + 512 then C.dv 1 i (j - 2560)
      else if 1024 ≤ j ∧ j < 1024 + 256 then C.dk 0 i (j - 1024)
      else if 0 ≤ j ∧ j < 0 + 256 then C.dq 0 i (j - 0)
      else if 2048 ≤ j ∧ j < 2048 + 512 then C.dv 0 i (j - 2048)
      else 0) = C.dp i j := by
  refine ite_step (fun h => by obtain ⟨x, rfl⟩ := Nat.exists_eq_add_of_le h.1; rw [Nat.add_sub_cancel_left]; exact (C.dp_a i x).symm) fun _ => ?_
  refine ite_step (fun h => by obtain ⟨x, rfl⟩ := Nat.exists_eq_add_of_le h.1; rw [Nat.add_sub_cancel_left]; exact (C.dp_k i 3 x (by omega)).symm) fun _ => ?_
  refine ite_step (fun h => by obtain ⟨x, rfl⟩ := Nat.exists_eq_add_of_le h.1; rw [Nat.add_sub_cancel_left]; exact (C.dp_q i 3 x (by omega)).symm) fun _ => ?_
  refine ite_step (fun h => by obtain ⟨x, rfl⟩ := Nat.exists_eq_add_of_le h.1; rw [Nat.add_sub_cancel_left]; exact (C.dp_v i 3 x (by omega)).symm) fun _ => ?_
  refine ite_step (fun h => by obtain ⟨x, rfl⟩ := Nat.exists_eq_add_of_le h.1; rw [Nat.add_sub_cancel_left]; exact (C.dp_k i 2 x (by omega)).symm) fun _ => ?_
  refine ite_step (fun h => by obtain ⟨x, rfl⟩ := Nat.exists_eq_add_of_le h.1; rw [Nat.add_sub_cancel_left]; exact (C.dp_q i 2 x (by omega)).symm) fun _ => ?_
  refine ite_step (fun h => by obtain ⟨x, rfl⟩ := Nat.exists_eq_add_of_le h.1; rw [Nat.add_sub_cancel_left]; exact (C.dp_v i 2 x (by omega)).symm) fun _ => ?_
  refine ite_step (fun h => by obtain ⟨x, rfl⟩ := Nat.exists_eq_add_of_le h.1; rw [Nat.add_sub_cancel_left]; exact (C.dp_k i 1 x (by omega)).symm) fun _ => ?_
  refine ite_step (fun h => by obtain ⟨x, rfl⟩ := Nat.exists_eq_add_of_le h.1; rw [Nat.add_sub_cancel_left]; exact (C.dp_q i 1 x (by omega)).symm) fun _ => ?_
  refine ite_step (fun h => by obtain ⟨x, rfl⟩ := Nat.exists_eq_add_of_le h.1; rw [Nat.add_sub_cancel_left]; exact (C.dp_v i 1 x (by omega)).symm) fun _ => ?_
  refine ite_step (fun h => by obtain ⟨x, rfl⟩ := Nat.exists_eq_add_of_le h.1; rw [Nat.add_sub_cancel_left]; exact (C.dp_k i 0 x (by omega)).symm) fun _ => ?_
  refine ite_step (fun h => by obtain ⟨x, rfl⟩ := Nat.exists_eq_add_of_le h.1; rw [Nat.add_sub_cancel_left]; exact (C.dp_q i 0 x (by omega)).symm) fun _ => ?_
  refine ite_step (fun h => by obtain ⟨x, rfl⟩ := Nat.exists_eq_add_of_le h.1; rw [Nat.add_sub_cancel_left]; exact (C.dp_v i 0 x (by omega)).symm) fun _ => ?_
  omega

end Chunk

/-- Head `h` of the state after a chunk. -/
def headS (s : ℕ → ℕ → ℕ → ℝ) (b k v : ℕ → ℕ → ℝ) (h e d : ℕ) : ℝ := newS (s h) b k v (256 * h) (512 * h) e d

namespace Data
variable (D : Data)

/-- The gate's argument in chunk `n`. -/
def zn (n : ℕ) : ℕ → ℕ → ℝ := zc (rows n D.a) D.w (fun _ j => D.b j)

/-- The running sum in chunk `n`. -/
def bn (n : ℕ) : ℕ → ℕ → ℝ := bc (D.zn n)

/-- The state before chunk `n`. -/
def st : ℕ → ℕ → ℕ → ℕ → ℝ
  | 0 => fun _ _ _ => 0
  | n + 1 => headS (st n) (D.bn n) (rows n D.k) (rows n D.v)

/-- The gradient of the states after `n` steps of the backward call. -/
def sd : ℕ → ℕ → ℕ → ℕ → ℝ
  | 0 => fun _ _ _ => 0
  | n + 1 => (Chunk.mk (rows (63 - n) D.q) (rows (63 - n) D.k) (rows (63 - n) D.v) (rows (63 - n) D.o) (D.bn (63 - n)) (D.zn (63 - n)) D.w
      (D.st (63 - n)) (sd n)).nd

/-- What step `n` of the backward call is given. -/
def step (n : ℕ) : Chunk :=
  ⟨rows (63 - n) D.q, rows (63 - n) D.k, rows (63 - n) D.v, rows (63 - n) D.o, D.bn (63 - n), D.zn (63 - n), D.w, D.st (63 - n), D.sd n⟩

/-- What is added up for the gate's bias after `n` steps. -/
def acc : ℕ → ℕ → ℕ → ℝ
  | 0 => fun _ _ => 0
  | n + 1 => fun i j => acc n i j + ∑ r ∈ Finset.range 16, (D.step n).dz (8 * r + i) j

/-- The gate's argument. -/
def z (r j : ℕ) : ℝ := ∑ k ∈ Finset.range 16, D.a r k * D.w k j + D.b j

/-- The running sum of the gate's logarithm over the first `n` positions. -/
def P (n j : ℕ) : ℝ := ∑ r ∈ Finset.range n, lsig (D.z r j) * (1 / 16)

/-- The decay from position `s` to position `t`. -/
def X (h t s x : ℕ) : ℝ := if s ≤ t then Real.exp (D.P (t + 1) (256 * h + x) - D.P (s + 1) (256 * h + x)) else 0

/-- The score of position `s` at position `t`. -/
def A (h t s : ℕ) : ℝ := ∑ x ∈ Finset.range 256, D.X h t s x * (D.k s (256 * h + x) * (D.q t (256 * h + x) * (1 / 16)))

/-- Its gradient. -/
def E (h t s : ℕ) : ℝ := ∑ e ∈ Finset.range 512, D.o t (512 * h + e) * D.v s (512 * h + e)

/-- The gradient of the values. -/
def gv (h s e : ℕ) : ℝ := ∑ t ∈ Finset.range 8192, D.o t (512 * h + e) * D.A h t s

/-- The gradient of the queries. -/
def gq (h t x : ℕ) : ℝ := (∑ s ∈ Finset.range 8192, D.E h t s * D.X h t s x * D.k s (256 * h + x)) * (1 / 16)

/-- The gradient of the keys. -/
def gk (h s x : ℕ) : ℝ := ∑ t ∈ Finset.range 8192, D.E h t s * D.X h t s x * (D.q t (256 * h + x) * (1 / 16))

/-- The gradient of the difference of two running sums. -/
def M (h t s x : ℕ) : ℝ := if s ≤ t then D.E h t s * (D.k s (256 * h + x) * (D.q t (256 * h + x) * (1 / 16))) * D.X h t s x else 0

/-- The gradient of a running sum. -/
def gP (h r x : ℕ) : ℝ := -(∑ t ∈ Finset.range 8192, D.M h t r x) + ∑ s ∈ Finset.range 8192, D.M h r s x

/-- The gradient of the gate's logarithm. -/
def gg (h r x : ℕ) : ℝ := ∑ t ∈ Finset.Ico r 8192, D.gP h t x

/-- The gradient of the gate's argument. -/
def gz (r j : ℕ) : ℝ := D.gg (j / 256) r (j % 256) * (1 / 16) * (1 / (1 + Real.exp (D.z r j)))

/-- The gradient of the gate's input. -/
def ga (r k : ℕ) : ℝ := ∑ j ∈ Finset.range 1024, D.gz r j * D.w k j

/-- The gradient of the gate's offset. -/
def gb (j : ℕ) : ℝ := ∑ r ∈ Finset.range 8192, D.gz r j

/-- The gradient of the projection: of the queries, the keys, the values and the gate's input; the columns between are not
    given by it. -/
def gp (r j : ℕ) : ℝ :=
  if j < 1024 then D.gq (j / 256) r (j % 256) else if j < 2048 then D.gk ((j - 1024) / 256) r ((j - 1024) % 256)
  else if j < 4096 then D.gv ((j - 2048) / 512) r ((j - 2048) % 512) else D.ga r (j - 6144)

end Data

end Cert.Real
end
-- ==== Proof.FwdVal.lean ====
module
public import proofs.«01_k».proof.Proof.Fwd
public import proofs.«01_k».proof.Proof.Rep
public import proofs.«01_k».proof.Proof.Real
public import Idealize.ShloMosaic.Lib.Pipeline.ReadBack
@[expose] public section
set_option maxRecDepth 16384
set_option synthInstance.maxHeartbeats 400000
set_option synthInstance.maxSize 2000
noncomputable section
namespace Cert.KernelIdeal.Fwd
open Cert.KernelIdeal.Gen Cert.Rep Cert.Real
open Idealize.ShloMosaic Idealize.ShloMosaic.TcCoe Idealize.ShloMosaic.Tactic

section Payloads
variable {a w : ℕ → ℕ → ℝ} {v3 : Vec Ideal S128x128 .f32} {v5 : Vec Ideal S128x1024 .f32} {v9 : Vec Ideal S1x1024 .f32} {b : ℕ → ℕ → ℝ}

/-- The running sums. -/
instance pay7 [Gate v3 a] [Wide v5 w] [Rep v9 b] : Rep (k0_pay7 v3 v5 v9) (bc (zc a w b)) := by
  dsimp only [k0_pay7]
  refine Rep.congr inferInstance fun _ _ _ _ => rfl

/-- Their last row. -/
instance pay8 [Gate v3 a] [Wide v5 w] [Rep v9 b] : Rep (k0_pay8 v3 v5 v9) (fun _ j => bc (zc a w b) 127 j) := by
  dsimp only [k0_pay8]
  refine Rep.congr inferInstance fun i j _ _ => ?_
  simp

variable {k q v : ℕ → ℕ → ℝ} {v30 v38 v39 : FVec Ideal S128x1024 .f32} {v37 : FVec Ideal S1x1024 .f32}

/-- The keys carried to the end of the chunk. -/
instance pay11 [Rep v30 b] [Rep v37 a] [Rep v38 k] : Rep (k0_pay11 v30 v37 v38) (fun i j => k i j * Real.exp (a 0 j - b i j)) := by
  dsimp only [k0_pay11]
  infer_instance

/-- The decay over the chunk. -/
instance pay12 [Rep v37 a] : Rep (k0_pay12 v37) (fun i j => Real.exp (a i j)) := by
  dsimp only [k0_pay12]
  infer_instance

section
variable (m : (c : Dev nD) → (b : Ref sig .tc) → Buf (Elt Ideal) ((c : Thread nD τ).loc b))

/-- The state after the first chunk of the sequence. -/
theorem scr_A (c : Dev nD) (t : Fin cfg0.N) (h0 : t.val % 64 = 0) [Gate (iblk m c 3 t) a] [Wide (iblk m c 4 t) w] [Rep (iblk m c 5 t) b]
    [Rep (X0_1 m c t) k] [Rep (X0_2 m c t) v] :
    Rep3 (outsAt0 m c t.val t.isLt).2.2 (headS (fun _ _ _ => 0) (bc (zc a w b)) k v) := by
  rw [outsAt0_A m c t h0]
  dsimp only
  frame_out
  dsimp only [k0_pay5, k0_pay27, k0_pay24, k0_pay23, k0_pay22, k0_pay21, k0_pay20, k0_pay17, k0_pay16, k0_pay13, k0_pay6, k0_pay2, k0_pay1]
  refine Rep3.congr inferInstance fun h e d hh he hd => ?_
  interval_cases h <;> simp [headS, newS]

/-- The state after a later chunk. -/
theorem scr_B (c : Dev nD) (t : Fin cfg0.N) (h0 : ¬ t.val % 64 = 0) [Gate (iblk m c 3 t) a] [Wide (iblk m c 4 t) w] [Rep (iblk m c 5 t) b]
    [Rep (X0_1 m c t) k] [Rep (X0_2 m c t) v] {s : ℕ → ℕ → ℕ → ℝ} [Rep3 (outsAt0 m c (t.val - 1) (by omega)).2.2 s] :
    Rep3 (outsAt0 m c t.val t.isLt).2.2 (headS s (bc (zc a w b)) k v) := by
  rw [outsAt0_B m c t h0]
  dsimp only
  frame_out
  dsimp only [k0_pay5, k0_pay27, k0_pay24, k0_pay23, k0_pay22, k0_pay21, k0_pay20, k0_pay17, k0_pay16, k0_pay13, k0_pay6, k0_pay2, k0_pay1]
  simp only [read_unread_whole]
  refine RepOn3.whole inferInstance (fun h hh => by omega) fun h e d hh he hd => ?_
  interval_cases h <;> simp [headS, newS]

/-- The state handed to the backward pass at the first chunk. -/
theorem st_A (c : Dev nD) (t : Fin cfg0.N) (h0 : t.val % 64 = 0) [Gate (iblk m c 3 t) a] [Wide (iblk m c 4 t) w] [Rep (iblk m c 5 t) b]
    [Rep (X0_1 m c t) k] [Rep (X0_2 m c t) v] :
    Rep4 (outsAt0 m c t.val t.isLt).2.1 (fun _ _ _ => 0) := by
  rw [outsAt0_A m c t h0]
  dsimp only
  frame_out
  dsimp only [k0_pay3, k0_pay14, k0_pay18, k0_pay25, k0_pay5, k0_pay27, k0_pay24, k0_pay23, k0_pay22, k0_pay21, k0_pay20, k0_pay17, k0_pay16, k0_pay13, k0_pay6, k0_pay2, k0_pay1]
  refine RepOn4.whole inferInstance (fun h hh => ?_) fun h e d hh he hd => ?_
  · omega
  · interval_cases h <;> simp

/-- The state handed to the backward pass at a later chunk. -/
theorem st_B (c : Dev nD) (t : Fin cfg0.N) (h0 : ¬ t.val % 64 = 0) [Gate (iblk m c 3 t) a] [Wide (iblk m c 4 t) w] [Rep (iblk m c 5 t) b]
    [Rep (X0_1 m c t) k] [Rep (X0_2 m c t) v] {s : ℕ → ℕ → ℕ → ℝ} [Rep3 (outsAt0 m c (t.val - 1) (by omega)).2.2 s] :
    Rep4 (outsAt0 m c t.val t.isLt).2.1 s := by
  rw [outsAt0_B m c t h0]
  dsimp only
  frame_out
  dsimp only [k0_pay3, k0_pay14, k0_pay18, k0_pay25, k0_pay5, k0_pay27, k0_pay24, k0_pay23, k0_pay22, k0_pay21, k0_pay20, k0_pay17, k0_pay16, k0_pay13, k0_pay6, k0_pay2, k0_pay1]
  simp only [read_unread_whole]
  refine RepOn4.whole inferInstance (fun h hh => ?_) fun h e d hh he hd => ?_
  · omega
  · interval_cases h <;> simp
end
end Payloads

end Cert.KernelIdeal.Fwd
end
-- ==== Proof.FwdArr.lean ====
module
public import proofs.«01_k».proof.Proof.FwdVal
/-!
# The forward call's arrays

Its blocks read off the arrays, and the states it hands to the backward call.
-/
@[expose] public section
set_option maxRecDepth 16384
noncomputable section
namespace Cert.KernelIdeal.Fwd
open Cert.KernelIdeal.Gen Cert.Rep Cert.Real
open Idealize.ShloMosaic Idealize.ShloMosaic.TcCoe Idealize.ShloMosaic.Tactic
variable (m : (c : Dev nD) → (b : Ref sig .tc) → Buf (Elt Ideal) ((c : Thread nD τ).loc b))

/-- Where the windows lie. -/
theorem at_1 : ∀ t : Fin cfg0.N, win0_1.index t 0 = t.val ∧ win0_1.index t 1 = 1 := by decide +kernel
@[inherit_doc at_1]
theorem at_2 : ∀ t : Fin cfg0.N, win0_2.index t 0 = t.val ∧ win0_2.index t 1 = 1 := by decide +kernel
@[inherit_doc at_1]
theorem at_3 : ∀ t : Fin cfg0.N, win0_3.index t 0 = t.val ∧ win0_3.index t 1 = 48 := by decide +kernel
@[inherit_doc at_1]
theorem at_4 : ∀ t : Fin cfg0.N, win0_4.index t 0 = 0 ∧ win0_4.index t 1 = 0 := by decide +kernel
@[inherit_doc at_1]
theorem at_5 : ∀ t : Fin cfg0.N, win0_5.index t 0 = 0 ∧ win0_5.index t 1 = 0 := by decide +kernel
@[inherit_doc at_1]
theorem at_7 : ∀ t : Fin cfg0.N, win0_7.index t 0 = 0 ∧ win0_7.index t 1 = t.val ∧ win0_7.index t 2 = 0 ∧ win0_7.index t 3 = 0 := by
  decide +kernel

/-- The keys' block. -/
theorem k_apply (c : Dev nD) (t : Fin cfg0.N) (i : Fin 128) (j : Fin 1024) :
    X0_1 m c t (ix2 i j) = m c main_arg0 (ix2 ⟨128 * t.val + i.val, by have : t.val < 64 := t.isLt; omega⟩ ⟨1024 + j.val, by omega⟩) := by
  unfold X0_1 Pipeline.Window.fill
  rw [dif_pos (moved0_1 t _)]
  unfold iblk
  blk_simp
  congr 1; funext d; apply Fin.ext
  refine (win0_1.rect_emb_val t _ d).trans ?_
  match d with
  | ⟨0, _⟩ => have := (at_1 t).1; simp [this]; omega
  | ⟨1, _⟩ => have := (at_1 t).2; simp [this]

/-- The values' block. -/
theorem v_apply (c : Dev nD) (t : Fin cfg0.N) (i : Fin 128) (j : Fin 2048) :
    X0_2 m c t (ix2 i j) = m c main_arg0 (ix2 ⟨128 * t.val + i.val, by have : t.val < 64 := t.isLt; omega⟩ ⟨2048 + j.val, by omega⟩) := by
  unfold X0_2 Pipeline.Window.fill
  rw [dif_pos (moved0_2 t _)]
  unfold iblk
  blk_simp
  congr 1; funext d; apply Fin.ext
  refine (win0_2.rect_emb_val t _ d).trans ?_
  match d with
  | ⟨0, _⟩ => have := (at_2 t).1; simp [this]; omega
  | ⟨1, _⟩ => have := (at_2 t).2; simp [this]

/-- The gate input's block. -/
theorem a_apply (c : Dev nD) (t : Fin cfg0.N) (i : Fin 128) (j : Fin 128) :
    iblk m c 3 t (ix2 i j) = m c main_arg0 (ix2 ⟨128 * t.val + i.val, by have : t.val < 64 := t.isLt; omega⟩ ⟨6144 + j.val, by omega⟩) := by
  unfold iblk
  blk_simp
  congr 1; funext d; apply Fin.ext
  refine (win0_3.rect_emb_val t _ d).trans ?_
  match d with
  | ⟨0, _⟩ => have := (at_3 t).1; simp [this]; omega
  | ⟨1, _⟩ => have := (at_3 t).2; simp [this]

/-- The gate's weight, whole. -/
theorem w_apply (c : Dev nD) (t : Fin cfg0.N) (i : Fin 128) (j : Fin 1024) : iblk m c 4 t (ix2 i j) = m c main_v0 (ix2 i j) := by
  unfold iblk
  blk_simp
  congr 1; funext d; apply Fin.ext
  refine (win0_4.rect_emb_val t _ d).trans ?_
  match d with
  | ⟨0, _⟩ => have := (at_4 t).1; simp [this]
  | ⟨1, _⟩ => have := (at_4 t).2; simp [this]

/-- The gate's offset, whole. -/
theorem b_apply (c : Dev nD) (t : Fin cfg0.N) (i : Fin 1) (j : Fin 1024) : iblk m c 5 t (ix2 i j) = m c main_v1 (ix2 i j) := by
  unfold iblk
  blk_simp
  congr 1; funext d; apply Fin.ext
  refine (win0_5.rect_emb_val t _ d).trans ?_
  match d with
  | ⟨0, _⟩ => have := (at_5 t).1; simp [this]
  | ⟨1, _⟩ => have := (at_5 t).2; simp [this]

end Cert.KernelIdeal.Fwd

namespace Cert.KernelIdeal
open Cert.KernelIdeal.Gen Cert.Rep Cert.Real
open Idealize.ShloMosaic Idealize.ShloMosaic.TcCoe

/-- The arrays a call finds hold the real matrices `D`. -/
structure Feeds (m : (c : Dev nD) → (b : Ref sig .tc) → Buf (Elt Ideal) ((c : Thread nD τ).loc b)) (c : Dev nD) (D : Data) : Prop where
  /-- queries -/
  q : ∀ (i : Fin 8192) (j : Fin 1024), m c main_arg0 (ix2 i ⟨j.val, by omega⟩) = ((D.q i j : ℝ) : EReal)
  /-- keys -/
  k : ∀ (i : Fin 8192) (j : Fin 1024), m c main_arg0 (ix2 i ⟨1024 + j.val, by omega⟩) = ((D.k i j : ℝ) : EReal)
  /-- values -/
  v : ∀ (i : Fin 8192) (j : Fin 2048), m c main_arg0 (ix2 i ⟨2048 + j.val, by omega⟩) = ((D.v i j : ℝ) : EReal)
  /-- the gate's input -/
  a : ∀ (i : Fin 8192) (j : Fin 16), m c main_arg0 (ix2 i ⟨6144 + j.val, by omega⟩) = ((D.a i j : ℝ) : EReal)
  /-- the gate's weight -/
  w : ∀ (i : Fin 128) (j : Fin 1024), m c main_v0 (ix2 i j) = ((D.w i j : ℝ) : EReal)
  /-- the gate's offset -/
  b : ∀ (i : Fin 1) (j : Fin 1024), m c main_v1 (ix2 i j) = ((D.b j : ℝ) : EReal)
  /-- the gradient of the output -/
  o : ∀ (i : Fin 8192) (j : Fin 2048), m c main_arg3 (ix2 i j) = ((D.o i j : ℝ) : EReal)

end Cert.KernelIdeal

namespace Cert.KernelIdeal.Fwd
open Cert.KernelIdeal.Gen Cert.Rep Cert.Real
open Idealize.ShloMosaic Idealize.ShloMosaic.TcCoe Idealize.ShloMosaic.Tactic
variable (m : (c : Dev nD) → (b : Ref sig .tc) → Buf (Elt Ideal) ((c : Thread nD τ).loc b)) {c : Dev nD} {D : Data}

variable {m} in
/-- The blocks of chunk `t` hold that chunk's rows. -/
theorem blocks (h : Feeds m c D) (t : Fin cfg0.N) : Rep (X0_1 m c t) (rows t.val D.k) ∧ Rep (X0_2 m c t) (rows t.val D.v) ∧
    Gate (iblk m c 3 t) (rows t.val D.a) ∧ Wide (iblk m c 4 t) D.w ∧ Rep (iblk m c 5 t) (fun _ j => D.b j) :=
  ⟨⟨fun i j => (k_apply m c t i j).trans (h.k _ j)⟩, ⟨fun i j => (v_apply m c t i j).trans (h.v _ j)⟩,
    ⟨fun i j hj => (a_apply m c t i j).trans (h.a _ ⟨j.val, hj⟩), fun i k hk => D.a0 _ k hk⟩,
    ⟨fun i j => (w_apply m c t i j).trans (h.w i j), D.w0⟩, ⟨fun i j => (b_apply m c t i j).trans (h.b i j)⟩⟩

variable {m} in
/-- The state after every chunk. -/
theorem scratch (h : Feeds m c D) : ∀ (n : ℕ) (hn : n < cfg0.N), Rep3 (outsAt0 m c n hn).2.2 (D.st (n + 1))
  | 0, hn => by
    obtain ⟨_, _, _, _, _⟩ := blocks h ⟨0, hn⟩
    exact scr_A m c ⟨0, hn⟩ rfl
  | n + 1, hn => by
    obtain ⟨_, _, _, _, _⟩ := blocks h ⟨n + 1, hn⟩
    have h64 : n + 1 < 64 := hn
    haveI : Rep3 (outsAt0 m c ((⟨n + 1, hn⟩ : Fin cfg0.N).val - 1) (by have := hn; show n + 1 - 1 < _; omega)).2.2 (D.st (n + 1)) := scratch h n (by omega)
    exact scr_B m c ⟨n + 1, hn⟩ (by show ¬ (n + 1) % 64 = 0; omega)

variable {m} in
/-- The state handed on at every chunk. -/
theorem state (h : Feeds m c D) (t : Fin cfg0.N) : Rep4 (outsAt0 m c t.val t.isLt).2.1 (D.st t.val) := by
  obtain ⟨_, _, _, _, _⟩ := blocks h t
  have h64 : t.val < 64 := t.isLt
  by_cases h0 : t.val % 64 = 0
  · have e : t.val = 0 := by omega
    refine (st_A m c t h0).congr fun _ _ _ _ _ _ => ?_
    rw [e]; rfl
  · haveI := scratch h (t.val - 1) (by have := t.isLt; omega)
    rw [Nat.sub_add_cancel (by omega)] at this
    exact st_B m c t h0

variable {m} in
/-- The states' array after the call. -/
theorem states (h : Feeds m c D) (x : Fin 4) (t : Fin 64) (e : Fin 512) (d : Fin 256) :
    (dats m 0 c).arrAt 7 cfg0.N (ix4 x t e d) = ((D.st t x e d : ℝ) : EReal) := by
  refine (dats m 0 c).arrAt_forall_of_covers 7 (fun i v => v = ((D.st (i 1) (i 0) (i 2) (i 3) : ℝ) : EReal)) (by decide +kernel) (fun t hf y => ?_) (ix4 x t e d)
  blk_simp
  rw [after0_7]
  refine ((state h t).at y).trans ?_
  obtain ⟨h0, h1, h2, h3⟩ := at_7 t
  rw [h0, h1, h2, h3]; simp

end Cert.KernelIdeal.Fwd
end
-- ==== Proof.BwdVal.lean ====
module
public import proofs.«01_k».proof.Proof.Bwd
public import proofs.«01_k».proof.Proof.Rep
public import proofs.«01_k».proof.Proof.Real
public import Idealize.ShloMosaic.Lib.Pipeline.ReadBack
@[expose] public section
set_option maxRecDepth 16384
set_option synthInstance.maxHeartbeats 400000
set_option synthInstance.maxSize 4000
noncomputable section
namespace Cert.KernelIdeal.Bwd
open Cert.KernelIdeal.Gen Cert.Rep Cert.Real Cert.Real.Chunk
open Idealize.ShloMosaic Idealize.ShloMosaic.TcCoe Idealize.ShloMosaic.Tactic

/-- Four stores of columns, read back as a whole. -/
instance readCov_cols {sig : RefSig} {κ : Kind} {sp : Space} {v : View sig κ sp S128x1024 .f32} {i0 i1 i2 i3 i4}
    {y0 y1 y2 y3 : S128x256.Idx → Elt Ideal .f32} {g0 g1 g2 g3 : ℕ → ℕ → ℝ} [h0 : Rep y0 g0] [h1 : Rep y1 g1] [h2 : Rep y2 g2] [h3 : Rep y3 g3] :
    Rep (v.readCov [⟨Rect.unit ![0, 768] ![128, 256] i3, y3⟩, ⟨Rect.unit ![0, 512] ![128, 256] i2, y2⟩, ⟨Rect.unit ![0, 256] ![128, 256] i1, y1⟩,
        ⟨Rect.unit ![0, 0] ![128, 256] i0, y0⟩] (Rect.unit (s := S128x1024) ![0, 0] ![128, 1024] i4).toLoadRect : S128x1024.Idx → EReal)
      (fun i j => if j < 256 then g0 i j else if j < 512 then g1 i (j - 256) else if j < 768 then g2 i (j - 512) else g3 i (j - 768)) where
  out a b := by
    have hb := b.isLt
    rw [View.readCov_eq_canon']
    refine (congrArg (View.canon _) (?_ : _ = ix2 a b)).trans ((RepOn.out (self := inferInstance) a b ?_).trans ?_)
    · funext d; apply Fin.ext
      match d with
      | ⟨0, _⟩ => simp
      | ⟨1, _⟩ => simp
    · omega
    · congr 1
      split_ifs <;> first | omega | rfl

/-- A store of columns 4096 to 6144, of which nothing is known. -/
instance (priority := 2000) canon_skip {P : ℕ → Prop} {f : ℕ → ℕ → ℝ} {inb} {y : S128x2048.Idx → Elt Ideal .bf16}
    {L : List (View.Piece (Elt Ideal) S128x6272 .bf16)} [hL : RepOn P (View.canon L) f] :
    RepOn (fun j => (j < 4096 ∨ 6144 ≤ j) ∧ P j) (View.canon (⟨Rect.unit ![0, 4096] ![128, 2048] inb, y⟩ :: L)) f where
  out a b h := by
    refine (canon_col _ _).trans ?_
    rw [dif_neg (by omega)]
    exact hL.out a b h.2

/-- Columns 4096 to 6144, stored last but one. -/
theorem canon_dr {i6 i7} {y : S128x128.Idx → Elt Ideal .bf16} {x : S128x2048.Idx → Elt Ideal .bf16}
    {L : List (View.Piece (Elt Ideal) S128x6272 .bf16)} (i : Fin 128) (j : Fin 2048) :
    View.canon (⟨Rect.unit ![0, 6144] ![128, 128] i7, y⟩ :: ⟨Rect.unit ![0, 4096] ![128, 2048] i6, x⟩ :: L)
      (ix2 i ⟨4096 + j.val, by omega⟩) = x (ix2 i j) := by
  refine (canon_col _ _).trans ?_
  rw [dif_neg (by simp only; omega)]
  refine (canon_col _ _).trans ?_
  rw [dif_pos (by simp only; omega)]
  exact congrArg x (congrArg (ix2 i) (Fin.ext (by simp)))

section Payloads
variable {a w : ℕ → ℕ → ℝ} {v3 : Vec Ideal S128x128 .f32} {v5 : Vec Ideal S128x1024 .f32} {v9 : Vec Ideal S1x1024 .f32} {b : ℕ → ℕ → ℝ}

/-- The gate's argument. -/
instance pay4 [Gate v3 a] [Wide v5 w] [Rep v9 b] : Rep (k1_pay4 v3 v5 v9) (zc a w b) := by
  dsimp only [k1_pay4]
  refine Rep.congr inferInstance fun _ _ _ _ => rfl

/-- The running sums. -/
instance pay5 [Gate v3 a] [Wide v5 w] [Rep v9 b] : Rep (k1_pay5 v3 v5 v9) (bc (zc a w b)) := by
  dsimp only [k1_pay5]
  refine Rep.congr inferInstance fun _ _ _ _ => rfl

/-- Their last row. -/
instance pay6 [Gate v3 a] [Wide v5 w] [Rep v9 b] : Rep (k1_pay6 v3 v5 v9) (fun _ j => bc (zc a w b) 127 j) := by
  dsimp only [k1_pay6]
  refine Rep.congr inferInstance fun i j _ _ => ?_
  simp

variable {k q v o : ℕ → ℕ → ℝ} {v30 v38 v47 : FVec Ideal S128x1024 .f32} {v37 : FVec Ideal S1x1024 .f32}

/-- The decay up to a position. -/
instance pay7 [Rep v30 b] : Rep (k1_pay7 v30) (fun i j => Real.exp (b i j)) := by
  dsimp only [k1_pay7]; infer_instance

/-- Its inverse. -/
instance pay8 [Rep v30 b] : Rep (k1_pay8 v30) (fun i j => Real.exp (0 - b i j)) := by
  dsimp only [k1_pay8]; infer_instance

/-- The decay after a position. -/
instance pay9 [Rep v30 b] [Rep v37 a] : Rep (k1_pay9 v30 v37) (fun i j => Real.exp (a 0 j - b i j)) := by
  dsimp only [k1_pay9]; infer_instance

/-- The decay over the chunk. -/
instance pay10 [Rep v37 a] : Rep (k1_pay10 v37) (fun i j => Real.exp (a i j)) := by
  dsimp only [k1_pay10]; infer_instance

/-- Queries. -/
instance pay11 [Rep v30 b] [Rep v47 q] : Rep (k1_pay11 v30 v47) (fun i j => q i j * (1 / 16) * Real.exp (b i j)) := by
  dsimp only [k1_pay11]; infer_instance

/-- Keys. -/
instance pay12 [Rep v30 b] [Rep v38 k] : Rep (k1_pay12 v30 v38) (fun i j => k i j * Real.exp (0 - b i j)) := by
  dsimp only [k1_pay12]; infer_instance

/-- Keys at the end. -/
instance pay13 [Rep v30 b] [Rep v37 a] [Rep v38 k] : Rep (k1_pay13 v30 v37 v38) (fun i j => k i j * Real.exp (a 0 j - b i j)) := by
  dsimp only [k1_pay13]; infer_instance

section
variable (m : (c : Dev nD) → (b : Ref sig .tc) → Buf (Elt Ideal) ((c : Thread nD τ).loc b)) {s d : ℕ → ℕ → ℕ → ℝ}

/-- The step's data. -/
def ch (q k v o a w b : ℕ → ℕ → ℝ) (s d : ℕ → ℕ → ℕ → ℝ) : Chunk := ⟨q, k, v, o, bc (zc a w b), zc a w b, w, s, d⟩

/-- The gradient of the states after a later step. -/
theorem scr_B (c : Dev nD) (t : Fin cfg1.N) (h0 : ¬ t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o]
    [Rep3 (outsAt0 m c (t.val - 1) (by omega)).2.2.2 d] :
    Rep3 (outsAt0 m c t.val t.isLt).2.2.2 (ch q k v o a w b s d).nd := by
  rw [outsAt0_B m c t h0]
  dsimp only
  frame_out
  simp only [read_unread_whole]
  dsimp only [k1_pay82, k1_pay79, k1_pay71, k1_pay73, k1_pay80, k1_pay81, k1_pay68, k1_pay64, k1_pay63, k1_pay52, k1_pay55, k1_pay57, k1_pay48, k1_pay36, k1_pay39, k1_pay41, k1_pay30, k1_pay16, k1_pay19, k1_pay21]
  refine RepOn3.whole inferInstance (fun h hh => by omega) fun h e x hh he hx => ?_
  interval_cases h <;> simp [ch, Chunk.nd, Chunk.qe]

/-- The gradient of the gate's argument at a later step. -/
theorem dz_B (c : Dev nD) (t : Fin cfg1.N) (h0 : ¬ t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o]
    [Rep3 (outsAt0 m c (t.val - 1) (by omega)).2.2.2 d] :
    Rep (outsAt0 m c t.val t.isLt).2.1 (ch q k v o a w b s d).dz := by
  rw [outsAt0_B m c t h0]
  dsimp only
  frame_out
  simp only [read_unread_whole]
  dsimp only [k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  refine Rep.congr inferInstance fun i j hi hj => dz_cols (ch q k v o a w b s d) i j hj

/-- What is added up for the gate's bias at a later step. -/
theorem db_B (c : Dev nD) (t : Fin cfg1.N) (h0 : ¬ t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o]
    [Rep3 (outsAt0 m c (t.val - 1) (by omega)).2.2.2 d] {p : ℕ → ℕ → ℝ} [Rep (outsAt0 m c (t.val - 1) (by omega)).2.2.1 p] :
    Rep (outsAt0 m c t.val t.isLt).2.2.1 (fun i j => p i j + ∑ r ∈ Finset.range 16, (ch q k v o a w b s d).dz (8 * r + i) j) := by
  rw [outsAt0_B m c t h0]
  dsimp only
  frame_out
  simp only [read_unread_whole]
  dsimp only [k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  refine Rep.congr inferInstance fun i j hi hj => ?_
  refine congrArg (p i j + ·) (Finset.sum_congr rfl fun r _ => ?_)
  beta_reduce
  exact dz_cols (ch q k v o a w b s d) (8 * r + i) j hj

/-- The first four results beside each other, columns 4096 to 6144 left out. -/
theorem dp_B (c : Dev nD) (t : Fin cfg1.N) (h0 : ¬ t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o]
    [Rep3 (outsAt0 m c (t.val - 1) (by omega)).2.2.2 d] :
    RepOn (fun j => j < 4096 ∨ 6144 ≤ j) (outsAt0 m c t.val t.isLt).1 (ch q k v o a w b s d).dp := by
  rw [outsAt0_B m c t h0]
  dsimp only
  frame_out
  simp only [read_unread_whole]
  dsimp only [k1_pay1, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  have hw : Rep (iblk m c 4 t) w := Wide.rep inferInstance
  refine RepOn.mono inferInstance (fun j hj h => ?_) fun i j hi hj h => (?_ : _ = _).trans (dp_cols (ch q k v o a w b s d) i j h hj)
  · omega
  · exact ite_same (da_cols (ch q k v o a w b s d) i (j - 6144)) (ite_same rfl (ite_same rfl (ite_same rfl (ite_same rfl (ite_same rfl (ite_same rfl (ite_same rfl (ite_same rfl (ite_same rfl (ite_same rfl (ite_same rfl (ite_same rfl (rfl)))))))))))))

/-- The gradient of the states after the first step. -/
theorem scr_A (c : Dev nD) (t : Fin cfg1.N) (h0 : t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o] :
    Rep3 (outsAt0 m c t.val t.isLt).2.2.2 (ch q k v o a w b s (fun _ _ _ => 0)).nd := by
  rw [outsAt0_A m c t h0]
  dsimp only
  frame_out
  dsimp only [k1_pay2, k1_pay82, k1_pay79, k1_pay71, k1_pay73, k1_pay80, k1_pay81, k1_pay68, k1_pay64, k1_pay63, k1_pay52, k1_pay55, k1_pay57, k1_pay48, k1_pay36, k1_pay39, k1_pay41, k1_pay30, k1_pay16, k1_pay19, k1_pay21]
  refine Rep3.congr inferInstance fun h e x hh he hx => ?_
  interval_cases h <;> simp [ch, Chunk.nd, Chunk.qe]

/-- The gradient of the gate's argument at the first step. -/
theorem dz_A (c : Dev nD) (t : Fin cfg1.N) (h0 : t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o] :
    Rep (outsAt0 m c t.val t.isLt).2.1 (ch q k v o a w b s (fun _ _ _ => 0)).dz := by
  rw [outsAt0_A m c t h0]
  dsimp only
  frame_out
  dsimp only [k1_pay2, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  refine Rep.congr inferInstance fun i j hi hj => dz_cols (ch q k v o a w b s (fun _ _ _ => 0)) i j hj

/-- What is added up for the gate's bias at the first step. -/
theorem db_A (c : Dev nD) (t : Fin cfg1.N) (h0 : t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o] :
    Rep (outsAt0 m c t.val t.isLt).2.2.1 (fun i j => 0 + ∑ r ∈ Finset.range 16, (ch q k v o a w b s (fun _ _ _ => 0)).dz (8 * r + i) j) := by
  rw [outsAt0_A m c t h0]
  dsimp only
  frame_out
  dsimp only [k1_pay2, k1_pay3, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  refine Rep.congr inferInstance fun i j hi hj => ?_
  refine congrArg ((0 : ℝ) + ·) (Finset.sum_congr rfl fun r _ => ?_)
  beta_reduce
  exact dz_cols (ch q k v o a w b s (fun _ _ _ => 0)) (8 * r + i) j hj

/-- The first four results beside each other at the first step. -/
theorem dp_A (c : Dev nD) (t : Fin cfg1.N) (h0 : t.val % 64 = 0) [Rep (X0_0 m c t) q] [Rep (X0_1 m c t) k] [Rep (X0_2 m c t) v]
    [Gate (iblk m c 3 t) a] [Wide (iblk m c 4 t) w] [Rep (iblk m c 5 t) b] [Rep4 (iblk m c 6 t) s] [Rep (iblk m c 7 t) o] :
    RepOn (fun j => j < 4096 ∨ 6144 ≤ j) (outsAt0 m c t.val t.isLt).1 (ch q k v o a w b s (fun _ _ _ => 0)).dp := by
  rw [outsAt0_A m c t h0]
  dsimp only
  frame_out
  dsimp only [k1_pay1, k1_pay2, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, k1_pay66, k1_pay67, k1_pay68, k1_pay69, k1_pay70, k1_pay71, k1_pay72, k1_pay73, k1_pay74, k1_pay75, k1_pay76, k1_pay77, k1_pay78, k1_pay79, k1_pay80, k1_pay81, k1_pay82, k1_pay83, k1_pay84, k1_pay85, k1_pay86, k1_pay87, k1_pay88, k1_pay89, k1_pay90]
  have hw : Rep (iblk m c 4 t) w := Wide.rep inferInstance
  refine RepOn.mono inferInstance (fun j hj h => ?_) fun i j hi hj h => (?_ : _ = _).trans (dp_cols (ch q k v o a w b s (fun _ _ _ => 0)) i j h hj)
  · omega
  · exact ite_same (da_cols (ch q k v o a w b s (fun _ _ _ => 0)) i (j - 6144)) (ite_same rfl (ite_same rfl (ite_same rfl (ite_same rfl (ite_same rfl (ite_same rfl (ite_same rfl (ite_same rfl (ite_same rfl (ite_same rfl (ite_same rfl (ite_same rfl (rfl)))))))))))))

/-- Columns 4096 to 6144 are copied. -/
theorem dr (c : Dev nD) (t : Fin cfg1.N) (i : Fin 128) (j : Fin 2048) :
    (outsAt0 m c t.val t.isLt).1 (ix2 i ⟨4096 + j.val, by omega⟩) = iblk m c 8 t (ix2 i j) := by
  by_cases h0 : t.val % 64 = 0
  · rw [outsAt0_A m c t h0]
    dsimp only
    frame_out
    exact canon_dr i j
  · rw [outsAt0_B m c t h0]
    dsimp only
    frame_out
    exact canon_dr i j
end
end Payloads

end Cert.KernelIdeal.Bwd
end
-- ==== Proof.BwdArr.lean ====
module
public import proofs.«01_k».proof.Proof.BwdVal
public import proofs.«01_k».proof.Proof.FwdArr
/-!
# The backward call's arrays

Its blocks read off the arrays, and the arrays it leaves.
-/
@[expose] public section
set_option maxRecDepth 16384
noncomputable section
namespace Cert.KernelIdeal.Bwd
open Cert.KernelIdeal.Gen Cert.Rep Cert.Real
open Idealize.ShloMosaic Idealize.ShloMosaic.TcCoe Idealize.ShloMosaic.Tactic
variable (m : (c : Dev nD) → (b : Ref sig .tc) → Buf (Elt Ideal) ((c : Thread nD τ).loc b))

/-- Where the windows lie. -/
theorem at_0 : ∀ t : Fin cfg1.N, win1_0.index t 0 = 63 - t.val ∧ win1_0.index t 1 = 0 := by decide +kernel
@[inherit_doc at_0]
theorem at_1 : ∀ t : Fin cfg1.N, win1_1.index t 0 = 63 - t.val ∧ win1_1.index t 1 = 1 := by decide +kernel
@[inherit_doc at_0]
theorem at_2 : ∀ t : Fin cfg1.N, win1_2.index t 0 = 63 - t.val ∧ win1_2.index t 1 = 1 := by decide +kernel
@[inherit_doc at_0]
theorem at_3 : ∀ t : Fin cfg1.N, win1_3.index t 0 = 63 - t.val ∧ win1_3.index t 1 = 48 := by decide +kernel
@[inherit_doc at_0]
theorem at_4 : ∀ t : Fin cfg1.N, win1_4.index t 0 = 0 ∧ win1_4.index t 1 = 0 := by decide +kernel
@[inherit_doc at_0]
theorem at_5 : ∀ t : Fin cfg1.N, win1_5.index t 0 = 0 ∧ win1_5.index t 1 = 0 := by decide +kernel
@[inherit_doc at_0]
theorem at_11 : ∀ t : Fin cfg1.N, win1_11.index t 0 = 0 ∧ win1_11.index t 1 = 0 := by decide +kernel
@[inherit_doc at_0]
theorem at_6 : ∀ t : Fin cfg1.N, win1_6.index t 0 = 0 ∧ win1_6.index t 1 = 63 - t.val ∧ win1_6.index t 2 = 0 ∧ win1_6.index t 3 = 0 := by
  decide +kernel
@[inherit_doc at_0]
theorem at_7 : ∀ t : Fin cfg1.N, win1_7.index t 0 = 63 - t.val ∧ win1_7.index t 1 = 0 := by decide +kernel
@[inherit_doc at_0]
theorem at_8 : ∀ t : Fin cfg1.N, win1_8.index t 0 = 63 - t.val ∧ win1_8.index t 1 = 0 := by decide +kernel
@[inherit_doc at_0]
theorem at_9 : ∀ t : Fin cfg1.N, win1_9.index t 0 = 63 - t.val ∧ win1_9.index t 1 = 0 := by decide +kernel
@[inherit_doc at_0]
theorem at_10 : ∀ t : Fin cfg1.N, win1_10.index t 0 = 63 - t.val ∧ win1_10.index t 1 = 0 := by decide +kernel

/-- The queries' block. -/
theorem q_apply (c : Dev nD) (t : Fin cfg1.N) (i : Fin 128) (j : Fin 1024) :
    X0_0 m c t (ix2 i j) = m c main_arg0 (ix2 ⟨128 * (63 - t.val) + i.val, by have : t.val < 64 := t.isLt; omega⟩ ⟨j.val, by omega⟩) := by
  unfold X0_0 Pipeline.Window.fill
  rw [dif_pos (moved0_0 t _)]
  unfold iblk
  blk_simp
  congr 1; funext d; apply Fin.ext
  refine (win1_0.rect_emb_val t _ d).trans ?_
  match d with
  | ⟨0, _⟩ => have := (at_0 t).1; simp [this]; omega
  | ⟨1, _⟩ => have := (at_0 t).2; simp [this]

/-- The keys' block. -/
theorem k_apply (c : Dev nD) (t : Fin cfg1.N) (i : Fin 128) (j : Fin 1024) :
    X0_1 m c t (ix2 i j) = m c main_arg0 (ix2 ⟨128 * (63 - t.val) + i.val, by have : t.val < 64 := t.isLt; omega⟩ ⟨1024 + j.val, by omega⟩) := by
  unfold X0_1 Pipeline.Window.fill
  rw [dif_pos (moved0_1 t _)]
  unfold iblk
  blk_simp
  congr 1; funext d; apply Fin.ext
  refine (win1_1.rect_emb_val t _ d).trans ?_
  match d with
  | ⟨0, _⟩ => have := (at_1 t).1; simp [this]; omega
  | ⟨1, _⟩ => have := (at_1 t).2; simp [this]

/-- The values' block. -/
theorem v_apply (c : Dev nD) (t : Fin cfg1.N) (i : Fin 128) (j : Fin 2048) :
    X0_2 m c t (ix2 i j) = m c main_arg0 (ix2 ⟨128 * (63 - t.val) + i.val, by have : t.val < 64 := t.isLt; omega⟩ ⟨2048 + j.val, by omega⟩) := by
  unfold X0_2 Pipeline.Window.fill
  rw [dif_pos (moved0_2 t _)]
  unfold iblk
  blk_simp
  congr 1; funext d; apply Fin.ext
  refine (win1_2.rect_emb_val t _ d).trans ?_
  match d with
  | ⟨0, _⟩ => have := (at_2 t).1; simp [this]; omega
  | ⟨1, _⟩ => have := (at_2 t).2; simp [this]

/-- The gate input's block. -/
theorem a_apply (c : Dev nD) (t : Fin cfg1.N) (i : Fin 128) (j : Fin 128) :
    iblk m c 3 t (ix2 i j) = m c main_arg0 (ix2 ⟨128 * (63 - t.val) + i.val, by have : t.val < 64 := t.isLt; omega⟩ ⟨6144 + j.val, by omega⟩) := by
  unfold iblk
  blk_simp
  congr 1; funext d; apply Fin.ext
  refine (win1_3.rect_emb_val t _ d).trans ?_
  match d with
  | ⟨0, _⟩ => have := (at_3 t).1; simp [this]; omega
  | ⟨1, _⟩ => have := (at_3 t).2; simp [this]

/-- The block of the output's gradient. -/
theorem o_apply (c : Dev nD) (t : Fin cfg1.N) (i : Fin 128) (j : Fin 2048) :
    iblk m c 7 t (ix2 i j) = m c main_arg3 (ix2 ⟨128 * (63 - t.val) + i.val, by have : t.val < 64 := t.isLt; omega⟩ j) := by
  unfold iblk
  blk_simp
  congr 1; funext d; apply Fin.ext
  refine (win1_7.rect_emb_val t _ d).trans ?_
  match d with
  | ⟨0, _⟩ => have := (at_7 t).1; simp [this]; omega
  | ⟨1, _⟩ => have := (at_7 t).2; simp [this]

/-- The block that is copied. -/
theorem r_apply (c : Dev nD) (t : Fin cfg1.N) (i : Fin 128) (j : Fin 2048) :
    iblk m c 8 t (ix2 i j) = m c main_arg4 (ix2 ⟨128 * (63 - t.val) + i.val, by have : t.val < 64 := t.isLt; omega⟩ j) := by
  unfold iblk
  blk_simp
  congr 1; funext d; apply Fin.ext
  refine (win1_8.rect_emb_val t _ d).trans ?_
  match d with
  | ⟨0, _⟩ => have := (at_8 t).1; simp [this]; omega
  | ⟨1, _⟩ => have := (at_8 t).2; simp [this]

/-- The gate's weight, whole. -/
theorem w_apply (c : Dev nD) (t : Fin cfg1.N) (i : Fin 128) (j : Fin 1024) : iblk m c 4 t (ix2 i j) = m c main_v0 (ix2 i j) := by
  unfold iblk
  blk_simp
  congr 1; funext d; apply Fin.ext
  refine (win1_4.rect_emb_val t _ d).trans ?_
  match d with
  | ⟨0, _⟩ => have := (at_4 t).1; simp [this]
  | ⟨1, _⟩ => have := (at_4 t).2; simp [this]

/-- The gate's offset, whole. -/
theorem b_apply (c : Dev nD) (t : Fin cfg1.N) (i : Fin 1) (j : Fin 1024) : iblk m c 5 t (ix2 i j) = m c main_v1 (ix2 i j) := by
  unfold iblk
  blk_simp
  congr 1; funext d; apply Fin.ext
  refine (win1_5.rect_emb_val t _ d).trans ?_
  match d with
  | ⟨0, _⟩ => have := (at_5 t).1; simp [this]
  | ⟨1, _⟩ => have := (at_5 t).2; simp [this]

/-- The states' block. -/
theorem s_apply (c : Dev nD) (t : Fin cfg1.N) (x : Fin 4) (e : Fin 512) (d : Fin 256) :
    iblk m c 6 t (ix4 x 0 e d) = m c main_v2_1 (ix4 x ⟨63 - t.val, by omega⟩ e d) := by
  unfold iblk
  blk_simp
  congr 1; funext a; apply Fin.ext
  refine (win1_6.rect_emb_val t _ a).trans ?_
  obtain ⟨h0, h1, h2, h3⟩ := at_6 t
  match a with
  | ⟨0, _⟩ => simp [h0]
  | ⟨1, _⟩ => simp [h1]
  | ⟨2, _⟩ => simp [h2]
  | ⟨3, _⟩ => simp [h3]

variable {m} {c : Dev nD} {D : Data}

/-- The blocks of step `t` hold its chunk's rows. -/
theorem blocks (h : Feeds m c D) (hs : ∀ (x : Fin 4) (t : Fin 64) (e : Fin 512) (d : Fin 256), m c main_v2_1 (ix4 x t e d) = ((D.st t x e d : ℝ) : EReal))
    (t : Fin cfg1.N) : Rep (X0_0 m c t) (rows (63 - t.val) D.q) ∧ Rep (X0_1 m c t) (rows (63 - t.val) D.k) ∧
    Rep (X0_2 m c t) (rows (63 - t.val) D.v) ∧ Gate (iblk m c 3 t) (rows (63 - t.val) D.a) ∧ Wide (iblk m c 4 t) D.w ∧
    Rep (iblk m c 5 t) (fun _ j => D.b j) ∧ Rep4 (iblk m c 6 t) (D.st (63 - t.val)) ∧ Rep (iblk m c 7 t) (rows (63 - t.val) D.o) :=
  ⟨⟨fun i j => (q_apply m c t i j).trans (h.q _ j)⟩, ⟨fun i j => (k_apply m c t i j).trans (h.k _ j)⟩,
    ⟨fun i j => (v_apply m c t i j).trans (h.v _ j)⟩,
    ⟨fun i j hj => (a_apply m c t i j).trans (h.a _ ⟨j.val, hj⟩), fun i k hk => D.a0 _ k hk⟩,
    ⟨fun i j => (w_apply m c t i j).trans (h.w i j), D.w0⟩, ⟨fun i j => (b_apply m c t i j).trans (h.b i j)⟩,
    ⟨fun x e d => (s_apply m c t x e d).trans (hs _ _ _ _)⟩, ⟨fun i j => (o_apply m c t i j).trans (h.o _ j)⟩⟩

/-- What the call leaves at every step. -/
theorem left (h : Feeds m c D) (hs : ∀ (x : Fin 4) (t : Fin 64) (e : Fin 512) (d : Fin 256), m c main_v2_1 (ix4 x t e d) = ((D.st t x e d : ℝ) : EReal)) :
    ∀ (n : ℕ) (hn : n < cfg1.N), Rep3 (outsAt0 m c n hn).2.2.2 (D.sd (n + 1)) ∧ Rep (outsAt0 m c n hn).2.2.1 (D.acc (n + 1)) ∧
      Rep (outsAt0 m c n hn).2.1 (D.step n).dz ∧ RepOn (fun j => j < 4096 ∨ 6144 ≤ j) (outsAt0 m c n hn).1 (D.step n).dp
  | 0, hn => by
    obtain ⟨_, _, _, _, _, _, _, _⟩ := blocks h hs ⟨0, hn⟩
    exact ⟨scr_A m c ⟨0, hn⟩ rfl, db_A m c ⟨0, hn⟩ rfl, dz_A m c ⟨0, hn⟩ rfl, dp_A m c ⟨0, hn⟩ rfl⟩
  | n + 1, hn => by
    obtain ⟨_, _, _, _, _, _, _, _⟩ := blocks h hs ⟨n + 1, hn⟩
    have h64 : n + 1 < 64 := hn
    have h0 : ¬ (n + 1) % 64 = 0 := by omega
    obtain ⟨h1, h2, -, -⟩ := left h hs n (by omega)
    haveI : Rep3 (outsAt0 m c ((⟨n + 1, hn⟩ : Fin cfg1.N).val - 1) (by have := hn; show n + 1 - 1 < _; omega)).2.2.2 (D.sd (n + 1)) := h1
    haveI : Rep (outsAt0 m c ((⟨n + 1, hn⟩ : Fin cfg1.N).val - 1) (by have := hn; show n + 1 - 1 < _; omega)).2.2.1 (D.acc (n + 1)) := h2
    exact ⟨scr_B m c ⟨n + 1, hn⟩ h0, db_B m c ⟨n + 1, hn⟩ h0, dz_B m c ⟨n + 1, hn⟩ h0, dp_B m c ⟨n + 1, hn⟩ h0⟩

/-- The first array after the call, but for the columns that are copied. -/
theorem dproj (h : Feeds m c D) (hs : ∀ (x : Fin 4) (t : Fin 64) (e : Fin 512) (d : Fin 256), m c main_v2_1 (ix4 x t e d) = ((D.st t x e d : ℝ) : EReal))
    (i : Fin 8192) (j : Fin 6272) (hj : j.val < 4096 ∨ 6144 ≤ j.val) :
    (dats m 0 c).arrAt 9 cfg1.N (ix2 i j) = (((D.step (63 - i.val / 128)).dp (i.val % 128) j : ℝ) : EReal) := by
  revert hj
  refine (dats m 0 c).arrAt_forall_of_covers 9 (fun i v => ((i 1).val < 4096 ∨ 6144 ≤ (i 1).val) →
    v = (((D.step (63 - (i 0).val / 128)).dp ((i 0).val % 128) (i 1) : ℝ) : EReal)) (by decide +kernel) (fun t hf y => ?_) (ix2 i j)
  blk_simp
  rw [after0_9]
  have h64 : t.val < 64 := t.isLt
  have hy0 : (y 0).val < 128 := (y 0).isLt
  obtain ⟨h0, h1⟩ := at_9 t
  rw [h0, h1]
  intro hy
  have hj : (y 1).val < 4096 ∨ 6144 ≤ (y 1).val := by omega
  refine ((left h hs t.val t.isLt).2.2.2.at y hj).trans ?_
  rw [show 63 - ((63 - t.val) * 128 + (y 0).val) / 128 = t.val by omega, show ((63 - t.val) * 128 + (y 0).val) % 128 = (y 0).val by omega]
  simp

/-- The columns that are copied. -/
theorem dproj_r (i : Fin 8192) (j : Fin 2048) :
    (dats m 0 c).arrAt 9 cfg1.N (ix2 i ⟨4096 + j.val, by omega⟩) = m c main_arg4 (ix2 i j) := by
  suffices H : ∀ x : S8192x6272.Idx, ∀ (a : Fin 8192) (b : Fin 2048), a.val = (x 0).val → 4096 + b.val = (x 1).val →
      (dats m 0 c).arrAt 9 cfg1.N x = m c main_arg4 (ix2 a b) from H (ix2 i ⟨4096 + j.val, by omega⟩) i j rfl rfl
  intro x
  refine (dats m 0 c).arrAt_forall_of_covers 9 (fun i v => ∀ (a : Fin 8192) (b : Fin 2048), a.val = (i 0).val → 4096 + b.val = (i 1).val →
    v = m c main_arg4 (ix2 a b)) (by decide +kernel) (fun t hf y => ?_) x
  blk_simp
  rw [after0_9]
  have h64 : t.val < 64 := t.isLt
  obtain ⟨h0, h1⟩ := at_9 t
  rw [h0, h1]
  intro a b ha hb
  have ey : y = ix2 (n0 := 128) (n1 := 6272) (y 0) ⟨4096 + b.val, by omega⟩ := by
    funext d; apply Fin.ext
    match d with
    | ⟨0, _⟩ => rfl
    | ⟨1, _⟩ => show (y 1).val = 4096 + b.val; omega
  rw [ey]
  refine (dr m c t (y 0) b).trans ((r_apply m c t (y 0) b).trans (congrArg (fun r => m c main_arg4 (ix2 r b)) (Fin.ext ?_)))
  show 128 * (63 - t.val) + (y 0).val = a.val
  omega

/-- The gradient of the gate's argument after the call. -/
theorem dz (h : Feeds m c D) (hs : ∀ (x : Fin 4) (t : Fin 64) (e : Fin 512) (d : Fin 256), m c main_v2_1 (ix4 x t e d) = ((D.st t x e d : ℝ) : EReal))
    (i : Fin 8192) (j : Fin 1024) :
    (dats m 0 c).arrAt 10 cfg1.N (ix2 i j) = (((D.step (63 - i.val / 128)).dz (i.val % 128) j : ℝ) : EReal) := by
  refine (dats m 0 c).arrAt_forall_of_covers 10 (fun i v =>
    v = (((D.step (63 - (i 0).val / 128)).dz ((i 0).val % 128) (i 1) : ℝ) : EReal)) (by decide +kernel) (fun t hf y => ?_) (ix2 i j)
  blk_simp
  rw [after0_10]
  have h64 : t.val < 64 := t.isLt
  have hy0 : (y 0).val < 128 := (y 0).isLt
  obtain ⟨h0, h1⟩ := at_10 t
  rw [h0, h1]
  refine ((left h hs t.val t.isLt).2.2.1.at y).trans ?_
  rw [show 63 - ((63 - t.val) * 128 + (y 0).val) / 128 = t.val by omega, show ((63 - t.val) * 128 + (y 0).val) % 128 = (y 0).val by omega]
  simp

/-- What is added up for the gate's bias after the call. -/
theorem db (h : Feeds m c D) (hs : ∀ (x : Fin 4) (t : Fin 64) (e : Fin 512) (d : Fin 256), m c main_v2_1 (ix4 x t e d) = ((D.st t x e d : ℝ) : EReal))
    (i : Fin 8) (j : Fin 1024) : (dats m 0 c).arrAt 11 cfg1.N (ix2 i j) = ((D.acc 64 i j : ℝ) : EReal) := by
  refine (dats m 0 c).arrAt_forall_of_covers 11 (fun i v => v = ((D.acc 64 (i 0) (i 1) : ℝ) : EReal)) (by decide +kernel) (fun t hf y => ?_) (ix2 i j)
  blk_simp
  rw [after0_11]
  have h64 : t.val < 64 := t.isLt
  have e : t.val = 63 := by have := (flush1_11 t).mp hf; omega
  obtain ⟨h0, h1⟩ := at_11 t
  rw [h0, h1]
  refine ((left h hs t.val t.isLt).2.1.at y).trans ?_
  rw [e]; simp

end Cert.KernelIdeal.Bwd
end
-- ==== Proof.Math.lean ====
module
public import proofs.«01_k».proof.Proof.Real
public import Mathlib.Tactic.Ring
public import Mathlib.Tactic.Linarith
/-!
# Chunk by chunk is the same as all at once

What the two calls compute a chunk at a time, as sums over the whole sequence.
-/
@[expose] public section
noncomputable section
namespace Cert.Real
open Finset

section Sums
variable (f : ℕ → ℝ)

/-- From a position of a chunk of 128 on. -/
theorem sum_ge (i : ℕ) : ∑ j ∈ range 128, (if i ≤ j then 1 else 0) * f j = ∑ j ∈ Ico i 128, f j := by
  simp only [ite_mul, one_mul, zero_mul]
  rw [← sum_filter]
  refine sum_congr (Finset.ext fun j => ?_) fun _ _ => rfl
  simp only [mem_filter, mem_range, mem_Ico]; omega

/-- Up to a position of a chunk of 128. -/
theorem sum_le (i : ℕ) (hi : i < 128) : ∑ j ∈ range 128, (if j ≤ i then 1 else 0) * f j = ∑ j ∈ range (i + 1), f j := by
  simp only [ite_mul, one_mul, zero_mul]
  rw [← sum_filter]
  refine sum_congr (Finset.ext fun j => ?_) fun _ _ => rfl
  simp only [mem_filter, mem_range]; omega

/-- A sum over the sequence in which the first terms vanish. -/
theorem sum_from (a : ℕ) (n : ℕ) (ha : a ≤ n) (h : ∀ j, j < a → f j = 0) : ∑ j ∈ range n, f j = ∑ j ∈ Ico a n, f j := by
  rw [← sum_range_add_sum_Ico f ha, sum_eq_zero fun j hj => h j (mem_range.1 hj), zero_add]

/-- A sum over the sequence in which the last terms vanish. -/
theorem sum_upto (a : ℕ) (n : ℕ) (ha : a ≤ n) (h : ∀ j, a ≤ j → f j = 0) : ∑ j ∈ range n, f j = ∑ j ∈ range a, f j := by
  rw [← sum_range_add_sum_Ico f ha, sum_eq_zero (s := Ico a n) fun j hj => h j (mem_Ico.1 hj).1, add_zero]

/-- A sum by blocks. -/
theorem sum_blocks (m n : ℕ) : ∑ r ∈ range n, ∑ i ∈ range m, f (m * r + i) = ∑ j ∈ range (m * n), f j := by
  induction n with
  | zero => simp
  | succ n ih => rw [sum_range_succ, ih, Nat.mul_succ, sum_range_add]

/-- The terms of one block. -/
theorem sum_block (N n : ℕ) : ∑ j ∈ range n, f (N + j) = ∑ j ∈ Ico N (N + n), f j := by
  rw [sum_Ico_eq_sum_range, Nat.add_sub_cancel_left]
end Sums

namespace Data
variable (D : Data)

/-- The gate's argument, chunk by chunk. -/
theorem zn_eq (n i j : ℕ) : D.zn n i j = D.z (128 * n + i) j := by
  unfold zn zc z rows
  congr 1
  refine sum_upto _ 16 128 (by omega) fun k hk => ?_
  rw [D.a0 _ _ hk, zero_mul]

/-- The running sum, chunk by chunk. -/
theorem bn_eq (n i j : ℕ) (hi : i < 128) : D.bn n i j = D.P (128 * n + (i + 1)) j - D.P (128 * n) j := by
  unfold bn bc P
  rw [sum_le _ i hi, sum_range_add _ (128 * n) (i + 1), add_sub_cancel_left]
  exact sum_congr rfl fun k _ => by rw [zn_eq]

/-- The running sum at the end of a chunk. -/
theorem bn_last (n j : ℕ) : D.bn n 127 j = D.P (128 * n + 128) j - D.P (128 * n) j := D.bn_eq n 127 j (by omega)

/-- The state before a chunk. -/
theorem st_eq (n h e x : ℕ) : D.st n h e x = ∑ s ∈ range (128 * n),
    D.v s (512 * h + e) * (D.k s (256 * h + x) * Real.exp (D.P (128 * n) (256 * h + x) - D.P (s + 1) (256 * h + x))) := by
  induction n with
  | zero => rfl
  | succ n ih =>
    show newS (D.st n h) (D.bn n) (rows n D.k) (rows n D.v) (256 * h) (512 * h) e x = _
    rw [newS, ih, bn_last, Nat.mul_succ, sum_range_add, sum_mul]
    refine congrArg₂ _ (sum_congr rfl fun s _ => ?_) (sum_congr rfl fun r hr => ?_)
    · rw [mul_assoc, mul_assoc, ← Real.exp_add]; congr 3; ring_nf
    · rw [bn_eq _ _ _ _ (mem_range.1 hr)]; unfold rows; congr 3; ring_nf

/-- A chunk with what the backward call has when it comes to it. -/
def chunk (c : ℕ) : Chunk :=
  ⟨rows c D.q, rows c D.k, rows c D.v, rows c D.o, D.bn c, D.zn c, D.w, D.st c, D.sd (63 - c)⟩

/-- The chunk of a step. -/
theorem step_eq (c : ℕ) (hc : c ≤ 63) : D.step (63 - c) = D.chunk c := by
  unfold step chunk; rw [Nat.sub_sub_self hc]

/-- The scaled query with the decay from the start of the chunk. -/
theorem qe_eq (c i j : ℕ) (hi : i < 128) : (D.chunk c).qe i j
    = D.q (128 * c + i) j * (1 / 16) * Real.exp (D.P (128 * c + (i + 1)) j - D.P (128 * c) j) := by
  rw [Chunk.qe, show (D.chunk c).b i j = _ from D.bn_eq c i j hi]; rfl

/-- The key grown to the start of the chunk. -/
theorem ke_eq (c i j : ℕ) (hi : i < 128) : (D.chunk c).ke i j
    = D.k (128 * c + i) j * Real.exp (D.P (128 * c) j - D.P (128 * c + (i + 1)) j) := by
  rw [Chunk.ke, show (D.chunk c).b i j = _ from D.bn_eq c i j hi, zero_sub, neg_sub]; rfl

/-- The key decayed to the end of the chunk. -/
theorem kd_eq (c i j : ℕ) (hi : i < 128) : (D.chunk c).kd i j
    = D.k (128 * c + i) j * Real.exp (D.P (128 * c + 128) j - D.P (128 * c + (i + 1)) j) := by
  rw [Chunk.kd, show (D.chunk c).b i j = _ from D.bn_eq c i j hi, show (D.chunk c).b 127 j = _ from D.bn_last c j,
    sub_sub_sub_cancel_right]; rfl

/-- The gradient of the state after the last `m` chunks. -/
theorem sd_eq (m h e x : ℕ) (hm : m ≤ 64) : D.sd m h e x = ∑ t ∈ Ico (128 * (64 - m)) 8192,
    D.o t (512 * h + e) * (D.q t (256 * h + x) * (1 / 16) *
      Real.exp (D.P (t + 1) (256 * h + x) - D.P (128 * (64 - m)) (256 * h + x))) := by
  induction m with
  | zero => rfl
  | succ m ih =>
    have hc : 64 - (m + 1) = 63 - m := by omega
    have hn : 128 * (64 - m) = 128 * (63 - m) + 128 := by omega
    have hs : D.sd m = D.sd (63 - (63 - m)) := by rw [Nat.sub_sub_self (by omega)]
    have ih := ih (by omega)
    rw [hs, hn] at ih
    rw [hc, show D.sd (m + 1) = (D.chunk (63 - m)).nd by rw [sd, chunk, ← hs], Chunk.nd,
      show (D.chunk (63 - m)).d h e x = _ from ih, show (D.chunk (63 - m)).b 127 _ = _ from D.bn_last (63 - m) _,
      ← sum_Ico_consecutive _ (show 128 * (63 - m) ≤ 128 * (63 - m) + 128 by omega) (show 128 * (63 - m) + 128 ≤ 8192 by omega),
      ← sum_block, add_comm, sum_mul]
    refine congrArg₂ _ (sum_congr rfl fun r hr => ?_) (sum_congr rfl fun t _ => ?_)
    · rw [qe_eq _ _ _ _ (mem_range.1 hr)]; rfl
    · rw [mul_assoc, mul_assoc, ← Real.exp_add]; congr 3; ring_nf

/-- The gradient of the state after a chunk. -/
theorem d_eq (c h e x : ℕ) (hc : c ≤ 63) : (D.chunk c).d h e x = ∑ t ∈ Ico (128 * c + 128) 8192,
    D.o t (512 * h + e) * (D.q t (256 * h + x) * (1 / 16) *
      Real.exp (D.P (t + 1) (256 * h + x) - D.P (128 * c + 128) (256 * h + x))) := by
  show D.sd (63 - c) h e x = _
  rw [sd_eq _ _ _ _ _ (by omega), show 128 * (64 - (63 - c)) = 128 * c + 128 by omega]

/-- The state before a chunk. -/
theorem s_eq (c h e x : ℕ) : (D.chunk c).s h e x = ∑ s ∈ range (128 * c),
    D.v s (512 * h + e) * (D.k s (256 * h + x) * Real.exp (D.P (128 * c) (256 * h + x) - D.P (s + 1) (256 * h + x))) :=
  D.st_eq c h e x

/-- Decay composes. -/
theorem exp_mul (a b c : ℝ) : Real.exp (a - b) * Real.exp (b - c) = Real.exp (a - c) := by
  rw [← Real.exp_add, sub_add_sub_cancel]

/-- The decay, where it is one. -/
theorem X_eq {h t s x : ℕ} (hs : s ≤ t) : D.X h t s x = Real.exp (D.P (t + 1) (256 * h + x) - D.P (s + 1) (256 * h + x)) := if_pos hs

/-- The decay in two. -/
theorem X_two {h t s x : ℕ} (hs : s ≤ t) (b : ℝ) :
    D.X h t s x = Real.exp (D.P (t + 1) (256 * h + x) - b) * Real.exp (b - D.P (s + 1) (256 * h + x)) := by
  rw [exp_mul, X_eq _ hs]

/-- No decay from later positions. -/
theorem X_zero {h t s x : ℕ} (hs : t < s) : D.X h t s x = 0 := if_neg (Nat.not_le.2 hs)

/-- The mask is in the decay. -/
theorem M_eq (h t s x : ℕ) : D.M h t s x = D.E h t s * (D.k s (256 * h + x) * (D.q t (256 * h + x) * (1 / 16))) * D.X h t s x := by
  unfold M X; split_ifs
  · rfl
  · rw [mul_zero]

/-- A score within a chunk. -/
theorem att_eq (c h i j : ℕ) (hi : i < 128) (hj : j < 128) : (D.chunk c).att h i j = D.A h (128 * c + i) (128 * c + j) := by
  unfold Chunk.att A
  split_ifs with hij
  · refine sum_congr rfl fun x _ => ?_
    rw [qe_eq _ _ _ _ hi, ke_eq _ _ _ _ hj, X_two _ (by omega) (D.P (128 * c) (256 * h + x))]
    simp only [Nat.add_assoc]
    ring
  · refine (sum_eq_zero fun x _ => ?_).symm
    rw [X_zero _ (by omega), zero_mul]

/-- Its gradient. -/
theorem datt_eq (c h i j : ℕ) : (D.chunk c).datt h i j = if j ≤ i then D.E h (128 * c + i) (128 * c + j) else 0 := rfl

/-- The gradient of the decayed query, decayed. -/
theorem dqe_eq (c h i x : ℕ) (hc : c ≤ 63) (hi : i < 128) :
    (D.chunk c).dqe h i x * Real.exp (D.P (128 * c + (i + 1)) (256 * h + x) - D.P (128 * c) (256 * h + x))
      = ∑ s ∈ range 8192, D.E h (128 * c + i) s * D.X h (128 * c + i) s x * D.k s (256 * h + x) := by
  rw [sum_upto _ (128 * c + 128) 8192 (by omega) fun j hj => by rw [X_zero _ (by omega), mul_zero, zero_mul],
    sum_range_add, Chunk.dqe, add_mul, sum_mul, sum_mul]
  refine congrArg₂ _ ?_ (sum_congr rfl fun j hj => ?_)
  · simp only [s_eq, mul_sum, sum_mul]
    rw [sum_comm]
    refine sum_congr rfl fun s hs => ?_
    have := mem_range.1 hs
    rw [X_two _ (by omega) (D.P (128 * c) (256 * h + x)), E, sum_mul, sum_mul]
    refine sum_congr rfl fun e _ => ?_
    simp only [Nat.add_assoc]
    rw [show (D.chunk c).o i (512 * h + e) = D.o (128 * c + i) (512 * h + e) from rfl]
    ring
  · rw [datt_eq, ke_eq _ _ _ _ (mem_range.1 hj)]
    split_ifs with hij
    · rw [X_two _ (by omega) (D.P (128 * c) (256 * h + x))]
      simp only [Nat.add_assoc]
      ring
    · rw [X_zero _ (by omega)]; ring

/-- The gradient of the queries. -/
theorem dq_eq (c h i x : ℕ) (hc : c ≤ 63) (hi : i < 128) : (D.chunk c).dq h i x = D.gq h (128 * c + i) x := by
  rw [Chunk.dq, show (D.chunk c).b i _ = _ from D.bn_eq c i _ hi, mul_right_comm, dqe_eq _ _ _ _ _ hc hi]; rfl

/-- The gradient of the decayed keys. -/
theorem dkd_eq (c h j x : ℕ) (hc : c ≤ 63) (hj : j < 128) :
    (D.chunk c).dkd h j x * Real.exp (D.P (128 * c + 128) (256 * h + x) - D.P (128 * c + (j + 1)) (256 * h + x))
      = ∑ t ∈ Ico (128 * c + 128) 8192, D.E h t (128 * c + j) * D.X h t (128 * c + j) x * (D.q t (256 * h + x) * (1 / 16)) := by
  simp only [Chunk.dkd, d_eq _ _ _ _ _ hc, mul_sum, sum_mul]
  rw [sum_comm]
  refine sum_congr rfl fun t ht => ?_
  have := (mem_Ico.1 ht).1
  rw [X_two _ (by omega) (D.P (128 * c + 128) (256 * h + x)), E, sum_mul, sum_mul]
  refine sum_congr rfl fun e _ => ?_
  rw [show (D.chunk c).v j (512 * h + e) = D.v (128 * c + j) (512 * h + e) from rfl]
  simp only [Nat.add_assoc]
  ring

/-- The gradient of the keys. -/
theorem dk_eq (c h j x : ℕ) (hc : c ≤ 63) (hj : j < 128) : (D.chunk c).dk h j x = D.gk h (128 * c + j) x := by
  rw [Chunk.dk, show (D.chunk c).b j _ = _ from D.bn_eq c j _ hj, show (D.chunk c).b 127 _ = _ from D.bn_last c _,
    sub_sub_sub_cancel_right, dkd_eq _ _ _ _ _ hc hj, gk,
    sum_from _ (128 * c) 8192 (by omega) fun t ht => by rw [X_zero _ (by omega), mul_zero, zero_mul],
    ← sum_Ico_consecutive _ (show 128 * c ≤ 128 * c + 128 by omega) (show 128 * c + 128 ≤ 8192 by omega), ← sum_block,
    Chunk.dke, sum_mul]
  refine congrArg₂ _ (sum_congr rfl fun i hi => ?_) rfl
  rw [datt_eq, qe_eq _ _ _ _ (mem_range.1 hi), zero_sub, neg_sub]
  split_ifs with hij
  · rw [X_two _ (by omega) (D.P (128 * c) (256 * h + x))]
    simp only [Nat.add_assoc]
    ring
  · rw [X_zero _ (by omega)]; ring

/-- The gradient of the values. -/
theorem dv_eq (c h j e : ℕ) (hc : c ≤ 63) (hj : j < 128) : (D.chunk c).dv h j e = D.gv h (128 * c + j) e := by
  rw [Chunk.dv, gv,
    sum_from _ (128 * c) 8192 (by omega) fun t ht => by
      rw [A, sum_eq_zero fun x _ => by rw [X_zero _ (by omega), zero_mul], mul_zero],
    ← sum_Ico_consecutive _ (show 128 * c ≤ 128 * c + 128 by omega) (show 128 * c + 128 ≤ 8192 by omega), ← sum_block]
  refine congrArg₂ _ (sum_congr rfl fun i hi => ?_) ?_
  · rw [att_eq _ _ _ _ _ (mem_range.1 hi) hj, mul_comm]; rfl
  · simp only [d_eq _ _ _ _ _ hc, mul_sum]
    rw [sum_comm]
    refine sum_congr rfl fun t ht => ?_
    have := (mem_Ico.1 ht).1
    rw [A, mul_sum]
    refine sum_congr rfl fun x _ => ?_
    rw [kd_eq _ _ _ _ hj, X_two _ (by omega) (D.P (128 * c + 128) (256 * h + x))]
    simp only [Nat.add_assoc]
    ring

/-- The key times its gradient, with what the kernel makes of it. -/
theorem dk_k (c h j x : ℕ) (hc : c ≤ 63) (hj : j < 128) :
    (D.chunk c).dke h j x * (D.chunk c).ke j (256 * h + x) + (D.chunk c).dkd h j x * (D.chunk c).kd j (256 * h + x)
      = ∑ t ∈ range 8192, D.M h t (128 * c + j) x := by
  have := D.dk_eq c h j x hc hj
  rw [Chunk.dk] at this
  calc _ = (D.chunk c).k j (256 * h + x) * D.gk h (128 * c + j) x := by rw [← this, Chunk.ke, Chunk.kd]; ring
    _ = _ := by
      rw [gk, mul_sum]
      refine sum_congr rfl fun t _ => ?_
      rw [M_eq, show (D.chunk c).k j (256 * h + x) = D.k (128 * c + j) (256 * h + x) from rfl]; ring

/-- The query times its gradient, with what the kernel makes of it. -/
theorem dq_q (c h i x : ℕ) (hc : c ≤ 63) (hi : i < 128) :
    (D.chunk c).dqe h i x * (D.chunk c).qe i (256 * h + x) = ∑ s ∈ range 8192, D.M h (128 * c + i) s x := by
  rw [qe_eq _ _ _ _ hi, mul_left_comm, dqe_eq _ _ _ _ _ hc hi, mul_sum]
  refine sum_congr rfl fun t _ => ?_
  rw [M_eq]; ring

/-- What the last running sum of a chunk gets: all that goes from before its end to after it. -/
theorem dbl_eq (c h x : ℕ) (hc : c ≤ 63) :
    (D.chunk c).dbl h x = ∑ s ∈ range (128 * c + 128), ∑ t ∈ Ico (128 * c + 128) 8192, D.M h t s x := by
  rw [sum_range_add, Chunk.dbl, add_comm]
  refine congrArg₂ _ ?_ (sum_congr rfl fun r hr => ?_)
  · simp only [s_eq, d_eq _ _ _ _ _ hc, show (D.chunk c).b 127 (256 * h + x) = _ from D.bn_last c (256 * h + x), sum_mul_sum]
    rw [sum_comm' (t' := range (128 * c)) (s' := fun _ => range 512) (by simp [and_comm]), sum_mul]
    refine sum_congr rfl fun s hs => ?_
    rw [sum_comm, sum_mul]
    refine sum_congr rfl fun t ht => ?_
    rw [sum_mul]
    have h1 := mem_range.1 hs
    have h2 := (mem_Ico.1 ht).1
    rw [M_eq, X_two _ (by omega) (D.P (128 * c + 128) (256 * h + x)), ← exp_mul (D.P (128 * c + 128) (256 * h + x)) (D.P (128 * c) (256 * h + x)) (D.P (s + 1) (256 * h + x)), E, sum_mul, sum_mul]
    refine sum_congr rfl fun e _ => ?_
    ring
  · have hr := mem_range.1 hr
    rw [kd_eq _ _ _ _ hr, mul_left_comm, dkd_eq _ _ _ _ _ hc hr, mul_sum]
    refine sum_congr rfl fun t _ => ?_
    rw [M_eq]; ring

/-- The sum of the running sums' gradients from a position on is what goes from before it to after it. -/
theorem sum_gP (N h x : ℕ) (hN : N ≤ 8192) :
    ∑ r ∈ Ico N 8192, D.gP h r x = ∑ s ∈ range N, ∑ t ∈ Ico N 8192, D.M h t s x := by
  have h1 : ∀ r ∈ Ico N 8192, D.gP h r x
      = -(∑ t ∈ Ico N 8192, D.M h t r x) + (∑ s ∈ range N, D.M h r s x + ∑ s ∈ Ico N 8192, D.M h r s x) := fun r hr => by
    have := (mem_Ico.1 hr).1
    rw [gP, sum_from _ N 8192 hN fun t ht => by rw [M_eq, X_zero _ (by omega), mul_zero], sum_range_add_sum_Ico _ hN]
  rw [sum_congr rfl h1, sum_add_distrib, sum_add_distrib, sum_neg_distrib, sum_comm (s := Ico N 8192) (t := Ico N 8192),
    sum_comm (s := range N)]
  ring

/-- The gradient of a running sum within a chunk. -/
theorem db_eq (c h i x : ℕ) (hc : c ≤ 63) (hi : i < 128) :
    (D.chunk c).db h i x = D.gP h (128 * c + i) x + if i = 127 then (D.chunk c).dbl h x else 0 := by
  rw [Chunk.db, dq_q _ _ _ _ _ hc hi, sub_sub, dk_k _ _ _ _ _ hc hi, gP]; ring

/-- The gradient of the gate's argument. -/
theorem dz_eq (c i j : ℕ) (hc : c ≤ 63) (hi : i < 128) : (D.chunk c).dz i j = D.gz (128 * c + i) j := by
  rw [Chunk.dz, gz, sum_ge, zero_sub, zero_sub, neg_neg, show (D.chunk c).z i j = _ from D.zn_eq c i j]
  refine congrArg₂ _ (congrArg₂ _ ?_ rfl) rfl
  rw [gg, ← sum_Ico_consecutive _ (show 128 * c + i ≤ 128 * c + 128 by omega) (show 128 * c + 128 ≤ 8192 by omega),
    sum_gP _ _ _ _ (by omega), ← dbl_eq _ _ _ _ hc,
    sum_congr rfl fun k hk => D.db_eq c _ k _ hc (mem_Ico.1 hk).2, sum_add_distrib]
  refine congrArg₂ _ ?_ ?_
  · rw [sum_Ico_add (fun k => D.gP (j / 256) k (j % 256)), Nat.add_comm i, Nat.add_comm 128]
  · rw [sum_ite_eq' _ 127, if_pos (mem_Ico.2 ⟨by omega, by omega⟩)]

/-- The gradient of the gate's input. -/
theorem da_eq (c i k : ℕ) (hc : c ≤ 63) (hi : i < 128) : (D.chunk c).da i k = D.ga (128 * c + i) k :=
  sum_congr rfl fun j _ => by rw [dz_eq _ _ _ _ hc hi]; rfl

/-- The gradient of the projection. -/
theorem dp_eq (c i j : ℕ) (hc : c ≤ 63) (hi : i < 128) : (D.chunk c).dp i j = D.gp (128 * c + i) j := by
  unfold Chunk.dp gp
  rw [dq_eq _ _ _ _ _ hc hi, dk_eq _ _ _ _ _ hc hi, dv_eq _ _ _ _ _ hc hi, da_eq _ _ _ _ hc hi]

/-- Past the gate's columns there is none. -/
theorem ga_zero (r k : ℕ) (hk : 16 ≤ k) : D.ga r k = 0 := sum_eq_zero fun j _ => by rw [D.w0 _ _ hk, mul_zero]

/-- The rows of the gradient of the gate's offset add up to it. -/
theorem acc_eq (j : ℕ) : ∑ i ∈ range 8, D.acc 64 i j = D.gb j := by
  have h : ∀ n, n ≤ 64 → ∑ i ∈ range 8, D.acc n i j = ∑ r ∈ Ico (128 * (64 - n)) 8192, D.gz r j := by
    intro n
    induction n with
    | zero => intro _; exact sum_const_zero
    | succ n ih =>
      intro hn
      have e : D.step n = D.chunk (63 - n) := by rw [← step_eq _ _ (by omega), Nat.sub_sub_self (by omega)]
      show ∑ i ∈ range 8, (D.acc n i j + ∑ r ∈ range 16, (D.step n).dz (8 * r + i) j) = _
      rw [sum_add_distrib, ih (by omega), sum_comm, sum_blocks (fun i => (D.step n).dz i j), e,
        sum_congr rfl fun i hi => D.dz_eq (63 - n) i j (by omega) (mem_range.1 hi), sum_block (fun r => D.gz r j),
        show 64 - (n + 1) = 63 - n by omega, show 128 * (64 - n) = 128 * (63 - n) + 128 by omega, add_comm]
      exact sum_Ico_consecutive (fun r => D.gz r j) (by omega) (by omega)
  rw [h 64 le_rfl, Nat.sub_self, Nat.mul_zero, Nat.Ico_zero_eq_range, gb]

end Data
end Cert.Real
end
-- ==== Proof.Ref.lean ====
module
public import proofs.«01_k».proof.Proof.Math
public import proofs.«01_k».proof.Proof.Rep
public import proofs.«01_k».proof.Proof.Gen.ReferenceIdeal.Read
public import Mathlib.Tactic.Ring
/-!
# The reference as formulas over the reals

One lemma per operation: the element at an index is a real number.
-/
@[expose] public section
set_option maxRecDepth 16384
noncomputable section
namespace Cert.ReferenceIdeal.Ref
open Cert.ReferenceIdeal Cert.ReferenceIdeal.Gen Cert.ReferenceIdeal.Read
open Idealize.ShloMosaic Idealize.ShloMosaic.StableHlo
open Cert.Real Cert.Rep

/-- Negation. -/
theorem neg_coe (r : ℝ) : FloatOps.hostNegf (F := Ideal) (φ := .f32) (r : EReal) = ((-r : ℝ) : EReal) := (EReal.coe_neg r).symm

/-- The larger of two. -/
theorem max_coe (r s : ℝ) : FloatOps.maximumf (F := Ideal) (φ := .f32) (r : EReal) (s : EReal) = ((max r s : ℝ) : EReal) :=
  (EReal.coe_strictMono.monotone.map_max).symm

/-- Absolute values. -/
theorem abs_coe (r : ℝ) : FloatOps.hostAbsf (F := Ideal) (φ := .f32) (r : EReal) = ((|r| : ℝ) : EReal) :=
  (EReal.coe_strictMono.monotone.map_max (a := r) (b := -r)).symm

/-- Exponentials. -/
theorem exp_coe (r : ℝ) : FloatOps.hostUnary (F := Ideal) (φ := .f32) .exp (r : EReal) = ((Real.exp r : ℝ) : EReal) := rfl

/-- The exponential of minus infinity. -/
theorem exp_bot : FloatOps.hostUnary (F := Ideal) (φ := .f32) .exp (⊥ : EReal) = ((0 : ℝ) : EReal) := rfl

/-- The logarithm of one more. -/
theorem log1p_coe (r : ℝ) (h : 0 < 1 + r) :
    FloatOps.hostUnary (F := Ideal) (φ := .f32) .log1p (r : EReal) = ((Real.log (1 + r) : ℝ) : EReal) := by
  show Ideal.log (1 + (r : EReal)) = _
  rw [← EReal.coe_one, ← EReal.coe_add, Ideal.log_coe, if_neg (not_le.2 h)]

/-- Sums. -/
theorem add_coe (r s : ℝ) : FloatOps.addf (F := Ideal) (φ := .f32) (r : EReal) (s : EReal) = ((r + s : ℝ) : EReal) := (EReal.coe_add r s).symm

/-- Differences. -/
theorem sub_coe (r s : ℝ) : FloatOps.subf (F := Ideal) (φ := .f32) (r : EReal) (s : EReal) = ((r - s : ℝ) : EReal) := (EReal.coe_sub r s).symm

/-- Products. -/
theorem mul_coe (r s : ℝ) : FloatOps.mulf (F := Ideal) (φ := .f32) (r : EReal) (s : EReal) = ((r * s : ℝ) : EReal) := (EReal.coe_mul r s).symm

/-- No number differs from itself. -/
theorem une_self (x : EReal) : FloatOps.cmpf (F := Ideal) (φ := .f32) .une x x = 0#1 := by
  show BitVec.ofBool (decide (x ≠ x)) = _
  simp

/-- The constant infinity. -/
theorem lit_top : FloatOps.ofBits (F := Ideal) .f32 0x7F800000#32 = (⊤ : EReal) := by
  show Ideal.ofBits .f32 _ = _
  simp [Ideal.ofBits, Ideal.ieee]

/-- The constant minus infinity. -/
theorem lit_bot : FloatOps.ofBits (F := Ideal) .f32 0xFF800000#32 = (⊥ : EReal) := by
  show Ideal.ofBits .f32 _ = _
  simp [Ideal.ofBits, Ideal.ieee]

/-- The constant sixteen. -/
theorem lit_16 : FloatOps.ofBits (F := Ideal) .f32 0x41800000#32 = ((16 : ℝ) : EReal) := by
  show Ideal.ofBits .f32 _ = _
  simp [Ideal.ofBits, Ideal.ieee, -EReal.coe_mul]; norm_num

/-- Division by sixteen. -/
theorem div_16 (r : ℝ) : FloatOps.hostDivf (F := Ideal) (φ := .f32) (r : EReal) ((16 : ℝ) : EReal) = ((r * (1 / 16) : ℝ) : EReal) := by
  show Ideal.div _ _ = _
  rw [Ideal.div_coe (by norm_num), ← EReal.coe_mul]

/-- No real number is infinity. -/
theorem oeq_top (r : ℝ) : FloatOps.cmpf (F := Ideal) (φ := .f32) .oeq (r : EReal) (⊤ : EReal) = 0#1 := by
  show BitVec.ofBool (decide ((r : EReal) = ⊤)) = _
  simp

/-- The logarithm of one plus the exponential, as the reference computes it. -/
def sp (y : ℝ) : ℝ := max y 0 + Real.log (1 + Real.exp (-|y - 0|))

/-- It is that. -/
theorem sp_eq (y : ℝ) : sp y = Real.log (1 + Real.exp y) := by
  unfold sp
  rw [sub_zero]
  rcases le_total y 0 with h | h
  · rw [max_eq_right h, abs_of_nonpos h, neg_neg, zero_add]
  · rw [max_eq_left h, abs_of_nonneg h]
    nth_rw 1 [← Real.log_exp y]
    rw [← Real.log_mul (Real.exp_pos _).ne' (by positivity), mul_add, mul_one, ← Real.exp_add, add_neg_cancel, Real.exp_zero, add_comm]

/-- The logarithm of the logistic function. -/
theorem neg_sp (z : ℝ) : -sp (-z) = lsig z := by
  unfold sp lsig
  rw [sub_zero, abs_neg, zero_sub, neg_add, ← sub_eq_add_neg, ← min_neg_neg, neg_neg, neg_zero]

/-- The derivative of the logarithm of the logistic function. -/
theorem exp_sp (z : ℝ) : Real.exp (-z - sp (-z)) = 1 / (1 + Real.exp z) := by
  rw [sp_eq, Real.exp_sub, Real.exp_log (by positivity), div_eq_div_iff (by positivity) (by positivity), mul_add, ← Real.exp_add]
  simp [add_comm]

/-- Where a row of heads falls in the row. -/
theorem cut (t h x n : ℕ) (hh : h < 4) (hx : x < n) (hn : n = 256 ∨ n = 512) :
    ((t * 4 + h) * n + x) / (4 * n) = t ∧ ((t * 4 + h) * n + x) % (4 * n) = n * h + x := by
  rcases hn with rfl | rfl <;> omega

/-- Where a row falls among the heads. -/
theorem uncut (t j n : ℕ) (hj : j < 4 * n) (hn : n = 256 ∨ n = 512) :
    (t * (4 * n) + j) / (4 * n) = t ∧ (t * (4 * n) + j) / n % 4 = j / n ∧ (t * (4 * n) + j) % n = j % n := by
  rcases hn with rfl | rfl <;> omega

/-- A unit axis in front of the positions. -/
theorem unit1 (a b c d : ℕ) (hb : b < 1) (hc : c < 8192) (hd : d < 256) :
    (((a * 1 + b) * 8192 + c) * 256 + d) / 2097152 = a ∧ (((a * 1 + b) * 8192 + c) * 256 + d) / 256 % 8192 = c
      ∧ (((a * 1 + b) * 8192 + c) * 256 + d) % 256 = d := by omega

/-- A unit axis behind the positions. -/
theorem unit2 (a b c d : ℕ) (hb : b < 8192) (hc : c < 1) (hd : d < 256) :
    (((a * 8192 + b) * 1 + c) * 256 + d) / 2097152 = a ∧ (((a * 8192 + b) * 1 + c) * 256 + d) / 256 % 8192 = b
      ∧ (((a * 8192 + b) * 1 + c) * 256 + d) % 256 = d := by omega

/-- A function of three arguments at equal arguments. -/
theorem congr3 (f : ℕ → ℕ → ℕ → ℝ) {a b c a' b' c' : ℕ} (h : a = a' ∧ b = b' ∧ c = c') : ((f a b c : ℝ) : EReal) = ((f a' b' c' : ℝ) : EReal) := by
  obtain ⟨rfl, rfl, rfl⟩ := h; rfl

/-- A function of two arguments at equal arguments. -/
theorem congr2 (f : ℕ → ℕ → ℝ) {a b a' b' : ℕ} (h : a = a' ∧ b = b') : ((f a b : ℝ) : EReal) = ((f a' b' : ℝ) : EReal) := by
  obtain ⟨rfl, rfl⟩ := h; rfl

/-- A sum that starts at nought. -/
theorem sum_coe {n : ℕ} {z : EReal} (hz : z = FloatOps.ofBits (F := Ideal) .f32 0x00000000#32) {x : Fin n → EReal} (f : ℕ → ℝ)
    (h : ∀ k : Fin n, x k = ((f k : ℝ) : EReal)) : z + ∑ k : Fin n, x k = ((∑ k ∈ Finset.range n, f k : ℝ) : EReal) := by
  rw [hz, lit_zero, EReal.coe_zero, zero_add, Finset.sum_range, coe_sum]
  exact Finset.sum_congr rfl fun k _ => h k

/-- A sum without a start. -/
theorem sum_coe' {n : ℕ} {x : Fin n → EReal} (f : ℕ → ℝ)
    (h : ∀ k : Fin n, x k = ((f k : ℝ) : EReal)) : ∑ k : Fin n, x k = ((∑ k ∈ Finset.range n, f k : ℝ) : EReal) := by
  rw [Finset.sum_range, coe_sum]
  exact Finset.sum_congr rfl fun k _ => h k

/-- A fold of sums is a sum. -/
theorem foldl_add {ι : Type} (l : List ι) (g : ι → EReal) (v : EReal) : l.foldl (fun r i => r + g i) v = v + (l.map g).sum := by
  induction l generalizing v with
  | nil => simp
  | cons a l ih => rw [List.foldl_cons, ih, List.map_cons, List.sum_cons, add_assoc]

/-- A window along the middle axis: a sum over its positions. -/
theorem window_sum {A N B : ℕ} (lo hi : ℕ) (x : (⟨3, ![A, N, B]⟩ : Shape).Idx → EReal) (v : EReal)
    (h : (⟨3, ![A, N, B]⟩ : Shape).ReduceWindows ![1, N, 1] ![1, 1, 1] ![0, lo, 0] ![0, hi, 0] (⟨3, ![A, N, B]⟩ : Shape))
    (i : (⟨3, ![A, N, B]⟩ : Shape).Idx) (f : ℕ → ℝ) (hv : v = 0)
    (hx : ∀ y : (⟨3, ![A, N, B]⟩ : Shape).Idx, (y 0).val = (i 0).val → (y 2).val = (i 2).val → x y = ((f (y 1) : ℝ) : EReal)) :
    Ideal.hostReduceWindowAdd ![1, N, 1] ![1, 1, 1] ![0, lo, 0] ![0, hi, 0] h x v i
      = ((∑ k ∈ Finset.range N, (if lo ≤ (i 1).val + k ∧ (i 1).val + k - lo < N then f ((i 1).val + k - lo) else 0) : ℝ) : EReal) := by
  unfold Ideal.hostReduceWindowAdd Host.reduceWindow
  dsimp only
  rw [foldl_add _ (fun n => _), hv, zero_add, ← Fin.sum_univ_def, Finset.sum_range, coe_sum]
  rw [← Equiv.sum_comp (Shape.rowMajor (⟨3, ![1, N, 1]⟩ : Shape))]
  refine Fintype.sum_equiv (⟨fun w => (show Fin N from w 1), fun k => ix3 0 k 0, fun w => ?_, fun k => rfl⟩ : (⟨3, ![1, N, 1]⟩ : Shape).Idx ≃ Fin N) _ _ fun w => ?_
  · funext d
    match d with
    | ⟨0, _⟩ => exact Subsingleton.elim (α := Fin 1) _ _
    | ⟨1, _⟩ => rfl
    | ⟨2, _⟩ => exact Subsingleton.elim (α := Fin 1) _ _
  · have w0 : (w 0).val = 0 := Nat.lt_one_iff.1 (w 0).isLt
    have w2 : (w 2).val = 0 := Nat.lt_one_iff.1 (w 2).isLt
    have i0 : (i 0).val < A := (i 0).isLt
    have i2 : (i 2).val < B := (i 2).isLt
    have u0 : ((Shape.rowMajor (⟨3, ![1, N, 1]⟩ : Shape)).symm (Shape.rowMajor (⟨3, ![1, N, 1]⟩ : Shape) w) 0).val = 0 := by rw [Equiv.symm_apply_apply]; exact w0
    have u1 : ((Shape.rowMajor (⟨3, ![1, N, 1]⟩ : Shape)).symm (Shape.rowMajor (⟨3, ![1, N, 1]⟩ : Shape) w) 1).val = (w 1).val := by rw [Equiv.symm_apply_apply]
    have u2 : ((Shape.rowMajor (⟨3, ![1, N, 1]⟩ : Shape)).symm (Shape.rowMajor (⟨3, ![1, N, 1]⟩ : Shape) w) 2).val = 0 := by rw [Equiv.symm_apply_apply]; exact w2
    change _ = (((if lo ≤ (i 1).val + (w 1).val ∧ (i 1).val + (w 1).val - lo < N then f ((i 1).val + (w 1).val - lo) else 0) : ℝ) : EReal)
    split_ifs with h1 h2 h2
    · refine (hx _ ?_ ?_).trans ?_
      · show (i 0).val * 1 + ((Shape.rowMajor (⟨3, ![1, N, 1]⟩ : Shape)).symm (Shape.rowMajor (⟨3, ![1, N, 1]⟩ : Shape) w) 0).val - 0 = _; omega
      · show (i 2).val * 1 + ((Shape.rowMajor (⟨3, ![1, N, 1]⟩ : Shape)).symm (Shape.rowMajor (⟨3, ![1, N, 1]⟩ : Shape) w) 2).val - 0 = _; omega
      · show ((f ((i 1).val * 1 + ((Shape.rowMajor (⟨3, ![1, N, 1]⟩ : Shape)).symm (Shape.rowMajor (⟨3, ![1, N, 1]⟩ : Shape) w) 1).val - lo) : ℝ) : EReal) = _; rw [u1, Nat.mul_one]
    · have := h1 1
      change lo ≤ (i 1).val * 1 + ((Shape.rowMajor (⟨3, ![1, N, 1]⟩ : Shape)).symm (Shape.rowMajor (⟨3, ![1, N, 1]⟩ : Shape) w) 1).val ∧ (i 1).val * 1 + ((Shape.rowMajor (⟨3, ![1, N, 1]⟩ : Shape)).symm (Shape.rowMajor (⟨3, ![1, N, 1]⟩ : Shape) w) 1).val - lo < N at this
      rw [u1, Nat.mul_one] at this
      exact absurd this h2
    · refine absurd (fun d => ?_) h1
      match d with
      | ⟨0, _⟩ => show 0 ≤ (i 0).val * 1 + ((Shape.rowMajor (⟨3, ![1, N, 1]⟩ : Shape)).symm (Shape.rowMajor (⟨3, ![1, N, 1]⟩ : Shape) w) 0).val ∧ (i 0).val * 1 + ((Shape.rowMajor (⟨3, ![1, N, 1]⟩ : Shape)).symm (Shape.rowMajor (⟨3, ![1, N, 1]⟩ : Shape) w) 0).val - 0 < A; omega
      | ⟨1, _⟩ => show lo ≤ (i 1).val * 1 + ((Shape.rowMajor (⟨3, ![1, N, 1]⟩ : Shape)).symm (Shape.rowMajor (⟨3, ![1, N, 1]⟩ : Shape) w) 1).val ∧ (i 1).val * 1 + ((Shape.rowMajor (⟨3, ![1, N, 1]⟩ : Shape)).symm (Shape.rowMajor (⟨3, ![1, N, 1]⟩ : Shape) w) 1).val - lo < N; omega
      | ⟨2, _⟩ => show 0 ≤ (i 2).val * 1 + ((Shape.rowMajor (⟨3, ![1, N, 1]⟩ : Shape)).symm (Shape.rowMajor (⟨3, ![1, N, 1]⟩ : Shape) w) 2).val ∧ (i 2).val * 1 + ((Shape.rowMajor (⟨3, ![1, N, 1]⟩ : Shape)).symm (Shape.rowMajor (⟨3, ![1, N, 1]⟩ : Shape) w) 2).val - 0 < B; omega
    · rfl

/-- The arguments hold the data. -/
structure Fed (x0 : (⟨S8192x6272, .f32⟩ : BufTy).Contents (Elt Ideal)) (x1 : (⟨S16x1024, .f32⟩ : BufTy).Contents (Elt Ideal))
    (x2 : (⟨S1024, .f32⟩ : BufTy).Contents (Elt Ideal)) (x3 : (⟨S8192x2048, .f32⟩ : BufTy).Contents (Elt Ideal)) (D : Data) : Prop where
  /-- queries -/
  q : ∀ i : S8192x6272.Idx, (i 1).val < 1024 → x0 i = ((D.q (i 0) (i 1) : ℝ) : EReal)
  /-- keys -/
  k : ∀ (i : S8192x6272.Idx) (j : ℕ), j < 1024 → (i 1).val = 1024 + j → x0 i = ((D.k (i 0) j : ℝ) : EReal)
  /-- values -/
  v : ∀ (i : S8192x6272.Idx) (j : ℕ), j < 2048 → (i 1).val = 2048 + j → x0 i = ((D.v (i 0) j : ℝ) : EReal)
  /-- the gate's input -/
  a : ∀ (i : S8192x6272.Idx) (j : ℕ), j < 16 → (i 1).val = 6144 + j → x0 i = ((D.a (i 0) j : ℝ) : EReal)
  /-- its weight -/
  w : ∀ i : S16x1024.Idx, x1 i = ((D.w (i 0) (i 1) : ℝ) : EReal)
  /-- its offset -/
  b : ∀ i : S1024.Idx, x2 i = ((D.b (i 0) : ℝ) : EReal)
  /-- the gradient of the output -/
  o : ∀ i : S8192x2048.Idx, x3 i = ((D.o (i 0) (i 1) : ℝ) : EReal)

variable {x0 : (⟨S8192x6272, .f32⟩ : BufTy).Contents (Elt Ideal)} {x1 : (⟨S16x1024, .f32⟩ : BufTy).Contents (Elt Ideal)}
  {x2 : (⟨S1024, .f32⟩ : BufTy).Contents (Elt Ideal)} {x3 : (⟨S8192x2048, .f32⟩ : BufTy).Contents (Elt Ideal)} {D : Data}
  (H : Fed x0 x1 x2 x3 D)
include H

/-- Queries. -/
theorem v0 (i : S8192x1024.Idx) : val_main_v0 (F := Ideal) x0 i = ((D.q (i 0) (i 1) : ℝ) : EReal) :=
  (val_main_v0_apply x0 i).trans (H.q _ (i 1).isLt)

/-- Keys. -/
theorem v1 (i : S8192x1024.Idx) : val_main_v1 (F := Ideal) x0 i = ((D.k (i 0) (i 1) : ℝ) : EReal) :=
  (val_main_v1_apply x0 i).trans (H.k _ _ (i 1).isLt rfl)

/-- Values. -/
theorem v2 (i : S8192x2048.Idx) : val_main_v2 (F := Ideal) x0 i = ((D.v (i 0) (i 1) : ℝ) : EReal) :=
  (val_main_v2_apply x0 i).trans (H.v _ _ (i 1).isLt rfl)

/-- The gate's input. -/
theorem v3 (i : S8192x16.Idx) : val_main_v3 (F := Ideal) x0 i = ((D.a (i 0) (i 1) : ℝ) : EReal) :=
  (val_main_v3_apply x0 i).trans (H.a _ _ (i 1).isLt rfl)

/-- The gate's product. -/
theorem v4 (i : S8192x1024.Idx) :
    val_main_v4 (F := Ideal) x0 x1 i = ((∑ k ∈ Finset.range 16, D.a (i 0) k * D.w k (i 1) : ℝ) : EReal) := by
  rw [val_main_v4_apply, Finset.sum_range, coe_sum]
  refine Finset.sum_congr rfl fun k _ => ?_
  rw [v3 H, H.w, EReal.coe_mul]

/-- The gate's argument. -/
theorem v7 (i : S8192x1024.Idx) : val_main_v7 (F := Ideal) x0 x1 x2 i = ((D.z (i 0) (i 1) : ℝ) : EReal) := by
  rw [val_main_v7_apply, v4 H, val_main_v6_apply, val_main_v5_apply, H.b, add_coe, Data.z]

/-- Scaled queries. -/
theorem v12 (i : S8192x1024.Idx) : val_main_v12 (F := Ideal) x0 i = ((D.q (i 0) (i 1) * (1 / 16) : ℝ) : EReal) := by
  rw [val_main_v12_apply, v0 H, val_main_v11_apply, val_main_cst_0_apply, lit_16th, mul_coe]

/-- Scaled queries, head by head. -/
theorem v14 (i : S4x8192x256.Idx) :
    val_main_v14 (F := Ideal) x0 i = ((D.q (i 1) (256 * (i 0) + i 2) * (1 / 16) : ℝ) : EReal) := by
  rw [val_main_v14_apply, val_main_v13_apply, v12 H]
  exact congr2 (fun a b => D.q a b * (1 / 16)) (cut (i 1).val (i 0).val (i 2).val 256 (i 0).isLt (i 2).isLt (.inl rfl))

/-- Keys, head by head. -/
theorem v16 (i : S4x8192x256.Idx) : val_main_v16 (F := Ideal) x0 i = ((D.k (i 1) (256 * (i 0) + i 2) : ℝ) : EReal) := by
  rw [val_main_v16_apply, val_main_v15_apply, v1 H]
  exact congr2 D.k (cut (i 1).val (i 0).val (i 2).val 256 (i 0).isLt (i 2).isLt (.inl rfl))

/-- Values, head by head. -/
theorem v18 (i : S4x8192x512.Idx) : val_main_v18 (F := Ideal) x0 i = ((D.v (i 1) (512 * (i 0) + i 2) : ℝ) : EReal) := by
  rw [val_main_v18_apply, val_main_v17_apply, v2 H]
  exact congr2 D.v (cut (i 1).val (i 0).val (i 2).val 512 (i 0).isLt (i 2).isLt (.inr rfl))

/-- The gradient of the output, head by head. -/
theorem v43 (i : S4x8192x512.Idx) : val_main_v43 (F := Ideal) x3 i = ((D.o (i 1) (512 * (i 0) + i 2) : ℝ) : EReal) := by
  rw [val_main_v43_apply, val_main_v42_apply, H.o]
  exact congr2 D.o (cut (i 1).val (i 0).val (i 2).val 512 (i 0).isLt (i 2).isLt (.inr rfl))

/-- The logarithm of one plus an exponential. -/
theorem v1_0 (i : S8192x1024.Idx) : val_main_call0_v1_0 (F := Ideal) x0 x1 x2 i = ((sp (-D.z (i 0) (i 1)) : ℝ) : EReal) := by
  have h0 : val_main_call0_v0 (F := Ideal) x0 x1 x2 i = ((-D.z (i 0) (i 1) : ℝ) : EReal) := by
    rw [val_main_call0_v0_apply, v7 H, neg_coe]
  rw [val_main_call0_v1_0_apply, val_main_call0_call0_v4_apply, une_self, ValueIdx.select_zero, val_main_call0_call0_v11_apply,
    val_main_call0_call0_v1_apply, val_main_call0_call0_v0_apply, val_main_call0_call0_v10_apply, val_main_call0_call0_v9_apply,
    val_main_call0_call0_v8_apply, val_main_call0_call0_v7_apply, val_main_call0_call0_v3_apply, val_main_call0_call0_v2_apply,
    val_main_call0_call0_cst_apply, h0, lit_zero, max_coe, sub_coe, abs_coe, neg_coe, exp_coe,
    log1p_coe _ (by positivity), add_coe, sp]

/-- The gate's logarithm. -/
theorem v10 (i : S8192x1024.Idx) : val_main_v10 (F := Ideal) x0 x1 x2 i = ((lsig (D.z (i 0) (i 1)) * (1 / 16) : ℝ) : EReal) := by
  rw [val_main_v10_apply, val_main_v8_0_apply, v1_0 H, neg_coe, val_main_v9_apply, val_main_cst_apply, lit_16, div_16, neg_sp]

/-- Its derivative. -/
theorem v8_1 (i : S8192x1024.Idx) : val_main_v8_1 (F := Ideal) x0 x1 x2 i = ((1 / (1 + Real.exp (D.z (i 0) (i 1))) : ℝ) : EReal) := by
  have h0 : val_main_call0_v0 (F := Ideal) x0 x1 x2 i = ((-D.z (i 0) (i 1) : ℝ) : EReal) := by
    rw [val_main_call0_v0_apply, v7 H, neg_coe]
  rw [val_main_v8_1_apply, val_main_call0_call0_v21_apply, val_main_call0_call0_v16_apply, val_main_call0_call0_v14_apply,
    val_main_call0_call0_v20_apply, val_main_call0_call0_v18_apply, val_main_call0_call0_v13_apply, val_main_call0_call0_v17_apply,
    val_main_call0_call0_cst_0_apply, val_main_call0_call0_cst_2_apply, h0, v1_0 H, lit_top, oeq_top, oeq_top, ValueIdx.select_zero,
    ValueIdx.select_zero, sub_coe, exp_coe, exp_sp]

/-- The gate's logarithm, head by head. -/
theorem v20 (i : S4x8192x256.Idx) :
    val_main_v20 (F := Ideal) x0 x1 x2 i = ((lsig (D.z (i 1) (256 * (i 0) + i 2)) * (1 / 16) : ℝ) : EReal) := by
  rw [val_main_v20_apply, val_main_v19_apply, v10 H]
  exact congr2 (fun a b => lsig (D.z a b) * (1 / 16)) (cut (i 1).val (i 0).val (i 2).val 256 (i 0).isLt (i 2).isLt (.inl rfl))

/-- The running sums. -/
theorem v24 (i : S4x8192x256.Idx) : val_main_v24 (F := Ideal) x0 x1 x2 i = ((D.P (i 1 + 1) (256 * (i 0) + i 2) : ℝ) : EReal) := by
  have h1 : (i 1).val < 8192 := (i 1).isLt
  unfold val_main_v24 Host.reduceWindowAdd
  rw [Ideal.hostReduceWindowAdd_def]
  refine (window_sum (A := 4) (N := 8192) (B := 256) 8191 0 _ _ _ i (fun t => lsig (D.z t (256 * (i 0) + i 2)) * (1 / 16)) ?_ fun y h0 h2 => ?_).trans ?_
  · exact lit_zero.trans EReal.coe_zero
  · rw [v20 H, h0, h2]
  · refine congrArg _ ?_
    rw [Data.P, sum_from _ (8191 - (i 1).val) 8192 (by omega) fun j hj => if_neg (by omega), Finset.sum_Ico_eq_sum_range,
      show 8192 - (8191 - (i 1).val) = (i 1).val + 1 by omega]
    refine Finset.sum_congr rfl fun k hk => ?_
    have := Finset.mem_range.1 hk
    rw [if_pos (by omega), show (i 1).val + (8191 - (i 1).val + k) - 8191 = k by omega]

omit H in
/-- The mask. -/
theorem v30_1 (i : S4x8192x8192x256.Idx) : val_main_v30_1 (F := Ideal) i = if (i 2).val ≤ (i 1).val then 1#1 else 0#1 := by
  have h1 : (i 1).val < 8192 := (i 1).isLt
  have h2 : (i 2).val < 8192 := (i 2).isLt
  rw [val_main_v30_1_apply, val_main_v23_apply, val_main_v22_apply, val_main_call1_v4_apply, val_main_call1_v2_apply, val_main_call1_v0_apply,
    val_main_call1_v3_apply, val_main_call1_v1_apply, val_main_call1_c_apply, val_main_v21_apply, val_main_c_apply, val_main_call1_v5_apply,
    val_main_call1_c_0_apply]
  show Scalar.select (IntOp.cmpi .sge (BitVec.ofNat 32 (i 1).val + 0#32) (BitVec.ofNat 32 (i 2).val)) 1#1 0#1 = _
  rw [BitVec.add_zero, WordCmp.cmpi_sge_eq, WordCmp.toInt_ofNat_of_lt (by omega), WordCmp.toInt_ofNat_of_lt (by omega)]
  simp only [Nat.cast_le]
  by_cases h : (i 2).val ≤ (i 1).val <;> simp [h] <;> rfl

/-- The decays. -/
theorem v36 (i : S4x8192x8192x256.Idx) : val_main_v36 (F := Ideal) x0 x1 x2 i = ((D.X (i 0) (i 1) (i 2) (i 3) : ℝ) : EReal) := by
  rw [val_main_v36_apply, val_main_v30_0_apply, v30_1, Data.X]
  split_ifs with h
  · rw [ValueIdx.select_one, val_main_v29_apply, val_main_v27_apply, val_main_v25_apply, val_main_v28_apply, val_main_v26_apply, v24 H, v24 H,
      sub_coe, exp_coe]
  · rw [ValueIdx.select_zero, val_main_call3_v2_apply, val_main_call3_v0_apply, val_main_cst_1_apply, lit_bot, exp_bot]

/-- The products of queries and keys. -/
theorem v35 (i : S4x8192x8192x256.Idx) : val_main_v35 (F := Ideal) x0 i
    = ((D.k (i 2) (256 * (i 0) + i 3) * (D.q (i 1) (256 * (i 0) + i 3) * (1 / 16)) : ℝ) : EReal) := by
  rw [val_main_v35_apply, val_main_v33_apply, val_main_v31_apply, val_main_v34_apply, val_main_v32_apply, v14 H, v16 H, mul_coe, mul_comm]

/-- The scores. -/
theorem v38 (i : S4x8192x8192.Idx) : val_main_v38 (F := Ideal) x0 x1 x2 i = ((D.A (i 0) (i 1) (i 2) : ℝ) : EReal) := by
  rw [val_main_v38_apply]
  refine sum_coe rfl _ fun k => ?_
  rw [val_main_v37_apply, v35 H, v36 H, mul_coe, mul_comm]

/-- The gradient of the values, head by head. -/
theorem v45 (i : S4x8192x512.Idx) : val_main_v45 (F := Ideal) x0 x1 x2 x3 i = ((D.gv (i 0) (i 1) (i 2) : ℝ) : EReal) := by
  rw [val_main_v45_apply, val_main_v44_apply]
  refine sum_coe' _ fun k => ?_
  rw [v43 H, v38 H, ← EReal.coe_mul]

/-- The gradient of the values. -/
theorem v74 (i : S8192x2048.Idx) : val_main_v74 (F := Ideal) x0 x1 x2 x3 i
    = ((D.gv ((i 1).val / 512) (i 0) ((i 1).val % 512) : ℝ) : EReal) := by
  rw [val_main_v74_apply, val_main_v73_apply, v45 H]
  have e := uncut (i 0).val (i 1).val 512 (i 1).isLt (.inr rfl)
  exact congr3 D.gv ⟨e.2.1, e.1, e.2.2⟩

/-- The gradient of the scores. -/
theorem v46 (i : S4x8192x8192.Idx) : val_main_v46 (F := Ideal) x0 x3 i = ((D.E (i 0) (i 1) (i 2) : ℝ) : EReal) := by
  rw [val_main_v46_apply]
  refine sum_coe' _ fun k => ?_
  rw [v43 H, v18 H, ← EReal.coe_mul]

/-- With the decays. -/
theorem v49 (i : S4x8192x8192x256.Idx) : val_main_v49 (F := Ideal) x0 x1 x2 x3 i
    = ((D.E (i 0) (i 1) (i 2) * D.X (i 0) (i 1) (i 2) (i 3) : ℝ) : EReal) := by
  rw [val_main_v49_apply, val_main_v47_apply, v46 H, v36 H, mul_coe]

/-- The gradient of the keys, head by head. -/
theorem v53 (i : S4x8192x256.Idx) : val_main_v53 (F := Ideal) x0 x1 x2 x3 i = ((D.gk (i 0) (i 1) (i 2) : ℝ) : EReal) := by
  rw [val_main_v53_apply]
  refine sum_coe rfl _ fun k => ?_
  rw [val_main_v52_apply, val_main_v51_apply, val_main_v31_apply, v14 H, v49 H, mul_coe, mul_comm]

/-- The gradient of the keys, the unit axis summed away. -/
theorem v59 (i : S4x8192x256.Idx) : val_main_v59 (F := Ideal) x0 x1 x2 x3 i = ((D.gk (i 0) (i 1) (i 2) : ℝ) : EReal) := by
  rw [val_main_v59_apply]
  refine (sum_coe rfl (fun _ => D.gk (i 0) (i 1) (i 2)) fun k => ?_).trans (by rw [Finset.sum_range_one])
  rw [val_main_v54_apply, v53 H]
  exact congr3 D.gk (unit1 (i 0).val k.val (i 1).val (i 2).val k.isLt (i 1).isLt (i 2).isLt)

/-- The gradient of the keys. -/
theorem v76 (i : S8192x1024.Idx) : val_main_v76 (F := Ideal) x0 x1 x2 x3 i
    = ((D.gk ((i 1).val / 256) (i 0) ((i 1).val % 256) : ℝ) : EReal) := by
  rw [val_main_v76_apply, val_main_v75_apply, v59 H]
  have e := uncut (i 0).val (i 1).val 256 (i 1).isLt (.inl rfl)
  exact congr3 D.gk ⟨e.2.1, e.1, e.2.2⟩

/-- The gradient of the scaled queries, head by head. -/
theorem v57 (i : S4x8192x256.Idx) : val_main_v57 (F := Ideal) x0 x1 x2 x3 i
    = ((∑ s ∈ Finset.range 8192, D.E (i 0) (i 1) s * D.X (i 0) (i 1) s (i 2) * D.k s (256 * (i 0) + i 2) : ℝ) : EReal) := by
  rw [val_main_v57_apply]
  refine sum_coe rfl _ fun k => ?_
  rw [val_main_v56_apply, val_main_v55_apply, val_main_v32_apply, v16 H, v49 H, mul_coe]

/-- The gradient of the scaled queries, the unit axis summed away. -/
theorem v60 (i : S4x8192x256.Idx) : val_main_v60 (F := Ideal) x0 x1 x2 x3 i
    = ((∑ s ∈ Finset.range 8192, D.E (i 0) (i 1) s * D.X (i 0) (i 1) s (i 2) * D.k s (256 * (i 0) + i 2) : ℝ) : EReal) := by
  rw [val_main_v60_apply]
  refine (sum_coe rfl (fun _ => ∑ s ∈ Finset.range 8192, D.E (i 0) (i 1) s * D.X (i 0) (i 1) s (i 2) * D.k s (256 * (i 0) + i 2)) fun k => ?_).trans
    (by rw [Finset.sum_range_one])
  rw [val_main_v58_apply, v57 H]
  exact congr3 (fun h t x => ∑ s ∈ Finset.range 8192, D.E h t s * D.X h t s x * D.k s (256 * h + x))
    (unit2 (i 0).val (i 1).val k.val (i 2).val (i 1).isLt k.isLt (i 2).isLt)

/-- The gradient of the queries. -/
theorem v80 (i : S8192x1024.Idx) : val_main_v80 (F := Ideal) x0 x1 x2 x3 i
    = ((D.gq ((i 1).val / 256) (i 0) ((i 1).val % 256) : ℝ) : EReal) := by
  rw [val_main_v80_apply, val_main_v78_apply, val_main_v77_apply, v60 H, val_main_v79_apply, val_main_cst_11_apply, lit_16th, mul_coe]
  have e := uncut (i 0).val (i 1).val 256 (i 1).isLt (.inl rfl)
  exact congr3 D.gq ⟨e.2.1, e.1, e.2.2⟩

/-- The gradient of the differences of running sums. -/
theorem v61 (i : S4x8192x8192x256.Idx) : val_main_v61 (F := Ideal) x0 x1 x2 x3 i = ((D.M (i 0) (i 1) (i 2) (i 3) : ℝ) : EReal) := by
  rw [val_main_v61_apply, v30_1, Data.M]
  split_ifs with h
  · rw [ValueIdx.select_one, val_main_v50_apply, val_main_v48_apply, val_main_v47_apply, v35 H, v46 H, v36 H, mul_coe, mul_coe,
      mul_comm (D.E _ _ _)]
  · rw [ValueIdx.select_zero, val_main_call4_v0_apply, val_main_call4_cst_apply, lit_zero]

/-- Summed over the earlier positions, with a unit axis. -/
theorem v62 (i : S4x8192x256.Idx) : val_main_v62 (F := Ideal) x0 x1 x2 x3 i
    = ((∑ s ∈ Finset.range 8192, D.M (i 0) (i 1) s (i 2) : ℝ) : EReal) := by
  rw [val_main_v62_apply]
  exact sum_coe rfl _ fun k => v61 H _

/-- Summed over the later positions, with a unit axis. -/
theorem v65 (i : S4x8192x256.Idx) : val_main_v65 (F := Ideal) x0 x1 x2 x3 i
    = ((-∑ t ∈ Finset.range 8192, D.M (i 0) t (i 1) (i 2) : ℝ) : EReal) := by
  rw [val_main_v65_apply, ← Finset.sum_neg_distrib]
  refine sum_coe rfl _ fun k => ?_
  rw [val_main_v64_apply, v61 H, neg_coe]

/-- Summed over the earlier positions. -/
theorem v68 (i : S4x8192x256.Idx) : val_main_v68 (F := Ideal) x0 x1 x2 x3 i
    = ((∑ s ∈ Finset.range 8192, D.M (i 0) (i 1) s (i 2) : ℝ) : EReal) := by
  rw [val_main_v68_apply]
  refine (sum_coe rfl (fun _ => ∑ s ∈ Finset.range 8192, D.M (i 0) (i 1) s (i 2)) fun k => ?_).trans (by rw [Finset.sum_range_one])
  rw [val_main_v63_apply, v62 H]
  have e := unit2 (i 0).val (i 1).val k.val (i 2).val (i 1).isLt k.isLt (i 2).isLt
  exact congr3 (fun h t x => ∑ s ∈ Finset.range 8192, D.M h t s x) e

/-- Summed over the later positions. -/
theorem v67 (i : S4x8192x256.Idx) : val_main_v67 (F := Ideal) x0 x1 x2 x3 i
    = ((-∑ t ∈ Finset.range 8192, D.M (i 0) t (i 1) (i 2) : ℝ) : EReal) := by
  rw [val_main_v67_apply]
  refine (sum_coe rfl (fun _ => -∑ t ∈ Finset.range 8192, D.M (i 0) t (i 1) (i 2)) fun k => ?_).trans (by rw [Finset.sum_range_one])
  rw [val_main_v66_apply, v65 H]
  have e := unit1 (i 0).val k.val (i 1).val (i 2).val k.isLt (i 1).isLt (i 2).isLt
  exact congr3 (fun h t x => -∑ s ∈ Finset.range 8192, D.M h s t x) e

/-- The gradient of the running sums. -/
theorem v69 (i : S4x8192x256.Idx) : val_main_v69 (F := Ideal) x0 x1 x2 x3 i = ((D.gP (i 0) (i 1) (i 2) : ℝ) : EReal) := by
  rw [val_main_v69_apply, v67 H, v68 H, add_coe, Data.gP]

/-- The gradient of the gate's logarithm, head by head. -/
theorem v70 (i : S4x8192x256.Idx) : val_main_v70 (F := Ideal) x0 x1 x2 x3 i = ((D.gg (i 0) (i 1) (i 2) : ℝ) : EReal) := by
  have h1 : (i 1).val < 8192 := (i 1).isLt
  unfold val_main_v70 Host.reduceWindowAdd
  rw [Ideal.hostReduceWindowAdd_def]
  refine (window_sum (A := 4) (N := 8192) (B := 256) 0 8191 _ _ _ i (fun t => D.gP (i 0) t (i 2)) ?_ fun y h0 h2 => ?_).trans ?_
  · exact lit_zero.trans EReal.coe_zero
  · rw [v69 H, h0, h2]
  · refine congrArg _ ?_
    rw [Data.gg, sum_upto _ (8192 - (i 1).val) 8192 (by omega) fun j hj => if_neg (by omega), Finset.sum_Ico_eq_sum_range]
    refine Finset.sum_congr rfl fun k hk => ?_
    have := Finset.mem_range.1 hk
    rw [if_pos (by omega), Nat.sub_zero]

/-- The gradient of the gate's argument. -/
theorem v83 (i : S8192x1024.Idx) : val_main_v83 (F := Ideal) x0 x1 x2 x3 i = ((D.gz (i 0) (i 1) : ℝ) : EReal) := by
  have e := uncut (i 0).val (i 1).val 256 (i 1).isLt (.inl rfl)
  have h : val_main_v72 (F := Ideal) x0 x1 x2 x3 i = ((D.gg ((i 1).val / 256) (i 0) ((i 1).val % 256) : ℝ) : EReal) := by
    rw [val_main_v72_apply, val_main_v71_apply, v70 H]
    exact congr3 D.gg ⟨e.2.1, e.1, e.2.2⟩
  rw [val_main_v83_apply, val_main_call6_v1_apply, val_main_call6_v0_apply, val_main_v82_apply, h, val_main_v81_apply, val_main_cst_12_apply,
    lit_16, div_16, neg_coe, v8_1 H, mul_coe, neg_coe, neg_mul, neg_neg, Data.gz]

/-- The gradient of the gate's offset, with a unit axis. -/
theorem v84 (i : S1024.Idx) : val_main_v84 (F := Ideal) x0 x1 x2 x3 i = ((D.gb (i 0) : ℝ) : EReal) := by
  rw [val_main_v84_apply]
  exact sum_coe rfl _ fun k => v83 H _

/-- The gradient of the gate's offset. -/
theorem v86 (i : S1024.Idx) : val_main_v86 (F := Ideal) x0 x1 x2 x3 i = ((D.gb (i 0) : ℝ) : EReal) := by
  rw [val_main_v86_apply]
  refine (sum_coe rfl (fun _ => D.gb (i 0)) fun k => ?_).trans (by rw [Finset.sum_range_one])
  rw [val_main_v85_apply, v84 H]
  have hk : k.val = 0 := Nat.lt_one_iff.1 k.isLt
  refine congr2 (fun _ j => D.gb j) (a := 0) (a' := 0) ⟨rfl, ?_⟩
  show k.val * 1024 + (i 0).val = _
  omega

/-- The gradient of the gate's input. -/
theorem v89 (i : S8192x16.Idx) : val_main_v89 (F := Ideal) x0 x1 x2 x3 i = ((D.ga (i 0) (i 1) : ℝ) : EReal) := by
  rw [val_main_v89_apply]
  refine sum_coe' _ fun k => ?_
  rw [v83 H, H.w, ← EReal.coe_mul]

variable {x4 : (⟨S8192x2048, .bf16⟩ : BufTy).Contents (Elt Ideal)}

omit H in
/-- A piece of the result by its number and its first column. -/
theorem piece {i : S8192x6272.Idx} {n : ℕ} (k pre : ℕ) (x : FVec Ideal (⟨2, ![8192, n]⟩ : Shape) .f32) (xs : List ((s : Shape) × (s.Idx → EReal)))
    (h : Shape.Concatenates (xs.map (·.1)) S8192x6272 1) (hk : k < xs.length) (hx : xs[k] = ⟨_, x⟩)
    (hpre : (((xs.take k).map (·.1)).map fun s => if h : s.rank = S8192x6272.rank then s.size ((1 : Fin S8192x6272.rank).cast h.symm) else 0).sum = pre)
    (j : ℕ) (hj : j < n) (e : (i 1).val = pre + j) : concatenate S8192x6272 1 xs h i = x (ix2 (i 0) ⟨j, hj⟩) := by
  refine concatenate_apply_piece 1 xs h i k hk _ x hx rfl pre hpre _ (fun b hb => ?_) e.symm
  match b with
  | ⟨0, _⟩ => rfl
  | ⟨1, _⟩ => exact absurd rfl hb

/-- The gradient of the queries in the result. -/
theorem v92_q (i : S8192x6272.Idx) (j : ℕ) (hj : j < 1024) (e : (i 1).val = 0 + j) :
    val_main_v92 (F := Ideal) x0 x1 x2 x3 x4 i = ((D.gq (j / 256) (i 0) (j % 256) : ℝ) : EReal) := by
  unfold val_main_v92
  exact Eq.trans (piece 0 0 (val_main_v80 (F := Ideal) x0 x1 x2 x3) _ _ (Nat.lt_of_sub_eq_succ rfl) rfl rfl j hj e) (v80 H _)

/-- The gradient of the keys in the result. -/
theorem v92_k (i : S8192x6272.Idx) (j : ℕ) (hj : j < 1024) (e : (i 1).val = 1024 + j) :
    val_main_v92 (F := Ideal) x0 x1 x2 x3 x4 i = ((D.gk (j / 256) (i 0) (j % 256) : ℝ) : EReal) := by
  unfold val_main_v92
  exact Eq.trans (piece 1 1024 (val_main_v76 (F := Ideal) x0 x1 x2 x3) _ _ (Nat.lt_of_sub_eq_succ rfl) rfl rfl j hj e) (v76 H _)

/-- The gradient of the values in the result. -/
theorem v92_v (i : S8192x6272.Idx) (j : ℕ) (hj : j < 2048) (e : (i 1).val = 2048 + j) :
    val_main_v92 (F := Ideal) x0 x1 x2 x3 x4 i = ((D.gv (j / 512) (i 0) (j % 512) : ℝ) : EReal) := by
  unfold val_main_v92
  exact Eq.trans (piece 2 2048 (val_main_v74 (F := Ideal) x0 x1 x2 x3) _ _ (Nat.lt_of_sub_eq_succ rfl) rfl rfl j hj e) (v74 H _)

omit H in
/-- What is passed through. -/
theorem v92_r (i : S8192x6272.Idx) (j : ℕ) (hj : j < 2048) (e : (i 1).val = 4096 + j) :
    val_main_v92 (F := Ideal) x0 x1 x2 x3 x4 i = x4 (ix2 (i 0) ⟨j, hj⟩) := by
  unfold val_main_v92
  exact Eq.trans (piece 3 4096 (val_main_v90 (F := Ideal) x4) _ _ (Nat.lt_of_sub_eq_succ rfl) rfl rfl j hj e) (val_main_v90_apply ..)

/-- The gradient of the gate's input in the result. -/
theorem v92_a (i : S8192x6272.Idx) (j : ℕ) (hj : j < 16) (e : (i 1).val = 6144 + j) :
    val_main_v92 (F := Ideal) x0 x1 x2 x3 x4 i = ((D.ga (i 0) j : ℝ) : EReal) := by
  unfold val_main_v92
  exact Eq.trans (piece 4 6144 (val_main_v89 (F := Ideal) x0 x1 x2 x3) _ _ (Nat.lt_of_sub_eq_succ rfl) rfl rfl j hj e) (v89 H _)

omit H in
/-- Noughts in the result. -/
theorem v92_0 (i : S8192x6272.Idx) (j : ℕ) (hj : j < 112) (e : (i 1).val = 6160 + j) :
    val_main_v92 (F := Ideal) x0 x1 x2 x3 x4 i = ((0 : ℝ) : EReal) := by
  unfold val_main_v92
  exact Eq.trans (piece 5 6160 (val_main_v91 (F := Ideal)) _ _ (Nat.lt_of_sub_eq_succ rfl) rfl rfl j hj e) ((val_main_v91_apply ..).trans ((val_main_cst_15_apply ..).trans lit_zero))

/-- The gradient of the projection. -/
theorem v93 (i : S8192x6272.Idx) (hi : (i 1).val < 4096 ∨ 6144 ≤ (i 1).val) :
    val_main_v93 (F := Ideal) x0 x1 x2 x3 x4 i = ((D.gp (i 0) (i 1) : ℝ) : EReal) := by
  have h1 : (i 1).val < 6272 := (i 1).isLt
  rw [val_main_v93_apply]
  show val_main_v92 (F := Ideal) x0 x1 x2 x3 x4 i = _
  unfold Data.gp
  split_ifs with a b c
  · exact v92_q H i _ a (by omega)
  · exact v92_k H i _ (by omega) (by omega)
  · exact v92_v H i _ (by omega) (by omega)
  · by_cases d : (i 1).val < 6160
    · exact v92_a H i _ (by omega) (by omega)
    · rw [D.ga_zero _ _ (by omega)]
      exact v92_0 i ((i 1).val - 6160) (by omega) (by omega)

omit H in
/-- What is passed through. -/
theorem v93_r (i : S8192x6272.Idx) (j : ℕ) (hj : j < 2048) (e : (i 1).val = 4096 + j) :
    val_main_v93 (F := Ideal) x0 x1 x2 x3 x4 i = x4 (ix2 (i 0) ⟨j, hj⟩) :=
  (val_main_v93_apply ..).trans (v92_r i j hj e)

/-- The gradient of the gate's argument. -/
theorem v94 (i : S8192x1024.Idx) : val_main_v94 (F := Ideal) x0 x1 x2 x3 i = ((D.gz (i 0) (i 1) : ℝ) : EReal) :=
  (val_main_v94_apply ..).trans (v83 H i)

end Cert.ReferenceIdeal.Ref
end
-- ==== Proof.Prod.lean ====
module
public import Idealize.ShloMosaic.Lib.Pipeline.ValueKit
public import Idealize.ShloMosaic.Lib.Pipeline.Value
public import Idealize.ShloMosaic.Lib.ValueIdx
public import Idealize.ShloMosaic.Lib.KernelVsHost
public import Idealize.ShloMosaic.Lib.Pointwise.Contract
public import Idealize.ShloMosaic.PureOps.Ideal.Laws
/-!
# Products taken tile by tile

The entries of a matrix by number, one product into a zero array, and the sum that an accumulator gathers over the tiles of the
contracted axis.
-/
@[expose] public section
noncomputable section
namespace Cert.Prod
open Idealize.ShloMosaic
open Idealize.ShloMosaic.ValueIdx hiding ix1 ix2 ix3 ix4
open Finset (range)

variable {n0 n1 K : ℕ} {φ ψ : FTy}

/-- An index of a matrix is that of a row and a column. -/
theorem ix2_of (x : (⟨2, ![n0, n1]⟩ : Shape).Idx) : ∃ (i : Fin n0) (j : Fin n1), x = ix2 i j := ⟨x 0, x 1, (ix2_eta x).symm⟩

/-- The entry in row `i` and column `j`, nought outside. -/
def elem (x : (⟨2, ![n0, n1]⟩ : Shape).Idx → EReal) (i j : ℕ) : EReal := if h : i < n0 ∧ j < n1 then x (ix2 ⟨i, h.1⟩ ⟨j, h.2⟩) else 0

/-- Inside, it is the array's entry. -/
theorem elem_at (x : (⟨2, ![n0, n1]⟩ : Shape).Idx → EReal) {i j : ℕ} (hi : i < n0) (hj : j < n1) : elem x i j = x (ix2 ⟨i, hi⟩ ⟨j, hj⟩) :=
  dif_pos ⟨hi, hj⟩

/-- An entry of an array, by the numbers of its row and column. -/
theorem elem_of (x : (⟨2, ![n0, n1]⟩ : Shape).Idx → EReal) (i : (⟨2, ![n0, n1]⟩ : Shape).Idx) {a b : ℕ} (ha : (i 0).val = a) (hb : (i 1).val = b) :
    x i = elem x a b := by
  subst ha hb
  exact (congrArg x (ix2_eta i).symm).trans (elem_at x (i 0).isLt (i 1).isLt).symm

/-- Past the last column there are noughts. -/
theorem elem_out (x : (⟨2, ![n0, n1]⟩ : Shape).Idx → EReal) {i j : ℕ} (h : ¬j < n1) : elem x i j = 0 := dif_neg fun e => h e.2

/-- The integer nought, converted. -/
theorem nought {S : Shape} {φ : FTy} {j : S.Idx} : sitofp (F := Ideal) φ (constantI S 32 0#32) j = 0 := by
  show (((0#32 : BitVec 32).toInt : ℝ) : EReal) = _
  simp

/-- The accumulator of a product is nought. -/
theorem acc_zero {S : Shape} (j : S.Idx) : constant (F := Ideal) S .f32 0x00000000#32 j = 0 := Ideal.ofBits_zero_f32

/-- An entry of a product into a zero array over one contracted axis, its operands' elements named. -/
theorem matmul_at {sl sr S : Shape} {p : Option ContractPrecision} (D : DotDims sl sr S) {ax : Fin sl.rank} (hc : D.lhsContracting = [ax])
    (hK : sl.size ax = K) (x : FVec Ideal sl φ) (y : FVec Ideal sr ψ) (j : S.Idx) (l r : Fin K → EReal)
    (hl : ∀ k, x (Shape.Idx.norm (D.lhsIdx j (D.contrIdx₁ hc hK k))) = l k)
    (hr : ∀ k, y (Shape.Idx.norm (D.rhsIdx j (D.contrIdx₁ hc hK k))) = r k) :
    matmul D p x y (constant (F := Ideal) S .f32 0x00000000#32) j = ∑ k, l k * r k := by
  show Ideal.matmul D x y _ j = _
  rw [Ideal.matmul_apply₁ D hc hK, acc_zero, zero_add]
  exact Finset.sum_congr rfl fun k _ => by rw [← hl, ← hr]

/-- One more tile of `b` terms. -/
theorem sum_tile (f : ℕ → EReal) (b q : ℕ) : ∑ k ∈ range (b * (q + 1)), f k = ∑ k ∈ range (b * q), f k + ∑ k : Fin b, f (b * q + k) := by
  rw [Nat.mul_succ, Finset.sum_range_add, Finset.sum_range (fun k => f (b * q + k))]

/-- What an accumulator started at every `p`-th point holds after a point, when each point adds one tile of `b` terms. -/
theorem running {N b p : ℕ} (S : ∀ n, n < N → EReal) (f : ℕ → ℕ → EReal)
    (h0 : ∀ n hn, n % p = 0 → S n hn = ∑ k : Fin b, f (n / p) (b * (n % p) + k))
    (h1 : ∀ n hn, n % p ≠ 0 → S n hn = S (n - 1) (by omega) + ∑ k : Fin b, f (n / p) (b * (n % p) + k)) :
    ∀ n hn, S n hn = ∑ k ∈ range (b * (n % p + 1)), f (n / p) k := by
  intro n
  induction n with
  | zero => intro hn; rw [h0 0 hn (Nat.zero_mod p), sum_tile, Nat.zero_mod]; simp
  | succ n ih =>
    intro hn
    rw [sum_tile]
    by_cases h : (n + 1) % p = 0
    · rw [h0 _ hn h, h]; simp
    · have hd : ¬p ∣ n + 1 := fun hd => h (Nat.mod_eq_zero_of_dvd hd)
      have hq : (n + 1) / p = n / p := Nat.succ_div_of_not_dvd hd
      have hr : (n + 1) % p = n % p + 1 := by
        have e := Nat.div_add_mod (n + 1) p
        have e' := Nat.div_add_mod n p
        rw [hq] at e
        omega
      rw [h1 _ hn h, show S (n + 1 - 1) _ = S n (by omega) from rfl, ih (by omega), hq, hr]

/-- Where a column of the array laid out in pairs of tiles comes from. -/
def source (n : ℕ) : ℕ := 5632 * (n / 1408 % 2) + 1408 * (n / 2816) + n % 1408

/-- The layout in pairs of tiles, read at an entry. -/
theorem pairs_at {α : Type} (x : (⟨2, ![8192, 11264]⟩ : Shape).Idx → α)
    (h1 : (⟨2, ![8192, 11264]⟩ : Shape).ShapeCasts ⟨4, ![8192, 2, 4, 1408]⟩)
    (h2 : (⟨4, ![8192, 2, 4, 1408]⟩ : Shape).Transposes [0, 2, 1, 3] ⟨4, ![8192, 4, 2, 1408]⟩)
    (h3 : (⟨4, ![8192, 4, 2, 1408]⟩ : Shape).ShapeCasts ⟨2, ![8192, 11264]⟩) (i : Fin 8192) (n : Fin 11264) :
    shapeCast ⟨2, ![8192, 11264]⟩ (transpose ⟨4, ![8192, 4, 2, 1408]⟩ [0, 2, 1, 3] (shapeCast ⟨4, ![8192, 2, 4, 1408]⟩ x h1) h2) h3 (ix2 i n)
      = x (ix2 i ⟨source n, by unfold source; omega⟩) := by
  have hi := i.isLt
  have hn := n.isLt
  refine (shapeCast_apply _ h3 _ (ix4 i ⟨n / 2816, by omega⟩ ⟨n / 1408 % 2, by omega⟩ ⟨n % 1408, by omega⟩) ?_).trans ?_
  · rw [Shape.rowMajor_val_two, Shape.rowMajor_val_four]
    show ((i.val * 4 + n.val / 2816) * 2 + n.val / 1408 % 2) * 1408 + n.val % 1408 = i.val * 11264 + n.val
    omega
  refine (transpose_apply [0, 2, 1, 3] _ h2 _ (ix4 i ⟨n / 1408 % 2, by omega⟩ ⟨n / 2816, by omega⟩ ⟨n % 1408, by omega⟩) (fun b => match b with
    | ⟨0, _⟩ => rfl
    | ⟨1, _⟩ => rfl
    | ⟨2, _⟩ => rfl
    | ⟨3, _⟩ => rfl)).trans ?_
  refine shapeCast_apply _ h1 _ _ ?_
  rw [Shape.rowMajor_val_two, Shape.rowMajor_val_four]
  show i.val * 11264 + source n = ((i.val * 2 + n.val / 1408 % 2) * 4 + n.val / 2816) * 1408 + n.val % 1408
  unfold source
  omega

/-- The four shards of a weight, read at an entry. -/
theorem shards_at {α : Type} (x : (⟨2, ![2048, 11264]⟩ : Shape).Idx → α) (h1 : (⟨2, ![2048, 11264]⟩ : Shape).ShapeCasts ⟨3, ![2048, 4, 2816]⟩)
    (h2 : (⟨3, ![2048, 4, 2816]⟩ : Shape).Transposes [1, 0, 2] ⟨3, ![4, 2048, 2816]⟩) (s : Fin 4) (i : Fin 2048) (j : Fin 2816) :
    transpose ⟨3, ![4, 2048, 2816]⟩ [1, 0, 2] (shapeCast ⟨3, ![2048, 4, 2816]⟩ x h1) h2 (ix3 s i j) = x (ix2 i ⟨2816 * s.val + j.val, by omega⟩) := by
  refine (transpose_apply [1, 0, 2] _ h2 _ (ix3 i s j) (fun b => match b with
    | ⟨0, _⟩ => rfl
    | ⟨1, _⟩ => rfl
    | ⟨2, _⟩ => rfl)).trans ?_
  refine shapeCast_apply _ h1 _ _ ?_
  rw [Shape.rowMajor_val_two, Shape.rowMajor_val_three]
  show i.val * 11264 + (2816 * s.val + j.val) = (i.val * 4 + s.val) * 2816 + j.val
  omega

/-- The four shards of a weight's rows, read at an entry. -/
theorem rows_elem {R r C : ℕ} (x : (⟨2, ![R, C]⟩ : Shape).Idx → EReal) (h : (⟨2, ![R, C]⟩ : Shape).ShapeCasts ⟨3, ![4, r, C]⟩)
    (i : (⟨3, ![4, r, C]⟩ : Shape).Idx) {a b : ℕ} (ha : r * (i 0).val + (i 1).val = a) (hb : (i 2).val = b) (hR : a < R) :
    shapeCast ⟨3, ![4, r, C]⟩ x h i = elem x a b := by
  refine (shapeCast_apply x h i (ix2 ⟨a, hR⟩ (i 2)) ?_).trans (elem_of x _ rfl hb)
  rw [Shape.rowMajor_val_two, Shape.rowMajor_val_three]
  show a * C + (i 2).val = ((i 0).val * r + (i 1).val) * C + (i 2).val
  rw [← ha, Nat.mul_comm r]

/-- The four shards of a weight's columns, read at an entry. -/
theorem cols_elem {R M N : ℕ} (hN : N = 4 * M) (x : (⟨2, ![R, N]⟩ : Shape).Idx → EReal) (h1 : (⟨2, ![R, N]⟩ : Shape).ShapeCasts ⟨3, ![R, 4, M]⟩)
    (h2 : (⟨3, ![R, 4, M]⟩ : Shape).Transposes [1, 0, 2] ⟨3, ![4, R, M]⟩) (i : (⟨3, ![4, R, M]⟩ : Shape).Idx) {a b : ℕ}
    (ha : (i 1).val = a) (hb : M * (i 0).val + (i 2).val = b) : transpose ⟨3, ![4, R, M]⟩ [1, 0, 2] (shapeCast ⟨3, ![R, 4, M]⟩ x h1) h2 i = elem x a b := by
  have hM : b < N := by
    have h0 : (i 0).val < 4 := (i 0).isLt
    have h2 : (i 2).val < M := (i 2).isLt
    have := Nat.mul_le_mul_left M (Nat.le_of_lt_succ h0)
    omega
  refine (transpose_apply [1, 0, 2] _ h2 i (ix3 (i 1) (i 0) (i 2)) (fun b => match b with
    | ⟨0, _⟩ => rfl
    | ⟨1, _⟩ => rfl
    | ⟨2, _⟩ => rfl)).trans ((shapeCast_apply x h1 _ (ix2 (i 1) ⟨b, hM⟩) ?_).trans (elem_of x _ ha rfl))
  rw [Shape.rowMajor_val_two, Shape.rowMajor_val_three]
  show (i 1).val * N + b = ((i 1).val * 4 + (i 0).val) * M + (i 2).val
  rw [← hb, hN]
  ring

/-- The layout in pairs of tiles of `w` columns, read at an entry. -/
theorem pairs_elem {R N p w : ℕ} (hN : N = 2 * p * w) (x : (⟨2, ![R, N]⟩ : Shape).Idx → EReal)
    (h1 : (⟨2, ![R, N]⟩ : Shape).ShapeCasts ⟨4, ![R, 2, p, w]⟩)
    (h2 : (⟨4, ![R, 2, p, w]⟩ : Shape).Transposes [0, 2, 1, 3] ⟨4, ![R, p, 2, w]⟩)
    (h3 : (⟨4, ![R, p, 2, w]⟩ : Shape).ShapeCasts ⟨2, ![R, N]⟩) (i : (⟨2, ![R, N]⟩ : Shape).Idx) (q : Fin p) (s : Fin 2) (k : Fin w) {a b : ℕ}
    (ha : (i 0).val = a) (hi : (i 1).val = (q.val * 2 + s.val) * w + k.val) (hb : (s.val * p + q.val) * w + k.val = b) :
    shapeCast ⟨2, ![R, N]⟩ (transpose ⟨4, ![R, p, 2, w]⟩ [0, 2, 1, 3] (shapeCast ⟨4, ![R, 2, p, w]⟩ x h1) h2) h3 i = elem x a b := by
  have hM : b < N := by
    have h0 : s.val * p + q.val + 1 ≤ 2 * p := by
      have := Nat.mul_le_mul_right p (Nat.le_of_lt_succ s.isLt)
      omega
    have := Nat.mul_le_mul_right w h0
    have hk := k.isLt
    rw [Nat.add_mul] at this
    omega
  refine (shapeCast_apply _ h3 i (ix4 (i 0) q s k) ?_).trans ?_
  · rw [Shape.rowMajor_val_two, Shape.rowMajor_val_four]
    show (((i 0).val * p + q.val) * 2 + s.val) * w + k.val = (i 0).val * N + (i 1).val
    rw [hi, hN]
    ring
  refine (transpose_apply [0, 2, 1, 3] _ h2 _ (ix4 (i 0) s q k) (fun b => match b with
    | ⟨0, _⟩ => rfl
    | ⟨1, _⟩ => rfl
    | ⟨2, _⟩ => rfl
    | ⟨3, _⟩ => rfl)).trans ((shapeCast_apply x h1 _ (ix2 (i 0) ⟨b, hM⟩) ?_).trans (elem_of x _ ha rfl))
  rw [Shape.rowMajor_val_two, Shape.rowMajor_val_four]
  show (i 0).val * N + b = (((i 0).val * 2 + s.val) * p + q.val) * w + k.val
  rw [← hb, hN]
  ring

/-- Columns of noughts added on the right change no entry by number. -/
theorem pad_elem {R C e N : ℕ} (x : (⟨2, ![R, C]⟩ : Shape).Idx → EReal) {u : Shape} (v : u.Idx → EReal)
    (h : (⟨2, ![R, C]⟩ : Shape).Pads ![0, 0] ![0, e] ![0, 0] ⟨2, ![R, N]⟩) (hu : 0 < u.numel) (hv : v (Shape.Idx.first hu) = 0)
    (i : (⟨2, ![R, N]⟩ : Shape).Idx) {a b : ℕ} (ha : (i 0).val = a) (hb : (i 1).val = b) :
    pad ⟨2, ![R, N]⟩ ![0, 0] ![0, e] ![0, 0] x v h hu i = elem x a b := by
  by_cases hC : (i 1).val < C
  · refine (pad_apply_of_inside _ _ _ _ _ h hu i (ix2 (i 0) ⟨(i 1).val, hC⟩) (fun a => by
      match a with
      | ⟨0, _⟩ => simp
      | ⟨1, _⟩ => simp)).trans (elem_of x _ ha hb)
  · refine (pad_apply_of_not_inside _ _ _ _ _ h hu i (1 : Fin 2) (fun hn => hC ?_)).trans (hv.trans ?_)
    · have := hn.2.2
      simpa using this
    · unfold elem
      rw [dif_neg (by omega)]

end Cert.Prod
end
-- ==== Proof.Alg.lean ====
module
public import proofs.«01_k».proof.Defs
public import proofs.«01_k».proof.Proof.Gen.Pre_finite
public import proofs.«01_k».proof.Proof.Run
public import proofs.«01_k».proof.Proof.FwdArr
public import proofs.«01_k».proof.Proof.BwdArr
public import proofs.«01_k».proof.Proof.Ref
public import proofs.«01_k».proof.Proof.Prod
public import Idealize.ShloMosaic.Lib.KernelVsHost
public import Idealize.ShloMosaic.Lib.ValueLayout
public import proofs.«01_k».proof.Proof.Gen.ReferenceIdeal.Run
/-!
# The two programs' results are equal

From finite arguments the kernel's buffers and the reference's arguments hold the same real numbers, and each result of
either is the same formula of them.
-/
@[expose] public section
set_option maxRecDepth 16384
noncomputable section
namespace Cert.Alg
open Cert.Real
open Idealize.ShloMosaic Idealize.ShloMosaic.TcCoe
open Idealize.ShloMosaic.ValueIdx hiding ix1 ix2 ix3 ix4

variable {n0 n1 : ℕ}

/-- A value whose size is below infinity is a real number. -/
theorem fin_of (x : EReal) (h : FloatOps.cmpf (F := Ideal) (φ := .f32) .olt (FloatOps.hostAbsf (F := Ideal) (φ := .f32) x)
    (FloatOps.ofBits .f32 0x7F800000#32) = 1#1) : x = ((x.toReal : ℝ) : EReal) := by
  have h' : BitVec.ofBool (decide (max x (-x) < FloatOps.ofBits (F := Ideal) .f32 0x7F800000#32)) = 1#1 := h
  rw [Cert.ReferenceIdeal.Ref.lit_top] at h'
  have h2 : max x (-x) < ⊤ := by
    by_contra hn
    rw [decide_eq_false hn] at h'
    exact absurd h' (by decide)
  exact (EReal.coe_toReal (lt_of_le_of_lt (le_max_left _ _) h2).ne (fun hb => by rw [hb] at h2; simp at h2)).symm

/-- The real number at an entry of a matrix, nought outside. -/
def rd (x : (⟨2, ![n0, n1]⟩ : Shape).Idx → EReal) (i j : ℕ) : ℝ :=
  if h : i < n0 ∧ j < n1 then (x (ix2 ⟨i, h.1⟩ ⟨j, h.2⟩)).toReal else 0

/-- The real number at an entry of a vector, nought outside. -/
def rd1 (x : (⟨1, ![n0]⟩ : Shape).Idx → EReal) (i : ℕ) : ℝ := if h : i < n0 then (x (ix1 ⟨i, h⟩)).toReal else 0

/-- An entry that is a real number. -/
theorem rd_eq (x : (⟨2, ![n0, n1]⟩ : Shape).Idx → EReal) (i : Fin n0) (j : Fin n1)
    (h : x (ix2 i j) = (((x (ix2 i j)).toReal : ℝ) : EReal)) : x (ix2 i j) = ((rd x i j : ℝ) : EReal) := by
  unfold rd
  rw [dif_pos ⟨i.isLt, j.isLt⟩]
  exact h

/-- An entry that is a real number. -/
theorem rd1_eq (x : (⟨1, ![n0]⟩ : Shape).Idx → EReal) (i : Fin n0)
    (h : x (ix1 i) = (((x (ix1 i)).toReal : ℝ) : EReal)) : x (ix1 i) = ((rd1 x i : ℝ) : EReal) := by
  unfold rd1
  rw [dif_pos i.isLt]
  exact h

/-- The real numbers the arguments hold. -/
def data (x0 : (⟨2, ![8192, 6272]⟩ : Shape).Idx → EReal) (x1 : (⟨2, ![16, 1024]⟩ : Shape).Idx → EReal) (x2 : (⟨1, ![1024]⟩ : Shape).Idx → EReal)
    (x3 : (⟨2, ![8192, 2048]⟩ : Shape).Idx → EReal) : Data where
  q := rd x0
  k i j := rd x0 i (1024 + j)
  v i j := rd x0 i (2048 + j)
  a i j := if j < 16 then rd x0 i (6144 + j) else 0
  w := rd x1
  b := rd1 x2
  o := rd x3
  a0 i k h := if_neg (by omega)
  w0 k j h := dif_neg (by omega)

/-- The arguments are finite where they are used. -/
structure Finite (x0 : (⟨2, ![8192, 6272]⟩ : Shape).Idx → EReal) (x1 : (⟨2, ![16, 1024]⟩ : Shape).Idx → EReal) (x2 : (⟨1, ![1024]⟩ : Shape).Idx → EReal)
    (x3 : (⟨2, ![8192, 2048]⟩ : Shape).Idx → EReal) : Prop where
  /-- queries, keys and values -/
  p : ∀ (i : Fin 8192) (j : Fin 6272), j.val < 4096 → x0 (ix2 i j) = ((rd x0 i j : ℝ) : EReal)
  /-- the gate's input -/
  a : ∀ (i : Fin 8192) (j : Fin 6272), 6144 ≤ j.val → j.val < 6160 → x0 (ix2 i j) = ((rd x0 i j : ℝ) : EReal)
  /-- the gate's weight -/
  w : ∀ (i : Fin 16) (j : Fin 1024), x1 (ix2 i j) = ((rd x1 i j : ℝ) : EReal)
  /-- the gate's offset -/
  b : ∀ i : Fin 1024, x2 (ix1 i) = ((rd1 x2 i : ℝ) : EReal)
  /-- the gradient of the output -/
  o : ∀ (i : Fin 8192) (j : Fin 2048), x3 (ix2 i j) = ((rd x3 i j : ℝ) : EReal)

/-- The precondition says so. -/
theorem finite_of (m : (ℓ : Loc Cert.KernelIdeal.nD Cert.KernelIdeal.τ Cert.KernelIdeal.sig) → Buf (Elt Ideal) ℓ) (h : Cert.Pre_KernelIdeal_finite m)
    (c : Dev Cert.KernelIdeal.nD) : Finite (m (c.tc.loc Cert.KernelIdeal.main_arg0)) (m (c.tc.loc Cert.KernelIdeal.main_arg1))
      (m (c.tc.loc Cert.KernelIdeal.main_arg2)) (m (c.tc.loc Cert.KernelIdeal.main_arg3)) := by
  have H := h c
  dsimp only [Cert.Pre_finite.fn] at H
  obtain ⟨hp, ha, hw, hb, ho⟩ := H
  refine ⟨fun i j hj => rd_eq _ i j ?_, fun i j hj hj' => rd_eq _ i j ?_, fun i j => rd_eq _ i j (fin_of _ (congrFun hw (ix2 i j))),
    fun i => rd1_eq _ i (fin_of _ (congrFun hb (ix1 i))), fun i j => rd_eq _ i j (fin_of _ (congrFun ho (ix2 i j)))⟩
  · have e := fin_of _ (congrFun hp (ix2 i ⟨j.val, hj⟩))
    have e' : extractStridedSlice Cert.Pre_finite.S8192x4096 ![0, 0] (m (c.tc.loc Cert.KernelIdeal.main_arg0)) Cert.Pre_finite.Facts.slices_S8192x6272_S8192x4096_0_0
        (ix2 i ⟨j.val, hj⟩) = m (c.tc.loc Cert.KernelIdeal.main_arg0) (ix2 i j) := by
      refine congrArg (m (c.tc.loc Cert.KernelIdeal.main_arg0)) (funext fun d => Fin.ext ?_)
      match d with
      | ⟨0, _⟩ => exact Nat.zero_add _
      | ⟨1, _⟩ => exact Nat.zero_add _
    rwa [e'] at e
  · have e := fin_of _ (congrFun ha (ix2 i ⟨j.val - 6144, by omega⟩))
    have e' : extractStridedSlice Cert.Pre_finite.S8192x16 ![0, 6144] (m (c.tc.loc Cert.KernelIdeal.main_arg0)) Cert.Pre_finite.Facts.slices_S8192x6272_S8192x16_0_6144
        (ix2 i ⟨j.val - 6144, by omega⟩) = m (c.tc.loc Cert.KernelIdeal.main_arg0) (ix2 i j) := by
      refine congrArg (m (c.tc.loc Cert.KernelIdeal.main_arg0)) (funext fun d => Fin.ext ?_)
      match d with
      | ⟨0, _⟩ => exact Nat.zero_add _
      | ⟨1, _⟩ => exact Nat.add_sub_cancel' hj
    rwa [e'] at e

section
variable {x0 : (⟨2, ![8192, 6272]⟩ : Shape).Idx → EReal} {x1 : (⟨2, ![16, 1024]⟩ : Shape).Idx → EReal} {x2 : (⟨1, ![1024]⟩ : Shape).Idx → EReal}
  {x3 : (⟨2, ![8192, 2048]⟩ : Shape).Idx → EReal}

/-- The gate's input, read. -/
theorem Finite.gate (h : Finite x0 x1 x2 x3) (i : Fin 8192) (j : ℕ) (hj : j < 16) :
    x0 (ix2 i ⟨6144 + j, by omega⟩) = (((data x0 x1 x2 x3).a i j : ℝ) : EReal) := by
  rw [h.a _ _ (Nat.le_add_right _ _) (Nat.add_lt_add_left hj _)]
  exact congrArg _ (if_pos hj).symm

/-- What the reference is given. -/
theorem fed (h : Finite x0 x1 x2 x3) : Cert.ReferenceIdeal.Ref.Fed x0 x1 x2 x3 (data x0 x1 x2 x3) where
  q i hi := by
    obtain ⟨a, b, rfl⟩ := Prod.ix2_of i
    exact h.p a b (by have : b.val < 1024 := hi; omega)
  k i j hj e := by
    obtain ⟨a, b, rfl⟩ := Prod.ix2_of i
    have e' : b.val = 1024 + j := e
    rw [h.p a b (by omega), e']; rfl
  v i j hj e := by
    obtain ⟨a, b, rfl⟩ := Prod.ix2_of i
    have e' : b.val = 2048 + j := e
    rw [h.p a b (by omega), e']; rfl
  a i j hj e := by
    obtain ⟨a, b, rfl⟩ := Prod.ix2_of i
    have e' : b = ⟨6144 + j, by omega⟩ := Fin.ext e
    rw [e']; exact h.gate a j hj
  w i := by
    obtain ⟨a, b, rfl⟩ := Prod.ix2_of i
    exact h.w a b
  b i := by
    obtain ⟨a, rfl⟩ : ∃ a : Fin 1024, i = ix1 a := ⟨i 0, (ix1_eta i).symm⟩
    exact h.b a
  o i := by
    obtain ⟨a, b, rfl⟩ := Prod.ix2_of i
    exact h.o a b
end

end Cert.Alg

namespace Cert.KernelIdeal.Two
open Cert.KernelIdeal.Gen Cert.Real Cert.Alg
open Idealize.ShloMosaic Idealize.ShloMosaic.TcCoe Idealize.ShloMosaic.StableHlo
open Idealize.ShloMosaic.ValueIdx hiding ix1 ix2 ix3 ix4

variable (m : (ℓ : Loc nD τ sig) → Buf (Elt Ideal) ℓ) (c : Dev nD)

/-- The weight the two calls find: the argument's sixteen rows, then noughts. -/
theorem V3_v0 : V3 m c main_v0 = pad S128x1024 ![0, 0] ![112, 0] ![0, 0] (V0 m c main_arg1) (sitofp (F := Ideal) .f32 (constantI S_ 32 0#32))
    pads_S16x1024_S128x1024_01120_000 h_S_ := by
  refine (V3_of m c main_v0 (by decide)).trans ?_
  show after hostOps0_1 (after hostOps0 (V0 m c)) (Proc.devRef .tc main_v0) = _
  after_results
  rfl

/-- The offset the two calls find: the argument as one row. -/
theorem V3_v1 : V3 m c main_v1 = shapeCast S1x1024 (V0 m c main_arg2) shapeCasts_S1024_S1x1024 := by
  show after hostOps0_2 (after hostOps0_1 (after hostOps0 (V0 m c))) (Proc.devRef .tc main_v1) = _
  after_results
  rfl

/-- The sums the program ends with: of the eight rows the backward call leaves. -/
theorem V6_v4 (outs : Outs (F := Ideal)) : V6 m outs c main_v4 = Host.reduceAdd (F := Ideal) (V5 m outs c main_v3_2) (constant S_ .f32 0x00000000#32)
    reducesTo_S8x1024_S1024_d0 h_S_ := by
  show after hostOps2 (V5 m outs c) (Proc.devRef .tc main_v4) = _
  generalize V5 m outs c = W
  after_results

/-- An argument as the forward call finds it. -/
theorem W0_arg (b : Ref sig .tc) (h : b ∉ hostOps0_W ∧ b ∉ hostOps0_1_W ∧ b ∉ hostOps0_2_W) : W0 m c b = m (c.tc.loc b) :=
  (V3_of m c b h.2.2).trans ((V2_of m c b h.2.1).trans (V1_of m c b h.1))

section
variable {m c}
variable (h : Finite (m (c.tc.loc main_arg0)) (m (c.tc.loc main_arg1)) (m (c.tc.loc main_arg2)) (m (c.tc.loc main_arg3)))

/-- The real numbers the arguments hold. -/
abbrev D (m : (ℓ : Loc nD τ sig) → Buf (Elt Ideal) ℓ) (c : Dev nD) : Data :=
  data (m (c.tc.loc main_arg0)) (m (c.tc.loc main_arg1)) (m (c.tc.loc main_arg2)) (m (c.tc.loc main_arg3))

include h
/-- The padded weight. -/
theorem pad_eq (i : Fin 128) (j : Fin 1024) : V3 m c main_v0 (ix2 i j) = (((D m c).w i j : ℝ) : EReal) := by
  rw [V3_v0]
  by_cases hi : i.val < 16
  · rw [pad_apply_of_inside _ _ _ _ _ _ _ (ix2 i j) (ix2 ⟨i.val, hi⟩ j) (fun a => by
      match a with
      | ⟨0, _⟩ => show i.val = 0 + i.val * (0 + 1); omega
      | ⟨1, _⟩ => show j.val = 0 + j.val * (0 + 1); omega)]
    exact h.w ⟨i.val, hi⟩ j
  · rw [pad_apply_of_not_inside _ _ _ _ _ _ _ (ix2 i j) (0 : Fin 2) (fun hn => by
      have : (i.val - 0) / (0 + 1) < 16 := hn.2.2
      rw [Nat.sub_zero, Nat.div_one] at this
      exact hi this), (D m c).w0 _ _ (not_lt.1 hi)]
    show (((0#32 : BitVec 32).toInt : ℝ) : EReal) = _
    simp

/-- The offset as a row. -/
theorem row_eq (i : Fin 1) (j : Fin 1024) : V3 m c main_v1 (ix2 i j) = (((D m c).b j : ℝ) : EReal) := by
  rw [V3_v1]
  exact (shapeCast_a_1a_apply (m (c.tc.loc main_arg2)) _ i j).trans (h.b j)

/-- What a call is given, from the four buffers it reads. -/
theorem feeds (W : (c : Dev nD) → (b : Ref sig .tc) → Buf (Elt Ideal) ((c : Thread nD τ).loc b)) (h0 : W c main_arg0 = m (c.tc.loc main_arg0))
    (h1 : W c main_v0 = V3 m c main_v0) (h2 : W c main_v1 = V3 m c main_v1) (h3 : W c main_arg3 = m (c.tc.loc main_arg3)) : Feeds W c (D m c) where
  q i j := by rw [h0]; exact h.p i _ (by show j.val < _; omega)
  k i j := by rw [h0]; exact h.p i _ (by show 1024 + j.val < _; omega)
  v i j := by rw [h0]; exact h.p i _ (by show 2048 + j.val < _; omega)
  a i j := by rw [h0]; exact h.gate i j j.isLt
  w i j := by rw [h1]; exact pad_eq h i j
  b i j := by rw [h2]; exact row_eq h i j
  o i j := by rw [h3]; exact h.o i j

/-- What the forward call is given. -/
theorem feeds0 : Feeds (W0 m) c (D m c) :=
  feeds h (W0 m) (W0_arg m c main_arg0 (by decide)) rfl rfl (W0_arg m c main_arg3 (by decide))

omit h in
/-- A buffer the forward call leaves as it was. -/
theorem W1_of (b : Ref sig .tc) (hb : b ≠ main_v2_0 ∧ b ≠ main_v2_1) : W1 m c b = V3 m c b :=
  left0_of m c _ (devRef_ne_of_ne hb.1) (devRef_ne_of_ne hb.2)

/-- What the backward call is given. -/
theorem feeds1 : Feeds (W1 m) c (D m c) :=
  feeds h (W1 m) ((W1_of main_arg0 (by decide)).trans (W0_arg m c main_arg0 (by decide))) (W1_of main_v0 (by decide)) (W1_of main_v1 (by decide))
    ((W1_of main_arg3 (by decide)).trans (W0_arg m c main_arg3 (by decide)))

/-- The states the backward call is given. -/
theorem states1 (x : Fin 4) (t : Fin 64) (e : Fin 512) (d : Fin 256) : W1 m c main_v2_1 (ix4 x t e d) = (((D m c).st t x e d : ℝ) : EReal) := by
  show left0 m c main_v2_1 _ = _
  rw [left0_v2_1]
  exact Fwd.states (feeds0 h) x t e d

/-- The gradient of the projection where it is computed. -/
theorem dproj_eq (i : Fin 8192) (j : Fin 6272) (hj : j.val < 4096 ∨ 6144 ≤ j.val) :
    (D1 m c).arrAt 9 cfg1.N (ix2 i j) = (((D m c).gp i j : ℝ) : EReal) := by
  refine (Bwd.dproj (feeds1 h) (states1 h) i j hj).trans ?_
  rw [Data.step_eq _ _ (by omega), Data.dp_eq _ _ _ _ (by omega) (by omega), Nat.div_add_mod]

omit h in
/-- What is passed through. -/
theorem dproj_r_eq (i : Fin 8192) (j : Fin 2048) :
    (D1 m c).arrAt 9 cfg1.N (ix2 i ⟨4096 + j.val, by omega⟩) = m (c.tc.loc main_arg4) (ix2 i j) := by
  refine (Bwd.dproj_r (m := W1 m) i j).trans ?_
  rw [(W1_of main_arg4 (by decide)).trans (W0_arg m c main_arg4 (by decide))]

/-- The gradient of the gate's argument. -/
theorem dz_eq (i : Fin 8192) (j : Fin 1024) : (D1 m c).arrAt 10 cfg1.N (ix2 i j) = (((D m c).gz i j : ℝ) : EReal) := by
  refine (Bwd.dz (feeds1 h) (states1 h) i j).trans ?_
  rw [Data.step_eq _ _ (by omega), Data.dz_eq _ _ _ _ (by omega) (by omega), Nat.div_add_mod]

/-- The gradient of the gate's offset. -/
theorem db_eq (j : Fin 1024) : Vend m c main_v4 (ix1 j) = (((D m c).gb j : ℝ) : EReal) := by
  show V6 m (outs m) c main_v4 _ = _
  rw [V6_v4, V5_eq, left1_v3_2]
  simp only [Host.reduceAdd, Ideal.hostReduceAdd_def]
  rw [Ideal.hostReduceAdd_r2_a0]
  rw [← Data.acc_eq]
  exact Cert.ReferenceIdeal.Ref.sum_coe rfl (fun i => (D m c).acc 64 i j) fun k => Bwd.db (feeds1 h) (states1 h) k j

/-! ## The results -/

omit h in
/-- What is passed through, in both. -/
theorem passed_eq (i : Fin 8192) (j : Fin 6272) (k : Fin 2048) (hj : j = ⟨4096 + k.val, by omega⟩) : (D1 m c).arrAt 9 cfg1.N (ix2 i j)
    = Cert.ReferenceIdeal.Read.val_main_v93 (F := Ideal) (m (c.tc.loc main_arg0)) (m (c.tc.loc main_arg1))
      (m (c.tc.loc main_arg2)) (m (c.tc.loc main_arg3)) (m (c.tc.loc main_arg4)) (ix2 i j) := by
  subst hj
  exact (dproj_r_eq i k).trans (Cert.ReferenceIdeal.Ref.v93_r (ix2 i ⟨4096 + k.val, by omega⟩) k.val k.isLt rfl).symm

/-- The first result. -/
theorem res_v3_0 : Vend m c main_v3_0 = Cert.ReferenceIdeal.Read.val_main_v93 (F := Ideal) (m (c.tc.loc main_arg0)) (m (c.tc.loc main_arg1))
    (m (c.tc.loc main_arg2)) (m (c.tc.loc main_arg3)) (m (c.tc.loc main_arg4)) := by
  have e : Vend m c main_v3_0 = (D1 m c).arrAt 9 cfg1.N :=
    (V6_of m (outs m) c main_v3_0 (by decide)).trans ((congrFun (V5_eq m c) _).trans (left1_v3_0 m c))
  rw [e]
  funext x
  obtain ⟨i, j, rfl⟩ := Prod.ix2_of x
  by_cases hj : j.val < 4096 ∨ 6144 ≤ j.val
  · exact (dproj_eq h i j hj).trans (Cert.ReferenceIdeal.Ref.v93 (fed h) (ix2 i j) hj).symm
  · refine passed_eq i j ⟨j.val - 4096, by omega⟩ (Fin.ext ?_)
    show j.val = 4096 + (j.val - 4096)
    omega

/-- The second result. -/
theorem res_v3_1 : Vend m c main_v3_1 = Cert.ReferenceIdeal.Read.val_main_v94 (F := Ideal) (m (c.tc.loc main_arg0)) (m (c.tc.loc main_arg1))
    (m (c.tc.loc main_arg2)) (m (c.tc.loc main_arg3)) := by
  have e : Vend m c main_v3_1 = (D1 m c).arrAt 10 cfg1.N :=
    (V6_of m (outs m) c main_v3_1 (by decide)).trans ((congrFun (V5_eq m c) _).trans (left1_v3_1 m c))
  rw [e]
  funext x
  obtain ⟨i, j, rfl⟩ := Prod.ix2_of x
  exact (dz_eq h i j).trans (Cert.ReferenceIdeal.Ref.v94 (fed h) (ix2 i j)).symm

/-- The third result. -/
theorem res_v4 : Vend m c main_v4 = Cert.ReferenceIdeal.Read.val_main_v86 (F := Ideal) (m (c.tc.loc main_arg0)) (m (c.tc.loc main_arg1))
    (m (c.tc.loc main_arg2)) (m (c.tc.loc main_arg3)) := by
  funext x
  obtain ⟨j, rfl⟩ : ∃ j : Fin 1024, x = ix1 j := ⟨x 0, (ix1_eta x).symm⟩
  exact (db_eq h j).trans (Cert.ReferenceIdeal.Ref.v86 (fed h) (ix1 j)).symm
end

/-- The two programs, from finite arguments that agree, end with equal results. -/
theorem algebraic : Cert.algebraic_KernelIdeal_ReferenceIdeal_pre_finite := by
  intro m ρ m' ρ' hpre hag
  refine ⟨fun c => Vend m c main_v3_0, fun c => Vend m c main_v3_1, fun c => Vend m c main_v4, ?_, ?_⟩
  · exact (θ_run defs _ _).mono (fun _ h c =>
      ⟨h.1 c _ (mem_uc main_v3_0 rfl), h.1 c _ (mem_uc main_v3_1 rfl), h.1 c _ (mem_uc main_v4 rfl),
       (h.1 c _ (mem_uc main_arg0 rfl)).trans (V6_main_arg0 m (outs m) c), (h.1 c _ (mem_uc main_arg1 rfl)).trans (V6_main_arg1 m (outs m) c),
       (h.1 c _ (mem_uc main_arg2 rfl)).trans (V6_main_arg2 m (outs m) c), (h.1 c _ (mem_uc main_arg3 rfl)).trans (V6_main_arg3 m (outs m) c),
       (h.1 c _ (mem_uc main_arg4 rfl)).trans (V6_main_arg4 m (outs m) c)⟩) (run (F := Ideal) m ρ)
  · refine (θ_run Cert.ReferenceIdeal.defs _ _).mono (fun _ h c => ?_) (Cert.ReferenceIdeal.Value.run (F := Ideal) m' ρ')
    obtain ⟨a0, a1, a2, a3, a4⟩ := hag c
    obtain ⟨r0, r1, r2, hargs⟩ := h c
    have hf := finite_of m hpre c
    refine ⟨(r0.trans (Cert.ReferenceIdeal.Read.val_main_v93_eq (launchContents m' c))).trans ?_,
      (r1.trans (Cert.ReferenceIdeal.Read.val_main_v94_eq (launchContents m' c))).trans ?_,
      (r2.trans (Cert.ReferenceIdeal.Read.val_main_v86_eq (launchContents m' c))).trans ?_, hargs⟩
    · refine Eq.trans ?_ (res_v3_0 hf).symm
      rw [← a0, ← a1, ← a2, ← a3, ← a4]
    · refine Eq.trans ?_ (res_v3_1 hf).symm
      rw [← a0, ← a1, ← a2, ← a3]
    · refine Eq.trans ?_ (res_v4 hf).symm
      rw [← a0, ← a1, ← a2, ← a3]

end Cert.KernelIdeal.Two
-- ==== Proof.Same.lean ====
module
public import proofs.«01_k».proof.Defs
public import proofs.«01_k».proof.Proof.Gen.Kernel
public import proofs.«01_k».proof.Proof.Gen.KernelIdeal
public import Idealize.ShloMosaic.Adequacy
@[expose] public section
set_option maxRecDepth 100000
namespace Cert.Same
open Idealize.ShloMosaic

attribute [local instance] Cert.Kernel.Gen.facts Cert.KernelIdeal.Gen.facts

/-- The two texts of the forward call's body are one. -/
theorem e0 : Cert.Kernel.cc0_gla_1 (F := Bits) = Cert.KernelIdeal.cc0_gla_1 := rfl
/-- The two texts of the backward call's body are one. -/
theorem e1 : Cert.Kernel.cc1_gla_bwd_1 (F := Bits) = Cert.KernelIdeal.cc1_gla_bwd_1 := rfl
set_option maxHeartbeats 2000000 in
/-- So the first label runs one body. -/
theorem a0 (a) : Cert.Kernel.defs₀ (F := Bits) .tc (0 : Fin 2) a = Cert.KernelIdeal.defs₀ (F := Bits) .tc (0 : Fin 2) a := by
  obtain ⟨t, s⟩ := a
  exact congrFun (congrFun (congrFun (congrFun (congrFun (congrFun (congrFun (congrFun (congrFun (congrFun (congrFun (congrFun (congrFun (congrFun (congrFun (congrFun (congrFun (congrFun (congrFun e0 _) _) _) _) _) _) _) _) _) _) _) _) _) _) _) _) _) _) _
set_option maxHeartbeats 2000000 in
/-- And so does the second. -/
theorem a1 (a) : Cert.Kernel.defs₀ (F := Bits) .tc (1 : Fin 2) a = Cert.KernelIdeal.defs₀ (F := Bits) .tc (1 : Fin 2) a := by
  obtain ⟨t, s⟩ := a
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun e1 _) _) _) _) _) _) _) _) _) _) _) _) _) _) _) _) _) _) _) _) _) _) _) _) _) _) _) _) _
set_option maxHeartbeats 2000000 in
/-- The bodies of the two programs are the same. -/
theorem defs₀_eq : Cert.Kernel.defs₀ (F := Bits) = Cert.KernelIdeal.defs₀ := by
  funext κ
  match κ with
  | .tc =>
    funext l a
    match l with
    | ⟨0, _⟩ => exact a0 a
    | ⟨1, _⟩ => exact a1 a
  | .scScalar _ => rfl
  | .scVector _ _ => rfl
/-- The definitions of the two programs are the same. -/
theorem defs_eq : Cert.Kernel.defs (F := Bits) = Cert.KernelIdeal.defs := congrArg (Pipeline.defs Cert.Kernel.pcfgs) defs₀_eq
end Cert.Same
-- ==== Proof.ActRun.lean ====
module
public import proofs.«01_k».proof.Proof.Gen.ActIdeal.Frame
/-!
# What a run of the activation's two calls leaves

The launch of the program, told to keep every buffer's contents at the end and not the arguments' alone.
-/
@[expose] public section
set_option maxRecDepth 16384
noncomputable section
namespace Cert.ActIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends, with every unscoped buffer at the contents the fold through the two calls gives it. -/
theorem ends : θ_run defs (onTc (τ := τ) (main (F := F))) ⟨m, fun _ => 0, ρ⟩ (fun r => ∀ c : Dev nD, ∀ b ∈ Pipeline.ucRefs τ sig,
      r.2.mem ((c : Thread nD τ).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

end Cert.ActIdeal.Gen
end
-- ==== Proof.ActMath.lean ====
module
public import proofs.«01_k».proof.Proof.Prod
public import proofs.«01_k».proof.Proof.Alg
/-!
# The gated activation and its gradient as formulas

Entries of the two products, the gate, and the gradient in the form the kernel computes and in the form the chain rule
gives: over real numbers the two agree.
-/
@[expose] public section
set_option maxRecDepth 16384
noncomputable section
namespace Cert.Act
open Cert.Prod
open Idealize.ShloMosaic
open Cert.ReferenceIdeal.Ref

/-- The gate: one over one more than the exponential of the negated number. -/
def gate (x : EReal) : EReal := FloatOps.hostDivf (F := Ideal) (φ := .f32) (FloatOps.ofBits .f32 0x3F800000#32)
  (FloatOps.addf (F := Ideal) (φ := .f32) (FloatOps.ofBits .f32 0x3F800000#32)
    (FloatOps.hostUnary (F := Ideal) (φ := .f32) .exp (FloatOps.hostNegf (F := Ideal) (φ := .f32) x)))

/-- The number one. -/
def one : EReal := FloatOps.ofBits (F := Ideal) .f32 0x3F800000#32

/-- It is one. -/
theorem one_eq : one = ((1 : ℝ) : EReal) := Cert.Rep.lit_one

/-- The gate with its argument subtracted from nought. -/
theorem gate_sub (x : EReal) : Ideal.div one (one + Ideal.exp (Ideal.ofBits .f32 0x00000000#32 - x)) = gate x := by
  rw [Ideal.ofBits_zero_f32, zero_sub]
  rfl

/-- The gate of a real number is a real number. -/
theorem gate_coe (r : ℝ) : gate (r : EReal) = ((1 / (1 + Real.exp (-r)) : ℝ) : EReal) := by
  unfold gate
  rw [show FloatOps.ofBits (F := Ideal) .f32 0x3F800000#32 = ((1 : ℝ) : EReal) from Cert.Rep.lit_one, neg_coe, exp_coe, add_coe]
  show Ideal.div _ _ = _
  rw [Ideal.div_coe (by positivity), ← EReal.coe_mul, one_mul]

/-- The gradient at a gate, as the kernel has it. -/
def gradK (d g u : EReal) : EReal := d * u * (gate g * (one + g * (one - gate g)))

/-- The gradient at a gate, as the chain rule gives it. -/
def gradR (d g u : EReal) : EReal := d * u * gate g + g * (d * u) * (gate g * (one - gate g))

/-- Over real numbers the two are the same. -/
theorem grad_eq (d g u : ℝ) : gradK d g u = gradR d g u := by
  unfold gradK gradR
  rw [gate_coe, one_eq]
  norm_cast
  ring

/-- An entry of the first product. -/
def pre (h : (⟨2, ![8192, 2048]⟩ : Shape).Idx → EReal) (w : (⟨2, ![2048, 11264]⟩ : Shape).Idx → EReal) (i n : ℕ) : EReal :=
  ∑ k : Fin 2048, elem h i k * elem w k n

/-- An entry of the gradient's product. -/
def back (dy : (⟨2, ![8192, 2048]⟩ : Shape).Idx → EReal) (w : (⟨2, ![5632, 2048]⟩ : Shape).Idx → EReal) (i n : ℕ) : EReal :=
  ∑ k : Fin 2048, elem dy i k * elem w n k

/-- Sums of products of real numbers are real numbers. -/
theorem sum_real (f g : Fin 2048 → EReal) (hf : ∀ k, ∃ r : ℝ, f k = r) (hg : ∀ k, ∃ r : ℝ, g k = r) : ∃ r : ℝ, ∑ k, f k * g k = r := by
  choose a ha using hf
  choose b hb using hg
  refine ⟨∑ k, a k * b k, ?_⟩
  rw [Cert.Rep.coe_sum]
  exact Finset.sum_congr rfl fun k _ => by rw [ha, hb, EReal.coe_mul]

/-- An entry of a matrix of real numbers, or nought. -/
theorem elem_real {n0 n1 : ℕ} {x : (⟨2, ![n0, n1]⟩ : Shape).Idx → EReal} (hx : ∀ i, ∃ r : ℝ, x i = r) (i j : ℕ) : ∃ r : ℝ, elem x i j = r := by
  unfold elem
  split
  · exact hx _
  · exact ⟨0, EReal.coe_zero.symm⟩

/-- A gradient's entry: columns of the gate's half, then the other half's. -/
def grad (f : EReal → EReal → EReal → EReal) (h : (⟨2, ![8192, 2048]⟩ : Shape).Idx → EReal) (w : (⟨2, ![2048, 11264]⟩ : Shape).Idx → EReal)
    (wo : (⟨2, ![5632, 2048]⟩ : Shape).Idx → EReal) (dy : (⟨2, ![8192, 2048]⟩ : Shape).Idx → EReal) (i n : ℕ) : EReal :=
  if n < 5632 then f (back dy wo i n) (pre h w i n) (pre h w i (5632 + n))
  else back dy wo i (n - 5632) * pre h w i (n - 5632) * gate (pre h w i (n - 5632))

/-- From matrices of real numbers the kernel's form and the chain rule's agree. -/
theorem grad_form {h : (⟨2, ![8192, 2048]⟩ : Shape).Idx → EReal} {w : (⟨2, ![2048, 11264]⟩ : Shape).Idx → EReal}
    {wo : (⟨2, ![5632, 2048]⟩ : Shape).Idx → EReal} {dy : (⟨2, ![8192, 2048]⟩ : Shape).Idx → EReal}
    (hh : ∀ i, ∃ r : ℝ, h i = r) (hw : ∀ i, ∃ r : ℝ, w i = r) (ho : ∀ i, ∃ r : ℝ, wo i = r) (hd : ∀ i, ∃ r : ℝ, dy i = r) (i n : ℕ) :
    grad gradK h w wo dy i n = grad gradR h w wo dy i n := by
  unfold grad
  split
  · obtain ⟨d, e⟩ : ∃ r : ℝ, back dy wo i n = r := sum_real _ _ (fun k => elem_real hd _ _) (fun k => elem_real ho _ _)
    obtain ⟨g, e'⟩ : ∃ r : ℝ, pre h w i n = r := sum_real _ _ (fun k => elem_real hh _ _) (fun k => elem_real hw _ _)
    obtain ⟨u, e''⟩ : ∃ r : ℝ, pre h w i (5632 + n) = r := sum_real _ _ (fun k => elem_real hh _ _) (fun k => elem_real hw _ _)
    rw [e, e', e'', grad_eq]
  · rfl

end Cert.Act
end
-- ==== Proof.ActVal.lean ====
module
public import proofs.«01_k».proof.Proof.ActRun
public import proofs.«01_k».proof.Proof.ActMath
public import Idealize.ShloMosaic.Lib.StableHlo.Run
public import Idealize.ShloMosaic.Lib.Pipeline.ReadBack
/-!
# The three arrays the two calls leave

The forward call's products and activation, and the gradient that the backward call forms from those products.
-/
@[expose] public section
set_option maxRecDepth 16384
noncomputable section
namespace Cert.ActIdeal.Gen
open Cert.Prod Cert.Act
open Idealize.ShloMosaic Idealize.ShloMosaic.TcCoe Idealize.ShloMosaic.Tactic
variable (m : (ℓ : Loc nD τ sig) → Buf (Elt Ideal) ℓ) (ρ : Dev nD → PrngReg) (c : Dev nD)

/-! ## The buffers as the calls find them -/

/-- The first weight: rounded and cut in four shards. -/
theorem found_w : V1 m ρ c main_v2 = transpose S4x2048x2816 [1, 0, 2]
    (shapeCast S2048x4x2816 (truncf (F := Ideal) (φ := .f32) .bf16 (m (c.tc.loc main_arg1)) bitsLt_bf16_f32) shapeCasts_S2048x11264_S2048x4x2816)
    transposes_S2048x4x2816_S4x2048x2816_1_0_2 := by
  show StableHlo.after hostOps0 (W0 m ρ c) (Proc.devRef .tc main_v2) = _
  unfold hostOps0
  after_results <;> rfl

/-- The second weight: rounded and cut in four tiles of rows. -/
theorem found_o : V1 m ρ c main_v4 = shapeCast S4x1408x2048 (truncf (F := Ideal) (φ := .f32) .bf16 (m (c.tc.loc main_arg2)) bitsLt_bf16_f32)
    shapeCasts_S5632x2048_S4x1408x2048 := by
  show StableHlo.after hostOps0 (W0 m ρ c) (Proc.devRef .tc main_v4) = _
  unfold hostOps0
  after_results <;> rfl

/-- The backward call finds the second weight as the forward call did. -/
theorem kept_o : V2 m ρ c main_v4 = V1 m ρ c main_v4 := W2_of m ρ c main_v4 (by decide +kernel)

/-- Where the forward call's windows lie. -/
theorem at_0 : ∀ t : Fin cfg0.N, win0_0.index t 0 = t.val % 16 ∧ win0_0.index t 1 = 0 := by decide +kernel
@[inherit_doc at_0]
theorem at_1 : ∀ t : Fin cfg0.N, win0_1.index t 0 = t.val / 32 ∧ win0_1.index t 1 = 0 ∧ win0_1.index t 2 = t.val / 16 % 2 := by decide +kernel
@[inherit_doc at_0]
theorem at_2 : ∀ t : Fin cfg0.N, win0_2.index t 0 = 2 + t.val / 32 ∧ win0_2.index t 1 = 0 ∧ win0_2.index t 2 = t.val / 16 % 2 := by decide +kernel
@[inherit_doc at_0]
theorem at_3 : ∀ t : Fin cfg0.N, win0_3.index t 0 = t.val % 16 ∧ win0_3.index t 1 = t.val / 16 := by decide +kernel
@[inherit_doc at_0]
theorem at_4 : ∀ t : Fin cfg0.N, win0_4.index t 0 = t.val % 16 ∧ win0_4.index t 1 = t.val / 16 := by decide +kernel

/-- Where the backward call's windows lie. -/
theorem at1_0 : ∀ t : Fin cfg1.N, win1_0.index t 0 = t.val % 16 ∧ win1_0.index t 1 = 0 := by decide +kernel
@[inherit_doc at1_0]
theorem at1_1 : ∀ t : Fin cfg1.N, win1_1.index t 0 = t.val / 16 ∧ win1_1.index t 1 = 0 ∧ win1_1.index t 2 = 0 := by decide +kernel
@[inherit_doc at1_0]
theorem at1_2 : ∀ t : Fin cfg1.N, win1_2.index t 0 = t.val % 16 ∧ win1_2.index t 1 = t.val / 16 := by decide +kernel
@[inherit_doc at1_0]
theorem at1_3 : ∀ t : Fin cfg1.N, win1_3.index t 0 = t.val % 16 ∧ win1_3.index t 1 = t.val / 16 := by decide +kernel

/-! ## The forward call -/

/-- The hidden state's block. -/
theorem blk_0 (t : Fin cfg0.N) (i : Fin 512) (k : Fin 2048) :
    iblk0 (V1 m ρ) c 0 t (ix2 i k) = elem (m (c.tc.loc main_arg0)) (512 * (t.val % 16) + i) k := by
  have ht : t.val < 64 := t.isLt
  rw [elem_at _ (by omega) (by omega)]
  unfold iblk0
  blk_simp
  show V1 m ρ c main_arg0 _ = _
  rw [show V1 m ρ c main_arg0 = m (c.tc.loc main_arg0) from W1_args m ρ c main_arg0 (by decide)]
  congr 1; funext d; apply Fin.ext
  refine (win0_0.rect_emb_val t _ d).trans ?_
  match d with
  | ⟨0, _⟩ => have := (at_0 t).1; simp [this]; omega
  | ⟨1, _⟩ => have := (at_0 t).2; simp [this]

/-- The gate half's weight. -/
theorem blk_1 (t : Fin cfg0.N) (s : Fin 1) (k : Fin 2048) (j : Fin 1408) :
    iblk0 (V1 m ρ) c 1 t (ix3 s k j) = elem (m (c.tc.loc main_arg1)) k (1408 * (t.val / 16) + j) := by
  have ht : t.val < 64 := t.isLt
  rw [elem_at _ (by omega) (by omega)]
  unfold iblk0
  blk_simp
  show V1 m ρ c main_v2 _ = _
  rw [found_w]
  refine Eq.trans (congrArg _ ?_) ((shards_at _ _ _ ⟨t.val / 32, by omega⟩ k
    ⟨1408 * (t.val / 16 % 2) + j, by omega⟩).trans (congrArg (m (c.tc.loc main_arg1)) (congrArg _ (Fin.ext ?_))))
  · funext d; apply Fin.ext
    refine (win0_1.rect_emb_val t _ d).trans ?_
    match d with
    | ⟨0, _⟩ => have := (at_1 t).1; simp [this]
    | ⟨1, _⟩ => have := (at_1 t).2.1; simp [this]
    | ⟨2, _⟩ => have := (at_1 t).2.2; simp [this]; omega
  · dsimp only
    omega

/-- The other half's weight. -/
theorem blk_2 (t : Fin cfg0.N) (s : Fin 1) (k : Fin 2048) (j : Fin 1408) :
    iblk0 (V1 m ρ) c 2 t (ix3 s k j) = elem (m (c.tc.loc main_arg1)) k (5632 + (1408 * (t.val / 16) + j)) := by
  have ht : t.val < 64 := t.isLt
  rw [elem_at _ (by omega) (by omega)]
  unfold iblk0
  blk_simp
  show V1 m ρ c main_v2 _ = _
  rw [found_w]
  refine Eq.trans (congrArg _ ?_) ((shards_at _ _ _ ⟨2 + t.val / 32, by omega⟩ k
    ⟨1408 * (t.val / 16 % 2) + j, by omega⟩).trans (congrArg (m (c.tc.loc main_arg1)) (congrArg _ (Fin.ext ?_))))
  · funext d; apply Fin.ext
    refine (win0_2.rect_emb_val t _ d).trans ?_
    match d with
    | ⟨0, _⟩ => have := (at_2 t).1; simp [this]
    | ⟨1, _⟩ => have := (at_2 t).2.1; simp [this]
    | ⟨2, _⟩ => have := (at_2 t).2.2; simp [this]; omega
  · dsimp only
    omega

/-- A load of the whole of a block. -/
theorem whole2 {n0 n1 : ℕ} {e : EltTy} (x : (⟨2, ![n0, n1]⟩ : Shape).Idx → Elt Ideal e) (inb : _) (i : Fin n0) (k : Fin n1) :
    View.ld (Val := Elt Ideal) (e' := e) x (Rect.unit ![0, 0] ![n0, n1] inb) (ix2 i k) = x (ix2 i k) :=
  View.ld_unit_apply_of _ _ _ inb (ix2 i k) (ix2 i k) (fun a => by match a with | ⟨0, _⟩ => simp | ⟨1, _⟩ => simp)

@[inherit_doc whole2]
theorem whole3 {n0 n1 n2 : ℕ} {e : EltTy} (x : (⟨3, ![n0, n1, n2]⟩ : Shape).Idx → Elt Ideal e) (inb : _) (i : Fin n0) (k : Fin n1) (j : Fin n2) :
    View.ld (Val := Elt Ideal) (e' := e) x (Rect.unit ![0, 0, 0] ![n0, n1, n2] inb) (ix3 i k j) = x (ix3 i k j) :=
  View.ld_unit_apply_of _ _ _ inb (ix3 i k j) (ix3 i k j) (fun a => by match a with | ⟨0, _⟩ => simp | ⟨1, _⟩ => simp | ⟨2, _⟩ => simp)

/-- One tile's product, its operands' elements named. -/
theorem prod (x : FVec Ideal S512x2048 .bf16) (y : FVec Ideal S1x2048x1408 .bf16) (h : _) (i : Fin 512) (j : Fin 1408) (l r : Fin 2048 → EReal)
    (hl : ∀ k, x (ix2 i k) = l k) (hr : ∀ k, y (ix3 0 k j) = r k) :
    matmul dot_S512x2048_S2048x1408_S512x1408_1_0_0_1_n_n none x (shapeCast S2048x1408 y h) (constant (F := Ideal) S512x1408 .f32 0x00000000#32) (ix2 i j)
      = ∑ k, l k * r k :=
  matmul_at dot_S512x2048_S2048x1408_S512x1408_1_0_0_1_n_n (ax := 1) rfl rfl x (shapeCast S2048x1408 y h) (ix2 i j) l r
    (fun k => by simp only [pointwise]; exact hl k) (fun k => by simp only [pointwise]; exact hr k)

/-- The gate's product at a point. -/
theorem pay_1 (t : Fin cfg0.N) (i : Fin 512) (j : Fin 1408) :
    k0_pay1 (View.ld (iblk0 (V1 m ρ) c 0 t) r0_0) (View.ld (iblk0 (V1 m ρ) c 1 t) r0_1) (ix2 i j)
      = pre (m (c.tc.loc main_arg0)) (m (c.tc.loc main_arg1)) (512 * (t.val % 16) + i) (1408 * (t.val / 16) + j) :=
  prod _ _ shapeCasts_S1x2048x1408_S2048x1408 i j _ _ (fun k => (whole2 _ _ i k).trans (blk_0 m ρ c t i k)) (fun k => (whole3 _ _ 0 k j).trans (blk_1 m ρ c t 0 k j))

/-- The other half's product at a point. -/
theorem pay_2 (t : Fin cfg0.N) (i : Fin 512) (j : Fin 1408) :
    k0_pay2 (View.ld (iblk0 (V1 m ρ) c 0 t) r0_0) (View.ld (iblk0 (V1 m ρ) c 2 t) r0_1) (ix2 i j)
      = pre (m (c.tc.loc main_arg0)) (m (c.tc.loc main_arg1)) (512 * (t.val % 16) + i) (5632 + (1408 * (t.val / 16) + j)) :=
  prod _ _ shapeCasts_S1x2048x1408_S2048x1408 i j _ _ (fun k => (whole2 _ _ i k).trans (blk_0 m ρ c t i k)) (fun k => (whole3 _ _ 0 k j).trans (blk_2 m ρ c t 0 k j))

/-- The activation from the two products. -/
theorem pay_5 (x : Vec Ideal S512x2048 .bf16) (y z : Vec Ideal S1x2048x1408 .bf16) (j : S512x1408.Idx) :
    k0_pay5 x y z j = Mul.mul (α := EReal) (Mul.mul (α := EReal) (k0_pay1 x y j) (gate (k0_pay1 x y j))) (k0_pay2 x z j) := by
  rw [← gate_sub]
  rfl

/-- Two stores side by side, read back. -/
theorem side (p q : Vec Ideal S512x1408 .bf16) (i : Fin 512) (n : Fin 2816) :
    View.canon (Val := Elt Ideal) [⟨r0_3, p⟩, ⟨r0_2, q⟩] (ix2 i n)
      = if h : n.val < 1408 then q (ix2 i ⟨n.val, h⟩) else p (ix2 i ⟨n.val - 1408, by omega⟩) := by
  refine (Cert.Rep.canon_col (o := 1408) (w := 1408) i n).trans ?_
  by_cases h : n.val < 1408
  · rw [dif_neg (by omega), dif_pos h]
    refine (Cert.Rep.canon_col (o := 0) (w := 1408) i n).trans ?_
    rw [dif_pos (by omega)]
    rfl
  · rw [dif_pos (by omega), dif_neg h]

/-- The products, laid out in pairs of tiles. -/
theorem result_u (i : Fin 8192) (n : Fin 11264) : (dat0 (V1 m ρ) c).arrAt 3 cfg0.N (ix2 i n)
    = pre (m (c.tc.loc main_arg0)) (m (c.tc.loc main_arg1)) i.val (source n.val) := by
  refine (dat0 (V1 m ρ) c).arrAt_forall_of_covers 3 (fun x v => v = pre (m (c.tc.loc main_arg0)) (m (c.tc.loc main_arg1)) (x 0).val (source (x 1).val))
    (by decide +kernel) (fun t hf y => ?_) (ix2 i n)
  blk_simp
  rw [after0_3]
  obtain ⟨i, n, rfl⟩ := ix2_of y
  have ht : t.val < 64 := t.isLt
  obtain ⟨h0, h1⟩ := at_3 t
  unfold out0_3
  refine (side _ _ i n).trans ?_
  rw [h0, h1]
  have e0 : t.val % 16 * 512 + i.val = 512 * (t.val % 16) + i.val := by omega
  split
  · refine (pay_1 m ρ c t i ⟨n.val, by assumption⟩).trans (congrArg₂ _ e0.symm ?_)
    show _ = source (t.val / 16 * 2816 + n.val)
    unfold source
    dsimp only
    omega
  · refine (pay_2 m ρ c t i ⟨n.val - 1408, by omega⟩).trans (congrArg₂ _ e0.symm ?_)
    show _ = source (t.val / 16 * 2816 + n.val)
    unfold source
    dsimp only
    omega

/-- The activation. -/
theorem result_a (i : Fin 8192) (n : Fin 5632) : (dat0 (V1 m ρ) c).arrAt 4 cfg0.N (ix2 i n)
    = pre (m (c.tc.loc main_arg0)) (m (c.tc.loc main_arg1)) i.val n.val * gate (pre (m (c.tc.loc main_arg0)) (m (c.tc.loc main_arg1)) i.val n.val)
      * pre (m (c.tc.loc main_arg0)) (m (c.tc.loc main_arg1)) i.val (5632 + n.val) := by
  refine (dat0 (V1 m ρ) c).arrAt_forall_of_covers 4 (fun x v => v = pre (m (c.tc.loc main_arg0)) (m (c.tc.loc main_arg1)) (x 0).val (x 1).val
      * gate (pre (m (c.tc.loc main_arg0)) (m (c.tc.loc main_arg1)) (x 0).val (x 1).val)
      * pre (m (c.tc.loc main_arg0)) (m (c.tc.loc main_arg1)) (x 0).val (5632 + (x 1).val))
    (by decide +kernel) (fun t hf y => ?_) (ix2 i n)
  blk_simp
  rw [after0_4]
  obtain ⟨i, n, rfl⟩ := ix2_of y
  obtain ⟨h0, h1⟩ := at_4 t
  unfold out0_4
  refine (Cert.Rep.canon_col (o := 0) (w := 1408) i n).trans ?_
  rw [dif_pos (by omega), h0, h1]
  refine (pay_5 _ _ _ _).trans ?_
  refine (congrArg₂ (fun a b : EReal => a * gate a * b) (pay_1 m ρ c t i n) (pay_2 m ρ c t i n)).trans ?_
  show _ = pre _ _ (t.val % 16 * 512 + i.val) (t.val / 16 * 1408 + n.val) * gate (pre _ _ (t.val % 16 * 512 + i.val) (t.val / 16 * 1408 + n.val))
    * pre _ _ (t.val % 16 * 512 + i.val) (5632 + (t.val / 16 * 1408 + n.val))
  rw [Nat.mul_comm (t.val % 16) 512, Nat.mul_comm (t.val / 16) 1408]

/-! ## The backward call -/

/-- The gradient's block. -/
theorem blk1_0 (t : Fin cfg1.N) (i : Fin 512) (k : Fin 2048) :
    iblk1 (V2 m ρ) c 0 t (ix2 i k) = elem (m (c.tc.loc main_arg3)) (512 * (t.val % 16) + i) k := by
  have ht : t.val < 64 := t.isLt
  rw [elem_at _ (by omega) (by omega)]
  unfold iblk1
  blk_simp
  show V2 m ρ c main_arg3 _ = _
  rw [show V2 m ρ c main_arg3 = m (c.tc.loc main_arg3) from W2_args m ρ c main_arg3 (by decide)]
  congr 1; funext d; apply Fin.ext
  refine (win1_0.rect_emb_val t _ d).trans ?_
  match d with
  | ⟨0, _⟩ => have := (at1_0 t).1; simp [this]; omega
  | ⟨1, _⟩ => have := (at1_0 t).2; simp [this]

/-- The second weight's block. -/
theorem blk1_1 (t : Fin cfg1.N) (s : Fin 1) (j : Fin 1408) (k : Fin 2048) :
    iblk1 (V2 m ρ) c 1 t (ix3 s j k) = elem (m (c.tc.loc main_arg2)) (1408 * (t.val / 16) + j) k := by
  have ht : t.val < 64 := t.isLt
  rw [elem_at _ (by omega) (by omega)]
  unfold iblk1
  blk_simp
  show V2 m ρ c main_v4 _ = _
  rw [kept_o, found_o]
  refine Eq.trans (congrArg _ ?_) (shapeCast_apply _ _ (ix3 ⟨t.val / 16, by omega⟩ j k) (ix2 ⟨1408 * (t.val / 16) + j, by omega⟩ k) ?_)
  · funext d; apply Fin.ext
    refine (win1_1.rect_emb_val t _ d).trans ?_
    match d with
    | ⟨0, _⟩ => have := (at1_1 t).1; simp [this]
    | ⟨1, _⟩ => have := (at1_1 t).2.1; simp [this]
    | ⟨2, _⟩ => have := (at1_1 t).2.2; simp [this]
  · rw [Shape.rowMajor_val_two, Shape.rowMajor_val_three]
    simp
    omega

/-- The products' block: the forward call's result. -/
theorem blk1_2 (t : Fin cfg1.N) (i : Fin 512) (n : Fin 2816) : iblk1 (V2 m ρ) c 2 t (ix2 i n)
    = pre (m (c.tc.loc main_arg0)) (m (c.tc.loc main_arg1)) (512 * (t.val % 16) + i) (source (2816 * (t.val / 16) + n)) := by
  have ht : t.val < 64 := t.isLt
  unfold iblk1
  blk_simp
  show V2 m ρ c main_v5_0 _ = _
  rw [show V2 m ρ c main_v5_0 = (dat0 (V1 m ρ) c).arrAt 3 cfg0.N from W2_arr m ρ c 3]
  refine Eq.trans (congrArg _ ?_) (result_u m ρ c ⟨512 * (t.val % 16) + i, by omega⟩ ⟨2816 * (t.val / 16) + n, by omega⟩)
  funext d; apply Fin.ext
  refine (win1_2.rect_emb_val t _ d).trans ?_
  match d with
  | ⟨0, _⟩ => have := (at1_2 t).1; simp [this]; omega
  | ⟨1, _⟩ => have := (at1_2 t).2; simp [this]; omega

/-- The gate's half of the products' block. -/
theorem ld_g (t : Fin cfg1.N) (i : Fin 512) (j : Fin 1408) : View.ld (Val := Elt Ideal) (e' := .bf16) (iblk1 (V2 m ρ) c 2 t) r1_2 (ix2 i j)
    = pre (m (c.tc.loc main_arg0)) (m (c.tc.loc main_arg1)) (512 * (t.val % 16) + i) (1408 * (t.val / 16) + j) := by
  have ht : t.val < 64 := t.isLt
  refine (View.ld_unit_apply_of (S := S512x2816) _ _ _ inb_S512x2816_S512x1408_0_0 (ix2 i j) (ix2 i (⟨j, by omega⟩ : Fin 2816)) (fun a => by match a with | ⟨0, _⟩ => simp | ⟨1, _⟩ => simp)).trans ?_
  refine (blk1_2 m ρ c t i ⟨j, by omega⟩).trans (congrArg _ ?_)
  unfold source
  dsimp only
  omega

/-- The other half of it. -/
theorem ld_u (t : Fin cfg1.N) (i : Fin 512) (j : Fin 1408) : View.ld (Val := Elt Ideal) (e' := .bf16) (iblk1 (V2 m ρ) c 2 t) r1_3 (ix2 i j)
    = pre (m (c.tc.loc main_arg0)) (m (c.tc.loc main_arg1)) (512 * (t.val % 16) + i) (5632 + (1408 * (t.val / 16) + j)) := by
  have ht : t.val < 64 := t.isLt
  refine (View.ld_unit_apply_of (S := S512x2816) _ _ _ inb_S512x2816_S512x1408_0_1408 (ix2 i j) (ix2 i (⟨1408 + j, by omega⟩ : Fin 2816)) (fun a => by match a with | ⟨0, _⟩ => simp | ⟨1, _⟩ => simp)).trans ?_
  refine (blk1_2 m ρ c t i ⟨1408 + j, by omega⟩).trans (congrArg _ ?_)
  unfold source
  dsimp only
  omega

/-- One tile's product with the second weight, its operands' elements named. -/
theorem prod1 (x : FVec Ideal S512x2048 .bf16) (y : FVec Ideal S1x1408x2048 .bf16) (h : _) (i : Fin 512) (j : Fin 1408) (l r : Fin 2048 → EReal)
    (hl : ∀ k, x (ix2 i k) = l k) (hr : ∀ k, y (ix3 0 j k) = r k) :
    matmul dot_S512x2048_S1408x2048_S512x1408_1_1_0_0_n_n none x (shapeCast S1408x2048 y h) (constant (F := Ideal) S512x1408 .f32 0x00000000#32) (ix2 i j)
      = ∑ k, l k * r k :=
  matmul_at dot_S512x2048_S1408x2048_S512x1408_1_1_0_0_n_n (ax := 1) rfl rfl x (shapeCast S1408x2048 y h) (ix2 i j) l r
    (fun k => by simp only [pointwise]; exact hl k) (fun k => by simp only [pointwise]; exact hr k)

/-- The gradient's product at a point. -/
theorem pay1_1 (t : Fin cfg1.N) (i : Fin 512) (j : Fin 1408) :
    k1_pay1 (View.ld (iblk1 (V2 m ρ) c 0 t) r1_0) (View.ld (iblk1 (V2 m ρ) c 1 t) r1_1) (ix2 i j)
      = back (m (c.tc.loc main_arg3)) (m (c.tc.loc main_arg2)) (512 * (t.val % 16) + i) (1408 * (t.val / 16) + j) :=
  prod1 _ _ shapeCasts_S1x1408x2048_S1408x2048 i j _ _ (fun k => (whole2 _ _ i k).trans (blk1_0 m ρ c t i k)) (fun k => (whole3 _ _ 0 j k).trans (blk1_1 m ρ c t 0 j k))

/-- The gate at an entry. -/
theorem pay1_3 (z : Vec Ideal S512x1408 .bf16) (j : S512x1408.Idx) : k1_pay3 z j = gate (z j) := by
  rw [← gate_sub]
  unfold k1_pay3 k1_pay2
  rw [shapeCast_self]
  rfl

/-- The gate's half of the gradient from the product and the two halves. -/
theorem pay1_4 (x : Vec Ideal S512x2048 .bf16) (y : Vec Ideal S1x1408x2048 .bf16) (z u : Vec Ideal S512x1408 .bf16) (j : S512x1408.Idx) :
    k1_pay4 x y z u j = gradK (k1_pay1 x y j) (z j) (u j) := by
  unfold gradK
  rw [← pay1_3]
  unfold k1_pay4 k1_pay2
  rw [shapeCast_self, shapeCast_self]
  rfl

/-- The other half of the gradient. -/
theorem pay1_5 (x : Vec Ideal S512x2048 .bf16) (y : Vec Ideal S1x1408x2048 .bf16) (z : Vec Ideal S512x1408 .bf16) (j : S512x1408.Idx) :
    k1_pay5 x y z j = Mul.mul (α := EReal) (Mul.mul (α := EReal) (k1_pay1 x y j) (z j)) (gate (z j)) := by
  rw [← pay1_3]
  unfold k1_pay5 k1_pay2
  rw [shapeCast_self]
  rfl

/-- The gradient, laid out in pairs of tiles. -/
theorem result_d (i : Fin 8192) (n : Fin 11264) : (dat1 (V2 m ρ) c).arrAt 3 cfg1.N (ix2 i n)
    = grad gradK (m (c.tc.loc main_arg0)) (m (c.tc.loc main_arg1)) (m (c.tc.loc main_arg2)) (m (c.tc.loc main_arg3)) i.val (source n.val) := by
  refine (dat1 (V2 m ρ) c).arrAt_forall_of_covers 3 (fun x v => v = grad gradK (m (c.tc.loc main_arg0)) (m (c.tc.loc main_arg1))
      (m (c.tc.loc main_arg2)) (m (c.tc.loc main_arg3)) (x 0).val (source (x 1).val))
    (by decide +kernel) (fun t hf y => ?_) (ix2 i n)
  blk_simp
  rw [after1_3]
  obtain ⟨i, n, rfl⟩ := ix2_of y
  have ht : t.val < 64 := t.isLt
  obtain ⟨h0, h1⟩ := at1_3 t
  unfold out1_3
  refine (side _ _ i n).trans ?_
  rw [h0, h1]
  show _ = grad gradK _ _ _ _ (t.val % 16 * 512 + i.val) (source (t.val / 16 * 2816 + n.val))
  rw [Nat.mul_comm (t.val % 16)]
  unfold grad
  by_cases h : n.val < 1408
  · have e : source (t.val / 16 * 2816 + n.val) = 1408 * (t.val / 16) + n.val := by unfold source; omega
    rw [dif_pos h, if_pos (by omega), e]
    refine (pay1_4 _ _ _ _ _).trans ?_
    exact congr (congrArg₂ gradK (pay1_1 m ρ c t i ⟨n.val, h⟩) (ld_g m ρ c t i ⟨n.val, h⟩)) (ld_u m ρ c t i ⟨n.val, h⟩)
  · have e : source (t.val / 16 * 2816 + n.val) - 5632 = 1408 * (t.val / 16) + (n.val - 1408) := by unfold source; omega
    rw [dif_neg h, if_neg (by unfold source; omega), e]
    refine (pay1_5 _ _ _ _).trans ?_
    exact congrArg₂ (fun a b : EReal => a * b * gate b) (pay1_1 m ρ c t i ⟨n.val - 1408, by omega⟩) (ld_g m ρ c t i ⟨n.val - 1408, by omega⟩)

end Cert.ActIdeal.Gen
end
-- ==== Proof.ActAlg.lean ====
module
public import proofs.«01_k».proof.Proof.ActVal
public import proofs.«01_k».proof.Proof.Gen.Pre_act_finite
public import proofs.«01_k».proof.Proof.Gen.ActReferenceIdeal.Run
public import proofs.«01_k».proof.Proof.Gen.ActReferenceIdeal.Read
public import proofs.«01_k».proof.Defs
/-!
# The activation's two calls against the plain mathematics

The reference's entries, what the precondition says, and the equality of the results.
-/
@[expose] public section
set_option maxRecDepth 16384
noncomputable section
namespace Cert.ActReferenceIdeal.Read
open Cert.Prod Cert.Act
open Idealize.ShloMosaic Idealize.ShloMosaic.TcCoe
variable (x0 : (⟨S8192x2048, .bf16⟩ : BufTy).Contents (Elt Ideal)) (x1 : (⟨S2048x11264, .f32⟩ : BufTy).Contents (Elt Ideal))
  (x2 : (⟨S5632x2048, .f32⟩ : BufTy).Contents (Elt Ideal)) (x3 : (⟨S8192x2048, .bf16⟩ : BufTy).Contents (Elt Ideal))

/-- The first product. -/
theorem e1 (i : Fin 8192) (n : Fin 11264) : val_main_v1 (F := Ideal) x0 x1 (ix2 i n) = pre x0 x1 i.val n.val := by
  rw [val_main_v1_apply]
  refine Finset.sum_congr rfl fun k _ => ?_
  rw [elem_at x0 i.isLt k.isLt, elem_at x1 k.isLt n.isLt]
  refine congrArg₂ _ ?_ ?_
  · show x0 _ = x0 _
    congr 1; funext d
    match d with
    | ⟨0, _⟩ => rfl
    | ⟨1, _⟩ => rfl
  · congr 1; funext d
    match d with
    | ⟨0, _⟩ => rfl
    | ⟨1, _⟩ => rfl

/-- The gradient's product. -/
theorem e12 (i : Fin 8192) (n : Fin 5632) : val_main_v12 (F := Ideal) x2 x3 (ix2 i n) = back x3 x2 i.val n.val := by
  rw [val_main_v12_apply]
  refine Finset.sum_congr rfl fun k _ => ?_
  rw [elem_at x3 i.isLt k.isLt, elem_at x2 n.isLt k.isLt]
  refine congrArg₂ _ ?_ ?_
  · show x3 _ = x3 _
    congr 1; funext d
    match d with
    | ⟨0, _⟩ => rfl
    | ⟨1, _⟩ => rfl
  · congr 1; funext d
    match d with
    | ⟨0, _⟩ => rfl
    | ⟨1, _⟩ => rfl

/-- An entry of the first product by an index with given coordinates. -/
theorem e1_at (x : S8192x11264.Idx) (i n : ℕ) (hi : (x 0).val = i) (hn : (x 1).val = n) : val_main_v1 (F := Ideal) x0 x1 x = pre x0 x1 i n := by
  subst hi hn
  exact (congrArg _ (ix2_eta x)).symm.trans (e1 x0 x1 (x 0) (x 1))

/-- The gate's half. -/
theorem e2 (i : Fin 8192) (n : Fin 5632) : val_main_v2 (F := Ideal) x0 x1 (ix2 i n) = pre x0 x1 i.val n.val :=
  (val_main_v2_apply x0 x1 _).trans (e1_at x0 x1 _ _ _ (by simp) (by simp))
/-- The other half. -/
theorem e3 (i : Fin 8192) (n : Fin 5632) : val_main_v3 (F := Ideal) x0 x1 (ix2 i n) = pre x0 x1 i.val (5632 + n.val) :=
  (val_main_v3_apply x0 x1 _).trans (e1_at x0 x1 _ _ _ (by simp) (by simp))
@[inherit_doc e2]
theorem e6 (i : Fin 8192) (n : Fin 5632) : val_main_v6 (F := Ideal) x0 x1 (ix2 i n) = pre x0 x1 i.val n.val :=
  (val_main_v6_apply x0 x1 _).trans (e1_at x0 x1 _ _ _ (by simp) (by simp))
@[inherit_doc e3]
theorem e7 (i : Fin 8192) (n : Fin 5632) : val_main_v7 (F := Ideal) x0 x1 (ix2 i n) = pre x0 x1 i.val (5632 + n.val) :=
  (val_main_v7_apply x0 x1 _).trans (e1_at x0 x1 _ _ _ (by simp) (by simp))

/-- The gate. -/
theorem e8 (i : S8192x5632.Idx) : val_main_v8_2 (F := Ideal) x0 x1 i = gate (val_main_v6 (F := Ideal) x0 x1 i) := by
  rw [val_main_v8_2_apply, val_main_call1_v4_apply, val_main_call1_v3_apply, val_main_call1_v2_apply, val_main_call1_v1_apply, val_main_call1_v0_apply,
    val_main_call1_cst_apply, val_main_call1_cst_0_apply]
  rfl

/-- The activation. -/
theorem e21 (i : Fin 8192) (n : Fin 5632) : val_main_v21 (F := Ideal) x0 x1 (ix2 i n)
    = pre x0 x1 i.val n.val * gate (pre x0 x1 i.val n.val) * pre x0 x1 i.val (5632 + n.val) := by
  rw [val_main_v21_apply, val_main_v5_apply, val_main_v4_apply, val_main_call0_v5_apply, val_main_call0_v4_apply, val_main_call0_v3_apply,
    val_main_call0_v2_apply, val_main_call0_v1_apply, val_main_call0_v0_apply, val_main_call0_cst_apply, val_main_call0_cst_0_apply, e2, e3]
  rfl

/-- The products, laid out in pairs of tiles. -/
theorem e20 (i : Fin 8192) (n : Fin 11264) : val_main_v20 (F := Ideal) x0 x1 (ix2 i n) = pre x0 x1 i.val (source n.val) := by
  rw [val_main_v20_apply]
  show val_main_v19 (F := Ideal) x0 x1 (ix2 i n) = _
  unfold val_main_v19 val_main_v18 val_main_v17
  exact (pairs_at _ _ _ _ i n).trans (e1 x0 x1 i _)

/-- The other half of the gradient. -/
theorem e13 (i : Fin 8192) (n : Fin 5632) : val_main_v13 (F := Ideal) x0 x1 x2 x3 (ix2 i n)
    = back x3 x2 i.val n.val * pre x0 x1 i.val n.val * gate (pre x0 x1 i.val n.val) := by
  rw [val_main_v13_apply, val_main_v8_0_apply, e8, e6, e12]
  show pre x0 x1 i.val n.val * gate (pre x0 x1 i.val n.val) * back x3 x2 i.val n.val = _
  rw [mul_comm, mul_assoc]

/-- The gate's half of the gradient. -/
theorem e15 (i : Fin 8192) (n : Fin 5632) : val_main_v15 (F := Ideal) x0 x1 x2 x3 (ix2 i n)
    = gradR (back x3 x2 i.val n.val) (pre x0 x1 i.val n.val) (pre x0 x1 i.val (5632 + n.val)) := by
  rw [val_main_v15_apply, val_main_call2_v1_apply, val_main_call2_v2_apply, val_main_call2_v0_apply, val_main_v14_apply, val_main_v8_1_apply,
    val_main_call1_v7_apply, val_main_call1_v6_apply, val_main_call1_cst_1_apply, e8, e6, e7, e12]
  rfl

/-- The two halves side by side. -/
theorem e16 (i : Fin 8192) (n : Fin 11264) : val_main_v16 (F := Ideal) x0 x1 x2 x3 (ix2 i n) = grad gradR x0 x1 x2 x3 i.val n.val := by
  unfold val_main_v16 grad
  split
  · refine (concatenate_apply_piece 1 _ _ (ix2 i n) 0 (by simp) _ (val_main_v15 (F := Ideal) x0 x1 x2 x3) rfl rfl 0 rfl
      (ix2 i (⟨n.val, by assumption⟩ : Fin 5632)) (fun b hb => ?_) (by simp)).trans (e15 x0 x1 x2 x3 i ⟨n.val, by assumption⟩)
    match b with
    | ⟨0, _⟩ => rfl
    | ⟨1, _⟩ => exact absurd rfl hb
  · refine (concatenate_apply_piece 1 _ _ (ix2 i n) 1 (by simp) _ (val_main_v13 (F := Ideal) x0 x1 x2 x3) rfl rfl 5632 rfl
      (ix2 i (⟨n.val - 5632, by omega⟩ : Fin 5632)) (fun b hb => ?_) (by simp; omega)).trans (e13 x0 x1 x2 x3 i ⟨n.val - 5632, by omega⟩)
    match b with
    | ⟨0, _⟩ => rfl
    | ⟨1, _⟩ => exact absurd rfl hb

/-- The gradient, laid out in pairs of tiles. -/
theorem e25 (i : Fin 8192) (n : Fin 11264) : val_main_v25 (F := Ideal) x0 x1 x2 x3 (ix2 i n) = grad gradR x0 x1 x2 x3 i.val (source n.val) := by
  rw [val_main_v25_apply]
  show val_main_v24 (F := Ideal) x0 x1 x2 x3 (ix2 i n) = _
  unfold val_main_v24 val_main_v23 val_main_v22
  exact (pairs_at _ _ _ _ i n).trans (e16 x0 x1 x2 x3 i _)

end Cert.ActReferenceIdeal.Read

namespace Cert.ActIdeal.Gen
open Cert.Prod Cert.Act
open Idealize.ShloMosaic Idealize.ShloMosaic.TcCoe Idealize.SL.Sem

/-- The precondition says that every entry of the four arguments is a real number. -/
theorem real_of (m : (ℓ : Loc nD τ sig) → Buf (Elt Ideal) ℓ) (h : Cert.Pre_ActIdeal_act_finite m) (c : Dev nD) :
    (∀ i, ∃ r : ℝ, m (c.tc.loc main_arg0) i = (r : EReal)) ∧ (∀ i, ∃ r : ℝ, m (c.tc.loc main_arg1) i = (r : EReal))
      ∧ (∀ i, ∃ r : ℝ, m (c.tc.loc main_arg2) i = (r : EReal)) ∧ (∀ i, ∃ r : ℝ, m (c.tc.loc main_arg3) i = (r : EReal)) := by
  have H := h c
  dsimp only [Cert.Pre_act_finite.fn] at H
  obtain ⟨h0, h1, h2, h3⟩ := H
  exact ⟨fun i => ⟨_, Cert.Alg.fin_of _ (congrFun h0 i)⟩, fun i => ⟨_, Cert.Alg.fin_of _ (congrFun h1 i)⟩,
    fun i => ⟨_, Cert.Alg.fin_of _ (congrFun h2 i)⟩, fun i => ⟨_, Cert.Alg.fin_of _ (congrFun h3 i)⟩⟩

/-- The two programs, from finite arguments that agree, end with equal results. -/
theorem algebraic : Cert.algebraic_ActIdeal_ActReferenceIdeal_pre_act_finite := by
  intro m ρ m' ρ' hpre hag
  refine ⟨fun c => (dat0 (V1 m ρ) c).arrAt 3 cfg0.N, fun c => (dat0 (V1 m ρ) c).arrAt 4 cfg0.N, fun c => (dat1 (V2 m ρ) c).arrAt 3 cfg1.N, ?_, ?_⟩
  · exact (θ_run defs _ _).mono (fun _ h c =>
      ⟨(h c _ (mem_uc main_v5_0 (by decide))).trans ((W3_of m ρ c main_v5_0 (by decide +kernel)).trans (W2_arr m ρ c 3)),
       (h c _ (mem_uc main_v5_1 (by decide))).trans ((W3_of m ρ c main_v5_1 (by decide +kernel)).trans (W2_arr m ρ c 4)),
       (h c _ (mem_uc main_v6 (by decide))).trans (W3_arr m ρ c 3),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩) (ends m ρ)
  · refine (θ_run Cert.ActReferenceIdeal.defs _ _).mono (fun _ h c => ?_) (Cert.ActReferenceIdeal.Value.run (F := Ideal) m' ρ')
    obtain ⟨a0, a1, a2, a3⟩ := hag c
    obtain ⟨r0, r1, r2, hargs⟩ := h c
    obtain ⟨f0, f1, f2, f3⟩ := real_of m hpre c
    refine ⟨(r0.trans (Cert.ActReferenceIdeal.Read.val_main_v20_eq (m' (c.tc.loc Cert.ActReferenceIdeal.main_arg0)) (m' (c.tc.loc Cert.ActReferenceIdeal.main_arg1)))).trans ?_,
      (r1.trans (Cert.ActReferenceIdeal.Read.val_main_v21_eq (m' (c.tc.loc Cert.ActReferenceIdeal.main_arg0)) (m' (c.tc.loc Cert.ActReferenceIdeal.main_arg1)))).trans ?_,
      (r2.trans (Cert.ActReferenceIdeal.Read.val_main_v25_eq (m' (c.tc.loc Cert.ActReferenceIdeal.main_arg0)) (m' (c.tc.loc Cert.ActReferenceIdeal.main_arg1))
        (m' (c.tc.loc Cert.ActReferenceIdeal.main_arg2)) (m' (c.tc.loc Cert.ActReferenceIdeal.main_arg3)))).trans ?_, hargs⟩
    · rw [a0, a1]
      funext x
      obtain ⟨i, n, rfl⟩ := ix2_of x
      exact (Cert.ActReferenceIdeal.Read.e20 _ _ i n).trans (result_u m ρ c i n).symm
    · rw [a0, a1]
      funext x
      obtain ⟨i, n, rfl⟩ := ix2_of x
      exact (Cert.ActReferenceIdeal.Read.e21 _ _ i n).trans (result_a m ρ c i n).symm
    · rw [a0, a1, a2, a3]
      funext x
      obtain ⟨i, n, rfl⟩ := ix2_of x
      exact (Cert.ActReferenceIdeal.Read.e25 _ _ _ _ i n).trans ((grad_form f0 f1 f2 f3 i.val (source n.val)).symm.trans (result_d m ρ c i n).symm)

end Cert.ActIdeal.Gen
end
-- ==== Proof.WoutVal.lean ====
module
public import proofs.«01_k».proof.Proof.Gen.WoutIdeal.Frame
public import proofs.«01_k».proof.Proof.Gen.WoutReferenceIdeal.Run
public import proofs.«01_k».proof.Proof.Gen.WoutReferenceIdeal.Read
public import proofs.«01_k».proof.Proof.Prod
public import Idealize.ShloMosaic.Lib.Pipeline.ReadBack
public import proofs.«01_k».proof.Defs
/-!
# The gradient of the output weight

The accumulator after every point, the array of results, and the reference's entries.
-/
@[expose] public section
set_option maxRecDepth 16384
noncomputable section
namespace Cert.WoutIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- Where the windows lie. -/
theorem at_0 : ∀ t : Fin cfg0.N, win0_0.index t 0 = t.val % 4 ∧ win0_0.index t 1 = t.val / 8 := by decide +kernel
@[inherit_doc at_0]
theorem at_1 : ∀ t : Fin cfg0.N, win0_1.index t 0 = t.val % 4 ∧ win0_1.index t 1 = t.val / 4 % 2 := by decide +kernel
@[inherit_doc at_0]
theorem at_2 : ∀ t : Fin cfg0.N, win0_2.index t 0 = t.val / 8 ∧ win0_2.index t 1 = 0 ∧ win0_2.index t 2 = t.val / 4 % 2 := by decide +kernel

/-- The activation's block. -/
theorem blk_0 (t : Fin cfg0.N) (k : Fin 2048) (i : Fin 1408) :
    iblk m c 0 t (ix2 k i) = elem (m (c.tc.loc main_arg0)) (2048 * (t.val % 4) + k) (1408 * (t.val / 8) + i) := by
  have ht : t.val < 32 := t.isLt
  rw [elem_at _ (by omega) (by omega)]
  unfold iblk
  blk_simp
  show V m c main_arg0 _ = _
  unfold V
  congr 1; funext d; apply Fin.ext
  refine (win0_0.rect_emb_val t _ d).trans ?_
  match d with
  | ⟨0, _⟩ => have := (at_0 t).1; simp [this]; omega
  | ⟨1, _⟩ => have := (at_0 t).2; simp [this]; omega

/-- The gradient's block. -/
theorem blk_1 (t : Fin cfg0.N) (k : Fin 2048) (j : Fin 1024) :
    iblk m c 1 t (ix2 k j) = elem (m (c.tc.loc main_arg1)) (2048 * (t.val % 4) + k) (1024 * (t.val / 4 % 2) + j) := by
  have ht : t.val < 32 := t.isLt
  rw [elem_at _ (by omega) (by omega)]
  unfold iblk
  blk_simp
  show V m c main_arg1 _ = _
  unfold V
  congr 1; funext d; apply Fin.ext
  refine (win0_1.rect_emb_val t _ d).trans ?_
  match d with
  | ⟨0, _⟩ => have := (at_1 t).1; simp [this]; omega
  | ⟨1, _⟩ => have := (at_1 t).2; simp [this]; omega

/-- The terms of the sum at an entry of a tile of results. -/
def term (i j : ℕ) (n k : ℕ) : EReal :=
  elem (m (c.tc.loc main_arg0)) k (1408 * (n / 2) + i) * elem (m (c.tc.loc main_arg1)) k (1024 * (n % 2) + j)

/-- One tile's product. -/
theorem pay (t : Fin cfg0.N) (i : Fin 1408) (j : Fin 1024) : k0_pay1 (iblk m c 0 t) (iblk m c 1 t) (ix2 i j)
    = ∑ k : Fin 2048, term m c i j (t.val / 4) (2048 * (t.val % 4) + k) := by
  unfold k0_pay1
  refine (matmul_at _ (ax := 0) rfl rfl (iblk m c 0 t) (iblk m c 1 t) (ix2 i j) _ _
    (fun k => by simp only [pointwise]; exact blk_0 m c t k i) (fun k => by simp only [pointwise]; exact blk_1 m c t k j)).trans ?_
  refine Finset.sum_congr rfl fun k _ => ?_
  unfold term
  rw [Nat.div_div_eq_div_mul]

/-- The accumulator after a point: the sum over the tiles so far. -/
theorem acc (i : Fin 1408) (j : Fin 1024) (n : ℕ) (hn : n < cfg0.N) :
    (outsAt0 m c n hn).2 (ix2 i j) = ∑ k ∈ range (2048 * (n % 4 + 1)), term m c i j (n / 4) k := by
  refine running (N := cfg0.N) (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The block written back after the last tile. -/
theorem out (t : Fin cfg0.N) (h : t.val % 4 = 3) (s : Fin 1) (i : Fin 1408) (j : Fin 1024) :
    (outsAt0 m c t.val t.isLt).1 (ix3 s i j) = ∑ k ∈ range 8192, term m c i j (t.val / 4) k := by
  have e := acc m c i j t.val t.isLt
  rw [h] at e
  refine Eq.trans ?_ e
  rw [outsAt0_C m c t (by omega) (by omega) h]
  dsimp only
  frame_out
  unfold k0_pay4
  obtain rfl : s = 0 := Subsingleton.elim _ _
  refine (shapeCast_apply _ _ _ (ix2 i j) ?_).trans ?_
  · rw [Shape.rowMajor_val_two, Shape.rowMajor_val_three]
    simp
  · rfl

/-- The array of results: each entry the sum over every row. -/
theorem result (s : Fin 4) (i : Fin 1408) (j : Fin 2048) : (dats m 0 c).arrAt 2 cfg0.N (ix3 s i j)
    = ∑ k ∈ range 8192, elem (m (c.tc.loc main_arg0)) k (1408 * s.val + i.val) * elem (m (c.tc.loc main_arg1)) k j.val := by
  refine (dats m 0 c).arrAt_forall_of_covers 2 (fun x v => v = ∑ k ∈ range 8192, elem (m (c.tc.loc main_arg0)) k (1408 * (x 0).val + (x 1).val) * elem (m (c.tc.loc main_arg1)) k (x 2).val)
    (by decide +kernel) (fun t hf y => ?_) (ix3 s i j)
  blk_simp
  rw [after0_2]
  obtain ⟨s, i, j, rfl⟩ : ∃ (s : Fin 1) (i : Fin 1408) (j : Fin 1024), y = ix3 s i j := ⟨y 0, y 1, y 2, (ix3_eta y).symm⟩
  refine (out m c t ?_ s i j).trans ?_
  · revert t; decide +kernel
  · obtain ⟨h0, h1, h2⟩ := at_2 t
    rw [h0, h1, h2]
    refine Finset.sum_congr rfl fun k _ => ?_
    unfold term
    rw [Nat.div_div_eq_div_mul]
    rw [Nat.zero_mul, Nat.zero_add, Nat.mul_comm (t.val / 4 % 2)]
    rfl

end Cert.WoutIdeal.Gen

namespace Cert.WoutReferenceIdeal.Read
open Cert.Prod
open Idealize.ShloMosaic Idealize.ShloMosaic.TcCoe

/-- The reference's entries. -/
theorem entry (x0 : (⟨S8192x5632, .bf16⟩ : BufTy).Contents (Elt Ideal)) (x1 : (⟨S8192x2048, .bf16⟩ : BufTy).Contents (Elt Ideal))
    (s : Fin 4) (i : Fin 1408) (j : Fin 2048) : val_main_v7 (F := Ideal) x0 x1 (ix3 s i j)
    = ∑ k ∈ Finset.range 8192, elem x0 k (1408 * s.val + i.val) * elem x1 k j.val := by
  rw [val_main_v7_apply]
  show val_main_v6 (F := Ideal) x0 x1 (ix3 s i j) = _
  rw [val_main_v6_apply, val_main_v5_apply, val_main_v4_apply, Finset.sum_range]
  refine Finset.sum_congr rfl fun k _ => ?_
  rw [mul_comm, elem_at x0 k.isLt (by omega), elem_at x1 k.isLt j.isLt]
  refine congrArg₂ _ ?_ ?_
  · show x0 _ = x0 _
    congr 1; funext d; apply Fin.ext
    match d with
    | ⟨0, _⟩ => rfl
    | ⟨1, _⟩ => show ((s.val * 1408 + i.val) * 2048 + j.val) / 2048 = _; simp; omega
  · show x1 _ = x1 _
    congr 1; funext d; apply Fin.ext
    match d with
    | ⟨0, _⟩ => rfl
    | ⟨1, _⟩ => show ((s.val * 1408 + i.val) * 2048 + j.val) % 2048 = _; simp

end Cert.WoutReferenceIdeal.Read

namespace Cert.WoutIdeal.Gen
open Idealize.ShloMosaic Idealize.ShloMosaic.TcCoe Idealize.SL.Sem

/-- The two programs, from arguments that agree, end with equal results. -/
theorem algebraic : Cert.algebraic_WoutIdeal_WoutReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).1 1).trans (((dats m 0 c).arrAt_in 1 rfl _).trans (V_main_arg1 m c))⟩) (run_main m ρ)
  · refine (θ_run Cert.WoutReferenceIdeal.defs _ _).mono (fun _ h c => ⟨?_, (h c).2⟩) (Cert.WoutReferenceIdeal.Value.run (F := Ideal) m' ρ')
    refine ((h c).1.trans (Cert.WoutReferenceIdeal.Read.val_main_v7_eq _ _)).trans ?_
    rw [(hag c).1, (hag c).2]
    funext x
    obtain ⟨s, i, j, rfl⟩ : ∃ (s : Fin 4) (i : Fin 1408) (j : Fin 2048), x = ix3 s i j := ⟨x 0, x 1, x 2, (ix3_eta x).symm⟩
    exact (Cert.WoutReferenceIdeal.Read.entry _ _ s i j).trans (result m c s i j).symm

end Cert.WoutIdeal.Gen
end
-- ==== Proof.WinVal.lean ====
module
public import proofs.«01_k».proof.Proof.Gen.WinIdeal.Frame
public import proofs.«01_k».proof.Proof.Gen.WinReferenceIdeal.Run
public import proofs.«01_k».proof.Proof.Gen.WinReferenceIdeal.Read
public import Idealize.ShloMosaic.Lib.StableHlo.Run
public import proofs.«01_k».proof.Proof.Prod
public import Idealize.ShloMosaic.Lib.Pipeline.ReadBack
public import proofs.«01_k».proof.Defs
/-!
# The gradient of the input weight

The accumulator after every point, the array of results, and the reference's entries.
-/
@[expose] public section
set_option maxRecDepth 16384
noncomputable section
namespace Cert.WinIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- The gradient as the call finds it: laid out in pairs of tiles. -/
theorem found : V m c main_v2 = shapeCast S8192x11264 (transpose S8192x4x2x1408 [0, 2, 1, 3]
    (shapeCast S8192x2x4x1408 (m (c.tc.loc main_arg1)) shapeCasts_S8192x11264_S8192x2x4x1408)
    transposes_S8192x2x4x1408_S8192x4x2x1408_0_2_1_3) shapeCasts_S8192x4x2x1408_S8192x11264 := by
  unfold V hostOps0
  after_results <;> rfl

/-- Where the windows lie. -/
theorem at_0 : ∀ t : Fin cfg0.N, win0_0.index t 0 = t.val % 4 ∧ win0_0.index t 1 = t.val / 32 := by decide +kernel
@[inherit_doc at_0]
theorem at_1 : ∀ t : Fin cfg0.N, win0_1.index t 0 = t.val % 4 ∧ win0_1.index t 1 = t.val / 4 % 8 := by decide +kernel
@[inherit_doc at_0]
theorem at_2 : ∀ t : Fin cfg0.N, win0_2.index t 0 = 2 * (t.val / 4 % 2) + t.val / 16 % 2 ∧ win0_2.index t 1 = t.val / 32
    ∧ win0_2.index t 2 = t.val / 8 % 2 := by decide +kernel

/-- The hidden state's block. -/
theorem blk_0 (t : Fin cfg0.N) (k : Fin 2048) (i : Fin 1024) :
    iblk m c 0 t (ix2 k i) = elem (m (c.tc.loc main_arg0)) (2048 * (t.val % 4) + k) (1024 * (t.val / 32) + i) := by
  have ht : t.val < 64 := t.isLt
  rw [elem_at _ (by omega) (by omega)]
  unfold iblk
  blk_simp
  show V m c main_arg0 _ = _
  rw [V_main_arg0]
  congr 1; funext d; apply Fin.ext
  refine (win0_0.rect_emb_val t _ d).trans ?_
  match d with
  | ⟨0, _⟩ => have := (at_0 t).1; simp [this]; omega
  | ⟨1, _⟩ => have := (at_0 t).2; simp [this]; omega

/-- The gradient's block. -/
theorem blk_1 (t : Fin cfg0.N) (k : Fin 2048) (j : Fin 1408) :
    iblk m c 1 t (ix2 k j) = elem (m (c.tc.loc main_arg1)) (2048 * (t.val % 4) + k) (5632 * (t.val / 4 % 2) + 1408 * (t.val / 8 % 4) + j) := by
  have ht : t.val < 64 := t.isLt
  rw [elem_at _ (by omega) (by omega)]
  unfold iblk
  blk_simp
  show V m c main_v2 _ = _
  rw [found]
  refine Eq.trans (congrArg _ ?_) ((pairs_at (m (c.tc.loc main_arg1)) _ _ _ ⟨2048 * (t.val % 4) + k, by omega⟩
    ⟨1408 * (t.val / 4 % 8) + j, by omega⟩).trans (congrArg _ (congrArg _ (Fin.ext ?_))))
  · funext d; apply Fin.ext
    refine (win0_1.rect_emb_val t _ d).trans ?_
    match d with
    | ⟨0, _⟩ => have := (at_1 t).1; simp [this]; omega
    | ⟨1, _⟩ => have := (at_1 t).2; simp [this]; omega
  · unfold source
    dsimp only
    omega

/-- The terms of the sum at an entry of a tile of results. -/
def term (i j : ℕ) (n k : ℕ) : EReal :=
  elem (m (c.tc.loc main_arg0)) k (1024 * (n / 8) + i) * elem (m (c.tc.loc main_arg1)) k (5632 * (n % 2) + 1408 * (n / 2 % 4) + j)

/-- One tile's product. -/
theorem pay (t : Fin cfg0.N) (i : Fin 1024) (j : Fin 1408) : k0_pay1 (iblk m c 0 t) (iblk m c 1 t) (ix2 i j)
    = ∑ k : Fin 2048, term m c i j (t.val / 4) (2048 * (t.val % 4) + k) := by
  unfold k0_pay1
  simp only [shapeCast_self]
  refine (matmul_at _ (ax := 0) rfl rfl (iblk m c 0 t) (iblk m c 1 t) (ix2 i j) _ _
    (fun k => by simp only [pointwise]; exact blk_0 m c t k i) (fun k => by simp only [pointwise]; exact blk_1 m c t k j)).trans ?_
  refine Finset.sum_congr rfl fun k _ => ?_
  unfold term
  rw [Nat.div_div_eq_div_mul, Nat.div_div_eq_div_mul]

/-- The accumulator after a point: the sum over the tiles so far. -/
theorem acc (i : Fin 1024) (j : Fin 1408) (n : ℕ) (hn : n < cfg0.N) :
    (outsAt0 m c n hn).2 (ix2 i j) = ∑ k ∈ range (2048 * (n % 4 + 1)), term m c i j (n / 4) k := by
  refine running (N := cfg0.N) (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The block written back after the last tile. -/
theorem out (t : Fin cfg0.N) (h : t.val % 4 = 3) (s : Fin 1) (i : Fin 1024) (j : Fin 1408) :
    (outsAt0 m c t.val t.isLt).1 (ix3 s i j) = ∑ k ∈ range 8192, term m c i j (t.val / 4) k := by
  have e := acc m c i j t.val t.isLt
  rw [h] at e
  refine Eq.trans ?_ e
  rw [outsAt0_C m c t (by omega) (by omega) h]
  dsimp only
  frame_out
  unfold k0_pay4
  obtain rfl : s = 0 := Subsingleton.elim _ _
  refine (shapeCast_apply _ _ _ (ix2 i j) ?_).trans ?_
  · rw [Shape.rowMajor_val_two, Shape.rowMajor_val_three]
    simp
  · rfl

/-- The array of results: each entry the sum over every row. -/
theorem result (s : Fin 4) (i : Fin 2048) (j : Fin 2816) : (dats m 0 c).arrAt 2 cfg0.N (ix3 s i j)
    = ∑ k ∈ range 8192, elem (m (c.tc.loc main_arg0)) k i.val * elem (m (c.tc.loc main_arg1)) k (2816 * s.val + j.val) := by
  refine (dats m 0 c).arrAt_forall_of_covers 2 (fun x v => v = ∑ k ∈ range 8192, elem (m (c.tc.loc main_arg0)) k (x 1).val * elem (m (c.tc.loc main_arg1)) k (2816 * (x 0).val + (x 2).val))
    (by decide +kernel) (fun t hf y => ?_) (ix3 s i j)
  blk_simp
  rw [after0_2]
  obtain ⟨s, i, j, rfl⟩ : ∃ (s : Fin 1) (i : Fin 1024) (j : Fin 1408), y = ix3 s i j := ⟨y 0, y 1, y 2, (ix3_eta y).symm⟩
  refine (out m c t ?_ s i j).trans ?_
  · revert t; decide +kernel
  · obtain ⟨h0, h1, h2⟩ := at_2 t
    rw [h0, h1, h2]
    refine Finset.sum_congr rfl fun k _ => ?_
    unfold term
    refine congrArg₂ _ (congrArg _ ?_) (congrArg _ ?_)
    · show _ = t.val / 32 * 1024 + i.val
      omega
    · show _ = 2816 * (2 * (t.val / 4 % 2) + t.val / 16 % 2) + (t.val / 8 % 2 * 1408 + j.val)
      omega

end Cert.WinIdeal.Gen

namespace Cert.WinReferenceIdeal.Read
open Cert.Prod
open Idealize.ShloMosaic Idealize.ShloMosaic.TcCoe

/-- The reference's entries. -/
theorem entry (x0 : (⟨S8192x2048, .bf16⟩ : BufTy).Contents (Elt Ideal)) (x1 : (⟨S8192x11264, .bf16⟩ : BufTy).Contents (Elt Ideal))
    (s : Fin 4) (i : Fin 2048) (j : Fin 2816) : val_main_v8 (F := Ideal) x0 x1 (ix3 s i j)
    = ∑ k ∈ Finset.range 8192, elem x0 k i.val * elem x1 k (2816 * s.val + j.val) := by
  rw [val_main_v8_apply]
  show val_main_v7 (F := Ideal) x0 x1 (ix3 s i j) = _
  rw [val_main_v7_apply, val_main_v6_apply, val_main_v5_apply, val_main_v4_apply, Finset.sum_range]
  refine Finset.sum_congr rfl fun k _ => ?_
  rw [mul_comm, elem_at x0 k.isLt i.isLt, elem_at x1 k.isLt (by omega)]
  refine congrArg₂ _ ?_ ?_
  · show x0 _ = x0 _
    congr 1; funext d; apply Fin.ext
    match d with
    | ⟨0, _⟩ => rfl
    | ⟨1, _⟩ => show ((i.val * 4 + s.val) * 2816 + j.val) / 11264 = i.val; omega
  · show x1 _ = x1 _
    congr 1; funext d; apply Fin.ext
    match d with
    | ⟨0, _⟩ => rfl
    | ⟨1, _⟩ => show ((i.val * 4 + s.val) * 2816 + j.val) % 11264 = 2816 * s.val + j.val; omega

end Cert.WinReferenceIdeal.Read

namespace Cert.WinIdeal.Gen
open Idealize.ShloMosaic Idealize.ShloMosaic.TcCoe Idealize.SL.Sem

/-- The two programs, from arguments that agree, end with equal results. -/
theorem algebraic : Cert.algebraic_WinIdeal_WinReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).2 _ (Pipeline.mem_restRefs_of _ (by decide) (by decide))).trans (V_main_arg1 m c)⟩) (run_main m ρ)
  · refine (θ_run Cert.WinReferenceIdeal.defs _ _).mono (fun _ h c => ⟨?_, (h c).2⟩) (Cert.WinReferenceIdeal.Value.run (F := Ideal) m' ρ')
    refine ((h c).1.trans (Cert.WinReferenceIdeal.Read.val_main_v8_eq _ _)).trans ?_
    rw [(hag c).1, (hag c).2]
    funext x
    obtain ⟨s, i, j, rfl⟩ : ∃ (s : Fin 4) (i : Fin 2048) (j : Fin 2816), x = ix3 s i j := ⟨x 0, x 1, x 2, (ix3_eta x).symm⟩
    exact (Cert.WinReferenceIdeal.Read.entry _ _ s i j).trans (result m c s i j).symm

end Cert.WinIdeal.Gen
end
-- ==== Proof.DhVal.lean ====
module
public import proofs.«01_k».proof.Proof.Gen.DhIdeal.Frame
public import proofs.«01_k».proof.Proof.Gen.DhReferenceIdeal.Run
public import proofs.«01_k».proof.Proof.Gen.DhReferenceIdeal.Read
public import Idealize.ShloMosaic.Lib.StableHlo.Run
public import proofs.«01_k».proof.Proof.Prod
public import Idealize.ShloMosaic.Lib.Pipeline.ReadBack
public import proofs.«01_k».proof.Defs
/-!
# The gradient of the hidden state

The accumulator after every point, the array of results, and the reference's entries.
-/
@[expose] public section
set_option maxRecDepth 16384
noncomputable section
namespace Cert.DhIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- The gradient as the call finds it: laid out in pairs of tiles. -/
theorem found_du : V m c main_v5 = shapeCast S8192x11264 (transpose S8192x4x2x1408 [0, 2, 1, 3]
    (shapeCast S8192x2x4x1408 (m (c.tc.loc main_arg0)) shapeCasts_S8192x11264_S8192x2x4x1408)
    transposes_S8192x2x4x1408_S8192x4x2x1408_0_2_1_3) shapeCasts_S8192x4x2x1408_S8192x11264 := by
  unfold V hostOps0
  after_results <;> rfl

/-- The weight as the call finds it: rounded and cut in four shards. -/
theorem found_w : V m c main_v2 = transpose S4x2048x2816 [1, 0, 2]
    (shapeCast S2048x4x2816 (truncf (F := Ideal) (φ := .f32) .bf16 (m (c.tc.loc main_arg1)) bitsLt_bf16_f32) shapeCasts_S2048x11264_S2048x4x2816)
    transposes_S2048x4x2816_S4x2048x2816_1_0_2 := by
  unfold V hostOps0
  after_results <;> rfl

/-- Where the windows lie. -/
theorem at_0 : ∀ t : Fin cfg0.N, win0_0.index t 0 = t.val / 8 ∧ win0_0.index t 1 = t.val % 4 := by decide +kernel
@[inherit_doc at_0]
theorem at_1 : ∀ t : Fin cfg0.N, win0_1.index t 0 = t.val % 4 / 2 ∧ win0_1.index t 1 = t.val / 4 % 2 ∧ win0_1.index t 2 = t.val % 2 := by decide +kernel
@[inherit_doc at_0]
theorem at_2 : ∀ t : Fin cfg0.N, win0_2.index t 0 = 2 + t.val % 4 / 2 ∧ win0_2.index t 1 = t.val / 4 % 2 ∧ win0_2.index t 2 = t.val % 2 := by decide +kernel
@[inherit_doc at_0]
theorem at_3 : ∀ t : Fin cfg0.N, win0_3.index t 0 = t.val / 8 ∧ win0_3.index t 1 = t.val / 4 % 2 := by decide +kernel

/-- The gradient's block: a tile of the gate's half beside one of the other half. -/
theorem blk_0 (t : Fin cfg0.N) (i : Fin 1024) (k : Fin 2816) : iblk m c 0 t (ix2 i k)
    = elem (m (c.tc.loc main_arg0)) (1024 * (t.val / 8) + i) (5632 * (k / 1408) + 1408 * (t.val % 4) + k % 1408) := by
  have ht : t.val < 64 := t.isLt
  rw [elem_at _ (by omega) (by omega)]
  unfold iblk
  blk_simp
  show V m c main_v5 _ = _
  rw [found_du]
  refine Eq.trans (congrArg _ ?_) ((pairs_at (m (c.tc.loc main_arg0)) _ _ _ ⟨1024 * (t.val / 8) + i, by omega⟩
    ⟨2816 * (t.val % 4) + k, by omega⟩).trans (congrArg _ (congrArg _ (Fin.ext ?_))))
  · funext d; apply Fin.ext
    refine (win0_0.rect_emb_val t _ d).trans ?_
    match d with
    | ⟨0, _⟩ => have := (at_0 t).1; simp [this]; omega
    | ⟨1, _⟩ => have := (at_0 t).2; simp [this]; omega
  · unfold source
    dsimp only
    omega

/-- The gate half's weight. -/
theorem blk_1 (t : Fin cfg0.N) (s : Fin 1) (j : Fin 1024) (k : Fin 1408) :
    iblk m c 1 t (ix3 s j k) = elem (m (c.tc.loc main_arg1)) (1024 * (t.val / 4 % 2) + j) (1408 * (t.val % 4) + k) := by
  have ht : t.val < 64 := t.isLt
  rw [elem_at _ (by omega) (by omega)]
  unfold iblk
  blk_simp
  show V m c main_v2 _ = _
  rw [found_w]
  refine Eq.trans (congrArg _ ?_) ((shards_at _ _ _ ⟨t.val % 4 / 2, by omega⟩ ⟨1024 * (t.val / 4 % 2) + j, by omega⟩
    ⟨1408 * (t.val % 2) + k, by omega⟩).trans (congrArg (m (c.tc.loc main_arg1)) (congrArg _ (Fin.ext ?_))))
  · funext d; apply Fin.ext
    refine (win0_1.rect_emb_val t _ d).trans ?_
    match d with
    | ⟨0, _⟩ => have := (at_1 t).1; simp [this]
    | ⟨1, _⟩ => have := (at_1 t).2.1; simp [this]; omega
    | ⟨2, _⟩ => have := (at_1 t).2.2; simp [this]; omega
  · dsimp only
    omega

/-- The other half's weight. -/
theorem blk_2 (t : Fin cfg0.N) (s : Fin 1) (j : Fin 1024) (k : Fin 1408) :
    iblk m c 2 t (ix3 s j k) = elem (m (c.tc.loc main_arg1)) (1024 * (t.val / 4 % 2) + j) (5632 + 1408 * (t.val % 4) + k) := by
  have ht : t.val < 64 := t.isLt
  rw [elem_at _ (by omega) (by omega)]
  unfold iblk
  blk_simp
  show V m c main_v2 _ = _
  rw [found_w]
  refine Eq.trans (congrArg _ ?_) ((shards_at _ _ _ ⟨2 + t.val % 4 / 2, by omega⟩ ⟨1024 * (t.val / 4 % 2) + j, by omega⟩
    ⟨1408 * (t.val % 2) + k, by omega⟩).trans (congrArg (m (c.tc.loc main_arg1)) (congrArg _ (Fin.ext ?_))))
  · funext d; apply Fin.ext
    refine (win0_2.rect_emb_val t _ d).trans ?_
    match d with
    | ⟨0, _⟩ => have := (at_2 t).1; simp [this]
    | ⟨1, _⟩ => have := (at_2 t).2.1; simp [this]; omega
    | ⟨2, _⟩ => have := (at_2 t).2.2; simp [this]; omega
  · dsimp only
    omega

/-- One term of the sum at an entry of a tile of results. -/
def one (i j : ℕ) (n k : ℕ) : EReal :=
  elem (m (c.tc.loc main_arg0)) (1024 * (n / 2) + i) k * elem (m (c.tc.loc main_arg1)) (1024 * (n % 2) + j) k

/-- The terms of both halves together. -/
def term (i j : ℕ) (n k : ℕ) : EReal := one m c i j n k + one m c i j n (5632 + k)

/-- The gate's half of the gradient's block. -/
theorem ld_0 (t : Fin cfg0.N) (inb : _) (i : Fin 1024) (k : Fin 1408) :
    View.ld (Val := Elt Ideal) (e' := .bf16) (iblk m c 0 t) (Rect.unit ![0, 0] ![1024, 1408] inb) (ix2 i k)
      = elem (m (c.tc.loc main_arg0)) (1024 * (t.val / 8) + i) (1408 * (t.val % 4) + k) := by
  rw [View.ld_unit_apply_of _ _ _ inb (ix2 i k) (ix2 i ⟨k, by omega⟩) (fun a => by match a with | ⟨0, _⟩ => simp | ⟨1, _⟩ => simp)]
  refine (blk_0 m c t i ⟨k, by omega⟩).trans (congrArg _ ?_)
  dsimp only
  omega

/-- The other half of it. -/
theorem ld_1 (t : Fin cfg0.N) (inb : _) (i : Fin 1024) (k : Fin 1408) :
    View.ld (Val := Elt Ideal) (e' := .bf16) (iblk m c 0 t) (Rect.unit ![0, 1408] ![1024, 1408] inb) (ix2 i k)
      = elem (m (c.tc.loc main_arg0)) (1024 * (t.val / 8) + i) (5632 + (1408 * (t.val % 4) + k)) := by
  rw [View.ld_unit_apply_of _ _ _ inb (ix2 i k) (ix2 i ⟨1408 + k, by omega⟩) (fun a => by match a with | ⟨0, _⟩ => simp | ⟨1, _⟩ => simp)]
  refine (blk_0 m c t i ⟨1408 + k, by omega⟩).trans (congrArg _ ?_)
  dsimp only
  omega

/-- One tile's product, its operands' rows named. -/
theorem half (x : FVec Ideal S1024x1408 .bf16) (y : FVec Ideal S1x1024x1408 .bf16) (h : _) (i j : Fin 1024) (l r : Fin 1408 → EReal)
    (hl : ∀ k, x (ix2 i k) = l k) (hr : ∀ k, y (ix3 0 j k) = r k) :
    matmul dot_S1024x1408_S1024x1408_S1024x1024_1_1_0_0_n_n none x (shapeCast S1024x1408 y h) (constant (F := Ideal) S1024x1024 .f32 0x00000000#32) (ix2 i j)
      = ∑ k, l k * r k :=
  matmul_at dot_S1024x1408_S1024x1408_S1024x1024_1_1_0_0_n_n (ax := 1) rfl rfl x (shapeCast S1024x1408 y h) (ix2 i j) l r (fun k => by simp only [pointwise]; exact hl k)
    (fun k => by simp only [pointwise]; exact hr k)

/-- One pair of tiles' products. -/
theorem pay (t : Fin cfg0.N) (h0 h1 : _) (i j : Fin 1024) :
    k0_pay1 (View.ld (iblk m c 0 t) (Rect.unit ![0, 0] ![1024, 1408] h0)) (iblk m c 1 t)
      (View.ld (iblk m c 0 t) (Rect.unit ![0, 1408] ![1024, 1408] h1)) (iblk m c 2 t) (ix2 i j)
    = ∑ k : Fin 1408, term m c i j (t.val / 4) (1408 * (t.val % 4) + k) := by
  have e0 := half _ _ shapeCasts_S1x1024x1408_S1024x1408 i j _ _ (ld_0 m c t h0 i) (blk_1 m c t 0 j)
  have e1 := half _ _ shapeCasts_S1x1024x1408_S1024x1408 i j _ _ (ld_1 m c t h1 i) (blk_2 m c t 0 j)
  unfold k0_pay1 term
  rw [Finset.sum_add_distrib]
  simp only [shapeCast_self]
  refine congrArg₂ (· + ·) (e0.trans ?_) (e1.trans ?_)
  · unfold one
    rw [Nat.div_div_eq_div_mul]
  · unfold one
    simp only [Nat.div_div_eq_div_mul, Nat.add_assoc]

/-- The accumulator after a point: the sum over the tiles so far. -/
theorem acc (i : Fin 1024) (j : Fin 1024) (n : ℕ) (hn : n < cfg0.N) :
    (outsAt0 m c n hn).2 (ix2 i j) = ∑ k ∈ range (1408 * (n % 4 + 1)), term m c i j (n / 4) k := by
  refine running (N := cfg0.N) (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ _ _ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ _ _ i j)
    · rw [outsAt0_B m c ⟨n, hn⟩ h (by dsimp only; omega) h3]
      dsimp only
      frame_out
      unfold k0_pay3
      rw [shapeCast_self]
      simp only [read_unread_whole]
      exact congrArg _ (pay m c ⟨n, hn⟩ _ _ i j)

/-- The block written back after the last pair of tiles. -/
theorem out (t : Fin cfg0.N) (h : t.val % 4 = 3) (i j : Fin 1024) :
    (outsAt0 m c t.val t.isLt).1 (ix2 i j) = ∑ k ∈ range 11264, one m c i j (t.val / 4) k := by
  have e := acc m c i j t.val t.isLt
  rw [h] at e
  refine Eq.trans ?_ (e.trans ?_)
  · rw [outsAt0_C m c t (by omega) (by omega) h]
    dsimp only
    frame_out
    unfold k0_pay4
    rfl
  · unfold term
    rw [Finset.sum_add_distrib]
    exact (Finset.sum_range_add (one m c i j (t.val / 4)) 5632 5632).symm

/-- The array of results: each entry the sum over every column of the gradient. -/
theorem result (i : Fin 8192) (j : Fin 2048) : (dats m 0 c).arrAt 3 cfg0.N (ix2 i j)
    = ∑ k ∈ range 11264, elem (m (c.tc.loc main_arg0)) i.val k * elem (m (c.tc.loc main_arg1)) j.val k := by
  refine (dats m 0 c).arrAt_forall_of_covers 3 (fun x v => v = ∑ k ∈ range 11264, elem (m (c.tc.loc main_arg0)) (x 0).val k * elem (m (c.tc.loc main_arg1)) (x 1).val k)
    (by decide +kernel) (fun t hf y => ?_) (ix2 i j)
  blk_simp
  rw [after0_3]
  obtain ⟨i, j, rfl⟩ := ix2_of y
  refine (out m c t ?_ i j).trans ?_
  · revert t; decide +kernel
  · obtain ⟨h0, h1⟩ := at_3 t
    rw [h0, h1]
    refine Finset.sum_congr rfl fun k _ => ?_
    unfold one
    rw [Nat.div_div_eq_div_mul, Nat.mul_comm 1024, Nat.mul_comm 1024]
    rfl

end Cert.DhIdeal.Gen

namespace Cert.DhReferenceIdeal.Read
open Cert.Prod
open Idealize.ShloMosaic Idealize.ShloMosaic.TcCoe

/-- The reference's entries. -/
theorem entry (x0 : (⟨S8192x11264, .bf16⟩ : BufTy).Contents (Elt Ideal)) (x1 : (⟨S2048x11264, .f32⟩ : BufTy).Contents (Elt Ideal))
    (i : Fin 8192) (j : Fin 2048) : val_main_v4 (F := Ideal) x0 x1 (ix2 i j)
    = ∑ k ∈ Finset.range 11264, elem x0 i.val k * elem x1 j.val k := by
  rw [val_main_v4_apply]
  show val_main_v3 (F := Ideal) x0 x1 (ix2 i j) = _
  rw [val_main_v3_apply, Finset.sum_range]
  refine Finset.sum_congr rfl fun k _ => ?_
  rw [elem_at x0 i.isLt k.isLt, elem_at x1 j.isLt k.isLt]
  refine congrArg₂ _ ?_ ?_
  · show x0 _ = x0 _
    congr 1; funext d
    match d with
    | ⟨0, _⟩ => rfl
    | ⟨1, _⟩ => rfl
  · congr 1; funext d
    match d with
    | ⟨0, _⟩ => rfl
    | ⟨1, _⟩ => rfl

end Cert.DhReferenceIdeal.Read

namespace Cert.DhIdeal.Gen
open Idealize.ShloMosaic Idealize.ShloMosaic.TcCoe Idealize.SL.Sem

/-- The two programs, from arguments that agree, end with equal results. -/
theorem algebraic : Cert.algebraic_DhIdeal_DhReferenceIdeal := by
  intro m ρ m' ρ' _ hag
  refine ⟨fun c => (dats m 0 c).arrAt 3 cfg0.N, ?_, ?_⟩
  · exact (θ_run defs _ _).mono (fun _ h c => ⟨(h c).1 3,
      ((h c).2 _ (Pipeline.mem_restRefs_of _ (by decide) (by decide))).trans (V_main_arg0 m c),
      ((h c).2 _ (Pipeline.mem_restRefs_of _ (by decide) (by decide))).trans (V_main_arg1 m c)⟩) (run_main m ρ)
  · refine (θ_run Cert.DhReferenceIdeal.defs _ _).mono (fun _ h c => ⟨?_, (h c).2⟩) (Cert.DhReferenceIdeal.Value.run (F := Ideal) m' ρ')
    refine ((h c).1.trans (Cert.DhReferenceIdeal.Read.val_main_v4_eq _ _)).trans ?_
    rw [(hag c).1, (hag c).2]
    funext x
    obtain ⟨i, j, rfl⟩ := Cert.Prod.ix2_of x
    exact (Cert.DhReferenceIdeal.Read.entry _ _ i j).trans (result m c i j).symm

end Cert.DhIdeal.Gen
end
-- ==== Proof.OutWVal.lean ====
module
public import proofs.«01_k».proof.Proof.Gen.OutWIdeal.Frame
public import proofs.«01_k».proof.Proof.Gen.OutWReferenceIdeal.Run
public import proofs.«01_k».proof.Proof.Gen.OutWReferenceIdeal.Read
public import proofs.«01_k».proof.Proof.Prod
public import Idealize.ShloMosaic.Lib.Pipeline.ReadBack
public import proofs.«01_k».proof.Defs
/-!
# The gradient of a mixer's output weight

The accumulator after every point, the array of results, and the reference's entries.
-/
@[expose] public section
set_option maxRecDepth 16384
noncomputable section
namespace Cert.OutWIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- Where the windows lie. -/
theorem at_0 : ∀ t : Fin cfg0.N, win0_0.index t 0 = t.val % 4 ∧ win0_0.index t 1 = t.val / 8 := by decide +kernel
@[inherit_doc at_0]
theorem at_1 : ∀ t : Fin cfg0.N, win0_1.index t 0 = t.val % 4 ∧ win0_1.index t 1 = t.val / 4 % 2 := by decide +kernel
@[inherit_doc at_0]
theorem at_2 : ∀ t : Fin cfg0.N, win0_2.index t 0 = t.val / 8 ∧ win0_2.index t 1 = 0 ∧ win0_2.index t 2 = t.val / 4 % 2 := by decide +kernel

/-- The input's block. -/
theorem blk_0 (t : Fin cfg0.N) (k : Fin 2048) (i : Fin 512) :
    iblk m c 0 t (ix2 k i) = elem (m (c.tc.loc main_arg0)) (2048 * (t.val % 4) + k) (512 * (t.val / 8) + i) := by
  unfold iblk
  blk_simp
  refine elem_of (m (c.tc.loc main_arg0)) _ ((win0_0.rect_emb_val t _ 0).trans ?_) ((win0_0.rect_emb_val t _ 1).trans ?_)
  · rw [(at_0 t).1, Nat.mul_comm]; rfl
  · rw [(at_0 t).2, Nat.mul_comm]; rfl

/-- The gradient's block. -/
theorem blk_1 (t : Fin cfg0.N) (k : Fin 2048) (j : Fin 1024) :
    iblk m c 1 t (ix2 k j) = elem (m (c.tc.loc main_arg1)) (2048 * (t.val % 4) + k) (1024 * (t.val / 4 % 2) + j) := by
  unfold iblk
  blk_simp
  refine elem_of (m (c.tc.loc main_arg1)) _ ((win0_1.rect_emb_val t _ 0).trans ?_) ((win0_1.rect_emb_val t _ 1).trans ?_)
  · rw [(at_1 t).1, Nat.mul_comm]; rfl
  · rw [(at_1 t).2, Nat.mul_comm]; rfl

/-- The terms of the sum at an entry of a tile of results. -/
def term (i j : ℕ) (n k : ℕ) : EReal :=
  elem (m (c.tc.loc main_arg0)) k (512 * (n / 2) + i) * elem (m (c.tc.loc main_arg1)) k (1024 * (n % 2) + j)

/-- One tile's product. -/
theorem pay (t : Fin cfg0.N) (i : Fin 512) (j : Fin 1024) : k0_pay1 (iblk m c 0 t) (iblk m c 1 t) (ix2 i j)
    = ∑ k : Fin 2048, term m c i j (t.val / 4) (2048 * (t.val % 4) + k) := by
  unfold k0_pay1 term
  rw [Nat.div_div_eq_div_mul]
  exact matmul_at _ (ax := 0) rfl rfl (iblk m c 0 t) (iblk m c 1 t) (ix2 i j) _ _
    (fun k => by simp only [pointwise]; exact blk_0 m c t k i) (fun k => by simp only [pointwise]; exact blk_1 m c t k j)

/-- The accumulator after a point: the sum over the tiles so far. -/
theorem acc (i : Fin 512) (j : Fin 1024) (n : ℕ) (hn : n < cfg0.N) :
    (outsAt0 m c n hn).2 (ix2 i j) = ∑ k ∈ range (2048 * (n % 4 + 1)), term m c i j (n / 4) k := by
  refine running (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · refine Eq.trans ?_ (congrArg _ (pay m c ⟨n, hn⟩ i j))
    by_cases h3 : n % 4 = 3
    on_goal 1 => rw [outsAt0_C m c ⟨n, hn⟩ h (by dsimp only; omega) h3]
    on_goal 2 => rw [outsAt0_B m c ⟨n, hn⟩ h (by dsimp only; omega) h3]
    all_goals
      dsimp only
      frame_out
      unfold k0_pay3
      rw [shapeCast_self]
      simp only [read_unread_whole]
      rfl

/-- The block written back after the last tile. -/
theorem out (t : Fin cfg0.N) (h : t.val % 4 = 3) (s : Fin 1) (i : Fin 512) (j : Fin 1024) :
    (outsAt0 m c t.val t.isLt).1 (ix3 s i j) = ∑ k ∈ range 8192, term m c i j (t.val / 4) k := by
  have e := acc m c i j t.val t.isLt
  rw [h] at e
  refine Eq.trans ?_ e
  rw [outsAt0_C m c t (by omega) (by omega) h]
  dsimp only
  frame_out
  unfold k0_pay4
  obtain rfl : s = 0 := Subsingleton.elim _ _
  exact shapeCast_apply _ _ _ (ix2 i j) (by rw [Shape.rowMajor_val_two, Shape.rowMajor_val_three]; simp)

/-- The array of results: each entry the sum over every row. -/
theorem result (x : S4x512x2048.Idx) : (dats m 0 c).arrAt 2 cfg0.N x
    = ∑ k ∈ range 8192, elem (m (c.tc.loc main_arg0)) k (512 * (x 0).val + (x 1).val) * elem (m (c.tc.loc main_arg1)) k (x 2).val := by
  refine (dats m 0 c).arrAt_forall_of_covers 2 (fun x v => v = ∑ k ∈ range 8192, elem (m (c.tc.loc main_arg0)) k (512 * (x 0).val + (x 1).val) * elem (m (c.tc.loc main_arg1)) k (x 2).val)
    (by decide +kernel) (fun t hf y => ?_) x
  blk_simp
  rw [after0_2]
  obtain ⟨s, i, j, rfl⟩ : ∃ (s : Fin 1) (i : Fin 512) (j : Fin 1024), y = ix3 s i j := ⟨y 0, y 1, y 2, (ix3_eta y).symm⟩
  refine (out m c t (by revert t; decide +kernel) s i j).trans ?_
  obtain ⟨h0, h1, h2⟩ := at_2 t
  rw [h0, h1, h2]
  refine Finset.sum_congr rfl fun k _ => ?_
  unfold term
  rw [Nat.div_div_eq_div_mul, Nat.zero_mul, Nat.zero_add, Nat.mul_comm (t.val / 4 % 2)]
  rfl

end Cert.OutWIdeal.Gen

namespace Cert.OutWReferenceIdeal.Read
open Cert.Prod
open Idealize.ShloMosaic Idealize.ShloMosaic.TcCoe

/-- The reference's entries. -/
theorem entry (x0 x1 : (⟨S8192x2048, .bf16⟩ : BufTy).Contents (Elt Ideal)) (x : S4x512x2048.Idx) : val_main_v7 (F := Ideal) x0 x1 x
    = ∑ k ∈ Finset.range 8192, elem x0 k (512 * (x 0).val + (x 1).val) * elem x1 k (x 2).val := by
  obtain ⟨s, i, j, rfl⟩ : ∃ (s : Fin 4) (i : Fin 512) (j : Fin 2048), x = ix3 s i j := ⟨x 0, x 1, x 2, (ix3_eta x).symm⟩
  rw [val_main_v7_apply]
  show val_main_v6 (F := Ideal) x0 x1 (ix3 s i j) = _
  rw [val_main_v6_apply, val_main_v5_apply, val_main_v4_apply, Finset.sum_range]
  refine Finset.sum_congr rfl fun k _ => (mul_comm _ _).trans (congrArg₂ _ (elem_of x0 _ rfl ?_) (elem_of x1 _ rfl ?_))
  · show ((s.val * 512 + i.val) * 2048 + j.val) / 2048 = 512 * s.val + i.val
    omega
  · show ((s.val * 512 + i.val) * 2048 + j.val) % 2048 = j.val
    omega

end Cert.OutWReferenceIdeal.Read

namespace Cert.OutWIdeal.Gen
open Idealize.ShloMosaic Idealize.ShloMosaic.TcCoe Idealize.SL.Sem

/-- The two programs, from arguments that agree, end with equal results. -/
theorem algebraic : Cert.algebraic_OutWIdeal_OutWReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).1 1).trans (((dats m 0 c).arrAt_in 1 rfl _).trans (V_main_arg1 m c))⟩) (run_main m ρ)
  · refine (θ_run Cert.OutWReferenceIdeal.defs _ _).mono (fun _ h c => ⟨?_, (h c).2⟩) (Cert.OutWReferenceIdeal.Value.run (F := Ideal) m' ρ')
    refine ((h c).1.trans (Cert.OutWReferenceIdeal.Read.val_main_v7_eq _ _)).trans ?_
    rw [(hag c).1, (hag c).2]
    exact funext fun x => (Cert.OutWReferenceIdeal.Read.entry _ _ x).trans (result m c x).symm

end Cert.OutWIdeal.Gen
end
-- ==== Proof.OutDVal.lean ====
module
public import proofs.«01_k».proof.Proof.Gen.OutDIdeal.Frame
public import proofs.«01_k».proof.Proof.Gen.OutDReferenceIdeal.Run
public import proofs.«01_k».proof.Proof.Gen.OutDReferenceIdeal.Read
public import Idealize.ShloMosaic.Lib.StableHlo.Run
public import proofs.«01_k».proof.Proof.Prod
public import Idealize.ShloMosaic.Lib.Pipeline.ReadBack
public import proofs.«01_k».proof.Defs
/-!
# The gradient of the input of a mixer's output product

The tiles, the array of results, and the reference's entries.
-/
@[expose] public section
set_option maxRecDepth 16384
noncomputable section
namespace Cert.OutDIdeal.Gen
open Cert.Prod
open Idealize.ShloMosaic Idealize.ShloMosaic.TcCoe Idealize.ShloMosaic.Tactic
variable (m : (ℓ : Loc nD τ sig) → Buf (Elt Ideal) ℓ) (c : Dev nD)

/-- The weight as the call finds it: rounded and cut in four shards. -/
theorem found : V m c main_v1 = shapeCast S4x512x2048 (truncf (F := Ideal) (φ := .f32) .bf16 (m (c.tc.loc main_arg1)) bitsLt_bf16_f32)
    shapeCasts_S2048x2048_S4x512x2048 := by
  unfold V hostOps0
  after_results <;> rfl

/-- Where the windows lie. -/
theorem at_0 : ∀ t : Fin cfg0.N, win0_0.index t 0 = t.val / 4 ∧ win0_0.index t 1 = 0 := by decide +kernel
@[inherit_doc at_0]
theorem at_1 : ∀ t : Fin cfg0.N, win0_1.index t 0 = t.val % 4 ∧ win0_1.index t 1 = 0 ∧ win0_1.index t 2 = 0 := by decide +kernel
@[inherit_doc at_0]
theorem at_2 : ∀ t : Fin cfg0.N, win0_2.index t 0 = t.val / 4 ∧ win0_2.index t 1 = t.val % 4 := by decide +kernel

/-- The gradient's block. -/
theorem blk_0 (t : Fin cfg0.N) (i : Fin 1024) (k : Fin 2048) :
    iblk m c 0 t (ix2 i k) = elem (m (c.tc.loc main_arg0)) (1024 * (t.val / 4) + i) k := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.zero_mul, Nat.zero_add]; rfl

/-- The weight's block. -/
theorem blk_1 (t : Fin cfg0.N) (s : Fin 1) (j : Fin 512) (k : Fin 2048) :
    iblk m c 1 t (ix3 s j k) = elem (m (c.tc.loc main_arg1)) (512 * (t.val % 4) + j) k := by
  have ht : t.val < 32 := t.isLt
  unfold iblk
  blk_simp
  obtain ⟨h0, h1, h2⟩ := at_1 t
  have e0 := win0_1.rect_emb_val t (ix3 s j k) 0
  have e1 := win0_1.rect_emb_val t (ix3 s j k) 1
  have e2 := win0_1.rect_emb_val t (ix3 s j k) 2
  rw [h0] at e0
  rw [h1] at e1
  rw [h2] at e2
  refine (congrFun (found m c) _).trans (rows_elem (m (c.tc.loc main_arg1)) _ _ ?_ ?_ (by omega))
  · refine (congrArg₂ (fun a b => 512 * a + b) e0 e1).trans ?_
    simp
  · refine e2.trans ?_
    simp

/-- One tile of results. -/
theorem pay (t : Fin cfg0.N) (i : Fin 1024) (j : Fin 512) : k0_pay1 (iblk m c 0 t) (iblk m c 1 t) (ix2 i j)
    = ∑ k : Fin 2048, elem (m (c.tc.loc main_arg0)) (1024 * (t.val / 4) + i) k * elem (m (c.tc.loc main_arg1)) (512 * (t.val % 4) + j) k := by
  unfold k0_pay1
  exact matmul_at _ (ax := 1) rfl rfl (iblk m c 0 t) (shapeCast S512x2048 (iblk m c 1 t) shapeCasts_S1x512x2048_S512x2048) (ix2 i j) _ _
    (fun k => by simp only [pointwise]; exact blk_0 m c t i k) (fun k => by simp only [pointwise]; exact blk_1 m c t 0 j k)

/-- The array of results. -/
theorem result (x : S8192x2048.Idx) : (dats m 0 c).arrAt 2 cfg0.N x
    = ∑ k : Fin 2048, elem (m (c.tc.loc main_arg0)) (x 0).val k * elem (m (c.tc.loc main_arg1)) (x 1).val k := by
  refine (dats m 0 c).arrAt_forall_of_covers 2 (fun x v => v = ∑ k : Fin 2048, elem (m (c.tc.loc main_arg0)) (x 0).val k * elem (m (c.tc.loc main_arg1)) (x 1).val k)
    (by decide +kernel) (fun t hf y => ?_) x
  blk_simp
  rw [after0_2]
  obtain ⟨i, j, rfl⟩ := ix2_of y
  obtain ⟨h0, h1⟩ := at_2 t
  frame_out
  refine (pay m c t i j).trans ?_
  rw [h0, h1, Nat.mul_comm 1024, Nat.mul_comm 512]
  rfl

end Cert.OutDIdeal.Gen

namespace Cert.OutDReferenceIdeal.Read
open Cert.Prod
open Idealize.ShloMosaic Idealize.ShloMosaic.TcCoe

/-- The reference's entries. -/
theorem entry (x0 : (⟨S8192x2048, .bf16⟩ : BufTy).Contents (Elt Ideal)) (x1 : (⟨S2048x2048, .f32⟩ : BufTy).Contents (Elt Ideal))
    (x : S8192x2048.Idx) : val_main_v3 (F := Ideal) x0 x1 x = ∑ k : Fin 2048, elem x0 (x 0).val k * elem x1 (x 1).val k := by
  rw [val_main_v3_apply]
  exact Finset.sum_congr rfl fun k _ => congrArg₂ _ (elem_of x0 _ rfl rfl) (elem_of x1 _ rfl rfl)

end Cert.OutDReferenceIdeal.Read

namespace Cert.OutDIdeal.Gen
open Idealize.ShloMosaic Idealize.ShloMosaic.TcCoe Idealize.SL.Sem

/-- The two programs, from arguments that agree, end with equal results. -/
theorem algebraic : Cert.algebraic_OutDIdeal_OutDReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).2 _ (Pipeline.mem_restRefs_of _ (by decide) (by decide))).trans (V_main_arg1 m c)⟩) (run_main m ρ)
  · refine (θ_run Cert.OutDReferenceIdeal.defs _ _).mono (fun _ h c => ⟨?_, (h c).2⟩) (Cert.OutDReferenceIdeal.Value.run (F := Ideal) m' ρ')
    refine ((h c).1.trans (Cert.OutDReferenceIdeal.Read.val_main_v3_eq _ _)).trans ?_
    rw [(hag c).1, (hag c).2]
    exact funext fun x => (Cert.OutDReferenceIdeal.Read.entry _ _ x).trans (result m c x).symm

end Cert.OutDIdeal.Gen
end
-- ==== Proof.ProjVal.lean ====
module
public import proofs.«01_k».proof.Proof.Gen.ProjIdeal.Frame
public import proofs.«01_k».proof.Proof.Gen.ProjReferenceIdeal.Run
public import proofs.«01_k».proof.Proof.Gen.ProjReferenceIdeal.Read
public import Idealize.ShloMosaic.Lib.StableHlo.Run
public import proofs.«01_k».proof.Proof.Prod
public import Idealize.ShloMosaic.Lib.Pipeline.ReadBack
public import proofs.«01_k».proof.Defs
/-!
# The recurrence's input product

The tiles, the array of results, and the reference's entries.
-/
@[expose] public section
set_option maxRecDepth 16384
noncomputable section
namespace Cert.ProjIdeal.Gen
open Cert.Prod
open Idealize.ShloMosaic Idealize.ShloMosaic.TcCoe Idealize.ShloMosaic.Tactic
variable (m : (ℓ : Loc nD τ sig) → Buf (Elt Ideal) ℓ) (c : Dev nD)

/-- The weight as the call finds it: rounded, and widened by columns of noughts. -/
theorem found : V m c main_v1 = pad S2048x6272 ![0, 0] ![0, 112] ![0, 0] (truncf (F := Ideal) (φ := .f32) .bf16 (m (c.tc.loc main_arg1)) bitsLt_bf16_f32)
    (sitofp (F := Ideal) .bf16 (constantI S_ 32 0#32)) pads_S2048x6160_S2048x6272_000_01120 h_S_ := by
  unfold V hostOps0 hostOps0_1
  after_results <;> rfl

/-- Where the windows lie. -/
theorem at_0 : ∀ t : Fin cfg0.N, win0_0.index t 0 = t.val / 7 ∧ win0_0.index t 1 = 0 := by decide +kernel
@[inherit_doc at_0]
theorem at_1 : ∀ t : Fin cfg0.N, win0_1.index t 0 = 0 ∧ win0_1.index t 1 = t.val % 7 := by decide +kernel
@[inherit_doc at_0]
theorem at_2 : ∀ t : Fin cfg0.N, win0_2.index t 0 = t.val / 7 ∧ win0_2.index t 1 = t.val % 7 := by decide +kernel

/-- The input's block. -/
theorem blk_0 (t : Fin cfg0.N) (i : Fin 1024) (k : Fin 2048) :
    iblk m c 0 t (ix2 i k) = elem (m (c.tc.loc main_arg0)) (1024 * (t.val / 7) + i) k := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.zero_mul, Nat.zero_add]; rfl

/-- The weight's block. -/
theorem blk_1 (t : Fin cfg0.N) (k : Fin 2048) (j : Fin 896) :
    iblk m c 1 t (ix2 k j) = elem (m (c.tc.loc main_arg1)) k (896 * (t.val % 7) + j) := by
  unfold iblk
  blk_simp
  refine (congrFun (found m c) _).trans (pad_elem (m (c.tc.loc main_arg1)) _ _ _ nought _ ((win0_1.rect_emb_val t _ 0).trans ?_) ((win0_1.rect_emb_val t _ 1).trans ?_))
  · rw [(at_1 t).1, Nat.zero_mul, Nat.zero_add]; rfl
  · rw [(at_1 t).2, Nat.mul_comm]; rfl

/-- One tile of results. -/
theorem pay (t : Fin cfg0.N) (i : Fin 1024) (j : Fin 896) : k0_pay1 (iblk m c 0 t) (iblk m c 1 t) (ix2 i j)
    = ∑ k : Fin 2048, elem (m (c.tc.loc main_arg0)) (1024 * (t.val / 7) + i) k * elem (m (c.tc.loc main_arg1)) k (896 * (t.val % 7) + j) := by
  unfold k0_pay1
  simp only [shapeCast_self]
  exact matmul_at _ (ax := 1) rfl rfl (iblk m c 0 t) (iblk m c 1 t) (ix2 i j) _ _
    (fun k => by simp only [pointwise]; exact blk_0 m c t i k) (fun k => by simp only [pointwise]; exact blk_1 m c t k j)

/-- The array of results. -/
theorem result (x : S8192x6272.Idx) : (dats m 0 c).arrAt 2 cfg0.N x
    = ∑ k : Fin 2048, elem (m (c.tc.loc main_arg0)) (x 0).val k * elem (m (c.tc.loc main_arg1)) k (x 1).val := by
  refine (dats m 0 c).arrAt_forall_of_covers 2 (fun x v => v = ∑ k : Fin 2048, elem (m (c.tc.loc main_arg0)) (x 0).val k * elem (m (c.tc.loc main_arg1)) k (x 1).val)
    (by decide +kernel) (fun t hf y => ?_) x
  blk_simp
  rw [after0_2]
  obtain ⟨i, j, rfl⟩ := ix2_of y
  obtain ⟨h0, h1⟩ := at_2 t
  frame_out
  refine (pay m c t i j).trans ?_
  rw [h0, h1, Nat.mul_comm 1024, Nat.mul_comm 896]
  rfl

end Cert.ProjIdeal.Gen

namespace Cert.ProjReferenceIdeal.Read
open Cert.Prod
open Idealize.ShloMosaic Idealize.ShloMosaic.TcCoe

/-- The reference's entries: past the weight's last column a sum of noughts. -/
theorem entry (x0 : (⟨S8192x2048, .bf16⟩ : BufTy).Contents (Elt Ideal)) (x1 : (⟨S2048x6160, .f32⟩ : BufTy).Contents (Elt Ideal))
    (x : S8192x6272.Idx) : val_main_v2 (F := Ideal) x0 x1 x = ∑ k : Fin 2048, elem x0 (x 0).val k * elem x1 k (x 1).val := by
  unfold val_main_v2
  refine (pad_elem (val_main_v1 (F := Ideal) x0 x1) _ _ _ nought x rfl rfl).trans ?_
  by_cases h : (x 1).val < 6160
  · refine (elem_at (n0 := 8192) (n1 := 6160) (val_main_v1 (F := Ideal) x0 x1) (x 0).isLt h).trans ?_
    rw [val_main_v1_apply]
    exact Finset.sum_congr rfl fun k _ => congrArg₂ _ (elem_of x0 _ rfl rfl) (elem_of x1 _ rfl rfl)
  · rw [elem_out _ h]
    exact (Finset.sum_eq_zero fun k _ => by rw [elem_out x1 h, mul_zero]).symm

end Cert.ProjReferenceIdeal.Read

namespace Cert.ProjIdeal.Gen
open Idealize.ShloMosaic Idealize.ShloMosaic.TcCoe Idealize.SL.Sem

/-- The two programs, from arguments that agree, end with equal results. -/
theorem algebraic : Cert.algebraic_ProjIdeal_ProjReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).2 _ (Pipeline.mem_restRefs_of _ (by decide) (by decide))).trans (V_main_arg1 m c)⟩) (run_main m ρ)
  · refine (θ_run Cert.ProjReferenceIdeal.defs _ _).mono (fun _ h c => ⟨?_, (h c).2⟩) (Cert.ProjReferenceIdeal.Value.run (F := Ideal) m' ρ')
    refine ((h c).1.trans (Cert.ProjReferenceIdeal.Read.val_main_v2_eq _ _)).trans ?_
    rw [(hag c).1, (hag c).2]
    exact funext fun x => (Cert.ProjReferenceIdeal.Read.entry _ _ x).trans (result m c x).symm

end Cert.ProjIdeal.Gen
end
-- ==== Proof.ProjWVal.lean ====
module
public import proofs.«01_k».proof.Proof.Gen.ProjWIdeal.Frame
public import proofs.«01_k».proof.Proof.Gen.ProjWReferenceIdeal.Run
public import proofs.«01_k».proof.Proof.Gen.ProjWReferenceIdeal.Read
public import Idealize.ShloMosaic.Lib.StableHlo.Run
public import proofs.«01_k».proof.Proof.Prod
public import Idealize.ShloMosaic.Lib.Pipeline.ReadBack
public import proofs.«01_k».proof.Defs
/-!
# The gradient of the recurrence's input weight

The accumulator after every point, the array of results, and the reference's entries.
-/
@[expose] public section
set_option maxRecDepth 16384
noncomputable section
namespace Cert.ProjWIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- Where the windows lie. -/
theorem at_0 : ∀ t : Fin cfg0.N, win0_0.index t 0 = t.val % 4 ∧ win0_0.index t 1 = t.val / 28 := by decide +kernel
@[inherit_doc at_0]
theorem at_1 : ∀ t : Fin cfg0.N, win0_1.index t 0 = t.val % 4 ∧ win0_1.index t 1 = t.val / 4 % 7 := by decide +kernel
@[inherit_doc at_0]
theorem at_2 : ∀ t : Fin cfg0.N, win0_2.index t 0 = t.val / 28 ∧ win0_2.index t 1 = t.val / 4 % 7 := by decide +kernel

/-- The input's block. -/
theorem blk_0 (t : Fin cfg0.N) (k : Fin 2048) (i : Fin 1024) :
    iblk m c 0 t (ix2 k i) = elem (m (c.tc.loc main_arg0)) (2048 * (t.val % 4) + k) (1024 * (t.val / 28) + i) := by
  unfold iblk
  blk_simp
  refine elem_of (m (c.tc.loc main_arg0)) _ ((win0_0.rect_emb_val t _ 0).trans ?_) ((win0_0.rect_emb_val t _ 1).trans ?_)
  · rw [(at_0 t).1, Nat.mul_comm]; rfl
  · rw [(at_0 t).2, Nat.mul_comm]; rfl

/-- The gradient's block. -/
theorem blk_1 (t : Fin cfg0.N) (k : Fin 2048) (j : Fin 896) :
    iblk m c 1 t (ix2 k j) = elem (m (c.tc.loc main_arg1)) (2048 * (t.val % 4) + k) (896 * (t.val / 4 % 7) + j) := by
  unfold iblk
  blk_simp
  refine elem_of (m (c.tc.loc main_arg1)) _ ((win0_1.rect_emb_val t _ 0).trans ?_) ((win0_1.rect_emb_val t _ 1).trans ?_)
  · rw [(at_1 t).1, Nat.mul_comm]; rfl
  · rw [(at_1 t).2, Nat.mul_comm]; rfl

/-- The terms of the sum at an entry of a tile of results. -/
def term (i j : ℕ) (n k : ℕ) : EReal :=
  elem (m (c.tc.loc main_arg0)) k (1024 * (n / 7) + i) * elem (m (c.tc.loc main_arg1)) k (896 * (n % 7) + j)

/-- One tile's product. -/
theorem pay (t : Fin cfg0.N) (i : Fin 1024) (j : Fin 896) : k0_pay1 (iblk m c 0 t) (iblk m c 1 t) (ix2 i j)
    = ∑ k : Fin 2048, term m c i j (t.val / 4) (2048 * (t.val % 4) + k) := by
  unfold k0_pay1 term
  rw [Nat.div_div_eq_div_mul]
  exact matmul_at _ (ax := 0) rfl rfl (iblk m c 0 t) (iblk m c 1 t) (ix2 i j) _ _
    (fun k => by simp only [pointwise]; exact blk_0 m c t k i) (fun k => by simp only [pointwise]; exact blk_1 m c t k j)

/-- The accumulator after a point: the sum over the tiles so far. -/
theorem acc (i : Fin 1024) (j : Fin 896) (n : ℕ) (hn : n < cfg0.N) :
    (outsAt0 m c n hn).2 (ix2 i j) = ∑ k ∈ range (2048 * (n % 4 + 1)), term m c i j (n / 4) k := by
  refine running (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · refine Eq.trans ?_ (congrArg _ (pay m c ⟨n, hn⟩ i j))
    by_cases h3 : n % 4 = 3
    on_goal 1 => rw [outsAt0_C m c ⟨n, hn⟩ h (by dsimp only; omega) h3]
    on_goal 2 => rw [outsAt0_B m c ⟨n, hn⟩ h (by dsimp only; omega) h3]
    all_goals
      dsimp only
      frame_out
      unfold k0_pay3
      rw [shapeCast_self]
      simp only [read_unread_whole]
      rfl

/-- The block written back after the last tile. -/
theorem out (t : Fin cfg0.N) (h : t.val % 4 = 3) (i : Fin 1024) (j : Fin 896) :
    (outsAt0 m c t.val t.isLt).1 (ix2 i j) = ∑ k ∈ range 8192, term m c i j (t.val / 4) k := by
  have e := acc m c i j t.val t.isLt
  rw [h] at e
  refine Eq.trans ?_ e
  rw [outsAt0_C m c t (by omega) (by omega) h]
  dsimp only
  frame_out
  unfold k0_pay4
  rfl

/-- The call's array: each entry the sum over every row. -/
theorem result (x : S2048x6272.Idx) : (dats m 0 c).arrAt 2 cfg0.N x
    = ∑ k ∈ range 8192, elem (m (c.tc.loc main_arg0)) k (x 0).val * elem (m (c.tc.loc main_arg1)) k (x 1).val := by
  refine (dats m 0 c).arrAt_forall_of_covers 2 (fun x v => v = ∑ k ∈ range 8192, elem (m (c.tc.loc main_arg0)) k (x 0).val * elem (m (c.tc.loc main_arg1)) k (x 1).val)
    (by decide +kernel) (fun t hf y => ?_) x
  blk_simp
  rw [after0_2]
  obtain ⟨i, j, rfl⟩ := ix2_of y
  refine (out m c t (by revert t; decide +kernel) i j).trans ?_
  obtain ⟨h0, h1⟩ := at_2 t
  rw [h0, h1]
  refine Finset.sum_congr rfl fun k _ => ?_
  unfold term
  rw [Nat.div_div_eq_div_mul, Nat.mul_comm 1024, Nat.mul_comm 896]
  rfl

/-- The added columns dropped, the rest cut in four shards. -/
def shards (g : (⟨S2048x6272, .bf16⟩ : BufTy).Contents (Elt Ideal)) : (⟨S4x2048x1540, .bf16⟩ : BufTy).Contents (Elt Ideal) :=
  transpose S4x2048x1540 [1, 0, 2] (shapeCast S2048x4x1540 (extractStridedSlice S2048x6160 ![0, 0] g
    slices_S2048x6272_S2048x6160_0_0) shapeCasts_S2048x6160_S2048x4x1540) transposes_S2048x4x1540_S4x2048x1540_1_0_2

/-- The program's result. -/
def final : (⟨S4x2048x1540, .bf16⟩ : BufTy).Contents (Elt Ideal) := shards ((dats m 0 c).arrAt 2 cfg0.N)

/-- What the lines after the call leave. -/
theorem left : Pipeline.afterTail₀ cfgs (dats m) 0 (V0 m) [hostOps1] c main_v3 = final m c := by
  have e := Pipeline.withArrays_arr (τ := τ) cfg0.spec (by decide) c (V0 m c) (fun w => (dats m 0 c).arrAt w cfg0.N) 2
  unfold Pipeline.afterTail₀
  show StableHlo.after hostOps1 _ (Proc.devRef .tc main_v3) = _
  after_results
  exact congrArg shards e

/-- Its entries. -/
theorem final_at (x : S4x2048x1540.Idx) : final m c x
    = ∑ k ∈ range 8192, elem (m (c.tc.loc main_arg0)) k (x 1).val * elem (m (c.tc.loc main_arg1)) k (1540 * (x 0).val + (x 2).val) := by
  have h0 : (x 0).val < 4 := (x 0).isLt
  have h2 : (x 2).val < 1540 := (x 2).isLt
  unfold final shards
  refine (cols_elem (R := 2048) (M := 1540) rfl _ _ _ x rfl rfl).trans ?_
  refine (elem_at (n0 := 2048) (n1 := 6160) _ (x 1).isLt (by omega)).trans ?_
  exact (extractStridedSlice_apply _ _ _ _ (ix2 (x 1) ⟨1540 * (x 0).val + (x 2).val, by omega⟩)
    (fun a => by match a with | ⟨0, _⟩ => simp | ⟨1, _⟩ => simp)).trans (result m c _)

end Cert.ProjWIdeal.Gen

namespace Cert.ProjWReferenceIdeal.Read
open Cert.Prod
open Idealize.ShloMosaic Idealize.ShloMosaic.TcCoe

/-- The reference's entries. -/
theorem entry (x0 : (⟨S8192x2048, .bf16⟩ : BufTy).Contents (Elt Ideal)) (x1 : (⟨S8192x6272, .bf16⟩ : BufTy).Contents (Elt Ideal)) (x : S4x2048x1540.Idx) :
    val_main_v9 (F := Ideal) x0 x1 x = ∑ k ∈ Finset.range 8192, elem x0 k (x 1).val * elem x1 k (1540 * (x 0).val + (x 2).val) := by
  rw [val_main_v9_apply]
  show val_main_v8 (F := Ideal) x0 x1 x = _
  unfold val_main_v8 val_main_v7
  refine (cols_elem (R := 2048) (M := 1540) rfl (val_main_v6 (F := Ideal) x0 x1) _ _ x rfl rfl).trans ?_
  have h0 : (x 0).val < 4 := (x 0).isLt
  have h2 : (x 2).val < 1540 := (x 2).isLt
  refine (elem_at (n0 := 2048) (n1 := 6160) (val_main_v6 (F := Ideal) x0 x1) (x 1).isLt (by omega)).trans ?_
  rw [val_main_v6_apply, val_main_v5_apply, Finset.sum_range]
  refine Finset.sum_congr rfl fun k _ => (mul_comm _ _).trans (congrArg₂ _ (elem_of x0 _ rfl rfl) ?_)
  rw [val_main_v4_apply]
  show val_main_v3 (F := Ideal) x1 _ = _
  rw [val_main_v3_apply]
  exact elem_of x1 _ rfl rfl

end Cert.ProjWReferenceIdeal.Read

namespace Cert.ProjWIdeal.Gen
open Idealize.ShloMosaic Idealize.ShloMosaic.TcCoe Idealize.SL.Sem

/-- The two programs, from arguments that agree, end with equal results. -/
theorem algebraic : Cert.algebraic_ProjWIdeal_ProjWReferenceIdeal := by
  intro m ρ m' ρ' _ hag
  refine ⟨fun c => final m c, ?_, ?_⟩
  · exact (θ_run defs _ _).mono (fun _ h c => ⟨((h c).2 main_v3 (Pipeline.mem_restRefs_of main_v3 (by decide) (by decide))).trans (left m c),
      ((h c).1 0).trans (((dats m 0 c).arrAt_in 0 rfl _).trans ((A_eq m c 0).trans rfl)),
      ((h c).1 1).trans (((dats m 0 c).arrAt_in 1 rfl _).trans ((A_eq m c 1).trans rfl))⟩) (run_main m ρ)
  · refine (θ_run Cert.ProjWReferenceIdeal.defs _ _).mono (fun _ h c => ⟨?_, (h c).2⟩) (Cert.ProjWReferenceIdeal.Value.run (F := Ideal) m' ρ')
    refine ((h c).1.trans (Cert.ProjWReferenceIdeal.Read.val_main_v9_eq _ _)).trans ?_
    rw [(hag c).1, (hag c).2]
    exact funext fun x => (Cert.ProjWReferenceIdeal.Read.entry _ _ x).trans (final_at m c x).symm

end Cert.ProjWIdeal.Gen
end
-- ==== Proof.ProjDVal.lean ====
module
public import proofs.«01_k».proof.Proof.Gen.ProjDIdeal.Frame
public import proofs.«01_k».proof.Proof.Gen.ProjDReferenceIdeal.Run
public import proofs.«01_k».proof.Proof.Gen.ProjDReferenceIdeal.Read
public import Idealize.ShloMosaic.Lib.StableHlo.Run
public import proofs.«01_k».proof.Proof.Prod
public import Idealize.ShloMosaic.Lib.Pipeline.ReadBack
public import proofs.«01_k».proof.Defs
/-!
# The gradient of the recurrence's input

The accumulator after every point, the array of results, and the reference's entries.
-/
@[expose] public section
set_option maxRecDepth 16384
noncomputable section
namespace Cert.ProjDIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- The weight as the call finds it: rounded, and widened by columns of noughts. -/
theorem found : V m c main_v1 = pad S2048x6272 ![0, 0] ![0, 112] ![0, 0] (truncf (F := Ideal) (φ := .f32) .bf16 (m (c.tc.loc main_arg1)) bitsLt_bf16_f32)
    (sitofp (F := Ideal) .bf16 (constantI S_ 32 0#32)) pads_S2048x6160_S2048x6272_000_01120 h_S_ := by
  unfold V hostOps0 hostOps0_1
  after_results <;> rfl

/-- Where the windows lie. -/
theorem at_0 : ∀ t : Fin cfg0.N, win0_0.index t 0 = t.val / 14 ∧ win0_0.index t 1 = t.val % 7 := by decide +kernel
@[inherit_doc at_0]
theorem at_1 : ∀ t : Fin cfg0.N, win0_1.index t 0 = t.val / 7 % 2 ∧ win0_1.index t 1 = t.val % 7 := by decide +kernel
@[inherit_doc at_0]
theorem at_2 : ∀ t : Fin cfg0.N, win0_2.index t 0 = t.val / 14 ∧ win0_2.index t 1 = t.val / 7 % 2 := by decide +kernel

/-- The gradient's block. -/
theorem blk_0 (t : Fin cfg0.N) (i : Fin 1024) (k : Fin 896) :
    iblk m c 0 t (ix2 i k) = elem (m (c.tc.loc main_arg0)) (1024 * (t.val / 14) + i) (896 * (t.val % 7) + k) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The weight's block. -/
theorem blk_1 (t : Fin cfg0.N) (j : Fin 1024) (k : Fin 896) :
    iblk m c 1 t (ix2 j k) = elem (m (c.tc.loc main_arg1)) (1024 * (t.val / 7 % 2) + j) (896 * (t.val % 7) + k) := by
  unfold iblk
  blk_simp
  refine (congrFun (found m c) _).trans (pad_elem (m (c.tc.loc main_arg1)) _ _ _ nought _ ((win0_1.rect_emb_val t _ 0).trans ?_) ((win0_1.rect_emb_val t _ 1).trans ?_))
  · rw [(at_1 t).1, Nat.mul_comm]; rfl
  · rw [(at_1 t).2, Nat.mul_comm]; rfl

/-- The terms of the sum at an entry of a tile of results. -/
def term (i j : ℕ) (n k : ℕ) : EReal :=
  elem (m (c.tc.loc main_arg0)) (1024 * (n / 2) + i) k * elem (m (c.tc.loc main_arg1)) (1024 * (n % 2) + j) k

/-- One tile's product. -/
theorem pay (t : Fin cfg0.N) (i j : Fin 1024) : k0_pay1 (iblk m c 0 t) (iblk m c 1 t) (ix2 i j)
    = ∑ k : Fin 896, term m c i j (t.val / 7) (896 * (t.val % 7) + k) := by
  unfold k0_pay1 term
  simp only [shapeCast_self, Nat.div_div_eq_div_mul, Nat.reduceMul]
  exact matmul_at _ (ax := 1) rfl rfl (iblk m c 0 t) (iblk m c 1 t) (ix2 i j) _ _
    (fun k => by simp only [pointwise]; exact blk_0 m c t i k) (fun k => by simp only [pointwise]; exact blk_1 m c t j k)

/-- The accumulator after a point: the sum over the tiles so far. -/
theorem acc (i j : Fin 1024) (n : ℕ) (hn : n < cfg0.N) :
    (outsAt0 m c n hn).2 (ix2 i j) = ∑ k ∈ range (896 * (n % 7 + 1)), term m c i j (n / 7) k := by
  refine running (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · refine Eq.trans ?_ (congrArg _ (pay m c ⟨n, hn⟩ i j))
    by_cases h3 : n % 7 = 6
    on_goal 1 => rw [outsAt0_C m c ⟨n, hn⟩ h (by dsimp only; omega) h3]
    on_goal 2 => rw [outsAt0_B m c ⟨n, hn⟩ h (by dsimp only; omega) h3]
    all_goals
      dsimp only
      frame_out
      unfold k0_pay3
      rw [shapeCast_self]
      simp only [read_unread_whole]
      rfl

/-- The block written back after the last tile: the added columns are noughts. -/
theorem out (t : Fin cfg0.N) (h : t.val % 7 = 6) (i j : Fin 1024) :
    (outsAt0 m c t.val t.isLt).1 (ix2 i j) = ∑ k ∈ range 6160, term m c i j (t.val / 7) k := by
  have e := acc m c i j t.val t.isLt
  rw [h] at e
  refine Eq.trans ?_ (e.trans ?_)
  · rw [outsAt0_C m c t (by omega) (by omega) h]
    dsimp only
    frame_out
    unfold k0_pay4
    rfl
  · refine (Finset.sum_subset (Finset.range_subset_range.2 (by omega)) fun k _ hk => ?_).symm
    unfold term
    rw [elem_out (m (c.tc.loc main_arg1)) (by simpa using hk), mul_zero]

/-- The array of results: each entry the sum over every column of the weight. -/
theorem result (x : S8192x2048.Idx) : (dats m 0 c).arrAt 2 cfg0.N x
    = ∑ k ∈ range 6160, elem (m (c.tc.loc main_arg0)) (x 0).val k * elem (m (c.tc.loc main_arg1)) (x 1).val k := by
  refine (dats m 0 c).arrAt_forall_of_covers 2 (fun x v => v = ∑ k ∈ range 6160, elem (m (c.tc.loc main_arg0)) (x 0).val k * elem (m (c.tc.loc main_arg1)) (x 1).val k)
    (by decide +kernel) (fun t hf y => ?_) x
  blk_simp
  rw [after0_2]
  obtain ⟨i, j, rfl⟩ := ix2_of y
  refine (out m c t (by revert t; decide +kernel) i j).trans ?_
  obtain ⟨h0, h1⟩ := at_2 t
  rw [h0, h1]
  refine Finset.sum_congr rfl fun k _ => ?_
  unfold term
  rw [Nat.div_div_eq_div_mul, Nat.mul_comm 1024, Nat.mul_comm 1024]
  rfl

end Cert.ProjDIdeal.Gen

namespace Cert.ProjDReferenceIdeal.Read
open Cert.Prod
open Idealize.ShloMosaic Idealize.ShloMosaic.TcCoe

/-- The reference's entries. -/
theorem entry (x0 : (⟨S8192x6272, .bf16⟩ : BufTy).Contents (Elt Ideal)) (x1 : (⟨S2048x6160, .f32⟩ : BufTy).Contents (Elt Ideal))
    (x : S8192x2048.Idx) : val_main_v5 (F := Ideal) x0 x1 x = ∑ k ∈ Finset.range 6160, elem x0 (x 0).val k * elem x1 (x 1).val k := by
  rw [val_main_v5_apply]
  show val_main_v4 (F := Ideal) x0 x1 x = _
  rw [val_main_v4_apply, Finset.sum_range]
  refine Finset.sum_congr rfl fun k _ => congrArg₂ _ ?_ (elem_of x1 _ rfl rfl)
  rw [val_main_v3_apply]
  show val_main_v2 (F := Ideal) x0 _ = _
  rw [val_main_v2_apply]
  exact elem_of x0 _ rfl rfl

end Cert.ProjDReferenceIdeal.Read

namespace Cert.ProjDIdeal.Gen
open Idealize.ShloMosaic Idealize.ShloMosaic.TcCoe Idealize.SL.Sem

/-- The two programs, from arguments that agree, end with equal results. -/
theorem algebraic : Cert.algebraic_ProjDIdeal_ProjDReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).2 _ (Pipeline.mem_restRefs_of _ (by decide) (by decide))).trans (V_main_arg1 m c)⟩) (run_main m ρ)
  · refine (θ_run Cert.ProjDReferenceIdeal.defs _ _).mono (fun _ h c => ⟨?_, (h c).2⟩) (Cert.ProjDReferenceIdeal.Value.run (F := Ideal) m' ρ')
    refine ((h c).1.trans (Cert.ProjDReferenceIdeal.Read.val_main_v5_eq _ _)).trans ?_
    rw [(hag c).1, (hag c).2]
    exact funext fun x => (Cert.ProjDReferenceIdeal.Read.entry _ _ x).trans (result m c x).symm

end Cert.ProjDIdeal.Gen
end
-- ==== Proof.ConvWVal.lean ====
module
public import proofs.«01_k».proof.Proof.Gen.ConvWIdeal.Frame
public import proofs.«01_k».proof.Proof.Gen.ConvWReferenceIdeal.Run
public import proofs.«01_k».proof.Proof.Gen.ConvWReferenceIdeal.Read
public import Idealize.ShloMosaic.Lib.StableHlo.Run
public import proofs.«01_k».proof.Proof.Prod
public import Idealize.ShloMosaic.Lib.Pipeline.ReadBack
public import proofs.«01_k».proof.Defs
/-!
# The gradient of the convolution's input weight

The accumulator after every point, the array of results, and the reference's entries.
-/
@[expose] public section
set_option maxRecDepth 16384
noncomputable section
namespace Cert.ConvWIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- The gradient as the call finds it: laid out in pairs of tiles. -/
theorem found : V m c main_v2 = shapeCast S8192x4096 (transpose S8192x2x2x1024 [0, 2, 1, 3]
    (shapeCast S8192x2x2x1024 (m (c.tc.loc main_arg1)) shapeCasts_S8192x4096_S8192x2x2x1024)
    transposes_S8192x2x2x1024_S8192x2x2x1024_0_2_1_3) shapeCasts_S8192x2x2x1024_S8192x4096 := by
  unfold V hostOps0
  after_results <;> rfl

/-- Where the windows lie. -/
theorem at_0 : ∀ t : Fin cfg0.N, win0_0.index t 0 = t.val % 4 ∧ win0_0.index t 1 = t.val / 16 := by decide +kernel
@[inherit_doc at_0]
theorem at_1 : ∀ t : Fin cfg0.N, win0_1.index t 0 = t.val % 4 ∧ win0_1.index t 1 = t.val / 4 % 4 := by decide +kernel
@[inherit_doc at_0]
theorem at_2 : ∀ t : Fin cfg0.N, win0_2.index t 0 = 2 * (t.val / 4 % 2) + t.val / 8 % 2 ∧ win0_2.index t 1 = t.val / 16 ∧ win0_2.index t 2 = 0 := by decide +kernel

/-- The input's block. -/
theorem blk_0 (t : Fin cfg0.N) (k : Fin 2048) (i : Fin 1024) :
    iblk m c 0 t (ix2 k i) = elem (m (c.tc.loc main_arg0)) (2048 * (t.val % 4) + k) (1024 * (t.val / 16) + i) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The gradient's block: one tile of one half. -/
theorem blk_1 (t : Fin cfg0.N) (k : Fin 2048) (j : Fin 1024) :
    iblk m c 1 t (ix2 k j) = elem (m (c.tc.loc main_arg1)) (2048 * (t.val % 4) + k) (1024 * (2 * (t.val / 4 % 2) + t.val / 8 % 2) + j) := by
  unfold iblk
  blk_simp
  refine (congrFun (found m c) _).trans (pairs_elem (p := 2) (w := 1024) rfl (m (c.tc.loc main_arg1)) _ _ _ _
    ⟨t.val / 8 % 2, Nat.mod_lt _ (by omega)⟩ ⟨t.val / 4 % 2, Nat.mod_lt _ (by omega)⟩ j
    ((win0_1.rect_emb_val t _ 0).trans ?_) ((win0_1.rect_emb_val t _ 1).trans ?_) (by dsimp only; omega))
  · rw [(at_1 t).1, Nat.mul_comm]; rfl
  · refine (congrArg (fun a => a * 1024 + j.val) (at_1 t).2).trans ?_
    dsimp only; omega

/-- The terms of the sum at an entry of a tile of results. -/
def term (i j : ℕ) (n k : ℕ) : EReal :=
  elem (m (c.tc.loc main_arg0)) k (1024 * (n / 4) + i) * elem (m (c.tc.loc main_arg1)) k (1024 * (2 * (n % 2) + n / 2 % 2) + j)

/-- One tile's product. -/
theorem pay (t : Fin cfg0.N) (i j : Fin 1024) : k0_pay1 (iblk m c 0 t) (iblk m c 1 t) (ix2 i j)
    = ∑ k : Fin 2048, term m c i j (t.val / 4) (2048 * (t.val % 4) + k) := by
  unfold k0_pay1 term
  simp only [shapeCast_self, Nat.div_div_eq_div_mul, Nat.reduceMul]
  exact matmul_at _ (ax := 0) rfl rfl (iblk m c 0 t) (iblk m c 1 t) (ix2 i j) _ _
    (fun k => by simp only [pointwise]; exact blk_0 m c t k i) (fun k => by simp only [pointwise]; exact blk_1 m c t k j)

/-- The accumulator after a point: the sum over the tiles so far. -/
theorem acc (i : Fin 1024) (j : Fin 1024) (n : ℕ) (hn : n < cfg0.N) :
    (outsAt0 m c n hn).2 (ix2 i j) = ∑ k ∈ range (2048 * (n % 4 + 1)), term m c i j (n / 4) k := by
  refine running (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · refine Eq.trans ?_ (congrArg _ (pay m c ⟨n, hn⟩ i j))
    by_cases h3 : n % 4 = 3
    on_goal 1 => rw [outsAt0_C m c ⟨n, hn⟩ h (by dsimp only; omega) h3]
    on_goal 2 => rw [outsAt0_B m c ⟨n, hn⟩ h (by dsimp only; omega) h3]
    all_goals
      dsimp only
      frame_out
      unfold k0_pay3
      rw [shapeCast_self]
      simp only [read_unread_whole]
      rfl

/-- The block written back after the last tile. -/
theorem out (t : Fin cfg0.N) (h : t.val % 4 = 3) (s : Fin 1) (i : Fin 1024) (j : Fin 1024) :
    (outsAt0 m c t.val t.isLt).1 (ix3 s i j) = ∑ k ∈ range 8192, term m c i j (t.val / 4) k := by
  have e := acc m c i j t.val t.isLt
  rw [h] at e
  refine Eq.trans ?_ e
  rw [outsAt0_C m c t (by omega) (by omega) h]
  dsimp only
  frame_out
  unfold k0_pay4
  obtain rfl : s = 0 := Subsingleton.elim _ _
  exact shapeCast_apply _ _ _ (ix2 i j) (by rw [Shape.rowMajor_val_two, Shape.rowMajor_val_three]; simp)

/-- The array of results: each entry the sum over every row. -/
theorem result (x : S4x2048x1024.Idx) : (dats m 0 c).arrAt 2 cfg0.N x
    = ∑ k ∈ range 8192, elem (m (c.tc.loc main_arg0)) k (x 1).val * elem (m (c.tc.loc main_arg1)) k (1024 * (x 0).val + (x 2).val) := by
  refine (dats m 0 c).arrAt_forall_of_covers 2 (fun x v => v = ∑ k ∈ range 8192, elem (m (c.tc.loc main_arg0)) k (x 1).val * elem (m (c.tc.loc main_arg1)) k (1024 * (x 0).val + (x 2).val))
    (by decide +kernel) (fun t hf y => ?_) x
  blk_simp
  rw [after0_2]
  obtain ⟨s, i, j, rfl⟩ : ∃ (s : Fin 1) (i : Fin 1024) (j : Fin 1024), y = ix3 s i j := ⟨y 0, y 1, y 2, (ix3_eta y).symm⟩
  refine (out m c t (by revert t; decide +kernel) s i j).trans ?_
  obtain ⟨h0, h1, h2⟩ := at_2 t
  rw [h0, h1, h2]
  refine Finset.sum_congr rfl fun k _ => ?_
  unfold term
  simp only [Nat.div_div_eq_div_mul, Nat.reduceMul]
  refine congrArg₂ _ (congrArg _ ?_) (congrArg _ ?_)
  · rw [Nat.mul_comm]; rfl
  · obtain rfl : s = 0 := Subsingleton.elim _ _
    simp

end Cert.ConvWIdeal.Gen

namespace Cert.ConvWReferenceIdeal.Read
open Cert.Prod
open Idealize.ShloMosaic Idealize.ShloMosaic.TcCoe

/-- The reference's entries. -/
theorem entry (x0 : (⟨S8192x2048, .bf16⟩ : BufTy).Contents (Elt Ideal)) (x1 : (⟨S8192x4096, .bf16⟩ : BufTy).Contents (Elt Ideal)) (x : S4x2048x1024.Idx) :
    val_main_v8 (F := Ideal) x0 x1 x = ∑ k ∈ Finset.range 8192, elem x0 k (x 1).val * elem x1 k (1024 * (x 0).val + (x 2).val) := by
  rw [val_main_v8_apply]
  show val_main_v7 (F := Ideal) x0 x1 x = _
  unfold val_main_v7 val_main_v6
  refine (cols_elem (R := 2048) (M := 1024) rfl (val_main_v5 (F := Ideal) x0 x1) _ _ x rfl rfl).trans ?_
  have h0 : (x 0).val < 4 := (x 0).isLt
  have h2 : (x 2).val < 1024 := (x 2).isLt
  refine (elem_at (n0 := 2048) (n1 := 4096) (val_main_v5 (F := Ideal) x0 x1) (x 1).isLt (by omega)).trans ?_
  rw [val_main_v5_apply, val_main_v4_apply, Finset.sum_range]
  exact Finset.sum_congr rfl fun k _ => (mul_comm _ _).trans (congrArg₂ _ (elem_of x0 _ rfl rfl) (elem_of x1 _ rfl rfl))

end Cert.ConvWReferenceIdeal.Read

namespace Cert.ConvWIdeal.Gen
open Idealize.ShloMosaic Idealize.ShloMosaic.TcCoe Idealize.SL.Sem

/-- The two programs, from arguments that agree, end with equal results. -/
theorem algebraic : Cert.algebraic_ConvWIdeal_ConvWReferenceIdeal := by
  intro m ρ m' ρ' _ hag
  refine ⟨fun c => (dats m 0 c).arrAt 2 cfg0.N, ?_, ?_⟩
  · exact (θ_run defs _ _).mono (fun _ h c => ⟨(h c).1 2,
      ((h c).1 0).trans (((dats m 0 c).arrAt_in 0 rfl _).trans (V_main_arg0 m c)),
      ((h c).2 _ (Pipeline.mem_restRefs_of _ (by decide) (by decide))).trans (V_main_arg1 m c)⟩) (run_main m ρ)
  · refine (θ_run Cert.ConvWReferenceIdeal.defs _ _).mono (fun _ h c => ⟨?_, (h c).2⟩) (Cert.ConvWReferenceIdeal.Value.run (F := Ideal) m' ρ')
    refine ((h c).1.trans (Cert.ConvWReferenceIdeal.Read.val_main_v8_eq _ _)).trans ?_
    rw [(hag c).1, (hag c).2]
    exact funext fun x => (Cert.ConvWReferenceIdeal.Read.entry _ _ x).trans (result m c x).symm

end Cert.ConvWIdeal.Gen
end
-- ==== Proof.ConvDVal.lean ====
module
public import proofs.«01_k».proof.Proof.Gen.ConvDIdeal.Frame
public import proofs.«01_k».proof.Proof.Gen.ConvDReferenceIdeal.Run
public import proofs.«01_k».proof.Proof.Gen.ConvDReferenceIdeal.Read
public import Idealize.ShloMosaic.Lib.StableHlo.Run
public import proofs.«01_k».proof.Proof.Prod
public import Idealize.ShloMosaic.Lib.Pipeline.ReadBack
public import proofs.«01_k».proof.Defs
/-!
# The gradient of the convolution's input

The accumulator after every point, the array of results, and the reference's entries.
-/
@[expose] public section
set_option maxRecDepth 16384
noncomputable section
namespace Cert.ConvDIdeal.Gen
open Cert.Prod
open Idealize.ShloMosaic Idealize.ShloMosaic.TcCoe Idealize.ShloMosaic.Tactic
open Finset (range)
variable (m : (ℓ : Loc nD τ sig) → Buf (Elt Ideal) ℓ) (c : Dev nD)

/-- The gradient as the call finds it: laid out in pairs of tiles. -/
theorem found_du : V m c main_v5 = shapeCast S8192x4096 (transpose S8192x2x2x1024 [0, 2, 1, 3]
    (shapeCast S8192x2x2x1024 (m (c.tc.loc main_arg0)) shapeCasts_S8192x4096_S8192x2x2x1024)
    transposes_S8192x2x2x1024_S8192x2x2x1024_0_2_1_3) shapeCasts_S8192x2x2x1024_S8192x4096 := by
  unfold V hostOps0
  after_results <;> rfl

/-- The weight as the call finds it: rounded and cut in four shards. -/
theorem found_w : V m c main_v2 = transpose S4x2048x1024 [1, 0, 2]
    (shapeCast S2048x4x1024 (truncf (F := Ideal) (φ := .f32) .bf16 (m (c.tc.loc main_arg1)) bitsLt_bf16_f32) shapeCasts_S2048x4096_S2048x4x1024)
    transposes_S2048x4x1024_S4x2048x1024_1_0_2 := by
  unfold V hostOps0
  after_results <;> rfl

/-- Where the windows lie. -/
theorem at_0 : ∀ t : Fin cfg0.N, win0_0.index t 0 = t.val / 4 ∧ win0_0.index t 1 = t.val % 2 := by decide +kernel
@[inherit_doc at_0]
theorem at_1 : ∀ t : Fin cfg0.N, win0_1.index t 0 = t.val % 2 ∧ win0_1.index t 1 = t.val / 2 % 2 ∧ win0_1.index t 2 = 0 := by decide +kernel
@[inherit_doc at_0]
theorem at_2 : ∀ t : Fin cfg0.N, win0_2.index t 0 = 2 + t.val % 2 ∧ win0_2.index t 1 = t.val / 2 % 2 ∧ win0_2.index t 2 = 0 := by decide +kernel
@[inherit_doc at_0]
theorem at_3 : ∀ t : Fin cfg0.N, win0_3.index t 0 = t.val / 4 ∧ win0_3.index t 1 = t.val / 2 % 2 := by decide +kernel

/-- The gradient's block: a tile of one half beside one of the other. -/
theorem blk_0 (t : Fin cfg0.N) (i : Fin 1024) (s : Fin 2) (k : Fin 1024) (y : S1024x2048.Idx) (h0 : (y 0).val = i) (h1 : (y 1).val = 1024 * s + k) :
    iblk m c 0 t y = elem (m (c.tc.loc main_arg0)) (1024 * (t.val / 4) + i) (2048 * s + (1024 * (t.val % 2) + k)) := by
  unfold iblk
  blk_simp
  refine (congrFun (found_du m c) _).trans (pairs_elem (p := 2) (w := 1024) rfl (m (c.tc.loc main_arg0)) _ _ _ _ ⟨t.val % 2, Nat.mod_lt _ (by omega)⟩ s k
    ((win0_0.rect_emb_val t _ 0).trans ?_) ((win0_0.rect_emb_val t _ 1).trans ?_) (by dsimp only; omega))
  · rw [(at_0 t).1, Nat.mul_comm]; exact congrArg _ h0
  · refine (congrArg₂ (fun a b => a * 2048 + b) (at_0 t).2 h1).trans ?_
    dsimp only; omega

/-- One half's weight. -/
theorem blk_1 (t : Fin cfg0.N) (s : Fin 1) (j : Fin 1024) (k : Fin 1024) :
    iblk m c 1 t (ix3 s j k) = elem (m (c.tc.loc main_arg1)) (1024 * (t.val / 2 % 2) + j) (1024 * (t.val % 2) + k) := by
  obtain ⟨a0, a1, a2⟩ := at_1 t
  unfold iblk
  blk_simp
  refine (congrFun (found_w m c) _).trans (cols_elem rfl (m (c.tc.loc main_arg1)) _ _ _ ((win0_1.rect_emb_val t _ 1).trans ?_)
    ((congrArg₂ (fun a b => 1024 * a + b) (win0_1.rect_emb_val t _ 0) (win0_1.rect_emb_val t _ 2)).trans ?_))
  · rw [a1, Nat.mul_comm]; rfl
  · rw [a0, a2]; simp

/-- The other half's weight. -/
theorem blk_2 (t : Fin cfg0.N) (s : Fin 1) (j : Fin 1024) (k : Fin 1024) :
    iblk m c 2 t (ix3 s j k) = elem (m (c.tc.loc main_arg1)) (1024 * (t.val / 2 % 2) + j) (2048 + (1024 * (t.val % 2) + k)) := by
  obtain ⟨a0, a1, a2⟩ := at_2 t
  unfold iblk
  blk_simp
  refine (congrFun (found_w m c) _).trans (cols_elem rfl (m (c.tc.loc main_arg1)) _ _ _ ((win0_2.rect_emb_val t _ 1).trans ?_)
    ((congrArg₂ (fun a b => 1024 * a + b) (win0_2.rect_emb_val t _ 0) (win0_2.rect_emb_val t _ 2)).trans ?_))
  · rw [a1, Nat.mul_comm]; rfl
  · rw [a0, a2]; simp; omega

/-- One term of the sum at an entry of a tile of results. -/
def one (i j : ℕ) (n k : ℕ) : EReal :=
  elem (m (c.tc.loc main_arg0)) (1024 * (n / 2) + i) k * elem (m (c.tc.loc main_arg1)) (1024 * (n % 2) + j) k

/-- The terms of both halves together. -/
def term (i j : ℕ) (n k : ℕ) : EReal := one m c i j n k + one m c i j n (2048 + k)

/-- One half of the gradient's block, as it is loaded. -/
theorem ld (t : Fin cfg0.N) (s : Fin 2) {o : ℕ} (ho : o = 1024 * s) (inb : _) (i : Fin 1024) (k : Fin 1024) :
    View.ld (Val := Elt Ideal) (e' := .bf16) (iblk m c 0 t) (Rect.unit ![0, o] ![1024, 1024] inb) (ix2 i k)
      = elem (m (c.tc.loc main_arg0)) (1024 * (t.val / 4) + i) (2048 * s + (1024 * (t.val % 2) + k)) := by
  subst ho
  rw [View.ld_unit_apply_of _ _ _ inb (ix2 i k) (ix2 i ⟨1024 * s + k, by omega⟩) (fun a => by match a with | ⟨0, _⟩ => simp | ⟨1, _⟩ => simp)]
  exact blk_0 m c t i s k (ix2 i ⟨1024 * s + k, by omega⟩) rfl rfl

/-- One tile's product, its operands' rows named. -/
theorem half (x : FVec Ideal S1024x1024 .bf16) (y : FVec Ideal S1x1024x1024 .bf16) (h : _) (i j : Fin 1024) (l r : Fin 1024 → EReal)
    (hl : ∀ k, x (ix2 i k) = l k) (hr : ∀ k, y (ix3 0 j k) = r k) :
    matmul dot_S1024x1024_S1024x1024_S1024x1024_1_1_0_0_n_n none x (shapeCast S1024x1024 y h) (constant (F := Ideal) S1024x1024 .f32 0x00000000#32) (ix2 i j)
      = ∑ k, l k * r k :=
  matmul_at dot_S1024x1024_S1024x1024_S1024x1024_1_1_0_0_n_n (ax := 1) rfl rfl x (shapeCast S1024x1024 y h) (ix2 i j) l r (fun k => by simp only [pointwise]; exact hl k)
    (fun k => by simp only [pointwise]; exact hr k)

/-- One pair of tiles' products. -/
theorem pay (t : Fin cfg0.N) (h0 h1 : _) (i j : Fin 1024) :
    k0_pay1 (View.ld (iblk m c 0 t) (Rect.unit ![0, 0] ![1024, 1024] h0)) (iblk m c 1 t)
      (View.ld (iblk m c 0 t) (Rect.unit ![0, 1024] ![1024, 1024] h1)) (iblk m c 2 t) (ix2 i j)
    = ∑ k : Fin 1024, term m c i j (t.val / 2) (1024 * (t.val % 2) + k) := by
  have e0 := half _ _ shapeCasts_S1x1024x1024_S1024x1024 i j _ _ (ld m c t 0 rfl h0 i) (blk_1 m c t 0 j)
  have e1 := half _ _ shapeCasts_S1x1024x1024_S1024x1024 i j _ _ (ld m c t 1 rfl h1 i) (blk_2 m c t 0 j)
  unfold k0_pay1 term
  rw [Finset.sum_add_distrib]
  simp only [shapeCast_self]
  refine congrArg₂ (· + ·) (e0.trans ?_) (e1.trans ?_)
  · unfold one
    simp [Nat.div_div_eq_div_mul]
  · unfold one
    simp [Nat.div_div_eq_div_mul]

/-- The accumulator after a point: the sum over the tiles so far. -/
theorem acc (i : Fin 1024) (j : Fin 1024) (n : ℕ) (hn : n < cfg0.N) :
    (outsAt0 m c n hn).2 (ix2 i j) = ∑ k ∈ range (1024 * (n % 2 + 1)), term m c i j (n / 2) k := by
  refine running (fun n hn => (outsAt0 m c n hn).2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ _ _ i j
  · rw [outsAt0_B m c ⟨n, hn⟩ h (by dsimp only; omega) (by dsimp only; omega)]
    dsimp only
    frame_out
    unfold k0_pay3
    rw [shapeCast_self]
    simp only [read_unread_whole]
    exact congrArg _ (pay m c ⟨n, hn⟩ _ _ i j)

/-- The block written back after the last pair of tiles. -/
theorem out (t : Fin cfg0.N) (h : t.val % 2 = 1) (i j : Fin 1024) :
    (outsAt0 m c t.val t.isLt).1 (ix2 i j) = ∑ k ∈ range 4096, one m c i j (t.val / 2) k := by
  have e := acc m c i j t.val t.isLt
  rw [h] at e
  refine Eq.trans ?_ (e.trans ?_)
  · rw [outsAt0_B m c t (by omega) h h]
    dsimp only
    frame_out
    unfold k0_pay4
    rfl
  · unfold term
    rw [Finset.sum_add_distrib]
    exact (Finset.sum_range_add (one m c i j (t.val / 2)) 2048 2048).symm

/-- The array of results: each entry the sum over every column of the gradient. -/
theorem result (x : S8192x2048.Idx) : (dats m 0 c).arrAt 3 cfg0.N x
    = ∑ k ∈ range 4096, elem (m (c.tc.loc main_arg0)) (x 0).val k * elem (m (c.tc.loc main_arg1)) (x 1).val k := by
  refine (dats m 0 c).arrAt_forall_of_covers 3 (fun x v => v = ∑ k ∈ range 4096, elem (m (c.tc.loc main_arg0)) (x 0).val k * elem (m (c.tc.loc main_arg1)) (x 1).val k)
    (by decide +kernel) (fun t hf y => ?_) x
  blk_simp
  rw [after0_3]
  obtain ⟨i, j, rfl⟩ := ix2_of y
  refine (out m c t ?_ i j).trans ?_
  · revert t; decide +kernel
  · obtain ⟨h0, h1⟩ := at_3 t
    rw [h0, h1]
    refine Finset.sum_congr rfl fun k _ => ?_
    unfold one
    rw [Nat.div_div_eq_div_mul, Nat.mul_comm 1024, Nat.mul_comm 1024]
    rfl

end Cert.ConvDIdeal.Gen

namespace Cert.ConvDReferenceIdeal.Read
open Cert.Prod
open Idealize.ShloMosaic Idealize.ShloMosaic.TcCoe

/-- The reference's entries. -/
theorem entry (x0 : (⟨S8192x4096, .bf16⟩ : BufTy).Contents (Elt Ideal)) (x1 : (⟨S2048x4096, .f32⟩ : BufTy).Contents (Elt Ideal))
    (x : S8192x2048.Idx) : val_main_v4 (F := Ideal) x0 x1 x = ∑ k ∈ Finset.range 4096, elem x0 (x 0).val k * elem x1 (x 1).val k := by
  rw [val_main_v4_apply]
  show val_main_v3 (F := Ideal) x0 x1 x = _
  rw [val_main_v3_apply, Finset.sum_range]
  exact Finset.sum_congr rfl fun k _ => congrArg₂ _ (elem_of x0 _ rfl rfl) (elem_of x1 _ rfl rfl)

end Cert.ConvDReferenceIdeal.Read

namespace Cert.ConvDIdeal.Gen
open Idealize.ShloMosaic Idealize.ShloMosaic.TcCoe Idealize.SL.Sem

/-- The two programs, from arguments that agree, end with equal results. -/
theorem algebraic : Cert.algebraic_ConvDIdeal_ConvDReferenceIdeal := by
  intro m ρ m' ρ' _ hag
  refine ⟨fun c => (dats m 0 c).arrAt 3 cfg0.N, ?_, ?_⟩
  · exact (θ_run defs _ _).mono (fun _ h c => ⟨(h c).1 3,
      ((h c).2 _ (Pipeline.mem_restRefs_of _ (by decide) (by decide))).trans (V_main_arg0 m c),
      ((h c).2 _ (Pipeline.mem_restRefs_of _ (by decide) (by decide))).trans (V_main_arg1 m c)⟩) (run_main m ρ)
  · refine (θ_run Cert.ConvDReferenceIdeal.defs _ _).mono (fun _ h c => ⟨?_, (h c).2⟩) (Cert.ConvDReferenceIdeal.Value.run (F := Ideal) m' ρ')
    refine ((h c).1.trans (Cert.ConvDReferenceIdeal.Read.val_main_v4_eq _ _)).trans ?_
    rw [(hag c).1, (hag c).2]
    exact funext fun x => (Cert.ConvDReferenceIdeal.Read.entry _ _ x).trans (result m c x).symm

end Cert.ConvDIdeal.Gen
end
-- ==== Proof.Pw1Val.lean ====
module
public import proofs.«01_k».proof.Proof.Gen.Pw1Ideal.Frame
public import proofs.«01_k».proof.Proof.Gen.Pw1ReferenceIdeal.Run
public import proofs.«01_k».proof.Proof.Gen.Pw1ReferenceIdeal.Read
public import proofs.«01_k».proof.Proof.ActMath
public import Idealize.ShloMosaic.Lib.StableHlo.Run
public import Idealize.ShloMosaic.Lib.Pipeline.ReadBack
public import proofs.«01_k».proof.Defs
/-!
# The convolution's first product with its bias and its gate

The two products of a point, the two arrays of results, and the reference's entries.
-/
@[expose] public section
set_option maxRecDepth 16384
noncomputable section
namespace Cert.Pw1
open Cert.Prod
open Idealize.ShloMosaic

/-- Where a column of the array laid out in pairs of tiles comes from. -/
def origin (n : ℕ) : ℕ := 2048 * (n / 1024 % 2) + 1024 * (n / 2048) + n % 1024

/-- An entry of the bias, by number. -/
def lane (b : (⟨1, ![4096]⟩ : Shape).Idx → EReal) (n : ℕ) : EReal := if h : n < 4096 then b (ix1 ⟨n, h⟩) else 0

/-- It is the bias's entry at an index of that number. -/
theorem lane_of (b : (⟨1, ![4096]⟩ : Shape).Idx → EReal) (i : (⟨1, ![4096]⟩ : Shape).Idx) {n : ℕ} (h : (i 0).val = n) : b i = lane b n := by
  subst h
  have e : lane b (i 0).val = b (ix1 (i 0)) := dif_pos (i 0).isLt
  exact (congrArg b (ix1_eta i)).symm.trans e.symm

/-- An entry of the product with the bias. -/
def pre (h : (⟨2, ![8192, 2048]⟩ : Shape).Idx → EReal) (w : (⟨2, ![2048, 4096]⟩ : Shape).Idx → EReal) (b : (⟨1, ![4096]⟩ : Shape).Idx → EReal)
    (i n : ℕ) : EReal := ∑ k : Fin 2048, elem h i k * elem w k n + lane b n

/-- An entry of the first half times the gate of the other half's. -/
def glu (h : (⟨2, ![8192, 2048]⟩ : Shape).Idx → EReal) (w : (⟨2, ![2048, 4096]⟩ : Shape).Idx → EReal) (b : (⟨1, ![4096]⟩ : Shape).Idx → EReal)
    (i n : ℕ) : EReal := pre h w b i n * Cert.Act.gate (pre h w b i (2048 + n))

/-- The bias cut in two halves of two tiles. -/
theorem cut_at (b : (⟨1, ![4096]⟩ : Shape).Idx → EReal) (h1 : (⟨1, ![4096]⟩ : Shape).ShapeCasts ⟨2, ![1, 4096]⟩)
    (h2 : (⟨2, ![1, 4096]⟩ : Shape).ShapeCasts ⟨3, ![2, 2, 1024]⟩) (p q : Fin 2) (k : Fin 1024) :
    shapeCast ⟨3, ![2, 2, 1024]⟩ (shapeCast ⟨2, ![1, 4096]⟩ b h1) h2 (ix3 p q k) = b (ix1 ⟨2048 * p + 1024 * q + k, by omega⟩) := by
  refine (shapeCast_apply _ h2 _ (ix2 0 ⟨2048 * p + 1024 * q + k, by omega⟩) ?_).trans (shapeCast_apply b h1 _ _ ?_)
  · rw [Shape.rowMajor_val_two, Shape.rowMajor_val_three]
    show 0 * 4096 + (2048 * p.val + 1024 * q.val + k.val) = (p.val * 2 + q.val) * 1024 + k.val
    omega
  · rw [Shape.rowMajor_val_two, Shape.rowMajor_val_one]
    show 2048 * p.val + 1024 * q.val + k.val = 0 * 4096 + (2048 * p.val + 1024 * q.val + k.val)
    omega

/-- The bias laid out in pairs of tiles, as one row. -/
theorem bias_at (b : (⟨1, ![4096]⟩ : Shape).Idx → EReal) (h1 : (⟨1, ![4096]⟩ : Shape).ShapeCasts ⟨2, ![1, 4096]⟩)
    (h2 : (⟨2, ![1, 4096]⟩ : Shape).ShapeCasts ⟨3, ![2, 2, 1024]⟩) (h3 : (⟨3, ![2, 2, 1024]⟩ : Shape).Transposes [1, 0, 2] ⟨3, ![2, 2, 1024]⟩)
    (h4 : (⟨3, ![2, 2, 1024]⟩ : Shape).ShapeCasts ⟨2, ![1, 4096]⟩) (n : Fin 4096) :
    shapeCast ⟨2, ![1, 4096]⟩ (transpose ⟨3, ![2, 2, 1024]⟩ [1, 0, 2] (shapeCast ⟨3, ![2, 2, 1024]⟩ (shapeCast ⟨2, ![1, 4096]⟩ b h1) h2) h3) h4 (ix2 0 n)
      = lane b (origin n) := by
  have hn := n.isLt
  refine (shapeCast_apply _ h4 _ (ix3 ⟨n / 2048, by omega⟩ ⟨n / 1024 % 2, by omega⟩ ⟨n % 1024, by omega⟩) ?_).trans ?_
  · rw [Shape.rowMajor_val_two, Shape.rowMajor_val_three]
    show (n.val / 2048 * 2 + n.val / 1024 % 2) * 1024 + n.val % 1024 = 0 * 4096 + n.val
    omega
  refine (transpose_apply [1, 0, 2] _ h3 (ix3 ⟨n / 2048, by omega⟩ ⟨n / 1024 % 2, by omega⟩ ⟨n % 1024, by omega⟩) (ix3 ⟨n / 1024 % 2, by omega⟩ ⟨n / 2048, by omega⟩ ⟨n % 1024, by omega⟩) (fun b => match b with
    | ⟨0, _⟩ => rfl
    | ⟨1, _⟩ => rfl
    | ⟨2, _⟩ => rfl)).trans ?_
  exact (cut_at b h1 h2 _ _ _).trans (lane_of b _ rfl)

end Cert.Pw1

namespace Cert.Pw1Ideal.Gen
open Cert.Prod Cert.Pw1
open Idealize.ShloMosaic Idealize.ShloMosaic.TcCoe Idealize.ShloMosaic.Tactic
variable (m : (ℓ : Loc nD τ sig) → Buf (Elt Ideal) ℓ) (c : Dev nD)

/-- The weight as the call finds it: rounded and cut in four shards. -/
theorem found_w : V m c main_v2 = transpose S4x2048x1024 [1, 0, 2]
    (shapeCast S2048x4x1024 (truncf (F := Ideal) (φ := .f32) .bf16 (m (c.tc.loc main_arg1)) bitsLt_bf16_f32) shapeCasts_S2048x4096_S2048x4x1024)
    transposes_S2048x4x1024_S4x2048x1024_1_0_2 := by
  unfold V hostOps0
  after_results <;> rfl

/-- The bias as the call finds it: laid out in pairs of tiles. -/
theorem found_b : V m c main_v6 = shapeCast S1x4096 (transpose S2x2x1024 [1, 0, 2]
    (shapeCast S2x2x1024 (shapeCast S1x4096 (m (c.tc.loc main_arg2)) shapeCasts_S4096_S1x4096) shapeCasts_S1x4096_S2x2x1024)
    transposes_S2x2x1024_S2x2x1024_1_0_2) shapeCasts_S2x2x1024_S1x4096 := by
  unfold V hostOps0
  after_results <;> rfl

/-- Where the windows lie. -/
theorem at_0 : ∀ t : Fin cfg0.N, win0_0.index t 0 = t.val % 16 ∧ win0_0.index t 1 = 0 := by decide +kernel
@[inherit_doc at_0]
theorem at_w : ∀ t : Fin cfg0.N, (win0_1.index t 0 = t.val / 16 ∧ win0_1.index t 1 = 0 ∧ win0_1.index t 2 = 0)
    ∧ win0_2.index t 0 = 2 + t.val / 16 ∧ win0_2.index t 1 = 0 ∧ win0_2.index t 2 = 0 := by decide +kernel
@[inherit_doc at_0]
theorem at_3 : ∀ t : Fin cfg0.N, win0_3.index t 0 = 0 ∧ win0_3.index t 1 = t.val / 16 := by decide +kernel
@[inherit_doc at_0]
theorem at_out : ∀ t : Fin cfg0.N, (win0_4.index t 0 = t.val % 16 ∧ win0_4.index t 1 = t.val / 16)
    ∧ win0_5.index t 0 = t.val % 16 ∧ win0_5.index t 1 = t.val / 16 := by decide +kernel

/-- The hidden state's block. -/
theorem blk_0 (t : Fin cfg0.N) (i : Fin 512) (k : Fin 2048) :
    iblk m c 0 t (ix2 i k) = elem (m (c.tc.loc main_arg0)) (t.val % 16 * 512 + i) k := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1]; rfl
  · rw [(at_0 t).2]; exact Nat.zero_add _

/-- One half's weight. -/
theorem blk_1 (t : Fin cfg0.N) (s : Fin 1) (k : Fin 2048) (j : Fin 1024) :
    iblk m c 1 t (ix3 s k j) = elem (m (c.tc.loc main_arg1)) k (t.val / 16 * 1024 + j) := by
  obtain ⟨a0, a1, a2⟩ := (at_w t).1
  unfold iblk
  blk_simp
  refine (congrFun (found_w m c) _).trans (cols_elem rfl (m (c.tc.loc main_arg1)) _ _ _ ((win0_1.rect_emb_val t _ 1).trans ?_)
    ((congrArg₂ (fun a b => 1024 * a + b) (win0_1.rect_emb_val t _ 0) (win0_1.rect_emb_val t _ 2)).trans ?_))
  · rw [a1]; exact Nat.zero_add _
  · rw [a0, a2]; simp; omega

/-- The other half's weight. -/
theorem blk_2 (t : Fin cfg0.N) (s : Fin 1) (k : Fin 2048) (j : Fin 1024) :
    iblk m c 2 t (ix3 s k j) = elem (m (c.tc.loc main_arg1)) k (2048 + (t.val / 16 * 1024 + j)) := by
  obtain ⟨a0, a1, a2⟩ := (at_w t).2
  unfold iblk
  blk_simp
  refine (congrFun (found_w m c) _).trans (cols_elem rfl (m (c.tc.loc main_arg1)) _ _ _ ((win0_2.rect_emb_val t _ 1).trans ?_)
    ((congrArg₂ (fun a b => 1024 * a + b) (win0_2.rect_emb_val t _ 0) (win0_2.rect_emb_val t _ 2)).trans ?_))
  · rw [a1]; exact Nat.zero_add _
  · rw [a0, a2]; simp; omega

/-- Half of the bias's block, as it is loaded. -/
theorem ld_3 (t : Fin cfg0.N) (s : Fin 2) {o : ℕ} (ho : o = 1024 * s) (inb : _) (j : Fin 1024) :
    View.ld (Val := Elt Ideal) (e' := .f32) (iblk m c 3 t) (Rect.unit ![0, o] ![1, 1024] inb) (ix2 0 j)
      = lane (m (c.tc.loc main_arg2)) (2048 * s + (t.val / 16 * 1024 + j)) := by
  subst ho
  rw [View.ld_unit_apply_of _ _ _ inb (ix2 0 j) (ix2 0 ⟨1024 * s + j, by omega⟩) (fun a => by match a with | ⟨0, _⟩ => simp | ⟨1, _⟩ => simp)]
  have ht : t.val < 32 := t.isLt
  unfold iblk
  blk_simp
  have e : (win0_3.blk t).view.emb (ix2 0 ⟨1024 * s + j, by omega⟩) = ix2 0 ⟨t.val / 16 * 2048 + (1024 * s + j), by omega⟩ :=
    funext fun d => Fin.ext (by
      refine (win0_3.rect_emb_val t _ d).trans ?_
      match d with
      | ⟨0, _⟩ => have := (at_3 t).1; simp [this]
      | ⟨1, _⟩ => have := (at_3 t).2; simp [this])
  rw [e]
  refine (congrFun (found_b m c) _).trans ((bias_at (m (c.tc.loc main_arg2)) _ _ _ _ _).trans (congrArg _ ?_))
  unfold origin
  dsimp only
  omega

/-- A load of the whole of a block. -/
theorem whole2 {n0 n1 : ℕ} {e : EltTy} (x : (⟨2, ![n0, n1]⟩ : Shape).Idx → Elt Ideal e) (inb : _) (i : Fin n0) (k : Fin n1) :
    View.ld (Val := Elt Ideal) (e' := e) x (Rect.unit ![0, 0] ![n0, n1] inb) (ix2 i k) = x (ix2 i k) :=
  View.ld_unit_apply_of _ _ _ inb (ix2 i k) (ix2 i k) (fun a => by match a with | ⟨0, _⟩ => simp | ⟨1, _⟩ => simp)

@[inherit_doc whole2]
theorem whole3 {n0 n1 n2 : ℕ} {e : EltTy} (x : (⟨3, ![n0, n1, n2]⟩ : Shape).Idx → Elt Ideal e) (inb : _) (i : Fin n0) (k : Fin n1) (j : Fin n2) :
    View.ld (Val := Elt Ideal) (e' := e) x (Rect.unit ![0, 0, 0] ![n0, n1, n2] inb) (ix3 i k j) = x (ix3 i k j) :=
  View.ld_unit_apply_of _ _ _ inb (ix3 i k j) (ix3 i k j) (fun a => by match a with | ⟨0, _⟩ => simp | ⟨1, _⟩ => simp | ⟨2, _⟩ => simp)

/-- One tile's product with the bias, its operands' elements named. -/
theorem half (x : FVec Ideal S512x2048 .bf16) (y : FVec Ideal S1x2048x1024 .bf16) (b : FVec Ideal S1x1024 .f32) (i : Fin 512) (j : Fin 1024)
    (l r : Fin 2048 → EReal) (v : EReal) (hl : ∀ k, x (ix2 i k) = l k) (hr : ∀ k, y (ix3 0 k j) = r k) (hb : b (ix2 0 j) = v) :
    k0_pay1 (F := Ideal) x y b (ix2 i j) = ∑ k, l k * r k + v := by
  unfold k0_pay1
  refine congrArg₂ (fun p q : EReal => p + q) (matmul_at dot_S512x2048_S2048x1024_S512x1024_1_0_0_1_n_n (ax := 1) rfl rfl x
    (shapeCast S2048x1024 y shapeCasts_S1x2048x1024_S2048x1024) (ix2 i j) l r
    (fun k => by simp only [pointwise]; exact hl k) (fun k => by simp only [pointwise]; exact hr k)) ?_
  simp only [pointwise]
  exact hb

/-- The entry of the product with the bias that a point's entry is. -/
abbrev u (t : Fin cfg0.N) (i : Fin 512) (n : ℕ) : EReal := pre (m (c.tc.loc main_arg0)) (m (c.tc.loc main_arg1)) (m (c.tc.loc main_arg2)) (t.val % 16 * 512 + i) n

/-- The first half's product at a point. -/
theorem pay_1 (t : Fin cfg0.N) (i : Fin 512) (j : Fin 1024) :
    k0_pay1 (View.ld (iblk m c 0 t) r0_0) (View.ld (iblk m c 1 t) r0_1) (View.ld (iblk m c 3 t) r0_2) (ix2 i j) = u m c t i (t.val / 16 * 1024 + j) :=
  half _ _ _ i j _ _ _ (fun k => (whole2 _ _ i k).trans (blk_0 m c t i k)) (fun k => (whole3 _ _ 0 k j).trans (blk_1 m c t 0 k j))
    ((ld_3 m c t 0 rfl _ j).trans (congrArg _ (Nat.zero_add _)))

/-- The other half's product at a point. -/
theorem pay_2 (t : Fin cfg0.N) (i : Fin 512) (j : Fin 1024) :
    k0_pay2 (View.ld (iblk m c 0 t) r0_0) (View.ld (iblk m c 2 t) r0_1) (View.ld (iblk m c 3 t) r0_3) (ix2 i j) = u m c t i (2048 + (t.val / 16 * 1024 + j)) :=
  half _ _ _ i j _ _ _ (fun k => (whole2 _ _ i k).trans (blk_0 m c t i k)) (fun k => (whole3 _ _ 0 k j).trans (blk_2 m c t 0 k j))
    (ld_3 m c t 1 rfl _ j)

/-- The gated half from the two products. -/
theorem pay_5 (x : Vec Ideal S512x2048 .bf16) (y z : Vec Ideal S1x2048x1024 .bf16) (b d : Vec Ideal S1x1024 .f32) (j : S512x1024.Idx) :
    k0_pay5 x y z b d j = Mul.mul (α := EReal) (k0_pay1 x y b j) (Cert.Act.gate (k0_pay2 x z d j)) := by
  rw [← Cert.Act.gate_sub]
  rfl

/-- Two stores side by side, read back. -/
theorem side (p q : Vec Ideal S512x1024 .bf16) (i : Fin 512) (n : Fin 2048) :
    View.canon (Val := Elt Ideal) [⟨r0_5, p⟩, ⟨r0_4, q⟩] (ix2 i n)
      = if h : n.val < 1024 then q (ix2 i ⟨n.val, h⟩) else p (ix2 i ⟨n.val - 1024, by omega⟩) := by
  refine (Cert.Rep.canon_col (o := 1024) (w := 1024) i n).trans ?_
  by_cases h : n.val < 1024
  · rw [dif_neg (by omega), dif_pos h]
    refine (Cert.Rep.canon_col (o := 0) (w := 1024) i n).trans ?_
    rw [dif_pos (by omega)]
    rfl
  · rw [dif_pos (by omega), dif_neg h]

/-- The products, laid out in pairs of tiles. -/
theorem result_u (x : S8192x4096.Idx) : (dats m 0 c).arrAt 4 cfg0.N x
    = pre (m (c.tc.loc main_arg0)) (m (c.tc.loc main_arg1)) (m (c.tc.loc main_arg2)) (x 0).val (origin (x 1).val) := by
  refine (dats m 0 c).arrAt_forall_of_covers 4 (fun x v => v = pre (m (c.tc.loc main_arg0)) (m (c.tc.loc main_arg1)) (m (c.tc.loc main_arg2)) (x 0).val (origin (x 1).val))
    (by decide +kernel) (fun t hf y => ?_) x
  blk_simp
  rw [after0_4]
  obtain ⟨i, n, rfl⟩ := ix2_of y
  have ht : t.val < 32 := t.isLt
  obtain ⟨h0, h1⟩ := (at_out t).1
  unfold out0_4
  refine (side _ _ i n).trans ?_
  rw [h0, h1]
  split
  · refine (pay_1 m c t i ⟨n.val, by assumption⟩).trans (congrArg _ ?_)
    show _ = origin (t.val / 16 * 2048 + n.val)
    unfold origin
    dsimp only
    omega
  · refine (pay_2 m c t i ⟨n.val - 1024, by omega⟩).trans (congrArg _ ?_)
    show _ = origin (t.val / 16 * 2048 + n.val)
    unfold origin
    dsimp only
    omega

/-- The gated half. -/
theorem result_a (x : S8192x2048.Idx) : (dats m 0 c).arrAt 5 cfg0.N x
    = glu (m (c.tc.loc main_arg0)) (m (c.tc.loc main_arg1)) (m (c.tc.loc main_arg2)) (x 0).val (x 1).val := by
  refine (dats m 0 c).arrAt_forall_of_covers 5 (fun x v => v = glu (m (c.tc.loc main_arg0)) (m (c.tc.loc main_arg1)) (m (c.tc.loc main_arg2)) (x 0).val (x 1).val)
    (by decide +kernel) (fun t hf y => ?_) x
  blk_simp
  rw [after0_5]
  obtain ⟨i, n, rfl⟩ := ix2_of y
  obtain ⟨h0, h1⟩ := (at_out t).2
  unfold out0_5
  refine (Cert.Rep.canon_col (o := 0) (w := 1024) i n).trans ?_
  rw [dif_pos (by omega), h0, h1]
  exact (pay_5 _ _ _ _ _ _).trans (congrArg₂ (fun a b : EReal => a * Cert.Act.gate b) (pay_1 m c t i n) (pay_2 m c t i n))

end Cert.Pw1Ideal.Gen

namespace Cert.Pw1ReferenceIdeal.Read
open Cert.Prod Cert.Pw1
open Idealize.ShloMosaic Idealize.ShloMosaic.TcCoe
variable (x0 : (⟨S8192x2048, .bf16⟩ : BufTy).Contents (Elt Ideal)) (x1 : (⟨S2048x4096, .f32⟩ : BufTy).Contents (Elt Ideal))
  (x2 : (⟨S4096, .f32⟩ : BufTy).Contents (Elt Ideal))

/-- The product with the bias. -/
theorem entry (x : S8192x4096.Idx) {i n : ℕ} (hi : (x 0).val = i) (hn : (x 1).val = n) : val_main_v4 (F := Ideal) x0 x1 x2 x = pre x0 x1 x2 i n := by
  subst hi hn
  rw [val_main_v4_apply, val_main_v1_apply, val_main_v3_apply, val_main_v2_apply]
  exact congrArg₂ (fun p q : EReal => p + q) (Finset.sum_congr rfl fun k _ => congrArg₂ _ (elem_of x0 _ rfl rfl) (elem_of x1 _ rfl rfl)) (lane_of x2 _ rfl)

/-- The products, laid out in pairs of tiles. -/
theorem entry_u (x : S8192x4096.Idx) : val_main_v10 (F := Ideal) x0 x1 x2 x = pre x0 x1 x2 (x 0).val (origin (x 1).val) := by
  have h0 : (x 0).val < 8192 := (x 0).isLt
  have h1 : (x 1).val < 4096 := (x 1).isLt
  rw [val_main_v10_apply]
  show val_main_v9 (F := Ideal) x0 x1 x2 x = _
  unfold val_main_v9 val_main_v8 val_main_v7
  refine (pairs_elem (p := 2) (w := 1024) rfl (val_main_v4 (F := Ideal) x0 x1 x2) _ _ _ x ⟨(x 1).val / 2048, by omega⟩ ⟨(x 1).val / 1024 % 2, by omega⟩
    ⟨(x 1).val % 1024, by omega⟩ rfl (by dsimp only; omega) (b := origin (x 1).val) (by unfold origin; dsimp only; omega)).trans ?_
  refine (elem_at _ h0 (by unfold origin; omega)).trans (entry x0 x1 x2 _ rfl rfl)

/-- The gated half. -/
theorem entry_a (x : S8192x2048.Idx) : val_main_v17 (F := Ideal) x0 x1 x2 x = glu x0 x1 x2 (x 0).val (x 1).val := by
  rw [val_main_v17_apply, val_main_v16_apply, val_main_v15_apply, val_main_v14_apply, val_main_v13_apply, val_main_v12_apply, val_main_v11_apply,
    val_main_cst_apply, val_main_cst_0_apply, val_main_v5_apply, val_main_v6_apply, entry x0 x1 x2 _ (i := (x 0).val) (n := (x 1).val) (by simp) (by simp),
    entry x0 x1 x2 _ (i := (x 0).val) (n := 2048 + (x 1).val) (by simp) (by simp)]
  rfl

end Cert.Pw1ReferenceIdeal.Read

namespace Cert.Pw1Ideal.Gen
open Idealize.ShloMosaic Idealize.ShloMosaic.TcCoe Idealize.SL.Sem

/-- The two programs, from arguments that agree, end with equal results. -/
theorem algebraic : Cert.algebraic_Pw1Ideal_Pw1ReferenceIdeal := by
  intro m ρ m' ρ' _ hag
  refine ⟨fun c => (dats m 0 c).arrAt 4 cfg0.N, fun c => (dats m 0 c).arrAt 5 cfg0.N, ?_, ?_⟩
  · exact (θ_run defs _ _).mono (fun _ h c => ⟨(h c).1 4, (h c).1 5,
      ((h c).1 0).trans (((dats m 0 c).arrAt_in 0 rfl _).trans (V_main_arg0 m c)),
      ((h c).2 _ (Pipeline.mem_restRefs_of _ (by decide) (by decide))).trans (V_main_arg1 m c),
      ((h c).2 _ (Pipeline.mem_restRefs_of _ (by decide) (by decide))).trans (V_main_arg2 m c)⟩) (run_main m ρ)
  · refine (θ_run Cert.Pw1ReferenceIdeal.defs _ _).mono (fun _ h c => ⟨?_, ?_, (h c).2.2⟩) (Cert.Pw1ReferenceIdeal.Value.run (F := Ideal) m' ρ')
    all_goals obtain ⟨e0, e1, e2⟩ := hag c
    · refine ((h c).1.trans (Cert.Pw1ReferenceIdeal.Read.val_main_v10_eq _ _ _)).trans ?_
      rw [e0, e1, e2]
      exact funext fun x => (Cert.Pw1ReferenceIdeal.Read.entry_u _ _ _ x).trans (result_u m c x).symm
    · refine ((h c).2.1.trans (Cert.Pw1ReferenceIdeal.Read.val_main_v17_eq _ _ _)).trans ?_
      rw [e0, e1, e2]
      exact funext fun x => (Cert.Pw1ReferenceIdeal.Read.entry_a _ _ _ x).trans (result_a m c x).symm

end Cert.Pw1Ideal.Gen
end
-- ==== Proof.Post.lean ====
module
public import proofs.«01_k».proof.Proof.Prod
public import Idealize.ShloMosaic.Lib.StableHlo.Run
public import Idealize.ShloMosaic.Lib.Pipeline.ReadBack
/-!
# Adding a normalised branch to the trunk

The step that follows a product on its way back into the trunk, once for every call that makes it: a strip of rows is
divided by the root of its mean square, scaled and added to the trunk, and the sum is normalised, scaled and shifted in
its turn.
-/
@[expose] public section
set_option maxRecDepth 16384
noncomputable section
namespace Cert.Post
open Cert.Prod Idealize.ShloMosaic.View
open Idealize.ShloMosaic Idealize.ShloMosaic.TcCoe Idealize.ShloMosaic.Tactic

/-- The shape of a strip of rows. -/
abbrev Strip : Shape := ⟨2, ![64, 2048]⟩
/-- The shape of one row. -/
abbrev Line : Shape := ⟨2, ![1, 2048]⟩
/-- The shape of one number to a row. -/
abbrev Column : Shape := ⟨2, ![64, 1]⟩
/-- The shape of a block of rows. -/
abbrev Block : Shape := ⟨2, ![512, 2048]⟩
/-- The shape of the trunk. -/
abbrev Trunk : Shape := ⟨2, ![8192, 2048]⟩

/-- One over the root of the mean square of a row. -/
def norm (y : Fin 2048 → EReal) : EReal :=
  Ideal.rsqrt (Ideal.div (∑ k, y k * y k) (Ideal.ofBits .f32 0x45000000#32) + Ideal.ofBits .f32 0x358637BD#32)

/-- The number one. -/
def one : EReal := Ideal.ofBits .f32 0x3F800000#32

@[inherit_doc one]
theorem one_eq : one = 1 := Ideal.ofBits_one_f32

/-- The branch added to the trunk. -/
def mid (Y x : Trunk.Idx → EReal) (gt : Line.Idx → EReal) (g : (⟨1, ![2048]⟩ : Shape).Idx → EReal) : Trunk.Idx → EReal :=
  fun p => x p + gt (ix2 0 (p 1)) * (Y p * norm (fun k => Y (ix2 (p 0) k)) * g (ix1 (p 1)))

/-- The trunk made ready for the layer's next half. -/
def ready (X : Trunk.Idx → EReal) (g : (⟨1, ![2048]⟩ : Shape).Idx → EReal) (sc sh : Line.Idx → EReal) : Trunk.Idx → EReal :=
  fun p => X p * norm (fun k => X (ix2 (p 0) k)) * g (ix1 (p 1)) * (one + sc (ix2 0 (p 1))) + sh (ix2 0 (p 1))

/-- A strip rounded. -/
def rounded (y : FVec Ideal Strip .f32) : FVec Ideal Strip .bf16 := truncf .bf16 y (by decide)

/-- What every row of a strip is multiplied by. -/
def rms (y : FVec Ideal Strip .f32) : FVec Ideal Column .f32 :=
  rsqrt (addf (divf (shapeCast Column (multiReduction .add [1] ⟨1, ![64]⟩ (mulf y y) 0x00000000#32 (by decide) (.inl rfl) rfl) (by decide))
    (broadcast Column (Scalar.ofBits (F := Ideal) .f32 0x45000000#32))) (broadcast Column (Scalar.ofBits (F := Ideal) .f32 0x358637BD#32)))

/-- A strip normalised and scaled. -/
def scaled (y : FVec Ideal Strip .f32) (w : FVec Ideal Line .f32) : FVec Ideal Strip .f32 :=
  mulf (mulf y (broadcastTo Strip (rms y) (by decide))) (broadcastTo Strip (shapeCast Line w (by decide)) (by decide))

/-- A strip of the trunk with its branch added. -/
def step (y x : FVec Ideal Strip .f32) (w : FVec Ideal Line .f32) : FVec Ideal Strip .f32 := addf x (scaled y w)

/-- A strip of the trunk made ready for the next half. -/
def next (v : FVec Ideal Strip .f32) (g s : FVec Ideal Line .f32) : FVec Ideal Strip .bf16 :=
  truncf .bf16 (addf (scaled v g) (broadcastTo Strip s (by decide))) (by decide)

/-- A strip with the bias added. -/
def biased (y : FVec Ideal Strip .f32) (b : FVec Ideal Line .f32) : FVec Ideal Strip .f32 :=
  addf y (broadcastTo Strip (shapeCast Line b (by decide)) (by decide))

/-- The multiplier of a row. -/
theorem rms_at (y : FVec Ideal Strip .f32) (r : Fin 64) : rms y (ix2 r 0) = norm fun k => y (ix2 r k) := by
  unfold rms
  simp only [pointwise]
  rfl

/-- An entry of a strip normalised and scaled. -/
theorem scaled_at (y : FVec Ideal Strip .f32) (w : FVec Ideal Line .f32) (r : Fin 64) (j : Fin 2048) (Y : Fin 2048 → EReal)
    (hy : ∀ k, y (ix2 r k) = Y k) : scaled y w (ix2 r j) = Y j * norm Y * w (ix2 0 j) := by
  obtain rfl : (fun k => y (ix2 r k)) = Y := funext hy
  rw [← rms_at]
  unfold scaled
  simp only [shapeCast_self]
  generalize rms y = z
  simp only [pointwise]
  rfl

/-- An entry of a strip of the trunk with its branch added. -/
theorem step_at (y x : FVec Ideal Strip .f32) (w : FVec Ideal Line .f32) (r : Fin 64) (j : Fin 2048) (Y : Fin 2048 → EReal) (X : EReal)
    (hy : ∀ k, y (ix2 r k) = Y k) (hx : x (ix2 r j) = X) : step y x w (ix2 r j) = X + Y j * norm Y * w (ix2 0 j) :=
  congrArg₂ _ hx (scaled_at y w r j Y hy)

/-- An entry of a strip made ready. -/
theorem next_at (v : FVec Ideal Strip .f32) (g s : FVec Ideal Line .f32) (r : Fin 64) (j : Fin 2048) (V : Fin 2048 → EReal)
    (hv : ∀ k, v (ix2 r k) = V k) : next v g s (ix2 r j) = V j * norm V * g (ix2 0 j) + s (ix2 0 j) := by
  rw [← scaled_at v g r j V hv]
  unfold next
  generalize scaled v g = z
  simp only [pointwise]
  rfl

/-- An entry of a strip with the bias added. -/
theorem biased_at (y : FVec Ideal Strip .f32) (b : FVec Ideal Line .f32) (r : Fin 64) (j : Fin 2048) (Y : EReal)
    (hy : y (ix2 r j) = Y) : biased y b (ix2 r j) = Y + b (ix2 0 j) := by
  subst hy
  unfold biased
  simp only [shapeCast_self, pointwise]
  rfl

/-- A strip of a block, loaded. -/
theorem strip_at (x : Block.Idx → Elt Ideal .f32) {o : ℕ} (inb : _) (r : Fin 64) (i : Fin 512) (k : Fin 2048) (hi : i.val = o + r.val) :
    View.ld (Val := Elt Ideal) (e' := .f32) x (Rect.unit ![o, 0] ![64, 2048] inb) (ix2 r k) = x (ix2 i k) :=
  View.ld_unit_apply_of _ _ _ inb (ix2 r k) (ix2 i k) (fun a => by match a with | ⟨0, _⟩ => simpa using hi | ⟨1, _⟩ => simp)

/-- Rows of an array just stored, loaded. -/
theorem fresh_at {sig : RefSig} {κ : Kind} {sp : Space} {n0 n1 w o : ℕ} (v : View sig κ sp ⟨2, ![n0, n1]⟩ .f32)
    (B : (⟨2, ![n0, n1]⟩ : Shape).Idx → Elt Ideal .f32) (inb : _) (inb' : _) (r : Fin w) (i : Fin n0) (k : Fin n1) (hi : i.val = o + r.val) :
    v.readCov (Val := Elt Ideal)
      [(⟨Rect.unit (s := (⟨2, ![n0, n1]⟩ : Shape)) ![0, 0] ![n0, n1] inb, B⟩ : Piece (Elt Ideal) (⟨2, ![n0, n1]⟩ : Shape) .f32)]
      (Rect.unit (s := (⟨2, ![n0, n1]⟩ : Shape)) ![o, 0] ![w, n1] inb').toLoadRect (ix2 r k) = B (ix2 i k) := by
  have h0 : ∀ a, (![0, 0] : Fin 2 → ℕ) a = 0 := by decide
  have e := View.canon_cons_unit_lit (S := (⟨2, ![n0, n1]⟩ : Shape)) inb B [] h0
  rw [View.readCov_eq_canon_ld v _ _ (fun y => ⟨_, List.mem_cons_self, by
    rw [Rect.mem_set_unit]
    intro a
    match a with
    | ⟨0, _⟩ => exact ⟨Nat.zero_le _, by simpa using (y 0).isLt⟩
    | ⟨1, _⟩ => exact ⟨Nat.zero_le _, by simpa using (y 1).isLt⟩⟩)]
  refine (View.ld_unit_apply_of _ _ _ inb' (ix2 r k) (ix2 i k)
    (fun a => by match a with | ⟨0, _⟩ => simpa using hi | ⟨1, _⟩ => simp)).trans ?_
  exact congrFun e _

/-- What the call writes back is what the reference writes, its scale being the product of two. -/
theorem mid_eq (Y x : Trunk.Idx → EReal) (gt : Line.Idx → EReal) (g : (⟨1, ![2048]⟩ : Shape).Idx → EReal) (p : Trunk.Idx) :
    x p + Y p * norm (fun k => Y (ix2 (p 0) k)) * (gt (ix2 0 (p 1)) * g (ix1 (p 1))) = mid Y x gt g p := by
  unfold mid
  rw [mul_left_comm, ← mul_assoc (gt _), mul_assoc (gt _)]

@[inherit_doc mid_eq]
theorem ready_eq (X : Trunk.Idx → EReal) (g : (⟨1, ![2048]⟩ : Shape).Idx → EReal) (sc sh : Line.Idx → EReal) (p : Trunk.Idx) :
    X p * norm (fun k => X (ix2 (p 0) k)) * (g (ix1 (p 1)) * (one + sc (ix2 0 (p 1)))) + sh (ix2 0 (p 1)) = ready X g sc sh p := by
  unfold ready
  rw [mul_assoc (X p * _)]

/-- A strip of the trunk with its branch added, its rows being those of two blocks. -/
def added (B x : Block.Idx → EReal) (w : Line.Idx → EReal) : Block.Idx → EReal :=
  fun q => x q + B q * norm (fun k => B (ix2 (q 0) k)) * w (ix2 0 (q 1))

/-- A block made ready for the next half. -/
def readied (V : Block.Idx → EReal) (g s : Line.Idx → EReal) : Block.Idx → EReal :=
  fun q => V q * norm (fun k => V (ix2 (q 0) k)) * g (ix2 0 (q 1)) + s (ix2 0 (q 1))

/-- A strip rounded holds the rows of its block. -/
theorem rounded_at (y : FVec Ideal Strip .f32) (B : Block.Idx → EReal) (r : Fin 64) (i : Fin 512) (hy : ∀ k, y (ix2 r k) = B (ix2 i k))
    (j : Fin 2048) : rounded y (ix2 r j) = B (ix2 i j) := hy j

/-- A strip with its branch added holds the rows of the block with its branch added. -/
theorem added_at (y x : FVec Ideal Strip .f32) (w : FVec Ideal Line .f32) (B X : Block.Idx → EReal) (r : Fin 64) (i : Fin 512)
    (hy : ∀ k, y (ix2 r k) = B (ix2 i k)) (hx : ∀ k, x (ix2 r k) = X (ix2 i k)) (j : Fin 2048) :
    step y x w (ix2 r j) = added B X w (ix2 i j) :=
  step_at y x w r j _ _ hy (hx j)

/-- A strip made ready holds the rows of the block made ready. -/
theorem readied_at (v : FVec Ideal Strip .f32) (g s : FVec Ideal Line .f32) (V : Block.Idx → EReal) (r : Fin 64) (i : Fin 512)
    (hv : ∀ k, v (ix2 r k) = V (ix2 i k)) (j : Fin 2048) : next v g s (ix2 r j) = readied V g s (ix2 i j) :=
  next_at v g s r j _ hv

/-- A block with the bias added. -/
def plus (B : Block.Idx → EReal) (b : Line.Idx → EReal) : Block.Idx → EReal := fun q => B q + b (ix2 0 (q 1))

/-- A strip with the bias added holds the rows of the block with the bias added. -/
theorem plus_at (y : FVec Ideal Strip .f32) (b : FVec Ideal Line .f32) (B : Block.Idx → EReal) (r : Fin 64) (i : Fin 512)
    (hy : ∀ k, y (ix2 r k) = B (ix2 i k)) (j : Fin 2048) : biased y b (ix2 r j) = plus B b (ix2 i j) :=
  biased_at y b r j _ (hy j)

/-- The trunk with the bias added. -/
def shifted (Y : Trunk.Idx → EReal) (b : (⟨1, ![2048]⟩ : Shape).Idx → EReal) : Trunk.Idx → EReal := fun p => Y p + b (ix1 (p 1))

/-- The block with its branch added holds the rows of the trunk with its branch added. -/
theorem added_eq (B x : Block.Idx → EReal) (w : Line.Idx → EReal) (Y X : Trunk.Idx → EReal) (gt : Line.Idx → EReal)
    (g : (⟨1, ![2048]⟩ : Shape).Idx → EReal) (i : Fin 512) (I : Fin 8192) (hB : ∀ k, B (ix2 i k) = Y (ix2 I k))
    (hx : ∀ k, x (ix2 i k) = X (ix2 I k)) (hw : ∀ k, w (ix2 0 k) = gt (ix2 0 k) * g (ix1 k)) (j : Fin 2048) :
    added B x w (ix2 i j) = mid Y X gt g (ix2 I j) := by
  refine Eq.trans ?_ (mid_eq Y X gt g (ix2 I j))
  exact congrArg₂ _ (hx j) (congrArg₂ _ (congrArg₂ _ (hB j) (congrArg norm (funext hB))) (hw j))

/-- The block made ready holds the rows of the trunk made ready. -/
theorem readied_eq (V : Block.Idx → EReal) (w s : Line.Idx → EReal) (X : Trunk.Idx → EReal) (g : (⟨1, ![2048]⟩ : Shape).Idx → EReal)
    (sc sh : Line.Idx → EReal) (i : Fin 512) (I : Fin 8192) (hV : ∀ k, V (ix2 i k) = X (ix2 I k))
    (hw : ∀ k, w (ix2 0 k) = g (ix1 k) * (one + sc (ix2 0 k))) (hs : ∀ k, s (ix2 0 k) = sh (ix2 0 k)) (j : Fin 2048) :
    readied V w s (ix2 i j) = ready X g sc sh (ix2 I j) := by
  refine Eq.trans ?_ (ready_eq X g sc sh (ix2 I j))
  exact congrArg₂ _ (congrArg₂ _ (congrArg₂ _ (hV j) (congrArg norm (funext hV))) (hw j)) (hs j)

/-- A gate times a norm's weights. -/
def gated (gt : Line.Idx → EReal) (g : (⟨1, ![2048]⟩ : Shape).Idx → EReal) (j : Fin 2048) : EReal := gt (ix2 0 j) * g (ix1 j)

/-- A norm's weights times one more than a modulation. -/
def modulated (g : (⟨1, ![2048]⟩ : Shape).Idx → EReal) (sc : Line.Idx → EReal) (j : Fin 2048) : EReal := g (ix1 j) * (one + sc (ix2 0 j))

/-- A vector as one row. -/
theorem row_at (g : FVec Ideal ⟨1, ![2048]⟩ .f32) (h : (⟨1, ![2048]⟩ : Shape).ShapeCasts Line) (j : Fin 2048) : shapeCast Line g h (ix2 0 j) = g (ix1 j) := by
  refine shapeCast_apply g h (ix2 0 j) (ix1 j) ?_
  rw [Shape.rowMajor_val_one, Shape.rowMajor_val_two]
  show j.val = 0 * 2048 + j.val
  omega

/-- The scale that the call is given: a gate times a norm's weights. -/
theorem gate_at (gt : FVec Ideal Line .f32) (g : FVec Ideal ⟨1, ![2048]⟩ .f32) (h : (⟨1, ![2048]⟩ : Shape).ShapeCasts Line) (j : Fin 2048) :
    mulf gt (shapeCast Line g h) (ix2 0 j) = gated gt g j :=
  congrArg (gt (ix2 0 j) * ·) (row_at g h j)

/-- The other scale that it is given: a norm's weights times one more than a modulation. -/
theorem modulation_at (sc : FVec Ideal Line .f32) (g : FVec Ideal ⟨1, ![2048]⟩ .f32) (h : (⟨1, ![2048]⟩ : Shape).ShapeCasts Line)
    (o : FVec Ideal Line .f32) (ho : ∀ k, o (ix2 0 k) = one) (j : Fin 2048) :
    mulf (shapeCast Line g h) (addf o sc) (ix2 0 j) = modulated g sc j := by
  unfold modulated
  rw [← ho j]
  exact (mul_comm _ _).trans ((gate_at (addf o sc) g h j).trans (mul_comm _ _))

/-- The product of two matrices. -/
def prod (K : ℕ) {R : ℕ} (a : (⟨2, ![8192, R]⟩ : Shape).Idx → EReal) (w : (⟨2, ![R, 2048]⟩ : Shape).Idx → EReal) : Trunk.Idx → EReal :=
  fun p => ∑ k ∈ Finset.range K, elem a (p 0).val k * elem w k (p 1).val

/-- The index of the trunk where a block's index lies. -/
theorem place (p : Trunk.Idx) {I : Fin 8192} {j : Fin 2048} {i a b q w : ℕ} (e0 : (p 0).val = a * w + i) (e1 : (p 1).val = b * 2048 + j.val)
    (h : a = q ∧ b = 0) (hI : I.val = w * q + i) : ix2 I j = p := by
  obtain ⟨rfl, rfl⟩ := h
  rw [Nat.mul_comm, ← hI] at e0
  rw [Nat.zero_mul, Nat.zero_add] at e1
  funext d
  match d with
  | ⟨0, _⟩ => exact Fin.ext e0.symm
  | ⟨1, _⟩ => exact Fin.ext e1.symm

/-- The index of a row where its block's index lies. -/
theorem place_line (p : Line.Idx) {j : Fin 2048} {b : ℕ} (e1 : (p 1).val = b * 2048 + j.val) (h : b = 0) : p = ix2 0 j := by
  subst h
  rw [Nat.zero_mul, Nat.zero_add] at e1
  funext d
  match d with
  | ⟨0, _⟩ => exact Subsingleton.elim (α := Fin 1) _ _
  | ⟨1, _⟩ => exact Fin.ext e1

/-- The reference's multiplier of every row. -/
def hostNorm (x : FVec Ideal Trunk .f32) : FVec Ideal ⟨2, ![8192, 1]⟩ .f32 :=
  Host.rsqrt (addf (Host.divf (broadcastInDim ⟨2, ![8192, 1]⟩ ![0] (by decide)
      (Host.reduceAdd (axes := [1]) (t := ⟨1, ![8192]⟩) (mulf x x) (constant ⟨0, ![]⟩ .f32 0x00000000#32) (by decide) (by decide)))
    (broadcastInDim ⟨2, ![8192, 1]⟩ ![] (by decide) (constant ⟨0, ![]⟩ .f32 0x45000000#32)))
    (broadcastInDim ⟨2, ![8192, 1]⟩ ![] (by decide) (constant ⟨0, ![]⟩ .f32 0x358637BD#32)))

/-- It is the multiplier of the row. -/
theorem hostNorm_at (x : FVec Ideal Trunk .f32) (i : Fin 8192) : hostNorm x (ix2 i 0) = norm fun k => x (ix2 i k) := by
  unfold hostNorm
  simp only [pointwise]
  rw [zero_add]
  rfl

/-- The reference's trunk with the branch added. -/
def hostMid (y x : FVec Ideal Trunk .f32) (gt : FVec Ideal Line .f32) (g : FVec Ideal ⟨1, ![2048]⟩ .f32) : FVec Ideal Trunk .f32 :=
  addf x (mulf (broadcastInDim Trunk ![0, 1] (by decide) gt) (mulf (mulf y (broadcastInDim Trunk ![0, 1] (by decide) (hostNorm y)))
    (broadcastInDim Trunk ![0, 1] (by decide) (broadcastInDim Line ![1] (by decide) g))))

@[inherit_doc hostMid]
theorem hostMid_eq (y x : FVec Ideal Trunk .f32) (gt : FVec Ideal Line .f32) (g : FVec Ideal ⟨1, ![2048]⟩ .f32) : hostMid y x gt g = mid y x gt g := by
  funext p
  obtain ⟨i, j, rfl⟩ := ix2_of p
  unfold mid
  rw [show (ix2 i j : Trunk.Idx) 0 = i from rfl, ← hostNorm_at]
  unfold hostMid
  generalize hostNorm y = z
  simp only [pointwise]
  rfl

/-- The reference's trunk made ready. -/
def hostReady (x : FVec Ideal Trunk .f32) (g : FVec Ideal ⟨1, ![2048]⟩ .f32) (sc sh : FVec Ideal Line .f32) : FVec Ideal Trunk .bf16 :=
  truncf .bf16 (addf (mulf (mulf (mulf x (broadcastInDim Trunk ![0, 1] (by decide) (hostNorm x)))
      (broadcastInDim Trunk ![0, 1] (by decide) (broadcastInDim Line ![1] (by decide) g)))
    (broadcastInDim Trunk ![0, 1] (by decide) (addf (broadcastInDim Line ![] (by decide) (constant ⟨0, ![]⟩ .f32 0x3F800000#32)) sc)))
    (broadcastInDim Trunk ![0, 1] (by decide) sh)) (by decide)

@[inherit_doc hostReady]
theorem hostReady_eq (x : FVec Ideal Trunk .f32) (g : FVec Ideal ⟨1, ![2048]⟩ .f32) (sc sh : FVec Ideal Line .f32) :
    hostReady x g sc sh = ready x g sc sh := by
  funext p
  obtain ⟨i, j, rfl⟩ := ix2_of p
  unfold ready
  rw [one_eq]
  rw [show (ix2 i j : Trunk.Idx) 0 = i from rfl, ← hostNorm_at]
  unfold hostReady
  generalize hostNorm x = z
  simp only [pointwise]
  rfl

/-- The reference's bias. -/
def hostShifted (y : FVec Ideal Trunk .f32) (b : FVec Ideal ⟨1, ![2048]⟩ .f32) : FVec Ideal Trunk .f32 :=
  addf y (broadcastInDim Trunk ![0, 1] (by decide) (broadcastInDim Line ![1] (by decide) b))

@[inherit_doc hostShifted]
theorem hostShifted_eq (y : FVec Ideal Trunk .f32) (b : FVec Ideal ⟨1, ![2048]⟩ .f32) : hostShifted y b = shifted y b := by
  funext p
  obtain ⟨i, j, rfl⟩ := ix2_of p
  unfold hostShifted
  simp only [pointwise]
  rfl

end Cert.Post
end
-- ==== Proof.FfnPostVal.lean ====
module
public import proofs.«01_k».proof.Proof.Gen.FfnPostIdeal.Frame
public import proofs.«01_k».proof.Proof.Gen.FfnPostReferenceIdeal.Run
public import proofs.«01_k».proof.Proof.Gen.FfnPostReferenceIdeal.Read
public import proofs.«01_k».proof.Proof.Post
public import proofs.«01_k».proof.Defs
/-!
# The output product of the feed-forward half, added to the trunk

The running sum, the strips written back, the three arrays of results, and the reference's entries.
-/
@[expose] public section
set_option maxRecDepth 16384
noncomputable section
namespace Cert.FfnPostIdeal.Gen
open Cert.Prod Cert.Post
open Idealize.ShloMosaic Idealize.ShloMosaic.TcCoe Idealize.ShloMosaic.Tactic
open Finset (range)
variable (m : (ℓ : Loc nD τ sig) → Buf (Elt Ideal) ℓ) (c : Dev nD)

/-- The weight as the call finds it: rounded and cut in four shards. -/
theorem found_w : V m c main_v1 = shapeCast S4x1408x2048 (truncf (F := Ideal) (φ := .f32) .bf16 (m (c.tc.loc main_arg1)) bitsLt_bf16_f32)
    shapeCasts_S5632x2048_S4x1408x2048 := by
  unfold V hostOps0
  after_results <;> rfl

/-- The branch's scale as the call finds it. -/
theorem found_g (j : Fin 2048) : V m c main_v3 (ix2 0 j) = gated (m (c.tc.loc main_arg3)) (m (c.tc.loc main_arg4)) j := by
  have e : V m c main_v3 = mulf (F := Ideal) (φ := .f32) (m (c.tc.loc main_arg3)) (shapeCast S1x2048 (m (c.tc.loc main_arg4)) shapeCasts_S2048_S1x2048) := by
    unfold V hostOps0
    after_results <;> rfl
  exact (congrFun e _).trans (gate_at _ _ _ j)

/-- The next half's scale as the call finds it. -/
theorem found_n (j : Fin 2048) : V m c main_v7 (ix2 0 j) = modulated (m (c.tc.loc main_arg5)) (m (c.tc.loc main_arg6)) j := by
  have e : V m c main_v7 = mulf (F := Ideal) (φ := .f32) (shapeCast S1x2048 (m (c.tc.loc main_arg5)) shapeCasts_S2048_S1x2048)
      (addf (broadcastInDim S1x2048 ![] bcast_S_S1x2048 (constant (F := Ideal) S_ .f32 0x3F800000#32)) (m (c.tc.loc main_arg6))) := by
    unfold V hostOps0
    after_results <;> rfl
  exact (congrFun e _).trans (modulation_at _ _ _ _ (fun _ => rfl) j)

/-- Where the windows lie. -/
theorem at_0 : ∀ t : Fin cfg0.N, win0_0.index t 0 = t.val / 4 ∧ win0_0.index t 1 = t.val % 4 := by decide +kernel
@[inherit_doc at_0]
theorem at_1 : ∀ t : Fin cfg0.N, win0_1.index t 0 = t.val % 4 ∧ win0_1.index t 1 = 0 ∧ win0_1.index t 2 = 0 := by decide +kernel
@[inherit_doc at_0]
theorem at_2 : ∀ t : Fin cfg0.N, win0_2.index t 0 = t.val / 4 ∧ win0_2.index t 1 = 0 := by decide +kernel
@[inherit_doc at_0]
theorem at_line : ∀ t : Fin cfg0.N, win0_3.index t 1 = 0 ∧ win0_4.index t 1 = 0 ∧ win0_5.index t 1 = 0 := by decide +kernel
@[inherit_doc at_0]
theorem at_out : ∀ t : Fin cfg0.N, (win0_6.index t 0 = t.val / 4 ∧ win0_6.index t 1 = 0) ∧ (win0_7.index t 0 = t.val / 4 ∧ win0_7.index t 1 = 0)
    ∧ win0_8.index t 0 = t.val / 4 ∧ win0_8.index t 1 = 0 := by decide +kernel

/-- The branch's block. -/
theorem blk_0 (t : Fin cfg0.N) (i : Fin 512) (k : Fin 1408) :
    iblk m c 0 t (ix2 i k) = elem (m (c.tc.loc main_arg0)) (512 * (t.val / 4) + i) (1408 * (t.val % 4) + k) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The weight's block. -/
theorem blk_1 (t : Fin cfg0.N) (s : Fin 1) (k : Fin 1408) (j : Fin 2048) :
    iblk m c 1 t (ix3 s k j) = elem (m (c.tc.loc main_arg1)) (1408 * (t.val % 4) + k) j := by
  have ht : t.val < 64 := t.isLt
  unfold iblk
  blk_simp
  obtain ⟨h0, h1, h2⟩ := at_1 t
  have e0 := win0_1.rect_emb_val t (ix3 s k j) 0
  have e1 := win0_1.rect_emb_val t (ix3 s k j) 1
  have e2 := win0_1.rect_emb_val t (ix3 s k j) 2
  rw [h0] at e0
  rw [h1] at e1
  rw [h2] at e2
  refine (congrFun (found_w m c) _).trans (rows_elem (m (c.tc.loc main_arg1)) _ _ ?_ ?_ (by omega))
  · refine (congrArg₂ (fun a b => 1408 * a + b) e0 e1).trans ?_
    simp
  · refine e2.trans ?_
    simp

/-- The row of the trunk that a block's row is. -/
abbrev row (t : Fin cfg0.N) (i : Fin 512) : Fin 8192 := ⟨512 * (t.val / 4) + i, by have ht : t.val < 64 := t.isLt; omega⟩

/-- The trunk's block. -/
theorem blk_2 (t : Fin cfg0.N) (i : Fin 512) (k : Fin 2048) : iblk m c 2 t (ix2 i k) = m (c.tc.loc main_arg2) (ix2 (row t i) k) := by
  unfold iblk
  blk_simp
  exact (congrFun (V_main_arg2 m c) _).trans (congrArg (m (c.tc.loc main_arg2)) (place _ (win0_2.rect_emb_val t _ 0)
    (win0_2.rect_emb_val t _ 1) (at_2 t) rfl).symm)

/-- The one row of a scale or a shift. -/
theorem blk_3 (t : Fin cfg0.N) (k : Fin 2048) : iblk m c 3 t (ix2 0 k) = V m c main_v3 (ix2 0 k) := by
  unfold iblk
  blk_simp
  exact congrArg (V m c main_v3) (place_line _ (win0_3.rect_emb_val t _ 1) (at_line t).1)
@[inherit_doc blk_3]
theorem blk_4 (t : Fin cfg0.N) (k : Fin 2048) : iblk m c 4 t (ix2 0 k) = V m c main_v7 (ix2 0 k) := by
  unfold iblk
  blk_simp
  exact congrArg (V m c main_v7) (place_line _ (win0_4.rect_emb_val t _ 1) (at_line t).2.1)
@[inherit_doc blk_3]
theorem blk_5 (t : Fin cfg0.N) (k : Fin 2048) : iblk m c 5 t (ix2 0 k) = m (c.tc.loc main_arg7) (ix2 0 k) := by
  unfold iblk
  blk_simp
  exact (congrFun (V_main_arg7 m c) _).trans (congrArg (m (c.tc.loc main_arg7)) (place_line _ (win0_5.rect_emb_val t _ 1) (at_line t).2.2))

/-- The terms of the sum at an entry of a block. -/
def term (i : ℕ) (j : ℕ) (n k : ℕ) : EReal := elem (m (c.tc.loc main_arg0)) (512 * n + i) k * elem (m (c.tc.loc main_arg1)) k j

/-- One tile's product. -/
theorem pay (t : Fin cfg0.N) (i : Fin 512) (j : Fin 2048) : k0_pay1 (iblk m c 0 t) (iblk m c 1 t) (ix2 i j)
    = ∑ k : Fin 1408, term m c i j (t.val / 4) (1408 * (t.val % 4) + k) := by
  unfold k0_pay1
  exact matmul_at _ (ax := 1) rfl rfl (iblk m c 0 t) (shapeCast S1408x2048 (iblk m c 1 t) shapeCasts_S1x1408x2048_S1408x2048) (ix2 i j) _ _
    (fun k => by simp only [pointwise]; exact blk_0 m c t i k) (fun k => by simp only [pointwise]; exact blk_1 m c t 0 k j)

/-- The accumulator after a point: the sum over the tiles so far. -/
theorem acc (i : Fin 512) (j : Fin 2048) (n : ℕ) (hn : n < cfg0.N) :
    (outsAt0 m c n hn).2.2.2 (ix2 i j) = ∑ k ∈ range (1408 * (n % 4 + 1)), term m c i j (n / 4) k := by
  refine running (N := cfg0.N) (fun n hn => (outsAt0 m c n hn).2.2.2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The whole sum, as the last tile's point stores it. -/
def whole (t : Fin cfg0.N) (h : t.val % 4 = 3) : Block.Idx → EReal :=
  k0_pay3 (iblk m c 0 t) (iblk m c 1 t) (outsAt0 m c (t.val - 1) (by have := t.isLt; omega)).2.2.2

/-- It is the product. -/
theorem whole_at (t : Fin cfg0.N) (h : t.val % 4 = 3) (i : Fin 512) (j : Fin 2048) :
    whole m c t h (ix2 i j) = prod 5632 (m (c.tc.loc main_arg0)) (m (c.tc.loc main_arg1)) (ix2 (row t i) j) := by
  have e := acc m c i j t.val t.isLt
  rw [h] at e
  refine Eq.trans ?_ e
  rw [outsAt0_C m c t (by omega) (by omega) h]
  dsimp only
  frame_out
  simp only [read_unread_whole]
  rfl

/-- The branch, as it is written back. -/
theorem out_y (t : Fin cfg0.N) (h : t.val % 4 = 3) (i : Fin 512) (j : Fin 2048) : (outsAt0 m c t.val t.isLt).1 (ix2 i j) = whole m c t h (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact rounded_at _ _ r i (fun k => fresh_at _ _ _ _ r i k (by simpa using e0)) j

/-- The trunk with the branch added, as it is written back. -/
theorem out_x (t : Fin cfg0.N) (h : t.val % 4 = 3) (i : Fin 512) (j : Fin 2048) :
    (outsAt0 m c t.val t.isLt).2.1 (ix2 i j) = added (whole m c t h) (iblk m c 2 t) (iblk m c 3 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact added_at _ _ _ _ _ r i (fun k => fresh_at _ _ _ _ r i k (by simpa using e0)) (fun k => strip_at _ _ r i k (by simpa using e0)) j

/-- The trunk made ready, as it is written back. -/
theorem out_h (t : Fin cfg0.N) (h : t.val % 4 = 3) (i : Fin 512) (j : Fin 2048) :
    (outsAt0 m c t.val t.isLt).2.2.1 (ix2 i j)
      = readied (added (whole m c t h) (iblk m c 2 t) (iblk m c 3 t)) (iblk m c 4 t) (iblk m c 5 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact readied_at _ _ _ _ r i (added_at _ _ _ _ _ r i (fun k => fresh_at _ _ _ _ r i k (by simpa using e0)) (fun k => strip_at _ _ r i k (by simpa using e0))) j

/-- The three arrays of results. -/
theorem result_y (x : S8192x2048.Idx) : (dats m 0 c).arrAt 6 cfg0.N x = prod 5632 (m (c.tc.loc main_arg0)) (m (c.tc.loc main_arg1)) x := by
  refine (dats m 0 c).arrAt_forall_of_covers 6 (fun x v => v = prod 5632 (m (c.tc.loc main_arg0)) (m (c.tc.loc main_arg1)) x)
    (by decide +kernel) (fun t hf y => ?_) x
  blk_simp
  rw [after0_6]
  obtain ⟨i, j, rfl⟩ := ix2_of y
  have h : t.val % 4 = 3 := by revert t; decide +kernel
  exact (out_y m c t h i j).trans ((whole_at m c t h i j).trans (congrArg _ (place _ (win0_6.rect_emb_val t _ 0)
    (win0_6.rect_emb_val t _ 1) (at_out t).1 rfl)))

/-- The trunk with the branch added. -/
def sumX : Trunk.Idx → EReal :=
  mid (prod 5632 (m (c.tc.loc main_arg0)) (m (c.tc.loc main_arg1))) (m (c.tc.loc main_arg2)) (m (c.tc.loc main_arg3)) (m (c.tc.loc main_arg4))

/-- A block of it. -/
theorem added_row (t : Fin cfg0.N) (h : t.val % 4 = 3) (i : Fin 512) (j : Fin 2048) :
    added (whole m c t h) (iblk m c 2 t) (iblk m c 3 t) (ix2 i j) = sumX m c (ix2 (row t i) j) :=
  added_eq _ _ _ _ _ _ _ i (row t i) (whole_at m c t h i) (blk_2 m c t i) (fun k => (blk_3 m c t k).trans (found_g m c k)) j

@[inherit_doc result_y]
theorem result_x (x : S8192x2048.Idx) : (dats m 0 c).arrAt 7 cfg0.N x = sumX m c x := by
  refine (dats m 0 c).arrAt_forall_of_covers 7 (fun x v => v = sumX m c x) (by decide +kernel) (fun t hf y => ?_) x
  blk_simp
  rw [after0_7]
  obtain ⟨i, j, rfl⟩ := ix2_of y
  have h : t.val % 4 = 3 := by revert t; decide +kernel
  exact (out_x m c t h i j).trans ((added_row m c t h i j).trans (congrArg _ (place _ (win0_7.rect_emb_val t _ 0)
    (win0_7.rect_emb_val t _ 1) (at_out t).2.1 rfl)))

@[inherit_doc result_y]
theorem result_h (x : S8192x2048.Idx) : (dats m 0 c).arrAt 8 cfg0.N x
    = ready (sumX m c) (m (c.tc.loc main_arg5)) (m (c.tc.loc main_arg6)) (m (c.tc.loc main_arg7)) x := by
  refine (dats m 0 c).arrAt_forall_of_covers 8 (fun x v => v = ready (sumX m c) (m (c.tc.loc main_arg5)) (m (c.tc.loc main_arg6)) (m (c.tc.loc main_arg7)) x)
    (by decide +kernel) (fun t hf y => ?_) x
  blk_simp
  rw [after0_8]
  obtain ⟨i, j, rfl⟩ := ix2_of y
  have h : t.val % 4 = 3 := by revert t; decide +kernel
  exact (out_h m c t h i j).trans ((readied_eq _ _ _ _ _ _ _ i (row t i) (added_row m c t h i)
    (fun k => (blk_4 m c t k).trans (found_n m c k)) (blk_5 m c t) j).trans (congrArg _ (place _ (win0_8.rect_emb_val t _ 0)
    (win0_8.rect_emb_val t _ 1) (at_out t).2.2 rfl)))

end Cert.FfnPostIdeal.Gen

namespace Cert.FfnPostReferenceIdeal.Read
open Cert.Prod Cert.Post
open Idealize.ShloMosaic Idealize.ShloMosaic.TcCoe
variable (x0 : (⟨S8192x5632, .bf16⟩ : BufTy).Contents (Elt Ideal)) (x1 : (⟨S5632x2048, .f32⟩ : BufTy).Contents (Elt Ideal))
  (x2 : (⟨S8192x2048, .f32⟩ : BufTy).Contents (Elt Ideal)) (x3 : (⟨S1x2048, .f32⟩ : BufTy).Contents (Elt Ideal))
  (x4 x5 : (⟨S2048, .f32⟩ : BufTy).Contents (Elt Ideal)) (x6 x7 : (⟨S1x2048, .f32⟩ : BufTy).Contents (Elt Ideal))

/-- The product. -/
theorem entry_y (x : S8192x2048.Idx) : val_main_v1 (F := Ideal) x0 x1 x = prod 5632 x0 x1 x := by
  rw [val_main_v1_apply]
  unfold prod
  rw [Finset.sum_range]
  exact Finset.sum_congr rfl fun k _ => congrArg₂ _ (elem_of x0 _ rfl rfl) (elem_of x1 _ rfl rfl)

/-- The trunk with the branch added. -/
theorem entry_x : val_main_v17 (F := Ideal) x0 x1 x2 x3 x4 = mid (prod 5632 x0 x1) x2 x3 x4 := by
  rw [← show val_main_v1 (F := Ideal) x0 x1 = prod 5632 x0 x1 from funext (entry_y x0 x1)]
  exact hostMid_eq _ x2 x3 x4

/-- The trunk made ready. -/
theorem entry_h : val_main_v38 (F := Ideal) x0 x1 x2 x3 x4 x5 x6 x7 = ready (mid (prod 5632 x0 x1) x2 x3 x4) x5 x6 x7 := by
  rw [← entry_x]
  exact hostReady_eq _ x5 x6 x7

end Cert.FfnPostReferenceIdeal.Read

namespace Cert.FfnPostIdeal.Gen
open Idealize.ShloMosaic Idealize.ShloMosaic.TcCoe Idealize.SL.Sem

/-- The two programs, from arguments that agree, end with equal results. -/
theorem algebraic : Cert.algebraic_FfnPostIdeal_FfnPostReferenceIdeal := by
  intro m ρ m' ρ' _ hag
  refine ⟨fun c => (dats m 0 c).arrAt 6 cfg0.N, fun c => (dats m 0 c).arrAt 7 cfg0.N, fun c => (dats m 0 c).arrAt 8 cfg0.N, ?_, ?_⟩
  · exact (θ_run defs _ _).mono (fun _ h c => ⟨(h c).1 6, (h c).1 7, (h c).1 8,
      ((h c).1 0).trans (((dats m 0 c).arrAt_in 0 rfl _).trans (V_main_arg0 m c)),
      ((h c).2 _ (Pipeline.mem_restRefs_of _ (by decide) (by decide))).trans (V_main_arg1 m c),
      ((h c).1 2).trans (((dats m 0 c).arrAt_in 2 rfl _).trans (V_main_arg2 m c)),
      ((h c).2 _ (Pipeline.mem_restRefs_of _ (by decide) (by decide))).trans (V_main_arg3 m c),
      ((h c).2 _ (Pipeline.mem_restRefs_of _ (by decide) (by decide))).trans (V_main_arg4 m c),
      ((h c).2 _ (Pipeline.mem_restRefs_of _ (by decide) (by decide))).trans (V_main_arg5 m c),
      ((h c).2 _ (Pipeline.mem_restRefs_of _ (by decide) (by decide))).trans (V_main_arg6 m c),
      ((h c).1 5).trans (((dats m 0 c).arrAt_in 5 rfl _).trans (V_main_arg7 m c))⟩) (run_main m ρ)
  · refine (θ_run Cert.FfnPostReferenceIdeal.defs _ _).mono (fun _ h c => ⟨?_, ?_, ?_, (h c).2.2.2⟩) (Cert.FfnPostReferenceIdeal.Value.run (F := Ideal) m' ρ')
    all_goals obtain ⟨e0, e1, e2, e3, e4, e5, e6, e7⟩ := hag c
    · refine ((h c).1.trans (Cert.FfnPostReferenceIdeal.Read.val_main_v18_eq _ _)).trans ?_
      rw [e0, e1]
      exact funext fun x => (Cert.FfnPostReferenceIdeal.Read.entry_y _ _ x).trans (result_y m c x).symm
    · refine ((h c).2.1.trans (Cert.FfnPostReferenceIdeal.Read.val_main_v17_eq _ _ _ _ _)).trans ?_
      rw [e0, e1, e2, e3, e4]
      exact funext fun x => (congrFun (Cert.FfnPostReferenceIdeal.Read.entry_x _ _ _ _ _) x).trans (result_x m c x).symm
    · refine ((h c).2.2.1.trans (Cert.FfnPostReferenceIdeal.Read.val_main_v38_eq _ _)).trans ?_
      rw [e0, e1, e2, e3, e4, e5, e6, e7]
      exact funext fun x => (congrFun (Cert.FfnPostReferenceIdeal.Read.entry_h _ _ _ _ _ _ _ _) x).trans (result_h m c x).symm

end Cert.FfnPostIdeal.Gen
end
-- ==== Proof.LastPostVal.lean ====
module
public import proofs.«01_k».proof.Proof.Gen.LastPostIdeal.Frame
public import proofs.«01_k».proof.Proof.Gen.LastPostReferenceIdeal.Run
public import proofs.«01_k».proof.Proof.Gen.LastPostReferenceIdeal.Read
public import proofs.«01_k».proof.Proof.Post
public import proofs.«01_k».proof.Defs
/-!
# The output product of the last feed-forward half, added to the trunk

The running sum, the strips written back, the two arrays of results, and the reference's entries.
-/
@[expose] public section
set_option maxRecDepth 16384
noncomputable section
namespace Cert.LastPostIdeal.Gen
open Cert.Prod Cert.Post
open Idealize.ShloMosaic Idealize.ShloMosaic.TcCoe Idealize.ShloMosaic.Tactic
open Finset (range)
variable (m : (ℓ : Loc nD τ sig) → Buf (Elt Ideal) ℓ) (c : Dev nD)

/-- The weight as the call finds it: rounded and cut in four shards. -/
theorem found_w : V m c main_v1 = shapeCast S4x1408x2048 (truncf (F := Ideal) (φ := .f32) .bf16 (m (c.tc.loc main_arg1)) bitsLt_bf16_f32)
    shapeCasts_S5632x2048_S4x1408x2048 := by
  unfold V hostOps0
  after_results <;> rfl

/-- The branch's scale as the call finds it. -/
theorem found_g (j : Fin 2048) : V m c main_v3 (ix2 0 j) = gated (m (c.tc.loc main_arg3)) (m (c.tc.loc main_arg4)) j := by
  have e : V m c main_v3 = mulf (F := Ideal) (φ := .f32) (m (c.tc.loc main_arg3)) (shapeCast S1x2048 (m (c.tc.loc main_arg4)) shapeCasts_S2048_S1x2048) := by
    unfold V hostOps0
    after_results <;> rfl
  exact (congrFun e _).trans (gate_at _ _ _ j)

/-- Where the windows lie. -/
theorem at_0 : ∀ t : Fin cfg0.N, win0_0.index t 0 = t.val / 4 ∧ win0_0.index t 1 = t.val % 4 := by decide +kernel
@[inherit_doc at_0]
theorem at_1 : ∀ t : Fin cfg0.N, win0_1.index t 0 = t.val % 4 ∧ win0_1.index t 1 = 0 ∧ win0_1.index t 2 = 0 := by decide +kernel
@[inherit_doc at_0]
theorem at_2 : ∀ t : Fin cfg0.N, win0_2.index t 0 = t.val / 4 ∧ win0_2.index t 1 = 0 := by decide +kernel
@[inherit_doc at_0]
theorem at_line : ∀ t : Fin cfg0.N, win0_3.index t 1 = 0 := by decide +kernel
@[inherit_doc at_0]
theorem at_out : ∀ t : Fin cfg0.N, (win0_4.index t 0 = t.val / 4 ∧ win0_4.index t 1 = 0) ∧ win0_5.index t 0 = t.val / 4 ∧ win0_5.index t 1 = 0 := by decide +kernel

/-- The branch's block. -/
theorem blk_0 (t : Fin cfg0.N) (i : Fin 512) (k : Fin 1408) :
    iblk m c 0 t (ix2 i k) = elem (m (c.tc.loc main_arg0)) (512 * (t.val / 4) + i) (1408 * (t.val % 4) + k) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The weight's block. -/
theorem blk_1 (t : Fin cfg0.N) (s : Fin 1) (k : Fin 1408) (j : Fin 2048) :
    iblk m c 1 t (ix3 s k j) = elem (m (c.tc.loc main_arg1)) (1408 * (t.val % 4) + k) j := by
  have ht : t.val < 64 := t.isLt
  unfold iblk
  blk_simp
  obtain ⟨h0, h1, h2⟩ := at_1 t
  have e0 := win0_1.rect_emb_val t (ix3 s k j) 0
  have e1 := win0_1.rect_emb_val t (ix3 s k j) 1
  have e2 := win0_1.rect_emb_val t (ix3 s k j) 2
  rw [h0] at e0
  rw [h1] at e1
  rw [h2] at e2
  refine (congrFun (found_w m c) _).trans (rows_elem (m (c.tc.loc main_arg1)) _ _ ?_ ?_ (by omega))
  · refine (congrArg₂ (fun a b => 1408 * a + b) e0 e1).trans ?_
    simp
  · refine e2.trans ?_
    simp

/-- The row of the trunk that a block's row is. -/
abbrev row (t : Fin cfg0.N) (i : Fin 512) : Fin 8192 := ⟨512 * (t.val / 4) + i, by have ht : t.val < 64 := t.isLt; omega⟩

/-- The trunk's block. -/
theorem blk_2 (t : Fin cfg0.N) (i : Fin 512) (k : Fin 2048) : iblk m c 2 t (ix2 i k) = m (c.tc.loc main_arg2) (ix2 (row t i) k) := by
  unfold iblk
  blk_simp
  exact (congrFun (V_main_arg2 m c) _).trans (congrArg (m (c.tc.loc main_arg2)) (place _ (win0_2.rect_emb_val t _ 0)
    (win0_2.rect_emb_val t _ 1) (at_2 t) rfl).symm)

/-- The one row of a scale or a shift. -/
theorem blk_3 (t : Fin cfg0.N) (k : Fin 2048) : iblk m c 3 t (ix2 0 k) = V m c main_v3 (ix2 0 k) := by
  unfold iblk
  blk_simp
  exact congrArg (V m c main_v3) (place_line _ (win0_3.rect_emb_val t _ 1) (at_line t))
/-- The terms of the sum at an entry of a block. -/
def term (i : ℕ) (j : ℕ) (n k : ℕ) : EReal := elem (m (c.tc.loc main_arg0)) (512 * n + i) k * elem (m (c.tc.loc main_arg1)) k j

/-- One tile's product. -/
theorem pay (t : Fin cfg0.N) (i : Fin 512) (j : Fin 2048) : k0_pay1 (iblk m c 0 t) (iblk m c 1 t) (ix2 i j)
    = ∑ k : Fin 1408, term m c i j (t.val / 4) (1408 * (t.val % 4) + k) := by
  unfold k0_pay1
  exact matmul_at _ (ax := 1) rfl rfl (iblk m c 0 t) (shapeCast S1408x2048 (iblk m c 1 t) shapeCasts_S1x1408x2048_S1408x2048) (ix2 i j) _ _
    (fun k => by simp only [pointwise]; exact blk_0 m c t i k) (fun k => by simp only [pointwise]; exact blk_1 m c t 0 k j)

/-- The accumulator after a point: the sum over the tiles so far. -/
theorem acc (i : Fin 512) (j : Fin 2048) (n : ℕ) (hn : n < cfg0.N) :
    (outsAt0 m c n hn).2.2 (ix2 i j) = ∑ k ∈ range (1408 * (n % 4 + 1)), term m c i j (n / 4) k := by
  refine running (N := cfg0.N) (fun n hn => (outsAt0 m c n hn).2.2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The whole sum, as the last tile's point stores it. -/
def whole (t : Fin cfg0.N) (h : t.val % 4 = 3) : Block.Idx → EReal :=
  k0_pay3 (iblk m c 0 t) (iblk m c 1 t) (outsAt0 m c (t.val - 1) (by have := t.isLt; omega)).2.2

/-- It is the product. -/
theorem whole_at (t : Fin cfg0.N) (h : t.val % 4 = 3) (i : Fin 512) (j : Fin 2048) :
    whole m c t h (ix2 i j) = prod 5632 (m (c.tc.loc main_arg0)) (m (c.tc.loc main_arg1)) (ix2 (row t i) j) := by
  have e := acc m c i j t.val t.isLt
  rw [h] at e
  refine Eq.trans ?_ e
  rw [outsAt0_C m c t (by omega) (by omega) h]
  dsimp only
  frame_out
  simp only [read_unread_whole]
  rfl

/-- The branch, as it is written back. -/
theorem out_y (t : Fin cfg0.N) (h : t.val % 4 = 3) (i : Fin 512) (j : Fin 2048) : (outsAt0 m c t.val t.isLt).1 (ix2 i j) = whole m c t h (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact rounded_at _ _ r i (fun k => fresh_at _ _ _ _ r i k (by simpa using e0)) j

/-- The trunk with the branch added, as it is written back. -/
theorem out_x (t : Fin cfg0.N) (h : t.val % 4 = 3) (i : Fin 512) (j : Fin 2048) :
    (outsAt0 m c t.val t.isLt).2.1 (ix2 i j) = added (whole m c t h) (iblk m c 2 t) (iblk m c 3 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact added_at _ _ _ _ _ r i (fun k => fresh_at _ _ _ _ r i k (by simpa using e0)) (fun k => strip_at _ _ r i k (by simpa using e0)) j

/-- The two arrays of results. -/
theorem result_y (x : S8192x2048.Idx) : (dats m 0 c).arrAt 4 cfg0.N x = prod 5632 (m (c.tc.loc main_arg0)) (m (c.tc.loc main_arg1)) x := by
  refine (dats m 0 c).arrAt_forall_of_covers 4 (fun x v => v = prod 5632 (m (c.tc.loc main_arg0)) (m (c.tc.loc main_arg1)) x)
    (by decide +kernel) (fun t hf y => ?_) x
  blk_simp
  rw [after0_4]
  obtain ⟨i, j, rfl⟩ := ix2_of y
  have h : t.val % 4 = 3 := by revert t; decide +kernel
  exact (out_y m c t h i j).trans ((whole_at m c t h i j).trans (congrArg _ (place _ (win0_4.rect_emb_val t _ 0)
    (win0_4.rect_emb_val t _ 1) (at_out t).1 rfl)))

/-- The trunk with the branch added. -/
def sumX : Trunk.Idx → EReal :=
  mid (prod 5632 (m (c.tc.loc main_arg0)) (m (c.tc.loc main_arg1))) (m (c.tc.loc main_arg2)) (m (c.tc.loc main_arg3)) (m (c.tc.loc main_arg4))

/-- A block of it. -/
theorem added_row (t : Fin cfg0.N) (h : t.val % 4 = 3) (i : Fin 512) (j : Fin 2048) :
    added (whole m c t h) (iblk m c 2 t) (iblk m c 3 t) (ix2 i j) = sumX m c (ix2 (row t i) j) :=
  added_eq _ _ _ _ _ _ _ i (row t i) (whole_at m c t h i) (blk_2 m c t i) (fun k => (blk_3 m c t k).trans (found_g m c k)) j

@[inherit_doc result_y]
theorem result_x (x : S8192x2048.Idx) : (dats m 0 c).arrAt 5 cfg0.N x = sumX m c x := by
  refine (dats m 0 c).arrAt_forall_of_covers 5 (fun x v => v = sumX m c x) (by decide +kernel) (fun t hf y => ?_) x
  blk_simp
  rw [after0_5]
  obtain ⟨i, j, rfl⟩ := ix2_of y
  have h : t.val % 4 = 3 := by revert t; decide +kernel
  exact (out_x m c t h i j).trans ((added_row m c t h i j).trans (congrArg _ (place _ (win0_5.rect_emb_val t _ 0)
    (win0_5.rect_emb_val t _ 1) (at_out t).2 rfl)))

end Cert.LastPostIdeal.Gen

namespace Cert.LastPostReferenceIdeal.Read
open Cert.Prod Cert.Post
open Idealize.ShloMosaic Idealize.ShloMosaic.TcCoe
variable (x0 : (⟨S8192x5632, .bf16⟩ : BufTy).Contents (Elt Ideal)) (x1 : (⟨S5632x2048, .f32⟩ : BufTy).Contents (Elt Ideal))
  (x2 : (⟨S8192x2048, .f32⟩ : BufTy).Contents (Elt Ideal)) (x3 : (⟨S1x2048, .f32⟩ : BufTy).Contents (Elt Ideal))
  (x4 : (⟨S2048, .f32⟩ : BufTy).Contents (Elt Ideal))

/-- The product. -/
theorem entry_y (x : S8192x2048.Idx) : val_main_v1 (F := Ideal) x0 x1 x = prod 5632 x0 x1 x := by
  rw [val_main_v1_apply]
  unfold prod
  rw [Finset.sum_range]
  exact Finset.sum_congr rfl fun k _ => congrArg₂ _ (elem_of x0 _ rfl rfl) (elem_of x1 _ rfl rfl)

/-- The trunk with the branch added. -/
theorem entry_x : val_main_v18 (F := Ideal) x0 x1 x2 x3 x4 = mid (prod 5632 x0 x1) x2 x3 x4 := by
  rw [← show val_main_v1 (F := Ideal) x0 x1 = prod 5632 x0 x1 from funext (entry_y x0 x1)]
  exact hostMid_eq _ x2 x3 x4

end Cert.LastPostReferenceIdeal.Read

namespace Cert.LastPostIdeal.Gen
open Idealize.ShloMosaic Idealize.ShloMosaic.TcCoe Idealize.SL.Sem

/-- The two programs, from arguments that agree, end with equal results. -/
theorem algebraic : Cert.algebraic_LastPostIdeal_LastPostReferenceIdeal := by
  intro m ρ m' ρ' _ hag
  refine ⟨fun c => (dats m 0 c).arrAt 4 cfg0.N, fun c => (dats m 0 c).arrAt 5 cfg0.N, ?_, ?_⟩
  · exact (θ_run defs _ _).mono (fun _ h c => ⟨(h c).1 4, (h c).1 5,
      ((h c).1 0).trans (((dats m 0 c).arrAt_in 0 rfl _).trans (V_main_arg0 m c)),
      ((h c).2 _ (Pipeline.mem_restRefs_of _ (by decide) (by decide))).trans (V_main_arg1 m c),
      ((h c).1 2).trans (((dats m 0 c).arrAt_in 2 rfl _).trans (V_main_arg2 m c)),
      ((h c).2 _ (Pipeline.mem_restRefs_of _ (by decide) (by decide))).trans (V_main_arg3 m c),
      ((h c).2 _ (Pipeline.mem_restRefs_of _ (by decide) (by decide))).trans (V_main_arg4 m c)⟩) (run_main m ρ)
  · refine (θ_run Cert.LastPostReferenceIdeal.defs _ _).mono (fun _ h c => ⟨?_, ?_, (h c).2.2⟩) (Cert.LastPostReferenceIdeal.Value.run (F := Ideal) m' ρ')
    all_goals obtain ⟨e0, e1, e2, e3, e4⟩ := hag c
    · refine ((h c).1.trans (Cert.LastPostReferenceIdeal.Read.val_main_v2_eq _ _)).trans ?_
      rw [e0, e1]
      exact funext fun x => (Cert.LastPostReferenceIdeal.Read.entry_y _ _ x).trans (result_y m c x).symm
    · refine ((h c).2.1.trans (Cert.LastPostReferenceIdeal.Read.val_main_v18_eq _ _ _ _ _)).trans ?_
      rw [e0, e1, e2, e3, e4]
      exact funext fun x => (congrFun (Cert.LastPostReferenceIdeal.Read.entry_x _ _ _ _ _) x).trans (result_x m c x).symm

end Cert.LastPostIdeal.Gen
end
-- ==== Proof.GlaPostVal.lean ====
module
public import proofs.«01_k».proof.Proof.Gen.GlaPostIdeal.Frame
public import proofs.«01_k».proof.Proof.Gen.GlaPostReferenceIdeal.Run
public import proofs.«01_k».proof.Proof.Gen.GlaPostReferenceIdeal.Read
public import proofs.«01_k».proof.Proof.Post
public import proofs.«01_k».proof.Defs
/-!
# The output product of a linear-attention mixer, added to the trunk

The running sum, the strips written back, the three arrays of results, and the reference's entries.
-/
@[expose] public section
set_option maxRecDepth 16384
noncomputable section
namespace Cert.GlaPostIdeal.Gen
open Cert.Prod Cert.Post
open Idealize.ShloMosaic Idealize.ShloMosaic.TcCoe Idealize.ShloMosaic.Tactic
open Finset (range)
variable (m : (ℓ : Loc nD τ sig) → Buf (Elt Ideal) ℓ) (c : Dev nD)

/-- The weight as the call finds it: rounded and cut in four shards. -/
theorem found_w : V m c main_v1 = shapeCast S4x512x2048 (truncf (F := Ideal) (φ := .f32) .bf16 (m (c.tc.loc main_arg1)) bitsLt_bf16_f32)
    shapeCasts_S2048x2048_S4x512x2048 := by
  unfold V hostOps0
  after_results <;> rfl

/-- The branch's scale as the call finds it. -/
theorem found_g (j : Fin 2048) : V m c main_v3 (ix2 0 j) = gated (m (c.tc.loc main_arg3)) (m (c.tc.loc main_arg4)) j := by
  have e : V m c main_v3 = mulf (F := Ideal) (φ := .f32) (m (c.tc.loc main_arg3)) (shapeCast S1x2048 (m (c.tc.loc main_arg4)) shapeCasts_S2048_S1x2048) := by
    unfold V hostOps0
    after_results <;> rfl
  exact (congrFun e _).trans (gate_at _ _ _ j)

/-- The next half's scale as the call finds it. -/
theorem found_n (j : Fin 2048) : V m c main_v7 (ix2 0 j) = modulated (m (c.tc.loc main_arg5)) (m (c.tc.loc main_arg6)) j := by
  have e : V m c main_v7 = mulf (F := Ideal) (φ := .f32) (shapeCast S1x2048 (m (c.tc.loc main_arg5)) shapeCasts_S2048_S1x2048)
      (addf (broadcastInDim S1x2048 ![] bcast_S_S1x2048 (constant (F := Ideal) S_ .f32 0x3F800000#32)) (m (c.tc.loc main_arg6))) := by
    unfold V hostOps0
    after_results <;> rfl
  exact (congrFun e _).trans (modulation_at _ _ _ _ (fun _ => rfl) j)

/-- Where the windows lie. -/
theorem at_0 : ∀ t : Fin cfg0.N, win0_0.index t 0 = t.val / 4 ∧ win0_0.index t 1 = t.val % 4 := by decide +kernel
@[inherit_doc at_0]
theorem at_1 : ∀ t : Fin cfg0.N, win0_1.index t 0 = t.val % 4 ∧ win0_1.index t 1 = 0 ∧ win0_1.index t 2 = 0 := by decide +kernel
@[inherit_doc at_0]
theorem at_2 : ∀ t : Fin cfg0.N, win0_2.index t 0 = t.val / 4 ∧ win0_2.index t 1 = 0 := by decide +kernel
@[inherit_doc at_0]
theorem at_line : ∀ t : Fin cfg0.N, win0_3.index t 1 = 0 ∧ win0_4.index t 1 = 0 ∧ win0_5.index t 1 = 0 := by decide +kernel
@[inherit_doc at_0]
theorem at_out : ∀ t : Fin cfg0.N, (win0_6.index t 0 = t.val / 4 ∧ win0_6.index t 1 = 0) ∧ (win0_7.index t 0 = t.val / 4 ∧ win0_7.index t 1 = 0)
    ∧ win0_8.index t 0 = t.val / 4 ∧ win0_8.index t 1 = 0 := by decide +kernel

/-- The branch's block. -/
theorem blk_0 (t : Fin cfg0.N) (i : Fin 512) (k : Fin 512) :
    iblk m c 0 t (ix2 i k) = elem (m (c.tc.loc main_arg0)) (512 * (t.val / 4) + i) (512 * (t.val % 4) + k) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The weight's block. -/
theorem blk_1 (t : Fin cfg0.N) (s : Fin 1) (k : Fin 512) (j : Fin 2048) :
    iblk m c 1 t (ix3 s k j) = elem (m (c.tc.loc main_arg1)) (512 * (t.val % 4) + k) j := by
  have ht : t.val < 64 := t.isLt
  unfold iblk
  blk_simp
  obtain ⟨h0, h1, h2⟩ := at_1 t
  have e0 := win0_1.rect_emb_val t (ix3 s k j) 0
  have e1 := win0_1.rect_emb_val t (ix3 s k j) 1
  have e2 := win0_1.rect_emb_val t (ix3 s k j) 2
  rw [h0] at e0
  rw [h1] at e1
  rw [h2] at e2
  refine (congrFun (found_w m c) _).trans (rows_elem (m (c.tc.loc main_arg1)) _ _ ?_ ?_ (by omega))
  · refine (congrArg₂ (fun a b => 512 * a + b) e0 e1).trans ?_
    simp
  · refine e2.trans ?_
    simp

/-- The row of the trunk that a block's row is. -/
abbrev row (t : Fin cfg0.N) (i : Fin 512) : Fin 8192 := ⟨512 * (t.val / 4) + i, by have ht : t.val < 64 := t.isLt; omega⟩

/-- The trunk's block. -/
theorem blk_2 (t : Fin cfg0.N) (i : Fin 512) (k : Fin 2048) : iblk m c 2 t (ix2 i k) = m (c.tc.loc main_arg2) (ix2 (row t i) k) := by
  unfold iblk
  blk_simp
  exact (congrFun (V_main_arg2 m c) _).trans (congrArg (m (c.tc.loc main_arg2)) (place _ (win0_2.rect_emb_val t _ 0)
    (win0_2.rect_emb_val t _ 1) (at_2 t) rfl).symm)

/-- The one row of a scale or a shift. -/
theorem blk_3 (t : Fin cfg0.N) (k : Fin 2048) : iblk m c 3 t (ix2 0 k) = V m c main_v3 (ix2 0 k) := by
  unfold iblk
  blk_simp
  exact congrArg (V m c main_v3) (place_line _ (win0_3.rect_emb_val t _ 1) (at_line t).1)
@[inherit_doc blk_3]
theorem blk_4 (t : Fin cfg0.N) (k : Fin 2048) : iblk m c 4 t (ix2 0 k) = V m c main_v7 (ix2 0 k) := by
  unfold iblk
  blk_simp
  exact congrArg (V m c main_v7) (place_line _ (win0_4.rect_emb_val t _ 1) (at_line t).2.1)
@[inherit_doc blk_3]
theorem blk_5 (t : Fin cfg0.N) (k : Fin 2048) : iblk m c 5 t (ix2 0 k) = m (c.tc.loc main_arg7) (ix2 0 k) := by
  unfold iblk
  blk_simp
  exact (congrFun (V_main_arg7 m c) _).trans (congrArg (m (c.tc.loc main_arg7)) (place_line _ (win0_5.rect_emb_val t _ 1) (at_line t).2.2))

/-- The terms of the sum at an entry of a block. -/
def term (i : ℕ) (j : ℕ) (n k : ℕ) : EReal := elem (m (c.tc.loc main_arg0)) (512 * n + i) k * elem (m (c.tc.loc main_arg1)) k j

/-- One tile's product. -/
theorem pay (t : Fin cfg0.N) (i : Fin 512) (j : Fin 2048) : k0_pay1 (iblk m c 0 t) (iblk m c 1 t) (ix2 i j)
    = ∑ k : Fin 512, term m c i j (t.val / 4) (512 * (t.val % 4) + k) := by
  unfold k0_pay1
  exact matmul_at _ (ax := 1) rfl rfl (iblk m c 0 t) (shapeCast S512x2048 (iblk m c 1 t) shapeCasts_S1x512x2048_S512x2048) (ix2 i j) _ _
    (fun k => by simp only [pointwise]; exact blk_0 m c t i k) (fun k => by simp only [pointwise]; exact blk_1 m c t 0 k j)

/-- The accumulator after a point: the sum over the tiles so far. -/
theorem acc (i : Fin 512) (j : Fin 2048) (n : ℕ) (hn : n < cfg0.N) :
    (outsAt0 m c n hn).2.2.2 (ix2 i j) = ∑ k ∈ range (512 * (n % 4 + 1)), term m c i j (n / 4) k := by
  refine running (N := cfg0.N) (fun n hn => (outsAt0 m c n hn).2.2.2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The whole sum, as the last tile's point stores it. -/
def whole (t : Fin cfg0.N) (h : t.val % 4 = 3) : Block.Idx → EReal :=
  k0_pay3 (iblk m c 0 t) (iblk m c 1 t) (outsAt0 m c (t.val - 1) (by have := t.isLt; omega)).2.2.2

/-- It is the product. -/
theorem whole_at (t : Fin cfg0.N) (h : t.val % 4 = 3) (i : Fin 512) (j : Fin 2048) :
    whole m c t h (ix2 i j) = prod 2048 (m (c.tc.loc main_arg0)) (m (c.tc.loc main_arg1)) (ix2 (row t i) j) := by
  have e := acc m c i j t.val t.isLt
  rw [h] at e
  refine Eq.trans ?_ e
  rw [outsAt0_C m c t (by omega) (by omega) h]
  dsimp only
  frame_out
  simp only [read_unread_whole]
  rfl

/-- The branch, as it is written back. -/
theorem out_y (t : Fin cfg0.N) (h : t.val % 4 = 3) (i : Fin 512) (j : Fin 2048) : (outsAt0 m c t.val t.isLt).1 (ix2 i j) = whole m c t h (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact rounded_at _ _ r i (fun k => fresh_at _ _ _ _ r i k (by simpa using e0)) j

/-- The trunk with the branch added, as it is written back. -/
theorem out_x (t : Fin cfg0.N) (h : t.val % 4 = 3) (i : Fin 512) (j : Fin 2048) :
    (outsAt0 m c t.val t.isLt).2.1 (ix2 i j) = added (whole m c t h) (iblk m c 2 t) (iblk m c 3 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact added_at _ _ _ _ _ r i (fun k => fresh_at _ _ _ _ r i k (by simpa using e0)) (fun k => strip_at _ _ r i k (by simpa using e0)) j

/-- The trunk made ready, as it is written back. -/
theorem out_h (t : Fin cfg0.N) (h : t.val % 4 = 3) (i : Fin 512) (j : Fin 2048) :
    (outsAt0 m c t.val t.isLt).2.2.1 (ix2 i j)
      = readied (added (whole m c t h) (iblk m c 2 t) (iblk m c 3 t)) (iblk m c 4 t) (iblk m c 5 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact readied_at _ _ _ _ r i (added_at _ _ _ _ _ r i (fun k => fresh_at _ _ _ _ r i k (by simpa using e0)) (fun k => strip_at _ _ r i k (by simpa using e0))) j

/-- The three arrays of results. -/
theorem result_y (x : S8192x2048.Idx) : (dats m 0 c).arrAt 6 cfg0.N x = prod 2048 (m (c.tc.loc main_arg0)) (m (c.tc.loc main_arg1)) x := by
  refine (dats m 0 c).arrAt_forall_of_covers 6 (fun x v => v = prod 2048 (m (c.tc.loc main_arg0)) (m (c.tc.loc main_arg1)) x)
    (by decide +kernel) (fun t hf y => ?_) x
  blk_simp
  rw [after0_6]
  obtain ⟨i, j, rfl⟩ := ix2_of y
  have h : t.val % 4 = 3 := by revert t; decide +kernel
  exact (out_y m c t h i j).trans ((whole_at m c t h i j).trans (congrArg _ (place _ (win0_6.rect_emb_val t _ 0)
    (win0_6.rect_emb_val t _ 1) (at_out t).1 rfl)))

/-- The trunk with the branch added. -/
def sumX : Trunk.Idx → EReal :=
  mid (prod 2048 (m (c.tc.loc main_arg0)) (m (c.tc.loc main_arg1))) (m (c.tc.loc main_arg2)) (m (c.tc.loc main_arg3)) (m (c.tc.loc main_arg4))

/-- A block of it. -/
theorem added_row (t : Fin cfg0.N) (h : t.val % 4 = 3) (i : Fin 512) (j : Fin 2048) :
    added (whole m c t h) (iblk m c 2 t) (iblk m c 3 t) (ix2 i j) = sumX m c (ix2 (row t i) j) :=
  added_eq _ _ _ _ _ _ _ i (row t i) (whole_at m c t h i) (blk_2 m c t i) (fun k => (blk_3 m c t k).trans (found_g m c k)) j

@[inherit_doc result_y]
theorem result_x (x : S8192x2048.Idx) : (dats m 0 c).arrAt 7 cfg0.N x = sumX m c x := by
  refine (dats m 0 c).arrAt_forall_of_covers 7 (fun x v => v = sumX m c x) (by decide +kernel) (fun t hf y => ?_) x
  blk_simp
  rw [after0_7]
  obtain ⟨i, j, rfl⟩ := ix2_of y
  have h : t.val % 4 = 3 := by revert t; decide +kernel
  exact (out_x m c t h i j).trans ((added_row m c t h i j).trans (congrArg _ (place _ (win0_7.rect_emb_val t _ 0)
    (win0_7.rect_emb_val t _ 1) (at_out t).2.1 rfl)))

@[inherit_doc result_y]
theorem result_h (x : S8192x2048.Idx) : (dats m 0 c).arrAt 8 cfg0.N x
    = ready (sumX m c) (m (c.tc.loc main_arg5)) (m (c.tc.loc main_arg6)) (m (c.tc.loc main_arg7)) x := by
  refine (dats m 0 c).arrAt_forall_of_covers 8 (fun x v => v = ready (sumX m c) (m (c.tc.loc main_arg5)) (m (c.tc.loc main_arg6)) (m (c.tc.loc main_arg7)) x)
    (by decide +kernel) (fun t hf y => ?_) x
  blk_simp
  rw [after0_8]
  obtain ⟨i, j, rfl⟩ := ix2_of y
  have h : t.val % 4 = 3 := by revert t; decide +kernel
  exact (out_h m c t h i j).trans ((readied_eq _ _ _ _ _ _ _ i (row t i) (added_row m c t h i)
    (fun k => (blk_4 m c t k).trans (found_n m c k)) (blk_5 m c t) j).trans (congrArg _ (place _ (win0_8.rect_emb_val t _ 0)
    (win0_8.rect_emb_val t _ 1) (at_out t).2.2 rfl)))

end Cert.GlaPostIdeal.Gen

namespace Cert.GlaPostReferenceIdeal.Read
open Cert.Prod Cert.Post
open Idealize.ShloMosaic Idealize.ShloMosaic.TcCoe
variable (x0 : (⟨S8192x2048, .bf16⟩ : BufTy).Contents (Elt Ideal)) (x1 : (⟨S2048x2048, .f32⟩ : BufTy).Contents (Elt Ideal))
  (x2 : (⟨S8192x2048, .f32⟩ : BufTy).Contents (Elt Ideal)) (x3 : (⟨S1x2048, .f32⟩ : BufTy).Contents (Elt Ideal))
  (x4 x5 : (⟨S2048, .f32⟩ : BufTy).Contents (Elt Ideal)) (x6 x7 : (⟨S1x2048, .f32⟩ : BufTy).Contents (Elt Ideal))

/-- The product. -/
theorem entry_y (x : S8192x2048.Idx) : val_main_v1 (F := Ideal) x0 x1 x = prod 2048 x0 x1 x := by
  rw [val_main_v1_apply]
  unfold prod
  rw [Finset.sum_range]
  exact Finset.sum_congr rfl fun k _ => congrArg₂ _ (elem_of x0 _ rfl rfl) (elem_of x1 _ rfl rfl)

/-- The trunk with the branch added. -/
theorem entry_x : val_main_v17 (F := Ideal) x0 x1 x2 x3 x4 = mid (prod 2048 x0 x1) x2 x3 x4 := by
  rw [← show val_main_v1 (F := Ideal) x0 x1 = prod 2048 x0 x1 from funext (entry_y x0 x1)]
  exact hostMid_eq _ x2 x3 x4

/-- The trunk made ready. -/
theorem entry_h : val_main_v38 (F := Ideal) x0 x1 x2 x3 x4 x5 x6 x7 = ready (mid (prod 2048 x0 x1) x2 x3 x4) x5 x6 x7 := by
  rw [← entry_x]
  exact hostReady_eq _ x5 x6 x7

end Cert.GlaPostReferenceIdeal.Read

namespace Cert.GlaPostIdeal.Gen
open Idealize.ShloMosaic Idealize.ShloMosaic.TcCoe Idealize.SL.Sem

/-- The two programs, from arguments that agree, end with equal results. -/
theorem algebraic : Cert.algebraic_GlaPostIdeal_GlaPostReferenceIdeal := by
  intro m ρ m' ρ' _ hag
  refine ⟨fun c => (dats m 0 c).arrAt 6 cfg0.N, fun c => (dats m 0 c).arrAt 7 cfg0.N, fun c => (dats m 0 c).arrAt 8 cfg0.N, ?_, ?_⟩
  · exact (θ_run defs _ _).mono (fun _ h c => ⟨(h c).1 6, (h c).1 7, (h c).1 8,
      ((h c).1 0).trans (((dats m 0 c).arrAt_in 0 rfl _).trans (V_main_arg0 m c)),
      ((h c).2 _ (Pipeline.mem_restRefs_of _ (by decide) (by decide))).trans (V_main_arg1 m c),
      ((h c).1 2).trans (((dats m 0 c).arrAt_in 2 rfl _).trans (V_main_arg2 m c)),
      ((h c).2 _ (Pipeline.mem_restRefs_of _ (by decide) (by decide))).trans (V_main_arg3 m c),
      ((h c).2 _ (Pipeline.mem_restRefs_of _ (by decide) (by decide))).trans (V_main_arg4 m c),
      ((h c).2 _ (Pipeline.mem_restRefs_of _ (by decide) (by decide))).trans (V_main_arg5 m c),
      ((h c).2 _ (Pipeline.mem_restRefs_of _ (by decide) (by decide))).trans (V_main_arg6 m c),
      ((h c).1 5).trans (((dats m 0 c).arrAt_in 5 rfl _).trans (V_main_arg7 m c))⟩) (run_main m ρ)
  · refine (θ_run Cert.GlaPostReferenceIdeal.defs _ _).mono (fun _ h c => ⟨?_, ?_, ?_, (h c).2.2.2⟩) (Cert.GlaPostReferenceIdeal.Value.run (F := Ideal) m' ρ')
    all_goals obtain ⟨e0, e1, e2, e3, e4, e5, e6, e7⟩ := hag c
    · refine ((h c).1.trans (Cert.GlaPostReferenceIdeal.Read.val_main_v18_eq _ _)).trans ?_
      rw [e0, e1]
      exact funext fun x => (Cert.GlaPostReferenceIdeal.Read.entry_y _ _ x).trans (result_y m c x).symm
    · refine ((h c).2.1.trans (Cert.GlaPostReferenceIdeal.Read.val_main_v17_eq _ _ _ _ _)).trans ?_
      rw [e0, e1, e2, e3, e4]
      exact funext fun x => (congrFun (Cert.GlaPostReferenceIdeal.Read.entry_x _ _ _ _ _) x).trans (result_x m c x).symm
    · refine ((h c).2.2.1.trans (Cert.GlaPostReferenceIdeal.Read.val_main_v38_eq _ _)).trans ?_
      rw [e0, e1, e2, e3, e4, e5, e6, e7]
      exact funext fun x => (congrFun (Cert.GlaPostReferenceIdeal.Read.entry_h _ _ _ _ _ _ _ _) x).trans (result_h m c x).symm

end Cert.GlaPostIdeal.Gen
end
-- ==== Proof.ConvPostVal.lean ====
module
public import proofs.«01_k».proof.Proof.Gen.ConvPostIdeal.Frame
public import proofs.«01_k».proof.Proof.Gen.ConvPostReferenceIdeal.Run
public import proofs.«01_k».proof.Proof.Gen.ConvPostReferenceIdeal.Read
public import proofs.«01_k».proof.Proof.Post
public import proofs.«01_k».proof.Defs
/-!
# The output product of a convolution mixer, added to the trunk

The running sum, the strips written back, the three arrays of results, and the reference's entries.
-/
@[expose] public section
set_option maxRecDepth 16384
noncomputable section
namespace Cert.ConvPostIdeal.Gen
open Cert.Prod Cert.Post
open Idealize.ShloMosaic Idealize.ShloMosaic.TcCoe Idealize.ShloMosaic.Tactic
open Finset (range)
variable (m : (ℓ : Loc nD τ sig) → Buf (Elt Ideal) ℓ) (c : Dev nD)

/-- The weight as the call finds it: rounded and cut in four shards. -/
theorem found_w : V m c main_v1 = shapeCast S4x512x2048 (truncf (F := Ideal) (φ := .f32) .bf16 (m (c.tc.loc main_arg1)) bitsLt_bf16_f32)
    shapeCasts_S2048x2048_S4x512x2048 := by
  unfold V hostOps0
  after_results <;> rfl

/-- The branch's scale as the call finds it. -/
theorem found_g (j : Fin 2048) : V m c main_v3 (ix2 0 j) = gated (m (c.tc.loc main_arg4)) (m (c.tc.loc main_arg5)) j := by
  have e : V m c main_v3 = mulf (F := Ideal) (φ := .f32) (m (c.tc.loc main_arg4)) (shapeCast S1x2048 (m (c.tc.loc main_arg5)) shapeCasts_S2048_S1x2048) := by
    unfold V hostOps0
    after_results <;> rfl
  exact (congrFun e _).trans (gate_at _ _ _ j)

/-- The next half's scale as the call finds it. -/
theorem found_n (j : Fin 2048) : V m c main_v8 (ix2 0 j) = modulated (m (c.tc.loc main_arg6)) (m (c.tc.loc main_arg7)) j := by
  have e : V m c main_v8 = mulf (F := Ideal) (φ := .f32) (shapeCast S1x2048 (m (c.tc.loc main_arg6)) shapeCasts_S2048_S1x2048)
      (addf (broadcastInDim S1x2048 ![] bcast_S_S1x2048 (constant (F := Ideal) S_ .f32 0x3F800000#32)) (m (c.tc.loc main_arg7))) := by
    unfold V hostOps0
    after_results <;> rfl
  exact (congrFun e _).trans (modulation_at _ _ _ _ (fun _ => rfl) j)

/-- Where the windows lie. -/
theorem at_0 : ∀ t : Fin cfg0.N, win0_0.index t 0 = t.val / 4 ∧ win0_0.index t 1 = t.val % 4 := by decide +kernel
@[inherit_doc at_0]
theorem at_1 : ∀ t : Fin cfg0.N, win0_1.index t 0 = t.val % 4 ∧ win0_1.index t 1 = 0 ∧ win0_1.index t 2 = 0 := by decide +kernel
@[inherit_doc at_0]
theorem at_2 : ∀ t : Fin cfg0.N, win0_2.index t 0 = t.val / 4 ∧ win0_2.index t 1 = 0 := by decide +kernel
@[inherit_doc at_0]
theorem at_line : ∀ t : Fin cfg0.N, win0_3.index t 1 = 0 ∧ win0_5.index t 1 = 0 ∧ win0_6.index t 1 = 0 ∧ win0_4.index t 1 = 0 := by decide +kernel
@[inherit_doc at_0]
theorem at_out : ∀ t : Fin cfg0.N, (win0_7.index t 0 = t.val / 4 ∧ win0_7.index t 1 = 0) ∧ (win0_8.index t 0 = t.val / 4 ∧ win0_8.index t 1 = 0)
    ∧ win0_9.index t 0 = t.val / 4 ∧ win0_9.index t 1 = 0 := by decide +kernel

/-- The branch's block. -/
theorem blk_0 (t : Fin cfg0.N) (i : Fin 512) (k : Fin 512) :
    iblk m c 0 t (ix2 i k) = elem (m (c.tc.loc main_arg0)) (512 * (t.val / 4) + i) (512 * (t.val % 4) + k) := by
  unfold iblk
  blk_simp
  refine (congrFun (V_main_arg0 m c) _).trans (elem_of (m (c.tc.loc main_arg0)) _ ((win0_0.rect_emb_val t _ 0).trans ?_) ((win0_0.rect_emb_val t _ 1).trans ?_))
  · rw [(at_0 t).1, Nat.mul_comm]; rfl
  · rw [(at_0 t).2, Nat.mul_comm]; rfl

/-- The weight's block. -/
theorem blk_1 (t : Fin cfg0.N) (s : Fin 1) (k : Fin 512) (j : Fin 2048) :
    iblk m c 1 t (ix3 s k j) = elem (m (c.tc.loc main_arg1)) (512 * (t.val % 4) + k) j := by
  have ht : t.val < 64 := t.isLt
  unfold iblk
  blk_simp
  obtain ⟨h0, h1, h2⟩ := at_1 t
  have e0 := win0_1.rect_emb_val t (ix3 s k j) 0
  have e1 := win0_1.rect_emb_val t (ix3 s k j) 1
  have e2 := win0_1.rect_emb_val t (ix3 s k j) 2
  rw [h0] at e0
  rw [h1] at e1
  rw [h2] at e2
  refine (congrFun (found_w m c) _).trans (rows_elem (m (c.tc.loc main_arg1)) _ _ ?_ ?_ (by omega))
  · refine (congrArg₂ (fun a b => 512 * a + b) e0 e1).trans ?_
    simp
  · refine e2.trans ?_
    simp

/-- The row of the trunk that a block's row is. -/
abbrev row (t : Fin cfg0.N) (i : Fin 512) : Fin 8192 := ⟨512 * (t.val / 4) + i, by have ht : t.val < 64 := t.isLt; omega⟩

/-- The trunk's block. -/
theorem blk_2 (t : Fin cfg0.N) (i : Fin 512) (k : Fin 2048) : iblk m c 2 t (ix2 i k) = m (c.tc.loc main_arg3) (ix2 (row t i) k) := by
  unfold iblk
  blk_simp
  exact (congrFun (V_main_arg3 m c) _).trans (congrArg (m (c.tc.loc main_arg3)) (place _ (win0_2.rect_emb_val t _ 0)
    (win0_2.rect_emb_val t _ 1) (at_2 t) rfl).symm)

/-- The one row of a scale or a shift. -/
theorem blk_3 (t : Fin cfg0.N) (k : Fin 2048) : iblk m c 3 t (ix2 0 k) = V m c main_v3 (ix2 0 k) := by
  unfold iblk
  blk_simp
  exact congrArg (V m c main_v3) (place_line _ (win0_3.rect_emb_val t _ 1) (at_line t).1)
@[inherit_doc blk_3]
theorem blk_5 (t : Fin cfg0.N) (k : Fin 2048) : iblk m c 5 t (ix2 0 k) = V m c main_v8 (ix2 0 k) := by
  unfold iblk
  blk_simp
  exact congrArg (V m c main_v8) (place_line _ (win0_5.rect_emb_val t _ 1) (at_line t).2.1)
@[inherit_doc blk_3]
theorem blk_6 (t : Fin cfg0.N) (k : Fin 2048) : iblk m c 6 t (ix2 0 k) = m (c.tc.loc main_arg8) (ix2 0 k) := by
  unfold iblk
  blk_simp
  exact (congrFun (V_main_arg8 m c) _).trans (congrArg (m (c.tc.loc main_arg8)) (place_line _ (win0_6.rect_emb_val t _ 1) (at_line t).2.2.1))

/-- The bias, as the call is given it. -/
theorem blk_4 (t : Fin cfg0.N) (k : Fin 2048) : iblk m c 4 t (ix2 0 k) = m (c.tc.loc main_arg2) (ix1 k) := by
  have e : V m c main_v4 = shapeCast S1x2048 (m (c.tc.loc main_arg2)) shapeCasts_S2048_S1x2048 := by
    unfold V hostOps0
    after_results <;> rfl
  unfold iblk
  blk_simp
  exact (congrArg (V m c main_v4) (place_line _ (win0_4.rect_emb_val t _ 1) (at_line t).2.2.2)).trans ((congrFun e _).trans (row_at _ _ k))

/-- The terms of the sum at an entry of a block. -/
def term (i : ℕ) (j : ℕ) (n k : ℕ) : EReal := elem (m (c.tc.loc main_arg0)) (512 * n + i) k * elem (m (c.tc.loc main_arg1)) k j

/-- One tile's product. -/
theorem pay (t : Fin cfg0.N) (i : Fin 512) (j : Fin 2048) : k0_pay1 (iblk m c 0 t) (iblk m c 1 t) (ix2 i j)
    = ∑ k : Fin 512, term m c i j (t.val / 4) (512 * (t.val % 4) + k) := by
  unfold k0_pay1
  exact matmul_at _ (ax := 1) rfl rfl (iblk m c 0 t) (shapeCast S512x2048 (iblk m c 1 t) shapeCasts_S1x512x2048_S512x2048) (ix2 i j) _ _
    (fun k => by simp only [pointwise]; exact blk_0 m c t i k) (fun k => by simp only [pointwise]; exact blk_1 m c t 0 k j)

/-- The accumulator after a point: the sum over the tiles so far. -/
theorem acc (i : Fin 512) (j : Fin 2048) (n : ℕ) (hn : n < cfg0.N) :
    (outsAt0 m c n hn).2.2.2 (ix2 i j) = ∑ k ∈ range (512 * (n % 4 + 1)), term m c i j (n / 4) k := by
  refine running (N := cfg0.N) (fun n hn => (outsAt0 m c n hn).2.2.2 (ix2 i j)) (term m c i j) (fun n hn h => ?_) (fun n hn h => ?_) n hn
  · rw [outsAt0_A m c ⟨n, hn⟩ h (by dsimp only; omega) (by dsimp only; omega)]
    dsimp only
    frame_out
    unfold k0_pay2
    rw [shapeCast_self]
    exact pay m c ⟨n, hn⟩ i j
  · by_cases h3 : n % 4 = 3
    · rw [outsAt0_C m c ⟨n, hn⟩ h (by dsimp only; omega) h3]
      dsimp only
      frame_out
      unfold k0_pay3
      rw [shapeCast_self]
      simp only [read_unread_whole]
      exact congrArg _ (pay m c ⟨n, hn⟩ i j)
    · rw [outsAt0_B m c ⟨n, hn⟩ h (by dsimp only; omega) h3]
      dsimp only
      frame_out
      unfold k0_pay3
      rw [shapeCast_self]
      simp only [read_unread_whole]
      exact congrArg _ (pay m c ⟨n, hn⟩ i j)

/-- The whole sum, as the last tile's point stores it. -/
def whole (t : Fin cfg0.N) (h : t.val % 4 = 3) : Block.Idx → EReal :=
  k0_pay3 (iblk m c 0 t) (iblk m c 1 t) (outsAt0 m c (t.val - 1) (by have := t.isLt; omega)).2.2.2

/-- It is the product. -/
theorem whole_at (t : Fin cfg0.N) (h : t.val % 4 = 3) (i : Fin 512) (j : Fin 2048) :
    whole m c t h (ix2 i j) = prod 2048 (m (c.tc.loc main_arg0)) (m (c.tc.loc main_arg1)) (ix2 (row t i) j) := by
  have e := acc m c i j t.val t.isLt
  rw [h] at e
  refine Eq.trans ?_ e
  rw [outsAt0_C m c t (by omega) (by omega) h]
  dsimp only
  frame_out
  simp only [read_unread_whole]
  rfl

/-- The product with the bias. -/
def sumY : Trunk.Idx → EReal := shifted (prod 2048 (m (c.tc.loc main_arg0)) (m (c.tc.loc main_arg1))) (m (c.tc.loc main_arg2))

/-- A block of it. -/
theorem plus_row (t : Fin cfg0.N) (h : t.val % 4 = 3) (i : Fin 512) (j : Fin 2048) :
    plus (whole m c t h) (iblk m c 4 t) (ix2 i j) = sumY m c (ix2 (row t i) j) :=
  congrArg₂ _ (whole_at m c t h i j) (blk_4 m c t j)

/-- The branch, as it is written back. -/
theorem out_y (t : Fin cfg0.N) (h : t.val % 4 = 3) (i : Fin 512) (j : Fin 2048) : (outsAt0 m c t.val t.isLt).1 (ix2 i j) = plus (whole m c t h) (iblk m c 4 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact rounded_at _ _ r i (plus_at _ _ _ r i fun k => fresh_at _ _ _ _ r i k (by simpa using e0)) j

/-- The trunk with the branch added, as it is written back. -/
theorem out_x (t : Fin cfg0.N) (h : t.val % 4 = 3) (i : Fin 512) (j : Fin 2048) :
    (outsAt0 m c t.val t.isLt).2.1 (ix2 i j) = added (plus (whole m c t h) (iblk m c 4 t)) (iblk m c 2 t) (iblk m c 3 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact added_at _ _ _ _ _ r i (plus_at _ _ _ r i fun k => fresh_at _ _ _ _ r i k (by simpa using e0)) (fun k => strip_at _ _ r i k (by simpa using e0)) j

/-- The trunk made ready, as it is written back. -/
theorem out_h (t : Fin cfg0.N) (h : t.val % 4 = 3) (i : Fin 512) (j : Fin 2048) :
    (outsAt0 m c t.val t.isLt).2.2.1 (ix2 i j)
      = readied (added (plus (whole m c t h) (iblk m c 4 t)) (iblk m c 2 t) (iblk m c 3 t)) (iblk m c 5 t) (iblk m c 6 t) (ix2 i j) := by
  rw [outsAt0_C m c t (by omega) (by omega) h]
  dsimp only
  frame_out
  simp only [read_unread_whole]
  canon_tiles x e
  all_goals
    obtain ⟨r, k, rfl⟩ := ix2_of x
    obtain rfl : j = k := Fin.ext e1
    exact readied_at _ _ _ _ r i (added_at _ _ _ _ _ r i (plus_at _ _ _ r i fun k => fresh_at _ _ _ _ r i k (by simpa using e0)) (fun k => strip_at _ _ r i k (by simpa using e0))) j

/-- The three arrays of results. -/
theorem result_y (x : S8192x2048.Idx) : (dats m 0 c).arrAt 7 cfg0.N x = sumY m c x := by
  refine (dats m 0 c).arrAt_forall_of_covers 7 (fun x v => v = sumY m c x)
    (by decide +kernel) (fun t hf y => ?_) x
  blk_simp
  rw [after0_7]
  obtain ⟨i, j, rfl⟩ := ix2_of y
  have h : t.val % 4 = 3 := by revert t; decide +kernel
  exact (out_y m c t h i j).trans ((plus_row m c t h i j).trans (congrArg _ (place _ (win0_7.rect_emb_val t _ 0)
    (win0_7.rect_emb_val t _ 1) (at_out t).1 rfl)))

/-- The trunk with the branch added. -/
def sumX : Trunk.Idx → EReal :=
  mid (sumY m c) (m (c.tc.loc main_arg3)) (m (c.tc.loc main_arg4)) (m (c.tc.loc main_arg5))

/-- A block of it. -/
theorem added_row (t : Fin cfg0.N) (h : t.val % 4 = 3) (i : Fin 512) (j : Fin 2048) :
    added (plus (whole m c t h) (iblk m c 4 t)) (iblk m c 2 t) (iblk m c 3 t) (ix2 i j) = sumX m c (ix2 (row t i) j) :=
  added_eq _ _ _ _ _ _ _ i (row t i) (plus_row m c t h i) (blk_2 m c t i) (fun k => (blk_3 m c t k).trans (found_g m c k)) j

@[inherit_doc result_y]
theorem result_x (x : S8192x2048.Idx) : (dats m 0 c).arrAt 8 cfg0.N x = sumX m c x := by
  refine (dats m 0 c).arrAt_forall_of_covers 8 (fun x v => v = sumX m c x) (by decide +kernel) (fun t hf y => ?_) x
  blk_simp
  rw [after0_8]
  obtain ⟨i, j, rfl⟩ := ix2_of y
  have h : t.val % 4 = 3 := by revert t; decide +kernel
  exact (out_x m c t h i j).trans ((added_row m c t h i j).trans (congrArg _ (place _ (win0_8.rect_emb_val t _ 0)
    (win0_8.rect_emb_val t _ 1) (at_out t).2.1 rfl)))

@[inherit_doc result_y]
theorem result_h (x : S8192x2048.Idx) : (dats m 0 c).arrAt 9 cfg0.N x
    = ready (sumX m c) (m (c.tc.loc main_arg6)) (m (c.tc.loc main_arg7)) (m (c.tc.loc main_arg8)) x := by
  refine (dats m 0 c).arrAt_forall_of_covers 9 (fun x v => v = ready (sumX m c) (m (c.tc.loc main_arg6)) (m (c.tc.loc main_arg7)) (m (c.tc.loc main_arg8)) x)
    (by decide +kernel) (fun t hf y => ?_) x
  blk_simp
  rw [after0_9]
  obtain ⟨i, j, rfl⟩ := ix2_of y
  have h : t.val % 4 = 3 := by revert t; decide +kernel
  exact (out_h m c t h i j).trans ((readied_eq _ _ _ _ _ _ _ i (row t i) (added_row m c t h i)
    (fun k => (blk_5 m c t k).trans (found_n m c k)) (blk_6 m c t) j).trans (congrArg _ (place _ (win0_9.rect_emb_val t _ 0)
    (win0_9.rect_emb_val t _ 1) (at_out t).2.2 rfl)))

end Cert.ConvPostIdeal.Gen

namespace Cert.ConvPostReferenceIdeal.Read
open Cert.Prod Cert.Post
open Idealize.ShloMosaic Idealize.ShloMosaic.TcCoe
variable (x0 : (⟨S8192x2048, .bf16⟩ : BufTy).Contents (Elt Ideal)) (x1 : (⟨S2048x2048, .f32⟩ : BufTy).Contents (Elt Ideal))
  (x2 : (⟨S2048, .f32⟩ : BufTy).Contents (Elt Ideal)) (x3 : (⟨S8192x2048, .f32⟩ : BufTy).Contents (Elt Ideal))
  (x4 : (⟨S1x2048, .f32⟩ : BufTy).Contents (Elt Ideal)) (x5 x6 : (⟨S2048, .f32⟩ : BufTy).Contents (Elt Ideal))
  (x7 x8 : (⟨S1x2048, .f32⟩ : BufTy).Contents (Elt Ideal))

/-- The product. -/
theorem entry_p (x : S8192x2048.Idx) : val_main_v1 (F := Ideal) x0 x1 x = prod 2048 x0 x1 x := by
  rw [val_main_v1_apply]
  unfold prod
  rw [Finset.sum_range]
  exact Finset.sum_congr rfl fun k _ => congrArg₂ _ (elem_of x0 _ rfl rfl) (elem_of x1 _ rfl rfl)

/-- The product with the bias. -/
theorem entry_y : val_main_v4 (F := Ideal) x0 x1 x2 = shifted (prod 2048 x0 x1) x2 := by
  rw [← show val_main_v1 (F := Ideal) x0 x1 = prod 2048 x0 x1 from funext (entry_p x0 x1)]
  exact hostShifted_eq _ x2

/-- The trunk with the branch added. -/
theorem entry_x : val_main_v20 (F := Ideal) x0 x1 x2 x3 x4 x5 = mid (shifted (prod 2048 x0 x1) x2) x3 x4 x5 := by
  rw [← entry_y]
  exact hostMid_eq _ x3 x4 x5

/-- The trunk made ready. -/
theorem entry_h : val_main_v41 (F := Ideal) x0 x1 x2 x3 x4 x5 x6 x7 x8 = ready (mid (shifted (prod 2048 x0 x1) x2) x3 x4 x5) x6 x7 x8 := by
  rw [← entry_x]
  exact hostReady_eq _ x6 x7 x8

end Cert.ConvPostReferenceIdeal.Read

namespace Cert.ConvPostIdeal.Gen
open Idealize.ShloMosaic Idealize.ShloMosaic.TcCoe Idealize.SL.Sem

/-- The two programs, from arguments that agree, end with equal results. -/
theorem algebraic : Cert.algebraic_ConvPostIdeal_ConvPostReferenceIdeal := by
  intro m ρ m' ρ' _ hag
  refine ⟨fun c => (dats m 0 c).arrAt 7 cfg0.N, fun c => (dats m 0 c).arrAt 8 cfg0.N, fun c => (dats m 0 c).arrAt 9 cfg0.N, ?_, ?_⟩
  · exact (θ_run defs _ _).mono (fun _ h c => ⟨(h c).1 7, (h c).1 8, (h c).1 9,
      ((h c).1 0).trans (((dats m 0 c).arrAt_in 0 rfl _).trans (V_main_arg0 m c)),
      ((h c).2 _ (Pipeline.mem_restRefs_of _ (by decide) (by decide))).trans (V_main_arg1 m c),
      ((h c).2 _ (Pipeline.mem_restRefs_of _ (by decide) (by decide))).trans (V_main_arg2 m c),
      ((h c).1 2).trans (((dats m 0 c).arrAt_in 2 rfl _).trans (V_main_arg3 m c)),
      ((h c).2 _ (Pipeline.mem_restRefs_of _ (by decide) (by decide))).trans (V_main_arg4 m c),
      ((h c).2 _ (Pipeline.mem_restRefs_of _ (by decide) (by decide))).trans (V_main_arg5 m c),
      ((h c).2 _ (Pipeline.mem_restRefs_of _ (by decide) (by decide))).trans (V_main_arg6 m c),
      ((h c).2 _ (Pipeline.mem_restRefs_of _ (by decide) (by decide))).trans (V_main_arg7 m c),
      ((h c).1 6).trans (((dats m 0 c).arrAt_in 6 rfl _).trans (V_main_arg8 m c))⟩) (run_main m ρ)
  · refine (θ_run Cert.ConvPostReferenceIdeal.defs _ _).mono (fun _ h c => ⟨?_, ?_, ?_, (h c).2.2.2⟩) (Cert.ConvPostReferenceIdeal.Value.run (F := Ideal) m' ρ')
    all_goals obtain ⟨e0, e1, e2, e3, e4, e5, e6, e7, e8⟩ := hag c
    · refine ((h c).1.trans (Cert.ConvPostReferenceIdeal.Read.val_main_v21_eq _ _ _)).trans ?_
      rw [e0, e1, e2]
      exact funext fun x => (congrFun (Cert.ConvPostReferenceIdeal.Read.entry_y _ _ _) x).trans (result_y m c x).symm
    · refine ((h c).2.1.trans (Cert.ConvPostReferenceIdeal.Read.val_main_v20_eq _ _ _ _ _ _)).trans ?_
      rw [e0, e1, e2, e3, e4, e5]
      exact funext fun x => (congrFun (Cert.ConvPostReferenceIdeal.Read.entry_x _ _ _ _ _ _) x).trans (result_x m c x).symm
    · refine ((h c).2.2.1.trans (Cert.ConvPostReferenceIdeal.Read.val_main_v41_eq _ _)).trans ?_
      rw [e0, e1, e2, e3, e4, e5, e6, e7, e8]
      exact funext fun x => (congrFun (Cert.ConvPostReferenceIdeal.Read.entry_h _ _ _ _ _ _ _ _ _) x).trans (result_h m c x).symm

end Cert.ConvPostIdeal.Gen
end
-- ==== Proof.GradXMath.lean ====
module
public import proofs.«01_k».proof.Proof.Post
public import proofs.«01_k».proof.Proof.Alg
/-!
# The derivative of a norm, in two forms

A row divided by the root of its mean square, differentiated: the form the kernel computes and the form the chain rule
gives. The two are the same, also where a row or the gradient at it has infinite entries.
-/
@[expose] public section
noncomputable section
namespace Cert.GradX
open Cert.Prod Cert.Post
open Idealize.ShloMosaic

/-- The length of a row. -/
def len : EReal := Ideal.ofBits .f32 0x45000000#32

@[inherit_doc len]
theorem len_eq : len = ((2048 : ℝ) : EReal) := by
  simp [len, Ideal.ofBits, Ideal.ieee, -EReal.coe_mul]; norm_num

/-- What is added to a mean square. -/
def eps : EReal := Ideal.ofBits .f32 0x358637BD#32

/-- It is a positive real number. -/
theorem eps_eq : eps = ((8796093 / 2 ^ 43 : ℝ) : EReal) := by
  simp [eps, Ideal.ofBits, Ideal.ieee, -EReal.coe_mul]; norm_num

/-- Minus one half. -/
def half : EReal := Ideal.ofBits .f32 0xBF000000#32

@[inherit_doc half]
theorem half_eq : half = ((-1 / 2 : ℝ) : EReal) := by
  simp [half, Ideal.ofBits, Ideal.ieee, -EReal.coe_mul]; norm_num

/-- A row's mean square and what is added to it. -/
def square (x : Fin 2048 → EReal) : EReal := Ideal.div (∑ k, x k * x k) len + eps

/-- The same of a row of real numbers, as a real number. -/
def squareR (a : Fin 2048 → ℝ) : ℝ := (∑ k, a k * a k) * (1 / 2048) + 8796093 / 2 ^ 43

/-- It is positive. -/
theorem square_pos (a : Fin 2048 → ℝ) : 0 < squareR a := by
  have h : 0 ≤ ∑ k, a k * a k := Finset.sum_nonneg fun k _ => mul_self_nonneg _
  unfold squareR
  positivity

/-- Sums of products of real numbers. -/
theorem sum_coe (a b : Fin 2048 → ℝ) : ∑ k, (a k : EReal) * (b k : EReal) = ((∑ k, a k * b k : ℝ) : EReal) := by
  rw [Cert.Rep.coe_sum]
  exact Finset.sum_congr rfl fun k _ => (EReal.coe_mul _ _).symm

@[inherit_doc squareR]
theorem square_coe (a : Fin 2048 → ℝ) : square (fun k => (a k : EReal)) = squareR a := by
  unfold square squareR
  rw [sum_coe, len_eq, eps_eq, Ideal.div_coe (by norm_num), ← EReal.coe_mul, ← EReal.coe_add]

/-- What a row of real numbers is multiplied by. -/
theorem norm_coe (a : Fin 2048 → ℝ) : norm (fun k => (a k : EReal)) = (((Real.sqrt (squareR a))⁻¹ : ℝ) : EReal) := by
  show Ideal.rsqrt (square _) = _
  rw [square_coe, Ideal.rsqrt_coe, if_neg (square_pos a).not_gt, if_neg (square_pos a).ne']

/-- The derivative at an entry of a row `x`, of the gradient `d` at the normalised row, added to `D`: as the kernel has it. -/
def backK (x d : Fin 2048 → EReal) (D : EReal) (j : Fin 2048) : EReal :=
  D + norm x * (d j - x j * norm x * Ideal.div (∑ k, d k * (x k * norm x)) len)

/-- The part of the derivative that goes through the mean square, as the chain rule gives it. -/
def through (x d : Fin 2048 → EReal) : EReal := Ideal.div ((∑ k, x k * d k) * (half * Ideal.div (norm x) (square x))) len

/-- The derivative as the chain rule gives it. -/
def backR (x d : Fin 2048 → EReal) (D : EReal) (j : Fin 2048) : EReal := D + d j * norm x + x j * through x d + through x d * x j

/-- A row of the gradient at the normalised tokens: the call's, times the norm's weights and one more than the modulation. -/
def weighted (u : Trunk.Idx → EReal) (g : (⟨1, ![2048]⟩ : Shape).Idx → EReal) (s : Line.Idx → EReal) (i : Fin 8192) (k : Fin 2048) : EReal :=
  u (ix2 i k) * modulated g s k

/-- A product added to itself. -/
theorem twice (S : EReal) (q : ℝ) : S * (q : EReal) + S * (q : EReal) = S * ((q + q : ℝ) : EReal) := by
  induction S with
  | coe s => rw [← EReal.coe_mul, ← EReal.coe_mul, ← EReal.coe_add, mul_add]
  | top =>
    rcases lt_trichotomy q 0 with h | h | h
    · rw [EReal.top_mul_coe_of_neg h, EReal.top_mul_coe_of_neg (add_neg h h)]; rfl
    · subst h; simp
    · rw [EReal.top_mul_coe_of_pos h, EReal.top_mul_coe_of_pos (add_pos h h)]; rfl
  | bot =>
    rcases lt_trichotomy q 0 with h | h | h
    · rw [EReal.bot_mul_coe_of_neg h, EReal.bot_mul_coe_of_neg (add_neg h h)]; rfl
    · subst h; simp
    · rw [EReal.bot_mul_coe_of_pos h, EReal.bot_mul_coe_of_pos (add_pos h h)]; rfl

/-- A sum times a real number that is not negative. -/
theorem sum_times {ι : Type} (s : Finset ι) (f : ι → EReal) {r : ℝ} (h : 0 ≤ r) : ∑ k ∈ s, f k * (r : EReal) = (∑ k ∈ s, f k) * (r : EReal) := by
  classical
  induction s using Finset.induction_on with
  | empty => simp
  | insert k s hk ih =>
    rw [Finset.sum_insert hk, Finset.sum_insert hk, ih,
      EReal.right_distrib_of_nonneg_of_ne_top (EReal.coe_nonneg.mpr h) (EReal.coe_ne_top r)]

/-- A square is not negative. -/
theorem self_nonneg (x : EReal) : 0 ≤ x * x :=
  (le_total 0 x).elim (fun h => EReal.mul_nonneg h h) fun h => EReal.mul_nonneg_iff.mpr (.inr ⟨h, h⟩)

/-- The square of a row with an infinite entry is infinite. -/
theorem square_top {x : Fin 2048 → EReal} {k : Fin 2048} (h : x k * x k = ⊤) : square x = ⊤ := by
  have e : ∑ k, x k * x k = ⊤ := top_le_iff.mp (h ▸ Finset.single_le_sum (fun k _ => self_nonneg (x k)) (Finset.mem_univ k))
  unfold square
  rw [e, len_eq, eps_eq, Ideal.div_coe (by norm_num), EReal.top_mul_coe_of_pos (by norm_num), EReal.top_add_coe]

/-- A row with an infinite entry is multiplied by nought. -/
theorem back_top {x : Fin 2048 → EReal} {k : Fin 2048} (h : x k * x k = ⊤) (d : Fin 2048 → EReal) (D : EReal) (j : Fin 2048) :
    backK x d D j = backR x d D j := by
  have hn : norm x = 0 := by
    show Ideal.rsqrt (square _) = _
    rw [square_top h, Ideal.rsqrt_top]
  have ht : through x d = 0 := by
    unfold through
    rw [hn, square_top h, len_eq, Ideal.div_coe (by norm_num)]
    simp [Ideal.div]
  unfold backK backR
  rw [ht, hn]
  simp

/-- Of a row of real numbers the two are the same, whatever the gradient. -/
theorem back_coe (a : Fin 2048 → ℝ) (d : Fin 2048 → EReal) (D : EReal) (j : Fin 2048) :
    backK (fun k => (a k : EReal)) d D j = backR (fun k => (a k : EReal)) d D j := by
  have hv := square_pos a
  obtain ⟨r, hr, h0, hr0⟩ : ∃ r : ℝ, (Real.sqrt (squareR a))⁻¹ = r ∧ 0 ≤ r ∧ 1 / squareR a = r * r :=
    ⟨_, rfl, inv_nonneg.mpr (Real.sqrt_nonneg _), by rw [← mul_inv, Real.mul_self_sqrt hv.le, one_div]⟩
  have e : ∑ k, d k * ((a k : EReal) * (r : EReal)) = (∑ k, (a k : EReal) * d k) * (r : EReal) := by
    rw [← sum_times _ _ h0]
    exact Finset.sum_congr rfl fun k _ => by rw [← mul_assoc, mul_comm (d k)]
  unfold backK backR through
  rw [norm_coe, square_coe, len_eq, half_eq, hr, e]
  generalize (∑ k, (a k : EReal) * d k) = S
  rw [Ideal.div_coe (show (2048 : ℝ) ≠ 0 by norm_num), Ideal.div_coe (show (2048 : ℝ) ≠ 0 by norm_num), Ideal.div_coe hv.ne', hr0,
    sub_eq_add_neg, EReal.left_distrib_of_nonneg_of_ne_top (EReal.coe_nonneg.mpr h0) (EReal.coe_ne_top r), ← add_assoc, mul_comm (r : EReal) (d j),
    add_assoc (D + _), mul_comm (a j : EReal) (S * _ * _)]
  refine congrArg (D + d j * (r : EReal) + ·) ?_
  have l : (r : EReal) * -((a j : EReal) * r * (S * r * ((1 / 2048 : ℝ) : EReal))) = S * ((-(r * (a j * r) * (r * (1 / 2048))) : ℝ) : EReal) := by
    rw [mul_neg, EReal.coe_neg, mul_neg]
    simp only [EReal.coe_mul]
    ac_rfl
  have q : S * (((-1 / 2 : ℝ) : EReal) * ((r : EReal) * ((r * r : ℝ) : EReal))) * ((1 / 2048 : ℝ) : EReal) * (a j : EReal)
      = S * (((-1 / 2) * (r * (r * r)) * (1 / 2048) * a j : ℝ) : EReal) := by
    simp only [EReal.coe_mul]
    ac_rfl
  rw [l, q, twice]
  exact congrArg (fun t : ℝ => S * (t : EReal)) (by ring)

/-- The two are the same. -/
theorem back_eq (x d : Fin 2048 → EReal) (D : EReal) (j : Fin 2048) : backK x d D j = backR x d D j := by
  by_cases h : ∃ k, x k * x k = ⊤
  · obtain ⟨k, hk⟩ := h
    exact back_top hk d D j
  · have f : ∀ k, ∃ a : ℝ, x k = (a : EReal) := fun k => by
      have n : x k * x k ≠ ⊤ := fun t => h ⟨k, t⟩
      induction hx : x k with
      | coe a => exact ⟨a, rfl⟩
      | top => exact absurd (by rw [hx]; rfl) n
      | bot => exact absurd (by rw [hx]; rfl) n
    choose a ha using f
    rw [show x = fun k => (a k : EReal) from funext ha]
    exact back_coe a d D j

end Cert.GradX
end
-- ==== Proof.GradXVal.lean ====
module
public import proofs.«01_k».proof.Proof.Gen.GradXIdeal.Frame
public import proofs.«01_k».proof.Proof.Gen.GradXReferenceIdeal.Run
public import proofs.«01_k».proof.Proof.Gen.GradXReferenceIdeal.Read
public import proofs.«01_k».proof.Proof.GradXMath
public import proofs.«01_k».proof.Defs
/-!
# The gradient of the tokens

The block written back at each point of the grid, the array of results, the reference's entries, and their equality.
-/
@[expose] public section
set_option maxRecDepth 16384
noncomputable section
namespace Cert.GradXIdeal.Gen
open Cert.Prod Cert.Post Cert.GradX
open Idealize.ShloMosaic Idealize.ShloMosaic.TcCoe Idealize.ShloMosaic.Tactic
variable (m : (ℓ : Loc nD τ sig) → Buf (Elt Ideal) ℓ) (c : Dev nD)

/-- What a row of a block is multiplied by. -/
theorem norm_at (x : FVec Ideal S256x2048 .f32) (i : Fin 256) : k0_pay6 (F := Ideal) x (ix2 i 0) = norm fun k => x (ix2 i k) := by
  unfold k0_pay6
  simp only [pointwise]
  rfl

/-- An entry of the block written back. -/
theorem pay (u : Vec Ideal S256x2048 .bf16) (x D : Vec Ideal S256x2048 .f32) (g s : Vec Ideal S1x2048 .f32) (i : Fin 256) (j : Fin 2048) :
    k0_pay9 (F := Ideal) u x D g s (ix2 i j)
      = backK (fun k => x (ix2 i k)) (fun k => u (ix2 i k) * (g (ix2 0 k) * (one + s (ix2 0 k)))) (D (ix2 i j)) j := by
  unfold backK
  rw [one_eq, ← norm_at]
  unfold k0_pay9 k0_pay7 k0_pay5
  generalize k0_pay6 x = z
  simp only [shapeCast_self, pointwise]
  rfl

/-- The norm's weights as the call finds them. -/
theorem found_g (j : Fin 2048) : V m c main_v0 (ix2 0 j) = m (c.tc.loc main_arg3) (ix1 j) := by
  have e : V m c main_v0 = shapeCast S1x2048 (m (c.tc.loc main_arg3)) shapeCasts_S2048_S1x2048 := by
    unfold V hostOps0
    after_results <;> rfl
  exact (congrFun e _).trans (row_at _ _ j)

/-- Where the windows lie. -/
theorem at_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ win0_5.index t 0 = t.val ∧ win0_5.index t 1 = 0 := by decide +kernel
@[inherit_doc at_rows]
theorem at_line : ∀ t : Fin cfg0.N, win0_3.index t 1 = 0 ∧ win0_4.index t 1 = 0 := by decide +kernel

/-- The row that a block's row is. -/
abbrev row (t : Fin cfg0.N) (i : Fin 256) : Fin 8192 := ⟨256 * t.val + i, by have ht : t.val < 32 := t.isLt; omega⟩

/-- The blocks of the gradient, of the tokens and of what is added. -/
theorem blk_0 (t : Fin cfg0.N) (i : Fin 256) (k : Fin 2048) : iblk m c 0 t (ix2 i k) = m (c.tc.loc main_arg0) (ix2 (row t i) k) := by
  unfold iblk
  blk_simp
  exact (congrFun (V_main_arg0 m c) _).trans (congrArg (m (c.tc.loc main_arg0)) (place _ (win0_0.rect_emb_val t _ 0)
    (win0_0.rect_emb_val t _ 1) (at_rows t).1 rfl).symm)
@[inherit_doc blk_0]
theorem blk_1 (t : Fin cfg0.N) (i : Fin 256) (k : Fin 2048) : iblk m c 1 t (ix2 i k) = m (c.tc.loc main_arg1) (ix2 (row t i) k) := by
  unfold iblk
  blk_simp
  exact (congrFun (V_main_arg1 m c) _).trans (congrArg (m (c.tc.loc main_arg1)) (place _ (win0_1.rect_emb_val t _ 0)
    (win0_1.rect_emb_val t _ 1) (at_rows t).2.1 rfl).symm)
@[inherit_doc blk_0]
theorem blk_2 (t : Fin cfg0.N) (i : Fin 256) (k : Fin 2048) : iblk m c 2 t (ix2 i k) = m (c.tc.loc main_arg2) (ix2 (row t i) k) := by
  unfold iblk
  blk_simp
  exact (congrFun (V_main_arg2 m c) _).trans (congrArg (m (c.tc.loc main_arg2)) (place _ (win0_2.rect_emb_val t _ 0)
    (win0_2.rect_emb_val t _ 1) (at_rows t).2.2.1 rfl).symm)

/-- The one row of the weights and of the modulation. -/
theorem blk_3 (t : Fin cfg0.N) (k : Fin 2048) : iblk m c 3 t (ix2 0 k) = m (c.tc.loc main_arg3) (ix1 k) := by
  refine Eq.trans ?_ (found_g m c k)
  unfold iblk
  blk_simp
  exact congrArg (V m c main_v0) (place_line _ (win0_3.rect_emb_val t _ 1) (at_line t).1)
@[inherit_doc blk_3]
theorem blk_4 (t : Fin cfg0.N) (k : Fin 2048) : iblk m c 4 t (ix2 0 k) = m (c.tc.loc main_arg4) (ix2 0 k) := by
  unfold iblk
  blk_simp
  exact (congrFun (V_main_arg4 m c) _).trans (congrArg (m (c.tc.loc main_arg4)) (place_line _ (win0_4.rect_emb_val t _ 1) (at_line t).2))

/-- The block written back. -/
theorem out (t : Fin cfg0.N) : (outsAt0 m c t.val t.isLt).1
    = k0_pay9 (F := Ideal) (iblk m c 0 t) (iblk m c 1 t) (iblk m c 2 t) (iblk m c 3 t) (iblk m c 4 t) := by
  by_cases h : t.val % 32 = 0
  · rw [outsAt0_A m c t h]
    dsimp only
    frame_out
  · rw [outsAt0_B m c t h]
    dsimp only
    frame_out

/-- The gradient as the kernel has it. -/
def grad (p : Trunk.Idx) : EReal :=
  backK (fun k => m (c.tc.loc main_arg1) (ix2 (p 0) k)) (weighted (m (c.tc.loc main_arg0)) (m (c.tc.loc main_arg3)) (m (c.tc.loc main_arg4)) (p 0))
    (m (c.tc.loc main_arg2) p) (p 1)

/-- A block of it. -/
theorem block (t : Fin cfg0.N) (i : Fin 256) (j : Fin 2048) : (outsAt0 m c t.val t.isLt).1 (ix2 i j) = grad m c (ix2 (row t i) j) := by
  refine (congrFun (out m c t) _).trans ((pay _ _ _ _ _ i j).trans ?_)
  rw [blk_2]
  exact congrArg₂ (fun x d => backK x d _ j) (funext fun k => blk_1 m c t i k)
    (funext fun k => congrArg₂ _ (blk_0 m c t i k) (congrArg₂ _ (blk_3 m c t k) (congrArg _ (blk_4 m c t k))))

/-- The array of results. -/
theorem result (x : S8192x2048.Idx) : (dats m 0 c).arrAt 5 cfg0.N x = grad m c x := by
  refine (dats m 0 c).arrAt_forall_of_covers 5 (fun x v => v = grad m c x) (by decide +kernel) (fun t hf y => ?_) x
  blk_simp
  rw [after0_5]
  obtain ⟨i, j, rfl⟩ := ix2_of y
  exact (block m c t i j).trans (congrArg _ (place _ (win0_5.rect_emb_val t _ 0) (win0_5.rect_emb_val t _ 1) (at_rows t).2.2.2 rfl))

end Cert.GradXIdeal.Gen

namespace Cert.GradXReferenceIdeal.Read
open Cert.Prod Cert.Post Cert.GradX
open Idealize.ShloMosaic Idealize.ShloMosaic.TcCoe
variable (x0 : (⟨S8192x2048, .bf16⟩ : BufTy).Contents (Elt Ideal)) (x1 x2 : (⟨S8192x2048, .f32⟩ : BufTy).Contents (Elt Ideal))
  (x3 : (⟨S2048, .f32⟩ : BufTy).Contents (Elt Ideal)) (x4 : (⟨S1x2048, .f32⟩ : BufTy).Contents (Elt Ideal))

/-- The mean square of a row and what is added to it. -/
theorem square_at (i : Fin 8192) : val_main_v6 (F := Ideal) x1 (ix2 i 0) = square fun k => x1 (ix2 i k) := by
  rw [val_main_v6_apply, val_main_v4_apply, val_main_v2_apply, val_main_v1_apply]
  show Ideal.div (Ideal.ofBits .f32 0x00000000#32 + _) _ + _ = _
  have f : ∀ k, idx_main_v1 (idx_main_v2 (ix2 i 0)) k = ix2 i k := fun k => funext fun a => match a with | ⟨0, _⟩ => rfl | ⟨1, _⟩ => rfl
  simp only [Ideal.ofBits_zero_f32, zero_add, f]
  rfl

/-- The gradient at the normalised row. -/
theorem scaled_at (i : Fin 8192) (j : Fin 2048) : val_main_v24 (F := Ideal) x0 x3 x4 (ix2 i j) = weighted x0 x3 x4 i j := by
  have e : idx_main_v21 (ix2 i j) = ix2 0 j := funext fun a => match a with | ⟨0, _⟩ => rfl | ⟨1, _⟩ => rfl
  have f : idx_main_v13 (idx_main_v23 (ix2 i j)) = ix1 j := funext fun a => match a with | ⟨0, _⟩ => rfl
  unfold weighted modulated
  rw [mul_comm (x3 _), ← mul_assoc, val_main_v24_apply, val_main_v22_apply, val_main_v21_apply, val_main_v23_apply, val_main_v13_apply, e, f]
  rfl

/-- The part that goes through the mean square. -/
theorem through_at (i : Fin 8192) (j : Fin 2048) : val_main_v35 (F := Ideal) x0 x1 x3 x4 (ix2 i j)
    = through (fun k => x1 (ix2 i k)) (weighted x0 x3 x4 i) := by
  have e : idx_main_v34 (ix1 i) 0 = ix2 i 0 := funext fun a => match a with | ⟨0, _⟩ => rfl | ⟨1, _⟩ => rfl
  have e' : idx_main_v27 (ix2 i 0) = ix1 i := funext fun a => match a with | ⟨0, _⟩ => Fin.ext (Nat.mul_one _)
  have d : idx_main_v35 (ix2 i j) = ix1 i := funext fun a => match a with | ⟨0, _⟩ => rfl
  rw [val_main_v35_apply, d, val_main_v34_apply, Fin.sum_univ_one, e, val_main_v33_apply, val_main_v31_apply, val_main_v27_apply, e',
    val_main_v26_apply, val_main_v10_apply, val_main_v8_apply, square_at, show val_main_v7 (F := Ideal) x1 = hostNorm x1 from rfl, hostNorm_at]
  show Ideal.ofBits .f32 0x00000000#32 + Ideal.div ((Ideal.ofBits .f32 0x00000000#32 + _) * _) _ = _
  rw [Ideal.ofBits_zero_f32, zero_add, zero_add]
  unfold through
  refine congrArg₂ _ (congrArg₂ _ (Finset.sum_congr rfl fun k _ => ?_) rfl) rfl
  have f : idx_main_v26 (ix1 i) k = ix2 i k := funext fun a => match a with | ⟨0, _⟩ => rfl | ⟨1, _⟩ => rfl
  rw [f, val_main_v25_apply, scaled_at]
  rfl

/-- An entry of the reference's gradient. -/
theorem entry (i : Fin 8192) (j : Fin 2048) : val_main_v39 (F := Ideal) x0 x1 x2 x3 x4 (ix2 i j)
    = backR (fun k => x1 (ix2 i k)) (weighted x0 x3 x4 i) (x2 (ix2 i j)) j := by
  have e : idx_main_v28 (ix2 i j) = ix2 i 0 := funext fun a => match a with | ⟨0, _⟩ => rfl | ⟨1, _⟩ => rfl
  rw [val_main_v39_apply, val_main_v37_apply, val_main_v38_apply, val_main_v36_apply, val_main_v30_apply, val_main_v29_apply,
    val_main_v28_apply, e, show val_main_v7 (F := Ideal) x1 = hostNorm x1 from rfl, hostNorm_at, through_at, scaled_at]
  rfl

end Cert.GradXReferenceIdeal.Read

namespace Cert.GradXIdeal.Gen
open Cert.Prod Cert.Post Cert.GradX
open Idealize.ShloMosaic Idealize.ShloMosaic.TcCoe Idealize.SL.Sem

/-- The two programs, from arguments that agree, end with equal results. -/
theorem algebraic : Cert.algebraic_GradXIdeal_GradXReferenceIdeal := by
  intro m ρ m' ρ' _ hag
  refine ⟨fun c => (dats m 0 c).arrAt 5 cfg0.N, ?_, ?_⟩
  · exact (θ_run defs _ _).mono (fun _ h c => ⟨(h c).1 5,
      ((h c).1 0).trans (((dats m 0 c).arrAt_in 0 rfl _).trans (V_main_arg0 m c)),
      ((h c).1 1).trans (((dats m 0 c).arrAt_in 1 rfl _).trans (V_main_arg1 m c)),
      ((h c).1 2).trans (((dats m 0 c).arrAt_in 2 rfl _).trans (V_main_arg2 m c)),
      ((h c).2 _ (Pipeline.mem_restRefs_of _ (by decide) (by decide))).trans (V_main_arg3 m c),
      ((h c).1 4).trans (((dats m 0 c).arrAt_in 4 rfl _).trans (V_main_arg4 m c))⟩) (run_main m ρ)
  · refine (θ_run Cert.GradXReferenceIdeal.defs _ _).mono (fun _ h c => ⟨?_, (h c).2⟩) (Cert.GradXReferenceIdeal.Value.run (F := Ideal) m' ρ')
    obtain ⟨e0, e1, e2, e3, e4⟩ := hag c
    refine ((h c).1.trans (Cert.GradXReferenceIdeal.Read.val_main_v39_eq _ _)).trans ?_
    rw [e0, e1, e2, e3, e4]
    funext x
    obtain ⟨i, j, rfl⟩ := ix2_of x
    exact (Cert.GradXReferenceIdeal.Read.entry _ _ _ _ _ i j).trans ((back_eq _ _ _ j).symm.trans (result m c (ix2 i j)).symm)

end Cert.GradXIdeal.Gen
end
-- ==== Proof.PreNormVal.lean ====
module
public import proofs.«01_k».proof.Proof.Gen.PreNormIdeal.Frame
public import proofs.«01_k».proof.Proof.Gen.PreNormReferenceIdeal.Run
public import proofs.«01_k».proof.Proof.Post
public import proofs.«01_k».proof.Defs
/-!
# The norm before the first layer

The block written back at each point of the grid, the array of results, and its equality with the reference's.
-/
@[expose] public section
set_option maxRecDepth 16384
noncomputable section
namespace Cert.PreNormIdeal.Gen
open Cert.Prod Cert.Post
open Idealize.ShloMosaic Idealize.ShloMosaic.TcCoe Idealize.ShloMosaic.Tactic Idealize.SL.Sem
variable (m : (ℓ : Loc nD τ sig) → Buf (Elt Ideal) ℓ) (c : Dev nD)

/-- An entry of the block written back. -/
theorem pay (x : Vec Ideal S256x2048 .f32) (w s : Vec Ideal S1x2048 .f32) (i : Fin 256) (j : Fin 2048) :
    k0_pay1 (F := Ideal) x w s (ix2 i j) = x (ix2 i j) * norm (fun k => x (ix2 i k)) * w (ix2 0 j) + s (ix2 0 j) := by
  unfold k0_pay1
  simp only [shapeCast_self, pointwise]
  rfl

/-- The scale as the call finds it. -/
theorem found (j : Fin 2048) : V m c main_v3 (ix2 0 j) = modulated (m (c.tc.loc main_arg1)) (m (c.tc.loc main_arg2)) j := by
  have e : V m c main_v3 = mulf (F := Ideal) (φ := .f32) (shapeCast S1x2048 (m (c.tc.loc main_arg1)) shapeCasts_S2048_S1x2048)
      (addf (broadcastInDim S1x2048 ![] bcast_S_S1x2048 (constant (F := Ideal) S_ .f32 0x3F800000#32)) (m (c.tc.loc main_arg2))) := by
    unfold V hostOps0
    after_results <;> rfl
  exact (congrFun e _).trans (modulation_at _ _ _ _ (fun _ => rfl) j)

/-- Where the windows lie. -/
theorem at_rows : ∀ t : Fin cfg0.N, (win0_0.index t 0 = t.val ∧ win0_0.index t 1 = 0) ∧ (win0_3.index t 0 = t.val ∧ win0_3.index t 1 = 0)
    ∧ win0_1.index t 1 = 0 ∧ win0_2.index t 1 = 0 := by decide +kernel

/-- The row that a block's row is. -/
abbrev row (t : Fin cfg0.N) (i : Fin 256) : Fin 8192 := ⟨256 * t.val + i, by have ht : t.val < 32 := t.isLt; omega⟩

/-- The block of the tokens. -/
theorem blk_0 (t : Fin cfg0.N) (i : Fin 256) (k : Fin 2048) : iblk m c 0 t (ix2 i k) = m (c.tc.loc main_arg0) (ix2 (row t i) k) := by
  unfold iblk
  blk_simp
  exact (congrFun (V_main_arg0 m c) _).trans (congrArg (m (c.tc.loc main_arg0)) (place _ (win0_0.rect_emb_val t _ 0)
    (win0_0.rect_emb_val t _ 1) (at_rows t).1 rfl).symm)

/-- The one row of the scale and of the shift. -/
theorem blk_1 (t : Fin cfg0.N) (k : Fin 2048) : iblk m c 1 t (ix2 0 k) = modulated (m (c.tc.loc main_arg1)) (m (c.tc.loc main_arg2)) k := by
  refine Eq.trans ?_ (found m c k)
  unfold iblk
  blk_simp
  exact congrArg (V m c main_v3) (place_line _ (win0_1.rect_emb_val t _ 1) (at_rows t).2.2.1)
@[inherit_doc blk_1]
theorem blk_2 (t : Fin cfg0.N) (k : Fin 2048) : iblk m c 2 t (ix2 0 k) = m (c.tc.loc main_arg3) (ix2 0 k) := by
  unfold iblk
  blk_simp
  exact (congrFun (V_main_arg3 m c) _).trans (congrArg (m (c.tc.loc main_arg3)) (place_line _ (win0_2.rect_emb_val t _ 1) (at_rows t).2.2.2))

/-- The array that the reference writes. -/
abbrev want : Trunk.Idx → EReal := ready (m (c.tc.loc main_arg0)) (m (c.tc.loc main_arg1)) (m (c.tc.loc main_arg2)) (m (c.tc.loc main_arg3))

/-- A block of it is what is written back. -/
theorem block (t : Fin cfg0.N) (i : Fin 256) (j : Fin 2048) :
    out0_3 (iblk m c 0 t) (iblk m c 1 t) (iblk m c 2 t) (ix2 i j) = want m c (ix2 (row t i) j) := by
  refine Eq.trans ?_ (ready_eq _ _ _ _ (ix2 (row t i) j))
  unfold out0_3
  frame_out
  refine (pay _ _ _ i j).trans ?_
  exact congrArg₂ _ (congrArg₂ _ (congrArg₂ _ (blk_0 m c t i j) (congrArg norm (funext (blk_0 m c t i)))) (blk_1 m c t j)) (blk_2 m c t j)

/-- The array of results. -/
theorem result (x : S8192x2048.Idx) : (dats m 0 c).arrAt 3 cfg0.N x = want m c x := by
  refine (dats m 0 c).arrAt_forall_of_covers 3 (fun x v => v = want m c x) (by decide +kernel) (fun t hf y => ?_) x
  blk_simp
  rw [after0_3]
  obtain ⟨i, j, rfl⟩ := ix2_of y
  exact (block m c t i j).trans (congrArg _ (place _ (win0_3.rect_emb_val t _ 0) (win0_3.rect_emb_val t _ 1) (at_rows t).2.1 rfl))

/-- The two programs, from arguments that agree, end with equal results. -/
theorem algebraic : Cert.algebraic_PreNormIdeal_PreNormReferenceIdeal := by
  intro m ρ m' ρ' _ hag
  refine ⟨fun c => (dats m 0 c).arrAt 3 cfg0.N, ?_, ?_⟩
  · exact (θ_run defs _ _).mono (fun _ h c => ⟨(h c).1 3,
      ((h c).1 0).trans (((dats m 0 c).arrAt_in 0 rfl _).trans (V_main_arg0 m c)),
      ((h c).2 _ (Pipeline.mem_restRefs_of _ (by decide) (by decide))).trans (V_main_arg1 m c),
      ((h c).2 _ (Pipeline.mem_restRefs_of _ (by decide) (by decide))).trans (V_main_arg2 m c),
      ((h c).1 2).trans (((dats m 0 c).arrAt_in 2 rfl _).trans (V_main_arg3 m c))⟩) (run_main m ρ)
  · refine (θ_run Cert.PreNormReferenceIdeal.defs _ _).mono (fun _ h c => ⟨?_, (h c).2⟩) (Cert.PreNormReferenceIdeal.Value.run (F := Ideal) m' ρ')
    obtain ⟨e0, e1, e2, e3⟩ := hag c
    refine (h c).1.trans ?_
    rw [e0, e1, e2, e3]
    exact (hostReady_eq _ _ _ _).trans (funext fun x => (result m c x).symm)

end Cert.PreNormIdeal.Gen
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Act.Frame
public import proofs.«01_k».proof.Proof.Gen.ActIdeal.Frame
public import proofs.«01_k».proof.Proof.Gen.ActReferenceIdeal.Run
public import proofs.«01_k».proof.Proof.Gen.ActReferenceIdeal.Read
public import proofs.«01_k».proof.Proof.Gen.Wout.Frame
public import proofs.«01_k».proof.Proof.Gen.WoutIdeal.Frame
public import proofs.«01_k».proof.Proof.Gen.WoutReferenceIdeal.Run
public import proofs.«01_k».proof.Proof.Gen.WoutReferenceIdeal.Read
public import proofs.«01_k».proof.Proof.Gen.Win.Frame
public import proofs.«01_k».proof.Proof.Gen.WinIdeal.Frame
public import proofs.«01_k».proof.Proof.Gen.WinReferenceIdeal.Run
public import proofs.«01_k».proof.Proof.Gen.WinReferenceIdeal.Read
public import proofs.«01_k».proof.Proof.Gen.Dh.Frame
public import proofs.«01_k».proof.Proof.Gen.DhIdeal.Frame
public import proofs.«01_k».proof.Proof.Gen.DhReferenceIdeal.Run
public import proofs.«01_k».proof.Proof.Gen.DhReferenceIdeal.Read
public import proofs.«01_k».proof.Proof.Gen.OutW.Frame
public import proofs.«01_k».proof.Proof.Gen.OutWIdeal.Frame
public import proofs.«01_k».proof.Proof.Gen.OutWReferenceIdeal.Run
public import proofs.«01_k».proof.Proof.Gen.OutWReferenceIdeal.Read
public import proofs.«01_k».proof.Proof.Gen.OutD.Frame
public import proofs.«01_k».proof.Proof.Gen.OutDIdeal.Frame
public import proofs.«01_k».proof.Proof.Gen.OutDReferenceIdeal.Run
public import proofs.«01_k».proof.Proof.Gen.OutDReferenceIdeal.Read
public import proofs.«01_k».proof.Proof.Gen.Proj.Frame
public import proofs.«01_k».proof.Proof.Gen.ProjIdeal.Frame
public import proofs.«01_k».proof.Proof.Gen.ProjReferenceIdeal.Run
public import proofs.«01_k».proof.Proof.Gen.ProjReferenceIdeal.Read
public import proofs.«01_k».proof.Proof.Gen.ProjW.Frame
public import proofs.«01_k».proof.Proof.Gen.ProjWIdeal.Frame
public import proofs.«01_k».proof.Proof.Gen.ProjWReferenceIdeal.Run
public import proofs.«01_k».proof.Proof.Gen.ProjWReferenceIdeal.Read
public import proofs.«01_k».proof.Proof.Gen.ProjD.Frame
public import proofs.«01_k».proof.Proof.Gen.ProjDIdeal.Frame
public import proofs.«01_k».proof.Proof.Gen.ProjDReferenceIdeal.Run
public import proofs.«01_k».proof.Proof.Gen.ProjDReferenceIdeal.Read
public import proofs.«01_k».proof.Proof.Gen.ConvW.Frame
public import proofs.«01_k».proof.Proof.Gen.ConvWIdeal.Frame
public import proofs.«01_k».proof.Proof.Gen.ConvWReferenceIdeal.Run
public import proofs.«01_k».proof.Proof.Gen.ConvWReferenceIdeal.Read
public import proofs.«01_k».proof.Proof.Gen.ConvD.Frame
public import proofs.«01_k».proof.Proof.Gen.ConvDIdeal.Frame
public import proofs.«01_k».proof.Proof.Gen.ConvDReferenceIdeal.Run
public import proofs.«01_k».proof.Proof.Gen.ConvDReferenceIdeal.Read
public import proofs.«01_k».proof.Proof.Gen.Pw1.Frame
public import proofs.«01_k».proof.Proof.Gen.Pw1Ideal.Frame
public import proofs.«01_k».proof.Proof.Gen.Pw1ReferenceIdeal.Run
public import proofs.«01_k».proof.Proof.Gen.Pw1ReferenceIdeal.Read
public import proofs.«01_k».proof.Proof.Gen.FfnPost.Frame
public import proofs.«01_k».proof.Proof.Gen.FfnPostIdeal.Frame
public import proofs.«01_k».proof.Proof.Gen.FfnPostReferenceIdeal.Run
public import proofs.«01_k».proof.Proof.Gen.FfnPostReferenceIdeal.Read
public import proofs.«01_k».proof.Proof.Gen.LastPost.Frame
public import proofs.«01_k».proof.Proof.Gen.LastPostIdeal.Frame
public import proofs.«01_k».proof.Proof.Gen.LastPostReferenceIdeal.Run
public import proofs.«01_k».proof.Proof.Gen.LastPostReferenceIdeal.Read
public import proofs.«01_k».proof.Proof.Gen.GlaPost.Frame
public import proofs.«01_k».proof.Proof.Gen.GlaPostIdeal.Frame
public import proofs.«01_k».proof.Proof.Gen.GlaPostReferenceIdeal.Run
public import proofs.«01_k».proof.Proof.Gen.GlaPostReferenceIdeal.Read
public import proofs.«01_k».proof.Proof.Gen.ConvPost.Frame
public import proofs.«01_k».proof.Proof.Gen.ConvPostIdeal.Frame
public import proofs.«01_k».proof.Proof.Gen.ConvPostReferenceIdeal.Run
public import proofs.«01_k».proof.Proof.Gen.ConvPostReferenceIdeal.Read
public import proofs.«01_k».proof.Proof.Gen.GradX.Frame
public import proofs.«01_k».proof.Proof.Gen.GradXIdeal.Frame
public import proofs.«01_k».proof.Proof.Gen.GradXReferenceIdeal.Run
public import proofs.«01_k».proof.Proof.Gen.GradXReferenceIdeal.Read
public import proofs.«01_k».proof.Proof.Gen.PreNorm.Frame
public import proofs.«01_k».proof.Proof.Gen.PreNormIdeal.Frame
public import proofs.«01_k».proof.Proof.Gen.PreNormReferenceIdeal.Run
public import proofs.«01_k».proof.Proof.Gen.Pre_act_finite
public import proofs.«01_k».proof.Proof.Alg
public import proofs.«01_k».proof.Proof.Same
public import proofs.«01_k».proof.Proof.ActAlg
public import proofs.«01_k».proof.Proof.WoutVal
public import proofs.«01_k».proof.Proof.WinVal
public import proofs.«01_k».proof.Proof.DhVal
public import proofs.«01_k».proof.Proof.OutWVal
public import proofs.«01_k».proof.Proof.OutDVal
public import proofs.«01_k».proof.Proof.ProjVal
public import proofs.«01_k».proof.Proof.ProjWVal
public import proofs.«01_k».proof.Proof.ProjDVal
public import proofs.«01_k».proof.Proof.ConvWVal
public import proofs.«01_k».proof.Proof.ConvDVal
public import proofs.«01_k».proof.Proof.Pw1Val
public import proofs.«01_k».proof.Proof.FfnPostVal
public import proofs.«01_k».proof.Proof.LastPostVal
public import proofs.«01_k».proof.Proof.GlaPostVal
public import proofs.«01_k».proof.Proof.ConvPostVal
public import proofs.«01_k».proof.Proof.GradXVal
public import proofs.«01_k».proof.Proof.PreNormVal
public import Idealize.ShloMosaic.Adequacy
public import Idealize.ShloMosaic.Init

@[expose] public section

noncomputable section

namespace Cert.Proof

open Idealize.ShloMosaic Idealize.SL.Sem Cert.Kernel

/-- Every execution of the kernel ends, with its arguments unchanged and every semaphore counter at zero. -/
theorem frame_kernel : Cert.quiescent_Kernel := fun m ρ _ => by
  rw [Cert.Same.defs_eq]
  exact Cert.KernelIdeal.Two.frame (F := Bits) m ρ

/-- So does every execution of its idealization. -/
theorem frame_ideal : Cert.quiescent_KernelIdeal := fun m ρ _ => Cert.KernelIdeal.Two.frame (F := Ideal) m ρ

/-- And of the reference, which has no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The reference of the activation's two calls, which has no semaphore. -/
theorem frame_act_reference : Cert.quiescent_ActReferenceIdeal := fun m ρ _ =>
  (θ_run Cert.ActReferenceIdeal.defs _ _).mono (fun r h => ⟨fun c => (h c).2.2.2, sem_eq_zero_of_no_sems (by decide) r.2⟩)
    (Cert.ActReferenceIdeal.Value.run (F := Ideal) m ρ)

/-- The reference of the output weight's gradient, which has no semaphore. -/
theorem frame_wout_reference : Cert.quiescent_WoutReferenceIdeal := fun m ρ _ =>
  (θ_run Cert.WoutReferenceIdeal.defs _ _).mono (fun r h => ⟨fun c => (h c).2, sem_eq_zero_of_no_sems (by decide) r.2⟩)
    (Cert.WoutReferenceIdeal.Value.run (F := Ideal) m ρ)

/-- The reference of the input weight's gradient, which has no semaphore. -/
theorem frame_win_reference : Cert.quiescent_WinReferenceIdeal := fun m ρ _ =>
  (θ_run Cert.WinReferenceIdeal.defs _ _).mono (fun r h => ⟨fun c => (h c).2, sem_eq_zero_of_no_sems (by decide) r.2⟩)
    (Cert.WinReferenceIdeal.Value.run (F := Ideal) m ρ)

/-- The reference of the hidden state's gradient, which has no semaphore. -/
theorem frame_dh_reference : Cert.quiescent_DhReferenceIdeal := fun m ρ _ =>
  (θ_run Cert.DhReferenceIdeal.defs _ _).mono (fun r h => ⟨fun c => (h c).2, sem_eq_zero_of_no_sems (by decide) r.2⟩)
    (Cert.DhReferenceIdeal.Value.run (F := Ideal) m ρ)

/-- The reference of the gradient of a mixer's output weight, which has no semaphore. -/
theorem frame_out_w_reference : Cert.quiescent_OutWReferenceIdeal := fun m ρ _ =>
  (θ_run Cert.OutWReferenceIdeal.defs _ _).mono (fun r h => ⟨fun c => (h c).2, sem_eq_zero_of_no_sems (by decide) r.2⟩)
    (Cert.OutWReferenceIdeal.Value.run (F := Ideal) m ρ)

/-- The reference of the gradient of the input of a mixer's output product, which has no semaphore. -/
theorem frame_out_d_reference : Cert.quiescent_OutDReferenceIdeal := fun m ρ _ =>
  (θ_run Cert.OutDReferenceIdeal.defs _ _).mono (fun r h => ⟨fun c => (h c).2, sem_eq_zero_of_no_sems (by decide) r.2⟩)
    (Cert.OutDReferenceIdeal.Value.run (F := Ideal) m ρ)

/-- The reference of the recurrence's input product, which has no semaphore. -/
theorem frame_proj_reference : Cert.quiescent_ProjReferenceIdeal := fun m ρ _ =>
  (θ_run Cert.ProjReferenceIdeal.defs _ _).mono (fun r h => ⟨fun c => (h c).2, sem_eq_zero_of_no_sems (by decide) r.2⟩)
    (Cert.ProjReferenceIdeal.Value.run (F := Ideal) m ρ)

/-- The reference of the gradient of the recurrence's input weight, which has no semaphore. -/
theorem frame_proj_w_reference : Cert.quiescent_ProjWReferenceIdeal := fun m ρ _ =>
  (θ_run Cert.ProjWReferenceIdeal.defs _ _).mono (fun r h => ⟨fun c => (h c).2, sem_eq_zero_of_no_sems (by decide) r.2⟩)
    (Cert.ProjWReferenceIdeal.Value.run (F := Ideal) m ρ)

/-- The reference of the gradient of the recurrence's input, which has no semaphore. -/
theorem frame_proj_d_reference : Cert.quiescent_ProjDReferenceIdeal := fun m ρ _ =>
  (θ_run Cert.ProjDReferenceIdeal.defs _ _).mono (fun r h => ⟨fun c => (h c).2, sem_eq_zero_of_no_sems (by decide) r.2⟩)
    (Cert.ProjDReferenceIdeal.Value.run (F := Ideal) m ρ)

/-- The reference of the gradient of the convolution's input weight, which has no semaphore. -/
theorem frame_conv_w_reference : Cert.quiescent_ConvWReferenceIdeal := fun m ρ _ =>
  (θ_run Cert.ConvWReferenceIdeal.defs _ _).mono (fun r h => ⟨fun c => (h c).2, sem_eq_zero_of_no_sems (by decide) r.2⟩)
    (Cert.ConvWReferenceIdeal.Value.run (F := Ideal) m ρ)

/-- The reference of the gradient of the convolution's input, which has no semaphore. -/
theorem frame_conv_d_reference : Cert.quiescent_ConvDReferenceIdeal := fun m ρ _ =>
  (θ_run Cert.ConvDReferenceIdeal.defs _ _).mono (fun r h => ⟨fun c => (h c).2, sem_eq_zero_of_no_sems (by decide) r.2⟩)
    (Cert.ConvDReferenceIdeal.Value.run (F := Ideal) m ρ)

/-- The reference of the convolution's input product and its gate, which has no semaphore. -/
theorem frame_pw1_reference : Cert.quiescent_Pw1ReferenceIdeal := fun m ρ _ =>
  (θ_run Cert.Pw1ReferenceIdeal.defs _ _).mono (fun r h => ⟨fun c => (h c).2.2, sem_eq_zero_of_no_sems (by decide) r.2⟩)
    (Cert.Pw1ReferenceIdeal.Value.run (F := Ideal) m ρ)

/-- The reference of the feed-forward's second product with the norms after it, which has no semaphore. -/
theorem frame_ffn_post_reference : Cert.quiescent_FfnPostReferenceIdeal := fun m ρ _ =>
  (θ_run Cert.FfnPostReferenceIdeal.defs _ _).mono (fun r h => ⟨fun c => (h c).2.2.2, sem_eq_zero_of_no_sems (by decide) r.2⟩)
    (Cert.FfnPostReferenceIdeal.Value.run (F := Ideal) m ρ)

/-- The reference of the last layer's second product with the norm after it, which has no semaphore. -/
theorem frame_last_post_reference : Cert.quiescent_LastPostReferenceIdeal := fun m ρ _ =>
  (θ_run Cert.LastPostReferenceIdeal.defs _ _).mono (fun r h => ⟨fun c => (h c).2.2, sem_eq_zero_of_no_sems (by decide) r.2⟩)
    (Cert.LastPostReferenceIdeal.Value.run (F := Ideal) m ρ)

/-- The reference of a GLA layer's output product with the norms after it, which has no semaphore. -/
theorem frame_gla_post_reference : Cert.quiescent_GlaPostReferenceIdeal := fun m ρ _ =>
  (θ_run Cert.GlaPostReferenceIdeal.defs _ _).mono (fun r h => ⟨fun c => (h c).2.2.2, sem_eq_zero_of_no_sems (by decide) r.2⟩)
    (Cert.GlaPostReferenceIdeal.Value.run (F := Ideal) m ρ)

/-- The reference of a convolution layer's output product with the norms after it, which has no semaphore. -/
theorem frame_conv_post_reference : Cert.quiescent_ConvPostReferenceIdeal := fun m ρ _ =>
  (θ_run Cert.ConvPostReferenceIdeal.defs _ _).mono (fun r h => ⟨fun c => (h c).2.2.2, sem_eq_zero_of_no_sems (by decide) r.2⟩)
    (Cert.ConvPostReferenceIdeal.Value.run (F := Ideal) m ρ)

/-- The reference of the tokens' gradient, which has no semaphore. -/
theorem frame_grad_x_reference : Cert.quiescent_GradXReferenceIdeal := fun m ρ _ =>
  (θ_run Cert.GradXReferenceIdeal.defs _ _).mono (fun r h => ⟨fun c => (h c).2, sem_eq_zero_of_no_sems (by decide) r.2⟩)
    (Cert.GradXReferenceIdeal.Value.run (F := Ideal) m ρ)

/-- The reference of the norm before the first layer, which has no semaphore. -/
theorem frame_pre_norm_reference : Cert.quiescent_PreNormReferenceIdeal := fun m ρ _ =>
  (θ_run Cert.PreNormReferenceIdeal.defs _ _).mono (fun r h => ⟨fun c => (h c).2, sem_eq_zero_of_no_sems (by decide) r.2⟩)
    (Cert.PreNormReferenceIdeal.Value.run (F := Ideal) m ρ)

/-- The claims. -/
theorem claim : Cert.Claim := ⟨Cert.Kernel.Gen.facts, Cert.KernelIdeal.Gen.facts, Cert.ReferenceIdeal.Gen.facts, Cert.Act.Gen.facts, Cert.ActIdeal.Gen.facts, Cert.ActReferenceIdeal.Gen.facts,
  Cert.Wout.Gen.facts, Cert.WoutIdeal.Gen.facts, Cert.WoutReferenceIdeal.Gen.facts, Cert.Win.Gen.facts, Cert.WinIdeal.Gen.facts, Cert.WinReferenceIdeal.Gen.facts,
  Cert.Dh.Gen.facts, Cert.DhIdeal.Gen.facts, Cert.DhReferenceIdeal.Gen.facts,
  Cert.OutW.Gen.facts, Cert.OutWIdeal.Gen.facts, Cert.OutWReferenceIdeal.Gen.facts,
  Cert.OutD.Gen.facts, Cert.OutDIdeal.Gen.facts, Cert.OutDReferenceIdeal.Gen.facts,
  Cert.Proj.Gen.facts, Cert.ProjIdeal.Gen.facts, Cert.ProjReferenceIdeal.Gen.facts,
  Cert.ProjW.Gen.facts, Cert.ProjWIdeal.Gen.facts, Cert.ProjWReferenceIdeal.Gen.facts,
  Cert.ProjD.Gen.facts, Cert.ProjDIdeal.Gen.facts, Cert.ProjDReferenceIdeal.Gen.facts,
  Cert.ConvW.Gen.facts, Cert.ConvWIdeal.Gen.facts, Cert.ConvWReferenceIdeal.Gen.facts,
  Cert.ConvD.Gen.facts, Cert.ConvDIdeal.Gen.facts, Cert.ConvDReferenceIdeal.Gen.facts,
  Cert.Pw1.Gen.facts, Cert.Pw1Ideal.Gen.facts, Cert.Pw1ReferenceIdeal.Gen.facts,
  Cert.FfnPost.Gen.facts, Cert.FfnPostIdeal.Gen.facts, Cert.FfnPostReferenceIdeal.Gen.facts,
  Cert.LastPost.Gen.facts, Cert.LastPostIdeal.Gen.facts, Cert.LastPostReferenceIdeal.Gen.facts,
  Cert.GlaPost.Gen.facts, Cert.GlaPostIdeal.Gen.facts, Cert.GlaPostReferenceIdeal.Gen.facts,
  Cert.ConvPost.Gen.facts, Cert.ConvPostIdeal.Gen.facts, Cert.ConvPostReferenceIdeal.Gen.facts,
  Cert.GradX.Gen.facts, Cert.GradXIdeal.Gen.facts, Cert.GradXReferenceIdeal.Gen.facts,
  Cert.PreNorm.Gen.facts, Cert.PreNormIdeal.Gen.facts, Cert.PreNormReferenceIdeal.Gen.facts,
  Cert.Pre_finite.Gen.facts, Cert.Pre_act_finite.Gen.facts,
  frame_kernel, frame_ideal, fun m ρ _ => frame_ideal m ρ trivial, frame_reference, fun m ρ _ => frame_reference m ρ trivial,
  fun m ρ _ => Cert.Act.Gen.frame m ρ, fun m ρ _ => Cert.ActIdeal.Gen.frame m ρ, fun m ρ _ => Cert.ActIdeal.Gen.frame m ρ,
  frame_act_reference, fun m ρ _ => frame_act_reference m ρ trivial,
  fun m ρ _ => Cert.Wout.Gen.frame m ρ, fun m ρ _ => Cert.WoutIdeal.Gen.frame m ρ, frame_wout_reference,
  fun m ρ _ => Cert.Win.Gen.frame m ρ, fun m ρ _ => Cert.WinIdeal.Gen.frame m ρ, frame_win_reference,
  fun m ρ _ => Cert.Dh.Gen.frame m ρ, fun m ρ _ => Cert.DhIdeal.Gen.frame m ρ, frame_dh_reference,
  fun m ρ _ => Cert.OutW.Gen.frame m ρ, fun m ρ _ => Cert.OutWIdeal.Gen.frame m ρ, frame_out_w_reference,
  fun m ρ _ => Cert.OutD.Gen.frame m ρ, fun m ρ _ => Cert.OutDIdeal.Gen.frame m ρ, frame_out_d_reference,
  fun m ρ _ => Cert.Proj.Gen.frame m ρ, fun m ρ _ => Cert.ProjIdeal.Gen.frame m ρ, frame_proj_reference,
  fun m ρ _ => Cert.ProjW.Gen.frame m ρ, fun m ρ _ => Cert.ProjWIdeal.Gen.frame m ρ, frame_proj_w_reference,
  fun m ρ _ => Cert.ProjD.Gen.frame m ρ, fun m ρ _ => Cert.ProjDIdeal.Gen.frame m ρ, frame_proj_d_reference,
  fun m ρ _ => Cert.ConvW.Gen.frame m ρ, fun m ρ _ => Cert.ConvWIdeal.Gen.frame m ρ, frame_conv_w_reference,
  fun m ρ _ => Cert.ConvD.Gen.frame m ρ, fun m ρ _ => Cert.ConvDIdeal.Gen.frame m ρ, frame_conv_d_reference,
  fun m ρ _ => Cert.Pw1.Gen.frame m ρ, fun m ρ _ => Cert.Pw1Ideal.Gen.frame m ρ, frame_pw1_reference,
  fun m ρ _ => Cert.FfnPost.Gen.frame m ρ, fun m ρ _ => Cert.FfnPostIdeal.Gen.frame m ρ, frame_ffn_post_reference,
  fun m ρ _ => Cert.LastPost.Gen.frame m ρ, fun m ρ _ => Cert.LastPostIdeal.Gen.frame m ρ, frame_last_post_reference,
  fun m ρ _ => Cert.GlaPost.Gen.frame m ρ, fun m ρ _ => Cert.GlaPostIdeal.Gen.frame m ρ, frame_gla_post_reference,
  fun m ρ _ => Cert.ConvPost.Gen.frame m ρ, fun m ρ _ => Cert.ConvPostIdeal.Gen.frame m ρ, frame_conv_post_reference,
  fun m ρ _ => Cert.GradX.Gen.frame m ρ, fun m ρ _ => Cert.GradXIdeal.Gen.frame m ρ,
  frame_grad_x_reference,
  fun m ρ _ => Cert.PreNorm.Gen.frame m ρ, fun m ρ _ => Cert.PreNormIdeal.Gen.frame m ρ, frame_pre_norm_reference,
  trivial, Cert.KernelIdeal.Two.algebraic, trivial, Cert.ActIdeal.Gen.algebraic, trivial, Cert.WoutIdeal.Gen.algebraic,
  trivial, Cert.WinIdeal.Gen.algebraic, trivial, Cert.DhIdeal.Gen.algebraic,
  trivial, Cert.OutWIdeal.Gen.algebraic,
  trivial, Cert.OutDIdeal.Gen.algebraic,
  trivial, Cert.ProjIdeal.Gen.algebraic,
  trivial, Cert.ProjWIdeal.Gen.algebraic,
  trivial, Cert.ProjDIdeal.Gen.algebraic,
  trivial, Cert.ConvWIdeal.Gen.algebraic,
  trivial, Cert.ConvDIdeal.Gen.algebraic,
  trivial, Cert.Pw1Ideal.Gen.algebraic,
  trivial, Cert.FfnPostIdeal.Gen.algebraic,
  trivial, Cert.LastPostIdeal.Gen.algebraic,
  trivial, Cert.GlaPostIdeal.Gen.algebraic,
  trivial, Cert.ConvPostIdeal.Gen.algebraic,
  trivial, Cert.GradXIdeal.Gen.algebraic, trivial, Cert.PreNormIdeal.Gen.algebraic⟩

end Cert.Proof

end
